-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_DhB (m : (ℓ : Loc Cert.DhB.nD Cert.DhB.τ Cert.DhB.sig) → Buf (Elt Bits) ℓ) : Prop :=
  True

def Pre_DhBIdeal (m : (ℓ : Loc Cert.DhBIdeal.nD Cert.DhBIdeal.τ Cert.DhBIdeal.sig) → Buf (Elt Ideal) ℓ) : Prop :=
  True

def Pre_DhBRefIdeal (m : (ℓ : Loc Cert.DhBRefIdeal.nD Cert.DhBRefIdeal.τ Cert.DhBRefIdeal.sig) → Buf (Elt Ideal) ℓ) : Prop :=
  True

def Pre_DwInB (m : (ℓ : Loc Cert.DwInB.nD Cert.DwInB.τ Cert.DwInB.sig) → Buf (Elt Bits) ℓ) : Prop :=
  True

def Pre_DwInBIdeal (m : (ℓ : Loc Cert.DwInBIdeal.nD Cert.DwInBIdeal.τ Cert.DwInBIdeal.sig) → Buf (Elt Ideal) ℓ) : Prop :=
  True

def Pre_DwInBRefIdeal (m : (ℓ : Loc Cert.DwInBRefIdeal.nD Cert.DwInBRefIdeal.τ Cert.DwInBRefIdeal.sig) → Buf (Elt Ideal) ℓ) : Prop :=
  True

def Pre_DhA (m : (ℓ : Loc Cert.DhA.nD Cert.DhA.τ Cert.DhA.sig) → Buf (Elt Bits) ℓ) : Prop :=
  True

def Pre_DhAIdeal (m : (ℓ : Loc Cert.DhAIdeal.nD Cert.DhAIdeal.τ Cert.DhAIdeal.sig) → Buf (Elt Ideal) ℓ) : Prop :=
  True

def Pre_DhARefIdeal (m : (ℓ : Loc Cert.DhARefIdeal.nD Cert.DhARefIdeal.τ Cert.DhARefIdeal.sig) → Buf (Elt Ideal) ℓ) : Prop :=
  True

def Pre_DwInA (m : (ℓ : Loc Cert.DwInA.nD Cert.DwInA.τ Cert.DwInA.sig) → Buf (Elt Bits) ℓ) : Prop :=
  True

def Pre_DwInAIdeal (m : (ℓ : Loc Cert.DwInAIdeal.nD Cert.DwInAIdeal.τ Cert.DwInAIdeal.sig) → Buf (Elt Ideal) ℓ) : Prop :=
  True

def Pre_DwInARefIdeal (m : (ℓ : Loc Cert.DwInARefIdeal.nD Cert.DwInARefIdeal.τ Cert.DwInARefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Dybr (m : (ℓ : Loc Cert.Dybr.nD Cert.Dybr.τ Cert.Dybr.sig) → Buf (Elt Bits) ℓ) : Prop :=
  True

def Pre_DybrIdeal (m : (ℓ : Loc Cert.DybrIdeal.nD Cert.DybrIdeal.τ Cert.DybrIdeal.sig) → Buf (Elt Ideal) ℓ) : Prop :=
  True

def Pre_DybrRefIdeal (m : (ℓ : Loc Cert.DybrRefIdeal.nD Cert.DybrRefIdeal.τ Cert.DybrRefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamLate (m : (ℓ : Loc Cert.AdamLate.nD Cert.AdamLate.τ Cert.AdamLate.sig) → Buf (Elt Bits) ℓ) : Prop :=
  True

def Pre_AdamLateIdeal (m : (ℓ : Loc Cert.AdamLateIdeal.nD Cert.AdamLateIdeal.τ Cert.AdamLateIdeal.sig) → Buf (Elt Ideal) ℓ) : Prop :=
  True

def Pre_AdamLateRefIdeal (m : (ℓ : Loc Cert.AdamLateRefIdeal.nD Cert.AdamLateRefIdeal.τ Cert.AdamLateRefIdeal.sig) → Buf (Elt Ideal) ℓ) : Prop :=
  True

def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdIdeal_finite_prenorm_bwd [hPre_finite_prenorm_bwd : Cert.Pre_finite_prenorm_bwd.Facts] (m : (ℓ : Loc Cert.PreBwdIdeal.nD Cert.PreBwdIdeal.τ Cert.PreBwdIdeal.sig) → Buf (Elt Ideal) ℓ) : Prop :=
  ∀ c : Dev Cert.PreBwdIdeal.nD,
    (Cert.Pre_finite_prenorm_bwd.fn (F := Ideal) (m ((c.tc : Thread Cert.PreBwdIdeal.nD Cert.PreBwdIdeal.τ).loc Cert.PreBwdIdeal.main_arg0)) (m ((c.tc : Thread Cert.PreBwdIdeal.nD Cert.PreBwdIdeal.τ).loc Cert.PreBwdIdeal.main_arg1)) (m ((c.tc : Thread Cert.PreBwdIdeal.nD Cert.PreBwdIdeal.τ).loc Cert.PreBwdIdeal.main_arg2)) (m ((c.tc : Thread Cert.PreBwdIdeal.nD Cert.PreBwdIdeal.τ).loc Cert.PreBwdIdeal.main_arg3)) (m ((c.tc : Thread Cert.PreBwdIdeal.nD Cert.PreBwdIdeal.τ).loc Cert.PreBwdIdeal.main_arg4))).1 = (fun _ => 1#1)
    ∧ (Cert.Pre_finite_prenorm_bwd.fn (F := Ideal) (m ((c.tc : Thread Cert.PreBwdIdeal.nD Cert.PreBwdIdeal.τ).loc Cert.PreBwdIdeal.main_arg0)) (m ((c.tc : Thread Cert.PreBwdIdeal.nD Cert.PreBwdIdeal.τ).loc Cert.PreBwdIdeal.main_arg1)) (m ((c.tc : Thread Cert.PreBwdIdeal.nD Cert.PreBwdIdeal.τ).loc Cert.PreBwdIdeal.main_arg2)) (m ((c.tc : Thread Cert.PreBwdIdeal.nD Cert.PreBwdIdeal.τ).loc Cert.PreBwdIdeal.main_arg3)) (m ((c.tc : Thread Cert.PreBwdIdeal.nD Cert.PreBwdIdeal.τ).loc Cert.PreBwdIdeal.main_arg4))).2.1 = (fun _ => 1#1)
    ∧ (Cert.Pre_finite_prenorm_bwd.fn (F := Ideal) (m ((c.tc : Thread Cert.PreBwdIdeal.nD Cert.PreBwdIdeal.τ).loc Cert.PreBwdIdeal.main_arg0)) (m ((c.tc : Thread Cert.PreBwdIdeal.nD Cert.PreBwdIdeal.τ).loc Cert.PreBwdIdeal.main_arg1)) (m ((c.tc : Thread Cert.PreBwdIdeal.nD Cert.PreBwdIdeal.τ).loc Cert.PreBwdIdeal.main_arg2)) (m ((c.tc : Thread Cert.PreBwdIdeal.nD Cert.PreBwdIdeal.τ).loc Cert.PreBwdIdeal.main_arg3)) (m ((c.tc : Thread Cert.PreBwdIdeal.nD Cert.PreBwdIdeal.τ).loc Cert.PreBwdIdeal.main_arg4))).2.2.1 = (fun _ => 1#1)
    ∧ (Cert.Pre_finite_prenorm_bwd.fn (F := Ideal) (m ((c.tc : Thread Cert.PreBwdIdeal.nD Cert.PreBwdIdeal.τ).loc Cert.PreBwdIdeal.main_arg0)) (m ((c.tc : Thread Cert.PreBwdIdeal.nD Cert.PreBwdIdeal.τ).loc Cert.PreBwdIdeal.main_arg1)) (m ((c.tc : Thread Cert.PreBwdIdeal.nD Cert.PreBwdIdeal.τ).loc Cert.PreBwdIdeal.main_arg2)) (m ((c.tc : Thread Cert.PreBwdIdeal.nD Cert.PreBwdIdeal.τ).loc Cert.PreBwdIdeal.main_arg3)) (m ((c.tc : Thread Cert.PreBwdIdeal.nD Cert.PreBwdIdeal.τ).loc Cert.PreBwdIdeal.main_arg4))).2.2.2 = (fun _ => 1#1)

def Pre_PreBwdRefIdeal (m : (ℓ : Loc Cert.PreBwdRefIdeal.nD Cert.PreBwdRefIdeal.τ Cert.PreBwdRefIdeal.sig) → Buf (Elt Ideal) ℓ) : Prop :=
  True

def Pre_PreBwdRefIdeal_finite_prenorm_bwd [hPre_finite_prenorm_bwd : Cert.Pre_finite_prenorm_bwd.Facts] (m : (ℓ : Loc Cert.PreBwdRefIdeal.nD Cert.PreBwdRefIdeal.τ Cert.PreBwdRefIdeal.sig) → Buf (Elt Ideal) ℓ) : Prop :=
  ∀ c : Dev Cert.PreBwdRefIdeal.nD,
    (Cert.Pre_finite_prenorm_bwd.fn (F := Ideal) (m ((c.tc : Thread Cert.PreBwdRefIdeal.nD Cert.PreBwdRefIdeal.τ).loc Cert.PreBwdRefIdeal.main_arg0)) (m ((c.tc : Thread Cert.PreBwdRefIdeal.nD Cert.PreBwdRefIdeal.τ).loc Cert.PreBwdRefIdeal.main_arg1)) (m ((c.tc : Thread Cert.PreBwdRefIdeal.nD Cert.PreBwdRefIdeal.τ).loc Cert.PreBwdRefIdeal.main_arg2)) (m ((c.tc : Thread Cert.PreBwdRefIdeal.nD Cert.PreBwdRefIdeal.τ).loc Cert.PreBwdRefIdeal.main_arg3)) (m ((c.tc : Thread Cert.PreBwdRefIdeal.nD Cert.PreBwdRefIdeal.τ).loc Cert.PreBwdRefIdeal.main_arg4))).1 = (fun _ => 1#1)
    ∧ (Cert.Pre_finite_prenorm_bwd.fn (F := Ideal) (m ((c.tc : Thread Cert.PreBwdRefIdeal.nD Cert.PreBwdRefIdeal.τ).loc Cert.PreBwdRefIdeal.main_arg0)) (m ((c.tc : Thread Cert.PreBwdRefIdeal.nD Cert.PreBwdRefIdeal.τ).loc Cert.PreBwdRefIdeal.main_arg1)) (m ((c.tc : Thread Cert.PreBwdRefIdeal.nD Cert.PreBwdRefIdeal.τ).loc Cert.PreBwdRefIdeal.main_arg2)) (m ((c.tc : Thread Cert.PreBwdRefIdeal.nD Cert.PreBwdRefIdeal.τ).loc Cert.PreBwdRefIdeal.main_arg3)) (m ((c.tc : Thread Cert.PreBwdRefIdeal.nD Cert.PreBwdRefIdeal.τ).loc Cert.PreBwdRefIdeal.main_arg4))).2.1 = (fun _ => 1#1)
    ∧ (Cert.Pre_finite_prenorm_bwd.fn (F := Ideal) (m ((c.tc : Thread Cert.PreBwdRefIdeal.nD Cert.PreBwdRefIdeal.τ).loc Cert.PreBwdRefIdeal.main_arg0)) (m ((c.tc : Thread Cert.PreBwdRefIdeal.nD Cert.PreBwdRefIdeal.τ).loc Cert.PreBwdRefIdeal.main_arg1)) (m ((c.tc : Thread Cert.PreBwdRefIdeal.nD Cert.PreBwdRefIdeal.τ).loc Cert.PreBwdRefIdeal.main_arg2)) (m ((c.tc : Thread Cert.PreBwdRefIdeal.nD Cert.PreBwdRefIdeal.τ).loc Cert.PreBwdRefIdeal.main_arg3)) (m ((c.tc : Thread Cert.PreBwdRefIdeal.nD Cert.PreBwdRefIdeal.τ).loc Cert.PreBwdRefIdeal.main_arg4))).2.2.1 = (fun _ => 1#1)
    ∧ (Cert.Pre_finite_prenorm_bwd.fn (F := Ideal) (m ((c.tc : Thread Cert.PreBwdRefIdeal.nD Cert.PreBwdRefIdeal.τ).loc Cert.PreBwdRefIdeal.main_arg0)) (m ((c.tc : Thread Cert.PreBwdRefIdeal.nD Cert.PreBwdRefIdeal.τ).loc Cert.PreBwdRefIdeal.main_arg1)) (m ((c.tc : Thread Cert.PreBwdRefIdeal.nD Cert.PreBwdRefIdeal.τ).loc Cert.PreBwdRefIdeal.main_arg2)) (m ((c.tc : Thread Cert.PreBwdRefIdeal.nD Cert.PreBwdRefIdeal.τ).loc Cert.PreBwdRefIdeal.main_arg3)) (m ((c.tc : Thread Cert.PreBwdRefIdeal.nD Cert.PreBwdRefIdeal.τ).loc Cert.PreBwdRefIdeal.main_arg4))).2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.2 = (fun _ => 1#1)

def Pre_AdamEarly (m : (ℓ : Loc Cert.AdamEarly.nD Cert.AdamEarly.τ Cert.AdamEarly.sig) → Buf (Elt Bits) ℓ) : Prop :=
  True

def Pre_AdamEarlyIdeal (m : (ℓ : Loc Cert.AdamEarlyIdeal.nD Cert.AdamEarlyIdeal.τ Cert.AdamEarlyIdeal.sig) → Buf (Elt Ideal) ℓ) : Prop :=
  True

def Pre_AdamEarlyRefIdeal (m : (ℓ : Loc Cert.AdamEarlyRefIdeal.nD Cert.AdamEarlyRefIdeal.τ Cert.AdamEarlyRefIdeal.sig) → Buf (Elt Ideal) ℓ) : Prop :=
  True

def Pre_AdamWaOut [hPre_indices_in_range : Cert.Pre_indices_in_range.Facts] (m : (ℓ : Loc Cert.AdamWaOut.nD Cert.AdamWaOut.τ Cert.AdamWaOut.sig) → Buf (Elt Bits) ℓ) : Prop :=
  ∀ c : Dev Cert.AdamWaOut.nD,
    (Cert.Pre_indices_in_range.fn (F := Bits) (m ((c.tc : Thread Cert.AdamWaOut.nD Cert.AdamWaOut.τ).loc Cert.AdamWaOut.main_arg0)) (m ((c.tc : Thread Cert.AdamWaOut.nD Cert.AdamWaOut.τ).loc Cert.AdamWaOut.main_arg1)) (m ((c.tc : Thread Cert.AdamWaOut.nD Cert.AdamWaOut.τ).loc Cert.AdamWaOut.main_arg2)) (m ((c.tc : Thread Cert.AdamWaOut.nD Cert.AdamWaOut.τ).loc Cert.AdamWaOut.main_arg3)) (m ((c.tc : Thread Cert.AdamWaOut.nD Cert.AdamWaOut.τ).loc Cert.AdamWaOut.main_arg4)) (m ((c.tc : Thread Cert.AdamWaOut.nD Cert.AdamWaOut.τ).loc Cert.AdamWaOut.main_arg5)) (m ((c.tc : Thread Cert.AdamWaOut.nD Cert.AdamWaOut.τ).loc Cert.AdamWaOut.main_arg6))).1 = (fun _ => 1#1)
    ∧ (Cert.Pre_indices_in_range.fn (F := Bits) (m ((c.tc : Thread Cert.AdamWaOut.nD Cert.AdamWaOut.τ).loc Cert.AdamWaOut.main_arg0)) (m ((c.tc : Thread Cert.AdamWaOut.nD Cert.AdamWaOut.τ).loc Cert.AdamWaOut.main_arg1)) (m ((c.tc : Thread Cert.AdamWaOut.nD Cert.AdamWaOut.τ).loc Cert.AdamWaOut.main_arg2)) (m ((c.tc : Thread Cert.AdamWaOut.nD Cert.AdamWaOut.τ).loc Cert.AdamWaOut.main_arg3)) (m ((c.tc : Thread Cert.AdamWaOut.nD Cert.AdamWaOut.τ).loc Cert.AdamWaOut.main_arg4)) (m ((c.tc : Thread Cert.AdamWaOut.nD Cert.AdamWaOut.τ).loc Cert.AdamWaOut.main_arg5)) (m ((c.tc : Thread Cert.AdamWaOut.nD Cert.AdamWaOut.τ).loc Cert.AdamWaOut.main_arg6))).2.1 = (fun _ => 1#1)
    ∧ (Cert.Pre_indices_in_range.fn (F := Bits) (m ((c.tc : Thread Cert.AdamWaOut.nD Cert.AdamWaOut.τ).loc Cert.AdamWaOut.main_arg0)) (m ((c.tc : Thread Cert.AdamWaOut.nD Cert.AdamWaOut.τ).loc Cert.AdamWaOut.main_arg1)) (m ((c.tc : Thread Cert.AdamWaOut.nD Cert.AdamWaOut.τ).loc Cert.AdamWaOut.main_arg2)) (m ((c.tc : Thread Cert.AdamWaOut.nD Cert.AdamWaOut.τ).loc Cert.AdamWaOut.main_arg3)) (m ((c.tc : Thread Cert.AdamWaOut.nD Cert.AdamWaOut.τ).loc Cert.AdamWaOut.main_arg4)) (m ((c.tc : Thread Cert.AdamWaOut.nD Cert.AdamWaOut.τ).loc Cert.AdamWaOut.main_arg5)) (m ((c.tc : Thread Cert.AdamWaOut.nD Cert.AdamWaOut.τ).loc Cert.AdamWaOut.main_arg6))).2.2.1 = (fun _ => 1#1)
    ∧ (Cert.Pre_indices_in_range.fn (F := Bits) (m ((c.tc : Thread Cert.AdamWaOut.nD Cert.AdamWaOut.τ).loc Cert.AdamWaOut.main_arg0)) (m ((c.tc : Thread Cert.AdamWaOut.nD Cert.AdamWaOut.τ).loc Cert.AdamWaOut.main_arg1)) (m ((c.tc : Thread Cert.AdamWaOut.nD Cert.AdamWaOut.τ).loc Cert.AdamWaOut.main_arg2)) (m ((c.tc : Thread Cert.AdamWaOut.nD Cert.AdamWaOut.τ).loc Cert.AdamWaOut.main_arg3)) (m ((c.tc : Thread Cert.AdamWaOut.nD Cert.AdamWaOut.τ).loc Cert.AdamWaOut.main_arg4)) (m ((c.tc : Thread Cert.AdamWaOut.nD Cert.AdamWaOut.τ).loc Cert.AdamWaOut.main_arg5)) (m ((c.tc : Thread Cert.AdamWaOut.nD Cert.AdamWaOut.τ).loc Cert.AdamWaOut.main_arg6))).2.2.2 = (fun _ => 1#1)

def Pre_AdamWaOutIdeal [hPre_indices_in_range : Cert.Pre_indices_in_range.Facts] (m : (ℓ : Loc Cert.AdamWaOutIdeal.nD Cert.AdamWaOutIdeal.τ Cert.AdamWaOutIdeal.sig) → Buf (Elt Ideal) ℓ) : Prop :=
  ∀ c : Dev Cert.AdamWaOutIdeal.nD,
    (Cert.Pre_indices_in_range.fn (F := Ideal) (m ((c.tc : Thread Cert.AdamWaOutIdeal.nD Cert.AdamWaOutIdeal.τ).loc Cert.AdamWaOutIdeal.main_arg0)) (m ((c.tc : Thread Cert.AdamWaOutIdeal.nD Cert.AdamWaOutIdeal.τ).loc Cert.AdamWaOutIdeal.main_arg1)) (m ((c.tc : Thread Cert.AdamWaOutIdeal.nD Cert.AdamWaOutIdeal.τ).loc Cert.AdamWaOutIdeal.main_arg2)) (m ((c.tc : Thread Cert.AdamWaOutIdeal.nD Cert.AdamWaOutIdeal.τ).loc Cert.AdamWaOutIdeal.main_arg3)) (m ((c.tc : Thread Cert.AdamWaOutIdeal.nD Cert.AdamWaOutIdeal.τ).loc Cert.AdamWaOutIdeal.main_arg4)) (m ((c.tc : Thread Cert.AdamWaOutIdeal.nD Cert.AdamWaOutIdeal.τ).loc Cert.AdamWaOutIdeal.main_arg5)) (m ((c.tc : Thread Cert.AdamWaOutIdeal.nD Cert.AdamWaOutIdeal.τ).loc Cert.AdamWaOutIdeal.main_arg6))).1 = (fun _ => 1#1)
    ∧ (Cert.Pre_indices_in_range.fn (F := Ideal) (m ((c.tc : Thread Cert.AdamWaOutIdeal.nD Cert.AdamWaOutIdeal.τ).loc Cert.AdamWaOutIdeal.main_arg0)) (m ((c.tc : Thread Cert.AdamWaOutIdeal.nD Cert.AdamWaOutIdeal.τ).loc Cert.AdamWaOutIdeal.main_arg1)) (m ((c.tc : Thread Cert.AdamWaOutIdeal.nD Cert.AdamWaOutIdeal.τ).loc Cert.AdamWaOutIdeal.main_arg2)) (m ((c.tc : Thread Cert.AdamWaOutIdeal.nD Cert.AdamWaOutIdeal.τ).loc Cert.AdamWaOutIdeal.main_arg3)) (m ((c.tc : Thread Cert.AdamWaOutIdeal.nD Cert.AdamWaOutIdeal.τ).loc Cert.AdamWaOutIdeal.main_arg4)) (m ((c.tc : Thread Cert.AdamWaOutIdeal.nD Cert.AdamWaOutIdeal.τ).loc Cert.AdamWaOutIdeal.main_arg5)) (m ((c.tc : Thread Cert.AdamWaOutIdeal.nD Cert.AdamWaOutIdeal.τ).loc Cert.AdamWaOutIdeal.main_arg6))).2.1 = (fun _ => 1#1)
    ∧ (Cert.Pre_indices_in_range.fn (F := Ideal) (m ((c.tc : Thread Cert.AdamWaOutIdeal.nD Cert.AdamWaOutIdeal.τ).loc Cert.AdamWaOutIdeal.main_arg0)) (m ((c.tc : Thread Cert.AdamWaOutIdeal.nD Cert.AdamWaOutIdeal.τ).loc Cert.AdamWaOutIdeal.main_arg1)) (m ((c.tc : Thread Cert.AdamWaOutIdeal.nD Cert.AdamWaOutIdeal.τ).loc Cert.AdamWaOutIdeal.main_arg2)) (m ((c.tc : Thread Cert.AdamWaOutIdeal.nD Cert.AdamWaOutIdeal.τ).loc Cert.AdamWaOutIdeal.main_arg3)) (m ((c.tc : Thread Cert.AdamWaOutIdeal.nD Cert.AdamWaOutIdeal.τ).loc Cert.AdamWaOutIdeal.main_arg4)) (m ((c.tc : Thread Cert.AdamWaOutIdeal.nD Cert.AdamWaOutIdeal.τ).loc Cert.AdamWaOutIdeal.main_arg5)) (m ((c.tc : Thread Cert.AdamWaOutIdeal.nD Cert.AdamWaOutIdeal.τ).loc Cert.AdamWaOutIdeal.main_arg6))).2.2.1 = (fun _ => 1#1)
    ∧ (Cert.Pre_indices_in_range.fn (F := Ideal) (m ((c.tc : Thread Cert.AdamWaOutIdeal.nD Cert.AdamWaOutIdeal.τ).loc Cert.AdamWaOutIdeal.main_arg0)) (m ((c.tc : Thread Cert.AdamWaOutIdeal.nD Cert.AdamWaOutIdeal.τ).loc Cert.AdamWaOutIdeal.main_arg1)) (m ((c.tc : Thread Cert.AdamWaOutIdeal.nD Cert.AdamWaOutIdeal.τ).loc Cert.AdamWaOutIdeal.main_arg2)) (m ((c.tc : Thread Cert.AdamWaOutIdeal.nD Cert.AdamWaOutIdeal.τ).loc Cert.AdamWaOutIdeal.main_arg3)) (m ((c.tc : Thread Cert.AdamWaOutIdeal.nD Cert.AdamWaOutIdeal.τ).loc Cert.AdamWaOutIdeal.main_arg4)) (m ((c.tc : Thread Cert.AdamWaOutIdeal.nD Cert.AdamWaOutIdeal.τ).loc Cert.AdamWaOutIdeal.main_arg5)) (m ((c.tc : Thread Cert.AdamWaOutIdeal.nD Cert.AdamWaOutIdeal.τ).loc Cert.AdamWaOutIdeal.main_arg6))).2.2.2 = (fun _ => 1#1)

def Pre_AdamWaOutRefIdeal (m : (ℓ : Loc Cert.AdamWaOutRefIdeal.nD Cert.AdamWaOutRefIdeal.τ Cert.AdamWaOutRefIdeal.sig) → Buf (Elt Ideal) ℓ) : Prop :=
  True

def Pre_AdamWaOutRefIdeal_indices_in_range [hPre_indices_in_range : Cert.Pre_indices_in_range.Facts] (m : (ℓ : Loc Cert.AdamWaOutRefIdeal.nD Cert.AdamWaOutRefIdeal.τ Cert.AdamWaOutRefIdeal.sig) → Buf (Elt Ideal) ℓ) : Prop :=
  ∀ c : Dev Cert.AdamWaOutRefIdeal.nD,
    (Cert.Pre_indices_in_range.fn (F := Ideal) (m ((c.tc : Thread Cert.AdamWaOutRefIdeal.nD Cert.AdamWaOutRefIdeal.τ).loc Cert.AdamWaOutRefIdeal.main_arg0)) (m ((c.tc : Thread Cert.AdamWaOutRefIdeal.nD Cert.AdamWaOutRefIdeal.τ).loc Cert.AdamWaOutRefIdeal.main_arg1)) (m ((c.tc : Thread Cert.AdamWaOutRefIdeal.nD Cert.AdamWaOutRefIdeal.τ).loc Cert.AdamWaOutRefIdeal.main_arg2)) (m ((c.tc : Thread Cert.AdamWaOutRefIdeal.nD Cert.AdamWaOutRefIdeal.τ).loc Cert.AdamWaOutRefIdeal.main_arg3)) (m ((c.tc : Thread Cert.AdamWaOutRefIdeal.nD Cert.AdamWaOutRefIdeal.τ).loc Cert.AdamWaOutRefIdeal.main_arg4)) (m ((c.tc : Thread Cert.AdamWaOutRefIdeal.nD Cert.AdamWaOutRefIdeal.τ).loc Cert.AdamWaOutRefIdeal.main_arg5)) (m ((c.tc : Thread Cert.AdamWaOutRefIdeal.nD Cert.AdamWaOutRefIdeal.τ).loc Cert.AdamWaOutRefIdeal.main_arg6))).1 = (fun _ => 1#1)
    ∧ (Cert.Pre_indices_in_range.fn (F := Ideal) (m ((c.tc : Thread Cert.AdamWaOutRefIdeal.nD Cert.AdamWaOutRefIdeal.τ).loc Cert.AdamWaOutRefIdeal.main_arg0)) (m ((c.tc : Thread Cert.AdamWaOutRefIdeal.nD Cert.AdamWaOutRefIdeal.τ).loc Cert.AdamWaOutRefIdeal.main_arg1)) (m ((c.tc : Thread Cert.AdamWaOutRefIdeal.nD Cert.AdamWaOutRefIdeal.τ).loc Cert.AdamWaOutRefIdeal.main_arg2)) (m ((c.tc : Thread Cert.AdamWaOutRefIdeal.nD Cert.AdamWaOutRefIdeal.τ).loc Cert.AdamWaOutRefIdeal.main_arg3)) (m ((c.tc : Thread Cert.AdamWaOutRefIdeal.nD Cert.AdamWaOutRefIdeal.τ).loc Cert.AdamWaOutRefIdeal.main_arg4)) (m ((c.tc : Thread Cert.AdamWaOutRefIdeal.nD Cert.AdamWaOutRefIdeal.τ).loc Cert.AdamWaOutRefIdeal.main_arg5)) (m ((c.tc : Thread Cert.AdamWaOutRefIdeal.nD Cert.AdamWaOutRefIdeal.τ).loc Cert.AdamWaOutRefIdeal.main_arg6))).2.1 = (fun _ => 1#1)
    ∧ (Cert.Pre_indices_in_range.fn (F := Ideal) (m ((c.tc : Thread Cert.AdamWaOutRefIdeal.nD Cert.AdamWaOutRefIdeal.τ).loc Cert.AdamWaOutRefIdeal.main_arg0)) (m ((c.tc : Thread Cert.AdamWaOutRefIdeal.nD Cert.AdamWaOutRefIdeal.τ).loc Cert.AdamWaOutRefIdeal.main_arg1)) (m ((c.tc : Thread Cert.AdamWaOutRefIdeal.nD Cert.AdamWaOutRefIdeal.τ).loc Cert.AdamWaOutRefIdeal.main_arg2)) (m ((c.tc : Thread Cert.AdamWaOutRefIdeal.nD Cert.AdamWaOutRefIdeal.τ).loc Cert.AdamWaOutRefIdeal.main_arg3)) (m ((c.tc : Thread Cert.AdamWaOutRefIdeal.nD Cert.AdamWaOutRefIdeal.τ).loc Cert.AdamWaOutRefIdeal.main_arg4)) (m ((c.tc : Thread Cert.AdamWaOutRefIdeal.nD Cert.AdamWaOutRefIdeal.τ).loc Cert.AdamWaOutRefIdeal.main_arg5)) (m ((c.tc : Thread Cert.AdamWaOutRefIdeal.nD Cert.AdamWaOutRefIdeal.τ).loc Cert.AdamWaOutRefIdeal.main_arg6))).2.2.1 = (fun _ => 1#1)
    ∧ (Cert.Pre_indices_in_range.fn (F := Ideal) (m ((c.tc : Thread Cert.AdamWaOutRefIdeal.nD Cert.AdamWaOutRefIdeal.τ).loc Cert.AdamWaOutRefIdeal.main_arg0)) (m ((c.tc : Thread Cert.AdamWaOutRefIdeal.nD Cert.AdamWaOutRefIdeal.τ).loc Cert.AdamWaOutRefIdeal.main_arg1)) (m ((c.tc : Thread Cert.AdamWaOutRefIdeal.nD Cert.AdamWaOutRefIdeal.τ).loc Cert.AdamWaOutRefIdeal.main_arg2)) (m ((c.tc : Thread Cert.AdamWaOutRefIdeal.nD Cert.AdamWaOutRefIdeal.τ).loc Cert.AdamWaOutRefIdeal.main_arg3)) (m ((c.tc : Thread Cert.AdamWaOutRefIdeal.nD Cert.AdamWaOutRefIdeal.τ).loc Cert.AdamWaOutRefIdeal.main_arg4)) (m ((c.tc : Thread Cert.AdamWaOutRefIdeal.nD Cert.AdamWaOutRefIdeal.τ).loc Cert.AdamWaOutRefIdeal.main_arg5)) (m ((c.tc : Thread Cert.AdamWaOutRefIdeal.nD Cert.AdamWaOutRefIdeal.τ).loc Cert.AdamWaOutRefIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DhB [hDhB : Cert.DhB.Facts] : Prop :=
  ∀ (m : (ℓ : Loc Cert.DhB.nD Cert.DhB.τ Cert.DhB.sig) → Buf (Elt Bits) ℓ) (g : Dev Cert.DhB.nD → PrngReg), Pre_DhB m →
    θ_run (Cert.DhB.defs (F := Bits)) (onTc (τ := Cert.DhB.τ) (Cert.DhB.main (F := Bits))) ⟨m, fun _ => 0, g⟩ (fun r => (∀ c : Dev Cert.DhB.nD,
      r.2.mem ((c.tc : Thread Cert.DhB.nD Cert.DhB.τ).loc Cert.DhB.main_arg0) = m ((c.tc : Thread Cert.DhB.nD Cert.DhB.τ).loc Cert.DhB.main_arg0)
      ∧ r.2.mem ((c.tc : Thread Cert.DhB.nD Cert.DhB.τ).loc Cert.DhB.main_arg1) = m ((c.tc : Thread Cert.DhB.nD Cert.DhB.τ).loc Cert.DhB.main_arg1)
      ∧ r.2.mem ((c.tc : Thread Cert.DhB.nD Cert.DhB.τ).loc Cert.DhB.main_arg2) = m ((c.tc : Thread Cert.DhB.nD Cert.DhB.τ).loc Cert.DhB.main_arg2))
      ∧ r.2.sem = fun _ => 0)

def quiescent_DhBIdeal [hDhBIdeal : Cert.DhBIdeal.Facts] : Prop :=
  ∀ (m : (ℓ : Loc Cert.DhBIdeal.nD Cert.DhBIdeal.τ Cert.DhBIdeal.sig) → Buf (Elt Ideal) ℓ) (g : Dev Cert.DhBIdeal.nD → PrngReg), Pre_DhBIdeal m →
    θ_run (Cert.DhBIdeal.defs (F := Ideal)) (onTc (τ := Cert.DhBIdeal.τ) (Cert.DhBIdeal.main (F := Ideal))) ⟨m, fun _ => 0, g⟩ (fun r => (∀ c : Dev Cert.DhBIdeal.nD,
      r.2.mem ((c.tc : Thread Cert.DhBIdeal.nD Cert.DhBIdeal.τ).loc Cert.DhBIdeal.main_arg0) = m ((c.tc : Thread Cert.DhBIdeal.nD Cert.DhBIdeal.τ).loc Cert.DhBIdeal.main_arg0)
      ∧ r.2.mem ((c.tc : Thread Cert.DhBIdeal.nD Cert.DhBIdeal.τ).loc Cert.DhBIdeal.main_arg1) = m ((c.tc : Thread Cert.DhBIdeal.nD Cert.DhBIdeal.τ).loc Cert.DhBIdeal.main_arg1)
      ∧ r.2.mem ((c.tc : Thread Cert.DhBIdeal.nD Cert.DhBIdeal.τ).loc Cert.DhBIdeal.main_arg2) = m ((c.tc : Thread Cert.DhBIdeal.nD Cert.DhBIdeal.τ).loc Cert.DhBIdeal.main_arg2))
      ∧ r.2.sem = fun _ => 0)

def quiescent_DhBRefIdeal [hDhBRefIdeal : Cert.DhBRefIdeal.Facts] : Prop :=
  ∀ (m : (ℓ : Loc Cert.DhBRefIdeal.nD Cert.DhBRefIdeal.τ Cert.DhBRefIdeal.sig) → Buf (Elt Ideal) ℓ) (g : Dev Cert.DhBRefIdeal.nD → PrngReg), Pre_DhBRefIdeal m →
    θ_run (Cert.DhBRefIdeal.defs (F := Ideal)) (onTc (τ := Cert.DhBRefIdeal.τ) (Cert.DhBRefIdeal.main (F := Ideal))) ⟨m, fun _ => 0, g⟩ (fun r => (∀ c : Dev Cert.DhBRefIdeal.nD,
      r.2.mem ((c.tc : Thread Cert.DhBRefIdeal.nD Cert.DhBRefIdeal.τ).loc Cert.DhBRefIdeal.main_arg0) = m ((c.tc : Thread Cert.DhBRefIdeal.nD Cert.DhBRefIdeal.τ).loc Cert.DhBRefIdeal.main_arg0)
      ∧ r.2.mem ((c.tc : Thread Cert.DhBRefIdeal.nD Cert.DhBRefIdeal.τ).loc Cert.DhBRefIdeal.main_arg1) = m ((c.tc : Thread Cert.DhBRefIdeal.nD Cert.DhBRefIdeal.τ).loc Cert.DhBRefIdeal.main_arg1)
      ∧ r.2.mem ((c.tc : Thread Cert.DhBRefIdeal.nD Cert.DhBRefIdeal.τ).loc Cert.DhBRefIdeal.main_arg2) = m ((c.tc : Thread Cert.DhBRefIdeal.nD Cert.DhBRefIdeal.τ).loc Cert.DhBRefIdeal.main_arg2))
      ∧ r.2.sem = fun _ => 0)

def quiescent_DwInB [hDwInB : Cert.DwInB.Facts] : Prop :=
  ∀ (m : (ℓ : Loc Cert.DwInB.nD Cert.DwInB.τ Cert.DwInB.sig) → Buf (Elt Bits) ℓ) (g : Dev Cert.DwInB.nD → PrngReg), Pre_DwInB m →
    θ_run (Cert.DwInB.defs (F := Bits)) (onTc (τ := Cert.DwInB.τ) (Cert.DwInB.main (F := Bits))) ⟨m, fun _ => 0, g⟩ (fun r => (∀ c : Dev Cert.DwInB.nD,
      r.2.mem ((c.tc : Thread Cert.DwInB.nD Cert.DwInB.τ).loc Cert.DwInB.main_arg0) = m ((c.tc : Thread Cert.DwInB.nD Cert.DwInB.τ).loc Cert.DwInB.main_arg0)
      ∧ r.2.mem ((c.tc : Thread Cert.DwInB.nD Cert.DwInB.τ).loc Cert.DwInB.main_arg1) = m ((c.tc : Thread Cert.DwInB.nD Cert.DwInB.τ).loc Cert.DwInB.main_arg1))
      ∧ r.2.sem = fun _ => 0)

def quiescent_DwInBIdeal [hDwInBIdeal : Cert.DwInBIdeal.Facts] : Prop :=
  ∀ (m : (ℓ : Loc Cert.DwInBIdeal.nD Cert.DwInBIdeal.τ Cert.DwInBIdeal.sig) → Buf (Elt Ideal) ℓ) (g : Dev Cert.DwInBIdeal.nD → PrngReg), Pre_DwInBIdeal m →
    θ_run (Cert.DwInBIdeal.defs (F := Ideal)) (onTc (τ := Cert.DwInBIdeal.τ) (Cert.DwInBIdeal.main (F := Ideal))) ⟨m, fun _ => 0, g⟩ (fun r => (∀ c : Dev Cert.DwInBIdeal.nD,
      r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
      ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1))
      ∧ r.2.sem = fun _ => 0)

def quiescent_DwInBRefIdeal [hDwInBRefIdeal : Cert.DwInBRefIdeal.Facts] : Prop :=
  ∀ (m : (ℓ : Loc Cert.DwInBRefIdeal.nD Cert.DwInBRefIdeal.τ Cert.DwInBRefIdeal.sig) → Buf (Elt Ideal) ℓ) (g : Dev Cert.DwInBRefIdeal.nD → PrngReg), Pre_DwInBRefIdeal m →
    θ_run (Cert.DwInBRefIdeal.defs (F := Ideal)) (onTc (τ := Cert.DwInBRefIdeal.τ) (Cert.DwInBRefIdeal.main (F := Ideal))) ⟨m, fun _ => 0, g⟩ (fun r => (∀ c : Dev Cert.DwInBRefIdeal.nD,
      r.2.mem ((c.tc : Thread Cert.DwInBRefIdeal.nD Cert.DwInBRefIdeal.τ).loc Cert.DwInBRefIdeal.main_arg0) = m ((c.tc : Thread Cert.DwInBRefIdeal.nD Cert.DwInBRefIdeal.τ).loc Cert.DwInBRefIdeal.main_arg0)
      ∧ r.2.mem ((c.tc : Thread Cert.DwInBRefIdeal.nD Cert.DwInBRefIdeal.τ).loc Cert.DwInBRefIdeal.main_arg1) = m ((c.tc : Thread Cert.DwInBRefIdeal.nD Cert.DwInBRefIdeal.τ).loc Cert.DwInBRefIdeal.main_arg1))
      ∧ r.2.sem = fun _ => 0)

def quiescent_DhA [hDhA : Cert.DhA.Facts] : Prop :=
  ∀ (m : (ℓ : Loc Cert.DhA.nD Cert.DhA.τ Cert.DhA.sig) → Buf (Elt Bits) ℓ) (g : Dev Cert.DhA.nD → PrngReg), Pre_DhA m →
    θ_run (Cert.DhA.defs (F := Bits)) (onTc (τ := Cert.DhA.τ) (Cert.DhA.main (F := Bits))) ⟨m, fun _ => 0, g⟩ (fun r => (∀ c : Dev Cert.DhA.nD,
      r.2.mem ((c.tc : Thread Cert.DhA.nD Cert.DhA.τ).loc Cert.DhA.main_arg0) = m ((c.tc : Thread Cert.DhA.nD Cert.DhA.τ).loc Cert.DhA.main_arg0)
      ∧ r.2.mem ((c.tc : Thread Cert.DhA.nD Cert.DhA.τ).loc Cert.DhA.main_arg1) = m ((c.tc : Thread Cert.DhA.nD Cert.DhA.τ).loc Cert.DhA.main_arg1)
      ∧ r.2.mem ((c.tc : Thread Cert.DhA.nD Cert.DhA.τ).loc Cert.DhA.main_arg2) = m ((c.tc : Thread Cert.DhA.nD Cert.DhA.τ).loc Cert.DhA.main_arg2))
      ∧ r.2.sem = fun _ => 0)

def quiescent_DhAIdeal [hDhAIdeal : Cert.DhAIdeal.Facts] : Prop :=
  ∀ (m : (ℓ : Loc Cert.DhAIdeal.nD Cert.DhAIdeal.τ Cert.DhAIdeal.sig) → Buf (Elt Ideal) ℓ) (g : Dev Cert.DhAIdeal.nD → PrngReg), Pre_DhAIdeal m →
    θ_run (Cert.DhAIdeal.defs (F := Ideal)) (onTc (τ := Cert.DhAIdeal.τ) (Cert.DhAIdeal.main (F := Ideal))) ⟨m, fun _ => 0, g⟩ (fun r => (∀ c : Dev Cert.DhAIdeal.nD,
      r.2.mem ((c.tc : Thread Cert.DhAIdeal.nD Cert.DhAIdeal.τ).loc Cert.DhAIdeal.main_arg0) = m ((c.tc : Thread Cert.DhAIdeal.nD Cert.DhAIdeal.τ).loc Cert.DhAIdeal.main_arg0)
      ∧ r.2.mem ((c.tc : Thread Cert.DhAIdeal.nD Cert.DhAIdeal.τ).loc Cert.DhAIdeal.main_arg1) = m ((c.tc : Thread Cert.DhAIdeal.nD Cert.DhAIdeal.τ).loc Cert.DhAIdeal.main_arg1)
      ∧ r.2.mem ((c.tc : Thread Cert.DhAIdeal.nD Cert.DhAIdeal.τ).loc Cert.DhAIdeal.main_arg2) = m ((c.tc : Thread Cert.DhAIdeal.nD Cert.DhAIdeal.τ).loc Cert.DhAIdeal.main_arg2))
      ∧ r.2.sem = fun _ => 0)

def quiescent_DhARefIdeal [hDhARefIdeal : Cert.DhARefIdeal.Facts] : Prop :=
  ∀ (m : (ℓ : Loc Cert.DhARefIdeal.nD Cert.DhARefIdeal.τ Cert.DhARefIdeal.sig) → Buf (Elt Ideal) ℓ) (g : Dev Cert.DhARefIdeal.nD → PrngReg), Pre_DhARefIdeal m →
    θ_run (Cert.DhARefIdeal.defs (F := Ideal)) (onTc (τ := Cert.DhARefIdeal.τ) (Cert.DhARefIdeal.main (F := Ideal))) ⟨m, fun _ => 0, g⟩ (fun r => (∀ c : Dev Cert.DhARefIdeal.nD,
      r.2.mem ((c.tc : Thread Cert.DhARefIdeal.nD Cert.DhARefIdeal.τ).loc Cert.DhARefIdeal.main_arg0) = m ((c.tc : Thread Cert.DhARefIdeal.nD Cert.DhARefIdeal.τ).loc Cert.DhARefIdeal.main_arg0)
      ∧ r.2.mem ((c.tc : Thread Cert.DhARefIdeal.nD Cert.DhARefIdeal.τ).loc Cert.DhARefIdeal.main_arg1) = m ((c.tc : Thread Cert.DhARefIdeal.nD Cert.DhARefIdeal.τ).loc Cert.DhARefIdeal.main_arg1)
      ∧ r.2.mem ((c.tc : Thread Cert.DhARefIdeal.nD Cert.DhARefIdeal.τ).loc Cert.DhARefIdeal.main_arg2) = m ((c.tc : Thread Cert.DhARefIdeal.nD Cert.DhARefIdeal.τ).loc Cert.DhARefIdeal.main_arg2))
      ∧ r.2.sem = fun _ => 0)

def quiescent_DwInA [hDwInA : Cert.DwInA.Facts] : Prop :=
  ∀ (m : (ℓ : Loc Cert.DwInA.nD Cert.DwInA.τ Cert.DwInA.sig) → Buf (Elt Bits) ℓ) (g : Dev Cert.DwInA.nD → PrngReg), Pre_DwInA m →
    θ_run (Cert.DwInA.defs (F := Bits)) (onTc (τ := Cert.DwInA.τ) (Cert.DwInA.main (F := Bits))) ⟨m, fun _ => 0, g⟩ (fun r => (∀ c : Dev Cert.DwInA.nD,
      r.2.mem ((c.tc : Thread Cert.DwInA.nD Cert.DwInA.τ).loc Cert.DwInA.main_arg0) = m ((c.tc : Thread Cert.DwInA.nD Cert.DwInA.τ).loc Cert.DwInA.main_arg0)
      ∧ r.2.mem ((c.tc : Thread Cert.DwInA.nD Cert.DwInA.τ).loc Cert.DwInA.main_arg1) = m ((c.tc : Thread Cert.DwInA.nD Cert.DwInA.τ).loc Cert.DwInA.main_arg1))
      ∧ r.2.sem = fun _ => 0)

def quiescent_DwInAIdeal [hDwInAIdeal : Cert.DwInAIdeal.Facts] : Prop :=
  ∀ (m : (ℓ : Loc Cert.DwInAIdeal.nD Cert.DwInAIdeal.τ Cert.DwInAIdeal.sig) → Buf (Elt Ideal) ℓ) (g : Dev Cert.DwInAIdeal.nD → PrngReg), Pre_DwInAIdeal m →
    θ_run (Cert.DwInAIdeal.defs (F := Ideal)) (onTc (τ := Cert.DwInAIdeal.τ) (Cert.DwInAIdeal.main (F := Ideal))) ⟨m, fun _ => 0, g⟩ (fun r => (∀ c : Dev Cert.DwInAIdeal.nD,
      r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
      ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1))
      ∧ r.2.sem = fun _ => 0)

def quiescent_DwInARefIdeal [hDwInARefIdeal : Cert.DwInARefIdeal.Facts] : Prop :=
  ∀ (m : (ℓ : Loc Cert.DwInARefIdeal.nD Cert.DwInARefIdeal.τ Cert.DwInARefIdeal.sig) → Buf (Elt Ideal) ℓ) (g : Dev Cert.DwInARefIdeal.nD → PrngReg), Pre_DwInARefIdeal m →
    θ_run (Cert.DwInARefIdeal.defs (F := Ideal)) (onTc (τ := Cert.DwInARefIdeal.τ) (Cert.DwInARefIdeal.main (F := Ideal))) ⟨m, fun _ => 0, g⟩ (fun r => (∀ c : Dev Cert.DwInARefIdeal.nD,
      r.2.mem ((c.tc : Thread Cert.DwInARefIdeal.nD Cert.DwInARefIdeal.τ).loc Cert.DwInARefIdeal.main_arg0) = m ((c.tc : Thread Cert.DwInARefIdeal.nD Cert.DwInARefIdeal.τ).loc Cert.DwInARefIdeal.main_arg0)
      ∧ r.2.mem ((c.tc : Thread Cert.DwInARefIdeal.nD Cert.DwInARefIdeal.τ).loc Cert.DwInARefIdeal.main_arg1) = m ((c.tc : Thread Cert.DwInARefIdeal.nD Cert.DwInARefIdeal.τ).loc Cert.DwInARefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Dybr [hDybr : Cert.Dybr.Facts] : Prop :=
  ∀ (m : (ℓ : Loc Cert.Dybr.nD Cert.Dybr.τ Cert.Dybr.sig) → Buf (Elt Bits) ℓ) (g : Dev Cert.Dybr.nD → PrngReg), Pre_Dybr m →
    θ_run (Cert.Dybr.defs (F := Bits)) (onTc (τ := Cert.Dybr.τ) (Cert.Dybr.main (F := Bits))) ⟨m, fun _ => 0, g⟩ (fun r => (∀ c : Dev Cert.Dybr.nD,
      r.2.mem ((c.tc : Thread Cert.Dybr.nD Cert.Dybr.τ).loc Cert.Dybr.main_arg0) = m ((c.tc : Thread Cert.Dybr.nD Cert.Dybr.τ).loc Cert.Dybr.main_arg0)
      ∧ r.2.mem ((c.tc : Thread Cert.Dybr.nD Cert.Dybr.τ).loc Cert.Dybr.main_arg1) = m ((c.tc : Thread Cert.Dybr.nD Cert.Dybr.τ).loc Cert.Dybr.main_arg1)
      ∧ r.2.mem ((c.tc : Thread Cert.Dybr.nD Cert.Dybr.τ).loc Cert.Dybr.main_arg2) = m ((c.tc : Thread Cert.Dybr.nD Cert.Dybr.τ).loc Cert.Dybr.main_arg2)
      ∧ r.2.mem ((c.tc : Thread Cert.Dybr.nD Cert.Dybr.τ).loc Cert.Dybr.main_arg3) = m ((c.tc : Thread Cert.Dybr.nD Cert.Dybr.τ).loc Cert.Dybr.main_arg3))
      ∧ r.2.sem = fun _ => 0)

def quiescent_DybrIdeal [hDybrIdeal : Cert.DybrIdeal.Facts] : Prop :=
  ∀ (m : (ℓ : Loc Cert.DybrIdeal.nD Cert.DybrIdeal.τ Cert.DybrIdeal.sig) → Buf (Elt Ideal) ℓ) (g : Dev Cert.DybrIdeal.nD → PrngReg), Pre_DybrIdeal m →
    θ_run (Cert.DybrIdeal.defs (F := Ideal)) (onTc (τ := Cert.DybrIdeal.τ) (Cert.DybrIdeal.main (F := Ideal))) ⟨m, fun _ => 0, g⟩ (fun r => (∀ c : Dev Cert.DybrIdeal.nD,
      r.2.mem ((c.tc : Thread Cert.DybrIdeal.nD Cert.DybrIdeal.τ).loc Cert.DybrIdeal.main_arg0) = m ((c.tc : Thread Cert.DybrIdeal.nD Cert.DybrIdeal.τ).loc Cert.DybrIdeal.main_arg0)
      ∧ r.2.mem ((c.tc : Thread Cert.DybrIdeal.nD Cert.DybrIdeal.τ).loc Cert.DybrIdeal.main_arg1) = m ((c.tc : Thread Cert.DybrIdeal.nD Cert.DybrIdeal.τ).loc Cert.DybrIdeal.main_arg1)
      ∧ r.2.mem ((c.tc : Thread Cert.DybrIdeal.nD Cert.DybrIdeal.τ).loc Cert.DybrIdeal.main_arg2) = m ((c.tc : Thread Cert.DybrIdeal.nD Cert.DybrIdeal.τ).loc Cert.DybrIdeal.main_arg2)
      ∧ r.2.mem ((c.tc : Thread Cert.DybrIdeal.nD Cert.DybrIdeal.τ).loc Cert.DybrIdeal.main_arg3) = m ((c.tc : Thread Cert.DybrIdeal.nD Cert.DybrIdeal.τ).loc Cert.DybrIdeal.main_arg3))
      ∧ r.2.sem = fun _ => 0)

def quiescent_DybrRefIdeal [hDybrRefIdeal : Cert.DybrRefIdeal.Facts] : Prop :=
  ∀ (m : (ℓ : Loc Cert.DybrRefIdeal.nD Cert.DybrRefIdeal.τ Cert.DybrRefIdeal.sig) → Buf (Elt Ideal) ℓ) (g : Dev Cert.DybrRefIdeal.nD → PrngReg), Pre_DybrRefIdeal m →
    θ_run (Cert.DybrRefIdeal.defs (F := Ideal)) (onTc (τ := Cert.DybrRefIdeal.τ) (Cert.DybrRefIdeal.main (F := Ideal))) ⟨m, fun _ => 0, g⟩ (fun r => (∀ c : Dev Cert.DybrRefIdeal.nD,
      r.2.mem ((c.tc : Thread Cert.DybrRefIdeal.nD Cert.DybrRefIdeal.τ).loc Cert.DybrRefIdeal.main_arg0) = m ((c.tc : Thread Cert.DybrRefIdeal.nD Cert.DybrRefIdeal.τ).loc Cert.DybrRefIdeal.main_arg0)
      ∧ r.2.mem ((c.tc : Thread Cert.DybrRefIdeal.nD Cert.DybrRefIdeal.τ).loc Cert.DybrRefIdeal.main_arg1) = m ((c.tc : Thread Cert.DybrRefIdeal.nD Cert.DybrRefIdeal.τ).loc Cert.DybrRefIdeal.main_arg1)
      ∧ r.2.mem ((c.tc : Thread Cert.DybrRefIdeal.nD Cert.DybrRefIdeal.τ).loc Cert.DybrRefIdeal.main_arg2) = m ((c.tc : Thread Cert.DybrRefIdeal.nD Cert.DybrRefIdeal.τ).loc Cert.DybrRefIdeal.main_arg2)
      ∧ r.2.mem ((c.tc : Thread Cert.DybrRefIdeal.nD Cert.DybrRefIdeal.τ).loc Cert.DybrRefIdeal.main_arg3) = m ((c.tc : Thread Cert.DybrRefIdeal.nD Cert.DybrRefIdeal.τ).loc Cert.DybrRefIdeal.main_arg3))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2)
      ∧ r.2.mem ((c.tc : Thread Cert.OutA.nD Cert.OutA.τ).loc Cert.OutA.main_arg3) = m ((c.tc : Thread Cert.OutA.nD Cert.OutA.τ).loc Cert.OutA.main_arg3))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
      ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2)
      ∧ r.2.mem ((c.tc : Thread Cert.OutARefIdeal.nD Cert.OutARefIdeal.τ).loc Cert.OutARefIdeal.main_arg3) = m ((c.tc : Thread Cert.OutARefIdeal.nD Cert.OutARefIdeal.τ).loc Cert.OutARefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2)
      ∧ r.2.mem ((c.tc : Thread Cert.AdaFwd.nD Cert.AdaFwd.τ).loc Cert.AdaFwd.main_arg3) = m ((c.tc : Thread Cert.AdaFwd.nD Cert.AdaFwd.τ).loc Cert.AdaFwd.main_arg3))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2)
      ∧ r.2.mem ((c.tc : Thread Cert.AdaFwdIdeal.nD Cert.AdaFwdIdeal.τ).loc Cert.AdaFwdIdeal.main_arg3) = m ((c.tc : Thread Cert.AdaFwdIdeal.nD Cert.AdaFwdIdeal.τ).loc Cert.AdaFwdIdeal.main_arg3))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2)
      ∧ r.2.mem ((c.tc : Thread Cert.AdaFwdRefIdeal.nD Cert.AdaFwdRefIdeal.τ).loc Cert.AdaFwdRefIdeal.main_arg3) = m ((c.tc : Thread Cert.AdaFwdRefIdeal.nD Cert.AdaFwdRefIdeal.τ).loc Cert.AdaFwdRefIdeal.main_arg3))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamLate [hAdamLate : Cert.AdamLate.Facts] : Prop :=
  ∀ (m : (ℓ : Loc Cert.AdamLate.nD Cert.AdamLate.τ Cert.AdamLate.sig) → Buf (Elt Bits) ℓ) (g : Dev Cert.AdamLate.nD → PrngReg), Pre_AdamLate m →
    θ_run (Cert.AdamLate.defs (F := Bits)) (onTc (τ := Cert.AdamLate.τ) (Cert.AdamLate.main (F := Bits))) ⟨m, fun _ => 0, g⟩ (fun r => (∀ c : Dev Cert.AdamLate.nD,
      r.2.mem ((c.tc : Thread Cert.AdamLate.nD Cert.AdamLate.τ).loc Cert.AdamLate.main_arg0) = m ((c.tc : Thread Cert.AdamLate.nD Cert.AdamLate.τ).loc Cert.AdamLate.main_arg0)
      ∧ r.2.mem ((c.tc : Thread Cert.AdamLate.nD Cert.AdamLate.τ).loc Cert.AdamLate.main_arg1) = m ((c.tc : Thread Cert.AdamLate.nD Cert.AdamLate.τ).loc Cert.AdamLate.main_arg1)
      ∧ r.2.mem ((c.tc : Thread Cert.AdamLate.nD Cert.AdamLate.τ).loc Cert.AdamLate.main_arg2) = m ((c.tc : Thread Cert.AdamLate.nD Cert.AdamLate.τ).loc Cert.AdamLate.main_arg2)
      ∧ r.2.mem ((c.tc : Thread Cert.AdamLate.nD Cert.AdamLate.τ).loc Cert.AdamLate.main_arg3) = m ((c.tc : Thread Cert.AdamLate.nD Cert.AdamLate.τ).loc Cert.AdamLate.main_arg3)
      ∧ r.2.mem ((c.tc : Thread Cert.AdamLate.nD Cert.AdamLate.τ).loc Cert.AdamLate.main_arg4) = m ((c.tc : Thread Cert.AdamLate.nD Cert.AdamLate.τ).loc Cert.AdamLate.main_arg4)
      ∧ r.2.mem ((c.tc : Thread Cert.AdamLate.nD Cert.AdamLate.τ).loc Cert.AdamLate.main_arg5) = m ((c.tc : Thread Cert.AdamLate.nD Cert.AdamLate.τ).loc Cert.AdamLate.main_arg5)
      ∧ r.2.mem ((c.tc : Thread Cert.AdamLate.nD Cert.AdamLate.τ).loc Cert.AdamLate.main_arg6) = m ((c.tc : Thread Cert.AdamLate.nD Cert.AdamLate.τ).loc Cert.AdamLate.main_arg6)
      ∧ r.2.mem ((c.tc : Thread Cert.AdamLate.nD Cert.AdamLate.τ).loc Cert.AdamLate.main_arg7) = m ((c.tc : Thread Cert.AdamLate.nD Cert.AdamLate.τ).loc Cert.AdamLate.main_arg7)
      ∧ r.2.mem ((c.tc : Thread Cert.AdamLate.nD Cert.AdamLate.τ).loc Cert.AdamLate.main_arg8) = m ((c.tc : Thread Cert.AdamLate.nD Cert.AdamLate.τ).loc Cert.AdamLate.main_arg8)
      ∧ r.2.mem ((c.tc : Thread Cert.AdamLate.nD Cert.AdamLate.τ).loc Cert.AdamLate.main_arg9) = m ((c.tc : Thread Cert.AdamLate.nD Cert.AdamLate.τ).loc Cert.AdamLate.main_arg9)
      ∧ r.2.mem ((c.tc : Thread Cert.AdamLate.nD Cert.AdamLate.τ).loc Cert.AdamLate.main_arg10) = m ((c.tc : Thread Cert.AdamLate.nD Cert.AdamLate.τ).loc Cert.AdamLate.main_arg10)
      ∧ r.2.mem ((c.tc : Thread Cert.AdamLate.nD Cert.AdamLate.τ).loc Cert.AdamLate.main_arg11) = m ((c.tc : Thread Cert.AdamLate.nD Cert.AdamLate.τ).loc Cert.AdamLate.main_arg11)
      ∧ r.2.mem ((c.tc : Thread Cert.AdamLate.nD Cert.AdamLate.τ).loc Cert.AdamLate.main_arg12) = m ((c.tc : Thread Cert.AdamLate.nD Cert.AdamLate.τ).loc Cert.AdamLate.main_arg12))
      ∧ r.2.sem = fun _ => 0)

def quiescent_AdamLateIdeal [hAdamLateIdeal : Cert.AdamLateIdeal.Facts] : Prop :=
  ∀ (m : (ℓ : Loc Cert.AdamLateIdeal.nD Cert.AdamLateIdeal.τ Cert.AdamLateIdeal.sig) → Buf (Elt Ideal) ℓ) (g : Dev Cert.AdamLateIdeal.nD → PrngReg), Pre_AdamLateIdeal m →
    θ_run (Cert.AdamLateIdeal.defs (F := Ideal)) (onTc (τ := Cert.AdamLateIdeal.τ) (Cert.AdamLateIdeal.main (F := Ideal))) ⟨m, fun _ => 0, g⟩ (fun r => (∀ c : Dev Cert.AdamLateIdeal.nD,
      r.2.mem ((c.tc : Thread Cert.AdamLateIdeal.nD Cert.AdamLateIdeal.τ).loc Cert.AdamLateIdeal.main_arg0) = m ((c.tc : Thread Cert.AdamLateIdeal.nD Cert.AdamLateIdeal.τ).loc Cert.AdamLateIdeal.main_arg0)
      ∧ r.2.mem ((c.tc : Thread Cert.AdamLateIdeal.nD Cert.AdamLateIdeal.τ).loc Cert.AdamLateIdeal.main_arg1) = m ((c.tc : Thread Cert.AdamLateIdeal.nD Cert.AdamLateIdeal.τ).loc Cert.AdamLateIdeal.main_arg1)
      ∧ r.2.mem ((c.tc : Thread Cert.AdamLateIdeal.nD Cert.AdamLateIdeal.τ).loc Cert.AdamLateIdeal.main_arg2) = m ((c.tc : Thread Cert.AdamLateIdeal.nD Cert.AdamLateIdeal.τ).loc Cert.AdamLateIdeal.main_arg2)
      ∧ r.2.mem ((c.tc : Thread Cert.AdamLateIdeal.nD Cert.AdamLateIdeal.τ).loc Cert.AdamLateIdeal.main_arg3) = m ((c.tc : Thread Cert.AdamLateIdeal.nD Cert.AdamLateIdeal.τ).loc Cert.AdamLateIdeal.main_arg3)
      ∧ r.2.mem ((c.tc : Thread Cert.AdamLateIdeal.nD Cert.AdamLateIdeal.τ).loc Cert.AdamLateIdeal.main_arg4) = m ((c.tc : Thread Cert.AdamLateIdeal.nD Cert.AdamLateIdeal.τ).loc Cert.AdamLateIdeal.main_arg4)
      ∧ r.2.mem ((c.tc : Thread Cert.AdamLateIdeal.nD Cert.AdamLateIdeal.τ).loc Cert.AdamLateIdeal.main_arg5) = m ((c.tc : Thread Cert.AdamLateIdeal.nD Cert.AdamLateIdeal.τ).loc Cert.AdamLateIdeal.main_arg5)
      ∧ r.2.mem ((c.tc : Thread Cert.AdamLateIdeal.nD Cert.AdamLateIdeal.τ).loc Cert.AdamLateIdeal.main_arg6) = m ((c.tc : Thread Cert.AdamLateIdeal.nD Cert.AdamLateIdeal.τ).loc Cert.AdamLateIdeal.main_arg6)
      ∧ r.2.mem ((c.tc : Thread Cert.AdamLateIdeal.nD Cert.AdamLateIdeal.τ).loc Cert.AdamLateIdeal.main_arg7) = m ((c.tc : Thread Cert.AdamLateIdeal.nD Cert.AdamLateIdeal.τ).loc Cert.AdamLateIdeal.main_arg7)
      ∧ r.2.mem ((c.tc : Thread Cert.AdamLateIdeal.nD Cert.AdamLateIdeal.τ).loc Cert.AdamLateIdeal.main_arg8) = m ((c.tc : Thread Cert.AdamLateIdeal.nD Cert.AdamLateIdeal.τ).loc Cert.AdamLateIdeal.main_arg8)
      ∧ r.2.mem ((c.tc : Thread Cert.AdamLateIdeal.nD Cert.AdamLateIdeal.τ).loc Cert.AdamLateIdeal.main_arg9) = m ((c.tc : Thread Cert.AdamLateIdeal.nD Cert.AdamLateIdeal.τ).loc Cert.AdamLateIdeal.main_arg9)
      ∧ r.2.mem ((c.tc : Thread Cert.AdamLateIdeal.nD Cert.AdamLateIdeal.τ).loc Cert.AdamLateIdeal.main_arg10) = m ((c.tc : Thread Cert.AdamLateIdeal.nD Cert.AdamLateIdeal.τ).loc Cert.AdamLateIdeal.main_arg10)
      ∧ r.2.mem ((c.tc : Thread Cert.AdamLateIdeal.nD Cert.AdamLateIdeal.τ).loc Cert.AdamLateIdeal.main_arg11) = m ((c.tc : Thread Cert.AdamLateIdeal.nD Cert.AdamLateIdeal.τ).loc Cert.AdamLateIdeal.main_arg11)
      ∧ r.2.mem ((c.tc : Thread Cert.AdamLateIdeal.nD Cert.AdamLateIdeal.τ).loc Cert.AdamLateIdeal.main_arg12) = m ((c.tc : Thread Cert.AdamLateIdeal.nD Cert.AdamLateIdeal.τ).loc Cert.AdamLateIdeal.main_arg12))
      ∧ r.2.sem = fun _ => 0)

def quiescent_AdamLateRefIdeal [hAdamLateRefIdeal : Cert.AdamLateRefIdeal.Facts] : Prop :=
  ∀ (m : (ℓ : Loc Cert.AdamLateRefIdeal.nD Cert.AdamLateRefIdeal.τ Cert.AdamLateRefIdeal.sig) → Buf (Elt Ideal) ℓ) (g : Dev Cert.AdamLateRefIdeal.nD → PrngReg), Pre_AdamLateRefIdeal m →
    θ_run (Cert.AdamLateRefIdeal.defs (F := Ideal)) (onTc (τ := Cert.AdamLateRefIdeal.τ) (Cert.AdamLateRefIdeal.main (F := Ideal))) ⟨m, fun _ => 0, g⟩ (fun r => (∀ c : Dev Cert.AdamLateRefIdeal.nD,
      r.2.mem ((c.tc : Thread Cert.AdamLateRefIdeal.nD Cert.AdamLateRefIdeal.τ).loc Cert.AdamLateRefIdeal.main_arg0) = m ((c.tc : Thread Cert.AdamLateRefIdeal.nD Cert.AdamLateRefIdeal.τ).loc Cert.AdamLateRefIdeal.main_arg0)
      ∧ r.2.mem ((c.tc : Thread Cert.AdamLateRefIdeal.nD Cert.AdamLateRefIdeal.τ).loc Cert.AdamLateRefIdeal.main_arg1) = m ((c.tc : Thread Cert.AdamLateRefIdeal.nD Cert.AdamLateRefIdeal.τ).loc Cert.AdamLateRefIdeal.main_arg1)
      ∧ r.2.mem ((c.tc : Thread Cert.AdamLateRefIdeal.nD Cert.AdamLateRefIdeal.τ).loc Cert.AdamLateRefIdeal.main_arg2) = m ((c.tc : Thread Cert.AdamLateRefIdeal.nD Cert.AdamLateRefIdeal.τ).loc Cert.AdamLateRefIdeal.main_arg2)
      ∧ r.2.mem ((c.tc : Thread Cert.AdamLateRefIdeal.nD Cert.AdamLateRefIdeal.τ).loc Cert.AdamLateRefIdeal.main_arg3) = m ((c.tc : Thread Cert.AdamLateRefIdeal.nD Cert.AdamLateRefIdeal.τ).loc Cert.AdamLateRefIdeal.main_arg3)
      ∧ r.2.mem ((c.tc : Thread Cert.AdamLateRefIdeal.nD Cert.AdamLateRefIdeal.τ).loc Cert.AdamLateRefIdeal.main_arg4) = m ((c.tc : Thread Cert.AdamLateRefIdeal.nD Cert.AdamLateRefIdeal.τ).loc Cert.AdamLateRefIdeal.main_arg4)
      ∧ r.2.mem ((c.tc : Thread Cert.AdamLateRefIdeal.nD Cert.AdamLateRefIdeal.τ).loc Cert.AdamLateRefIdeal.main_arg5) = m ((c.tc : Thread Cert.AdamLateRefIdeal.nD Cert.AdamLateRefIdeal.τ).loc Cert.AdamLateRefIdeal.main_arg5)
      ∧ r.2.mem ((c.tc : Thread Cert.AdamLateRefIdeal.nD Cert.AdamLateRefIdeal.τ).loc Cert.AdamLateRefIdeal.main_arg6) = m ((c.tc : Thread Cert.AdamLateRefIdeal.nD Cert.AdamLateRefIdeal.τ).loc Cert.AdamLateRefIdeal.main_arg6)
      ∧ r.2.mem ((c.tc : Thread Cert.AdamLateRefIdeal.nD Cert.AdamLateRefIdeal.τ).loc Cert.AdamLateRefIdeal.main_arg7) = m ((c.tc : Thread Cert.AdamLateRefIdeal.nD Cert.AdamLateRefIdeal.τ).loc Cert.AdamLateRefIdeal.main_arg7)
      ∧ r.2.mem ((c.tc : Thread Cert.AdamLateRefIdeal.nD Cert.AdamLateRefIdeal.τ).loc Cert.AdamLateRefIdeal.main_arg8) = m ((c.tc : Thread Cert.AdamLateRefIdeal.nD Cert.AdamLateRefIdeal.τ).loc Cert.AdamLateRefIdeal.main_arg8)
      ∧ r.2.mem ((c.tc : Thread Cert.AdamLateRefIdeal.nD Cert.AdamLateRefIdeal.τ).loc Cert.AdamLateRefIdeal.main_arg9) = m ((c.tc : Thread Cert.AdamLateRefIdeal.nD Cert.AdamLateRefIdeal.τ).loc Cert.AdamLateRefIdeal.main_arg9)
      ∧ r.2.mem ((c.tc : Thread Cert.AdamLateRefIdeal.nD Cert.AdamLateRefIdeal.τ).loc Cert.AdamLateRefIdeal.main_arg10) = m ((c.tc : Thread Cert.AdamLateRefIdeal.nD Cert.AdamLateRefIdeal.τ).loc Cert.AdamLateRefIdeal.main_arg10)
      ∧ r.2.mem ((c.tc : Thread Cert.AdamLateRefIdeal.nD Cert.AdamLateRefIdeal.τ).loc Cert.AdamLateRefIdeal.main_arg11) = m ((c.tc : Thread Cert.AdamLateRefIdeal.nD Cert.AdamLateRefIdeal.τ).loc Cert.AdamLateRefIdeal.main_arg11)
      ∧ r.2.mem ((c.tc : Thread Cert.AdamLateRefIdeal.nD Cert.AdamLateRefIdeal.τ).loc Cert.AdamLateRefIdeal.main_arg12) = m ((c.tc : Thread Cert.AdamLateRefIdeal.nD Cert.AdamLateRefIdeal.τ).loc Cert.AdamLateRefIdeal.main_arg12))
      ∧ r.2.sem = fun _ => 0)

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3)
      ∧ r.2.mem ((c.tc : Thread Cert.PreBwd.nD Cert.PreBwd.τ).loc Cert.PreBwd.main_arg4) = m ((c.tc : Thread Cert.PreBwd.nD Cert.PreBwd.τ).loc Cert.PreBwd.main_arg4))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
      ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4))
      ∧ r.2.sem = fun _ => 0)

def quiescent_PreBwdIdeal_pre_finite_prenorm_bwd [hPreBwdIdeal : Cert.PreBwdIdeal.Facts] [hPre_finite_prenorm_bwd : Cert.Pre_finite_prenorm_bwd.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal_finite_prenorm_bwd m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
      ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4))
      ∧ r.2.sem = fun _ => 0)

def quiescent_PreBwdRefIdeal [hPreBwdRefIdeal : Cert.PreBwdRefIdeal.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2)
      ∧ r.2.mem ((c.tc : Thread Cert.PreBwdRefIdeal.nD Cert.PreBwdRefIdeal.τ).loc Cert.PreBwdRefIdeal.main_arg3) = m ((c.tc : Thread Cert.PreBwdRefIdeal.nD Cert.PreBwdRefIdeal.τ).loc Cert.PreBwdRefIdeal.main_arg3)
      ∧ r.2.mem ((c.tc : Thread Cert.PreBwdRefIdeal.nD Cert.PreBwdRefIdeal.τ).loc Cert.PreBwdRefIdeal.main_arg4) = m ((c.tc : Thread Cert.PreBwdRefIdeal.nD Cert.PreBwdRefIdeal.τ).loc Cert.PreBwdRefIdeal.main_arg4))
      ∧ r.2.sem = fun _ => 0)

def quiescent_PreBwdRefIdeal_pre_finite_prenorm_bwd [hPreBwdRefIdeal : Cert.PreBwdRefIdeal.Facts] [hPre_finite_prenorm_bwd : Cert.Pre_finite_prenorm_bwd.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal_finite_prenorm_bwd m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2)
      ∧ r.2.mem ((c.tc : Thread Cert.PreBwdRefIdeal.nD Cert.PreBwdRefIdeal.τ).loc Cert.PreBwdRefIdeal.main_arg3) = m ((c.tc : Thread Cert.PreBwdRefIdeal.nD Cert.PreBwdRefIdeal.τ).loc Cert.PreBwdRefIdeal.main_arg3)
      ∧ r.2.mem ((c.tc : Thread Cert.PreBwdRefIdeal.nD Cert.PreBwdRefIdeal.τ).loc Cert.PreBwdRefIdeal.main_arg4) = m ((c.tc : Thread Cert.PreBwdRefIdeal.nD Cert.PreBwdRefIdeal.τ).loc Cert.PreBwdRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_AdamEarly [hAdamEarly : Cert.AdamEarly.Facts] : Prop :=
  ∀ (m : (ℓ : Loc Cert.AdamEarly.nD Cert.AdamEarly.τ Cert.AdamEarly.sig) → Buf (Elt Bits) ℓ) (g : Dev Cert.AdamEarly.nD → PrngReg), Pre_AdamEarly m →
    θ_run (Cert.AdamEarly.defs (F := Bits)) (onTc (τ := Cert.AdamEarly.τ) (Cert.AdamEarly.main (F := Bits))) ⟨m, fun _ => 0, g⟩ (fun r => (∀ c : Dev Cert.AdamEarly.nD,
      r.2.mem ((c.tc : Thread Cert.AdamEarly.nD Cert.AdamEarly.τ).loc Cert.AdamEarly.main_arg0) = m ((c.tc : Thread Cert.AdamEarly.nD Cert.AdamEarly.τ).loc Cert.AdamEarly.main_arg0)
      ∧ r.2.mem ((c.tc : Thread Cert.AdamEarly.nD Cert.AdamEarly.τ).loc Cert.AdamEarly.main_arg1) = m ((c.tc : Thread Cert.AdamEarly.nD Cert.AdamEarly.τ).loc Cert.AdamEarly.main_arg1)
      ∧ r.2.mem ((c.tc : Thread Cert.AdamEarly.nD Cert.AdamEarly.τ).loc Cert.AdamEarly.main_arg2) = m ((c.tc : Thread Cert.AdamEarly.nD Cert.AdamEarly.τ).loc Cert.AdamEarly.main_arg2)
      ∧ r.2.mem ((c.tc : Thread Cert.AdamEarly.nD Cert.AdamEarly.τ).loc Cert.AdamEarly.main_arg3) = m ((c.tc : Thread Cert.AdamEarly.nD Cert.AdamEarly.τ).loc Cert.AdamEarly.main_arg3)
      ∧ r.2.mem ((c.tc : Thread Cert.AdamEarly.nD Cert.AdamEarly.τ).loc Cert.AdamEarly.main_arg4) = m ((c.tc : Thread Cert.AdamEarly.nD Cert.AdamEarly.τ).loc Cert.AdamEarly.main_arg4)
      ∧ r.2.mem ((c.tc : Thread Cert.AdamEarly.nD Cert.AdamEarly.τ).loc Cert.AdamEarly.main_arg5) = m ((c.tc : Thread Cert.AdamEarly.nD Cert.AdamEarly.τ).loc Cert.AdamEarly.main_arg5)
      ∧ r.2.mem ((c.tc : Thread Cert.AdamEarly.nD Cert.AdamEarly.τ).loc Cert.AdamEarly.main_arg6) = m ((c.tc : Thread Cert.AdamEarly.nD Cert.AdamEarly.τ).loc Cert.AdamEarly.main_arg6)
      ∧ r.2.mem ((c.tc : Thread Cert.AdamEarly.nD Cert.AdamEarly.τ).loc Cert.AdamEarly.main_arg7) = m ((c.tc : Thread Cert.AdamEarly.nD Cert.AdamEarly.τ).loc Cert.AdamEarly.main_arg7)
      ∧ r.2.mem ((c.tc : Thread Cert.AdamEarly.nD Cert.AdamEarly.τ).loc Cert.AdamEarly.main_arg8) = m ((c.tc : Thread Cert.AdamEarly.nD Cert.AdamEarly.τ).loc Cert.AdamEarly.main_arg8)
      ∧ r.2.mem ((c.tc : Thread Cert.AdamEarly.nD Cert.AdamEarly.τ).loc Cert.AdamEarly.main_arg9) = m ((c.tc : Thread Cert.AdamEarly.nD Cert.AdamEarly.τ).loc Cert.AdamEarly.main_arg9)
      ∧ r.2.mem ((c.tc : Thread Cert.AdamEarly.nD Cert.AdamEarly.τ).loc Cert.AdamEarly.main_arg10) = m ((c.tc : Thread Cert.AdamEarly.nD Cert.AdamEarly.τ).loc Cert.AdamEarly.main_arg10)
      ∧ r.2.mem ((c.tc : Thread Cert.AdamEarly.nD Cert.AdamEarly.τ).loc Cert.AdamEarly.main_arg11) = m ((c.tc : Thread Cert.AdamEarly.nD Cert.AdamEarly.τ).loc Cert.AdamEarly.main_arg11)
      ∧ r.2.mem ((c.tc : Thread Cert.AdamEarly.nD Cert.AdamEarly.τ).loc Cert.AdamEarly.main_arg12) = m ((c.tc : Thread Cert.AdamEarly.nD Cert.AdamEarly.τ).loc Cert.AdamEarly.main_arg12)
      ∧ r.2.mem ((c.tc : Thread Cert.AdamEarly.nD Cert.AdamEarly.τ).loc Cert.AdamEarly.main_arg13) = m ((c.tc : Thread Cert.AdamEarly.nD Cert.AdamEarly.τ).loc Cert.AdamEarly.main_arg13)
      ∧ r.2.mem ((c.tc : Thread Cert.AdamEarly.nD Cert.AdamEarly.τ).loc Cert.AdamEarly.main_arg14) = m ((c.tc : Thread Cert.AdamEarly.nD Cert.AdamEarly.τ).loc Cert.AdamEarly.main_arg14)
      ∧ r.2.mem ((c.tc : Thread Cert.AdamEarly.nD Cert.AdamEarly.τ).loc Cert.AdamEarly.main_arg15) = m ((c.tc : Thread Cert.AdamEarly.nD Cert.AdamEarly.τ).loc Cert.AdamEarly.main_arg15)
      ∧ r.2.mem ((c.tc : Thread Cert.AdamEarly.nD Cert.AdamEarly.τ).loc Cert.AdamEarly.main_arg16) = m ((c.tc : Thread Cert.AdamEarly.nD Cert.AdamEarly.τ).loc Cert.AdamEarly.main_arg16)
      ∧ r.2.mem ((c.tc : Thread Cert.AdamEarly.nD Cert.AdamEarly.τ).loc Cert.AdamEarly.main_arg17) = m ((c.tc : Thread Cert.AdamEarly.nD Cert.AdamEarly.τ).loc Cert.AdamEarly.main_arg17)
      ∧ r.2.mem ((c.tc : Thread Cert.AdamEarly.nD Cert.AdamEarly.τ).loc Cert.AdamEarly.main_arg18) = m ((c.tc : Thread Cert.AdamEarly.nD Cert.AdamEarly.τ).loc Cert.AdamEarly.main_arg18)
      ∧ r.2.mem ((c.tc : Thread Cert.AdamEarly.nD Cert.AdamEarly.τ).loc Cert.AdamEarly.main_arg19) = m ((c.tc : Thread Cert.AdamEarly.nD Cert.AdamEarly.τ).loc Cert.AdamEarly.main_arg19)
      ∧ r.2.mem ((c.tc : Thread Cert.AdamEarly.nD Cert.AdamEarly.τ).loc Cert.AdamEarly.main_arg20) = m ((c.tc : Thread Cert.AdamEarly.nD Cert.AdamEarly.τ).loc Cert.AdamEarly.main_arg20)
      ∧ r.2.mem ((c.tc : Thread Cert.AdamEarly.nD Cert.AdamEarly.τ).loc Cert.AdamEarly.main_arg21) = m ((c.tc : Thread Cert.AdamEarly.nD Cert.AdamEarly.τ).loc Cert.AdamEarly.main_arg21)
      ∧ r.2.mem ((c.tc : Thread Cert.AdamEarly.nD Cert.AdamEarly.τ).loc Cert.AdamEarly.main_arg22) = m ((c.tc : Thread Cert.AdamEarly.nD Cert.AdamEarly.τ).loc Cert.AdamEarly.main_arg22)
      ∧ r.2.mem ((c.tc : Thread Cert.AdamEarly.nD Cert.AdamEarly.τ).loc Cert.AdamEarly.main_arg23) = m ((c.tc : Thread Cert.AdamEarly.nD Cert.AdamEarly.τ).loc Cert.AdamEarly.main_arg23))
      ∧ r.2.sem = fun _ => 0)

def quiescent_AdamEarlyIdeal [hAdamEarlyIdeal : Cert.AdamEarlyIdeal.Facts] : Prop :=
  ∀ (m : (ℓ : Loc Cert.AdamEarlyIdeal.nD Cert.AdamEarlyIdeal.τ Cert.AdamEarlyIdeal.sig) → Buf (Elt Ideal) ℓ) (g : Dev Cert.AdamEarlyIdeal.nD → PrngReg), Pre_AdamEarlyIdeal m →
    θ_run (Cert.AdamEarlyIdeal.defs (F := Ideal)) (onTc (τ := Cert.AdamEarlyIdeal.τ) (Cert.AdamEarlyIdeal.main (F := Ideal))) ⟨m, fun _ => 0, g⟩ (fun r => (∀ c : Dev Cert.AdamEarlyIdeal.nD,
      r.2.mem ((c.tc : Thread Cert.AdamEarlyIdeal.nD Cert.AdamEarlyIdeal.τ).loc Cert.AdamEarlyIdeal.main_arg0) = m ((c.tc : Thread Cert.AdamEarlyIdeal.nD Cert.AdamEarlyIdeal.τ).loc Cert.AdamEarlyIdeal.main_arg0)
      ∧ r.2.mem ((c.tc : Thread Cert.AdamEarlyIdeal.nD Cert.AdamEarlyIdeal.τ).loc Cert.AdamEarlyIdeal.main_arg1) = m ((c.tc : Thread Cert.AdamEarlyIdeal.nD Cert.AdamEarlyIdeal.τ).loc Cert.AdamEarlyIdeal.main_arg1)
      ∧ r.2.mem ((c.tc : Thread Cert.AdamEarlyIdeal.nD Cert.AdamEarlyIdeal.τ).loc Cert.AdamEarlyIdeal.main_arg2) = m ((c.tc : Thread Cert.AdamEarlyIdeal.nD Cert.AdamEarlyIdeal.τ).loc Cert.AdamEarlyIdeal.main_arg2)
      ∧ r.2.mem ((c.tc : Thread Cert.AdamEarlyIdeal.nD Cert.AdamEarlyIdeal.τ).loc Cert.AdamEarlyIdeal.main_arg3) = m ((c.tc : Thread Cert.AdamEarlyIdeal.nD Cert.AdamEarlyIdeal.τ).loc Cert.AdamEarlyIdeal.main_arg3)
      ∧ r.2.mem ((c.tc : Thread Cert.AdamEarlyIdeal.nD Cert.AdamEarlyIdeal.τ).loc Cert.AdamEarlyIdeal.main_arg4) = m ((c.tc : Thread Cert.AdamEarlyIdeal.nD Cert.AdamEarlyIdeal.τ).loc Cert.AdamEarlyIdeal.main_arg4)
      ∧ r.2.mem ((c.tc : Thread Cert.AdamEarlyIdeal.nD Cert.AdamEarlyIdeal.τ).loc Cert.AdamEarlyIdeal.main_arg5) = m ((c.tc : Thread Cert.AdamEarlyIdeal.nD Cert.AdamEarlyIdeal.τ).loc Cert.AdamEarlyIdeal.main_arg5)
      ∧ r.2.mem ((c.tc : Thread Cert.AdamEarlyIdeal.nD Cert.AdamEarlyIdeal.τ).loc Cert.AdamEarlyIdeal.main_arg6) = m ((c.tc : Thread Cert.AdamEarlyIdeal.nD Cert.AdamEarlyIdeal.τ).loc Cert.AdamEarlyIdeal.main_arg6)
      ∧ r.2.mem ((c.tc : Thread Cert.AdamEarlyIdeal.nD Cert.AdamEarlyIdeal.τ).loc Cert.AdamEarlyIdeal.main_arg7) = m ((c.tc : Thread Cert.AdamEarlyIdeal.nD Cert.AdamEarlyIdeal.τ).loc Cert.AdamEarlyIdeal.main_arg7)
      ∧ r.2.mem ((c.tc : Thread Cert.AdamEarlyIdeal.nD Cert.AdamEarlyIdeal.τ).loc Cert.AdamEarlyIdeal.main_arg8) = m ((c.tc : Thread Cert.AdamEarlyIdeal.nD Cert.AdamEarlyIdeal.τ).loc Cert.AdamEarlyIdeal.main_arg8)
      ∧ r.2.mem ((c.tc : Thread Cert.AdamEarlyIdeal.nD Cert.AdamEarlyIdeal.τ).loc Cert.AdamEarlyIdeal.main_arg9) = m ((c.tc : Thread Cert.AdamEarlyIdeal.nD Cert.AdamEarlyIdeal.τ).loc Cert.AdamEarlyIdeal.main_arg9)
      ∧ r.2.mem ((c.tc : Thread Cert.AdamEarlyIdeal.nD Cert.AdamEarlyIdeal.τ).loc Cert.AdamEarlyIdeal.main_arg10) = m ((c.tc : Thread Cert.AdamEarlyIdeal.nD Cert.AdamEarlyIdeal.τ).loc Cert.AdamEarlyIdeal.main_arg10)
      ∧ r.2.mem ((c.tc : Thread Cert.AdamEarlyIdeal.nD Cert.AdamEarlyIdeal.τ).loc Cert.AdamEarlyIdeal.main_arg11) = m ((c.tc : Thread Cert.AdamEarlyIdeal.nD Cert.AdamEarlyIdeal.τ).loc Cert.AdamEarlyIdeal.main_arg11)
      ∧ r.2.mem ((c.tc : Thread Cert.AdamEarlyIdeal.nD Cert.AdamEarlyIdeal.τ).loc Cert.AdamEarlyIdeal.main_arg12) = m ((c.tc : Thread Cert.AdamEarlyIdeal.nD Cert.AdamEarlyIdeal.τ).loc Cert.AdamEarlyIdeal.main_arg12)
      ∧ r.2.mem ((c.tc : Thread Cert.AdamEarlyIdeal.nD Cert.AdamEarlyIdeal.τ).loc Cert.AdamEarlyIdeal.main_arg13) = m ((c.tc : Thread Cert.AdamEarlyIdeal.nD Cert.AdamEarlyIdeal.τ).loc Cert.AdamEarlyIdeal.main_arg13)
      ∧ r.2.mem ((c.tc : Thread Cert.AdamEarlyIdeal.nD Cert.AdamEarlyIdeal.τ).loc Cert.AdamEarlyIdeal.main_arg14) = m ((c.tc : Thread Cert.AdamEarlyIdeal.nD Cert.AdamEarlyIdeal.τ).loc Cert.AdamEarlyIdeal.main_arg14)
      ∧ r.2.mem ((c.tc : Thread Cert.AdamEarlyIdeal.nD Cert.AdamEarlyIdeal.τ).loc Cert.AdamEarlyIdeal.main_arg15) = m ((c.tc : Thread Cert.AdamEarlyIdeal.nD Cert.AdamEarlyIdeal.τ).loc Cert.AdamEarlyIdeal.main_arg15)
      ∧ r.2.mem ((c.tc : Thread Cert.AdamEarlyIdeal.nD Cert.AdamEarlyIdeal.τ).loc Cert.AdamEarlyIdeal.main_arg16) = m ((c.tc : Thread Cert.AdamEarlyIdeal.nD Cert.AdamEarlyIdeal.τ).loc Cert.AdamEarlyIdeal.main_arg16)
      ∧ r.2.mem ((c.tc : Thread Cert.AdamEarlyIdeal.nD Cert.AdamEarlyIdeal.τ).loc Cert.AdamEarlyIdeal.main_arg17) = m ((c.tc : Thread Cert.AdamEarlyIdeal.nD Cert.AdamEarlyIdeal.τ).loc Cert.AdamEarlyIdeal.main_arg17)
      ∧ r.2.mem ((c.tc : Thread Cert.AdamEarlyIdeal.nD Cert.AdamEarlyIdeal.τ).loc Cert.AdamEarlyIdeal.main_arg18) = m ((c.tc : Thread Cert.AdamEarlyIdeal.nD Cert.AdamEarlyIdeal.τ).loc Cert.AdamEarlyIdeal.main_arg18)
      ∧ r.2.mem ((c.tc : Thread Cert.AdamEarlyIdeal.nD Cert.AdamEarlyIdeal.τ).loc Cert.AdamEarlyIdeal.main_arg19) = m ((c.tc : Thread Cert.AdamEarlyIdeal.nD Cert.AdamEarlyIdeal.τ).loc Cert.AdamEarlyIdeal.main_arg19)
      ∧ r.2.mem ((c.tc : Thread Cert.AdamEarlyIdeal.nD Cert.AdamEarlyIdeal.τ).loc Cert.AdamEarlyIdeal.main_arg20) = m ((c.tc : Thread Cert.AdamEarlyIdeal.nD Cert.AdamEarlyIdeal.τ).loc Cert.AdamEarlyIdeal.main_arg20)
      ∧ r.2.mem ((c.tc : Thread Cert.AdamEarlyIdeal.nD Cert.AdamEarlyIdeal.τ).loc Cert.AdamEarlyIdeal.main_arg21) = m ((c.tc : Thread Cert.AdamEarlyIdeal.nD Cert.AdamEarlyIdeal.τ).loc Cert.AdamEarlyIdeal.main_arg21)
      ∧ r.2.mem ((c.tc : Thread Cert.AdamEarlyIdeal.nD Cert.AdamEarlyIdeal.τ).loc Cert.AdamEarlyIdeal.main_arg22) = m ((c.tc : Thread Cert.AdamEarlyIdeal.nD Cert.AdamEarlyIdeal.τ).loc Cert.AdamEarlyIdeal.main_arg22)
      ∧ r.2.mem ((c.tc : Thread Cert.AdamEarlyIdeal.nD Cert.AdamEarlyIdeal.τ).loc Cert.AdamEarlyIdeal.main_arg23) = m ((c.tc : Thread Cert.AdamEarlyIdeal.nD Cert.AdamEarlyIdeal.τ).loc Cert.AdamEarlyIdeal.main_arg23))
      ∧ r.2.sem = fun _ => 0)

def quiescent_AdamEarlyRefIdeal [hAdamEarlyRefIdeal : Cert.AdamEarlyRefIdeal.Facts] : Prop :=
  ∀ (m : (ℓ : Loc Cert.AdamEarlyRefIdeal.nD Cert.AdamEarlyRefIdeal.τ Cert.AdamEarlyRefIdeal.sig) → Buf (Elt Ideal) ℓ) (g : Dev Cert.AdamEarlyRefIdeal.nD → PrngReg), Pre_AdamEarlyRefIdeal m →
    θ_run (Cert.AdamEarlyRefIdeal.defs (F := Ideal)) (onTc (τ := Cert.AdamEarlyRefIdeal.τ) (Cert.AdamEarlyRefIdeal.main (F := Ideal))) ⟨m, fun _ => 0, g⟩ (fun r => (∀ c : Dev Cert.AdamEarlyRefIdeal.nD,
      r.2.mem ((c.tc : Thread Cert.AdamEarlyRefIdeal.nD Cert.AdamEarlyRefIdeal.τ).loc Cert.AdamEarlyRefIdeal.main_arg0) = m ((c.tc : Thread Cert.AdamEarlyRefIdeal.nD Cert.AdamEarlyRefIdeal.τ).loc Cert.AdamEarlyRefIdeal.main_arg0)
      ∧ r.2.mem ((c.tc : Thread Cert.AdamEarlyRefIdeal.nD Cert.AdamEarlyRefIdeal.τ).loc Cert.AdamEarlyRefIdeal.main_arg1) = m ((c.tc : Thread Cert.AdamEarlyRefIdeal.nD Cert.AdamEarlyRefIdeal.τ).loc Cert.AdamEarlyRefIdeal.main_arg1)
      ∧ r.2.mem ((c.tc : Thread Cert.AdamEarlyRefIdeal.nD Cert.AdamEarlyRefIdeal.τ).loc Cert.AdamEarlyRefIdeal.main_arg2) = m ((c.tc : Thread Cert.AdamEarlyRefIdeal.nD Cert.AdamEarlyRefIdeal.τ).loc Cert.AdamEarlyRefIdeal.main_arg2)
      ∧ r.2.mem ((c.tc : Thread Cert.AdamEarlyRefIdeal.nD Cert.AdamEarlyRefIdeal.τ).loc Cert.AdamEarlyRefIdeal.main_arg3) = m ((c.tc : Thread Cert.AdamEarlyRefIdeal.nD Cert.AdamEarlyRefIdeal.τ).loc Cert.AdamEarlyRefIdeal.main_arg3)
      ∧ r.2.mem ((c.tc : Thread Cert.AdamEarlyRefIdeal.nD Cert.AdamEarlyRefIdeal.τ).loc Cert.AdamEarlyRefIdeal.main_arg4) = m ((c.tc : Thread Cert.AdamEarlyRefIdeal.nD Cert.AdamEarlyRefIdeal.τ).loc Cert.AdamEarlyRefIdeal.main_arg4)
      ∧ r.2.mem ((c.tc : Thread Cert.AdamEarlyRefIdeal.nD Cert.AdamEarlyRefIdeal.τ).loc Cert.AdamEarlyRefIdeal.main_arg5) = m ((c.tc : Thread Cert.AdamEarlyRefIdeal.nD Cert.AdamEarlyRefIdeal.τ).loc Cert.AdamEarlyRefIdeal.main_arg5)
      ∧ r.2.mem ((c.tc : Thread Cert.AdamEarlyRefIdeal.nD Cert.AdamEarlyRefIdeal.τ).loc Cert.AdamEarlyRefIdeal.main_arg6) = m ((c.tc : Thread Cert.AdamEarlyRefIdeal.nD Cert.AdamEarlyRefIdeal.τ).loc Cert.AdamEarlyRefIdeal.main_arg6)
      ∧ r.2.mem ((c.tc : Thread Cert.AdamEarlyRefIdeal.nD Cert.AdamEarlyRefIdeal.τ).loc Cert.AdamEarlyRefIdeal.main_arg7) = m ((c.tc : Thread Cert.AdamEarlyRefIdeal.nD Cert.AdamEarlyRefIdeal.τ).loc Cert.AdamEarlyRefIdeal.main_arg7)
      ∧ r.2.mem ((c.tc : Thread Cert.AdamEarlyRefIdeal.nD Cert.AdamEarlyRefIdeal.τ).loc Cert.AdamEarlyRefIdeal.main_arg8) = m ((c.tc : Thread Cert.AdamEarlyRefIdeal.nD Cert.AdamEarlyRefIdeal.τ).loc Cert.AdamEarlyRefIdeal.main_arg8)
      ∧ r.2.mem ((c.tc : Thread Cert.AdamEarlyRefIdeal.nD Cert.AdamEarlyRefIdeal.τ).loc Cert.AdamEarlyRefIdeal.main_arg9) = m ((c.tc : Thread Cert.AdamEarlyRefIdeal.nD Cert.AdamEarlyRefIdeal.τ).loc Cert.AdamEarlyRefIdeal.main_arg9)
      ∧ r.2.mem ((c.tc : Thread Cert.AdamEarlyRefIdeal.nD Cert.AdamEarlyRefIdeal.τ).loc Cert.AdamEarlyRefIdeal.main_arg10) = m ((c.tc : Thread Cert.AdamEarlyRefIdeal.nD Cert.AdamEarlyRefIdeal.τ).loc Cert.AdamEarlyRefIdeal.main_arg10)
      ∧ r.2.mem ((c.tc : Thread Cert.AdamEarlyRefIdeal.nD Cert.AdamEarlyRefIdeal.τ).loc Cert.AdamEarlyRefIdeal.main_arg11) = m ((c.tc : Thread Cert.AdamEarlyRefIdeal.nD Cert.AdamEarlyRefIdeal.τ).loc Cert.AdamEarlyRefIdeal.main_arg11)
      ∧ r.2.mem ((c.tc : Thread Cert.AdamEarlyRefIdeal.nD Cert.AdamEarlyRefIdeal.τ).loc Cert.AdamEarlyRefIdeal.main_arg12) = m ((c.tc : Thread Cert.AdamEarlyRefIdeal.nD Cert.AdamEarlyRefIdeal.τ).loc Cert.AdamEarlyRefIdeal.main_arg12)
      ∧ r.2.mem ((c.tc : Thread Cert.AdamEarlyRefIdeal.nD Cert.AdamEarlyRefIdeal.τ).loc Cert.AdamEarlyRefIdeal.main_arg13) = m ((c.tc : Thread Cert.AdamEarlyRefIdeal.nD Cert.AdamEarlyRefIdeal.τ).loc Cert.AdamEarlyRefIdeal.main_arg13)
      ∧ r.2.mem ((c.tc : Thread Cert.AdamEarlyRefIdeal.nD Cert.AdamEarlyRefIdeal.τ).loc Cert.AdamEarlyRefIdeal.main_arg14) = m ((c.tc : Thread Cert.AdamEarlyRefIdeal.nD Cert.AdamEarlyRefIdeal.τ).loc Cert.AdamEarlyRefIdeal.main_arg14)
      ∧ r.2.mem ((c.tc : Thread Cert.AdamEarlyRefIdeal.nD Cert.AdamEarlyRefIdeal.τ).loc Cert.AdamEarlyRefIdeal.main_arg15) = m ((c.tc : Thread Cert.AdamEarlyRefIdeal.nD Cert.AdamEarlyRefIdeal.τ).loc Cert.AdamEarlyRefIdeal.main_arg15)
      ∧ r.2.mem ((c.tc : Thread Cert.AdamEarlyRefIdeal.nD Cert.AdamEarlyRefIdeal.τ).loc Cert.AdamEarlyRefIdeal.main_arg16) = m ((c.tc : Thread Cert.AdamEarlyRefIdeal.nD Cert.AdamEarlyRefIdeal.τ).loc Cert.AdamEarlyRefIdeal.main_arg16)
      ∧ r.2.mem ((c.tc : Thread Cert.AdamEarlyRefIdeal.nD Cert.AdamEarlyRefIdeal.τ).loc Cert.AdamEarlyRefIdeal.main_arg17) = m ((c.tc : Thread Cert.AdamEarlyRefIdeal.nD Cert.AdamEarlyRefIdeal.τ).loc Cert.AdamEarlyRefIdeal.main_arg17)
      ∧ r.2.mem ((c.tc : Thread Cert.AdamEarlyRefIdeal.nD Cert.AdamEarlyRefIdeal.τ).loc Cert.AdamEarlyRefIdeal.main_arg18) = m ((c.tc : Thread Cert.AdamEarlyRefIdeal.nD Cert.AdamEarlyRefIdeal.τ).loc Cert.AdamEarlyRefIdeal.main_arg18)
      ∧ r.2.mem ((c.tc : Thread Cert.AdamEarlyRefIdeal.nD Cert.AdamEarlyRefIdeal.τ).loc Cert.AdamEarlyRefIdeal.main_arg19) = m ((c.tc : Thread Cert.AdamEarlyRefIdeal.nD Cert.AdamEarlyRefIdeal.τ).loc Cert.AdamEarlyRefIdeal.main_arg19)
      ∧ r.2.mem ((c.tc : Thread Cert.AdamEarlyRefIdeal.nD Cert.AdamEarlyRefIdeal.τ).loc Cert.AdamEarlyRefIdeal.main_arg20) = m ((c.tc : Thread Cert.AdamEarlyRefIdeal.nD Cert.AdamEarlyRefIdeal.τ).loc Cert.AdamEarlyRefIdeal.main_arg20)
      ∧ r.2.mem ((c.tc : Thread Cert.AdamEarlyRefIdeal.nD Cert.AdamEarlyRefIdeal.τ).loc Cert.AdamEarlyRefIdeal.main_arg21) = m ((c.tc : Thread Cert.AdamEarlyRefIdeal.nD Cert.AdamEarlyRefIdeal.τ).loc Cert.AdamEarlyRefIdeal.main_arg21)
      ∧ r.2.mem ((c.tc : Thread Cert.AdamEarlyRefIdeal.nD Cert.AdamEarlyRefIdeal.τ).loc Cert.AdamEarlyRefIdeal.main_arg22) = m ((c.tc : Thread Cert.AdamEarlyRefIdeal.nD Cert.AdamEarlyRefIdeal.τ).loc Cert.AdamEarlyRefIdeal.main_arg22)
      ∧ r.2.mem ((c.tc : Thread Cert.AdamEarlyRefIdeal.nD Cert.AdamEarlyRefIdeal.τ).loc Cert.AdamEarlyRefIdeal.main_arg23) = m ((c.tc : Thread Cert.AdamEarlyRefIdeal.nD Cert.AdamEarlyRefIdeal.τ).loc Cert.AdamEarlyRefIdeal.main_arg23))
      ∧ r.2.sem = fun _ => 0)

def quiescent_AdamWaOut [hAdamWaOut : Cert.AdamWaOut.Facts] [hPre_indices_in_range : Cert.Pre_indices_in_range.Facts] : Prop :=
  ∀ (m : (ℓ : Loc Cert.AdamWaOut.nD Cert.AdamWaOut.τ Cert.AdamWaOut.sig) → Buf (Elt Bits) ℓ) (g : Dev Cert.AdamWaOut.nD → PrngReg), Pre_AdamWaOut m →
    θ_run (Cert.AdamWaOut.defs (F := Bits)) (onTc (τ := Cert.AdamWaOut.τ) (Cert.AdamWaOut.main (F := Bits))) ⟨m, fun _ => 0, g⟩ (fun r => (∀ c : Dev Cert.AdamWaOut.nD,
      r.2.mem ((c.tc : Thread Cert.AdamWaOut.nD Cert.AdamWaOut.τ).loc Cert.AdamWaOut.main_arg0) = m ((c.tc : Thread Cert.AdamWaOut.nD Cert.AdamWaOut.τ).loc Cert.AdamWaOut.main_arg0)
      ∧ r.2.mem ((c.tc : Thread Cert.AdamWaOut.nD Cert.AdamWaOut.τ).loc Cert.AdamWaOut.main_arg1) = m ((c.tc : Thread Cert.AdamWaOut.nD Cert.AdamWaOut.τ).loc Cert.AdamWaOut.main_arg1)
      ∧ r.2.mem ((c.tc : Thread Cert.AdamWaOut.nD Cert.AdamWaOut.τ).loc Cert.AdamWaOut.main_arg2) = m ((c.tc : Thread Cert.AdamWaOut.nD Cert.AdamWaOut.τ).loc Cert.AdamWaOut.main_arg2)
      ∧ r.2.mem ((c.tc : Thread Cert.AdamWaOut.nD Cert.AdamWaOut.τ).loc Cert.AdamWaOut.main_arg3) = m ((c.tc : Thread Cert.AdamWaOut.nD Cert.AdamWaOut.τ).loc Cert.AdamWaOut.main_arg3)
      ∧ r.2.mem ((c.tc : Thread Cert.AdamWaOut.nD Cert.AdamWaOut.τ).loc Cert.AdamWaOut.main_arg4) = m ((c.tc : Thread Cert.AdamWaOut.nD Cert.AdamWaOut.τ).loc Cert.AdamWaOut.main_arg4)
      ∧ r.2.mem ((c.tc : Thread Cert.AdamWaOut.nD Cert.AdamWaOut.τ).loc Cert.AdamWaOut.main_arg5) = m ((c.tc : Thread Cert.AdamWaOut.nD Cert.AdamWaOut.τ).loc Cert.AdamWaOut.main_arg5)
      ∧ r.2.mem ((c.tc : Thread Cert.AdamWaOut.nD Cert.AdamWaOut.τ).loc Cert.AdamWaOut.main_arg6) = m ((c.tc : Thread Cert.AdamWaOut.nD Cert.AdamWaOut.τ).loc Cert.AdamWaOut.main_arg6))
      ∧ r.2.sem = fun _ => 0)

def quiescent_AdamWaOutIdeal [hAdamWaOutIdeal : Cert.AdamWaOutIdeal.Facts] [hPre_indices_in_range : Cert.Pre_indices_in_range.Facts] : Prop :=
  ∀ (m : (ℓ : Loc Cert.AdamWaOutIdeal.nD Cert.AdamWaOutIdeal.τ Cert.AdamWaOutIdeal.sig) → Buf (Elt Ideal) ℓ) (g : Dev Cert.AdamWaOutIdeal.nD → PrngReg), Pre_AdamWaOutIdeal m →
    θ_run (Cert.AdamWaOutIdeal.defs (F := Ideal)) (onTc (τ := Cert.AdamWaOutIdeal.τ) (Cert.AdamWaOutIdeal.main (F := Ideal))) ⟨m, fun _ => 0, g⟩ (fun r => (∀ c : Dev Cert.AdamWaOutIdeal.nD,
      r.2.mem ((c.tc : Thread Cert.AdamWaOutIdeal.nD Cert.AdamWaOutIdeal.τ).loc Cert.AdamWaOutIdeal.main_arg0) = m ((c.tc : Thread Cert.AdamWaOutIdeal.nD Cert.AdamWaOutIdeal.τ).loc Cert.AdamWaOutIdeal.main_arg0)
      ∧ r.2.mem ((c.tc : Thread Cert.AdamWaOutIdeal.nD Cert.AdamWaOutIdeal.τ).loc Cert.AdamWaOutIdeal.main_arg1) = m ((c.tc : Thread Cert.AdamWaOutIdeal.nD Cert.AdamWaOutIdeal.τ).loc Cert.AdamWaOutIdeal.main_arg1)
      ∧ r.2.mem ((c.tc : Thread Cert.AdamWaOutIdeal.nD Cert.AdamWaOutIdeal.τ).loc Cert.AdamWaOutIdeal.main_arg2) = m ((c.tc : Thread Cert.AdamWaOutIdeal.nD Cert.AdamWaOutIdeal.τ).loc Cert.AdamWaOutIdeal.main_arg2)
      ∧ r.2.mem ((c.tc : Thread Cert.AdamWaOutIdeal.nD Cert.AdamWaOutIdeal.τ).loc Cert.AdamWaOutIdeal.main_arg3) = m ((c.tc : Thread Cert.AdamWaOutIdeal.nD Cert.AdamWaOutIdeal.τ).loc Cert.AdamWaOutIdeal.main_arg3)
      ∧ r.2.mem ((c.tc : Thread Cert.AdamWaOutIdeal.nD Cert.AdamWaOutIdeal.τ).loc Cert.AdamWaOutIdeal.main_arg4) = m ((c.tc : Thread Cert.AdamWaOutIdeal.nD Cert.AdamWaOutIdeal.τ).loc Cert.AdamWaOutIdeal.main_arg4)
      ∧ r.2.mem ((c.tc : Thread Cert.AdamWaOutIdeal.nD Cert.AdamWaOutIdeal.τ).loc Cert.AdamWaOutIdeal.main_arg5) = m ((c.tc : Thread Cert.AdamWaOutIdeal.nD Cert.AdamWaOutIdeal.τ).loc Cert.AdamWaOutIdeal.main_arg5)
      ∧ r.2.mem ((c.tc : Thread Cert.AdamWaOutIdeal.nD Cert.AdamWaOutIdeal.τ).loc Cert.AdamWaOutIdeal.main_arg6) = m ((c.tc : Thread Cert.AdamWaOutIdeal.nD Cert.AdamWaOutIdeal.τ).loc Cert.AdamWaOutIdeal.main_arg6))
      ∧ r.2.sem = fun _ => 0)

def quiescent_AdamWaOutRefIdeal [hAdamWaOutRefIdeal : Cert.AdamWaOutRefIdeal.Facts] : Prop :=
  ∀ (m : (ℓ : Loc Cert.AdamWaOutRefIdeal.nD Cert.AdamWaOutRefIdeal.τ Cert.AdamWaOutRefIdeal.sig) → Buf (Elt Ideal) ℓ) (g : Dev Cert.AdamWaOutRefIdeal.nD → PrngReg), Pre_AdamWaOutRefIdeal m →
    θ_run (Cert.AdamWaOutRefIdeal.defs (F := Ideal)) (onTc (τ := Cert.AdamWaOutRefIdeal.τ) (Cert.AdamWaOutRefIdeal.main (F := Ideal))) ⟨m, fun _ => 0, g⟩ (fun r => (∀ c : Dev Cert.AdamWaOutRefIdeal.nD,
      r.2.mem ((c.tc : Thread Cert.AdamWaOutRefIdeal.nD Cert.AdamWaOutRefIdeal.τ).loc Cert.AdamWaOutRefIdeal.main_arg0) = m ((c.tc : Thread Cert.AdamWaOutRefIdeal.nD Cert.AdamWaOutRefIdeal.τ).loc Cert.AdamWaOutRefIdeal.main_arg0)
      ∧ r.2.mem ((c.tc : Thread Cert.AdamWaOutRefIdeal.nD Cert.AdamWaOutRefIdeal.τ).loc Cert.AdamWaOutRefIdeal.main_arg1) = m ((c.tc : Thread Cert.AdamWaOutRefIdeal.nD Cert.AdamWaOutRefIdeal.τ).loc Cert.AdamWaOutRefIdeal.main_arg1)
      ∧ r.2.mem ((c.tc : Thread Cert.AdamWaOutRefIdeal.nD Cert.AdamWaOutRefIdeal.τ).loc Cert.AdamWaOutRefIdeal.main_arg2) = m ((c.tc : Thread Cert.AdamWaOutRefIdeal.nD Cert.AdamWaOutRefIdeal.τ).loc Cert.AdamWaOutRefIdeal.main_arg2)
      ∧ r.2.mem ((c.tc : Thread Cert.AdamWaOutRefIdeal.nD Cert.AdamWaOutRefIdeal.τ).loc Cert.AdamWaOutRefIdeal.main_arg3) = m ((c.tc : Thread Cert.AdamWaOutRefIdeal.nD Cert.AdamWaOutRefIdeal.τ).loc Cert.AdamWaOutRefIdeal.main_arg3)
      ∧ r.2.mem ((c.tc : Thread Cert.AdamWaOutRefIdeal.nD Cert.AdamWaOutRefIdeal.τ).loc Cert.AdamWaOutRefIdeal.main_arg4) = m ((c.tc : Thread Cert.AdamWaOutRefIdeal.nD Cert.AdamWaOutRefIdeal.τ).loc Cert.AdamWaOutRefIdeal.main_arg4)
      ∧ r.2.mem ((c.tc : Thread Cert.AdamWaOutRefIdeal.nD Cert.AdamWaOutRefIdeal.τ).loc Cert.AdamWaOutRefIdeal.main_arg5) = m ((c.tc : Thread Cert.AdamWaOutRefIdeal.nD Cert.AdamWaOutRefIdeal.τ).loc Cert.AdamWaOutRefIdeal.main_arg5)
      ∧ r.2.mem ((c.tc : Thread Cert.AdamWaOutRefIdeal.nD Cert.AdamWaOutRefIdeal.τ).loc Cert.AdamWaOutRefIdeal.main_arg6) = m ((c.tc : Thread Cert.AdamWaOutRefIdeal.nD Cert.AdamWaOutRefIdeal.τ).loc Cert.AdamWaOutRefIdeal.main_arg6))
      ∧ r.2.sem = fun _ => 0)

def quiescent_AdamWaOutRefIdeal_pre_indices_in_range [hAdamWaOutRefIdeal : Cert.AdamWaOutRefIdeal.Facts] [hPre_indices_in_range : Cert.Pre_indices_in_range.Facts] : Prop :=
  ∀ (m : (ℓ : Loc Cert.AdamWaOutRefIdeal.nD Cert.AdamWaOutRefIdeal.τ Cert.AdamWaOutRefIdeal.sig) → Buf (Elt Ideal) ℓ) (g : Dev Cert.AdamWaOutRefIdeal.nD → PrngReg), Pre_AdamWaOutRefIdeal_indices_in_range m →
    θ_run (Cert.AdamWaOutRefIdeal.defs (F := Ideal)) (onTc (τ := Cert.AdamWaOutRefIdeal.τ) (Cert.AdamWaOutRefIdeal.main (F := Ideal))) ⟨m, fun _ => 0, g⟩ (fun r => (∀ c : Dev Cert.AdamWaOutRefIdeal.nD,
      r.2.mem ((c.tc : Thread Cert.AdamWaOutRefIdeal.nD Cert.AdamWaOutRefIdeal.τ).loc Cert.AdamWaOutRefIdeal.main_arg0) = m ((c.tc : Thread Cert.AdamWaOutRefIdeal.nD Cert.AdamWaOutRefIdeal.τ).loc Cert.AdamWaOutRefIdeal.main_arg0)
      ∧ r.2.mem ((c.tc : Thread Cert.AdamWaOutRefIdeal.nD Cert.AdamWaOutRefIdeal.τ).loc Cert.AdamWaOutRefIdeal.main_arg1) = m ((c.tc : Thread Cert.AdamWaOutRefIdeal.nD Cert.AdamWaOutRefIdeal.τ).loc Cert.AdamWaOutRefIdeal.main_arg1)
      ∧ r.2.mem ((c.tc : Thread Cert.AdamWaOutRefIdeal.nD Cert.AdamWaOutRefIdeal.τ).loc Cert.AdamWaOutRefIdeal.main_arg2) = m ((c.tc : Thread Cert.AdamWaOutRefIdeal.nD Cert.AdamWaOutRefIdeal.τ).loc Cert.AdamWaOutRefIdeal.main_arg2)
      ∧ r.2.mem ((c.tc : Thread Cert.AdamWaOutRefIdeal.nD Cert.AdamWaOutRefIdeal.τ).loc Cert.AdamWaOutRefIdeal.main_arg3) = m ((c.tc : Thread Cert.AdamWaOutRefIdeal.nD Cert.AdamWaOutRefIdeal.τ).loc Cert.AdamWaOutRefIdeal.main_arg3)
      ∧ r.2.mem ((c.tc : Thread Cert.AdamWaOutRefIdeal.nD Cert.AdamWaOutRefIdeal.τ).loc Cert.AdamWaOutRefIdeal.main_arg4) = m ((c.tc : Thread Cert.AdamWaOutRefIdeal.nD Cert.AdamWaOutRefIdeal.τ).loc Cert.AdamWaOutRefIdeal.main_arg4)
      ∧ r.2.mem ((c.tc : Thread Cert.AdamWaOutRefIdeal.nD Cert.AdamWaOutRefIdeal.τ).loc Cert.AdamWaOutRefIdeal.main_arg5) = m ((c.tc : Thread Cert.AdamWaOutRefIdeal.nD Cert.AdamWaOutRefIdeal.τ).loc Cert.AdamWaOutRefIdeal.main_arg5)
      ∧ r.2.mem ((c.tc : Thread Cert.AdamWaOutRefIdeal.nD Cert.AdamWaOutRefIdeal.τ).loc Cert.AdamWaOutRefIdeal.main_arg6) = m ((c.tc : Thread Cert.AdamWaOutRefIdeal.nD Cert.AdamWaOutRefIdeal.τ).loc Cert.AdamWaOutRefIdeal.main_arg6))
      ∧ r.2.sem = fun _ => 0)

def preserves_Kernel_KernelIdeal : Prop :=
  IdealRules.named_const.Statement Cert.KernelIdeal.κ "gelu_3ac" .f32 0x3DDB33B6#32 ((241015141496493 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v151) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v153) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DhB_DhBIdeal : Prop :=
  True

def algebraic_DhBIdeal_DhBRefIdeal [hDhBIdeal : Cert.DhBIdeal.Facts] [hDhBRefIdeal : Cert.DhBRefIdeal.Facts] : Prop :=
  ∀ (m : (ℓ : Loc Cert.DhBIdeal.nD Cert.DhBIdeal.τ Cert.DhBIdeal.sig) → Buf (Elt Ideal) ℓ) (g : Dev Cert.DhBIdeal.nD → PrngReg)
    (m' : (ℓ : Loc Cert.DhBRefIdeal.nD Cert.DhBRefIdeal.τ Cert.DhBRefIdeal.sig) → Buf (Elt Ideal) ℓ) (g' : Dev Cert.DhBRefIdeal.nD → PrngReg), Pre_DhBIdeal m →
    (∀ c : Dev Cert.DhBIdeal.nD,
      m' ((c.tc : Thread Cert.DhBRefIdeal.nD Cert.DhBRefIdeal.τ).loc Cert.DhBRefIdeal.main_arg0) = m ((c.tc : Thread Cert.DhBIdeal.nD Cert.DhBIdeal.τ).loc Cert.DhBIdeal.main_arg0)
      ∧ m' ((c.tc : Thread Cert.DhBRefIdeal.nD Cert.DhBRefIdeal.τ).loc Cert.DhBRefIdeal.main_arg1) = m ((c.tc : Thread Cert.DhBIdeal.nD Cert.DhBIdeal.τ).loc Cert.DhBIdeal.main_arg1)
      ∧ m' ((c.tc : Thread Cert.DhBRefIdeal.nD Cert.DhBRefIdeal.τ).loc Cert.DhBRefIdeal.main_arg2) = m ((c.tc : Thread Cert.DhBIdeal.nD Cert.DhBIdeal.τ).loc Cert.DhBIdeal.main_arg2)) →
    ∃ (v0 : (c : Dev Cert.DhBIdeal.nD) → Buf (Elt Ideal) ((c.tc : Thread Cert.DhBIdeal.nD Cert.DhBIdeal.τ).loc Cert.DhBIdeal.main_v0)),
      θ_run (Cert.DhBIdeal.defs (F := Ideal)) (onTc (τ := Cert.DhBIdeal.τ) (Cert.DhBIdeal.main (F := Ideal))) ⟨m, fun _ => 0, g⟩ (fun r => ∀ c : Dev Cert.DhBIdeal.nD,
          r.2.mem ((c.tc : Thread Cert.DhBIdeal.nD Cert.DhBIdeal.τ).loc Cert.DhBIdeal.main_v0) = v0 c
          ∧ r.2.mem ((c.tc : Thread Cert.DhBIdeal.nD Cert.DhBIdeal.τ).loc Cert.DhBIdeal.main_arg0) = m ((c.tc : Thread Cert.DhBIdeal.nD Cert.DhBIdeal.τ).loc Cert.DhBIdeal.main_arg0)
          ∧ r.2.mem ((c.tc : Thread Cert.DhBIdeal.nD Cert.DhBIdeal.τ).loc Cert.DhBIdeal.main_arg1) = m ((c.tc : Thread Cert.DhBIdeal.nD Cert.DhBIdeal.τ).loc Cert.DhBIdeal.main_arg1)
          ∧ r.2.mem ((c.tc : Thread Cert.DhBIdeal.nD Cert.DhBIdeal.τ).loc Cert.DhBIdeal.main_arg2) = m ((c.tc : Thread Cert.DhBIdeal.nD Cert.DhBIdeal.τ).loc Cert.DhBIdeal.main_arg2))
      ∧ θ_run (Cert.DhBRefIdeal.defs (F := Ideal)) (onTc (τ := Cert.DhBRefIdeal.τ) (Cert.DhBRefIdeal.main (F := Ideal))) ⟨m', fun _ => 0, g'⟩ (fun r => ∀ c : Dev Cert.DhBRefIdeal.nD,
          r.2.mem ((c.tc : Thread Cert.DhBRefIdeal.nD Cert.DhBRefIdeal.τ).loc Cert.DhBRefIdeal.main_v9) = v0 c
          ∧ r.2.mem ((c.tc : Thread Cert.DhBRefIdeal.nD Cert.DhBRefIdeal.τ).loc Cert.DhBRefIdeal.main_arg0) = m' ((c.tc : Thread Cert.DhBRefIdeal.nD Cert.DhBRefIdeal.τ).loc Cert.DhBRefIdeal.main_arg0)
          ∧ r.2.mem ((c.tc : Thread Cert.DhBRefIdeal.nD Cert.DhBRefIdeal.τ).loc Cert.DhBRefIdeal.main_arg1) = m' ((c.tc : Thread Cert.DhBRefIdeal.nD Cert.DhBRefIdeal.τ).loc Cert.DhBRefIdeal.main_arg1)
          ∧ r.2.mem ((c.tc : Thread Cert.DhBRefIdeal.nD Cert.DhBRefIdeal.τ).loc Cert.DhBRefIdeal.main_arg2) = m' ((c.tc : Thread Cert.DhBRefIdeal.nD Cert.DhBRefIdeal.τ).loc Cert.DhBRefIdeal.main_arg2))

def preserves_DwInB_DwInBIdeal : Prop :=
  True

def algebraic_DwInBIdeal_DwInBRefIdeal [hDwInBIdeal : Cert.DwInBIdeal.Facts] [hDwInBRefIdeal : Cert.DwInBRefIdeal.Facts] : Prop :=
  ∀ (m : (ℓ : Loc Cert.DwInBIdeal.nD Cert.DwInBIdeal.τ Cert.DwInBIdeal.sig) → Buf (Elt Ideal) ℓ) (g : Dev Cert.DwInBIdeal.nD → PrngReg)
    (m' : (ℓ : Loc Cert.DwInBRefIdeal.nD Cert.DwInBRefIdeal.τ Cert.DwInBRefIdeal.sig) → Buf (Elt Ideal) ℓ) (g' : Dev Cert.DwInBRefIdeal.nD → PrngReg), Pre_DwInBIdeal m →
    (∀ c : Dev Cert.DwInBIdeal.nD,
      m' ((c.tc : Thread Cert.DwInBRefIdeal.nD Cert.DwInBRefIdeal.τ).loc Cert.DwInBRefIdeal.main_arg0) = m ((c.tc : Thread Cert.DwInBIdeal.nD Cert.DwInBIdeal.τ).loc Cert.DwInBIdeal.main_arg0)
      ∧ m' ((c.tc : Thread Cert.DwInBRefIdeal.nD Cert.DwInBRefIdeal.τ).loc Cert.DwInBRefIdeal.main_arg1) = m ((c.tc : Thread Cert.DwInBIdeal.nD Cert.DwInBIdeal.τ).loc Cert.DwInBIdeal.main_arg1)) →
    ∃ (v0 : (c : Dev Cert.DwInBIdeal.nD) → Buf (Elt Ideal) ((c.tc : Thread Cert.DwInBIdeal.nD Cert.DwInBIdeal.τ).loc Cert.DwInBIdeal.main_v0)),
      θ_run (Cert.DwInBIdeal.defs (F := Ideal)) (onTc (τ := Cert.DwInBIdeal.τ) (Cert.DwInBIdeal.main (F := Ideal))) ⟨m, fun _ => 0, g⟩ (fun r => ∀ c : Dev Cert.DwInBIdeal.nD,
          r.2.mem ((c.tc : Thread Cert.DwInBIdeal.nD Cert.DwInBIdeal.τ).loc Cert.DwInBIdeal.main_v0) = v0 c
          ∧ r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
          ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1))
      ∧ θ_run (Cert.DwInBRefIdeal.defs (F := Ideal)) (onTc (τ := Cert.DwInBRefIdeal.τ) (Cert.DwInBRefIdeal.main (F := Ideal))) ⟨m', fun _ => 0, g'⟩ (fun r => ∀ c : Dev Cert.DwInBRefIdeal.nD,
          r.2.mem ((c.tc : Thread Cert.DwInBRefIdeal.nD Cert.DwInBRefIdeal.τ).loc Cert.DwInBRefIdeal.main_v10) = v0 c
          ∧ r.2.mem ((c.tc : Thread Cert.DwInBRefIdeal.nD Cert.DwInBRefIdeal.τ).loc Cert.DwInBRefIdeal.main_arg0) = m' ((c.tc : Thread Cert.DwInBRefIdeal.nD Cert.DwInBRefIdeal.τ).loc Cert.DwInBRefIdeal.main_arg0)
          ∧ r.2.mem ((c.tc : Thread Cert.DwInBRefIdeal.nD Cert.DwInBRefIdeal.τ).loc Cert.DwInBRefIdeal.main_arg1) = m' ((c.tc : Thread Cert.DwInBRefIdeal.nD Cert.DwInBRefIdeal.τ).loc Cert.DwInBRefIdeal.main_arg1))

def preserves_DhA_DhAIdeal : Prop :=
  True

def algebraic_DhAIdeal_DhARefIdeal [hDhAIdeal : Cert.DhAIdeal.Facts] [hDhARefIdeal : Cert.DhARefIdeal.Facts] : Prop :=
  ∀ (m : (ℓ : Loc Cert.DhAIdeal.nD Cert.DhAIdeal.τ Cert.DhAIdeal.sig) → Buf (Elt Ideal) ℓ) (g : Dev Cert.DhAIdeal.nD → PrngReg)
    (m' : (ℓ : Loc Cert.DhARefIdeal.nD Cert.DhARefIdeal.τ Cert.DhARefIdeal.sig) → Buf (Elt Ideal) ℓ) (g' : Dev Cert.DhARefIdeal.nD → PrngReg), Pre_DhAIdeal m →
    (∀ c : Dev Cert.DhAIdeal.nD,
      m' ((c.tc : Thread Cert.DhARefIdeal.nD Cert.DhARefIdeal.τ).loc Cert.DhARefIdeal.main_arg0) = m ((c.tc : Thread Cert.DhAIdeal.nD Cert.DhAIdeal.τ).loc Cert.DhAIdeal.main_arg0)
      ∧ m' ((c.tc : Thread Cert.DhARefIdeal.nD Cert.DhARefIdeal.τ).loc Cert.DhARefIdeal.main_arg1) = m ((c.tc : Thread Cert.DhAIdeal.nD Cert.DhAIdeal.τ).loc Cert.DhAIdeal.main_arg1)
      ∧ m' ((c.tc : Thread Cert.DhARefIdeal.nD Cert.DhARefIdeal.τ).loc Cert.DhARefIdeal.main_arg2) = m ((c.tc : Thread Cert.DhAIdeal.nD Cert.DhAIdeal.τ).loc Cert.DhAIdeal.main_arg2)) →
    ∃ (v0 : (c : Dev Cert.DhAIdeal.nD) → Buf (Elt Ideal) ((c.tc : Thread Cert.DhAIdeal.nD Cert.DhAIdeal.τ).loc Cert.DhAIdeal.main_v0)),
      θ_run (Cert.DhAIdeal.defs (F := Ideal)) (onTc (τ := Cert.DhAIdeal.τ) (Cert.DhAIdeal.main (F := Ideal))) ⟨m, fun _ => 0, g⟩ (fun r => ∀ c : Dev Cert.DhAIdeal.nD,
          r.2.mem ((c.tc : Thread Cert.DhAIdeal.nD Cert.DhAIdeal.τ).loc Cert.DhAIdeal.main_v0) = v0 c
          ∧ r.2.mem ((c.tc : Thread Cert.DhAIdeal.nD Cert.DhAIdeal.τ).loc Cert.DhAIdeal.main_arg0) = m ((c.tc : Thread Cert.DhAIdeal.nD Cert.DhAIdeal.τ).loc Cert.DhAIdeal.main_arg0)
          ∧ r.2.mem ((c.tc : Thread Cert.DhAIdeal.nD Cert.DhAIdeal.τ).loc Cert.DhAIdeal.main_arg1) = m ((c.tc : Thread Cert.DhAIdeal.nD Cert.DhAIdeal.τ).loc Cert.DhAIdeal.main_arg1)
          ∧ r.2.mem ((c.tc : Thread Cert.DhAIdeal.nD Cert.DhAIdeal.τ).loc Cert.DhAIdeal.main_arg2) = m ((c.tc : Thread Cert.DhAIdeal.nD Cert.DhAIdeal.τ).loc Cert.DhAIdeal.main_arg2))
      ∧ θ_run (Cert.DhARefIdeal.defs (F := Ideal)) (onTc (τ := Cert.DhARefIdeal.τ) (Cert.DhARefIdeal.main (F := Ideal))) ⟨m', fun _ => 0, g'⟩ (fun r => ∀ c : Dev Cert.DhARefIdeal.nD,
          r.2.mem ((c.tc : Thread Cert.DhARefIdeal.nD Cert.DhARefIdeal.τ).loc Cert.DhARefIdeal.main_v9) = v0 c
          ∧ r.2.mem ((c.tc : Thread Cert.DhARefIdeal.nD Cert.DhARefIdeal.τ).loc Cert.DhARefIdeal.main_arg0) = m' ((c.tc : Thread Cert.DhARefIdeal.nD Cert.DhARefIdeal.τ).loc Cert.DhARefIdeal.main_arg0)
          ∧ r.2.mem ((c.tc : Thread Cert.DhARefIdeal.nD Cert.DhARefIdeal.τ).loc Cert.DhARefIdeal.main_arg1) = m' ((c.tc : Thread Cert.DhARefIdeal.nD Cert.DhARefIdeal.τ).loc Cert.DhARefIdeal.main_arg1)
          ∧ r.2.mem ((c.tc : Thread Cert.DhARefIdeal.nD Cert.DhARefIdeal.τ).loc Cert.DhARefIdeal.main_arg2) = m' ((c.tc : Thread Cert.DhARefIdeal.nD Cert.DhARefIdeal.τ).loc Cert.DhARefIdeal.main_arg2))

def preserves_DwInA_DwInAIdeal : Prop :=
  True

def algebraic_DwInAIdeal_DwInARefIdeal [hDwInAIdeal : Cert.DwInAIdeal.Facts] [hDwInARefIdeal : Cert.DwInARefIdeal.Facts] : Prop :=
  ∀ (m : (ℓ : Loc Cert.DwInAIdeal.nD Cert.DwInAIdeal.τ Cert.DwInAIdeal.sig) → Buf (Elt Ideal) ℓ) (g : Dev Cert.DwInAIdeal.nD → PrngReg)
    (m' : (ℓ : Loc Cert.DwInARefIdeal.nD Cert.DwInARefIdeal.τ Cert.DwInARefIdeal.sig) → Buf (Elt Ideal) ℓ) (g' : Dev Cert.DwInARefIdeal.nD → PrngReg), Pre_DwInAIdeal m →
    (∀ c : Dev Cert.DwInAIdeal.nD,
      m' ((c.tc : Thread Cert.DwInARefIdeal.nD Cert.DwInARefIdeal.τ).loc Cert.DwInARefIdeal.main_arg0) = m ((c.tc : Thread Cert.DwInAIdeal.nD Cert.DwInAIdeal.τ).loc Cert.DwInAIdeal.main_arg0)
      ∧ m' ((c.tc : Thread Cert.DwInARefIdeal.nD Cert.DwInARefIdeal.τ).loc Cert.DwInARefIdeal.main_arg1) = m ((c.tc : Thread Cert.DwInAIdeal.nD Cert.DwInAIdeal.τ).loc Cert.DwInAIdeal.main_arg1)) →
    ∃ (v0 : (c : Dev Cert.DwInAIdeal.nD) → Buf (Elt Ideal) ((c.tc : Thread Cert.DwInAIdeal.nD Cert.DwInAIdeal.τ).loc Cert.DwInAIdeal.main_v0)),
      θ_run (Cert.DwInAIdeal.defs (F := Ideal)) (onTc (τ := Cert.DwInAIdeal.τ) (Cert.DwInAIdeal.main (F := Ideal))) ⟨m, fun _ => 0, g⟩ (fun r => ∀ c : Dev Cert.DwInAIdeal.nD,
          r.2.mem ((c.tc : Thread Cert.DwInAIdeal.nD Cert.DwInAIdeal.τ).loc Cert.DwInAIdeal.main_v0) = v0 c
          ∧ r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
          ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1))
      ∧ θ_run (Cert.DwInARefIdeal.defs (F := Ideal)) (onTc (τ := Cert.DwInARefIdeal.τ) (Cert.DwInARefIdeal.main (F := Ideal))) ⟨m', fun _ => 0, g'⟩ (fun r => ∀ c : Dev Cert.DwInARefIdeal.nD,
          r.2.mem ((c.tc : Thread Cert.DwInARefIdeal.nD Cert.DwInARefIdeal.τ).loc Cert.DwInARefIdeal.main_v8) = v0 c
          ∧ r.2.mem ((c.tc : Thread Cert.DwInARefIdeal.nD Cert.DwInARefIdeal.τ).loc Cert.DwInARefIdeal.main_arg0) = m' ((c.tc : Thread Cert.DwInARefIdeal.nD Cert.DwInARefIdeal.τ).loc Cert.DwInARefIdeal.main_arg0)
          ∧ r.2.mem ((c.tc : Thread Cert.DwInARefIdeal.nD Cert.DwInARefIdeal.τ).loc Cert.DwInARefIdeal.main_arg1) = m' ((c.tc : Thread Cert.DwInARefIdeal.nD Cert.DwInARefIdeal.τ).loc Cert.DwInARefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Dybr_DybrIdeal : Prop :=
  True

def algebraic_DybrIdeal_DybrRefIdeal [hDybrIdeal : Cert.DybrIdeal.Facts] [hDybrRefIdeal : Cert.DybrRefIdeal.Facts] : Prop :=
  ∀ (m : (ℓ : Loc Cert.DybrIdeal.nD Cert.DybrIdeal.τ Cert.DybrIdeal.sig) → Buf (Elt Ideal) ℓ) (g : Dev Cert.DybrIdeal.nD → PrngReg)
    (m' : (ℓ : Loc Cert.DybrRefIdeal.nD Cert.DybrRefIdeal.τ Cert.DybrRefIdeal.sig) → Buf (Elt Ideal) ℓ) (g' : Dev Cert.DybrRefIdeal.nD → PrngReg), Pre_DybrIdeal m →
    (∀ c : Dev Cert.DybrIdeal.nD,
      m' ((c.tc : Thread Cert.DybrRefIdeal.nD Cert.DybrRefIdeal.τ).loc Cert.DybrRefIdeal.main_arg0) = m ((c.tc : Thread Cert.DybrIdeal.nD Cert.DybrIdeal.τ).loc Cert.DybrIdeal.main_arg0)
      ∧ m' ((c.tc : Thread Cert.DybrRefIdeal.nD Cert.DybrRefIdeal.τ).loc Cert.DybrRefIdeal.main_arg1) = m ((c.tc : Thread Cert.DybrIdeal.nD Cert.DybrIdeal.τ).loc Cert.DybrIdeal.main_arg1)
      ∧ m' ((c.tc : Thread Cert.DybrRefIdeal.nD Cert.DybrRefIdeal.τ).loc Cert.DybrRefIdeal.main_arg2) = m ((c.tc : Thread Cert.DybrIdeal.nD Cert.DybrIdeal.τ).loc Cert.DybrIdeal.main_arg2)
      ∧ m' ((c.tc : Thread Cert.DybrRefIdeal.nD Cert.DybrRefIdeal.τ).loc Cert.DybrRefIdeal.main_arg3) = m ((c.tc : Thread Cert.DybrIdeal.nD Cert.DybrIdeal.τ).loc Cert.DybrIdeal.main_arg3)) →
    ∃ (v0 : (c : Dev Cert.DybrIdeal.nD) → Buf (Elt Ideal) ((c.tc : Thread Cert.DybrIdeal.nD Cert.DybrIdeal.τ).loc Cert.DybrIdeal.main_v1_0)) (v1 : (c : Dev Cert.DybrIdeal.nD) → Buf (Elt Ideal) ((c.tc : Thread Cert.DybrIdeal.nD Cert.DybrIdeal.τ).loc Cert.DybrIdeal.main_v1_1)) (v2 : (c : Dev Cert.DybrIdeal.nD) → Buf (Elt Ideal) ((c.tc : Thread Cert.DybrIdeal.nD Cert.DybrIdeal.τ).loc Cert.DybrIdeal.main_v1_2)),
      θ_run (Cert.DybrIdeal.defs (F := Ideal)) (onTc (τ := Cert.DybrIdeal.τ) (Cert.DybrIdeal.main (F := Ideal))) ⟨m, fun _ => 0, g⟩ (fun r => ∀ c : Dev Cert.DybrIdeal.nD,
          r.2.mem ((c.tc : Thread Cert.DybrIdeal.nD Cert.DybrIdeal.τ).loc Cert.DybrIdeal.main_v1_0) = v0 c
          ∧ r.2.mem ((c.tc : Thread Cert.DybrIdeal.nD Cert.DybrIdeal.τ).loc Cert.DybrIdeal.main_v1_1) = v1 c
          ∧ r.2.mem ((c.tc : Thread Cert.DybrIdeal.nD Cert.DybrIdeal.τ).loc Cert.DybrIdeal.main_v1_2) = v2 c
          ∧ r.2.mem ((c.tc : Thread Cert.DybrIdeal.nD Cert.DybrIdeal.τ).loc Cert.DybrIdeal.main_arg0) = m ((c.tc : Thread Cert.DybrIdeal.nD Cert.DybrIdeal.τ).loc Cert.DybrIdeal.main_arg0)
          ∧ r.2.mem ((c.tc : Thread Cert.DybrIdeal.nD Cert.DybrIdeal.τ).loc Cert.DybrIdeal.main_arg1) = m ((c.tc : Thread Cert.DybrIdeal.nD Cert.DybrIdeal.τ).loc Cert.DybrIdeal.main_arg1)
          ∧ r.2.mem ((c.tc : Thread Cert.DybrIdeal.nD Cert.DybrIdeal.τ).loc Cert.DybrIdeal.main_arg2) = m ((c.tc : Thread Cert.DybrIdeal.nD Cert.DybrIdeal.τ).loc Cert.DybrIdeal.main_arg2)
          ∧ r.2.mem ((c.tc : Thread Cert.DybrIdeal.nD Cert.DybrIdeal.τ).loc Cert.DybrIdeal.main_arg3) = m ((c.tc : Thread Cert.DybrIdeal.nD Cert.DybrIdeal.τ).loc Cert.DybrIdeal.main_arg3))
      ∧ θ_run (Cert.DybrRefIdeal.defs (F := Ideal)) (onTc (τ := Cert.DybrRefIdeal.τ) (Cert.DybrRefIdeal.main (F := Ideal))) ⟨m', fun _ => 0, g'⟩ (fun r => ∀ c : Dev Cert.DybrRefIdeal.nD,
          r.2.mem ((c.tc : Thread Cert.DybrRefIdeal.nD Cert.DybrRefIdeal.τ).loc Cert.DybrRefIdeal.main_v18) = v0 c
          ∧ r.2.mem ((c.tc : Thread Cert.DybrRefIdeal.nD Cert.DybrRefIdeal.τ).loc Cert.DybrRefIdeal.main_v19) = v1 c
          ∧ r.2.mem ((c.tc : Thread Cert.DybrRefIdeal.nD Cert.DybrRefIdeal.τ).loc Cert.DybrRefIdeal.main_v20) = v2 c
          ∧ r.2.mem ((c.tc : Thread Cert.DybrRefIdeal.nD Cert.DybrRefIdeal.τ).loc Cert.DybrRefIdeal.main_arg0) = m' ((c.tc : Thread Cert.DybrRefIdeal.nD Cert.DybrRefIdeal.τ).loc Cert.DybrRefIdeal.main_arg0)
          ∧ r.2.mem ((c.tc : Thread Cert.DybrRefIdeal.nD Cert.DybrRefIdeal.τ).loc Cert.DybrRefIdeal.main_arg1) = m' ((c.tc : Thread Cert.DybrRefIdeal.nD Cert.DybrRefIdeal.τ).loc Cert.DybrRefIdeal.main_arg1)
          ∧ r.2.mem ((c.tc : Thread Cert.DybrRefIdeal.nD Cert.DybrRefIdeal.τ).loc Cert.DybrRefIdeal.main_arg2) = m' ((c.tc : Thread Cert.DybrRefIdeal.nD Cert.DybrRefIdeal.τ).loc Cert.DybrRefIdeal.main_arg2)
          ∧ r.2.mem ((c.tc : Thread Cert.DybrRefIdeal.nD Cert.DybrRefIdeal.τ).loc Cert.DybrRefIdeal.main_arg3) = m' ((c.tc : Thread Cert.DybrRefIdeal.nD Cert.DybrRefIdeal.τ).loc Cert.DybrRefIdeal.main_arg3))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v7) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v0)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v0) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v4) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)
      ∧ m' ((c.tc : Thread Cert.OutARefIdeal.nD Cert.OutARefIdeal.τ).loc Cert.OutARefIdeal.main_arg3) = m ((c.tc : Thread Cert.OutAIdeal.nD Cert.OutAIdeal.τ).loc Cert.OutAIdeal.main_arg3)) →
    ∃ (v0 : (c : Dev Cert.OutAIdeal.nD) → Buf (Elt Ideal) ((c.tc : Thread Cert.OutAIdeal.nD Cert.OutAIdeal.τ).loc Cert.OutAIdeal.main_v1_0)) (v1 : (c : Dev Cert.OutAIdeal.nD) → Buf (Elt Ideal) ((c.tc : Thread Cert.OutAIdeal.nD Cert.OutAIdeal.τ).loc Cert.OutAIdeal.main_v1_1)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v1_0) = v0 c
          ∧ r.2.mem ((c.tc : Thread Cert.OutAIdeal.nD Cert.OutAIdeal.τ).loc Cert.OutAIdeal.main_v1_1) = v1 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2)
          ∧ r.2.mem ((c.tc : Thread Cert.OutAIdeal.nD Cert.OutAIdeal.τ).loc Cert.OutAIdeal.main_arg3) = m ((c.tc : Thread Cert.OutAIdeal.nD Cert.OutAIdeal.τ).loc Cert.OutAIdeal.main_arg3))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v3) = v0 c
          ∧ r.2.mem ((c.tc : Thread Cert.OutARefIdeal.nD Cert.OutARefIdeal.τ).loc Cert.OutARefIdeal.main_v12) = v1 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2)
          ∧ r.2.mem ((c.tc : Thread Cert.OutARefIdeal.nD Cert.OutARefIdeal.τ).loc Cert.OutARefIdeal.main_arg3) = m' ((c.tc : Thread Cert.OutARefIdeal.nD Cert.OutARefIdeal.τ).loc Cert.OutARefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v16) = v0 c
          ∧ r.2.mem ((c.tc : Thread Cert.AdaBwdRefIdeal.nD Cert.AdaBwdRefIdeal.τ).loc Cert.AdaBwdRefIdeal.main_v39) = v1 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)
      ∧ m' ((c.tc : Thread Cert.AdaFwdRefIdeal.nD Cert.AdaFwdRefIdeal.τ).loc Cert.AdaFwdRefIdeal.main_arg3) = m ((c.tc : Thread Cert.AdaFwdIdeal.nD Cert.AdaFwdIdeal.τ).loc Cert.AdaFwdIdeal.main_arg3)) →
    ∃ (v0 : (c : Dev Cert.AdaFwdIdeal.nD) → Buf (Elt Ideal) ((c.tc : Thread Cert.AdaFwdIdeal.nD Cert.AdaFwdIdeal.τ).loc Cert.AdaFwdIdeal.main_v0_0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0_0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2)
          ∧ r.2.mem ((c.tc : Thread Cert.AdaFwdIdeal.nD Cert.AdaFwdIdeal.τ).loc Cert.AdaFwdIdeal.main_arg3) = m ((c.tc : Thread Cert.AdaFwdIdeal.nD Cert.AdaFwdIdeal.τ).loc Cert.AdaFwdIdeal.main_arg3))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v20) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2)
          ∧ r.2.mem ((c.tc : Thread Cert.AdaFwdRefIdeal.nD Cert.AdaFwdRefIdeal.τ).loc Cert.AdaFwdRefIdeal.main_arg3) = m' ((c.tc : Thread Cert.AdaFwdRefIdeal.nD Cert.AdaFwdRefIdeal.τ).loc Cert.AdaFwdRefIdeal.main_arg3))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)) →
    ∃ (v0 : (c : Dev Cert.PreIdeal.nD) → Buf (Elt Ideal) ((c.tc : Thread Cert.PreIdeal.nD Cert.PreIdeal.τ).loc Cert.PreIdeal.main_v0_0)) (v1 : (c : Dev Cert.PreIdeal.nD) → Buf (Elt Ideal) ((c.tc : Thread Cert.PreIdeal.nD Cert.PreIdeal.τ).loc Cert.PreIdeal.main_v0_1)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v0_0) = v0 c
          ∧ r.2.mem ((c.tc : Thread Cert.PreIdeal.nD Cert.PreIdeal.τ).loc Cert.PreIdeal.main_v0_1) = v1 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v28) = v0 c
          ∧ r.2.mem ((c.tc : Thread Cert.PreRefIdeal.nD Cert.PreRefIdeal.τ).loc Cert.PreRefIdeal.main_v30) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v4_0)) (v1 : (c : Dev Cert.AdamAdaIdeal.nD) → Buf (Elt Ideal) ((c.tc : Thread Cert.AdamAdaIdeal.nD Cert.AdamAdaIdeal.τ).loc Cert.AdamAdaIdeal.main_v4_1)) (v2 : (c : Dev Cert.AdamAdaIdeal.nD) → Buf (Elt Ideal) ((c.tc : Thread Cert.AdamAdaIdeal.nD Cert.AdamAdaIdeal.τ).loc Cert.AdamAdaIdeal.main_v4_2)) (v3 : (c : Dev Cert.AdamAdaIdeal.nD) → Buf (Elt Ideal) ((c.tc : Thread Cert.AdamAdaIdeal.nD Cert.AdamAdaIdeal.τ).loc Cert.AdamAdaIdeal.main_v4_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v4_0) = v0 c
          ∧ r.2.mem ((c.tc : Thread Cert.AdamAdaIdeal.nD Cert.AdamAdaIdeal.τ).loc Cert.AdamAdaIdeal.main_v4_1) = v1 c
          ∧ r.2.mem ((c.tc : Thread Cert.AdamAdaIdeal.nD Cert.AdamAdaIdeal.τ).loc Cert.AdamAdaIdeal.main_v4_2) = v2 c
          ∧ r.2.mem ((c.tc : Thread Cert.AdamAdaIdeal.nD Cert.AdamAdaIdeal.τ).loc Cert.AdamAdaIdeal.main_v4_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v24) = v0 c
          ∧ r.2.mem ((c.tc : Thread Cert.AdamAdaRefIdeal.nD Cert.AdamAdaRefIdeal.τ).loc Cert.AdamAdaRefIdeal.main_v25) = v1 c
          ∧ r.2.mem ((c.tc : Thread Cert.AdamAdaRefIdeal.nD Cert.AdamAdaRefIdeal.τ).loc Cert.AdamAdaRefIdeal.main_v26) = v2 c
          ∧ r.2.mem ((c.tc : Thread Cert.AdamAdaRefIdeal.nD Cert.AdamAdaRefIdeal.τ).loc Cert.AdamAdaRefIdeal.main_v27) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamLate_AdamLateIdeal : Prop :=
  True

def algebraic_AdamLateIdeal_AdamLateRefIdeal [hAdamLateIdeal : Cert.AdamLateIdeal.Facts] [hAdamLateRefIdeal : Cert.AdamLateRefIdeal.Facts] : Prop :=
  ∀ (m : (ℓ : Loc Cert.AdamLateIdeal.nD Cert.AdamLateIdeal.τ Cert.AdamLateIdeal.sig) → Buf (Elt Ideal) ℓ) (g : Dev Cert.AdamLateIdeal.nD → PrngReg)
    (m' : (ℓ : Loc Cert.AdamLateRefIdeal.nD Cert.AdamLateRefIdeal.τ Cert.AdamLateRefIdeal.sig) → Buf (Elt Ideal) ℓ) (g' : Dev Cert.AdamLateRefIdeal.nD → PrngReg), Pre_AdamLateIdeal m →
    (∀ c : Dev Cert.AdamLateIdeal.nD,
      m' ((c.tc : Thread Cert.AdamLateRefIdeal.nD Cert.AdamLateRefIdeal.τ).loc Cert.AdamLateRefIdeal.main_arg0) = m ((c.tc : Thread Cert.AdamLateIdeal.nD Cert.AdamLateIdeal.τ).loc Cert.AdamLateIdeal.main_arg0)
      ∧ m' ((c.tc : Thread Cert.AdamLateRefIdeal.nD Cert.AdamLateRefIdeal.τ).loc Cert.AdamLateRefIdeal.main_arg1) = m ((c.tc : Thread Cert.AdamLateIdeal.nD Cert.AdamLateIdeal.τ).loc Cert.AdamLateIdeal.main_arg1)
      ∧ m' ((c.tc : Thread Cert.AdamLateRefIdeal.nD Cert.AdamLateRefIdeal.τ).loc Cert.AdamLateRefIdeal.main_arg2) = m ((c.tc : Thread Cert.AdamLateIdeal.nD Cert.AdamLateIdeal.τ).loc Cert.AdamLateIdeal.main_arg2)
      ∧ m' ((c.tc : Thread Cert.AdamLateRefIdeal.nD Cert.AdamLateRefIdeal.τ).loc Cert.AdamLateRefIdeal.main_arg3) = m ((c.tc : Thread Cert.AdamLateIdeal.nD Cert.AdamLateIdeal.τ).loc Cert.AdamLateIdeal.main_arg3)
      ∧ m' ((c.tc : Thread Cert.AdamLateRefIdeal.nD Cert.AdamLateRefIdeal.τ).loc Cert.AdamLateRefIdeal.main_arg4) = m ((c.tc : Thread Cert.AdamLateIdeal.nD Cert.AdamLateIdeal.τ).loc Cert.AdamLateIdeal.main_arg4)
      ∧ m' ((c.tc : Thread Cert.AdamLateRefIdeal.nD Cert.AdamLateRefIdeal.τ).loc Cert.AdamLateRefIdeal.main_arg5) = m ((c.tc : Thread Cert.AdamLateIdeal.nD Cert.AdamLateIdeal.τ).loc Cert.AdamLateIdeal.main_arg5)
      ∧ m' ((c.tc : Thread Cert.AdamLateRefIdeal.nD Cert.AdamLateRefIdeal.τ).loc Cert.AdamLateRefIdeal.main_arg6) = m ((c.tc : Thread Cert.AdamLateIdeal.nD Cert.AdamLateIdeal.τ).loc Cert.AdamLateIdeal.main_arg6)
      ∧ m' ((c.tc : Thread Cert.AdamLateRefIdeal.nD Cert.AdamLateRefIdeal.τ).loc Cert.AdamLateRefIdeal.main_arg7) = m ((c.tc : Thread Cert.AdamLateIdeal.nD Cert.AdamLateIdeal.τ).loc Cert.AdamLateIdeal.main_arg7)
      ∧ m' ((c.tc : Thread Cert.AdamLateRefIdeal.nD Cert.AdamLateRefIdeal.τ).loc Cert.AdamLateRefIdeal.main_arg8) = m ((c.tc : Thread Cert.AdamLateIdeal.nD Cert.AdamLateIdeal.τ).loc Cert.AdamLateIdeal.main_arg8)
      ∧ m' ((c.tc : Thread Cert.AdamLateRefIdeal.nD Cert.AdamLateRefIdeal.τ).loc Cert.AdamLateRefIdeal.main_arg9) = m ((c.tc : Thread Cert.AdamLateIdeal.nD Cert.AdamLateIdeal.τ).loc Cert.AdamLateIdeal.main_arg9)
      ∧ m' ((c.tc : Thread Cert.AdamLateRefIdeal.nD Cert.AdamLateRefIdeal.τ).loc Cert.AdamLateRefIdeal.main_arg10) = m ((c.tc : Thread Cert.AdamLateIdeal.nD Cert.AdamLateIdeal.τ).loc Cert.AdamLateIdeal.main_arg10)
      ∧ m' ((c.tc : Thread Cert.AdamLateRefIdeal.nD Cert.AdamLateRefIdeal.τ).loc Cert.AdamLateRefIdeal.main_arg11) = m ((c.tc : Thread Cert.AdamLateIdeal.nD Cert.AdamLateIdeal.τ).loc Cert.AdamLateIdeal.main_arg11)
      ∧ m' ((c.tc : Thread Cert.AdamLateRefIdeal.nD Cert.AdamLateRefIdeal.τ).loc Cert.AdamLateRefIdeal.main_arg12) = m ((c.tc : Thread Cert.AdamLateIdeal.nD Cert.AdamLateIdeal.τ).loc Cert.AdamLateIdeal.main_arg12)) →
    ∃ (v0 : (c : Dev Cert.AdamLateIdeal.nD) → Buf (Elt Ideal) ((c.tc : Thread Cert.AdamLateIdeal.nD Cert.AdamLateIdeal.τ).loc Cert.AdamLateIdeal.main_v0_0)) (v1 : (c : Dev Cert.AdamLateIdeal.nD) → Buf (Elt Ideal) ((c.tc : Thread Cert.AdamLateIdeal.nD Cert.AdamLateIdeal.τ).loc Cert.AdamLateIdeal.main_v0_1)) (v2 : (c : Dev Cert.AdamLateIdeal.nD) → Buf (Elt Ideal) ((c.tc : Thread Cert.AdamLateIdeal.nD Cert.AdamLateIdeal.τ).loc Cert.AdamLateIdeal.main_v0_2)) (v3 : (c : Dev Cert.AdamLateIdeal.nD) → Buf (Elt Ideal) ((c.tc : Thread Cert.AdamLateIdeal.nD Cert.AdamLateIdeal.τ).loc Cert.AdamLateIdeal.main_v0_3)) (v4 : (c : Dev Cert.AdamLateIdeal.nD) → Buf (Elt Ideal) ((c.tc : Thread Cert.AdamLateIdeal.nD Cert.AdamLateIdeal.τ).loc Cert.AdamLateIdeal.main_v0_4)) (v5 : (c : Dev Cert.AdamLateIdeal.nD) → Buf (Elt Ideal) ((c.tc : Thread Cert.AdamLateIdeal.nD Cert.AdamLateIdeal.τ).loc Cert.AdamLateIdeal.main_v0_5)) (v6 : (c : Dev Cert.AdamLateIdeal.nD) → Buf (Elt Ideal) ((c.tc : Thread Cert.AdamLateIdeal.nD Cert.AdamLateIdeal.τ).loc Cert.AdamLateIdeal.main_v0_6)) (v7 : (c : Dev Cert.AdamLateIdeal.nD) → Buf (Elt Ideal) ((c.tc : Thread Cert.AdamLateIdeal.nD Cert.AdamLateIdeal.τ).loc Cert.AdamLateIdeal.main_v0_7)) (v8 : (c : Dev Cert.AdamLateIdeal.nD) → Buf (Elt Ideal) ((c.tc : Thread Cert.AdamLateIdeal.nD Cert.AdamLateIdeal.τ).loc Cert.AdamLateIdeal.main_v0_8)) (v9 : (c : Dev Cert.AdamLateIdeal.nD) → Buf (Elt Ideal) ((c.tc : Thread Cert.AdamLateIdeal.nD Cert.AdamLateIdeal.τ).loc Cert.AdamLateIdeal.main_v0_9)) (v10 : (c : Dev Cert.AdamLateIdeal.nD) → Buf (Elt Ideal) ((c.tc : Thread Cert.AdamLateIdeal.nD Cert.AdamLateIdeal.τ).loc Cert.AdamLateIdeal.main_v0_10)) (v11 : (c : Dev Cert.AdamLateIdeal.nD) → Buf (Elt Ideal) ((c.tc : Thread Cert.AdamLateIdeal.nD Cert.AdamLateIdeal.τ).loc Cert.AdamLateIdeal.main_v0_11)) (v12 : (c : Dev Cert.AdamLateIdeal.nD) → Buf (Elt Ideal) ((c.tc : Thread Cert.AdamLateIdeal.nD Cert.AdamLateIdeal.τ).loc Cert.AdamLateIdeal.main_v0_12)),
      θ_run (Cert.AdamLateIdeal.defs (F := Ideal)) (onTc (τ := Cert.AdamLateIdeal.τ) (Cert.AdamLateIdeal.main (F := Ideal))) ⟨m, fun _ => 0, g⟩ (fun r => ∀ c : Dev Cert.AdamLateIdeal.nD,
          r.2.mem ((c.tc : Thread Cert.AdamLateIdeal.nD Cert.AdamLateIdeal.τ).loc Cert.AdamLateIdeal.main_v0_0) = v0 c
          ∧ r.2.mem ((c.tc : Thread Cert.AdamLateIdeal.nD Cert.AdamLateIdeal.τ).loc Cert.AdamLateIdeal.main_v0_1) = v1 c
          ∧ r.2.mem ((c.tc : Thread Cert.AdamLateIdeal.nD Cert.AdamLateIdeal.τ).loc Cert.AdamLateIdeal.main_v0_2) = v2 c
          ∧ r.2.mem ((c.tc : Thread Cert.AdamLateIdeal.nD Cert.AdamLateIdeal.τ).loc Cert.AdamLateIdeal.main_v0_3) = v3 c
          ∧ r.2.mem ((c.tc : Thread Cert.AdamLateIdeal.nD Cert.AdamLateIdeal.τ).loc Cert.AdamLateIdeal.main_v0_4) = v4 c
          ∧ r.2.mem ((c.tc : Thread Cert.AdamLateIdeal.nD Cert.AdamLateIdeal.τ).loc Cert.AdamLateIdeal.main_v0_5) = v5 c
          ∧ r.2.mem ((c.tc : Thread Cert.AdamLateIdeal.nD Cert.AdamLateIdeal.τ).loc Cert.AdamLateIdeal.main_v0_6) = v6 c
          ∧ r.2.mem ((c.tc : Thread Cert.AdamLateIdeal.nD Cert.AdamLateIdeal.τ).loc Cert.AdamLateIdeal.main_v0_7) = v7 c
          ∧ r.2.mem ((c.tc : Thread Cert.AdamLateIdeal.nD Cert.AdamLateIdeal.τ).loc Cert.AdamLateIdeal.main_v0_8) = v8 c
          ∧ r.2.mem ((c.tc : Thread Cert.AdamLateIdeal.nD Cert.AdamLateIdeal.τ).loc Cert.AdamLateIdeal.main_v0_9) = v9 c
          ∧ r.2.mem ((c.tc : Thread Cert.AdamLateIdeal.nD Cert.AdamLateIdeal.τ).loc Cert.AdamLateIdeal.main_v0_10) = v10 c
          ∧ r.2.mem ((c.tc : Thread Cert.AdamLateIdeal.nD Cert.AdamLateIdeal.τ).loc Cert.AdamLateIdeal.main_v0_11) = v11 c
          ∧ r.2.mem ((c.tc : Thread Cert.AdamLateIdeal.nD Cert.AdamLateIdeal.τ).loc Cert.AdamLateIdeal.main_v0_12) = v12 c
          ∧ r.2.mem ((c.tc : Thread Cert.AdamLateIdeal.nD Cert.AdamLateIdeal.τ).loc Cert.AdamLateIdeal.main_arg0) = m ((c.tc : Thread Cert.AdamLateIdeal.nD Cert.AdamLateIdeal.τ).loc Cert.AdamLateIdeal.main_arg0)
          ∧ r.2.mem ((c.tc : Thread Cert.AdamLateIdeal.nD Cert.AdamLateIdeal.τ).loc Cert.AdamLateIdeal.main_arg1) = m ((c.tc : Thread Cert.AdamLateIdeal.nD Cert.AdamLateIdeal.τ).loc Cert.AdamLateIdeal.main_arg1)
          ∧ r.2.mem ((c.tc : Thread Cert.AdamLateIdeal.nD Cert.AdamLateIdeal.τ).loc Cert.AdamLateIdeal.main_arg2) = m ((c.tc : Thread Cert.AdamLateIdeal.nD Cert.AdamLateIdeal.τ).loc Cert.AdamLateIdeal.main_arg2)
          ∧ r.2.mem ((c.tc : Thread Cert.AdamLateIdeal.nD Cert.AdamLateIdeal.τ).loc Cert.AdamLateIdeal.main_arg3) = m ((c.tc : Thread Cert.AdamLateIdeal.nD Cert.AdamLateIdeal.τ).loc Cert.AdamLateIdeal.main_arg3)
          ∧ r.2.mem ((c.tc : Thread Cert.AdamLateIdeal.nD Cert.AdamLateIdeal.τ).loc Cert.AdamLateIdeal.main_arg4) = m ((c.tc : Thread Cert.AdamLateIdeal.nD Cert.AdamLateIdeal.τ).loc Cert.AdamLateIdeal.main_arg4)
          ∧ r.2.mem ((c.tc : Thread Cert.AdamLateIdeal.nD Cert.AdamLateIdeal.τ).loc Cert.AdamLateIdeal.main_arg5) = m ((c.tc : Thread Cert.AdamLateIdeal.nD Cert.AdamLateIdeal.τ).loc Cert.AdamLateIdeal.main_arg5)
          ∧ r.2.mem ((c.tc : Thread Cert.AdamLateIdeal.nD Cert.AdamLateIdeal.τ).loc Cert.AdamLateIdeal.main_arg6) = m ((c.tc : Thread Cert.AdamLateIdeal.nD Cert.AdamLateIdeal.τ).loc Cert.AdamLateIdeal.main_arg6)
          ∧ r.2.mem ((c.tc : Thread Cert.AdamLateIdeal.nD Cert.AdamLateIdeal.τ).loc Cert.AdamLateIdeal.main_arg7) = m ((c.tc : Thread Cert.AdamLateIdeal.nD Cert.AdamLateIdeal.τ).loc Cert.AdamLateIdeal.main_arg7)
          ∧ r.2.mem ((c.tc : Thread Cert.AdamLateIdeal.nD Cert.AdamLateIdeal.τ).loc Cert.AdamLateIdeal.main_arg8) = m ((c.tc : Thread Cert.AdamLateIdeal.nD Cert.AdamLateIdeal.τ).loc Cert.AdamLateIdeal.main_arg8)
          ∧ r.2.mem ((c.tc : Thread Cert.AdamLateIdeal.nD Cert.AdamLateIdeal.τ).loc Cert.AdamLateIdeal.main_arg9) = m ((c.tc : Thread Cert.AdamLateIdeal.nD Cert.AdamLateIdeal.τ).loc Cert.AdamLateIdeal.main_arg9)
          ∧ r.2.mem ((c.tc : Thread Cert.AdamLateIdeal.nD Cert.AdamLateIdeal.τ).loc Cert.AdamLateIdeal.main_arg10) = m ((c.tc : Thread Cert.AdamLateIdeal.nD Cert.AdamLateIdeal.τ).loc Cert.AdamLateIdeal.main_arg10)
          ∧ r.2.mem ((c.tc : Thread Cert.AdamLateIdeal.nD Cert.AdamLateIdeal.τ).loc Cert.AdamLateIdeal.main_arg11) = m ((c.tc : Thread Cert.AdamLateIdeal.nD Cert.AdamLateIdeal.τ).loc Cert.AdamLateIdeal.main_arg11)
          ∧ r.2.mem ((c.tc : Thread Cert.AdamLateIdeal.nD Cert.AdamLateIdeal.τ).loc Cert.AdamLateIdeal.main_arg12) = m ((c.tc : Thread Cert.AdamLateIdeal.nD Cert.AdamLateIdeal.τ).loc Cert.AdamLateIdeal.main_arg12))
      ∧ θ_run (Cert.AdamLateRefIdeal.defs (F := Ideal)) (onTc (τ := Cert.AdamLateRefIdeal.τ) (Cert.AdamLateRefIdeal.main (F := Ideal))) ⟨m', fun _ => 0, g'⟩ (fun r => ∀ c : Dev Cert.AdamLateRefIdeal.nD,
          r.2.mem ((c.tc : Thread Cert.AdamLateRefIdeal.nD Cert.AdamLateRefIdeal.τ).loc Cert.AdamLateRefIdeal.main_v0) = v0 c
          ∧ r.2.mem ((c.tc : Thread Cert.AdamLateRefIdeal.nD Cert.AdamLateRefIdeal.τ).loc Cert.AdamLateRefIdeal.main_v24) = v1 c
          ∧ r.2.mem ((c.tc : Thread Cert.AdamLateRefIdeal.nD Cert.AdamLateRefIdeal.τ).loc Cert.AdamLateRefIdeal.main_v5) = v2 c
          ∧ r.2.mem ((c.tc : Thread Cert.AdamLateRefIdeal.nD Cert.AdamLateRefIdeal.τ).loc Cert.AdamLateRefIdeal.main_v11) = v3 c
          ∧ r.2.mem ((c.tc : Thread Cert.AdamLateRefIdeal.nD Cert.AdamLateRefIdeal.τ).loc Cert.AdamLateRefIdeal.main_v25) = v4 c
          ∧ r.2.mem ((c.tc : Thread Cert.AdamLateRefIdeal.nD Cert.AdamLateRefIdeal.τ).loc Cert.AdamLateRefIdeal.main_v49) = v5 c
          ∧ r.2.mem ((c.tc : Thread Cert.AdamLateRefIdeal.nD Cert.AdamLateRefIdeal.τ).loc Cert.AdamLateRefIdeal.main_v30) = v6 c
          ∧ r.2.mem ((c.tc : Thread Cert.AdamLateRefIdeal.nD Cert.AdamLateRefIdeal.τ).loc Cert.AdamLateRefIdeal.main_v36) = v7 c
          ∧ r.2.mem ((c.tc : Thread Cert.AdamLateRefIdeal.nD Cert.AdamLateRefIdeal.τ).loc Cert.AdamLateRefIdeal.main_v50) = v8 c
          ∧ r.2.mem ((c.tc : Thread Cert.AdamLateRefIdeal.nD Cert.AdamLateRefIdeal.τ).loc Cert.AdamLateRefIdeal.main_v74) = v9 c
          ∧ r.2.mem ((c.tc : Thread Cert.AdamLateRefIdeal.nD Cert.AdamLateRefIdeal.τ).loc Cert.AdamLateRefIdeal.main_v55) = v10 c
          ∧ r.2.mem ((c.tc : Thread Cert.AdamLateRefIdeal.nD Cert.AdamLateRefIdeal.τ).loc Cert.AdamLateRefIdeal.main_v61) = v11 c
          ∧ r.2.mem ((c.tc : Thread Cert.AdamLateRefIdeal.nD Cert.AdamLateRefIdeal.τ).loc Cert.AdamLateRefIdeal.main_v75) = v12 c
          ∧ r.2.mem ((c.tc : Thread Cert.AdamLateRefIdeal.nD Cert.AdamLateRefIdeal.τ).loc Cert.AdamLateRefIdeal.main_arg0) = m' ((c.tc : Thread Cert.AdamLateRefIdeal.nD Cert.AdamLateRefIdeal.τ).loc Cert.AdamLateRefIdeal.main_arg0)
          ∧ r.2.mem ((c.tc : Thread Cert.AdamLateRefIdeal.nD Cert.AdamLateRefIdeal.τ).loc Cert.AdamLateRefIdeal.main_arg1) = m' ((c.tc : Thread Cert.AdamLateRefIdeal.nD Cert.AdamLateRefIdeal.τ).loc Cert.AdamLateRefIdeal.main_arg1)
          ∧ r.2.mem ((c.tc : Thread Cert.AdamLateRefIdeal.nD Cert.AdamLateRefIdeal.τ).loc Cert.AdamLateRefIdeal.main_arg2) = m' ((c.tc : Thread Cert.AdamLateRefIdeal.nD Cert.AdamLateRefIdeal.τ).loc Cert.AdamLateRefIdeal.main_arg2)
          ∧ r.2.mem ((c.tc : Thread Cert.AdamLateRefIdeal.nD Cert.AdamLateRefIdeal.τ).loc Cert.AdamLateRefIdeal.main_arg3) = m' ((c.tc : Thread Cert.AdamLateRefIdeal.nD Cert.AdamLateRefIdeal.τ).loc Cert.AdamLateRefIdeal.main_arg3)
          ∧ r.2.mem ((c.tc : Thread Cert.AdamLateRefIdeal.nD Cert.AdamLateRefIdeal.τ).loc Cert.AdamLateRefIdeal.main_arg4) = m' ((c.tc : Thread Cert.AdamLateRefIdeal.nD Cert.AdamLateRefIdeal.τ).loc Cert.AdamLateRefIdeal.main_arg4)
          ∧ r.2.mem ((c.tc : Thread Cert.AdamLateRefIdeal.nD Cert.AdamLateRefIdeal.τ).loc Cert.AdamLateRefIdeal.main_arg5) = m' ((c.tc : Thread Cert.AdamLateRefIdeal.nD Cert.AdamLateRefIdeal.τ).loc Cert.AdamLateRefIdeal.main_arg5)
          ∧ r.2.mem ((c.tc : Thread Cert.AdamLateRefIdeal.nD Cert.AdamLateRefIdeal.τ).loc Cert.AdamLateRefIdeal.main_arg6) = m' ((c.tc : Thread Cert.AdamLateRefIdeal.nD Cert.AdamLateRefIdeal.τ).loc Cert.AdamLateRefIdeal.main_arg6)
          ∧ r.2.mem ((c.tc : Thread Cert.AdamLateRefIdeal.nD Cert.AdamLateRefIdeal.τ).loc Cert.AdamLateRefIdeal.main_arg7) = m' ((c.tc : Thread Cert.AdamLateRefIdeal.nD Cert.AdamLateRefIdeal.τ).loc Cert.AdamLateRefIdeal.main_arg7)
          ∧ r.2.mem ((c.tc : Thread Cert.AdamLateRefIdeal.nD Cert.AdamLateRefIdeal.τ).loc Cert.AdamLateRefIdeal.main_arg8) = m' ((c.tc : Thread Cert.AdamLateRefIdeal.nD Cert.AdamLateRefIdeal.τ).loc Cert.AdamLateRefIdeal.main_arg8)
          ∧ r.2.mem ((c.tc : Thread Cert.AdamLateRefIdeal.nD Cert.AdamLateRefIdeal.τ).loc Cert.AdamLateRefIdeal.main_arg9) = m' ((c.tc : Thread Cert.AdamLateRefIdeal.nD Cert.AdamLateRefIdeal.τ).loc Cert.AdamLateRefIdeal.main_arg9)
          ∧ r.2.mem ((c.tc : Thread Cert.AdamLateRefIdeal.nD Cert.AdamLateRefIdeal.τ).loc Cert.AdamLateRefIdeal.main_arg10) = m' ((c.tc : Thread Cert.AdamLateRefIdeal.nD Cert.AdamLateRefIdeal.τ).loc Cert.AdamLateRefIdeal.main_arg10)
          ∧ r.2.mem ((c.tc : Thread Cert.AdamLateRefIdeal.nD Cert.AdamLateRefIdeal.τ).loc Cert.AdamLateRefIdeal.main_arg11) = m' ((c.tc : Thread Cert.AdamLateRefIdeal.nD Cert.AdamLateRefIdeal.τ).loc Cert.AdamLateRefIdeal.main_arg11)
          ∧ r.2.mem ((c.tc : Thread Cert.AdamLateRefIdeal.nD Cert.AdamLateRefIdeal.τ).loc Cert.AdamLateRefIdeal.main_arg12) = m' ((c.tc : Thread Cert.AdamLateRefIdeal.nD Cert.AdamLateRefIdeal.τ).loc Cert.AdamLateRefIdeal.main_arg12))

def preserves_PreBwd_PreBwdIdeal : Prop :=
  True

def algebraic_PreBwdIdeal_PreBwdRefIdeal_pre_finite_prenorm_bwd [hPreBwdIdeal : Cert.PreBwdIdeal.Facts] [hPreBwdRefIdeal : Cert.PreBwdRefIdeal.Facts] [hPre_finite_prenorm_bwd : Cert.Pre_finite_prenorm_bwd.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreBwdRefIdeal.nD Cert.PreBwdRefIdeal.τ Cert.PreBwdRefIdeal.sig) → Buf (Elt Ideal) ℓ) (g' : Dev Cert.PreBwdRefIdeal.nD → PrngReg), Pre_PreBwdIdeal_finite_prenorm_bwd m →
    (∀ c : Dev Cert.PreBwdIdeal.nD,
      m' ((c.tc : Thread Cert.PreBwdRefIdeal.nD Cert.PreBwdRefIdeal.τ).loc Cert.PreBwdRefIdeal.main_arg0) = m ((c.tc : Thread Cert.PreBwdIdeal.nD Cert.PreBwdIdeal.τ).loc Cert.PreBwdIdeal.main_arg0)
      ∧ m' ((c.tc : Thread Cert.PreBwdRefIdeal.nD Cert.PreBwdRefIdeal.τ).loc Cert.PreBwdRefIdeal.main_arg1) = m ((c.tc : Thread Cert.PreBwdIdeal.nD Cert.PreBwdIdeal.τ).loc Cert.PreBwdIdeal.main_arg1)
      ∧ m' ((c.tc : Thread Cert.PreBwdRefIdeal.nD Cert.PreBwdRefIdeal.τ).loc Cert.PreBwdRefIdeal.main_arg2) = m ((c.tc : Thread Cert.PreBwdIdeal.nD Cert.PreBwdIdeal.τ).loc Cert.PreBwdIdeal.main_arg2)
      ∧ m' ((c.tc : Thread Cert.PreBwdRefIdeal.nD Cert.PreBwdRefIdeal.τ).loc Cert.PreBwdRefIdeal.main_arg3) = m ((c.tc : Thread Cert.PreBwdIdeal.nD Cert.PreBwdIdeal.τ).loc Cert.PreBwdIdeal.main_arg3)
      ∧ m' ((c.tc : Thread Cert.PreBwdRefIdeal.nD Cert.PreBwdRefIdeal.τ).loc Cert.PreBwdRefIdeal.main_arg4) = m ((c.tc : Thread Cert.PreBwdIdeal.nD Cert.PreBwdIdeal.τ).loc Cert.PreBwdIdeal.main_arg4)) →
    ∃ (v0 : (c : Dev Cert.PreBwdIdeal.nD) → Buf (Elt Ideal) ((c.tc : Thread Cert.PreBwdIdeal.nD Cert.PreBwdIdeal.τ).loc Cert.PreBwdIdeal.main_v0_0)) (v1 : (c : Dev Cert.PreBwdIdeal.nD) → Buf (Elt Ideal) ((c.tc : Thread Cert.PreBwdIdeal.nD Cert.PreBwdIdeal.τ).loc Cert.PreBwdIdeal.main_v0_1)) (v2 : (c : Dev Cert.PreBwdIdeal.nD) → Buf (Elt Ideal) ((c.tc : Thread Cert.PreBwdIdeal.nD Cert.PreBwdIdeal.τ).loc Cert.PreBwdIdeal.main_v0_2)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v0_0) = v0 c
          ∧ r.2.mem ((c.tc : Thread Cert.PreBwdIdeal.nD Cert.PreBwdIdeal.τ).loc Cert.PreBwdIdeal.main_v0_1) = v1 c
          ∧ r.2.mem ((c.tc : Thread Cert.PreBwdIdeal.nD Cert.PreBwdIdeal.τ).loc Cert.PreBwdIdeal.main_v0_2) = v2 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
          ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4))
      ∧ θ_run (Cert.PreBwdRefIdeal.defs (F := Ideal)) (onTc (τ := Cert.PreBwdRefIdeal.τ) (Cert.PreBwdRefIdeal.main (F := Ideal))) ⟨m', fun _ => 0, g'⟩ (fun r => ∀ c : Dev Cert.PreBwdRefIdeal.nD,
          r.2.mem ((c.tc : Thread Cert.PreBwdRefIdeal.nD Cert.PreBwdRefIdeal.τ).loc Cert.PreBwdRefIdeal.main_v61) = v0 c
          ∧ r.2.mem ((c.tc : Thread Cert.PreBwdRefIdeal.nD Cert.PreBwdRefIdeal.τ).loc Cert.PreBwdRefIdeal.main_v64) = v1 c
          ∧ r.2.mem ((c.tc : Thread Cert.PreBwdRefIdeal.nD Cert.PreBwdRefIdeal.τ).loc Cert.PreBwdRefIdeal.main_v65) = v2 c
          ∧ r.2.mem ((c.tc : Thread Cert.PreBwdRefIdeal.nD Cert.PreBwdRefIdeal.τ).loc Cert.PreBwdRefIdeal.main_arg0) = m' ((c.tc : Thread Cert.PreBwdRefIdeal.nD Cert.PreBwdRefIdeal.τ).loc Cert.PreBwdRefIdeal.main_arg0)
          ∧ r.2.mem ((c.tc : Thread Cert.PreBwdRefIdeal.nD Cert.PreBwdRefIdeal.τ).loc Cert.PreBwdRefIdeal.main_arg1) = m' ((c.tc : Thread Cert.PreBwdRefIdeal.nD Cert.PreBwdRefIdeal.τ).loc Cert.PreBwdRefIdeal.main_arg1)
          ∧ r.2.mem ((c.tc : Thread Cert.PreBwdRefIdeal.nD Cert.PreBwdRefIdeal.τ).loc Cert.PreBwdRefIdeal.main_arg2) = m' ((c.tc : Thread Cert.PreBwdRefIdeal.nD Cert.PreBwdRefIdeal.τ).loc Cert.PreBwdRefIdeal.main_arg2)
          ∧ r.2.mem ((c.tc : Thread Cert.PreBwdRefIdeal.nD Cert.PreBwdRefIdeal.τ).loc Cert.PreBwdRefIdeal.main_arg3) = m' ((c.tc : Thread Cert.PreBwdRefIdeal.nD Cert.PreBwdRefIdeal.τ).loc Cert.PreBwdRefIdeal.main_arg3)
          ∧ r.2.mem ((c.tc : Thread Cert.PreBwdRefIdeal.nD Cert.PreBwdRefIdeal.τ).loc Cert.PreBwdRefIdeal.main_arg4) = m' ((c.tc : Thread Cert.PreBwdRefIdeal.nD Cert.PreBwdRefIdeal.τ).loc Cert.PreBwdRefIdeal.main_arg4))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v3) = v0 c
          ∧ r.2.mem ((c.tc : Thread Cert.LossRefIdeal.nD Cert.LossRefIdeal.τ).loc Cert.LossRefIdeal.main_v65) = v1 c
          ∧ r.2.mem ((c.tc : Thread Cert.LossRefIdeal.nD Cert.LossRefIdeal.τ).loc Cert.LossRefIdeal.main_v66) = v2 c
          ∧ r.2.mem ((c.tc : Thread Cert.LossRefIdeal.nD Cert.LossRefIdeal.τ).loc Cert.LossRefIdeal.main_v67) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_AdamEarly_AdamEarlyIdeal : Prop :=
  True

def algebraic_AdamEarlyIdeal_AdamEarlyRefIdeal [hAdamEarlyIdeal : Cert.AdamEarlyIdeal.Facts] [hAdamEarlyRefIdeal : Cert.AdamEarlyRefIdeal.Facts] : Prop :=
  ∀ (m : (ℓ : Loc Cert.AdamEarlyIdeal.nD Cert.AdamEarlyIdeal.τ Cert.AdamEarlyIdeal.sig) → Buf (Elt Ideal) ℓ) (g : Dev Cert.AdamEarlyIdeal.nD → PrngReg)
    (m' : (ℓ : Loc Cert.AdamEarlyRefIdeal.nD Cert.AdamEarlyRefIdeal.τ Cert.AdamEarlyRefIdeal.sig) → Buf (Elt Ideal) ℓ) (g' : Dev Cert.AdamEarlyRefIdeal.nD → PrngReg), Pre_AdamEarlyIdeal m →
    (∀ c : Dev Cert.AdamEarlyIdeal.nD,
      m' ((c.tc : Thread Cert.AdamEarlyRefIdeal.nD Cert.AdamEarlyRefIdeal.τ).loc Cert.AdamEarlyRefIdeal.main_arg0) = m ((c.tc : Thread Cert.AdamEarlyIdeal.nD Cert.AdamEarlyIdeal.τ).loc Cert.AdamEarlyIdeal.main_arg0)
      ∧ m' ((c.tc : Thread Cert.AdamEarlyRefIdeal.nD Cert.AdamEarlyRefIdeal.τ).loc Cert.AdamEarlyRefIdeal.main_arg1) = m ((c.tc : Thread Cert.AdamEarlyIdeal.nD Cert.AdamEarlyIdeal.τ).loc Cert.AdamEarlyIdeal.main_arg1)
      ∧ m' ((c.tc : Thread Cert.AdamEarlyRefIdeal.nD Cert.AdamEarlyRefIdeal.τ).loc Cert.AdamEarlyRefIdeal.main_arg2) = m ((c.tc : Thread Cert.AdamEarlyIdeal.nD Cert.AdamEarlyIdeal.τ).loc Cert.AdamEarlyIdeal.main_arg2)
      ∧ m' ((c.tc : Thread Cert.AdamEarlyRefIdeal.nD Cert.AdamEarlyRefIdeal.τ).loc Cert.AdamEarlyRefIdeal.main_arg3) = m ((c.tc : Thread Cert.AdamEarlyIdeal.nD Cert.AdamEarlyIdeal.τ).loc Cert.AdamEarlyIdeal.main_arg3)
      ∧ m' ((c.tc : Thread Cert.AdamEarlyRefIdeal.nD Cert.AdamEarlyRefIdeal.τ).loc Cert.AdamEarlyRefIdeal.main_arg4) = m ((c.tc : Thread Cert.AdamEarlyIdeal.nD Cert.AdamEarlyIdeal.τ).loc Cert.AdamEarlyIdeal.main_arg4)
      ∧ m' ((c.tc : Thread Cert.AdamEarlyRefIdeal.nD Cert.AdamEarlyRefIdeal.τ).loc Cert.AdamEarlyRefIdeal.main_arg5) = m ((c.tc : Thread Cert.AdamEarlyIdeal.nD Cert.AdamEarlyIdeal.τ).loc Cert.AdamEarlyIdeal.main_arg5)
      ∧ m' ((c.tc : Thread Cert.AdamEarlyRefIdeal.nD Cert.AdamEarlyRefIdeal.τ).loc Cert.AdamEarlyRefIdeal.main_arg6) = m ((c.tc : Thread Cert.AdamEarlyIdeal.nD Cert.AdamEarlyIdeal.τ).loc Cert.AdamEarlyIdeal.main_arg6)
      ∧ m' ((c.tc : Thread Cert.AdamEarlyRefIdeal.nD Cert.AdamEarlyRefIdeal.τ).loc Cert.AdamEarlyRefIdeal.main_arg7) = m ((c.tc : Thread Cert.AdamEarlyIdeal.nD Cert.AdamEarlyIdeal.τ).loc Cert.AdamEarlyIdeal.main_arg7)
      ∧ m' ((c.tc : Thread Cert.AdamEarlyRefIdeal.nD Cert.AdamEarlyRefIdeal.τ).loc Cert.AdamEarlyRefIdeal.main_arg8) = m ((c.tc : Thread Cert.AdamEarlyIdeal.nD Cert.AdamEarlyIdeal.τ).loc Cert.AdamEarlyIdeal.main_arg8)
      ∧ m' ((c.tc : Thread Cert.AdamEarlyRefIdeal.nD Cert.AdamEarlyRefIdeal.τ).loc Cert.AdamEarlyRefIdeal.main_arg9) = m ((c.tc : Thread Cert.AdamEarlyIdeal.nD Cert.AdamEarlyIdeal.τ).loc Cert.AdamEarlyIdeal.main_arg9)
      ∧ m' ((c.tc : Thread Cert.AdamEarlyRefIdeal.nD Cert.AdamEarlyRefIdeal.τ).loc Cert.AdamEarlyRefIdeal.main_arg10) = m ((c.tc : Thread Cert.AdamEarlyIdeal.nD Cert.AdamEarlyIdeal.τ).loc Cert.AdamEarlyIdeal.main_arg10)
      ∧ m' ((c.tc : Thread Cert.AdamEarlyRefIdeal.nD Cert.AdamEarlyRefIdeal.τ).loc Cert.AdamEarlyRefIdeal.main_arg11) = m ((c.tc : Thread Cert.AdamEarlyIdeal.nD Cert.AdamEarlyIdeal.τ).loc Cert.AdamEarlyIdeal.main_arg11)
      ∧ m' ((c.tc : Thread Cert.AdamEarlyRefIdeal.nD Cert.AdamEarlyRefIdeal.τ).loc Cert.AdamEarlyRefIdeal.main_arg12) = m ((c.tc : Thread Cert.AdamEarlyIdeal.nD Cert.AdamEarlyIdeal.τ).loc Cert.AdamEarlyIdeal.main_arg12)
      ∧ m' ((c.tc : Thread Cert.AdamEarlyRefIdeal.nD Cert.AdamEarlyRefIdeal.τ).loc Cert.AdamEarlyRefIdeal.main_arg13) = m ((c.tc : Thread Cert.AdamEarlyIdeal.nD Cert.AdamEarlyIdeal.τ).loc Cert.AdamEarlyIdeal.main_arg13)
      ∧ m' ((c.tc : Thread Cert.AdamEarlyRefIdeal.nD Cert.AdamEarlyRefIdeal.τ).loc Cert.AdamEarlyRefIdeal.main_arg14) = m ((c.tc : Thread Cert.AdamEarlyIdeal.nD Cert.AdamEarlyIdeal.τ).loc Cert.AdamEarlyIdeal.main_arg14)
      ∧ m' ((c.tc : Thread Cert.AdamEarlyRefIdeal.nD Cert.AdamEarlyRefIdeal.τ).loc Cert.AdamEarlyRefIdeal.main_arg15) = m ((c.tc : Thread Cert.AdamEarlyIdeal.nD Cert.AdamEarlyIdeal.τ).loc Cert.AdamEarlyIdeal.main_arg15)
      ∧ m' ((c.tc : Thread Cert.AdamEarlyRefIdeal.nD Cert.AdamEarlyRefIdeal.τ).loc Cert.AdamEarlyRefIdeal.main_arg16) = m ((c.tc : Thread Cert.AdamEarlyIdeal.nD Cert.AdamEarlyIdeal.τ).loc Cert.AdamEarlyIdeal.main_arg16)
      ∧ m' ((c.tc : Thread Cert.AdamEarlyRefIdeal.nD Cert.AdamEarlyRefIdeal.τ).loc Cert.AdamEarlyRefIdeal.main_arg17) = m ((c.tc : Thread Cert.AdamEarlyIdeal.nD Cert.AdamEarlyIdeal.τ).loc Cert.AdamEarlyIdeal.main_arg17)
      ∧ m' ((c.tc : Thread Cert.AdamEarlyRefIdeal.nD Cert.AdamEarlyRefIdeal.τ).loc Cert.AdamEarlyRefIdeal.main_arg18) = m ((c.tc : Thread Cert.AdamEarlyIdeal.nD Cert.AdamEarlyIdeal.τ).loc Cert.AdamEarlyIdeal.main_arg18)
      ∧ m' ((c.tc : Thread Cert.AdamEarlyRefIdeal.nD Cert.AdamEarlyRefIdeal.τ).loc Cert.AdamEarlyRefIdeal.main_arg19) = m ((c.tc : Thread Cert.AdamEarlyIdeal.nD Cert.AdamEarlyIdeal.τ).loc Cert.AdamEarlyIdeal.main_arg19)
      ∧ m' ((c.tc : Thread Cert.AdamEarlyRefIdeal.nD Cert.AdamEarlyRefIdeal.τ).loc Cert.AdamEarlyRefIdeal.main_arg20) = m ((c.tc : Thread Cert.AdamEarlyIdeal.nD Cert.AdamEarlyIdeal.τ).loc Cert.AdamEarlyIdeal.main_arg20)
      ∧ m' ((c.tc : Thread Cert.AdamEarlyRefIdeal.nD Cert.AdamEarlyRefIdeal.τ).loc Cert.AdamEarlyRefIdeal.main_arg21) = m ((c.tc : Thread Cert.AdamEarlyIdeal.nD Cert.AdamEarlyIdeal.τ).loc Cert.AdamEarlyIdeal.main_arg21)
      ∧ m' ((c.tc : Thread Cert.AdamEarlyRefIdeal.nD Cert.AdamEarlyRefIdeal.τ).loc Cert.AdamEarlyRefIdeal.main_arg22) = m ((c.tc : Thread Cert.AdamEarlyIdeal.nD Cert.AdamEarlyIdeal.τ).loc Cert.AdamEarlyIdeal.main_arg22)
      ∧ m' ((c.tc : Thread Cert.AdamEarlyRefIdeal.nD Cert.AdamEarlyRefIdeal.τ).loc Cert.AdamEarlyRefIdeal.main_arg23) = m ((c.tc : Thread Cert.AdamEarlyIdeal.nD Cert.AdamEarlyIdeal.τ).loc Cert.AdamEarlyIdeal.main_arg23)) →
    ∃ (v0 : (c : Dev Cert.AdamEarlyIdeal.nD) → Buf (Elt Ideal) ((c.tc : Thread Cert.AdamEarlyIdeal.nD Cert.AdamEarlyIdeal.τ).loc Cert.AdamEarlyIdeal.main_v0_0)) (v1 : (c : Dev Cert.AdamEarlyIdeal.nD) → Buf (Elt Ideal) ((c.tc : Thread Cert.AdamEarlyIdeal.nD Cert.AdamEarlyIdeal.τ).loc Cert.AdamEarlyIdeal.main_v0_1)) (v2 : (c : Dev Cert.AdamEarlyIdeal.nD) → Buf (Elt Ideal) ((c.tc : Thread Cert.AdamEarlyIdeal.nD Cert.AdamEarlyIdeal.τ).loc Cert.AdamEarlyIdeal.main_v0_2)) (v3 : (c : Dev Cert.AdamEarlyIdeal.nD) → Buf (Elt Ideal) ((c.tc : Thread Cert.AdamEarlyIdeal.nD Cert.AdamEarlyIdeal.τ).loc Cert.AdamEarlyIdeal.main_v0_3)) (v4 : (c : Dev Cert.AdamEarlyIdeal.nD) → Buf (Elt Ideal) ((c.tc : Thread Cert.AdamEarlyIdeal.nD Cert.AdamEarlyIdeal.τ).loc Cert.AdamEarlyIdeal.main_v0_4)) (v5 : (c : Dev Cert.AdamEarlyIdeal.nD) → Buf (Elt Ideal) ((c.tc : Thread Cert.AdamEarlyIdeal.nD Cert.AdamEarlyIdeal.τ).loc Cert.AdamEarlyIdeal.main_v0_5)) (v6 : (c : Dev Cert.AdamEarlyIdeal.nD) → Buf (Elt Ideal) ((c.tc : Thread Cert.AdamEarlyIdeal.nD Cert.AdamEarlyIdeal.τ).loc Cert.AdamEarlyIdeal.main_v0_6)) (v7 : (c : Dev Cert.AdamEarlyIdeal.nD) → Buf (Elt Ideal) ((c.tc : Thread Cert.AdamEarlyIdeal.nD Cert.AdamEarlyIdeal.τ).loc Cert.AdamEarlyIdeal.main_v0_7)) (v8 : (c : Dev Cert.AdamEarlyIdeal.nD) → Buf (Elt Ideal) ((c.tc : Thread Cert.AdamEarlyIdeal.nD Cert.AdamEarlyIdeal.τ).loc Cert.AdamEarlyIdeal.main_v0_8)) (v9 : (c : Dev Cert.AdamEarlyIdeal.nD) → Buf (Elt Ideal) ((c.tc : Thread Cert.AdamEarlyIdeal.nD Cert.AdamEarlyIdeal.τ).loc Cert.AdamEarlyIdeal.main_v0_9)) (v10 : (c : Dev Cert.AdamEarlyIdeal.nD) → Buf (Elt Ideal) ((c.tc : Thread Cert.AdamEarlyIdeal.nD Cert.AdamEarlyIdeal.τ).loc Cert.AdamEarlyIdeal.main_v0_10)) (v11 : (c : Dev Cert.AdamEarlyIdeal.nD) → Buf (Elt Ideal) ((c.tc : Thread Cert.AdamEarlyIdeal.nD Cert.AdamEarlyIdeal.τ).loc Cert.AdamEarlyIdeal.main_v0_11)) (v12 : (c : Dev Cert.AdamEarlyIdeal.nD) → Buf (Elt Ideal) ((c.tc : Thread Cert.AdamEarlyIdeal.nD Cert.AdamEarlyIdeal.τ).loc Cert.AdamEarlyIdeal.main_v0_12)) (v13 : (c : Dev Cert.AdamEarlyIdeal.nD) → Buf (Elt Ideal) ((c.tc : Thread Cert.AdamEarlyIdeal.nD Cert.AdamEarlyIdeal.τ).loc Cert.AdamEarlyIdeal.main_v0_13)) (v14 : (c : Dev Cert.AdamEarlyIdeal.nD) → Buf (Elt Ideal) ((c.tc : Thread Cert.AdamEarlyIdeal.nD Cert.AdamEarlyIdeal.τ).loc Cert.AdamEarlyIdeal.main_v0_14)) (v15 : (c : Dev Cert.AdamEarlyIdeal.nD) → Buf (Elt Ideal) ((c.tc : Thread Cert.AdamEarlyIdeal.nD Cert.AdamEarlyIdeal.τ).loc Cert.AdamEarlyIdeal.main_v0_15)) (v16 : (c : Dev Cert.AdamEarlyIdeal.nD) → Buf (Elt Ideal) ((c.tc : Thread Cert.AdamEarlyIdeal.nD Cert.AdamEarlyIdeal.τ).loc Cert.AdamEarlyIdeal.main_v0_16)) (v17 : (c : Dev Cert.AdamEarlyIdeal.nD) → Buf (Elt Ideal) ((c.tc : Thread Cert.AdamEarlyIdeal.nD Cert.AdamEarlyIdeal.τ).loc Cert.AdamEarlyIdeal.main_v0_17)) (v18 : (c : Dev Cert.AdamEarlyIdeal.nD) → Buf (Elt Ideal) ((c.tc : Thread Cert.AdamEarlyIdeal.nD Cert.AdamEarlyIdeal.τ).loc Cert.AdamEarlyIdeal.main_v0_18)) (v19 : (c : Dev Cert.AdamEarlyIdeal.nD) → Buf (Elt Ideal) ((c.tc : Thread Cert.AdamEarlyIdeal.nD Cert.AdamEarlyIdeal.τ).loc Cert.AdamEarlyIdeal.main_v0_19)) (v20 : (c : Dev Cert.AdamEarlyIdeal.nD) → Buf (Elt Ideal) ((c.tc : Thread Cert.AdamEarlyIdeal.nD Cert.AdamEarlyIdeal.τ).loc Cert.AdamEarlyIdeal.main_v0_20)) (v21 : (c : Dev Cert.AdamEarlyIdeal.nD) → Buf (Elt Ideal) ((c.tc : Thread Cert.AdamEarlyIdeal.nD Cert.AdamEarlyIdeal.τ).loc Cert.AdamEarlyIdeal.main_v0_21)) (v22 : (c : Dev Cert.AdamEarlyIdeal.nD) → Buf (Elt Ideal) ((c.tc : Thread Cert.AdamEarlyIdeal.nD Cert.AdamEarlyIdeal.τ).loc Cert.AdamEarlyIdeal.main_v0_22)) (v23 : (c : Dev Cert.AdamEarlyIdeal.nD) → Buf (Elt Ideal) ((c.tc : Thread Cert.AdamEarlyIdeal.nD Cert.AdamEarlyIdeal.τ).loc Cert.AdamEarlyIdeal.main_v0_23)),
      θ_run (Cert.AdamEarlyIdeal.defs (F := Ideal)) (onTc (τ := Cert.AdamEarlyIdeal.τ) (Cert.AdamEarlyIdeal.main (F := Ideal))) ⟨m, fun _ => 0, g⟩ (fun r => ∀ c : Dev Cert.AdamEarlyIdeal.nD,
          r.2.mem ((c.tc : Thread Cert.AdamEarlyIdeal.nD Cert.AdamEarlyIdeal.τ).loc Cert.AdamEarlyIdeal.main_v0_0) = v0 c
          ∧ r.2.mem ((c.tc : Thread Cert.AdamEarlyIdeal.nD Cert.AdamEarlyIdeal.τ).loc Cert.AdamEarlyIdeal.main_v0_1) = v1 c
          ∧ r.2.mem ((c.tc : Thread Cert.AdamEarlyIdeal.nD Cert.AdamEarlyIdeal.τ).loc Cert.AdamEarlyIdeal.main_v0_2) = v2 c
          ∧ r.2.mem ((c.tc : Thread Cert.AdamEarlyIdeal.nD Cert.AdamEarlyIdeal.τ).loc Cert.AdamEarlyIdeal.main_v0_3) = v3 c
          ∧ r.2.mem ((c.tc : Thread Cert.AdamEarlyIdeal.nD Cert.AdamEarlyIdeal.τ).loc Cert.AdamEarlyIdeal.main_v0_4) = v4 c
          ∧ r.2.mem ((c.tc : Thread Cert.AdamEarlyIdeal.nD Cert.AdamEarlyIdeal.τ).loc Cert.AdamEarlyIdeal.main_v0_5) = v5 c
          ∧ r.2.mem ((c.tc : Thread Cert.AdamEarlyIdeal.nD Cert.AdamEarlyIdeal.τ).loc Cert.AdamEarlyIdeal.main_v0_6) = v6 c
          ∧ r.2.mem ((c.tc : Thread Cert.AdamEarlyIdeal.nD Cert.AdamEarlyIdeal.τ).loc Cert.AdamEarlyIdeal.main_v0_7) = v7 c
          ∧ r.2.mem ((c.tc : Thread Cert.AdamEarlyIdeal.nD Cert.AdamEarlyIdeal.τ).loc Cert.AdamEarlyIdeal.main_v0_8) = v8 c
          ∧ r.2.mem ((c.tc : Thread Cert.AdamEarlyIdeal.nD Cert.AdamEarlyIdeal.τ).loc Cert.AdamEarlyIdeal.main_v0_9) = v9 c
          ∧ r.2.mem ((c.tc : Thread Cert.AdamEarlyIdeal.nD Cert.AdamEarlyIdeal.τ).loc Cert.AdamEarlyIdeal.main_v0_10) = v10 c
          ∧ r.2.mem ((c.tc : Thread Cert.AdamEarlyIdeal.nD Cert.AdamEarlyIdeal.τ).loc Cert.AdamEarlyIdeal.main_v0_11) = v11 c
          ∧ r.2.mem ((c.tc : Thread Cert.AdamEarlyIdeal.nD Cert.AdamEarlyIdeal.τ).loc Cert.AdamEarlyIdeal.main_v0_12) = v12 c
          ∧ r.2.mem ((c.tc : Thread Cert.AdamEarlyIdeal.nD Cert.AdamEarlyIdeal.τ).loc Cert.AdamEarlyIdeal.main_v0_13) = v13 c
          ∧ r.2.mem ((c.tc : Thread Cert.AdamEarlyIdeal.nD Cert.AdamEarlyIdeal.τ).loc Cert.AdamEarlyIdeal.main_v0_14) = v14 c
          ∧ r.2.mem ((c.tc : Thread Cert.AdamEarlyIdeal.nD Cert.AdamEarlyIdeal.τ).loc Cert.AdamEarlyIdeal.main_v0_15) = v15 c
          ∧ r.2.mem ((c.tc : Thread Cert.AdamEarlyIdeal.nD Cert.AdamEarlyIdeal.τ).loc Cert.AdamEarlyIdeal.main_v0_16) = v16 c
          ∧ r.2.mem ((c.tc : Thread Cert.AdamEarlyIdeal.nD Cert.AdamEarlyIdeal.τ).loc Cert.AdamEarlyIdeal.main_v0_17) = v17 c
          ∧ r.2.mem ((c.tc : Thread Cert.AdamEarlyIdeal.nD Cert.AdamEarlyIdeal.τ).loc Cert.AdamEarlyIdeal.main_v0_18) = v18 c
          ∧ r.2.mem ((c.tc : Thread Cert.AdamEarlyIdeal.nD Cert.AdamEarlyIdeal.τ).loc Cert.AdamEarlyIdeal.main_v0_19) = v19 c
          ∧ r.2.mem ((c.tc : Thread Cert.AdamEarlyIdeal.nD Cert.AdamEarlyIdeal.τ).loc Cert.AdamEarlyIdeal.main_v0_20) = v20 c
          ∧ r.2.mem ((c.tc : Thread Cert.AdamEarlyIdeal.nD Cert.AdamEarlyIdeal.τ).loc Cert.AdamEarlyIdeal.main_v0_21) = v21 c
          ∧ r.2.mem ((c.tc : Thread Cert.AdamEarlyIdeal.nD Cert.AdamEarlyIdeal.τ).loc Cert.AdamEarlyIdeal.main_v0_22) = v22 c
          ∧ r.2.mem ((c.tc : Thread Cert.AdamEarlyIdeal.nD Cert.AdamEarlyIdeal.τ).loc Cert.AdamEarlyIdeal.main_v0_23) = v23 c
          ∧ r.2.mem ((c.tc : Thread Cert.AdamEarlyIdeal.nD Cert.AdamEarlyIdeal.τ).loc Cert.AdamEarlyIdeal.main_arg0) = m ((c.tc : Thread Cert.AdamEarlyIdeal.nD Cert.AdamEarlyIdeal.τ).loc Cert.AdamEarlyIdeal.main_arg0)
          ∧ r.2.mem ((c.tc : Thread Cert.AdamEarlyIdeal.nD Cert.AdamEarlyIdeal.τ).loc Cert.AdamEarlyIdeal.main_arg1) = m ((c.tc : Thread Cert.AdamEarlyIdeal.nD Cert.AdamEarlyIdeal.τ).loc Cert.AdamEarlyIdeal.main_arg1)
          ∧ r.2.mem ((c.tc : Thread Cert.AdamEarlyIdeal.nD Cert.AdamEarlyIdeal.τ).loc Cert.AdamEarlyIdeal.main_arg2) = m ((c.tc : Thread Cert.AdamEarlyIdeal.nD Cert.AdamEarlyIdeal.τ).loc Cert.AdamEarlyIdeal.main_arg2)
          ∧ r.2.mem ((c.tc : Thread Cert.AdamEarlyIdeal.nD Cert.AdamEarlyIdeal.τ).loc Cert.AdamEarlyIdeal.main_arg3) = m ((c.tc : Thread Cert.AdamEarlyIdeal.nD Cert.AdamEarlyIdeal.τ).loc Cert.AdamEarlyIdeal.main_arg3)
          ∧ r.2.mem ((c.tc : Thread Cert.AdamEarlyIdeal.nD Cert.AdamEarlyIdeal.τ).loc Cert.AdamEarlyIdeal.main_arg4) = m ((c.tc : Thread Cert.AdamEarlyIdeal.nD Cert.AdamEarlyIdeal.τ).loc Cert.AdamEarlyIdeal.main_arg4)
          ∧ r.2.mem ((c.tc : Thread Cert.AdamEarlyIdeal.nD Cert.AdamEarlyIdeal.τ).loc Cert.AdamEarlyIdeal.main_arg5) = m ((c.tc : Thread Cert.AdamEarlyIdeal.nD Cert.AdamEarlyIdeal.τ).loc Cert.AdamEarlyIdeal.main_arg5)
          ∧ r.2.mem ((c.tc : Thread Cert.AdamEarlyIdeal.nD Cert.AdamEarlyIdeal.τ).loc Cert.AdamEarlyIdeal.main_arg6) = m ((c.tc : Thread Cert.AdamEarlyIdeal.nD Cert.AdamEarlyIdeal.τ).loc Cert.AdamEarlyIdeal.main_arg6)
          ∧ r.2.mem ((c.tc : Thread Cert.AdamEarlyIdeal.nD Cert.AdamEarlyIdeal.τ).loc Cert.AdamEarlyIdeal.main_arg7) = m ((c.tc : Thread Cert.AdamEarlyIdeal.nD Cert.AdamEarlyIdeal.τ).loc Cert.AdamEarlyIdeal.main_arg7)
          ∧ r.2.mem ((c.tc : Thread Cert.AdamEarlyIdeal.nD Cert.AdamEarlyIdeal.τ).loc Cert.AdamEarlyIdeal.main_arg8) = m ((c.tc : Thread Cert.AdamEarlyIdeal.nD Cert.AdamEarlyIdeal.τ).loc Cert.AdamEarlyIdeal.main_arg8)
          ∧ r.2.mem ((c.tc : Thread Cert.AdamEarlyIdeal.nD Cert.AdamEarlyIdeal.τ).loc Cert.AdamEarlyIdeal.main_arg9) = m ((c.tc : Thread Cert.AdamEarlyIdeal.nD Cert.AdamEarlyIdeal.τ).loc Cert.AdamEarlyIdeal.main_arg9)
          ∧ r.2.mem ((c.tc : Thread Cert.AdamEarlyIdeal.nD Cert.AdamEarlyIdeal.τ).loc Cert.AdamEarlyIdeal.main_arg10) = m ((c.tc : Thread Cert.AdamEarlyIdeal.nD Cert.AdamEarlyIdeal.τ).loc Cert.AdamEarlyIdeal.main_arg10)
          ∧ r.2.mem ((c.tc : Thread Cert.AdamEarlyIdeal.nD Cert.AdamEarlyIdeal.τ).loc Cert.AdamEarlyIdeal.main_arg11) = m ((c.tc : Thread Cert.AdamEarlyIdeal.nD Cert.AdamEarlyIdeal.τ).loc Cert.AdamEarlyIdeal.main_arg11)
          ∧ r.2.mem ((c.tc : Thread Cert.AdamEarlyIdeal.nD Cert.AdamEarlyIdeal.τ).loc Cert.AdamEarlyIdeal.main_arg12) = m ((c.tc : Thread Cert.AdamEarlyIdeal.nD Cert.AdamEarlyIdeal.τ).loc Cert.AdamEarlyIdeal.main_arg12)
          ∧ r.2.mem ((c.tc : Thread Cert.AdamEarlyIdeal.nD Cert.AdamEarlyIdeal.τ).loc Cert.AdamEarlyIdeal.main_arg13) = m ((c.tc : Thread Cert.AdamEarlyIdeal.nD Cert.AdamEarlyIdeal.τ).loc Cert.AdamEarlyIdeal.main_arg13)
          ∧ r.2.mem ((c.tc : Thread Cert.AdamEarlyIdeal.nD Cert.AdamEarlyIdeal.τ).loc Cert.AdamEarlyIdeal.main_arg14) = m ((c.tc : Thread Cert.AdamEarlyIdeal.nD Cert.AdamEarlyIdeal.τ).loc Cert.AdamEarlyIdeal.main_arg14)
          ∧ r.2.mem ((c.tc : Thread Cert.AdamEarlyIdeal.nD Cert.AdamEarlyIdeal.τ).loc Cert.AdamEarlyIdeal.main_arg15) = m ((c.tc : Thread Cert.AdamEarlyIdeal.nD Cert.AdamEarlyIdeal.τ).loc Cert.AdamEarlyIdeal.main_arg15)
          ∧ r.2.mem ((c.tc : Thread Cert.AdamEarlyIdeal.nD Cert.AdamEarlyIdeal.τ).loc Cert.AdamEarlyIdeal.main_arg16) = m ((c.tc : Thread Cert.AdamEarlyIdeal.nD Cert.AdamEarlyIdeal.τ).loc Cert.AdamEarlyIdeal.main_arg16)
          ∧ r.2.mem ((c.tc : Thread Cert.AdamEarlyIdeal.nD Cert.AdamEarlyIdeal.τ).loc Cert.AdamEarlyIdeal.main_arg17) = m ((c.tc : Thread Cert.AdamEarlyIdeal.nD Cert.AdamEarlyIdeal.τ).loc Cert.AdamEarlyIdeal.main_arg17)
          ∧ r.2.mem ((c.tc : Thread Cert.AdamEarlyIdeal.nD Cert.AdamEarlyIdeal.τ).loc Cert.AdamEarlyIdeal.main_arg18) = m ((c.tc : Thread Cert.AdamEarlyIdeal.nD Cert.AdamEarlyIdeal.τ).loc Cert.AdamEarlyIdeal.main_arg18)
          ∧ r.2.mem ((c.tc : Thread Cert.AdamEarlyIdeal.nD Cert.AdamEarlyIdeal.τ).loc Cert.AdamEarlyIdeal.main_arg19) = m ((c.tc : Thread Cert.AdamEarlyIdeal.nD Cert.AdamEarlyIdeal.τ).loc Cert.AdamEarlyIdeal.main_arg19)
          ∧ r.2.mem ((c.tc : Thread Cert.AdamEarlyIdeal.nD Cert.AdamEarlyIdeal.τ).loc Cert.AdamEarlyIdeal.main_arg20) = m ((c.tc : Thread Cert.AdamEarlyIdeal.nD Cert.AdamEarlyIdeal.τ).loc Cert.AdamEarlyIdeal.main_arg20)
          ∧ r.2.mem ((c.tc : Thread Cert.AdamEarlyIdeal.nD Cert.AdamEarlyIdeal.τ).loc Cert.AdamEarlyIdeal.main_arg21) = m ((c.tc : Thread Cert.AdamEarlyIdeal.nD Cert.AdamEarlyIdeal.τ).loc Cert.AdamEarlyIdeal.main_arg21)
          ∧ r.2.mem ((c.tc : Thread Cert.AdamEarlyIdeal.nD Cert.AdamEarlyIdeal.τ).loc Cert.AdamEarlyIdeal.main_arg22) = m ((c.tc : Thread Cert.AdamEarlyIdeal.nD Cert.AdamEarlyIdeal.τ).loc Cert.AdamEarlyIdeal.main_arg22)
          ∧ r.2.mem ((c.tc : Thread Cert.AdamEarlyIdeal.nD Cert.AdamEarlyIdeal.τ).loc Cert.AdamEarlyIdeal.main_arg23) = m ((c.tc : Thread Cert.AdamEarlyIdeal.nD Cert.AdamEarlyIdeal.τ).loc Cert.AdamEarlyIdeal.main_arg23))
      ∧ θ_run (Cert.AdamEarlyRefIdeal.defs (F := Ideal)) (onTc (τ := Cert.AdamEarlyRefIdeal.τ) (Cert.AdamEarlyRefIdeal.main (F := Ideal))) ⟨m', fun _ => 0, g'⟩ (fun r => ∀ c : Dev Cert.AdamEarlyRefIdeal.nD,
          r.2.mem ((c.tc : Thread Cert.AdamEarlyRefIdeal.nD Cert.AdamEarlyRefIdeal.τ).loc Cert.AdamEarlyRefIdeal.main_v0) = v0 c
          ∧ r.2.mem ((c.tc : Thread Cert.AdamEarlyRefIdeal.nD Cert.AdamEarlyRefIdeal.τ).loc Cert.AdamEarlyRefIdeal.main_v24) = v1 c
          ∧ r.2.mem ((c.tc : Thread Cert.AdamEarlyRefIdeal.nD Cert.AdamEarlyRefIdeal.τ).loc Cert.AdamEarlyRefIdeal.main_v5) = v2 c
          ∧ r.2.mem ((c.tc : Thread Cert.AdamEarlyRefIdeal.nD Cert.AdamEarlyRefIdeal.τ).loc Cert.AdamEarlyRefIdeal.main_v11) = v3 c
          ∧ r.2.mem ((c.tc : Thread Cert.AdamEarlyRefIdeal.nD Cert.AdamEarlyRefIdeal.τ).loc Cert.AdamEarlyRefIdeal.main_v25) = v4 c
          ∧ r.2.mem ((c.tc : Thread Cert.AdamEarlyRefIdeal.nD Cert.AdamEarlyRefIdeal.τ).loc Cert.AdamEarlyRefIdeal.main_v49) = v5 c
          ∧ r.2.mem ((c.tc : Thread Cert.AdamEarlyRefIdeal.nD Cert.AdamEarlyRefIdeal.τ).loc Cert.AdamEarlyRefIdeal.main_v30) = v6 c
          ∧ r.2.mem ((c.tc : Thread Cert.AdamEarlyRefIdeal.nD Cert.AdamEarlyRefIdeal.τ).loc Cert.AdamEarlyRefIdeal.main_v36) = v7 c
          ∧ r.2.mem ((c.tc : Thread Cert.AdamEarlyRefIdeal.nD Cert.AdamEarlyRefIdeal.τ).loc Cert.AdamEarlyRefIdeal.main_v50) = v8 c
          ∧ r.2.mem ((c.tc : Thread Cert.AdamEarlyRefIdeal.nD Cert.AdamEarlyRefIdeal.τ).loc Cert.AdamEarlyRefIdeal.main_v74) = v9 c
          ∧ r.2.mem ((c.tc : Thread Cert.AdamEarlyRefIdeal.nD Cert.AdamEarlyRefIdeal.τ).loc Cert.AdamEarlyRefIdeal.main_v55) = v10 c
          ∧ r.2.mem ((c.tc : Thread Cert.AdamEarlyRefIdeal.nD Cert.AdamEarlyRefIdeal.τ).loc Cert.AdamEarlyRefIdeal.main_v61) = v11 c
          ∧ r.2.mem ((c.tc : Thread Cert.AdamEarlyRefIdeal.nD Cert.AdamEarlyRefIdeal.τ).loc Cert.AdamEarlyRefIdeal.main_v75) = v12 c
          ∧ r.2.mem ((c.tc : Thread Cert.AdamEarlyRefIdeal.nD Cert.AdamEarlyRefIdeal.τ).loc Cert.AdamEarlyRefIdeal.main_v99) = v13 c
          ∧ r.2.mem ((c.tc : Thread Cert.AdamEarlyRefIdeal.nD Cert.AdamEarlyRefIdeal.τ).loc Cert.AdamEarlyRefIdeal.main_v80) = v14 c
          ∧ r.2.mem ((c.tc : Thread Cert.AdamEarlyRefIdeal.nD Cert.AdamEarlyRefIdeal.τ).loc Cert.AdamEarlyRefIdeal.main_v86) = v15 c
          ∧ r.2.mem ((c.tc : Thread Cert.AdamEarlyRefIdeal.nD Cert.AdamEarlyRefIdeal.τ).loc Cert.AdamEarlyRefIdeal.main_v100) = v16 c
          ∧ r.2.mem ((c.tc : Thread Cert.AdamEarlyRefIdeal.nD Cert.AdamEarlyRefIdeal.τ).loc Cert.AdamEarlyRefIdeal.main_v124) = v17 c
          ∧ r.2.mem ((c.tc : Thread Cert.AdamEarlyRefIdeal.nD Cert.AdamEarlyRefIdeal.τ).loc Cert.AdamEarlyRefIdeal.main_v105) = v18 c
          ∧ r.2.mem ((c.tc : Thread Cert.AdamEarlyRefIdeal.nD Cert.AdamEarlyRefIdeal.τ).loc Cert.AdamEarlyRefIdeal.main_v111) = v19 c
          ∧ r.2.mem ((c.tc : Thread Cert.AdamEarlyRefIdeal.nD Cert.AdamEarlyRefIdeal.τ).loc Cert.AdamEarlyRefIdeal.main_v125) = v20 c
          ∧ r.2.mem ((c.tc : Thread Cert.AdamEarlyRefIdeal.nD Cert.AdamEarlyRefIdeal.τ).loc Cert.AdamEarlyRefIdeal.main_v149) = v21 c
          ∧ r.2.mem ((c.tc : Thread Cert.AdamEarlyRefIdeal.nD Cert.AdamEarlyRefIdeal.τ).loc Cert.AdamEarlyRefIdeal.main_v130) = v22 c
          ∧ r.2.mem ((c.tc : Thread Cert.AdamEarlyRefIdeal.nD Cert.AdamEarlyRefIdeal.τ).loc Cert.AdamEarlyRefIdeal.main_v136) = v23 c
          ∧ r.2.mem ((c.tc : Thread Cert.AdamEarlyRefIdeal.nD Cert.AdamEarlyRefIdeal.τ).loc Cert.AdamEarlyRefIdeal.main_arg0) = m' ((c.tc : Thread Cert.AdamEarlyRefIdeal.nD Cert.AdamEarlyRefIdeal.τ).loc Cert.AdamEarlyRefIdeal.main_arg0)
          ∧ r.2.mem ((c.tc : Thread Cert.AdamEarlyRefIdeal.nD Cert.AdamEarlyRefIdeal.τ).loc Cert.AdamEarlyRefIdeal.main_arg1) = m' ((c.tc : Thread Cert.AdamEarlyRefIdeal.nD Cert.AdamEarlyRefIdeal.τ).loc Cert.AdamEarlyRefIdeal.main_arg1)
          ∧ r.2.mem ((c.tc : Thread Cert.AdamEarlyRefIdeal.nD Cert.AdamEarlyRefIdeal.τ).loc Cert.AdamEarlyRefIdeal.main_arg2) = m' ((c.tc : Thread Cert.AdamEarlyRefIdeal.nD Cert.AdamEarlyRefIdeal.τ).loc Cert.AdamEarlyRefIdeal.main_arg2)
          ∧ r.2.mem ((c.tc : Thread Cert.AdamEarlyRefIdeal.nD Cert.AdamEarlyRefIdeal.τ).loc Cert.AdamEarlyRefIdeal.main_arg3) = m' ((c.tc : Thread Cert.AdamEarlyRefIdeal.nD Cert.AdamEarlyRefIdeal.τ).loc Cert.AdamEarlyRefIdeal.main_arg3)
          ∧ r.2.mem ((c.tc : Thread Cert.AdamEarlyRefIdeal.nD Cert.AdamEarlyRefIdeal.τ).loc Cert.AdamEarlyRefIdeal.main_arg4) = m' ((c.tc : Thread Cert.AdamEarlyRefIdeal.nD Cert.AdamEarlyRefIdeal.τ).loc Cert.AdamEarlyRefIdeal.main_arg4)
          ∧ r.2.mem ((c.tc : Thread Cert.AdamEarlyRefIdeal.nD Cert.AdamEarlyRefIdeal.τ).loc Cert.AdamEarlyRefIdeal.main_arg5) = m' ((c.tc : Thread Cert.AdamEarlyRefIdeal.nD Cert.AdamEarlyRefIdeal.τ).loc Cert.AdamEarlyRefIdeal.main_arg5)
          ∧ r.2.mem ((c.tc : Thread Cert.AdamEarlyRefIdeal.nD Cert.AdamEarlyRefIdeal.τ).loc Cert.AdamEarlyRefIdeal.main_arg6) = m' ((c.tc : Thread Cert.AdamEarlyRefIdeal.nD Cert.AdamEarlyRefIdeal.τ).loc Cert.AdamEarlyRefIdeal.main_arg6)
          ∧ r.2.mem ((c.tc : Thread Cert.AdamEarlyRefIdeal.nD Cert.AdamEarlyRefIdeal.τ).loc Cert.AdamEarlyRefIdeal.main_arg7) = m' ((c.tc : Thread Cert.AdamEarlyRefIdeal.nD Cert.AdamEarlyRefIdeal.τ).loc Cert.AdamEarlyRefIdeal.main_arg7)
          ∧ r.2.mem ((c.tc : Thread Cert.AdamEarlyRefIdeal.nD Cert.AdamEarlyRefIdeal.τ).loc Cert.AdamEarlyRefIdeal.main_arg8) = m' ((c.tc : Thread Cert.AdamEarlyRefIdeal.nD Cert.AdamEarlyRefIdeal.τ).loc Cert.AdamEarlyRefIdeal.main_arg8)
          ∧ r.2.mem ((c.tc : Thread Cert.AdamEarlyRefIdeal.nD Cert.AdamEarlyRefIdeal.τ).loc Cert.AdamEarlyRefIdeal.main_arg9) = m' ((c.tc : Thread Cert.AdamEarlyRefIdeal.nD Cert.AdamEarlyRefIdeal.τ).loc Cert.AdamEarlyRefIdeal.main_arg9)
          ∧ r.2.mem ((c.tc : Thread Cert.AdamEarlyRefIdeal.nD Cert.AdamEarlyRefIdeal.τ).loc Cert.AdamEarlyRefIdeal.main_arg10) = m' ((c.tc : Thread Cert.AdamEarlyRefIdeal.nD Cert.AdamEarlyRefIdeal.τ).loc Cert.AdamEarlyRefIdeal.main_arg10)
          ∧ r.2.mem ((c.tc : Thread Cert.AdamEarlyRefIdeal.nD Cert.AdamEarlyRefIdeal.τ).loc Cert.AdamEarlyRefIdeal.main_arg11) = m' ((c.tc : Thread Cert.AdamEarlyRefIdeal.nD Cert.AdamEarlyRefIdeal.τ).loc Cert.AdamEarlyRefIdeal.main_arg11)
          ∧ r.2.mem ((c.tc : Thread Cert.AdamEarlyRefIdeal.nD Cert.AdamEarlyRefIdeal.τ).loc Cert.AdamEarlyRefIdeal.main_arg12) = m' ((c.tc : Thread Cert.AdamEarlyRefIdeal.nD Cert.AdamEarlyRefIdeal.τ).loc Cert.AdamEarlyRefIdeal.main_arg12)
          ∧ r.2.mem ((c.tc : Thread Cert.AdamEarlyRefIdeal.nD Cert.AdamEarlyRefIdeal.τ).loc Cert.AdamEarlyRefIdeal.main_arg13) = m' ((c.tc : Thread Cert.AdamEarlyRefIdeal.nD Cert.AdamEarlyRefIdeal.τ).loc Cert.AdamEarlyRefIdeal.main_arg13)
          ∧ r.2.mem ((c.tc : Thread Cert.AdamEarlyRefIdeal.nD Cert.AdamEarlyRefIdeal.τ).loc Cert.AdamEarlyRefIdeal.main_arg14) = m' ((c.tc : Thread Cert.AdamEarlyRefIdeal.nD Cert.AdamEarlyRefIdeal.τ).loc Cert.AdamEarlyRefIdeal.main_arg14)
          ∧ r.2.mem ((c.tc : Thread Cert.AdamEarlyRefIdeal.nD Cert.AdamEarlyRefIdeal.τ).loc Cert.AdamEarlyRefIdeal.main_arg15) = m' ((c.tc : Thread Cert.AdamEarlyRefIdeal.nD Cert.AdamEarlyRefIdeal.τ).loc Cert.AdamEarlyRefIdeal.main_arg15)
          ∧ r.2.mem ((c.tc : Thread Cert.AdamEarlyRefIdeal.nD Cert.AdamEarlyRefIdeal.τ).loc Cert.AdamEarlyRefIdeal.main_arg16) = m' ((c.tc : Thread Cert.AdamEarlyRefIdeal.nD Cert.AdamEarlyRefIdeal.τ).loc Cert.AdamEarlyRefIdeal.main_arg16)
          ∧ r.2.mem ((c.tc : Thread Cert.AdamEarlyRefIdeal.nD Cert.AdamEarlyRefIdeal.τ).loc Cert.AdamEarlyRefIdeal.main_arg17) = m' ((c.tc : Thread Cert.AdamEarlyRefIdeal.nD Cert.AdamEarlyRefIdeal.τ).loc Cert.AdamEarlyRefIdeal.main_arg17)
          ∧ r.2.mem ((c.tc : Thread Cert.AdamEarlyRefIdeal.nD Cert.AdamEarlyRefIdeal.τ).loc Cert.AdamEarlyRefIdeal.main_arg18) = m' ((c.tc : Thread Cert.AdamEarlyRefIdeal.nD Cert.AdamEarlyRefIdeal.τ).loc Cert.AdamEarlyRefIdeal.main_arg18)
          ∧ r.2.mem ((c.tc : Thread Cert.AdamEarlyRefIdeal.nD Cert.AdamEarlyRefIdeal.τ).loc Cert.AdamEarlyRefIdeal.main_arg19) = m' ((c.tc : Thread Cert.AdamEarlyRefIdeal.nD Cert.AdamEarlyRefIdeal.τ).loc Cert.AdamEarlyRefIdeal.main_arg19)
          ∧ r.2.mem ((c.tc : Thread Cert.AdamEarlyRefIdeal.nD Cert.AdamEarlyRefIdeal.τ).loc Cert.AdamEarlyRefIdeal.main_arg20) = m' ((c.tc : Thread Cert.AdamEarlyRefIdeal.nD Cert.AdamEarlyRefIdeal.τ).loc Cert.AdamEarlyRefIdeal.main_arg20)
          ∧ r.2.mem ((c.tc : Thread Cert.AdamEarlyRefIdeal.nD Cert.AdamEarlyRefIdeal.τ).loc Cert.AdamEarlyRefIdeal.main_arg21) = m' ((c.tc : Thread Cert.AdamEarlyRefIdeal.nD Cert.AdamEarlyRefIdeal.τ).loc Cert.AdamEarlyRefIdeal.main_arg21)
          ∧ r.2.mem ((c.tc : Thread Cert.AdamEarlyRefIdeal.nD Cert.AdamEarlyRefIdeal.τ).loc Cert.AdamEarlyRefIdeal.main_arg22) = m' ((c.tc : Thread Cert.AdamEarlyRefIdeal.nD Cert.AdamEarlyRefIdeal.τ).loc Cert.AdamEarlyRefIdeal.main_arg22)
          ∧ r.2.mem ((c.tc : Thread Cert.AdamEarlyRefIdeal.nD Cert.AdamEarlyRefIdeal.τ).loc Cert.AdamEarlyRefIdeal.main_arg23) = m' ((c.tc : Thread Cert.AdamEarlyRefIdeal.nD Cert.AdamEarlyRefIdeal.τ).loc Cert.AdamEarlyRefIdeal.main_arg23))

def preserves_AdamWaOut_AdamWaOutIdeal : Prop :=
  True

def algebraic_AdamWaOutIdeal_AdamWaOutRefIdeal [hAdamWaOutIdeal : Cert.AdamWaOutIdeal.Facts] [hAdamWaOutRefIdeal : Cert.AdamWaOutRefIdeal.Facts] [hPre_indices_in_range : Cert.Pre_indices_in_range.Facts] : Prop :=
  ∀ (m : (ℓ : Loc Cert.AdamWaOutIdeal.nD Cert.AdamWaOutIdeal.τ Cert.AdamWaOutIdeal.sig) → Buf (Elt Ideal) ℓ) (g : Dev Cert.AdamWaOutIdeal.nD → PrngReg)
    (m' : (ℓ : Loc Cert.AdamWaOutRefIdeal.nD Cert.AdamWaOutRefIdeal.τ Cert.AdamWaOutRefIdeal.sig) → Buf (Elt Ideal) ℓ) (g' : Dev Cert.AdamWaOutRefIdeal.nD → PrngReg), Pre_AdamWaOutIdeal m →
    (∀ c : Dev Cert.AdamWaOutIdeal.nD,
      m' ((c.tc : Thread Cert.AdamWaOutRefIdeal.nD Cert.AdamWaOutRefIdeal.τ).loc Cert.AdamWaOutRefIdeal.main_arg0) = m ((c.tc : Thread Cert.AdamWaOutIdeal.nD Cert.AdamWaOutIdeal.τ).loc Cert.AdamWaOutIdeal.main_arg0)
      ∧ m' ((c.tc : Thread Cert.AdamWaOutRefIdeal.nD Cert.AdamWaOutRefIdeal.τ).loc Cert.AdamWaOutRefIdeal.main_arg1) = m ((c.tc : Thread Cert.AdamWaOutIdeal.nD Cert.AdamWaOutIdeal.τ).loc Cert.AdamWaOutIdeal.main_arg1)
      ∧ m' ((c.tc : Thread Cert.AdamWaOutRefIdeal.nD Cert.AdamWaOutRefIdeal.τ).loc Cert.AdamWaOutRefIdeal.main_arg2) = m ((c.tc : Thread Cert.AdamWaOutIdeal.nD Cert.AdamWaOutIdeal.τ).loc Cert.AdamWaOutIdeal.main_arg2)
      ∧ m' ((c.tc : Thread Cert.AdamWaOutRefIdeal.nD Cert.AdamWaOutRefIdeal.τ).loc Cert.AdamWaOutRefIdeal.main_arg3) = m ((c.tc : Thread Cert.AdamWaOutIdeal.nD Cert.AdamWaOutIdeal.τ).loc Cert.AdamWaOutIdeal.main_arg3)
      ∧ m' ((c.tc : Thread Cert.AdamWaOutRefIdeal.nD Cert.AdamWaOutRefIdeal.τ).loc Cert.AdamWaOutRefIdeal.main_arg4) = m ((c.tc : Thread Cert.AdamWaOutIdeal.nD Cert.AdamWaOutIdeal.τ).loc Cert.AdamWaOutIdeal.main_arg4)
      ∧ m' ((c.tc : Thread Cert.AdamWaOutRefIdeal.nD Cert.AdamWaOutRefIdeal.τ).loc Cert.AdamWaOutRefIdeal.main_arg5) = m ((c.tc : Thread Cert.AdamWaOutIdeal.nD Cert.AdamWaOutIdeal.τ).loc Cert.AdamWaOutIdeal.main_arg5)
      ∧ m' ((c.tc : Thread Cert.AdamWaOutRefIdeal.nD Cert.AdamWaOutRefIdeal.τ).loc Cert.AdamWaOutRefIdeal.main_arg6) = m ((c.tc : Thread Cert.AdamWaOutIdeal.nD Cert.AdamWaOutIdeal.τ).loc Cert.AdamWaOutIdeal.main_arg6)) →
    ∃ (v0 : (c : Dev Cert.AdamWaOutIdeal.nD) → Buf (Elt Ideal) ((c.tc : Thread Cert.AdamWaOutIdeal.nD Cert.AdamWaOutIdeal.τ).loc Cert.AdamWaOutIdeal.main_v3_0)) (v1 : (c : Dev Cert.AdamWaOutIdeal.nD) → Buf (Elt Ideal) ((c.tc : Thread Cert.AdamWaOutIdeal.nD Cert.AdamWaOutIdeal.τ).loc Cert.AdamWaOutIdeal.main_v3_1)) (v2 : (c : Dev Cert.AdamWaOutIdeal.nD) → Buf (Elt Ideal) ((c.tc : Thread Cert.AdamWaOutIdeal.nD Cert.AdamWaOutIdeal.τ).loc Cert.AdamWaOutIdeal.main_v3_2)) (v3 : (c : Dev Cert.AdamWaOutIdeal.nD) → Buf (Elt Ideal) ((c.tc : Thread Cert.AdamWaOutIdeal.nD Cert.AdamWaOutIdeal.τ).loc Cert.AdamWaOutIdeal.main_v3_3)),
      θ_run (Cert.AdamWaOutIdeal.defs (F := Ideal)) (onTc (τ := Cert.AdamWaOutIdeal.τ) (Cert.AdamWaOutIdeal.main (F := Ideal))) ⟨m, fun _ => 0, g⟩ (fun r => ∀ c : Dev Cert.AdamWaOutIdeal.nD,
          r.2.mem ((c.tc : Thread Cert.AdamWaOutIdeal.nD Cert.AdamWaOutIdeal.τ).loc Cert.AdamWaOutIdeal.main_v3_0) = v0 c
          ∧ r.2.mem ((c.tc : Thread Cert.AdamWaOutIdeal.nD Cert.AdamWaOutIdeal.τ).loc Cert.AdamWaOutIdeal.main_v3_1) = v1 c
          ∧ r.2.mem ((c.tc : Thread Cert.AdamWaOutIdeal.nD Cert.AdamWaOutIdeal.τ).loc Cert.AdamWaOutIdeal.main_v3_2) = v2 c
          ∧ r.2.mem ((c.tc : Thread Cert.AdamWaOutIdeal.nD Cert.AdamWaOutIdeal.τ).loc Cert.AdamWaOutIdeal.main_v3_3) = v3 c
          ∧ r.2.mem ((c.tc : Thread Cert.AdamWaOutIdeal.nD Cert.AdamWaOutIdeal.τ).loc Cert.AdamWaOutIdeal.main_arg0) = m ((c.tc : Thread Cert.AdamWaOutIdeal.nD Cert.AdamWaOutIdeal.τ).loc Cert.AdamWaOutIdeal.main_arg0)
          ∧ r.2.mem ((c.tc : Thread Cert.AdamWaOutIdeal.nD Cert.AdamWaOutIdeal.τ).loc Cert.AdamWaOutIdeal.main_arg1) = m ((c.tc : Thread Cert.AdamWaOutIdeal.nD Cert.AdamWaOutIdeal.τ).loc Cert.AdamWaOutIdeal.main_arg1)
          ∧ r.2.mem ((c.tc : Thread Cert.AdamWaOutIdeal.nD Cert.AdamWaOutIdeal.τ).loc Cert.AdamWaOutIdeal.main_arg2) = m ((c.tc : Thread Cert.AdamWaOutIdeal.nD Cert.AdamWaOutIdeal.τ).loc Cert.AdamWaOutIdeal.main_arg2)
          ∧ r.2.mem ((c.tc : Thread Cert.AdamWaOutIdeal.nD Cert.AdamWaOutIdeal.τ).loc Cert.AdamWaOutIdeal.main_arg3) = m ((c.tc : Thread Cert.AdamWaOutIdeal.nD Cert.AdamWaOutIdeal.τ).loc Cert.AdamWaOutIdeal.main_arg3)
          ∧ r.2.mem ((c.tc : Thread Cert.AdamWaOutIdeal.nD Cert.AdamWaOutIdeal.τ).loc Cert.AdamWaOutIdeal.main_arg4) = m ((c.tc : Thread Cert.AdamWaOutIdeal.nD Cert.AdamWaOutIdeal.τ).loc Cert.AdamWaOutIdeal.main_arg4)
          ∧ r.2.mem ((c.tc : Thread Cert.AdamWaOutIdeal.nD Cert.AdamWaOutIdeal.τ).loc Cert.AdamWaOutIdeal.main_arg5) = m ((c.tc : Thread Cert.AdamWaOutIdeal.nD Cert.AdamWaOutIdeal.τ).loc Cert.AdamWaOutIdeal.main_arg5)
          ∧ r.2.mem ((c.tc : Thread Cert.AdamWaOutIdeal.nD Cert.AdamWaOutIdeal.τ).loc Cert.AdamWaOutIdeal.main_arg6) = m ((c.tc : Thread Cert.AdamWaOutIdeal.nD Cert.AdamWaOutIdeal.τ).loc Cert.AdamWaOutIdeal.main_arg6))
      ∧ θ_run (Cert.AdamWaOutRefIdeal.defs (F := Ideal)) (onTc (τ := Cert.AdamWaOutRefIdeal.τ) (Cert.AdamWaOutRefIdeal.main (F := Ideal))) ⟨m', fun _ => 0, g'⟩ (fun r => ∀ c : Dev Cert.AdamWaOutRefIdeal.nD,
          r.2.mem ((c.tc : Thread Cert.AdamWaOutRefIdeal.nD Cert.AdamWaOutRefIdeal.τ).loc Cert.AdamWaOutRefIdeal.main_v46) = v0 c
          ∧ r.2.mem ((c.tc : Thread Cert.AdamWaOutRefIdeal.nD Cert.AdamWaOutRefIdeal.τ).loc Cert.AdamWaOutRefIdeal.main_v73) = v1 c
          ∧ r.2.mem ((c.tc : Thread Cert.AdamWaOutRefIdeal.nD Cert.AdamWaOutRefIdeal.τ).loc Cert.AdamWaOutRefIdeal.main_v54) = v2 c
          ∧ r.2.mem ((c.tc : Thread Cert.AdamWaOutRefIdeal.nD Cert.AdamWaOutRefIdeal.τ).loc Cert.AdamWaOutRefIdeal.main_v60) = v3 c
          ∧ r.2.mem ((c.tc : Thread Cert.AdamWaOutRefIdeal.nD Cert.AdamWaOutRefIdeal.τ).loc Cert.AdamWaOutRefIdeal.main_arg0) = m' ((c.tc : Thread Cert.AdamWaOutRefIdeal.nD Cert.AdamWaOutRefIdeal.τ).loc Cert.AdamWaOutRefIdeal.main_arg0)
          ∧ r.2.mem ((c.tc : Thread Cert.AdamWaOutRefIdeal.nD Cert.AdamWaOutRefIdeal.τ).loc Cert.AdamWaOutRefIdeal.main_arg1) = m' ((c.tc : Thread Cert.AdamWaOutRefIdeal.nD Cert.AdamWaOutRefIdeal.τ).loc Cert.AdamWaOutRefIdeal.main_arg1)
          ∧ r.2.mem ((c.tc : Thread Cert.AdamWaOutRefIdeal.nD Cert.AdamWaOutRefIdeal.τ).loc Cert.AdamWaOutRefIdeal.main_arg2) = m' ((c.tc : Thread Cert.AdamWaOutRefIdeal.nD Cert.AdamWaOutRefIdeal.τ).loc Cert.AdamWaOutRefIdeal.main_arg2)
          ∧ r.2.mem ((c.tc : Thread Cert.AdamWaOutRefIdeal.nD Cert.AdamWaOutRefIdeal.τ).loc Cert.AdamWaOutRefIdeal.main_arg3) = m' ((c.tc : Thread Cert.AdamWaOutRefIdeal.nD Cert.AdamWaOutRefIdeal.τ).loc Cert.AdamWaOutRefIdeal.main_arg3)
          ∧ r.2.mem ((c.tc : Thread Cert.AdamWaOutRefIdeal.nD Cert.AdamWaOutRefIdeal.τ).loc Cert.AdamWaOutRefIdeal.main_arg4) = m' ((c.tc : Thread Cert.AdamWaOutRefIdeal.nD Cert.AdamWaOutRefIdeal.τ).loc Cert.AdamWaOutRefIdeal.main_arg4)
          ∧ r.2.mem ((c.tc : Thread Cert.AdamWaOutRefIdeal.nD Cert.AdamWaOutRefIdeal.τ).loc Cert.AdamWaOutRefIdeal.main_arg5) = m' ((c.tc : Thread Cert.AdamWaOutRefIdeal.nD Cert.AdamWaOutRefIdeal.τ).loc Cert.AdamWaOutRefIdeal.main_arg5)
          ∧ r.2.mem ((c.tc : Thread Cert.AdamWaOutRefIdeal.nD Cert.AdamWaOutRefIdeal.τ).loc Cert.AdamWaOutRefIdeal.main_arg6) = m' ((c.tc : Thread Cert.AdamWaOutRefIdeal.nD Cert.AdamWaOutRefIdeal.τ).loc Cert.AdamWaOutRefIdeal.main_arg6))

def Claim : Prop :=
  ∃ (hKernel : Cert.Kernel.Facts) (hKernelIdeal : Cert.KernelIdeal.Facts) (hReferenceIdeal : Cert.ReferenceIdeal.Facts) (hDhB : Cert.DhB.Facts) (hDhBIdeal : Cert.DhBIdeal.Facts) (hDhBRefIdeal : Cert.DhBRefIdeal.Facts) (hDwInB : Cert.DwInB.Facts) (hDwInBIdeal : Cert.DwInBIdeal.Facts) (hDwInBRefIdeal : Cert.DwInBRefIdeal.Facts) (hDhA : Cert.DhA.Facts) (hDhAIdeal : Cert.DhAIdeal.Facts) (hDhARefIdeal : Cert.DhARefIdeal.Facts) (hDwInA : Cert.DwInA.Facts) (hDwInAIdeal : Cert.DwInAIdeal.Facts) (hDwInARefIdeal : Cert.DwInARefIdeal.Facts) (hDwOut : Cert.DwOut.Facts) (hDwOutIdeal : Cert.DwOutIdeal.Facts) (hDwOutRefIdeal : Cert.DwOutRefIdeal.Facts) (hDybr : Cert.Dybr.Facts) (hDybrIdeal : Cert.DybrIdeal.Facts) (hDybrRefIdeal : Cert.DybrRefIdeal.Facts) (hInB : Cert.InB.Facts) (hInBIdeal : Cert.InBIdeal.Facts) (hInBRefIdeal : Cert.InBRefIdeal.Facts) (hInA : Cert.InA.Facts) (hInAIdeal : Cert.InAIdeal.Facts) (hInARefIdeal : Cert.InARefIdeal.Facts) (hOutA : Cert.OutA.Facts) (hOutAIdeal : Cert.OutAIdeal.Facts) (hOutARefIdeal : Cert.OutARefIdeal.Facts) (hAdaBwd : Cert.AdaBwd.Facts) (hAdaBwdIdeal : Cert.AdaBwdIdeal.Facts) (hAdaBwdRefIdeal : Cert.AdaBwdRefIdeal.Facts) (hAdaFwd : Cert.AdaFwd.Facts) (hAdaFwdIdeal : Cert.AdaFwdIdeal.Facts) (hAdaFwdRefIdeal : Cert.AdaFwdRefIdeal.Facts) (hPre : Cert.Pre.Facts) (hPreIdeal : Cert.PreIdeal.Facts) (hPreRefIdeal : Cert.PreRefIdeal.Facts) (hAdamAda : Cert.AdamAda.Facts) (hAdamAdaIdeal : Cert.AdamAdaIdeal.Facts) (hAdamAdaRefIdeal : Cert.AdamAdaRefIdeal.Facts) (hAdamLate : Cert.AdamLate.Facts) (hAdamLateIdeal : Cert.AdamLateIdeal.Facts) (hAdamLateRefIdeal : Cert.AdamLateRefIdeal.Facts) (hPreBwd : Cert.PreBwd.Facts) (hPreBwdIdeal : Cert.PreBwdIdeal.Facts) (hPreBwdRefIdeal : Cert.PreBwdRefIdeal.Facts) (hLoss : Cert.Loss.Facts) (hLossIdeal : Cert.LossIdeal.Facts) (hLossRefIdeal : Cert.LossRefIdeal.Facts) (hAdamEarly : Cert.AdamEarly.Facts) (hAdamEarlyIdeal : Cert.AdamEarlyIdeal.Facts) (hAdamEarlyRefIdeal : Cert.AdamEarlyRefIdeal.Facts) (hAdamWaOut : Cert.AdamWaOut.Facts) (hAdamWaOutIdeal : Cert.AdamWaOutIdeal.Facts) (hAdamWaOutRefIdeal : Cert.AdamWaOutRefIdeal.Facts) (hPre_finite : Cert.Pre_finite.Facts) (hPre_finite_prenorm_bwd : Cert.Pre_finite_prenorm_bwd.Facts) (hPre_finite_loss : Cert.Pre_finite_loss.Facts) (hPre_indices_in_range : Cert.Pre_indices_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DhB (hDhB := hDhB)
    ∧ quiescent_DhBIdeal (hDhBIdeal := hDhBIdeal)
    ∧ quiescent_DhBRefIdeal (hDhBRefIdeal := hDhBRefIdeal)
    ∧ quiescent_DwInB (hDwInB := hDwInB)
    ∧ quiescent_DwInBIdeal (hDwInBIdeal := hDwInBIdeal)
    ∧ quiescent_DwInBRefIdeal (hDwInBRefIdeal := hDwInBRefIdeal)
    ∧ quiescent_DhA (hDhA := hDhA)
    ∧ quiescent_DhAIdeal (hDhAIdeal := hDhAIdeal)
    ∧ quiescent_DhARefIdeal (hDhARefIdeal := hDhARefIdeal)
    ∧ quiescent_DwInA (hDwInA := hDwInA)
    ∧ quiescent_DwInAIdeal (hDwInAIdeal := hDwInAIdeal)
    ∧ quiescent_DwInARefIdeal (hDwInARefIdeal := hDwInARefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Dybr (hDybr := hDybr)
    ∧ quiescent_DybrIdeal (hDybrIdeal := hDybrIdeal)
    ∧ quiescent_DybrRefIdeal (hDybrRefIdeal := hDybrRefIdeal)
    ∧ quiescent_InB (hInB := hInB)
    ∧ quiescent_InBIdeal (hInBIdeal := hInBIdeal)
    ∧ quiescent_InBRefIdeal (hInBRefIdeal := hInBRefIdeal)
    ∧ quiescent_InA (hInA := hInA)
    ∧ quiescent_InAIdeal (hInAIdeal := hInAIdeal)
    ∧ quiescent_InARefIdeal (hInARefIdeal := hInARefIdeal)
    ∧ quiescent_OutA (hOutA := hOutA)
    ∧ quiescent_OutAIdeal (hOutAIdeal := hOutAIdeal)
    ∧ quiescent_OutARefIdeal (hOutARefIdeal := hOutARefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_Pre (hPre := hPre)
    ∧ quiescent_PreIdeal (hPreIdeal := hPreIdeal)
    ∧ quiescent_PreRefIdeal (hPreRefIdeal := hPreRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamLate (hAdamLate := hAdamLate)
    ∧ quiescent_AdamLateIdeal (hAdamLateIdeal := hAdamLateIdeal)
    ∧ quiescent_AdamLateRefIdeal (hAdamLateRefIdeal := hAdamLateRefIdeal)
    ∧ quiescent_PreBwd (hPreBwd := hPreBwd)
    ∧ quiescent_PreBwdIdeal (hPreBwdIdeal := hPreBwdIdeal)
    ∧ quiescent_PreBwdIdeal_pre_finite_prenorm_bwd (hPreBwdIdeal := hPreBwdIdeal) (hPre_finite_prenorm_bwd := hPre_finite_prenorm_bwd)
    ∧ quiescent_PreBwdRefIdeal (hPreBwdRefIdeal := hPreBwdRefIdeal)
    ∧ quiescent_PreBwdRefIdeal_pre_finite_prenorm_bwd (hPreBwdRefIdeal := hPreBwdRefIdeal) (hPre_finite_prenorm_bwd := hPre_finite_prenorm_bwd)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_AdamEarly (hAdamEarly := hAdamEarly)
    ∧ quiescent_AdamEarlyIdeal (hAdamEarlyIdeal := hAdamEarlyIdeal)
    ∧ quiescent_AdamEarlyRefIdeal (hAdamEarlyRefIdeal := hAdamEarlyRefIdeal)
    ∧ quiescent_AdamWaOut (hAdamWaOut := hAdamWaOut) (hPre_indices_in_range := hPre_indices_in_range)
    ∧ quiescent_AdamWaOutIdeal (hAdamWaOutIdeal := hAdamWaOutIdeal) (hPre_indices_in_range := hPre_indices_in_range)
    ∧ quiescent_AdamWaOutRefIdeal (hAdamWaOutRefIdeal := hAdamWaOutRefIdeal)
    ∧ quiescent_AdamWaOutRefIdeal_pre_indices_in_range (hAdamWaOutRefIdeal := hAdamWaOutRefIdeal) (hPre_indices_in_range := hPre_indices_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_DhB_DhBIdeal
    ∧ algebraic_DhBIdeal_DhBRefIdeal (hDhBIdeal := hDhBIdeal) (hDhBRefIdeal := hDhBRefIdeal)
    ∧ preserves_DwInB_DwInBIdeal
    ∧ algebraic_DwInBIdeal_DwInBRefIdeal (hDwInBIdeal := hDwInBIdeal) (hDwInBRefIdeal := hDwInBRefIdeal)
    ∧ preserves_DhA_DhAIdeal
    ∧ algebraic_DhAIdeal_DhARefIdeal (hDhAIdeal := hDhAIdeal) (hDhARefIdeal := hDhARefIdeal)
    ∧ preserves_DwInA_DwInAIdeal
    ∧ algebraic_DwInAIdeal_DwInARefIdeal (hDwInAIdeal := hDwInAIdeal) (hDwInARefIdeal := hDwInARefIdeal)
    ∧ preserves_DwOut_DwOutIdeal
    ∧ algebraic_DwOutIdeal_DwOutRefIdeal (hDwOutIdeal := hDwOutIdeal) (hDwOutRefIdeal := hDwOutRefIdeal)
    ∧ preserves_Dybr_DybrIdeal
    ∧ algebraic_DybrIdeal_DybrRefIdeal (hDybrIdeal := hDybrIdeal) (hDybrRefIdeal := hDybrRefIdeal)
    ∧ preserves_InB_InBIdeal
    ∧ algebraic_InBIdeal_InBRefIdeal (hInBIdeal := hInBIdeal) (hInBRefIdeal := hInBRefIdeal)
    ∧ preserves_InA_InAIdeal
    ∧ algebraic_InAIdeal_InARefIdeal (hInAIdeal := hInAIdeal) (hInARefIdeal := hInARefIdeal)
    ∧ preserves_OutA_OutAIdeal
    ∧ algebraic_OutAIdeal_OutARefIdeal (hOutAIdeal := hOutAIdeal) (hOutARefIdeal := hOutARefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_Pre_PreIdeal
    ∧ algebraic_PreIdeal_PreRefIdeal (hPreIdeal := hPreIdeal) (hPreRefIdeal := hPreRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamLate_AdamLateIdeal
    ∧ algebraic_AdamLateIdeal_AdamLateRefIdeal (hAdamLateIdeal := hAdamLateIdeal) (hAdamLateRefIdeal := hAdamLateRefIdeal)
    ∧ preserves_PreBwd_PreBwdIdeal
    ∧ algebraic_PreBwdIdeal_PreBwdRefIdeal_pre_finite_prenorm_bwd (hPreBwdIdeal := hPreBwdIdeal) (hPreBwdRefIdeal := hPreBwdRefIdeal) (hPre_finite_prenorm_bwd := hPre_finite_prenorm_bwd)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_AdamEarly_AdamEarlyIdeal
    ∧ algebraic_AdamEarlyIdeal_AdamEarlyRefIdeal (hAdamEarlyIdeal := hAdamEarlyIdeal) (hAdamEarlyRefIdeal := hAdamEarlyRefIdeal)
    ∧ preserves_AdamWaOut_AdamWaOutIdeal
    ∧ algebraic_AdamWaOutIdeal_AdamWaOutRefIdeal (hAdamWaOutIdeal := hAdamWaOutIdeal) (hAdamWaOutRefIdeal := hAdamWaOutRefIdeal) (hPre_indices_in_range := hPre_indices_in_range)
-- ==== Pre_finite.lean ====
abbrev S4096x6144 : Shape := ⟨2, ![4096, 6144]⟩
abbrev S4096x2048 : Shape := ⟨2, ![4096, 2048]⟩
abbrev S1x2048 : Shape := ⟨2, ![1, 2048]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S4096x6144 : S_.BroadcastsInDim S4096x6144 (![] : Fin 0 → Fin S4096x6144.rank)
  bcast_S_S4096x2048 : S_.BroadcastsInDim S4096x2048 (![] : Fin 0 → Fin S4096x2048.rank)
  bcast_S_S1x2048 : S_.BroadcastsInDim S1x2048 (![] : Fin 0 → Fin S1x2048.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn {F : FTy → Type} [FloatOps F] (main_arg0 : FVec F S4096x6144 .f32) (main_arg1 : FVec F S4096x2048 .f32) (main_arg2 : FVec F S1x2048 .f32) (main_arg3 : FVec F S1x2048 .f32) (main_arg4 : FVec F S1x8x128x128 .f32) (main_arg5 : FVec F S1x8x128 .f32) : IVec S4096x6144 1 × IVec S4096x2048 1 × IVec S1x2048 1 × IVec S1x2048 1 × IVec S1x8x128x128 1 × IVec S1x8x128 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x8x128x128 .f32 := Host.absf main_arg4
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x8x128 .f32 := Host.absf main_arg5
  let main_cst_4 : FVec F S_ .f32 := constant S_ .f32 0x7F800000#32
  let main_v16 : FVec F S1x8x128 .f32 := broadcastInDim S1x8x128 ![] bcast_S_S1x8x128 main_cst_4
  let main_v17 : IVec S1x8x128 1 := cmpf .olt main_v15 main_v16
  (main_v2, main_v5, main_v8, main_v11, main_v14, main_v17)
-- ==== Pre_finite_loss.lean ====
abbrev S4096x2048 : Shape := ⟨2, ![4096, 2048]⟩
abbrev S8x256x1024 : Shape := ⟨3, ![8, 256, 1024]⟩
abbrev S4096x1024 : Shape := ⟨2, ![4096, 1024]⟩
abbrev S2x3x1024 : Shape := ⟨3, ![2, 3, 1024]⟩
abbrev S1x1024 : Shape := ⟨2, ![1, 1024]⟩
abbrev S_ : Shape := ⟨0, ![]⟩

class Facts : Prop where
  bcast_S_S4096x2048 : S_.BroadcastsInDim S4096x2048 (![] : Fin 0 → Fin S4096x2048.rank)
  bcast_S_S8x256x1024 : S_.BroadcastsInDim S8x256x1024 (![] : Fin 0 → Fin S8x256x1024.rank)
  bcast_S_S4096x1024 : S_.BroadcastsInDim S4096x1024 (![] : Fin 0 → Fin S4096x1024.rank)
  bcast_S_S2x3x1024 : S_.BroadcastsInDim S2x3x1024 (![] : Fin 0 → Fin S2x3x1024.rank)
  bcast_S_S1x1024 : S_.BroadcastsInDim S1x1024 (![] : Fin 0 → Fin S1x1024.rank)

variable [Facts]

def fn {F : FTy → Type} [FloatOps F] (main_arg0 : FVec F S4096x2048 .bf16) (main_arg1 : FVec F S8x256x1024 .bf16) (main_arg2 : FVec F S4096x1024 .f32) (main_arg3 : FVec F S2x3x1024 .f32) (main_arg4 : FVec F S1x1024 .f32) (main_arg5 : FVec F S4096x1024 .f32) : IVec S4096x2048 1 × IVec S8x256x1024 1 × IVec S4096x1024 1 × IVec S2x3x1024 1 × IVec S1x1024 1 × IVec S4096x1024 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S8x256x1024 .bf16 := Host.absf main_arg1
  let main_cst_0 : FVec F S_ .bf16 := constant S_ .bf16 0x7F80#16
  let main_v4 : FVec F S8x256x1024 .bf16 := broadcastInDim S8x256x1024 ![] bcast_S_S8x256x1024 main_cst_0
  let main_v5 : IVec S8x256x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S2x3x1024 .f32 := Host.absf main_arg3
  let main_cst_2 : FVec F S_ .f32 := constant S_ .f32 0x7F800000#32
  let main_v10 : FVec F S2x3x1024 .f32 := broadcastInDim S2x3x1024 ![] bcast_S_S2x3x1024 main_cst_2
  let main_v11 : IVec S2x3x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_prenorm_bwd.lean ====
abbrev S4096x1024 : Shape := ⟨2, ![4096, 1024]⟩
abbrev S1x1024 : Shape := ⟨2, ![1, 1024]⟩
abbrev S2x3x1024 : Shape := ⟨3, ![2, 3, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S2x3x1024 : S_.BroadcastsInDim S2x3x1024 (![] : Fin 0 → Fin S2x3x1024.rank)

variable [Facts]

def fn {F : FTy → Type} [FloatOps F] (main_arg0 : FVec F S4096x1024 .f32) (main_arg1 : FVec F S4096x1024 .f32) (main_arg2 : FVec F S1x1024 .f32) (main_arg3 : FVec F S2x3x1024 .f32) (main_arg4 : FVec F S4096x1024 .f32) : IVec S4096x1024 1 × IVec S4096x1024 1 × IVec S1x1024 1 × IVec S2x3x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S2x3x1024 .f32 := Host.absf main_arg3
  let main_cst_2 : FVec F S_ .f32 := constant S_ .f32 0x7F800000#32
  let main_v10 : FVec F S2x3x1024 .f32 := broadcastInDim S2x3x1024 ![] bcast_S_S2x3x1024 main_cst_2
  let main_v11 : IVec S2x3x1024 1 := cmpf .olt main_v9 main_v10
  (main_v2, main_v5, main_v8, main_v11)
-- ==== Pre_indices_in_range.lean ====
abbrev S8x256x1024 : Shape := ⟨3, ![8, 256, 1024]⟩
abbrev S4x256x1024 : Shape := ⟨3, ![4, 256, 1024]⟩
abbrev S3x256x1024 : Shape := ⟨3, ![3, 256, 1024]⟩
abbrev S5 : Shape := ⟨1, ![5]⟩
abbrev S1x256x1024 : Shape := ⟨3, ![1, 256, 1024]⟩
abbrev S_ : Shape := ⟨0, ![]⟩
abbrev S1 : Shape := ⟨1, ![1]⟩
abbrev S3 : Shape := ⟨1, ![3]⟩

class Facts : Prop where
  bcast_S_S5 : S_.BroadcastsInDim S5 (![] : Fin 0 → Fin S5.rank)
  slices_S5_S1_0 : S5.Slices ![0] S1
  bcast_S_S1 : S_.BroadcastsInDim S1 (![] : Fin 0 → Fin S1.rank)
  slices_S5_S1_1 : S5.Slices ![1] S1
  slices_S5_S3_2 : S5.Slices ![2] S3
  bcast_S_S3 : S_.BroadcastsInDim S3 (![] : Fin 0 → Fin S3.rank)

variable [Facts]

def fn {F : FTy → Type} [FloatOps F] (main_arg0 : FVec F S8x256x1024 .f32) (main_arg1 : FVec F S4x256x1024 .f32) (main_arg2 : FVec F S3x256x1024 .bf16) (main_arg3 : IVec S5 32) (main_arg4 : FVec F S1x256x1024 .f32) (main_arg5 : FVec F S1x256x1024 .f32) (main_arg6 : FVec F S1x256x1024 .f32) : IVec S5 1 × IVec S1 1 × IVec S1 1 × IVec S3 1 :=
  let main_c : IVec S_ 32 := constantI S_ 32 0#32
  let main_v0 : IVec S5 32 := broadcastInDim S5 ![] bcast_S_S5 main_c
  let main_v1 : IVec S5 1 := cmpi .sge main_arg3 main_v0
  let main_v2 : IVec S1 32 := (extractStridedSlice S1 ![0] · slices_S5_S1_0) main_arg3
  let main_c_0 : IVec S_ 32 := constantI S_ 32 8#32
  let main_v3 : IVec S1 32 := broadcastInDim S1 ![] bcast_S_S1 main_c_0
  let main_v4 : IVec S1 1 := cmpi .slt main_v2 main_v3
  let main_v5 : IVec S1 32 := (extractStridedSlice S1 ![1] · slices_S5_S1_1) main_arg3
  let main_c_1 : IVec S_ 32 := constantI S_ 32 4#32
  let main_v6 : IVec S1 32 := broadcastInDim S1 ![] bcast_S_S1 main_c_1
  let main_v7 : IVec S1 1 := cmpi .slt main_v5 main_v6
  let main_v8 : IVec S3 32 := (extractStridedSlice S3 ![2] · slices_S5_S3_2) main_arg3
  let main_c_2 : IVec S_ 32 := constantI S_ 32 3#32
  let main_v9 : IVec S3 32 := broadcastInDim S3 ![] bcast_S_S3 main_c_2
  let main_v10 : IVec S3 1 := cmpi .slt main_v8 main_v9
  (main_v1, main_v4, main_v7, main_v10)
-- ==== Kernel.lean ====
abbrev S4096x6144 : Shape := ⟨2, ![4096, 6144]⟩
abbrev S4096x2048 : Shape := ⟨2, ![4096, 2048]⟩
abbrev S1x2048 : Shape := ⟨2, ![1, 2048]⟩
abbrev S1x8x128x128 : Shape := ⟨4, ![1, 8, 128, 128]⟩
abbrev S1x8x128 : Shape := ⟨3, ![1, 8, 128]⟩
abbrev S8x128 : Shape := ⟨2, ![8, 128]⟩
abbrev S128x8 : Shape := ⟨2, ![128, 8]⟩
abbrev S_ : Shape := ⟨0, ![]⟩
abbrev S128x128 : Shape := ⟨2, ![128, 128]⟩
abbrev S8x128x128 : Shape := ⟨3, ![8, 128, 128]⟩
abbrev S256x6144 : Shape := ⟨2, ![256, 6144]⟩
abbrev S256x2048 : Shape := ⟨2, ![256, 2048]⟩
abbrev S256 : Shape := ⟨1, ![256]⟩
abbrev S256x1 : Shape := ⟨2, ![256, 1]⟩
abbrev S1x128x128 : Shape := ⟨3, ![1, 128, 128]⟩
abbrev S128x1 : Shape := ⟨2, ![128, 1]⟩
abbrev S128x256 : Shape := ⟨2, ![128, 256]⟩
abbrev S128 : Shape := ⟨1, ![128]⟩
abbrev S2048 : Shape := ⟨1, ![2048]⟩

abbrev nBuf : Space → Nat
  | .hbm => 17
  | .vmem => 16
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x8x128x128, .f32⟩
  | .hbm, ⟨5, _⟩ => ⟨S1x8x128, .f32⟩
  | .hbm, ⟨6, _⟩ => ⟨S8x128, .f32⟩
  | .hbm, ⟨7, _⟩ => ⟨S128x8, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S8x128x128, .f32⟩
  | .hbm, ⟨12, _⟩ => ⟨S4096x6144, .bf16⟩
  | .hbm, ⟨13, _⟩ => ⟨S1x2048, .f32⟩
  | .hbm, ⟨14, _⟩ => ⟨S1x2048, .f32⟩
  | .hbm, ⟨15, _⟩ => ⟨S8x128x128, .f32⟩
  | .hbm, ⟨16, _⟩ => ⟨S128x128, .f32⟩
  | .local _ .vmem, ⟨0, _⟩ => ⟨S256x6144, .f32⟩
  | .local _ .vmem, ⟨1, _⟩ => ⟨S256x6144, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x128, .f32⟩
  | .local _ .vmem, ⟨8, _⟩ => ⟨S256x6144, .bf16⟩
  | .local _ .vmem, ⟨9, _⟩ => ⟨S256x6144, .bf16⟩
  | .local _ .vmem, ⟨10, _⟩ => ⟨S1x2048, .f32⟩
  | .local _ .vmem, ⟨11, _⟩ => ⟨S1x2048, .f32⟩
  | .local _ .vmem, ⟨12, _⟩ => ⟨S8x128x128, .f32⟩
  | .local _ .vmem, ⟨13, _⟩ => ⟨S128x128, .f32⟩
  | .local _ .vmem, ⟨14, _⟩ => ⟨S256x2048, .f32⟩
  | .local _ .vmem, ⟨15, _⟩ => ⟨S256x2048, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_3ac" => some ((241015141496493 / 2251799813685248 : ℝ) : EReal)
  | _ => none
-- ==== ReferenceIdeal.lean ====
abbrev S4096x6144 : Shape := ⟨2, ![4096, 6144]⟩
abbrev S4096x2048 : Shape := ⟨2, ![4096, 2048]⟩
abbrev S1x2048 : Shape := ⟨2, ![1, 2048]⟩
abbrev S1x8x128x128 : Shape := ⟨4, ![1, 8, 128, 128]⟩
abbrev S1x8x128 : Shape := ⟨3, ![1, 8, 128]⟩
abbrev S2x2048x6144 : Shape := ⟨3, ![2, 2048, 6144]⟩
abbrev S2048 : Shape := ⟨1, ![2048]⟩
abbrev S8x128x128 : Shape := ⟨3, ![8, 128, 128]⟩
abbrev S8x128 : Shape := ⟨2, ![8, 128]⟩
abbrev S2x2048x4096 : Shape := ⟨3, ![2, 2048, 4096]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x16x128x8x256 : Shape := ⟨5, ![2, 16, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x2x16x256x128 : Shape := ⟨5, ![8, 2, 16, 256, 128]⟩
abbrev S128x8 : Shape := ⟨2, ![128, 8]⟩
abbrev S1x1x128x8x1 : Shape := ⟨5, ![1, 1, 128, 8, 1]⟩

abbrev nBuf : Space → Nat
  | .hbm => 252
  | .vmem => 0
  | .smem => 0
  | _ => 0

abbrev hbmTy0_0 (i : Nat) : BufTy := match i % 128 with
  | 0 => ⟨S4096x6144, .f32⟩
  | 1 => ⟨S4096x2048, .f32⟩
  | 2 => ⟨S1x2048, .f32⟩
  | 3 => ⟨S1x2048, .f32⟩
  | 4 => ⟨S1x8x128x128, .f32⟩
  | 5 => ⟨S1x8x128, .f32⟩
  | 6 => ⟨S2x2048x6144, .f32⟩
  | 7 => ⟨S2048, .f32⟩
  | 8 => ⟨S2048, .f32⟩
  | 9 => ⟨S8x128x128, .f32⟩
  | 10 => ⟨S8x128, .f32⟩
  | 11 => ⟨S2x2048x4096, .f32⟩
  | 12 => ⟨S2x2048x2048, .f32⟩
  | 13 => ⟨S2x2048x4096, .f32⟩
  | 14 => ⟨S2x2048x4096, .f32⟩
  | 15 => ⟨S2x2048x4096, .f32⟩
  | 16 => ⟨S_, .f32⟩
  | 17 => ⟨S2x2048x4096, .f32⟩
  | 18 => ⟨S2x2048x4096, .f32⟩
  | 19 => ⟨S_, .f32⟩
  | 20 => ⟨S2x2048x4096, .f32⟩
  | 21 => ⟨S2x2048x4096, .f32⟩
  | 22 => ⟨S2x2048x4096, .f32⟩
  | 23 => ⟨S_, .f32⟩
  | 24 => ⟨S2x2048x4096, .f32⟩
  | 25 => ⟨S2x2048x4096, .f32⟩
  | 26 => ⟨S2x2048x4096, .f32⟩
  | 27 => ⟨S_, .f32⟩
  | 28 => ⟨S2x2048x4096, .f32⟩
  | 29 => ⟨S2x2048x4096, .f32⟩
  | 30 => ⟨S_, .f32⟩
  | 31 => ⟨S2x2048x4096, .f32⟩
  | 32 => ⟨S2x2048x4096, .f32⟩
  | 33 => ⟨S2x2048x4096, .f32⟩
  | 34 => ⟨S_, .f32⟩
  | 35 => ⟨S2x2048x4096, .f32⟩
  | 36 => ⟨S2x2048x4096, .f32⟩
  | 37 => ⟨S_, .f32⟩
  | 38 => ⟨S2x2048x4096, .f32⟩
  | 39 => ⟨S2x2048x4096, .f32⟩
  | 40 => ⟨S2x2048x4096, .f32⟩
  | 41 => ⟨S2x2048x2048, .f32⟩
  | 42 => ⟨S2x2048x2048, .f32⟩
  | 43 => ⟨S_, .f32⟩
  | 44 => ⟨S2x2048, .f32⟩
  | 45 => ⟨S2x2048x1, .f32⟩
  | 46 => ⟨S_, .f32⟩
  | 47 => ⟨S2x2048x1, .f32⟩
  | 48 => ⟨S2x2048x1, .f32⟩
  | 49 => ⟨S2x2048x2048, .f32⟩
  | 50 => ⟨S2x2048x2048, .f32⟩
  | 51 => ⟨S2x2048x2048, .f32⟩
  | 52 => ⟨S_, .f32⟩
  | 53 => ⟨S2x2048x2048, .f32⟩
  | 54 => ⟨S2x2048x2048, .f32⟩
  | 55 => ⟨S_, .f32⟩
  | 56 => ⟨S2x2048, .f32⟩
  | 57 => ⟨S2x2048x1, .f32⟩
  | 58 => ⟨S_, .f32⟩
  | 59 => ⟨S2x2048x1, .f32⟩
  | 60 => ⟨S2x2048x1, .f32⟩
  | 61 => ⟨S2x2048x2048, .f32⟩
  | 62 => ⟨S2x2048x2048, .f32⟩
  | 63 => ⟨S_, .f32⟩
  | 64 => ⟨S2x2048x1, .f32⟩
  | 65 => ⟨S2x2048x1, .f32⟩
  | 66 => ⟨S2x2048x1, .f32⟩
  | 67 => ⟨S2x2048x1, .f32⟩
  | 68 => ⟨S_, .f32⟩
  | 69 => ⟨S2x2048x1, .f32⟩
  | 70 => ⟨S2x2048x1, .f32⟩
  | 71 => ⟨S2x2048x2048, .f32⟩
  | 72 => ⟨S2x2048x2048, .f32⟩
  | 73 => ⟨S1x1x2048, .f32⟩
  | 74 => ⟨S2x2048x2048, .f32⟩
  | 75 => ⟨S2x2048x2048, .f32⟩
  | 76 => ⟨S1x1x2048, .f32⟩
  | 77 => ⟨S2x2048x2048, .f32⟩
  | 78 => ⟨S2x2048x2048, .f32⟩
  | 79 => ⟨S2x16x128x8x256, .f32⟩
  | 80 => ⟨S128, .i32⟩
  | 81 => ⟨S1x128, .i32⟩
  | 82 => ⟨S_, .i32⟩
  | 83 => ⟨S_, .i32⟩
  | 84 => ⟨S1x128, .i32⟩
  | 85 => ⟨S1x128, .i32⟩
  | 86 => ⟨S1x128, .i32⟩
  | 87 => ⟨S_, .i32⟩
  | 88 => ⟨S1x128, .i32⟩
  | 89 => ⟨S1x128, .i1⟩
  | 90 => ⟨S1x128, .i32⟩
  | 91 => ⟨S1x128, .i32⟩
  | 92 => ⟨S_, .i32⟩
  | 93 => ⟨S1x128, .i32⟩
  | 94 => ⟨S1x128, .i1⟩
  | 95 => ⟨S1x128, .i1⟩
  | 96 => ⟨S_, .i32⟩
  | 97 => ⟨S1x128, .i32⟩
  | 98 => ⟨S1x128, .i32⟩
  | 99 => ⟨S1x128, .i32⟩
  | 100 => ⟨S128x1, .i32⟩
  | 101 => ⟨S_, .i32⟩
  | 102 => ⟨S_, .i32⟩
  | 103 => ⟨S128x1, .i32⟩
  | 104 => ⟨S128x1, .i32⟩
  | 105 => ⟨S128x1, .i32⟩
  | 106 => ⟨S_, .i32⟩
  | 107 => ⟨S128x1, .i32⟩
  | 108 => ⟨S128x1, .i1⟩
  | 109 => ⟨S128x1, .i32⟩
  | 110 => ⟨S128x1, .i32⟩
  | 111 => ⟨S_, .i32⟩
  | 112 => ⟨S128x1, .i32⟩
  | 113 => ⟨S128x1, .i1⟩
  | 114 => ⟨S128x1, .i1⟩
  | 115 => ⟨S_, .i32⟩
  | 116 => ⟨S128x1, .i32⟩
  | 117 => ⟨S128x1, .i32⟩
  | 118 => ⟨S128x1, .i32⟩
  | 119 => ⟨S128x128, .i32⟩
  | 120 => ⟨S128x128, .i32⟩
  | 121 => ⟨S128x128, .i1⟩
  | 122 => ⟨S1x128x128, .i1⟩
  | 123 => ⟨S_, .f32⟩
  | 124 => ⟨S8x128x128, .i1⟩
  | 125 => ⟨S8x128x128, .f32⟩
  | 126 => ⟨S8x128x128, .f32⟩
  | 127 => ⟨S_, .f32⟩
  | _ => ⟨S4096x6144, .f32⟩

abbrev hbmTy0_1 (i : Nat) : BufTy := match i % 128 with
  | 0 => ⟨S8x128x128, .f32⟩
  | 1 => ⟨S8x2x16x256x128, .f32⟩
  | 2 => ⟨S2x16x128x8x256, .f32⟩
  | 3 => ⟨S128x8, .f32⟩
  | 4 => ⟨S1x1x128x8x1, .f32⟩
  | 5 => ⟨S2x16x128x8x256, .f32⟩
  | 6 => ⟨S2x16x128x8x256, .f32⟩
  | 7 => ⟨S2x2048x2048, .f32⟩
  | 8 => ⟨S2x2048x2048, .f32⟩
  | 9 => ⟨S2x2048x2048, .f32⟩
  | 10 => ⟨S2x2048x2048, .f32⟩
  | 11 => ⟨S_, .f32⟩
  | 12 => ⟨S2x2048x2048, .f32⟩
  | 13 => ⟨S2x2048x2048, .f32⟩
  | 14 => ⟨S_, .f32⟩
  | 15 => ⟨S2x2048x2048, .f32⟩
  | 16 => ⟨S2x2048x2048, .f32⟩
  | 17 => ⟨S_, .f32⟩
  | 18 => ⟨S2x2048x2048, .f32⟩
  | 19 => ⟨S2x2048x2048, .f32⟩
  | 20 => ⟨S2x2048x2048, .f32⟩
  | 21 => ⟨S2x2048x2048, .f32⟩
  | 22 => ⟨S2x2048x2048, .f32⟩
  | 23 => ⟨S2x2048x2048, .f32⟩
  | 24 => ⟨S2x2048x2048, .f32⟩
  | 25 => ⟨S2x2048x2048, .f32⟩
  | 26 => ⟨S2x2048x2048, .f32⟩
  | 27 => ⟨S2x2048x2048, .f32⟩
  | 28 => ⟨S2x2048x2048, .f32⟩
  | 29 => ⟨S2x2048x2048, .f32⟩
  | 30 => ⟨S2x2048x2048, .f32⟩
  | 31 => ⟨S2x2048x2048, .f32⟩
  | 32 => ⟨S2x16x128x8x256, .f32⟩
  | 33 => ⟨S_, .f32⟩
  | 34 => ⟨S128x8, .f32⟩
  | 35 => ⟨S1x1x128x8x1, .f32⟩
  | 36 => ⟨S_, .f32⟩
  | 37 => ⟨S128x8, .f32⟩
  | 38 => ⟨S8x128, .f32⟩
  | 39 => ⟨S8x2x16x256x128, .f32⟩
  | 40 => ⟨S8x128x128, .f32⟩
  | 41 => ⟨S8x2x16x256x128, .f32⟩
  | 42 => ⟨S2x16x128x8x256, .f32⟩
  | 43 => ⟨S_, .f32⟩
  | 44 => ⟨S8x128x128, .f32⟩
  | 45 => ⟨S8x128x128, .f32⟩
  | 46 => ⟨S2x2048x2048, .f32⟩
  | 47 => ⟨S_, .f32⟩
  | 48 => ⟨S2048, .f32⟩
  | 49 => ⟨S1x1x2048, .f32⟩
  | 50 => ⟨S_, .f32⟩
  | 51 => ⟨S2048, .f32⟩
  | 52 => ⟨S2x2048x2048, .f32⟩
  | 53 => ⟨S_, .f32⟩
  | 54 => ⟨S2048, .f32⟩
  | 55 => ⟨S1x1x2048, .f32⟩
  | 56 => ⟨S2x2048x2048, .f32⟩
  | 57 => ⟨S2x2048x2048, .f32⟩
  | 58 => ⟨S_, .f32⟩
  | 59 => ⟨S2048, .f32⟩
  | 60 => ⟨S2x2048x2048, .f32⟩
  | 61 => ⟨S_, .f32⟩
  | 62 => ⟨S2x2048, .f32⟩
  | 63 => ⟨S2x2048x1, .f32⟩
  | 64 => ⟨S2x2048x2048, .f32⟩
  | 65 => ⟨S2x2048x2048, .f32⟩
  | 66 => ⟨S2x2048x1, .f32⟩
  | 67 => ⟨S2x2048x2048, .f32⟩
  | 68 => ⟨S_, .f32⟩
  | 69 => ⟨S2x2048, .f32⟩
  | 70 => ⟨S2x2048x1, .f32⟩
  | 71 => ⟨S_, .f32⟩
  | 72 => ⟨S2x2048x1, .f32⟩
  | 73 => ⟨S2x2048x1, .f32⟩
  | 74 => ⟨S_, .f32⟩
  | 75 => ⟨S2x2048, .f32⟩
  | 76 => ⟨S2x2048x2048, .f32⟩
  | 77 => ⟨S2x2048x2048, .f32⟩
  | 78 => ⟨S2x2048x2048, .f32⟩
  | 79 => ⟨S_, .f32⟩
  | 80 => ⟨S2x2048, .f32⟩
  | 81 => ⟨S2x2048x1, .f32⟩
  | 82 => ⟨S2x2048x2048, .f32⟩
  | 83 => ⟨S2x2048x1, .f32⟩
  | 84 => ⟨S_, .f32⟩
  | 85 => ⟨S2x2048x1, .f32⟩
  | 86 => ⟨S2x2048x1, .f32⟩
  | 87 => ⟨S_, .f32⟩
  | 88 => ⟨S2x2048, .f32⟩
  | 89 => ⟨S2x2048x2048, .f32⟩
  | 90 => ⟨S2x2048x2048, .f32⟩
  | 91 => ⟨S_, .f32⟩
  | 92 => ⟨S2x2048x4096, .f32⟩
  | 93 => ⟨S_, .f32⟩
  | 94 => ⟨S2x2048x4096, .f32⟩
  | 95 => ⟨S2x2048x4096, .f32⟩
  | 96 => ⟨S2x2048x4096, .f32⟩
  | 97 => ⟨S2x2048x4096, .f32⟩
  | 98 => ⟨S_, .f32⟩
  | 99 => ⟨S2x2048x4096, .f32⟩
  | 100 => ⟨S2x2048x4096, .f32⟩
  | 101 => ⟨S2x2048x4096, .f32⟩
  | 102 => ⟨S_, .f32⟩
  | 103 => ⟨S2x2048x4096, .f32⟩
  | 104 => ⟨S2x2048x4096, .f32⟩
  | 105 => ⟨S2x2048x4096, .f32⟩
  | 106 => ⟨S_, .f32⟩
  | 107 => ⟨S2x2048x4096, .f32⟩
  | 108 => ⟨S2x2048x4096, .f32⟩
  | 109 => ⟨S2x2048x4096, .f32⟩
  | 110 => ⟨S2x2048x4096, .f32⟩
  | 111 => ⟨S_, .f32⟩
  | 112 => ⟨S2x2048x6144, .f32⟩
  | 113 => ⟨S_, .f32⟩
  | 114 => ⟨S2x2048x6144, .f32⟩
  | 115 => ⟨S2x2048x6144, .f32⟩
  | 116 => ⟨S4096x6144, .f32⟩
  | 117 => ⟨S4096x6144, .bf16⟩
  | 118 => ⟨S1x2048, .f32⟩
  | 119 => ⟨S1x2048, .f32⟩
  | 120 => ⟨S128x8, .f32⟩
  | 121 => ⟨S_, .i32⟩
  | 122 => ⟨S_, .f32⟩
  | 123 => ⟨S128x128, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_c : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_c_0 : Ref sig .tc := ⟨.hbm, 96, rfl⟩
abbrev main_call0_v12 : Ref sig .tc := ⟨.hbm, 97, rfl⟩
abbrev main_call0_v13 : Ref sig .tc := ⟨.hbm, 98, rfl⟩
abbrev main_v62 : Ref sig .tc := ⟨.hbm, 99, rfl⟩
abbrev main_v63 : Ref sig .tc := ⟨.hbm, 100, rfl⟩
abbrev main_c_13 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_c : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_c_0 : Ref sig .tc := ⟨.hbm, 115, rfl⟩
abbrev main_call1_v12 : Ref sig .tc := ⟨.hbm, 116, rfl⟩
abbrev main_call1_v13 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_14 : Ref sig .tc := ⟨.hbm, 123, rfl⟩
abbrev main_v69_1 : Ref sig .tc := ⟨.hbm, 124, rfl⟩
abbrev main_call2_v1 : Ref sig .tc := ⟨.hbm, 125, rfl⟩
abbrev main_v69_0 : Ref sig .tc := ⟨.hbm, 126, rfl⟩
abbrev main_call2_cst : Ref sig .tc := ⟨.hbm, 127, rfl⟩
abbrev main_v69_2 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_call3_v0 : Ref sig .tc := ⟨.hbm, 137, rfl⟩
abbrev main_call3_v1 : Ref sig .tc := ⟨.hbm, 138, rfl⟩
abbrev main_call3_cst : Ref sig .tc := ⟨.hbm, 139, rfl⟩
abbrev main_call3_v2 : Ref sig .tc := ⟨.hbm, 140, rfl⟩
abbrev main_call3_v3 : Ref sig .tc := ⟨.hbm, 141, rfl⟩
abbrev main_call3_cst_0 : Ref sig .tc := ⟨.hbm, 142, rfl⟩
abbrev main_call3_v4 : Ref sig .tc := ⟨.hbm, 143, rfl⟩
abbrev main_v78_2 : Ref sig .tc := ⟨.hbm, 144, rfl⟩
abbrev main_call3_cst_1 : Ref sig .tc := ⟨.hbm, 145, rfl⟩
abbrev main_call3_v6 : Ref sig .tc := ⟨.hbm, 146, rfl⟩
abbrev main_call3_v7 : Ref sig .tc := ⟨.hbm, 147, rfl⟩
abbrev main_v78_1 : Ref sig .tc := ⟨.hbm, 148, rfl⟩
abbrev main_v78_0 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_cst_15 : Ref sig .tc := ⟨.hbm, 161, rfl⟩
abbrev main_v87 : Ref sig .tc := ⟨.hbm, 162, rfl⟩
abbrev main_v88 : Ref sig .tc := ⟨.hbm, 163, rfl⟩
abbrev main_cst_16 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_call5_cst : Ref sig .tc := ⟨.hbm, 171, rfl⟩
abbrev main_call5_v0 : Ref sig .tc := ⟨.hbm, 172, rfl⟩
abbrev main_v95 : Ref sig .tc := ⟨.hbm, 173, rfl⟩
abbrev main_v96 : Ref sig .tc := ⟨.hbm, 174, rfl⟩
abbrev main_cst_17 : Ref sig .tc := ⟨.hbm, 175, rfl⟩
abbrev main_v97 : Ref sig .tc := ⟨.hbm, 176, rfl⟩
abbrev main_v98 : Ref sig .tc := ⟨.hbm, 177, rfl⟩
abbrev main_cst_18 : Ref sig .tc := ⟨.hbm, 178, rfl⟩
abbrev main_v99 : Ref sig .tc := ⟨.hbm, 179, rfl⟩
abbrev main_v100 : Ref sig .tc := ⟨.hbm, 180, rfl⟩
abbrev main_cst_19 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_cst_20 : Ref sig .tc := ⟨.hbm, 186, rfl⟩
abbrev main_v105 : Ref sig .tc := ⟨.hbm, 187, rfl⟩
abbrev main_v106 : Ref sig .tc := ⟨.hbm, 188, rfl⟩
abbrev main_cst_21 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_cst_22 : Ref sig .tc := ⟨.hbm, 196, rfl⟩
abbrev main_v113 : Ref sig .tc := ⟨.hbm, 197, rfl⟩
abbrev main_v114 : Ref sig .tc := ⟨.hbm, 198, rfl⟩
abbrev main_cst_23 : Ref sig .tc := ⟨.hbm, 199, rfl⟩
abbrev main_v115 : Ref sig .tc := ⟨.hbm, 200, rfl⟩
abbrev main_v116 : Ref sig .tc := ⟨.hbm, 201, rfl⟩
abbrev main_cst_24 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_cst_25 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_26 : Ref sig .tc := ⟨.hbm, 212, rfl⟩
abbrev main_v125 : Ref sig .tc := ⟨.hbm, 213, rfl⟩
abbrev main_v126 : Ref sig .tc := ⟨.hbm, 214, rfl⟩
abbrev main_cst_27 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_cst_28 : Ref sig .tc := ⟨.hbm, 219, rfl⟩
abbrev main_v130 : Ref sig .tc := ⟨.hbm, 220, rfl⟩
abbrev main_cst_29 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_cst_30 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_cst_31 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_cst_32 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_cst_33 : Ref sig .tc := ⟨.hbm, 239, rfl⟩
abbrev main_v145 : Ref sig .tc := ⟨.hbm, 240, rfl⟩
abbrev main_cst_34 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_c_35 : Ref sig .tc := ⟨.hbm, 249, rfl⟩
abbrev main_call6_v0 : Ref sig .tc := ⟨.hbm, 250, rfl⟩
abbrev main_v153 : Ref sig .tc := ⟨.hbm, 251, rfl⟩

abbrev nD : Nat := 1
abbrev τ : Topo := Topo.v7x

variable {F : FTy → Type} [FloatOps F]
-- ==== DhB.lean ====
abbrev S4x4096x2048 : Shape := ⟨3, ![4, 4096, 2048]⟩
abbrev S8x1024x512 : Shape := ⟨3, ![8, 1024, 512]⟩
abbrev S4096x1024 : Shape := ⟨2, ![4096, 1024]⟩
abbrev S1x1024x2048 : Shape := ⟨3, ![1, 1024, 2048]⟩
abbrev S2x1024x512 : Shape := ⟨3, ![2, 1024, 512]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x2048, .bf16⟩
  | .hbm, ⟨1, _⟩ => ⟨S8x1024x512, .bf16⟩
  | .hbm, ⟨2, _⟩ => ⟨S8x1024x512, .bf16⟩
  | .hbm, ⟨3, _⟩ => ⟨S4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2x1024x512, .bf16⟩
  | .local _ .vmem, ⟨3, _⟩ => ⟨S2x1024x512, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | .local _ .vmem, ⟨7, _⟩ => ⟨S1024x1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v23 : BitVec 1 := Scalar.cmpi .eq arg1 c0_i32
  let v24 : BitVec 32 := Scalar.extui v23
  let c0_i32_22 : BitVec 32 := 0#32
  let v25 : BitVec 1 := Scalar.cmpi .ne v24 c0_i32_22
  v25

def k0_cond2 (i : grid0.Coords) : BitVec 1 :=
  let arg1 : BitVec 32 := BitVec.ofNat 32 (i 1).val
  let c0_i32_23 : BitVec 32 := 0#32
  let v26 : BitVec 1 := Scalar.cmpi .sgt arg1 c0_i32_23
  let v27 : BitVec 32 := Scalar.extui v26
  let c0_i32_24 : BitVec 32 := 0#32
  let v28 : BitVec 1 := Scalar.cmpi .ne v27 c0_i32_24
  v28

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg0 c0_i32_5
  let c2_i32_6 : BitVec 32 := 2#32
  let v19 : BitVec 32 := Scalar.muli c2_i32_6 arg1
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c2_i32_13 : BitVec 32 := 2#32
  let v30 : BitVec 32 := Scalar.divsi v29 c2_i32_13
  let c0_i32_14 : BitVec 32 := 0#32
  let v31 : BitVec 1 := Scalar.cmpi .sgt v29 c0_i32_14
  let v32 : BitVec 32 := Scalar.extui v31
  let c0_i32_15 : BitVec 32 := 0#32
  let v33 : BitVec 1 := Scalar.cmpi .slt v29 c0_i32_15
  let v34 : BitVec 32 := Scalar.extui v33
  let v35 : BitVec 32 := Scalar.subi v32 v34
  let c0_i32_16 : BitVec 32 := 0#32
  let v36 : BitVec 1 := Scalar.cmpi .sgt c2_i32_13 c0_i32_16
  let v37 : BitVec 32 := Scalar.extui v36
  let c0_i32_17 : BitVec 32 := 0#32
  let v38 : BitVec 1 := Scalar.cmpi .slt c2_i32_13 c0_i32_17
  let v39 : BitVec 32 := Scalar.extui v38
  let v40 : BitVec 32 := Scalar.subi v37 v39
  let v41 : BitVec 1 := Scalar.cmpi .ne v35 v40
  let v42 : BitVec 32 := Scalar.remsi v29 c2_i32_13
  let c0_i32_18 : BitVec 32 := 0#32
  let v43 : BitVec 1 := Scalar.cmpi .ne v42 c0_i32_18
  let v44 : BitVec 1 := Scalar.andi v41 v43
  let c1_i32_19 : BitVec 32 := 1#32
  let v45 : BitVec 32 := Scalar.subi v30 c1_i32_19
  let v46 : BitVec 32 := Scalar.select v44 v45 v30
  let c0_i32_20 : BitVec 32 := 0#32
  ![v17.toNat, v18.toNat, v46.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DhBRefIdeal.lean ====
abbrev S4x4096x2048 : Shape := ⟨3, ![4, 4096, 2048]⟩
abbrev S8x1024x512 : Shape := ⟨3, ![8, 1024, 512]⟩
abbrev S_ : Shape := ⟨0, ![]⟩
abbrev S4096x1024 : Shape := ⟨2, ![4096, 1024]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S4096x8192 : Shape := ⟨2, ![4096, 8192]⟩
abbrev S4096x4x2048 : Shape := ⟨3, ![4096, 4, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S8x1024x512, .bf16⟩
  | .hbm, ⟨2, _⟩ => ⟨S8x1024x512, .bf16⟩
  | .hbm, ⟨3, _⟩ => ⟨S_, .f32⟩
  | .hbm, ⟨4, _⟩ => ⟨S4096x1024, .f32⟩
  | .hbm, ⟨5, _⟩ => ⟨S8x1024x1024, .bf16⟩
  | .hbm, ⟨6, _⟩ => ⟨S1024x8x1024, .bf16⟩
  | .hbm, ⟨7, _⟩ => ⟨S1024x8192, .bf16⟩
  | .hbm, ⟨8, _⟩ => ⟨S1024x8192, .f32⟩
  | .hbm, ⟨9, _⟩ => ⟨S4096x8192, .f32⟩
  | .hbm, ⟨10, _⟩ => ⟨S4096x4x2048, .bf16⟩
  | .hbm, ⟨11, _⟩ => ⟨S4096x8192, .bf16⟩
  | .hbm, ⟨12, _⟩ => ⟨S4096x8192, .f32⟩
  | .hbm, ⟨13, _⟩ => ⟨S4096x1024, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwInB.lean ====
abbrev S1024x4096 : Shape := ⟨2, ![1024, 4096]⟩
abbrev S4x4096x2048 : Shape := ⟨3, ![4, 4096, 2048]⟩
abbrev S8x1024x1024 : Shape := ⟨3, ![8, 1024, 1024]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4x4096x2048, .bf16⟩
  | .hbm, ⟨2, _⟩ => ⟨S8x1024x1024, .f32⟩
  | .local _ .vmem, ⟨0, _⟩ => ⟨S1024x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x1024x1024, .f32⟩
  | .local _ .vmem, ⟨4, _⟩ => ⟨S1x1024x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwInBRefIdeal.lean ====
abbrev S1024x4096 : Shape := ⟨2, ![1024, 4096]⟩
abbrev S4x4096x2048 : Shape := ⟨3, ![4, 4096, 2048]⟩
abbrev S_ : Shape := ⟨0, ![]⟩
abbrev S1024x8192 : Shape := ⟨2, ![1024, 8192]⟩
abbrev S4096x1024 : Shape := ⟨2, ![4096, 1024]⟩
abbrev S4096x8192 : Shape := ⟨2, ![4096, 8192]⟩
abbrev S4096x4x2048 : Shape := ⟨3, ![4096, 4, 2048]⟩
abbrev S8192x1024 : Shape := ⟨2, ![8192, 1024]⟩
abbrev S1024x8x1024 : Shape := ⟨3, ![1024, 8, 1024]⟩
abbrev S8x1024x1024 : Shape := ⟨3, ![8, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4x4096x2048, .bf16⟩
  | .hbm, ⟨2, _⟩ => ⟨S_, .f32⟩
  | .hbm, ⟨3, _⟩ => ⟨S1024x8192, .f32⟩
  | .hbm, ⟨4, _⟩ => ⟨S4096x1024, .bf16⟩
  | .hbm, ⟨5, _⟩ => ⟨S4096x1024, .f32⟩
  | .hbm, ⟨6, _⟩ => ⟨S4096x8192, .f32⟩
  | .hbm, ⟨7, _⟩ => ⟨S4096x4x2048, .bf16⟩
  | .hbm, ⟨8, _⟩ => ⟨S4096x8192, .bf16⟩
  | .hbm, ⟨9, _⟩ => ⟨S4096x8192, .f32⟩
  | .hbm, ⟨10, _⟩ => ⟨S8192x1024, .f32⟩
  | .hbm, ⟨11, _⟩ => ⟨S1024x8192, .f32⟩
  | .hbm, ⟨12, _⟩ => ⟨S1024x8x1024, .f32⟩
  | .hbm, ⟨13, _⟩ => ⟨S8x1024x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DhA.lean ====
abbrev S4096x6144 : Shape := ⟨2, ![4096, 6144]⟩
abbrev S8x1024x768 : Shape := ⟨3, ![8, 1024, 768]⟩
abbrev S4096x1024 : Shape := ⟨2, ![4096, 1024]⟩
abbrev S1024x1536 : Shape := ⟨2, ![1024, 1536]⟩
abbrev S2x1024x768 : Shape := ⟨3, ![2, 1024, 768]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S8x1024x768, .bf16⟩
  | .hbm, ⟨2, _⟩ => ⟨S4096x1024, .f32⟩
  | .hbm, ⟨3, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S2x1024x768, .bf16⟩
  | .local _ .vmem, ⟨3, _⟩ => ⟨S2x1024x768, .bf16⟩
  | .local _ .vmem, ⟨4, _⟩ => ⟨S1024x1024, .f32⟩
  | .local _ .vmem, ⟨5, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_8 : BitVec 32 := 0#32
  let v11 : BitVec 1 := Scalar.cmpi .ne v10 c0_i32_8
  v11

def k0_cond2 (i : grid0.Coords) : BitVec 1 :=
  let arg1 : BitVec 32 := BitVec.ofNat 32 (i 1).val
  let c0_i32_9 : BitVec 32 := 0#32
  let v12 : BitVec 1 := Scalar.cmpi .sgt arg1 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DhARefIdeal.lean ====
abbrev S4096x6144 : Shape := ⟨2, ![4096, 6144]⟩
abbrev S8x1024x768 : Shape := ⟨3, ![8, 1024, 768]⟩
abbrev S4096x1024 : Shape := ⟨2, ![4096, 1024]⟩
abbrev S_ : Shape := ⟨0, ![]⟩
abbrev S1024x8x768 : Shape := ⟨3, ![1024, 8, 768]⟩
abbrev S1024x6144 : Shape := ⟨2, ![1024, 6144]⟩
abbrev S1024x1024 : Shape := ⟨2, ![1024, 1024]⟩
abbrev S3072x1024 : Shape := ⟨2, ![3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S8x1024x768, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x8x768, .bf16⟩
  | .hbm, ⟨6, _⟩ => ⟨S1024x6144, .bf16⟩
  | .hbm, ⟨7, _⟩ => ⟨S1024x6144, .f32⟩
  | .hbm, ⟨8, _⟩ => ⟨S4096x6144, .f32⟩
  | .hbm, ⟨9, _⟩ => ⟨S1024x1024, .f32⟩
  | .hbm, ⟨10, _⟩ => ⟨S4096x6144, .f32⟩
  | .hbm, ⟨11, _⟩ => ⟨S4096x1024, .f32⟩
  | .hbm, ⟨12, _⟩ => ⟨S3072x1024, .f32⟩
  | .hbm, ⟨13, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwInA.lean ====
abbrev S1024x4096 : Shape := ⟨2, ![1024, 4096]⟩
abbrev S4096x6144 : Shape := ⟨2, ![4096, 6144]⟩
abbrev S8x1024x768 : Shape := ⟨3, ![8, 1024, 768]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x6144, .bf16⟩
  | .hbm, ⟨2, _⟩ => ⟨S8x1024x768, .f32⟩
  | .local _ .vmem, ⟨0, _⟩ => ⟨S1024x4096, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .f32⟩
  | .local _ .vmem, ⟨4, _⟩ => ⟨S1x1024x768, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwInARefIdeal.lean ====
abbrev S1024x4096 : Shape := ⟨2, ![1024, 4096]⟩
abbrev S4096x6144 : Shape := ⟨2, ![4096, 6144]⟩
abbrev S_ : Shape := ⟨0, ![]⟩
abbrev S1024x6144 : Shape := ⟨2, ![1024, 6144]⟩
abbrev S4096x1024 : Shape := ⟨2, ![4096, 1024]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x6144, .bf16⟩
  | .hbm, ⟨2, _⟩ => ⟨S_, .f32⟩
  | .hbm, ⟨3, _⟩ => ⟨S1024x6144, .f32⟩
  | .hbm, ⟨4, _⟩ => ⟨S4096x1024, .bf16⟩
  | .hbm, ⟨5, _⟩ => ⟨S4096x1024, .f32⟩
  | .hbm, ⟨6, _⟩ => ⟨S4096x6144, .f32⟩
  | .hbm, ⟨7, _⟩ => ⟨S4096x6144, .f32⟩
  | .hbm, ⟨8, _⟩ => ⟨S6144x1024, .f32⟩
  | .hbm, ⟨9, _⟩ => ⟨S1024x6144, .f32⟩
  | .hbm, ⟨10, _⟩ => ⟨S1024x8x768, .f32⟩
  | .hbm, ⟨11, _⟩ => ⟨S8x1024x768, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwOut.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwOutRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dybr.lean ====
abbrev S4096x1024 : Shape := ⟨2, ![4096, 1024]⟩
abbrev S2x3x1024 : Shape := ⟨3, ![2, 3, 1024]⟩
abbrev S8x256x1024 : Shape := ⟨3, ![8, 256, 1024]⟩
abbrev S2048x1024 : Shape := ⟨2, ![2048, 1024]⟩
abbrev S2x1x1024 : Shape := ⟨3, ![2, 1, 1024]⟩
abbrev S4096x2048 : Shape := ⟨2, ![4096, 2048]⟩
abbrev S1024x1024 : Shape := ⟨2, ![1024, 1024]⟩
abbrev S1x3x1024 : Shape := ⟨3, ![1, 3, 1024]⟩
abbrev S1x1x1024 : Shape := ⟨3, ![1, 1, 1024]⟩
abbrev S1024x2048 : Shape := ⟨2, ![1024, 2048]⟩
abbrev S1x1024 : Shape := ⟨2, ![1, 1024]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x3x1024, .f32⟩
  | .hbm, ⟨3, _⟩ => ⟨S8x256x1024, .bf16⟩
  | .hbm, ⟨4, _⟩ => ⟨S2048x1024, .bf16⟩
  | .hbm, ⟨5, _⟩ => ⟨S4096x1024, .bf16⟩
  | .hbm, ⟨6, _⟩ => ⟨S2x1x1024, .f32⟩
  | .hbm, ⟨7, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x3x1024, .f32⟩
  | .local _ .vmem, ⟨5, _⟩ => ⟨S1x3x1024, .f32⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1024x2048, .f32⟩
  | .local _ .vmem, ⟨12, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DybrRefIdeal.lean ====
abbrev S4096x1024 : Shape := ⟨2, ![4096, 1024]⟩
abbrev S2x3x1024 : Shape := ⟨3, ![2, 3, 1024]⟩
abbrev S8x256x1024 : Shape := ⟨3, ![8, 256, 1024]⟩
abbrev S2x2048x1024 : Shape := ⟨3, ![2, 2048, 1024]⟩
abbrev S2x1x1024 : Shape := ⟨3, ![2, 1, 1024]⟩
abbrev S2x1024 : Shape := ⟨2, ![2, 1024]⟩
abbrev S_ : Shape := ⟨0, ![]⟩
abbrev S4096x2048 : Shape := ⟨2, ![4096, 2048]⟩
abbrev S2048x1024 : Shape := ⟨2, ![2048, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x3x1024, .f32⟩
  | .hbm, ⟨3, _⟩ => ⟨S8x256x1024, .bf16⟩
  | .hbm, ⟨4, _⟩ => ⟨S2x2048x1024, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x1024, .f32⟩
  | .hbm, ⟨16, _⟩ => ⟨S2x1x1024, .f32⟩
  | .hbm, ⟨17, _⟩ => ⟨S_, .f32⟩
  | .hbm, ⟨18, _⟩ => ⟨S2x1024, .f32⟩
  | .hbm, ⟨19, _⟩ => ⟨S4096x1024, .f32⟩
  | .hbm, ⟨20, _⟩ => ⟨S_, .f32⟩
  | .hbm, ⟨21, _⟩ => ⟨S4096x2048, .f32⟩
  | .hbm, ⟨22, _⟩ => ⟨S2048x1024, .bf16⟩
  | .hbm, ⟨23, _⟩ => ⟨S2048x1024, .f32⟩
  | .hbm, ⟨24, _⟩ => ⟨S4096x1024, .f32⟩
  | .hbm, ⟨25, _⟩ => ⟨S4096x1024, .bf16⟩
  | .hbm, ⟨26, _⟩ => ⟨S2x1x1024, .f32⟩
  | .hbm, ⟨27, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== InB.lean ====
abbrev S4096x1024 : Shape := ⟨2, ![4096, 1024]⟩
abbrev S8x1024x512 : Shape := ⟨3, ![8, 1024, 512]⟩
abbrev S4x4096x2048 : Shape := ⟨3, ![4, 4096, 2048]⟩
abbrev S1024x1024 : Shape := ⟨2, ![1024, 1024]⟩
abbrev S2x1024x512 : Shape := ⟨3, ![2, 1024, 512]⟩
abbrev S1x1024x2048 : Shape := ⟨3, ![1, 1024, 2048]⟩
abbrev S1x1024x512 : Shape := ⟨3, ![1, 1024, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S8x1024x512, .bf16⟩
  | .hbm, ⟨3, _⟩ => ⟨S4x4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S2x1024x512, .bf16⟩
  | .local _ .vmem, ⟨5, _⟩ => ⟨S2x1024x512, .bf16⟩
  | .local _ .vmem, ⟨6, _⟩ => ⟨S1x1024x2048, .f32⟩
  | .local _ .vmem, ⟨7, _⟩ => ⟨S1x1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2_i32_5 : BitVec 32 := 2#32
  let v18 : BitVec 32 := Scalar.muli c2_i32_5 arg0
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c2_i32_12 : BitVec 32 := 2#32
  let v29 : BitVec 32 := Scalar.divsi v28 c2_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c2_i32_12 c0_i32_15
  let v36 : BitVec 32 := Scalar.extui v35
  let c0_i32_16 : BitVec 32 := 0#32
  let v37 : BitVec 1 := Scalar.cmpi .slt c2_i32_12 c0_i32_16
  let v38 : BitVec 32 := Scalar.extui v37
  let v39 : BitVec 32 := Scalar.subi v36 v38
  let v40 : BitVec 1 := Scalar.cmpi .ne v34 v39
  let v41 : BitVec 32 := Scalar.remsi v28 c2_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg1.toNat, v45.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InBRefIdeal.lean ====
abbrev S4096x1024 : Shape := ⟨2, ![4096, 1024]⟩
abbrev S8x1024x512 : Shape := ⟨3, ![8, 1024, 512]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S4096x8192 : Shape := ⟨2, ![4096, 8192]⟩
abbrev S4096x4x2048 : Shape := ⟨3, ![4096, 4, 2048]⟩
abbrev S4x4096x2048 : Shape := ⟨3, ![4, 4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S8x1024x512, .bf16⟩
  | .hbm, ⟨3, _⟩ => ⟨S4096x1024, .f32⟩
  | .hbm, ⟨4, _⟩ => ⟨S8x1024x1024, .bf16⟩
  | .hbm, ⟨5, _⟩ => ⟨S1024x8x1024, .bf16⟩
  | .hbm, ⟨6, _⟩ => ⟨S1024x8192, .bf16⟩
  | .hbm, ⟨7, _⟩ => ⟨S1024x8192, .f32⟩
  | .hbm, ⟨8, _⟩ => ⟨S4096x8192, .f32⟩
  | .hbm, ⟨9, _⟩ => ⟨S4096x4x2048, .f32⟩
  | .hbm, ⟨10, _⟩ => ⟨S4x4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InA.lean ====
abbrev S4096x1024 : Shape := ⟨2, ![4096, 1024]⟩
abbrev S8x1024x768 : Shape := ⟨3, ![8, 1024, 768]⟩
abbrev S4096x6144 : Shape := ⟨2, ![4096, 6144]⟩
abbrev S1024x1024 : Shape := ⟨2, ![1024, 1024]⟩
abbrev S2x1024x768 : Shape := ⟨3, ![2, 1024, 768]⟩
abbrev S1024x1536 : Shape := ⟨2, ![1024, 1536]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x768, .bf16⟩
  | .hbm, ⟨2, _⟩ => ⟨S4096x6144, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x768, .bf16⟩
  | .local _ .vmem, ⟨3, _⟩ => ⟨S2x1024x768, .bf16⟩
  | .local _ .vmem, ⟨4, _⟩ => ⟨S1024x1536, .f32⟩
  | .local _ .vmem, ⟨5, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InARefIdeal.lean ====
abbrev S4096x1024 : Shape := ⟨2, ![4096, 1024]⟩
abbrev S8x1024x768 : Shape := ⟨3, ![8, 1024, 768]⟩
abbrev S1024x8x768 : Shape := ⟨3, ![1024, 8, 768]⟩
abbrev S1024x6144 : Shape := ⟨2, ![1024, 6144]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x768, .bf16⟩
  | .hbm, ⟨2, _⟩ => ⟨S4096x1024, .f32⟩
  | .hbm, ⟨3, _⟩ => ⟨S1024x8x768, .bf16⟩
  | .hbm, ⟨4, _⟩ => ⟨S1024x6144, .bf16⟩
  | .hbm, ⟨5, _⟩ => ⟨S1024x6144, .f32⟩
  | .hbm, ⟨6, _⟩ => ⟨S4096x6144, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutA.lean ====
abbrev S4096x2048 : Shape := ⟨2, ![4096, 2048]⟩
abbrev S8x256x1024 : Shape := ⟨3, ![8, 256, 1024]⟩
abbrev S4096x1024 : Shape := ⟨2, ![4096, 1024]⟩
abbrev S2x3x1024 : Shape := ⟨3, ![2, 3, 1024]⟩
abbrev S2048x1024 : Shape := ⟨2, ![2048, 1024]⟩
abbrev S512x2048 : Shape := ⟨2, ![512, 2048]⟩
abbrev S512x1024 : Shape := ⟨2, ![512, 1024]⟩
abbrev S1x3x1024 : Shape := ⟨3, ![1, 3, 1024]⟩
abbrev S1x1x1024 : Shape := ⟨3, ![1, 1, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S8x256x1024, .bf16⟩
  | .hbm, ⟨2, _⟩ => ⟨S4096x1024, .f32⟩
  | .hbm, ⟨3, _⟩ => ⟨S2x3x1024, .f32⟩
  | .hbm, ⟨4, _⟩ => ⟨S2048x1024, .bf16⟩
  | .hbm, ⟨5, _⟩ => ⟨S4096x1024, .f32⟩
  | .hbm, ⟨6, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x3x1024, .f32⟩
  | .local _ .vmem, ⟨6, _⟩ => ⟨S1x3x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutARefIdeal.lean ====
abbrev S4096x2048 : Shape := ⟨2, ![4096, 2048]⟩
abbrev S8x256x1024 : Shape := ⟨3, ![8, 256, 1024]⟩
abbrev S4096x1024 : Shape := ⟨2, ![4096, 1024]⟩
abbrev S2x3x1024 : Shape := ⟨3, ![2, 3, 1024]⟩
abbrev S2048x1024 : Shape := ⟨2, ![2048, 1024]⟩
abbrev S2x2048x1024 : Shape := ⟨3, ![2, 2048, 1024]⟩
abbrev S2x1x1024 : Shape := ⟨3, ![2, 1, 1024]⟩
abbrev S2x1024 : Shape := ⟨2, ![2, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x1024, .bf16⟩
  | .hbm, ⟨2, _⟩ => ⟨S4096x1024, .f32⟩
  | .hbm, ⟨3, _⟩ => ⟨S2x3x1024, .f32⟩
  | .hbm, ⟨4, _⟩ => ⟨S4096x2048, .f32⟩
  | .hbm, ⟨5, _⟩ => ⟨S2048x1024, .bf16⟩
  | .hbm, ⟨6, _⟩ => ⟨S2048x1024, .f32⟩
  | .hbm, ⟨7, _⟩ => ⟨S4096x1024, .f32⟩
  | .hbm, ⟨8, _⟩ => ⟨S2x2048x1024, .f32⟩
  | .hbm, ⟨9, _⟩ => ⟨S2x2048x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== AdaBwd.lean ====
abbrev S16x1024 : Shape := ⟨2, ![16, 1024]⟩
abbrev S2x16x384 : Shape := ⟨3, ![2, 16, 384]⟩
abbrev S2x16x3072 : Shape := ⟨3, ![2, 16, 3072]⟩
abbrev S2x1024x384 : Shape := ⟨3, ![2, 1024, 384]⟩
abbrev S2x3072 : Shape := ⟨2, ![2, 3072]⟩
abbrev S1x16x384 : Shape := ⟨3, ![1, 16, 384]⟩
abbrev S16x384 : Shape := ⟨2, ![16, 384]⟩
abbrev S1024x384 : Shape := ⟨2, ![1024, 384]⟩
abbrev S1x1024x384 : Shape := ⟨3, ![1, 1024, 384]⟩
abbrev S1x16x3072 : Shape := ⟨3, ![1, 16, 3072]⟩
abbrev S16x3072 : Shape := ⟨2, ![16, 3072]⟩
abbrev S3072 : Shape := ⟨1, ![3072]⟩
abbrev S1x3072 : Shape := ⟨2, ![1, 3072]⟩

abbrev nBuf : Space → Nat
  | .hbm => 5
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S2x16x384, .f32⟩
  | .hbm, ⟨2, _⟩ => ⟨S2x16x3072, .f32⟩
  | .hbm, ⟨3, _⟩ => ⟨S2x1024x384, .f32⟩
  | .hbm, ⟨4, _⟩ => ⟨S2x3072, .f32⟩
  | .local _ .vmem, ⟨0, _⟩ => ⟨S16x1024, .f32⟩
  | .local _ .vmem, ⟨1, _⟩ => ⟨S2x16x384, .f32⟩
  | .local _ .vmem, ⟨2, _⟩ => ⟨S2x16x3072, .f32⟩
  | .local _ .vmem, ⟨3, _⟩ => ⟨S2x1024x384, .f32⟩
  | .local _ .vmem, ⟨4, _⟩ => ⟨S2x3072, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== AdaBwdRefIdeal.lean ====
abbrev S16x1024 : Shape := ⟨2, ![16, 1024]⟩
abbrev S2x16x384 : Shape := ⟨3, ![2, 16, 384]⟩
abbrev S2x16x3072 : Shape := ⟨3, ![2, 16, 3072]⟩
abbrev S1x16x384 : Shape := ⟨3, ![1, 16, 384]⟩
abbrev S16x384 : Shape := ⟨2, ![16, 384]⟩
abbrev S_ : Shape := ⟨0, ![]⟩
abbrev S1024x384 : Shape := ⟨2, ![1024, 384]⟩
abbrev S384x1024 : Shape := ⟨2, ![384, 1024]⟩
abbrev S1x1024x384 : Shape := ⟨3, ![1, 1024, 384]⟩
abbrev S2x1024x384 : Shape := ⟨3, ![2, 1024, 384]⟩
abbrev S1x16x3072 : Shape := ⟨3, ![1, 16, 3072]⟩
abbrev S16x3072 : Shape := ⟨2, ![16, 3072]⟩
abbrev S3072 : Shape := ⟨1, ![3072]⟩
abbrev S1x3072 : Shape := ⟨2, ![1, 3072]⟩
abbrev S2x3072 : Shape := ⟨2, ![2, 3072]⟩

abbrev nBuf : Space → Nat
  | .hbm => 69
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x16x384, .f32⟩
  | .hbm, ⟨2, _⟩ => ⟨S2x16x3072, .f32⟩
  | .hbm, ⟨3, _⟩ => ⟨S1x16x384, .f32⟩
  | .hbm, ⟨4, _⟩ => ⟨S16x384, .f32⟩
  | .hbm, ⟨5, _⟩ => ⟨S_, .f32⟩
  | .hbm, ⟨6, _⟩ => ⟨S1024x384, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S16x384, .f32⟩
  | .hbm, ⟨17, _⟩ => ⟨S384x1024, .f32⟩
  | .hbm, ⟨18, _⟩ => ⟨S1024x384, .f32⟩
  | .hbm, ⟨19, _⟩ => ⟨S1x16x384, .f32⟩
  | .hbm, ⟨20, _⟩ => ⟨S16x384, .f32⟩
  | .hbm, ⟨21, _⟩ => ⟨S_, .f32⟩
  | .hbm, ⟨22, _⟩ => ⟨S1024x384, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S16x384, .f32⟩
  | .hbm, ⟨33, _⟩ => ⟨S384x1024, .f32⟩
  | .hbm, ⟨34, _⟩ => ⟨S1024x384, .f32⟩
  | .hbm, ⟨35, _⟩ => ⟨S1x1024x384, .f32⟩
  | .hbm, ⟨36, _⟩ => ⟨S1x1024x384, .f32⟩
  | .hbm, ⟨37, _⟩ => ⟨S2x1024x384, .f32⟩
  | .hbm, ⟨38, _⟩ => ⟨S1x16x3072, .f32⟩
  | .hbm, ⟨39, _⟩ => ⟨S16x3072, .f32⟩
  | .hbm, ⟨40, _⟩ => ⟨S_, .f32⟩
  | .hbm, ⟨41, _⟩ => ⟨S3072, .f32⟩
  | .hbm, ⟨42, _⟩ => ⟨S_, .f32⟩
  | .hbm, ⟨43, _⟩ => ⟨S16x3072, .f32⟩
  | .hbm, ⟨44, _⟩ => ⟨S1x3072, .f32⟩
  | .hbm, ⟨45, _⟩ => ⟨S16x3072, .f32⟩
  | .hbm, ⟨46, _⟩ => ⟨S16x3072, .f32⟩
  | .hbm, ⟨47, _⟩ => ⟨S_, .f32⟩
  | .hbm, ⟨48, _⟩ => ⟨S3072, .f32⟩
  | .hbm, ⟨49, _⟩ => ⟨S1x3072, .f32⟩
  | .hbm, ⟨50, _⟩ => ⟨S_, .f32⟩
  | .hbm, ⟨51, _⟩ => ⟨S3072, .f32⟩
  | .hbm, ⟨52, _⟩ => ⟨S1x16x3072, .f32⟩
  | .hbm, ⟨53, _⟩ => ⟨S16x3072, .f32⟩
  | .hbm, ⟨54, _⟩ => ⟨S_, .f32⟩
  | .hbm, ⟨55, _⟩ => ⟨S3072, .f32⟩
  | .hbm, ⟨56, _⟩ => ⟨S_, .f32⟩
  | .hbm, ⟨57, _⟩ => ⟨S16x3072, .f32⟩
  | .hbm, ⟨58, _⟩ => ⟨S1x3072, .f32⟩
  | .hbm, ⟨59, _⟩ => ⟨S16x3072, .f32⟩
  | .hbm, ⟨60, _⟩ => ⟨S16x3072, .f32⟩
  | .hbm, ⟨61, _⟩ => ⟨S_, .f32⟩
  | .hbm, ⟨62, _⟩ => ⟨S3072, .f32⟩
  | .hbm, ⟨63, _⟩ => ⟨S1x3072, .f32⟩
  | .hbm, ⟨64, _⟩ => ⟨S_, .f32⟩
  | .hbm, ⟨65, _⟩ => ⟨S3072, .f32⟩
  | .hbm, ⟨66, _⟩ => ⟨S1x3072, .f32⟩
  | .hbm, ⟨67, _⟩ => ⟨S1x3072, .f32⟩
  | .hbm, ⟨68, _⟩ => ⟨S2x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩

abbrev nD : Nat := 1
abbrev τ : Topo := Topo.v7x

variable {F : FTy → Type} [FloatOps F]
-- ==== AdaFwd.lean ====
abbrev S16x1024 : Shape := ⟨2, ![16, 1024]⟩
abbrev S2x1024x384 : Shape := ⟨3, ![2, 1024, 384]⟩
abbrev S2x1x384 : Shape := ⟨3, ![2, 1, 384]⟩
abbrev S2x2048 : Shape := ⟨2, ![2, 2048]⟩
abbrev S2x16x384 : Shape := ⟨3, ![2, 16, 384]⟩
abbrev S1x1024x384 : Shape := ⟨3, ![1, 1024, 384]⟩
abbrev S1024x384 : Shape := ⟨2, ![1024, 384]⟩
abbrev S16x384 : Shape := ⟨2, ![16, 384]⟩
abbrev S1x1x384 : Shape := ⟨3, ![1, 1, 384]⟩
abbrev S1x384 : Shape := ⟨2, ![1, 384]⟩
abbrev S1x16x384 : Shape := ⟨3, ![1, 16, 384]⟩
abbrev S1x2048 : Shape := ⟨2, ![1, 2048]⟩

abbrev nBuf : Space → Nat
  | .hbm => 6
  | .vmem => 6
  | .smem => 0
  | _ => 0

abbrev bufTy : (tb : Table) → Fin (tcTables nBuf tb) → BufTy
  | .hbm, ⟨0, _⟩ => ⟨S16x1024, .f32⟩
  | .hbm, ⟨1, _⟩ => ⟨S2x1024x384, .f32⟩
  | .hbm, ⟨2, _⟩ => ⟨S2x1x384, .f32⟩
  | .hbm, ⟨3, _⟩ => ⟨S2x2048, .f32⟩
  | .hbm, ⟨4, _⟩ => ⟨S2x16x384, .f32⟩
  | .hbm, ⟨5, _⟩ => ⟨S2x2048, .f32⟩
  | .local _ .vmem, ⟨0, _⟩ => ⟨S16x1024, .f32⟩
  | .local _ .vmem, ⟨1, _⟩ => ⟨S2x1024x384, .f32⟩
  | .local _ .vmem, ⟨2, _⟩ => ⟨S2x1x384, .f32⟩
  | .local _ .vmem, ⟨3, _⟩ => ⟨S2x2048, .f32⟩
  | .local _ .vmem, ⟨4, _⟩ => ⟨S2x16x384, .f32⟩
  | .local _ .vmem, ⟨5, _⟩ => ⟨S2x2048, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== AdaFwdRefIdeal.lean ====
abbrev S16x1024 : Shape := ⟨2, ![16, 1024]⟩
abbrev S2x1024x384 : Shape := ⟨3, ![2, 1024, 384]⟩
abbrev S2x1x384 : Shape := ⟨3, ![2, 1, 384]⟩
abbrev S2x2048 : Shape := ⟨2, ![2, 2048]⟩
abbrev S1x1024x384 : Shape := ⟨3, ![1, 1024, 384]⟩
abbrev S1024x384 : Shape := ⟨2, ![1024, 384]⟩
abbrev S1x1x384 : Shape := ⟨3, ![1, 1, 384]⟩
abbrev S384 : Shape := ⟨1, ![384]⟩
abbrev S_ : Shape := ⟨0, ![]⟩
abbrev S16x384 : Shape := ⟨2, ![16, 384]⟩
abbrev S1x384 : Shape := ⟨2, ![1, 384]⟩
abbrev S1x16x384 : Shape := ⟨3, ![1, 16, 384]⟩
abbrev S2x16x384 : Shape := ⟨3, ![2, 16, 384]⟩

abbrev nBuf : Space → Nat
  | .hbm => 41
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x384, .f32⟩
  | .hbm, ⟨2, _⟩ => ⟨S2x1x384, .f32⟩
  | .hbm, ⟨3, _⟩ => ⟨S2x2048, .f32⟩
  | .hbm, ⟨4, _⟩ => ⟨S1x1024x384, .f32⟩
  | .hbm, ⟨5, _⟩ => ⟨S1024x384, .f32⟩
  | .hbm, ⟨6, _⟩ => ⟨S1x1x384, .f32⟩
  | .hbm, ⟨7, _⟩ => ⟨S384, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x384, .f32⟩
  | .hbm, ⟨18, _⟩ => ⟨S1x384, .f32⟩
  | .hbm, ⟨19, _⟩ => ⟨S16x384, .f32⟩
  | .hbm, ⟨20, _⟩ => ⟨S16x384, .f32⟩
  | .hbm, ⟨21, _⟩ => ⟨S1x1024x384, .f32⟩
  | .hbm, ⟨22, _⟩ => ⟨S1024x384, .f32⟩
  | .hbm, ⟨23, _⟩ => ⟨S1x1x384, .f32⟩
  | .hbm, ⟨24, _⟩ => ⟨S384, .f32⟩
  | .hbm, ⟨25, _⟩ => ⟨S16x1024, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S16x384, .f32⟩
  | .hbm, ⟨35, _⟩ => ⟨S1x384, .f32⟩
  | .hbm, ⟨36, _⟩ => ⟨S16x384, .f32⟩
  | .hbm, ⟨37, _⟩ => ⟨S16x384, .f32⟩
  | .hbm, ⟨38, _⟩ => ⟨S1x16x384, .f32⟩
  | .hbm, ⟨39, _⟩ => ⟨S1x16x384, .f32⟩
  | .hbm, ⟨40, _⟩ => ⟨S2x16x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Pre.lean ====
abbrev S4096x1024 : Shape := ⟨2, ![4096, 1024]⟩
abbrev S1x1024 : Shape := ⟨2, ![1, 1024]⟩
abbrev S2x3x1024 : Shape := ⟨3, ![2, 3, 1024]⟩
abbrev S1024x4096 : Shape := ⟨2, ![1024, 4096]⟩
abbrev S1024x1024 : Shape := ⟨2, ![1024, 1024]⟩
abbrev S1x3x1024 : Shape := ⟨3, ![1, 3, 1024]⟩
abbrev S1024 : Shape := ⟨1, ![1024]⟩
abbrev S1024x1 : Shape := ⟨2, ![1024, 1]⟩
abbrev S1x1x1024 : Shape := ⟨3, ![1, 1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2x3x1024, .f32⟩
  | .hbm, ⟨3, _⟩ => ⟨S4096x1024, .bf16⟩
  | .hbm, ⟨4, _⟩ => ⟨S1024x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x3x1024, .f32⟩
  | .local _ .vmem, ⟨4, _⟩ => ⟨S1x3x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreRefIdeal.lean ====
abbrev S4096x1024 : Shape := ⟨2, ![4096, 1024]⟩
abbrev S1x1024 : Shape := ⟨2, ![1, 1024]⟩
abbrev S2x3x1024 : Shape := ⟨3, ![2, 3, 1024]⟩
abbrev S2x2048x1024 : Shape := ⟨3, ![2, 2048, 1024]⟩
abbrev S1024 : Shape := ⟨1, ![1024]⟩
abbrev S2x1x1024 : Shape := ⟨3, ![2, 1, 1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4096 : Shape := ⟨2, ![1024, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2x3x1024, .f32⟩
  | .hbm, ⟨3, _⟩ => ⟨S2x2048x1024, .f32⟩
  | .hbm, ⟨4, _⟩ => ⟨S1024, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x1x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S2x1x1024, .f32⟩
  | .hbm, ⟨32, _⟩ => ⟨S2x2048x1024, .f32⟩
  | .hbm, ⟨33, _⟩ => ⟨S2x2048x1024, .f32⟩
  | .hbm, ⟨34, _⟩ => ⟨S4096x1024, .f32⟩
  | .hbm, ⟨35, _⟩ => ⟨S4096x1024, .bf16⟩
  | .hbm, ⟨36, _⟩ => ⟨S1024x4096, .f32⟩
  | .hbm, ⟨37, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== AdamAda.lean ====
abbrev S2x1024x384 : Shape := ⟨3, ![2, 1024, 384]⟩
abbrev S2048x384 : Shape := ⟨2, ![2048, 384]⟩
abbrev S256x384 : Shape := ⟨2, ![256, 384]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S2x1024x384 : Shape := ⟨3, ![2, 1024, 384]⟩
abbrev S_ : Shape := ⟨0, ![]⟩
abbrev S2048x384 : Shape := ⟨2, ![2048, 384]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S_, .f32⟩
  | .hbm, ⟨5, _⟩ => ⟨S2x1024x384, .f32⟩
  | .hbm, ⟨6, _⟩ => ⟨S2x1024x384, .f32⟩
  | .hbm, ⟨7, _⟩ => ⟨S_, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S_, .f32⟩
  | .hbm, ⟨12, _⟩ => ⟨S2x1024x384, .f32⟩
  | .hbm, ⟨13, _⟩ => ⟨S2x1024x384, .f32⟩
  | .hbm, ⟨14, _⟩ => ⟨S2x1024x384, .f32⟩
  | .hbm, ⟨15, _⟩ => ⟨S_, .f32⟩
  | .hbm, ⟨16, _⟩ => ⟨S2x1024x384, .f32⟩
  | .hbm, ⟨17, _⟩ => ⟨S2x1024x384, .f32⟩
  | .hbm, ⟨18, _⟩ => ⟨S2x1024x384, .f32⟩
  | .hbm, ⟨19, _⟩ => ⟨S_, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S2x1024x384, .f32⟩
  | .hbm, ⟨26, _⟩ => ⟨S_, .f32⟩
  | .hbm, ⟨27, _⟩ => ⟨S2x1024x384, .f32⟩
  | .hbm, ⟨28, _⟩ => ⟨S2x1024x384, .f32⟩
  | .hbm, ⟨29, _⟩ => ⟨S2x1024x384, .f32⟩
  | .hbm, ⟨30, _⟩ => ⟨S_, .f32⟩
  | .hbm, ⟨31, _⟩ => ⟨S2x1024x384, .f32⟩
  | .hbm, ⟨32, _⟩ => ⟨S2x1024x384, .f32⟩
  | .hbm, ⟨33, _⟩ => ⟨S2x1024x384, .f32⟩
  | .hbm, ⟨34, _⟩ => ⟨S_, .f32⟩
  | .hbm, ⟨35, _⟩ => ⟨S2x1024x384, .f32⟩
  | .hbm, ⟨36, _⟩ => ⟨S2x1024x384, .f32⟩
  | .hbm, ⟨37, _⟩ => ⟨S2048x384, .f32⟩
  | .hbm, ⟨38, _⟩ => ⟨S2048x384, .f32⟩
  | .hbm, ⟨39, _⟩ => ⟨S2048x384, .f32⟩
  | .hbm, ⟨40, _⟩ => ⟨S2048x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamLate.lean ====
abbrev S8x2x1024 : Shape := ⟨3, ![8, 2, 1024]⟩
abbrev S8x1x1024 : Shape := ⟨3, ![8, 1, 1024]⟩
abbrev S1x2x3072 : Shape := ⟨3, ![1, 2, 3072]⟩
abbrev S2x1024 : Shape := ⟨2, ![2, 1024]⟩
abbrev S1x1024 : Shape := ⟨2, ![1, 1024]⟩
abbrev S2x3072 : Shape := ⟨2, ![2, 3072]⟩
abbrev S8x1x128 : Shape := ⟨3, ![8, 1, 128]⟩
abbrev S1x128 : Shape := ⟨2, ![1, 128]⟩
abbrev S1x2x1024 : Shape := ⟨3, ![1, 2, 1024]⟩
abbrev S1x1x1024 : Shape := ⟨3, ![1, 1, 1024]⟩
abbrev S1x1x128 : Shape := ⟨3, ![1, 1, 128]⟩

abbrev nBuf : Space → Nat
  | .hbm => 26
  | .vmem => 26
  | .smem => 0
  | _ => 0

abbrev bufTy : (tb : Table) → Fin (tcTables nBuf tb) → BufTy
  | .hbm, ⟨0, _⟩ => ⟨S8x2x1024, .f32⟩
  | .hbm, ⟨1, _⟩ => ⟨S8x1x1024, .f32⟩
  | .hbm, ⟨2, _⟩ => ⟨S1x2x3072, .f32⟩
  | .hbm, ⟨3, _⟩ => ⟨S2x1024, .f32⟩
  | .hbm, ⟨4, _⟩ => ⟨S1x1024, .f32⟩
  | .hbm, ⟨5, _⟩ => ⟨S2x3072, .f32⟩
  | .hbm, ⟨6, _⟩ => ⟨S2x1024, .f32⟩
  | .hbm, ⟨7, _⟩ => ⟨S1x1024, .f32⟩
  | .hbm, ⟨8, _⟩ => ⟨S2x3072, .f32⟩
  | .hbm, ⟨9, _⟩ => ⟨S2x1024, .f32⟩
  | .hbm, ⟨10, _⟩ => ⟨S1x1024, .f32⟩
  | .hbm, ⟨11, _⟩ => ⟨S2x3072, .f32⟩
  | .hbm, ⟨12, _⟩ => ⟨S8x1x128, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S2x3072, .f32⟩
  | .hbm, ⟨22, _⟩ => ⟨S2x3072, .f32⟩
  | .hbm, ⟨23, _⟩ => ⟨S2x3072, .f32⟩
  | .hbm, ⟨24, _⟩ => ⟨S2x3072, .f32⟩
  | .hbm, ⟨25, _⟩ => ⟨S1x128, .f32⟩
  | .local _ .vmem, ⟨0, _⟩ => ⟨S8x2x1024, .f32⟩
  | .local _ .vmem, ⟨1, _⟩ => ⟨S8x1x1024, .f32⟩
  | .local _ .vmem, ⟨2, _⟩ => ⟨S1x2x3072, .f32⟩
  | .local _ .vmem, ⟨3, _⟩ => ⟨S2x1024, .f32⟩
  | .local _ .vmem, ⟨4, _⟩ => ⟨S1x1024, .f32⟩
  | .local _ .vmem, ⟨5, _⟩ => ⟨S2x3072, .f32⟩
  | .local _ .vmem, ⟨6, _⟩ => ⟨S2x1024, .f32⟩
  | .local _ .vmem, ⟨7, _⟩ => ⟨S1x1024, .f32⟩
  | .local _ .vmem, ⟨8, _⟩ => ⟨S2x3072, .f32⟩
  | .local _ .vmem, ⟨9, _⟩ => ⟨S2x1024, .f32⟩
  | .local _ .vmem, ⟨10, _⟩ => ⟨S1x1024, .f32⟩
  | .local _ .vmem, ⟨11, _⟩ => ⟨S2x3072, .f32⟩
  | .local _ .vmem, ⟨12, _⟩ => ⟨S8x1x128, .f32⟩
  | .local _ .vmem, ⟨13, _⟩ => ⟨S2x1024, .f32⟩
  | .local _ .vmem, ⟨14, _⟩ => ⟨S2x1024, .f32⟩
  | .local _ .vmem, ⟨15, _⟩ => ⟨S2x1024, .f32⟩
  | .local _ .vmem, ⟨16, _⟩ => ⟨S2x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S2x3072, .f32⟩
  | .local _ .vmem, ⟨22, _⟩ => ⟨S2x3072, .f32⟩
  | .local _ .vmem, ⟨23, _⟩ => ⟨S2x3072, .f32⟩
  | .local _ .vmem, ⟨24, _⟩ => ⟨S2x3072, .f32⟩
  | .local _ .vmem, ⟨25, _⟩ => ⟨S1x128, .f32⟩
  | _, _ => ⟨S8x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev main_v0_8 : Ref sig .tc := ⟨.hbm, 21, rfl⟩
abbrev main_v0_9 : Ref sig .tc := ⟨.hbm, 22, rfl⟩
abbrev main_v0_10 : Ref sig .tc := ⟨.hbm, 23, rfl⟩
abbrev main_v0_11 : Ref sig .tc := ⟨.hbm, 24, rfl⟩
abbrev main_v0_12 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [FloatOps F]

abbrev grid0 : Pipeline.Grid := .none

abbrev stage0_0 : Fin 1 → Memref sig .tc .vmem S8x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x3072 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x3072 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x3072 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x3072 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
-- ==== AdamLateRefIdeal.lean ====
abbrev S8x2x1024 : Shape := ⟨3, ![8, 2, 1024]⟩
abbrev S8x1x1024 : Shape := ⟨3, ![8, 1, 1024]⟩
abbrev S1x2x3072 : Shape := ⟨3, ![1, 2, 3072]⟩
abbrev S2x1024 : Shape := ⟨2, ![2, 1024]⟩
abbrev S1x1024 : Shape := ⟨2, ![1, 1024]⟩
abbrev S2x3072 : Shape := ⟨2, ![2, 3072]⟩
abbrev S8x1x128 : Shape := ⟨3, ![8, 1, 128]⟩
abbrev S_ : Shape := ⟨0, ![]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S8x2x1024, .f32⟩
  | .hbm, ⟨1, _⟩ => ⟨S8x1x1024, .f32⟩
  | .hbm, ⟨2, _⟩ => ⟨S1x2x3072, .f32⟩
  | .hbm, ⟨3, _⟩ => ⟨S2x1024, .f32⟩
  | .hbm, ⟨4, _⟩ => ⟨S1x1024, .f32⟩
  | .hbm, ⟨5, _⟩ => ⟨S2x3072, .f32⟩
  | .hbm, ⟨6, _⟩ => ⟨S2x1024, .f32⟩
  | .hbm, ⟨7, _⟩ => ⟨S1x1024, .f32⟩
  | .hbm, ⟨8, _⟩ => ⟨S2x3072, .f32⟩
  | .hbm, ⟨9, _⟩ => ⟨S2x1024, .f32⟩
  | .hbm, ⟨10, _⟩ => ⟨S1x1024, .f32⟩
  | .hbm, ⟨11, _⟩ => ⟨S2x3072, .f32⟩
  | .hbm, ⟨12, _⟩ => ⟨S8x1x128, .f32⟩
  | .hbm, ⟨13, _⟩ => ⟨S_, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S2x1024, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S_, .f32⟩
  | .hbm, ⟨34, _⟩ => ⟨S2x1024, .f32⟩
  | .hbm, ⟨35, _⟩ => ⟨S2x1024, .f32⟩
  | .hbm, ⟨36, _⟩ => ⟨S2x1024, .f32⟩
  | .hbm, ⟨37, _⟩ => ⟨S_, .f32⟩
  | .hbm, ⟨38, _⟩ => ⟨S2x1024, .f32⟩
  | .hbm, ⟨39, _⟩ => ⟨S2x1024, .f32⟩
  | .hbm, ⟨40, _⟩ => ⟨S2x1024, .f32⟩
  | .hbm, ⟨41, _⟩ => ⟨S_, .f32⟩
  | .hbm, ⟨42, _⟩ => ⟨S2x1024, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x1024, .f32⟩
  | .hbm, ⟨47, _⟩ => ⟨S2x1024, .f32⟩
  | .hbm, ⟨48, _⟩ => ⟨S_, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S_, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S2x3072, .f32⟩
  | .hbm, ⟨85, _⟩ => ⟨S_, .f32⟩
  | .hbm, ⟨86, _⟩ => ⟨S2x3072, .f32⟩
  | .hbm, ⟨87, _⟩ => ⟨S2x3072, .f32⟩
  | .hbm, ⟨88, _⟩ => ⟨S_, .f32⟩
  | .hbm, ⟨89, _⟩ => ⟨S2x3072, .f32⟩
  | .hbm, ⟨90, _⟩ => ⟨S2x3072, .f32⟩
  | .hbm, ⟨91, _⟩ => ⟨S2x3072, .f32⟩
  | .hbm, ⟨92, _⟩ => ⟨S_, .f32⟩
  | .hbm, ⟨93, _⟩ => ⟨S2x3072, .f32⟩
  | .hbm, ⟨94, _⟩ => ⟨S2x3072, .f32⟩
  | .hbm, ⟨95, _⟩ => ⟨S2x3072, .f32⟩
  | .hbm, ⟨96, _⟩ => ⟨S_, .f32⟩
  | .hbm, ⟨97, _⟩ => ⟨S2x3072, .f32⟩
  | .hbm, ⟨98, _⟩ => ⟨S2x3072, .f32⟩
  | .hbm, ⟨99, _⟩ => ⟨S2x3072, .f32⟩
  | .hbm, ⟨100, _⟩ => ⟨S_, .f32⟩
  | .hbm, ⟨101, _⟩ => ⟨S2x3072, .f32⟩
  | .hbm, ⟨102, _⟩ => ⟨S2x3072, .f32⟩
  | .hbm, ⟨103, _⟩ => ⟨S_, .f32⟩
  | .hbm, ⟨104, _⟩ => ⟨S2x3072, .f32⟩
  | .hbm, ⟨105, _⟩ => ⟨S2x3072, .f32⟩
  | .hbm, ⟨106, _⟩ => ⟨S2x3072, .f32⟩
  | .hbm, ⟨107, _⟩ => ⟨S_, .f32⟩
  | .hbm, ⟨108, _⟩ => ⟨S2x3072, .f32⟩
  | .hbm, ⟨109, _⟩ => ⟨S2x3072, .f32⟩
  | .hbm, ⟨110, _⟩ => ⟨S2x3072, .f32⟩
  | .hbm, ⟨111, _⟩ => ⟨S_, .f32⟩
  | .hbm, ⟨112, _⟩ => ⟨S2x3072, .f32⟩
  | .hbm, ⟨113, _⟩ => ⟨S2x3072, .f32⟩
  | .hbm, ⟨114, _⟩ => ⟨S2x3072, .f32⟩
  | .hbm, ⟨115, _⟩ => ⟨S_, .f32⟩
  | .hbm, ⟨116, _⟩ => ⟨S2x3072, .f32⟩
  | .hbm, ⟨117, _⟩ => ⟨S2x3072, .f32⟩
  | .hbm, ⟨118, _⟩ => ⟨S_, .f32⟩
  | .hbm, ⟨119, _⟩ => ⟨S1x128, .f32⟩
  | _, _ => ⟨S8x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_cst_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_v12 : Ref sig .tc := ⟨.hbm, 31, rfl⟩
abbrev main_v13 : Ref sig .tc := ⟨.hbm, 32, rfl⟩
abbrev main_cst_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_7 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_8 : Ref sig .tc := ⟨.hbm, 45, rfl⟩
abbrev main_v23 : Ref sig .tc := ⟨.hbm, 46, rfl⟩
abbrev main_v24 : Ref sig .tc := ⟨.hbm, 47, rfl⟩
abbrev main_cst_9 : Ref sig .tc := ⟨.hbm, 48, rfl⟩
abbrev main_v25 : Ref sig .tc := ⟨.hbm, 49, rfl⟩
abbrev main_cst_10 : Ref sig .tc := ⟨.hbm, 50, rfl⟩
abbrev main_v26 : Ref sig .tc := ⟨.hbm, 51, rfl⟩
abbrev main_v27 : Ref sig .tc := ⟨.hbm, 52, rfl⟩
abbrev main_cst_11 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_12 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_13 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_14 : Ref sig .tc := ⟨.hbm, 65, rfl⟩
abbrev main_v37 : Ref sig .tc := ⟨.hbm, 66, rfl⟩
abbrev main_v38 : Ref sig .tc := ⟨.hbm, 67, rfl⟩
abbrev main_cst_15 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_16 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_17 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_18 : Ref sig .tc := ⟨.hbm, 80, rfl⟩
abbrev main_v48 : Ref sig .tc := ⟨.hbm, 81, rfl⟩
abbrev main_v49 : Ref sig .tc := ⟨.hbm, 82, rfl⟩
abbrev main_cst_19 : Ref sig .tc := ⟨.hbm, 83, rfl⟩
abbrev main_v50 : Ref sig .tc := ⟨.hbm, 84, rfl⟩
abbrev main_cst_20 : Ref sig .tc := ⟨.hbm, 85, rfl⟩
abbrev main_v51 : Ref sig .tc := ⟨.hbm, 86, rfl⟩
abbrev main_v52 : Ref sig .tc := ⟨.hbm, 87, rfl⟩
abbrev main_cst_21 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_22 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_23 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_24 : Ref sig .tc := ⟨.hbm, 100, rfl⟩
abbrev main_v62 : Ref sig .tc := ⟨.hbm, 101, rfl⟩
abbrev main_v63 : Ref sig .tc := ⟨.hbm, 102, rfl⟩
abbrev main_cst_25 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_26 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_27 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_28 : Ref sig .tc := ⟨.hbm, 115, rfl⟩
abbrev main_v73 : Ref sig .tc := ⟨.hbm, 116, rfl⟩
abbrev main_v74 : Ref sig .tc := ⟨.hbm, 117, rfl⟩
abbrev main_cst_29 : Ref sig .tc := ⟨.hbm, 118, rfl⟩
abbrev main_v75 : Ref sig .tc := ⟨.hbm, 119, rfl⟩

abbrev nD : Nat := 1
abbrev τ : Topo := Topo.v7x

variable {F : FTy → Type} [FloatOps F]
-- ==== PreBwd.lean ====
abbrev S4096x1024 : Shape := ⟨2, ![4096, 1024]⟩
abbrev S1x1024 : Shape := ⟨2, ![1, 1024]⟩
abbrev S2x3x1024 : Shape := ⟨3, ![2, 3, 1024]⟩
abbrev S2x2x1024 : Shape := ⟨3, ![2, 2, 1024]⟩
abbrev S1024x1024 : Shape := ⟨2, ![1024, 1024]⟩
abbrev S1x3x1024 : Shape := ⟨3, ![1, 3, 1024]⟩
abbrev S1x2x1024 : Shape := ⟨3, ![1, 2, 1024]⟩
abbrev S1024 : Shape := ⟨1, ![1024]⟩
abbrev S1024x1 : Shape := ⟨2, ![1024, 1]⟩
abbrev S1x1x1024 : Shape := ⟨3, ![1, 1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S2x3x1024, .f32⟩
  | .hbm, ⟨4, _⟩ => ⟨S4096x1024, .f32⟩
  | .hbm, ⟨5, _⟩ => ⟨S4096x1024, .f32⟩
  | .hbm, ⟨6, _⟩ => ⟨S2x2x1024, .f32⟩
  | .hbm, ⟨7, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x3x1024, .f32⟩
  | .local _ .vmem, ⟨6, _⟩ => ⟨S1x3x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x2x1024, .f32⟩
  | .local _ .vmem, ⟨12, _⟩ => ⟨S1x2x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PreBwdRefIdeal.lean ====
abbrev S4096x1024 : Shape := ⟨2, ![4096, 1024]⟩
abbrev S1x1024 : Shape := ⟨2, ![1, 1024]⟩
abbrev S2x3x1024 : Shape := ⟨3, ![2, 3, 1024]⟩
abbrev S2x2048x1024 : Shape := ⟨3, ![2, 2048, 1024]⟩
abbrev S1024 : Shape := ⟨1, ![1024]⟩
abbrev S2x1x1024 : Shape := ⟨3, ![2, 1, 1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2x1024 : Shape := ⟨3, ![2, 2, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S2x3x1024, .f32⟩
  | .hbm, ⟨4, _⟩ => ⟨S4096x1024, .f32⟩
  | .hbm, ⟨5, _⟩ => ⟨S2x2048x1024, .f32⟩
  | .hbm, ⟨6, _⟩ => ⟨S1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S2x1x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x2048x1024, .f32⟩
  | .hbm, ⟨36, _⟩ => ⟨S2x2048x1024, .f32⟩
  | .hbm, ⟨37, _⟩ => ⟨S2x1x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S_, .f32⟩
  | .hbm, ⟨45, _⟩ => ⟨S2x1024, .f32⟩
  | .hbm, ⟨46, _⟩ => ⟨S2x2048x1024, .f32⟩
  | .hbm, ⟨47, _⟩ => ⟨S_, .f32⟩
  | .hbm, ⟨48, _⟩ => ⟨S2x1024, .f32⟩
  | .hbm, ⟨49, _⟩ => ⟨S2x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S2x1024, .f32⟩
  | .hbm, ⟨54, _⟩ => ⟨S2x2048x1024, .f32⟩
  | .hbm, ⟨55, _⟩ => ⟨S_, .f32⟩
  | .hbm, ⟨56, _⟩ => ⟨S1024, .f32⟩
  | .hbm, ⟨57, _⟩ => ⟨S1x1x1024, .f32⟩
  | .hbm, ⟨58, _⟩ => ⟨S2x2048x1024, .f32⟩
  | .hbm, ⟨59, _⟩ => ⟨S2x2048x1024, .f32⟩
  | .hbm, ⟨60, _⟩ => ⟨S_, .f32⟩
  | .hbm, ⟨61, _⟩ => ⟨S1024, .f32⟩
  | .hbm, ⟨62, _⟩ => ⟨S2x2048x1024, .f32⟩
  | .hbm, ⟨63, _⟩ => ⟨S_, .f32⟩
  | .hbm, ⟨64, _⟩ => ⟨S2x2048, .f32⟩
  | .hbm, ⟨65, _⟩ => ⟨S2x2048x1, .f32⟩
  | .hbm, ⟨66, _⟩ => ⟨S2x2048x1024, .f32⟩
  | .hbm, ⟨67, _⟩ => ⟨S2x2048x1024, .f32⟩
  | .hbm, ⟨68, _⟩ => ⟨S2x2048x1, .f32⟩
  | .hbm, ⟨69, _⟩ => ⟨S_, .f32⟩
  | .hbm, ⟨70, _⟩ => ⟨S2x2048x1, .f32⟩
  | .hbm, ⟨71, _⟩ => ⟨S2x2048x1, .f32⟩
  | .hbm, ⟨72, _⟩ => ⟨S_, .f32⟩
  | .hbm, ⟨73, _⟩ => ⟨S2x2048, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S4096x1024, .f32⟩
  | .hbm, ⟨80, _⟩ => ⟨S4096x1024, .f32⟩
  | .hbm, ⟨81, _⟩ => ⟨S2x1x1024, .f32⟩
  | .hbm, ⟨82, _⟩ => ⟨S2x1x1024, .f32⟩
  | .hbm, ⟨83, _⟩ => ⟨S2x2x1024, .f32⟩
  | .hbm, ⟨84, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Loss.lean ====
abbrev S4096x2048 : Shape := ⟨2, ![4096, 2048]⟩
abbrev S8x256x1024 : Shape := ⟨3, ![8, 256, 1024]⟩
abbrev S4096x1024 : Shape := ⟨2, ![4096, 1024]⟩
abbrev S2x3x1024 : Shape := ⟨3, ![2, 3, 1024]⟩
abbrev S1x1024 : Shape := ⟨2, ![1, 1024]⟩
abbrev S2048x1024 : Shape := ⟨2, ![2048, 1024]⟩
abbrev S1x1 : Shape := ⟨2, ![1, 1]⟩
abbrev S512x2048 : Shape := ⟨2, ![512, 2048]⟩
abbrev S512x1024 : Shape := ⟨2, ![512, 1024]⟩
abbrev S1x3x1024 : Shape := ⟨3, ![1, 3, 1024]⟩
abbrev S1x1x1024 : Shape := ⟨3, ![1, 1, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S8x256x1024, .bf16⟩
  | .hbm, ⟨2, _⟩ => ⟨S4096x1024, .f32⟩
  | .hbm, ⟨3, _⟩ => ⟨S2x3x1024, .f32⟩
  | .hbm, ⟨4, _⟩ => ⟨S1x1024, .f32⟩
  | .hbm, ⟨5, _⟩ => ⟨S4096x1024, .f32⟩
  | .hbm, ⟨6, _⟩ => ⟨S2048x1024, .bf16⟩
  | .hbm, ⟨7, _⟩ => ⟨S4096x1024, .f32⟩
  | .hbm, ⟨8, _⟩ => ⟨S4096x1024, .f32⟩
  | .hbm, ⟨9, _⟩ => ⟨S1x1, .f32⟩
  | .hbm, ⟨10, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x3x1024, .f32⟩
  | .local _ .vmem, ⟨6, _⟩ => ⟨S1x3x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1, .f32⟩
  | .local _ .vmem, ⟨15, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S4096x2048 : Shape := ⟨2, ![4096, 2048]⟩
abbrev S8x256x1024 : Shape := ⟨3, ![8, 256, 1024]⟩
abbrev S4096x1024 : Shape := ⟨2, ![4096, 1024]⟩
abbrev S2x3x1024 : Shape := ⟨3, ![2, 3, 1024]⟩
abbrev S1x1024 : Shape := ⟨2, ![1, 1024]⟩
abbrev S2048x1024 : Shape := ⟨2, ![2048, 1024]⟩
abbrev S2x2048x1024 : Shape := ⟨3, ![2, 2048, 1024]⟩
abbrev S2x1x1024 : Shape := ⟨3, ![2, 1, 1024]⟩
abbrev S2x1024 : Shape := ⟨2, ![2, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x1024, .bf16⟩
  | .hbm, ⟨2, _⟩ => ⟨S4096x1024, .f32⟩
  | .hbm, ⟨3, _⟩ => ⟨S2x3x1024, .f32⟩
  | .hbm, ⟨4, _⟩ => ⟨S1x1024, .f32⟩
  | .hbm, ⟨5, _⟩ => ⟨S4096x1024, .f32⟩
  | .hbm, ⟨6, _⟩ => ⟨S4096x2048, .f32⟩
  | .hbm, ⟨7, _⟩ => ⟨S2048x1024, .bf16⟩
  | .hbm, ⟨8, _⟩ => ⟨S2048x1024, .f32⟩
  | .hbm, ⟨9, _⟩ => ⟨S4096x1024, .f32⟩
  | .hbm, ⟨10, _⟩ => ⟨S2x2048x1024, .f32⟩
  | .hbm, ⟨11, _⟩ => ⟨S2x2048x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S2x2048x1, .f32⟩
  | .hbm, ⟨32, _⟩ => ⟨S_, .f32⟩
  | .hbm, ⟨33, _⟩ => ⟨S2x2048x1, .f32⟩
  | .hbm, ⟨34, _⟩ => ⟨S2x2048x1, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S2x2048x1024, .f32⟩
  | .hbm, ⟨44, _⟩ => ⟨S2x2048x1024, .f32⟩
  | .hbm, ⟨45, _⟩ => ⟨S_, .f32⟩
  | .hbm, ⟨46, _⟩ => ⟨S2x2048, .f32⟩
  | .hbm, ⟨47, _⟩ => ⟨S_, .f32⟩
  | .hbm, ⟨48, _⟩ => ⟨S2x2048, .f32⟩
  | .hbm, ⟨49, _⟩ => ⟨S2x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2x2048, .f32⟩
  | .hbm, ⟨58, _⟩ => ⟨S_, .f32⟩
  | .hbm, ⟨59, _⟩ => ⟨S2x2048, .f32⟩
  | .hbm, ⟨60, _⟩ => ⟨S2x2048, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S_, .f32⟩
  | .hbm, ⟨65, _⟩ => ⟨S1024, .f32⟩
  | .hbm, ⟨66, _⟩ => ⟨S1x1x1024, .f32⟩
  | .hbm, ⟨67, _⟩ => ⟨S2x2048x1024, .f32⟩
  | .hbm, ⟨68, _⟩ => ⟨S2x2048x1024, .f32⟩
  | .hbm, ⟨69, _⟩ => ⟨S_, .f32⟩
  | .hbm, ⟨70, _⟩ => ⟨S1024, .f32⟩
  | .hbm, ⟨71, _⟩ => ⟨S2x2048x1024, .f32⟩
  | .hbm, ⟨72, _⟩ => ⟨S_, .f32⟩
  | .hbm, ⟨73, _⟩ => ⟨S2x2048, .f32⟩
  | .hbm, ⟨74, _⟩ => ⟨S2x2048x1, .f32⟩
  | .hbm, ⟨75, _⟩ => ⟨S2x2048x1024, .f32⟩
  | .hbm, ⟨76, _⟩ => ⟨S2x2048x1024, .f32⟩
  | .hbm, ⟨77, _⟩ => ⟨S2x2048x1, .f32⟩
  | .hbm, ⟨78, _⟩ => ⟨S_, .f32⟩
  | .hbm, ⟨79, _⟩ => ⟨S2x2048x1, .f32⟩
  | .hbm, ⟨80, _⟩ => ⟨S2x2048x1, .f32⟩
  | .hbm, ⟨81, _⟩ => ⟨S_, .f32⟩
  | .hbm, ⟨82, _⟩ => ⟨S2x2048, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | .hbm, ⟨88, _⟩ => ⟨S4096x1024, .f32⟩
  | .hbm, ⟨89, _⟩ => ⟨S1x1, .f32⟩
  | .hbm, ⟨90, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_cst_8 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== AdamEarly.lean ====
abbrev S8x1x2048 : Shape := ⟨3, ![8, 1, 2048]⟩
abbrev S8x1024x128 : Shape := ⟨3, ![8, 1024, 128]⟩
abbrev S8x8x128 : Shape := ⟨3, ![8, 8, 128]⟩
abbrev S8x2x2048 : Shape := ⟨3, ![8, 2, 2048]⟩
abbrev S8x1x128 : Shape := ⟨3, ![8, 1, 128]⟩
abbrev S1x2048 : Shape := ⟨2, ![1, 2048]⟩
abbrev S1024x128 : Shape := ⟨2, ![1024, 128]⟩
abbrev S8x128 : Shape := ⟨2, ![8, 128]⟩
abbrev S2x2048 : Shape := ⟨2, ![2, 2048]⟩
abbrev S1x128 : Shape := ⟨2, ![1, 128]⟩
abbrev S1x1x2048 : Shape := ⟨3, ![1, 1, 2048]⟩
abbrev S1x1024x128 : Shape := ⟨3, ![1, 1024, 128]⟩
abbrev S1x8x128 : Shape := ⟨3, ![1, 8, 128]⟩
abbrev S1x2x2048 : Shape := ⟨3, ![1, 2, 2048]⟩
abbrev S1x1x128 : Shape := ⟨3, ![1, 1, 128]⟩

abbrev nBuf : Space → Nat
  | .hbm => 48
  | .vmem => 48
  | .smem => 0
  | _ => 0

abbrev bufTy : (tb : Table) → Fin (tcTables nBuf tb) → BufTy
  | .hbm, ⟨0, _⟩ => ⟨S8x1x2048, .f32⟩
  | .hbm, ⟨1, _⟩ => ⟨S8x1x2048, .f32⟩
  | .hbm, ⟨2, _⟩ => ⟨S8x1024x128, .f32⟩
  | .hbm, ⟨3, _⟩ => ⟨S8x8x128, .f32⟩
  | .hbm, ⟨4, _⟩ => ⟨S8x2x2048, .f32⟩
  | .hbm, ⟨5, _⟩ => ⟨S8x1x128, .f32⟩
  | .hbm, ⟨6, _⟩ => ⟨S1x2048, .f32⟩
  | .hbm, ⟨7, _⟩ => ⟨S1x2048, .f32⟩
  | .hbm, ⟨8, _⟩ => ⟨S1024x128, .f32⟩
  | .hbm, ⟨9, _⟩ => ⟨S8x128, .f32⟩
  | .hbm, ⟨10, _⟩ => ⟨S2x2048, .f32⟩
  | .hbm, ⟨11, _⟩ => ⟨S1x128, .f32⟩
  | .hbm, ⟨12, _⟩ => ⟨S1x2048, .f32⟩
  | .hbm, ⟨13, _⟩ => ⟨S1x2048, .f32⟩
  | .hbm, ⟨14, _⟩ => ⟨S1024x128, .f32⟩
  | .hbm, ⟨15, _⟩ => ⟨S8x128, .f32⟩
  | .hbm, ⟨16, _⟩ => ⟨S2x2048, .f32⟩
  | .hbm, ⟨17, _⟩ => ⟨S1x128, .f32⟩
  | .hbm, ⟨18, _⟩ => ⟨S1x2048, .f32⟩
  | .hbm, ⟨19, _⟩ => ⟨S1x2048, .f32⟩
  | .hbm, ⟨20, _⟩ => ⟨S1024x128, .f32⟩
  | .hbm, ⟨21, _⟩ => ⟨S8x128, .f32⟩
  | .hbm, ⟨22, _⟩ => ⟨S2x2048, .f32⟩
  | .hbm, ⟨23, _⟩ => ⟨S1x128, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1024x128, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S8x128, .f32⟩
  | .hbm, ⟨37, _⟩ => ⟨S8x128, .f32⟩
  | .hbm, ⟨38, _⟩ => ⟨S8x128, .f32⟩
  | .hbm, ⟨39, _⟩ => ⟨S8x128, .f32⟩
  | .hbm, ⟨40, _⟩ => ⟨S2x2048, .f32⟩
  | .hbm, ⟨41, _⟩ => ⟨S2x2048, .f32⟩
  | .hbm, ⟨42, _⟩ => ⟨S2x2048, .f32⟩
  | .hbm, ⟨43, _⟩ => ⟨S2x2048, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .local _ .vmem, ⟨0, _⟩ => ⟨S8x1x2048, .f32⟩
  | .local _ .vmem, ⟨1, _⟩ => ⟨S8x1x2048, .f32⟩
  | .local _ .vmem, ⟨2, _⟩ => ⟨S8x1024x128, .f32⟩
  | .local _ .vmem, ⟨3, _⟩ => ⟨S8x8x128, .f32⟩
  | .local _ .vmem, ⟨4, _⟩ => ⟨S8x2x2048, .f32⟩
  | .local _ .vmem, ⟨5, _⟩ => ⟨S8x1x128, .f32⟩
  | .local _ .vmem, ⟨6, _⟩ => ⟨S1x2048, .f32⟩
  | .local _ .vmem, ⟨7, _⟩ => ⟨S1x2048, .f32⟩
  | .local _ .vmem, ⟨8, _⟩ => ⟨S1024x128, .f32⟩
  | .local _ .vmem, ⟨9, _⟩ => ⟨S8x128, .f32⟩
  | .local _ .vmem, ⟨10, _⟩ => ⟨S2x2048, .f32⟩
  | .local _ .vmem, ⟨11, _⟩ => ⟨S1x128, .f32⟩
  | .local _ .vmem, ⟨12, _⟩ => ⟨S1x2048, .f32⟩
  | .local _ .vmem, ⟨13, _⟩ => ⟨S1x2048, .f32⟩
  | .local _ .vmem, ⟨14, _⟩ => ⟨S1024x128, .f32⟩
  | .local _ .vmem, ⟨15, _⟩ => ⟨S8x128, .f32⟩
  | .local _ .vmem, ⟨16, _⟩ => ⟨S2x2048, .f32⟩
  | .local _ .vmem, ⟨17, _⟩ => ⟨S1x128, .f32⟩
  | .local _ .vmem, ⟨18, _⟩ => ⟨S1x2048, .f32⟩
  | .local _ .vmem, ⟨19, _⟩ => ⟨S1x2048, .f32⟩
  | .local _ .vmem, ⟨20, _⟩ => ⟨S1024x128, .f32⟩
  | .local _ .vmem, ⟨21, _⟩ => ⟨S8x128, .f32⟩
  | .local _ .vmem, ⟨22, _⟩ => ⟨S2x2048, .f32⟩
  | .local _ .vmem, ⟨23, _⟩ => ⟨S1x128, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S1x2048, .f32⟩
  | .local _ .vmem, ⟨29, _⟩ => ⟨S1x2048, .f32⟩
  | .local _ .vmem, ⟨30, _⟩ => ⟨S1x2048, .f32⟩
  | .local _ .vmem, ⟨31, _⟩ => ⟨S1x2048, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S8x128, .f32⟩
  | .local _ .vmem, ⟨37, _⟩ => ⟨S8x128, .f32⟩
  | .local _ .vmem, ⟨38, _⟩ => ⟨S8x128, .f32⟩
  | .local _ .vmem, ⟨39, _⟩ => ⟨S8x128, .f32⟩
  | .local _ .vmem, ⟨40, _⟩ => ⟨S2x2048, .f32⟩
  | .local _ .vmem, ⟨41, _⟩ => ⟨S2x2048, .f32⟩
  | .local _ .vmem, ⟨42, _⟩ => ⟨S2x2048, .f32⟩
  | .local _ .vmem, ⟨43, _⟩ => ⟨S2x2048, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v0_4 : Ref sig .tc := ⟨.hbm, 28, rfl⟩
abbrev main_v0_5 : Ref sig .tc := ⟨.hbm, 29, rfl⟩
abbrev main_v0_6 : Ref sig .tc := ⟨.hbm, 30, rfl⟩
abbrev main_v0_7 : Ref sig .tc := ⟨.hbm, 31, rfl⟩
abbrev main_v0_8 : Ref sig .tc := ⟨.hbm, 32, rfl⟩
abbrev main_v0_9 : Ref sig .tc := ⟨.hbm, 33, rfl⟩
abbrev main_v0_10 : Ref sig .tc := ⟨.hbm, 34, rfl⟩
abbrev main_v0_11 : Ref sig .tc := ⟨.hbm, 35, rfl⟩
abbrev main_v0_12 : Ref sig .tc := ⟨.hbm, 36, rfl⟩
abbrev main_v0_13 : Ref sig .tc := ⟨.hbm, 37, rfl⟩
abbrev main_v0_14 : Ref sig .tc := ⟨.hbm, 38, rfl⟩
abbrev main_v0_15 : Ref sig .tc := ⟨.hbm, 39, rfl⟩
abbrev main_v0_16 : Ref sig .tc := ⟨.hbm, 40, rfl⟩
abbrev main_v0_17 : Ref sig .tc := ⟨.hbm, 41, rfl⟩
abbrev main_v0_18 : Ref sig .tc := ⟨.hbm, 42, rfl⟩
abbrev main_v0_19 : Ref sig .tc := ⟨.hbm, 43, rfl⟩
abbrev main_v0_20 : Ref sig .tc := ⟨.hbm, 44, rfl⟩
abbrev main_v0_21 : Ref sig .tc := ⟨.hbm, 45, rfl⟩
abbrev main_v0_22 : Ref sig .tc := ⟨.hbm, 46, rfl⟩
abbrev main_v0_23 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47

abbrev nD : Nat := 1
abbrev τ : Topo := Topo.v7x

variable {F : FTy → Type} [FloatOps F]

abbrev grid0 : Pipeline.Grid := .none

abbrev stage0_0 : Fin 1 → Memref sig .tc .vmem S8x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1024x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x2048 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x2048 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x2048 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x2048 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x2048 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1024x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1024x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1024x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1024x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S8x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S8x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S8x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S8x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S2x2048 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S2x2048 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S2x2048 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S2x2048 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x128 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x128 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x128 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
-- ==== AdamEarlyRefIdeal.lean ====
abbrev S8x1x2048 : Shape := ⟨3, ![8, 1, 2048]⟩
abbrev S8x1024x128 : Shape := ⟨3, ![8, 1024, 128]⟩
abbrev S8x8x128 : Shape := ⟨3, ![8, 8, 128]⟩
abbrev S8x2x2048 : Shape := ⟨3, ![8, 2, 2048]⟩
abbrev S8x1x128 : Shape := ⟨3, ![8, 1, 128]⟩
abbrev S1x2048 : Shape := ⟨2, ![1, 2048]⟩
abbrev S1024x128 : Shape := ⟨2, ![1024, 128]⟩
abbrev S8x128 : Shape := ⟨2, ![8, 128]⟩
abbrev S2x2048 : Shape := ⟨2, ![2, 2048]⟩
abbrev S1x128 : Shape := ⟨2, ![1, 128]⟩
abbrev S_ : Shape := ⟨0, ![]⟩

abbrev nBuf : Space → Nat
  | .hbm => 234
  | .vmem => 0
  | .smem => 0
  | _ => 0

abbrev hbmTy0_0 (i : Nat) : BufTy := match i % 128 with
  | 0 => ⟨S8x1x2048, .f32⟩
  | 1 => ⟨S8x1x2048, .f32⟩
  | 2 => ⟨S8x1024x128, .f32⟩
  | 3 => ⟨S8x8x128, .f32⟩
  | 4 => ⟨S8x2x2048, .f32⟩
  | 5 => ⟨S8x1x128, .f32⟩
  | 6 => ⟨S1x2048, .f32⟩
  | 7 => ⟨S1x2048, .f32⟩
  | 8 => ⟨S1024x128, .f32⟩
  | 9 => ⟨S8x128, .f32⟩
  | 10 => ⟨S2x2048, .f32⟩
  | 11 => ⟨S1x128, .f32⟩
  | 12 => ⟨S1x2048, .f32⟩
  | 13 => ⟨S1x2048, .f32⟩
  | 14 => ⟨S1024x128, .f32⟩
  | 15 => ⟨S8x128, .f32⟩
  | 16 => ⟨S2x2048, .f32⟩
  | 17 => ⟨S1x128, .f32⟩
  | 18 => ⟨S1x2048, .f32⟩
  | 19 => ⟨S1x2048, .f32⟩
  | 20 => ⟨S1024x128, .f32⟩
  | 21 => ⟨S8x128, .f32⟩
  | 22 => ⟨S2x2048, .f32⟩
  | 23 => ⟨S1x128, .f32⟩
  | 24 => ⟨S_, .f32⟩
  | 25 => ⟨S1x2048, .f32⟩
  | 26 => ⟨S_, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S_, .f32⟩
  | 45 => ⟨S1x2048, .f32⟩
  | 46 => ⟨S1x2048, .f32⟩
  | 47 => ⟨S1x2048, .f32⟩
  | 48 => ⟨S_, .f32⟩
  | 49 => ⟨S1x2048, .f32⟩
  | 50 => ⟨S1x2048, .f32⟩
  | 51 => ⟨S1x2048, .f32⟩
  | 52 => ⟨S_, .f32⟩
  | 53 => ⟨S1x2048, .f32⟩
  | 54 => ⟨S1x2048, .f32⟩
  | 55 => ⟨S1x2048, .f32⟩
  | 56 => ⟨S_, .f32⟩
  | 57 => ⟨S1x2048, .f32⟩
  | 58 => ⟨S1x2048, .f32⟩
  | 59 => ⟨S_, .f32⟩
  | 60 => ⟨S1x2048, .f32⟩
  | 61 => ⟨S_, .f32⟩
  | 62 => ⟨S1x2048, .f32⟩
  | 63 => ⟨S1x2048, .f32⟩
  | 64 => ⟨S_, .f32⟩
  | 65 => ⟨S1x2048, .f32⟩
  | 66 => ⟨S1x2048, .f32⟩
  | 67 => ⟨S1x2048, .f32⟩
  | 68 => ⟨S_, .f32⟩
  | 69 => ⟨S1x2048, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S_, .f32⟩
  | 80 => ⟨S1x2048, .f32⟩
  | 81 => ⟨S1x2048, .f32⟩
  | 82 => ⟨S1x2048, .f32⟩
  | 83 => ⟨S_, .f32⟩
  | 84 => ⟨S1x2048, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S_, .f32⟩
  | 95 => ⟨S1024x128, .f32⟩
  | 96 => ⟨S_, .f32⟩
  | 97 => ⟨S1024x128, .f32⟩
  | 98 => ⟨S1024x128, .f32⟩
  | 99 => ⟨S_, .f32⟩
  | 100 => ⟨S1024x128, .f32⟩
  | 101 => ⟨S1024x128, .f32⟩
  | 102 => ⟨S1024x128, .f32⟩
  | 103 => ⟨S_, .f32⟩
  | 104 => ⟨S1024x128, .f32⟩
  | 105 => ⟨S1024x128, .f32⟩
  | 106 => ⟨S1024x128, .f32⟩
  | 107 => ⟨S_, .f32⟩
  | 108 => ⟨S1024x128, .f32⟩
  | 109 => ⟨S1024x128, .f32⟩
  | 110 => ⟨S1024x128, .f32⟩
  | 111 => ⟨S_, .f32⟩
  | 112 => ⟨S1024x128, .f32⟩
  | 113 => ⟨S1024x128, .f32⟩
  | 114 => ⟨S_, .f32⟩
  | 115 => ⟨S1024x128, .f32⟩
  | 116 => ⟨S1024x128, .f32⟩
  | 117 => ⟨S1024x128, .f32⟩
  | 118 => ⟨S_, .f32⟩
  | 119 => ⟨S1024x128, .f32⟩
  | 120 => ⟨S1024x128, .f32⟩
  | 121 => ⟨S1024x128, .f32⟩
  | 122 => ⟨S_, .f32⟩
  | 123 => ⟨S1024x128, .f32⟩
  | 124 => ⟨S1024x128, .f32⟩
  | 125 => ⟨S1024x128, .f32⟩
  | 126 => ⟨S_, .f32⟩
  | 127 => ⟨S1024x128, .f32⟩
  | _ => ⟨S8x1x2048, .f32⟩

abbrev hbmTy0_1 (i : Nat) : BufTy := match i % 128 with
  | 0 => ⟨S1024x128, .f32⟩
  | 1 => ⟨S_, .f32⟩
  | 2 => ⟨S8x128, .f32⟩
  | 3 => ⟨S_, .f32⟩
  | 4 => ⟨S8x128, .f32⟩
  | 5 => ⟨S8x128, .f32⟩
  | 6 => ⟨S_, .f32⟩
  | 7 => ⟨S8x128, .f32⟩
  | 8 => ⟨S8x128, .f32⟩
  | 9 => ⟨S8x128, .f32⟩
  | 10 => ⟨S_, .f32⟩
  | 11 => ⟨S8x128, .f32⟩
  | 12 => ⟨S8x128, .f32⟩
  | 13 => ⟨S8x128, .f32⟩
  | 14 => ⟨S_, .f32⟩
  | 15 => ⟨S8x128, .f32⟩
  | 16 => ⟨S8x128, .f32⟩
  | 17 => ⟨S8x128, .f32⟩
  | 18 => ⟨S_, .f32⟩
  | 19 => ⟨S8x128, .f32⟩
  | 20 => ⟨S8x128, .f32⟩
  | 21 => ⟨S_, .f32⟩
  | 22 => ⟨S8x128, .f32⟩
  | 23 => ⟨S8x128, .f32⟩
  | 24 => ⟨S8x128, .f32⟩
  | 25 => ⟨S_, .f32⟩
  | 26 => ⟨S8x128, .f32⟩
  | 27 => ⟨S8x128, .f32⟩
  | 28 => ⟨S8x128, .f32⟩
  | 29 => ⟨S_, .f32⟩
  | 30 => ⟨S8x128, .f32⟩
  | 31 => ⟨S8x128, .f32⟩
  | 32 => ⟨S8x128, .f32⟩
  | 33 => ⟨S_, .f32⟩
  | 34 => ⟨S8x128, .f32⟩
  | 35 => ⟨S8x128, .f32⟩
  | 36 => ⟨S_, .f32⟩
  | 37 => ⟨S2x2048, .f32⟩
  | 38 => ⟨S_, .f32⟩
  | 39 => ⟨S2x2048, .f32⟩
  | 40 => ⟨S2x2048, .f32⟩
  | 41 => ⟨S_, .f32⟩
  | 42 => ⟨S2x2048, .f32⟩
  | 43 => ⟨S2x2048, .f32⟩
  | 44 => ⟨S2x2048, .f32⟩
  | 45 => ⟨S_, .f32⟩
  | 46 => ⟨S2x2048, .f32⟩
  | 47 => ⟨S2x2048, .f32⟩
  | 48 => ⟨S2x2048, .f32⟩
  | 49 => ⟨S_, .f32⟩
  | 50 => ⟨S2x2048, .f32⟩
  | 51 => ⟨S2x2048, .f32⟩
  | 52 => ⟨S2x2048, .f32⟩
  | 53 => ⟨S_, .f32⟩
  | 54 => ⟨S2x2048, .f32⟩
  | 55 => ⟨S2x2048, .f32⟩
  | 56 => ⟨S_, .f32⟩
  | 57 => ⟨S2x2048, .f32⟩
  | 58 => ⟨S2x2048, .f32⟩
  | 59 => ⟨S2x2048, .f32⟩
  | 60 => ⟨S_, .f32⟩
  | 61 => ⟨S2x2048, .f32⟩
  | 62 => ⟨S2x2048, .f32⟩
  | 63 => ⟨S2x2048, .f32⟩
  | 64 => ⟨S_, .f32⟩
  | 65 => ⟨S2x2048, .f32⟩
  | 66 => ⟨S2x2048, .f32⟩
  | 67 => ⟨S2x2048, .f32⟩
  | 68 => ⟨S_, .f32⟩
  | 69 => ⟨S2x2048, .f32⟩
  | 70 => ⟨S2x2048, .f32⟩
  | 71 => ⟨S_, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S_, .f32⟩
  | 104 => ⟨S1x128, .f32⟩
  | 105 => ⟨S1x128, .f32⟩
  | _ => ⟨S8x1x2048, .f32⟩

abbrev hbmTy (i : Nat) : BufTy := match i / 128 with
  | 0 => hbmTy0_0 i
  | 1 => hbmTy0_1 i
  | _ => ⟨S8x1x2048, .f32⟩

abbrev bufTy : (tb : Table) → Fin (tcTables nBuf tb) → BufTy
  | .hbm, ⟨i, _⟩ => hbmTy i
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_cst_0 : Ref sig .tc := ⟨.hbm, 26, rfl⟩
abbrev main_v1 : Ref sig .tc := ⟨.hbm, 27, rfl⟩
abbrev main_v2 : Ref sig .tc := ⟨.hbm, 28, rfl⟩
abbrev main_cst_1 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst_2 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_4 : Ref sig .tc := ⟨.hbm, 41, rfl⟩
abbrev main_v12 : Ref sig .tc := ⟨.hbm, 42, rfl⟩
abbrev main_v13 : Ref sig .tc := ⟨.hbm, 43, rfl⟩
abbrev main_cst_5 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_6 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_7 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_8 : Ref sig .tc := ⟨.hbm, 56, rfl⟩
abbrev main_v23 : Ref sig .tc := ⟨.hbm, 57, rfl⟩
abbrev main_v24 : Ref sig .tc := ⟨.hbm, 58, rfl⟩
abbrev main_cst_9 : Ref sig .tc := ⟨.hbm, 59, rfl⟩
abbrev main_v25 : Ref sig .tc := ⟨.hbm, 60, rfl⟩
abbrev main_cst_10 : Ref sig .tc := ⟨.hbm, 61, rfl⟩
abbrev main_v26 : Ref sig .tc := ⟨.hbm, 62, rfl⟩
abbrev main_v27 : Ref sig .tc := ⟨.hbm, 63, rfl⟩
abbrev main_cst_11 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_12 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_13 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_14 : Ref sig .tc := ⟨.hbm, 76, rfl⟩
abbrev main_v37 : Ref sig .tc := ⟨.hbm, 77, rfl⟩
abbrev main_v38 : Ref sig .tc := ⟨.hbm, 78, rfl⟩
abbrev main_cst_15 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_16 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_17 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_18 : Ref sig .tc := ⟨.hbm, 91, rfl⟩
abbrev main_v48 : Ref sig .tc := ⟨.hbm, 92, rfl⟩
abbrev main_v49 : Ref sig .tc := ⟨.hbm, 93, rfl⟩
abbrev main_cst_19 : Ref sig .tc := ⟨.hbm, 94, rfl⟩
abbrev main_v50 : Ref sig .tc := ⟨.hbm, 95, rfl⟩
abbrev main_cst_20 : Ref sig .tc := ⟨.hbm, 96, rfl⟩
abbrev main_v51 : Ref sig .tc := ⟨.hbm, 97, rfl⟩
abbrev main_v52 : Ref sig .tc := ⟨.hbm, 98, rfl⟩
abbrev main_cst_21 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_22 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_23 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_24 : Ref sig .tc := ⟨.hbm, 111, rfl⟩
abbrev main_v62 : Ref sig .tc := ⟨.hbm, 112, rfl⟩
abbrev main_v63 : Ref sig .tc := ⟨.hbm, 113, rfl⟩
abbrev main_cst_25 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_26 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_27 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_cst_28 : Ref sig .tc := ⟨.hbm, 126, rfl⟩
abbrev main_v73 : Ref sig .tc := ⟨.hbm, 127, rfl⟩
abbrev main_v74 : Ref sig .tc := ⟨.hbm, 128, rfl⟩
abbrev main_cst_29 : Ref sig .tc := ⟨.hbm, 129, rfl⟩
abbrev main_v75 : Ref sig .tc := ⟨.hbm, 130, rfl⟩
abbrev main_cst_30 : Ref sig .tc := ⟨.hbm, 131, rfl⟩
abbrev main_v76 : Ref sig .tc := ⟨.hbm, 132, rfl⟩
abbrev main_v77 : Ref sig .tc := ⟨.hbm, 133, rfl⟩
abbrev main_cst_31 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_cst_32 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_cst_33 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_cst_34 : Ref sig .tc := ⟨.hbm, 146, rfl⟩
abbrev main_v87 : Ref sig .tc := ⟨.hbm, 147, rfl⟩
abbrev main_v88 : Ref sig .tc := ⟨.hbm, 148, rfl⟩
abbrev main_cst_35 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_cst_36 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_37 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_cst_38 : Ref sig .tc := ⟨.hbm, 161, rfl⟩
abbrev main_v98 : Ref sig .tc := ⟨.hbm, 162, rfl⟩
abbrev main_v99 : Ref sig .tc := ⟨.hbm, 163, rfl⟩
abbrev main_cst_39 : Ref sig .tc := ⟨.hbm, 164, rfl⟩
abbrev main_v100 : Ref sig .tc := ⟨.hbm, 165, rfl⟩
abbrev main_cst_40 : Ref sig .tc := ⟨.hbm, 166, rfl⟩
abbrev main_v101 : Ref sig .tc := ⟨.hbm, 167, rfl⟩
abbrev main_v102 : Ref sig .tc := ⟨.hbm, 168, rfl⟩
abbrev main_cst_41 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_cst_42 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_cst_43 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_cst_44 : Ref sig .tc := ⟨.hbm, 181, rfl⟩
abbrev main_v112 : Ref sig .tc := ⟨.hbm, 182, rfl⟩
abbrev main_v113 : Ref sig .tc := ⟨.hbm, 183, rfl⟩
abbrev main_cst_45 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_cst_46 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_cst_47 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_cst_48 : Ref sig .tc := ⟨.hbm, 196, rfl⟩
abbrev main_v123 : Ref sig .tc := ⟨.hbm, 197, rfl⟩
abbrev main_v124 : Ref sig .tc := ⟨.hbm, 198, rfl⟩
abbrev main_cst_49 : Ref sig .tc := ⟨.hbm, 199, rfl⟩
abbrev main_v125 : Ref sig .tc := ⟨.hbm, 200, rfl⟩
abbrev main_cst_50 : Ref sig .tc := ⟨.hbm, 201, rfl⟩
abbrev main_v126 : Ref sig .tc := ⟨.hbm, 202, rfl⟩
abbrev main_v127 : Ref sig .tc := ⟨.hbm, 203, rfl⟩
abbrev main_cst_51 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_52 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_cst_53 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_cst_54 : Ref sig .tc := ⟨.hbm, 216, rfl⟩
abbrev main_v137 : Ref sig .tc := ⟨.hbm, 217, rfl⟩
abbrev main_v138 : Ref sig .tc := ⟨.hbm, 218, rfl⟩
abbrev main_cst_55 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_56 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_cst_57 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_cst_58 : Ref sig .tc := ⟨.hbm, 231, rfl⟩
abbrev main_v148 : Ref sig .tc := ⟨.hbm, 232, rfl⟩
abbrev main_v149 : Ref sig .tc := ⟨.hbm, 233, rfl⟩

abbrev nD : Nat := 1
abbrev τ : Topo := Topo.v7x

variable {F : FTy → Type} [FloatOps F]
-- ==== AdamWaOut.lean ====
abbrev S8x256x1024 : Shape := ⟨3, ![8, 256, 1024]⟩
abbrev S4x256x1024 : Shape := ⟨3, ![4, 256, 1024]⟩
abbrev S3x256x1024 : Shape := ⟨3, ![3, 256, 1024]⟩
abbrev S5 : Shape := ⟨1, ![5]⟩
abbrev S1x256x1024 : Shape := ⟨3, ![1, 256, 1024]⟩
abbrev S256x1024 : Shape := ⟨2, ![256, 1024]⟩
abbrev S1 : Shape := ⟨1, ![1]⟩

abbrev nBuf : Space → Nat
  | .hbm => 13
  | .vmem => 12
  | .smem => 1
  | _ => 0

abbrev bufTy : (tb : Table) → Fin (tcTables nBuf tb) → BufTy
  | .hbm, ⟨0, _⟩ => ⟨S8x256x1024, .f32⟩
  | .hbm, ⟨1, _⟩ => ⟨S4x256x1024, .f32⟩
  | .hbm, ⟨2, _⟩ => ⟨S3x256x1024, .bf16⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .smem, ⟨0, _⟩ => ⟨S5, .i32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_arg3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S5) ![0] S1.size inb_S5_S1_0) numel1_S1
  let c0_i32 : BitVec 32 := 0#32
  let c0_i32_0 : BitVec 32 := 0#32
  ![v0.toNat, arg0.toNat, c0_i32.toNat]

def cc0_transform_1 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0_i32 : BitVec 32 := 0#32
  let c0_i32_0 : BitVec 32 := 0#32
  ![v0.toNat, arg0.toNat, c0_i32.toNat]

def cc0_transform_2 (inb_S5_S1_2 : ∀ a, (![2] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S5) ![2] S1.size inb_S5_S1_2) numel1_S1
  let c0_i32 : BitVec 32 := 0#32
  let c0_i32_0 : BitVec 32 := 0#32
  ![v0.toNat, arg0.toNat, c0_i32.toNat]

def cc0_transform_3 (inb_S5_S1_3 : ∀ a, (![3] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S5) ![3] S1.size inb_S5_S1_3) numel1_S1
  let c0_i32 : BitVec 32 := 0#32
  let c0_i32_0 : BitVec 32 := 0#32
  ![v0.toNat, arg0.toNat, c0_i32.toNat]

def cc0_transform_4 (inb_S5_S1_4 : ∀ a, (![4] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S5) ![4] S1.size inb_S5_S1_4) numel1_S1
  let c0_i32 : BitVec 32 := 0#32
  let c0_i32_0 : BitVec 32 := 0#32
  ![v0.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== AdamWaOutRefIdeal.lean ====
abbrev S8x256x1024 : Shape := ⟨3, ![8, 256, 1024]⟩
abbrev S4x256x1024 : Shape := ⟨3, ![4, 256, 1024]⟩
abbrev S3x256x1024 : Shape := ⟨3, ![3, 256, 1024]⟩
abbrev S5 : Shape := ⟨1, ![5]⟩
abbrev S1x256x1024 : Shape := ⟨3, ![1, 256, 1024]⟩
abbrev S1 : Shape := ⟨1, ![1]⟩
abbrev S_ : Shape := ⟨0, ![]⟩
abbrev S8 : Shape := ⟨1, ![8]⟩
abbrev S8x1x1 : Shape := ⟨3, ![8, 1, 1]⟩
abbrev S256x1024 : Shape := ⟨2, ![256, 1024]⟩
abbrev S4 : Shape := ⟨1, ![4]⟩
abbrev S4x1x1 : Shape := ⟨3, ![4, 1, 1]⟩
abbrev S3 : Shape := ⟨1, ![3]⟩
abbrev S3x1x1 : Shape := ⟨3, ![3, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S4x256x1024, .f32⟩
  | .hbm, ⟨2, _⟩ => ⟨S3x256x1024, .bf16⟩
  | .hbm, ⟨3, _⟩ => ⟨S5, .i32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i1⟩
  | .hbm, ⟨12, _⟩ => ⟨S8x1x1, .i1⟩
  | .hbm, ⟨13, _⟩ => ⟨S_, .i32⟩
  | .hbm, ⟨14, _⟩ => ⟨S_, .f32⟩
  | .hbm, ⟨15, _⟩ => ⟨S8x256x1024, .i1⟩
  | .hbm, ⟨16, _⟩ => ⟨S8x256x1024, .f32⟩
  | .hbm, ⟨17, _⟩ => ⟨S8x256x1024, .f32⟩
  | .hbm, ⟨18, _⟩ => ⟨S_, .f32⟩
  | .hbm, ⟨19, _⟩ => ⟨S256x1024, .f32⟩
  | .hbm, ⟨20, _⟩ => ⟨S1, .i32⟩
  | .hbm, ⟨21, _⟩ => ⟨S_, .i32⟩
  | .hbm, ⟨22, _⟩ => ⟨S4, .i32⟩
  | .hbm, ⟨23, _⟩ => ⟨S4, .i32⟩
  | .hbm, ⟨24, _⟩ => ⟨S4, .i1⟩
  | .hbm, ⟨25, _⟩ => ⟨S4x1x1, .i1⟩
  | .hbm, ⟨26, _⟩ => ⟨S_, .i32⟩
  | .hbm, ⟨27, _⟩ => ⟨S_, .f32⟩
  | .hbm, ⟨28, _⟩ => ⟨S4x256x1024, .i1⟩
  | .hbm, ⟨29, _⟩ => ⟨S4x256x1024, .f32⟩
  | .hbm, ⟨30, _⟩ => ⟨S4x256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S1, .i32⟩
  | .hbm, ⟨35, _⟩ => ⟨S_, .i32⟩
  | .hbm, ⟨36, _⟩ => ⟨S3, .i32⟩
  | .hbm, ⟨37, _⟩ => ⟨S3, .i32⟩
  | .hbm, ⟨38, _⟩ => ⟨S3, .i1⟩
  | .hbm, ⟨39, _⟩ => ⟨S3x1x1, .i1⟩
  | .hbm, ⟨40, _⟩ => ⟨S3x256x1024, .f32⟩
  | .hbm, ⟨41, _⟩ => ⟨S_, .i32⟩
  | .hbm, ⟨42, _⟩ => ⟨S_, .f32⟩
  | .hbm, ⟨43, _⟩ => ⟨S3x256x1024, .i1⟩
  | .hbm, ⟨44, _⟩ => ⟨S3x256x1024, .f32⟩
  | .hbm, ⟨45, _⟩ => ⟨S3x256x1024, .f32⟩
  | .hbm, ⟨46, _⟩ => ⟨S_, .f32⟩
  | .hbm, ⟨47, _⟩ => ⟨S256x1024, .f32⟩
  | .hbm, ⟨48, _⟩ => ⟨S256x1024, .f32⟩
  | .hbm, ⟨49, _⟩ => ⟨S1, .i32⟩
  | .hbm, ⟨50, _⟩ => ⟨S_, .i32⟩
  | .hbm, ⟨51, _⟩ => ⟨S3, .i32⟩
  | .hbm, ⟨52, _⟩ => ⟨S3, .i32⟩
  | .hbm, ⟨53, _⟩ => ⟨S3, .i1⟩
  | .hbm, ⟨54, _⟩ => ⟨S3x1x1, .i1⟩
  | .hbm, ⟨55, _⟩ => ⟨S3x256x1024, .f32⟩
  | .hbm, ⟨56, _⟩ => ⟨S_, .i32⟩
  | .hbm, ⟨57, _⟩ => ⟨S_, .f32⟩
  | .hbm, ⟨58, _⟩ => ⟨S3x256x1024, .i1⟩
  | .hbm, ⟨59, _⟩ => ⟨S3x256x1024, .f32⟩
  | .hbm, ⟨60, _⟩ => ⟨S3x256x1024, .f32⟩
  | .hbm, ⟨61, _⟩ => ⟨S_, .f32⟩
  | .hbm, ⟨62, _⟩ => ⟨S256x1024, .f32⟩
  | .hbm, ⟨63, _⟩ => ⟨S256x1024, .f32⟩
  | .hbm, ⟨64, _⟩ => ⟨S1, .i32⟩
  | .hbm, ⟨65, _⟩ => ⟨S_, .i32⟩
  | .hbm, ⟨66, _⟩ => ⟨S3, .i32⟩
  | .hbm, ⟨67, _⟩ => ⟨S3, .i32⟩
  | .hbm, ⟨68, _⟩ => ⟨S3, .i1⟩
  | .hbm, ⟨69, _⟩ => ⟨S3x1x1, .i1⟩
  | .hbm, ⟨70, _⟩ => ⟨S3x256x1024, .f32⟩
  | .hbm, ⟨71, _⟩ => ⟨S_, .i32⟩
  | .hbm, ⟨72, _⟩ => ⟨S_, .f32⟩
  | .hbm, ⟨73, _⟩ => ⟨S3x256x1024, .i1⟩
  | .hbm, ⟨74, _⟩ => ⟨S3x256x1024, .f32⟩
  | .hbm, ⟨75, _⟩ => ⟨S3x256x1024, .f32⟩
  | .hbm, ⟨76, _⟩ => ⟨S_, .f32⟩
  | .hbm, ⟨77, _⟩ => ⟨S256x1024, .f32⟩
  | .hbm, ⟨78, _⟩ => ⟨S256x1024, .f32⟩
  | .hbm, ⟨79, _⟩ => ⟨S256x1024, .f32⟩
  | .hbm, ⟨80, _⟩ => ⟨S256x1024, .f32⟩
  | .hbm, ⟨81, _⟩ => ⟨S256x1024, .f32⟩
  | .hbm, ⟨82, _⟩ => ⟨S_, .f32⟩
  | .hbm, ⟨83, _⟩ => ⟨S256x1024, .f32⟩
  | .hbm, ⟨84, _⟩ => ⟨S256x1024, .f32⟩
  | .hbm, ⟨85, _⟩ => ⟨S_, .f32⟩
  | .hbm, ⟨86, _⟩ => ⟨S256x1024, .f32⟩
  | .hbm, ⟨87, _⟩ => ⟨S256x1024, .f32⟩
  | .hbm, ⟨88, _⟩ => ⟨S256x1024, .f32⟩
  | .hbm, ⟨89, _⟩ => ⟨S_, .f32⟩
  | .hbm, ⟨90, _⟩ => ⟨S256x1024, .f32⟩
  | .hbm, ⟨91, _⟩ => ⟨S256x1024, .f32⟩
  | .hbm, ⟨92, _⟩ => ⟨S256x1024, .f32⟩
  | .hbm, ⟨93, _⟩ => ⟨S_, .f32⟩
  | .hbm, ⟨94, _⟩ => ⟨S256x1024, .f32⟩
  | .hbm, ⟨95, _⟩ => ⟨S256x1024, .f32⟩
  | .hbm, ⟨96, _⟩ => ⟨S256x1024, .f32⟩
  | .hbm, ⟨97, _⟩ => ⟨S_, .f32⟩
  | .hbm, ⟨98, _⟩ => ⟨S256x1024, .f32⟩
  | .hbm, ⟨99, _⟩ => ⟨S256x1024, .f32⟩
  | .hbm, ⟨100, _⟩ => ⟨S_, .f32⟩
  | .hbm, ⟨101, _⟩ => ⟨S256x1024, .f32⟩
  | .hbm, ⟨102, _⟩ => ⟨S256x1024, .f32⟩
  | .hbm, ⟨103, _⟩ => ⟨S256x1024, .f32⟩
  | .hbm, ⟨104, _⟩ => ⟨S_, .f32⟩
  | .hbm, ⟨105, _⟩ => ⟨S256x1024, .f32⟩
  | .hbm, ⟨106, _⟩ => ⟨S256x1024, .f32⟩
  | .hbm, ⟨107, _⟩ => ⟨S256x1024, .f32⟩
  | .hbm, ⟨108, _⟩ => ⟨S_, .f32⟩
  | .hbm, ⟨109, _⟩ => ⟨S256x1024, .f32⟩
  | .hbm, ⟨110, _⟩ => ⟨S256x1024, .f32⟩
  | .hbm, ⟨111, _⟩ => ⟨S256x1024, .f32⟩
  | .hbm, ⟨112, _⟩ => ⟨S_, .f32⟩
  | .hbm, ⟨113, _⟩ => ⟨S256x1024, .f32⟩
  | .hbm, ⟨114, _⟩ => ⟨S256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_4 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_6 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_8 : Ref sig .tc := ⟨.hbm, 82, rfl⟩
abbrev main_v50 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_cst_13 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_14 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_15 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_16 : Ref sig .tc := ⟨.hbm, 112, rfl⟩
abbrev main_v72 : Ref sig .tc := ⟨.hbm, 113, rfl⟩
abbrev main_v73 : Ref sig .tc := ⟨.hbm, 114, rfl⟩

abbrev nD : Nat := 1
abbrev τ : Topo := Topo.v7x

variable {F : FTy → Type} [FloatOps F]
-- ==== Proof.Spec.lean ====
/- The mathematics of the call in real numbers: the spatial gating mixer's values and the gradients of its inputs, as
   functions of row and column numbers, and the facts that carry real arithmetic into the extended reals. -/
module

public import Idealize.ShloMosaic.PureOps.Ideal
public import Idealize.ShloMosaic.PureOps.Ideal.Laws

@[expose] public section

noncomputable section

namespace Cert.Mixer

open Idealize.ShloMosaic

/-- A finite sum of reals, read as an extended real, is the sum of the terms so read. -/
theorem coe_sum {n : Nat} (f : Fin n → ℝ) : (∑ k : Fin n, ((f k : ℝ) : EReal)) = ((∑ k : Fin n, f k : ℝ) : EReal) :=
  (map_sum (⟨⟨Real.toEReal, EReal.coe_zero⟩, EReal.coe_add⟩ : ℝ →+ EReal) f Finset.univ).symm

/-- The word of 0.044715. -/
def ca : ℝ := 12003091 / 268435456
/-- The word of sqrt(2 / π). -/
def cc : ℝ := 6693141 / 8388608
/-- The word of the layer norm's epsilon. -/
def ceps : ℝ := 8796093 / 8796093022208

theorem ceps_pos : 0 < ceps := by unfold ceps; norm_num

theorem word_ca : Ideal.ofBits .f32 0x3D372713#32 = ((ca : ℝ) : EReal) := by
  unfold ca; simp [Ideal.ofBits, Ideal.ieee, -EReal.coe_mul]; norm_num
theorem word_cc : Ideal.ofBits .f32 0x3F4C422A#32 = ((cc : ℝ) : EReal) := by
  unfold cc; simp [Ideal.ofBits, Ideal.ieee, -EReal.coe_mul]; norm_num
theorem word_eps : Ideal.ofBits .f32 0x358637BD#32 = ((ceps : ℝ) : EReal) := by
  unfold ceps; simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_2048 : Ideal.ofBits .f32 0x45000000#32 = ((2048 : ℝ) : EReal) := by
  simp [Ideal.ofBits, Ideal.ieee, -EReal.coe_mul]; norm_num
theorem word_zero : Ideal.ofBits .f32 0x00000000#32 = ((0 : ℝ) : EReal) := by
  simp

/-- A quotient of reals by a real that is not zero. -/
theorem div_real (x y : ℝ) (h : y ≠ 0) : Ideal.div (x : EReal) (y : EReal) = ((x / y : ℝ) : EReal) := by
  rw [Ideal.div_coe h, ← EReal.coe_mul, ← div_eq_mul_one_div]

/-- The reciprocal square root of a positive real. -/
theorem rsqrt_real (x : ℝ) (h : 0 < x) : Ideal.rsqrt (x : EReal) = (((Real.sqrt x)⁻¹ : ℝ) : EReal) := by
  rw [Ideal.rsqrt_coe, if_neg (not_lt.mpr h.le), if_neg h.ne']

/-! ## The activation functions -/

/-- The hyperbolic tangent inside the approximate GELU. -/
def th (x : ℝ) : ℝ := Real.tanh (cc * (x + ca * (x * x * x)))
/-- The approximate GELU. -/
def gelu (x : ℝ) : ℝ := x * (1 / 2 * (1 + th x))
/-- Its derivative. -/
def dgelu (x : ℝ) : ℝ := 1 / 2 * (1 + th x) + 1 / 2 * x * (1 - th x * th x) * (cc + 3 * ca * cc * (x * x))
/-- The logistic function. -/
def sg (x : ℝ) : ℝ := 1 / (1 + Real.exp (0 - x))

/-! ## The mixer -/

/-- The call's arguments, by row and column numbers: the projections, the incoming gradient, the layer norm's gain and
    bias, the mixing weights (group, query, key) and the mixing biases (group, query). -/
structure Args where
  P : ℕ → ℕ → ℝ
  DY : ℕ → ℕ → ℝ
  LG : ℕ → ℝ
  LB : ℕ → ℝ
  WS : ℕ → ℕ → ℕ → ℝ
  BS : ℕ → ℕ → ℝ

variable (d : Args)

def U (r c : ℕ) : ℝ := gelu (d.P r c)
def V (r c : ℕ) : ℝ := gelu (d.P r (2048 + c))
def mu (r : ℕ) : ℝ := (∑ k : Fin 2048, V d r k.val) / 2048
/-- The layer norm's input less its row's mean. -/
def cen (r c : ℕ) : ℝ := V d r c - mu d r
def var (r : ℕ) : ℝ := (∑ k : Fin 2048, cen d r k.val * cen d r k.val) / 2048
def rstd (r : ℕ) : ℝ := (Real.sqrt (var d r + ceps))⁻¹
def vh (r c : ℕ) : ℝ := cen d r c * rstd d r
/-- The layer norm's output. -/
def vb (r c : ℕ) : ℝ := vh d r c * d.LG c + d.LB c
/-- The mixing weights under the mask of chunks of 64. -/
def W (g t s : ℕ) : ℝ := if s / 64 ≤ t / 64 then d.WS g t s else 0
/-- The gate. -/
def gt (r c : ℕ) : ℝ := d.P r (4096 + c)
/-- The gradient arriving at the product `u * s`. -/
def dus (r c : ℕ) : ℝ := d.DY r c * (gt d r c * sg (gt d r c))
/-- The gradient arriving at `s`. -/
def ds (r c : ℕ) : ℝ := dus d r c * U d r c
/-- The mixed values. -/
def S (r c : ℕ) : ℝ := (∑ k : Fin 128, W d (c / 256) (r % 128) k.val * vb d (r / 128 * 128 + k.val) c) + d.BS (c / 256) (r % 128)
/-- The gradient arriving at the layer norm's output. -/
def dvl (r c : ℕ) : ℝ := ∑ k : Fin 128, W d (c / 256) k.val (r % 128) * ds d (r / 128 * 128 + k.val) c
/-- The gradient arriving at the normalized values. -/
def dvh (r c : ℕ) : ℝ := dvl d r c * d.LG c
/-- The gradient of the layer norm's input. -/
def dv (r c : ℕ) : ℝ :=
  rstd d r * (dvh d r c - (∑ k : Fin 2048, dvh d r k.val) / 2048
    - vh d r c * ((∑ k : Fin 2048, dvh d r k.val * vh d r k.val) / 2048))
/-- The gradient of the projections in the three ranges of columns. -/
def dpU (r c : ℕ) : ℝ := dus d r c * S d r c * dgelu (d.P r c)
def dpV (r c : ℕ) : ℝ := dv d r c * dgelu (d.P r (2048 + c))
def dpG (r c : ℕ) : ℝ :=
  d.DY r c * U d r c * S d r c * (sg (gt d r c) * (1 + gt d r c * (1 - sg (gt d r c))))
def dp (r c : ℕ) : ℝ := if c < 2048 then dpU d r c else if c < 4096 then dpV d r (c - 2048) else dpG d r (c - 4096)
/-- The terms, of one row, of the gradients of the layer norm's gain and bias. -/
def lgT (r c : ℕ) : ℝ := dvl d r c * vh d r c
/-- The term, of one block of 128 rows, of the gradient of the mixing weights. -/
def wsT (n g t s : ℕ) : ℝ := ∑ k : Fin 256, ds d (n * 128 + t) (g * 256 + k.val) * vb d (n * 128 + s) (g * 256 + k.val)
/-- The term, of one block of 128 rows, of the gradient of the mixing biases. -/
def bsT (n g t : ℕ) : ℝ := ∑ k : Fin 256, ds d (n * 128 + t) (g * 256 + k.val)

/-- The gradients of the weights and biases after the first `n` blocks of 256 rows. -/
def dlgN (n c : ℕ) : ℝ := ∑ r ∈ Finset.range (n * 256), lgT d r c
def dlbN (n c : ℕ) : ℝ := ∑ r ∈ Finset.range (n * 256), dvl d r c
def dwsN (n g t s : ℕ) : ℝ := if s / 64 ≤ t / 64 then ∑ b ∈ Finset.range (n * 2), wsT d b g t s else 0
def dbsN (n t g : ℕ) : ℝ := if g < 8 then ∑ b ∈ Finset.range (n * 2), bsT d b g t else 0

theorem var_nonneg (r : ℕ) : 0 ≤ var d r :=
  div_nonneg (Finset.sum_nonneg fun _ _ => mul_self_nonneg _) (by norm_num)

theorem var_eps_pos (r : ℕ) : 0 < var d r + ceps := add_pos_of_nonneg_of_pos (var_nonneg d r) ceps_pos

theorem one_add_exp_ne (x : ℝ) : (1 : ℝ) + Real.exp x ≠ 0 := by positivity

end Cert.Mixer

end
-- ==== Proof.Base.lean ====
/- What one run of the body is given, over real data, and the facts its values are computed with. -/
module

public import proofs.«01_k».proof.Proof.Spec
public import proofs.«01_k».proof.Proof.Gen.KernelIdeal.Frame
public import Idealize.ShloMosaic.Lib.Pointwise
public import Idealize.ShloMosaic.Lib.WholeRead

@[expose] public section

set_option maxRecDepth 16384

noncomputable section

namespace Cert.Mixer

open Idealize.ShloMosaic Cert.KernelIdeal Cert.KernelIdeal.Gen

/-- The blocks one run of the body reads hold the arguments' rows from row `R0`, a multiple of 128. -/
structure Data (d : Args) (R0 : ℕ) (x0 : Vec Ideal S256x6144 .f32) (x1 : Vec Ideal S256x2048 .f32)
    (x2 x3 : Vec Ideal S1x2048 .f32) (x4 : Vec Ideal S8x128x128 .f32) (x5 : Vec Ideal S128x128 .f32) : Prop where
  dvd : R0 % 128 = 0
  p : ∀ (r : Fin 256) (l : Fin 6144), x0 (ix2 r l) = ((d.P (R0 + r.val) l.val : ℝ) : EReal)
  dy : ∀ (r : Fin 256) (l : Fin 2048), x1 (ix2 r l) = ((d.DY (R0 + r.val) l.val : ℝ) : EReal)
  lg : ∀ (a : Fin 1) (l : Fin 2048), x2 (ix2 a l) = ((d.LG l.val : ℝ) : EReal)
  lb : ∀ (a : Fin 1) (l : Fin 2048), x3 (ix2 a l) = ((d.LB l.val : ℝ) : EReal)
  ws : ∀ (g : Fin 8) (t s : Fin 128), x4 (ix3 g t s) = ((d.WS g.val t.val s.val : ℝ) : EReal)
  bs : ∀ (t g : Fin 128), g.val < 8 → x5 (ix2 t g) = ((d.BS g.val t.val : ℝ) : EReal)

/-- The product of the three constants that the body carries as one. -/
theorem named_three :
    (Named.named (F := Ideal) Cert.KernelIdeal.κ "gelu_3ac" (φ := .f32) 0x3DDB33B6#32 : EReal)
      = ((3 * ca * cc : ℝ) : EReal) := by
  refine (IdealRules.named_const.ideal_named_scalar _ _ _ ((241015141496493 / 2251799813685248 : ℝ) : EReal) rfl).trans ?_
  unfold ca cc; norm_num

theorem lit_one : (1 : EReal) = ((1 : ℝ) : EReal) := EReal.coe_one.symm
theorem lit_zero : (0 : EReal) = ((0 : ℝ) : EReal) := EReal.coe_zero.symm

/-- A quotient by the row's length. -/
theorem div_2048 (x : ℝ) : Ideal.div (x : EReal) ((2048 : ℝ) : EReal) = ((x / 2048 : ℝ) : EReal) :=
  div_real x 2048 (by norm_num)

variable (d : Args)

/-- The mixed values at a row given by its block of 128 rows. -/
theorem S_at (R0 : ℕ) (h : R0 % 128 = 0) (j c : ℕ) (g : ℕ) (hj : j < 128) (hc : c / 256 = g) :
    S d (R0 + j) c = (∑ k : Fin 128, W d g j k.val * vb d (R0 + k.val) c) + d.BS g j := by
  subst hc
  unfold S
  rw [show (R0 + j) % 128 = j by omega, show (R0 + j) / 128 * 128 = R0 by omega]

/-- The gradient at the layer norm's output at a row given by its block of 128 rows. -/
theorem dvl_at (R0 : ℕ) (h : R0 % 128 = 0) (j c : ℕ) (g : ℕ) (hj : j < 128) (hc : c / 256 = g) :
    dvl d (R0 + j) c = ∑ k : Fin 128, W d g k.val j * ds d (R0 + k.val) c := by
  subst hc
  unfold dvl
  rw [show (R0 + j) % 128 = j by omega, show (R0 + j) / 128 * 128 = R0 by omega]

/-- One block of the mixed values, with the mask as a selection. -/
theorem S_block (R0 : ℕ) (h : R0 % 128 = 0) (o p g : ℕ) (ho : o % 128 = 0) (hp : p = 256 * g) (j : Fin 128) (l : Fin 256)
    (row col cl : ℕ) (q : Fin 128 → ℕ) (hr : row = o + j.val) (hc : col = p + l.val) (hcl : cl = p + l.val)
    (hq : ∀ x : Fin 128, q x = o + x.val) :
    (∑ x : Fin 128, if x.val / 64 ≤ j.val / 64 then d.WS g j.val x.val * vb d (R0 + q x) cl else 0) + d.BS g j.val
      = S d (R0 + row) col := by
  subst hr hc hcl
  rw [← Nat.add_assoc, S_at d (R0 + o) (by omega) j.val (p + l.val) g j.isLt (by omega)]
  refine congrArg (· + _) (Finset.sum_congr rfl fun x _ => ?_)
  rw [hq, W, ← Nat.add_assoc]; split_ifs <;> simp

/-- One block of the gradient at the layer norm's output, with the mask as a selection. -/
theorem dvl_block (R0 : ℕ) (h : R0 % 128 = 0) (o p g : ℕ) (ho : o % 128 = 0) (hp : p = 256 * g) (j : Fin 128) (l : Fin 256)
    (row col cl : ℕ) (q : Fin 128 → ℕ) (hr : row = o + j.val) (hc : col = p + l.val) (hcl : cl = p + l.val)
    (hq : ∀ x : Fin 128, q x = o + x.val) :
    (∑ x : Fin 128, if j.val / 64 ≤ x.val / 64 then d.WS g x.val j.val * ds d (R0 + q x) cl else 0)
      = dvl d (R0 + row) col := by
  subst hr hc hcl
  rw [← Nat.add_assoc, dvl_at d (R0 + o) (by omega) j.val (p + l.val) g j.isLt (by omega)]
  refine Finset.sum_congr rfl fun x _ => ?_
  rw [hq, W, ← Nat.add_assoc]; split_ifs <;> simp

/-- A selection between reals by a decided word. -/
theorem select_real (p : Prop) [Decidable p] (a b : ℝ) :
    Scalar.select (if p then 1#1 else 0#1) (a : EReal) (b : EReal) = ((if p then a else b : ℝ) : EReal) := by
  split_ifs <;> rfl

theorem dp_U (R0 row col j l : ℕ) (hl : l < 2048) (hr : row = j) (hc : col = l) :
    dpU d (R0 + j) l = dp d (R0 + row) col := by
  subst hr hc; rw [dp, if_pos hl]

theorem dp_V (R0 row col j l : ℕ) (hl : l < 2048) (hr : row = j) (hc : col = 2048 + l) :
    dpV d (R0 + j) l = dp d (R0 + row) col := by
  subst hr hc; rw [dp, if_neg (by omega), if_pos (by omega), show 2048 + l - 2048 = l by omega]

theorem dp_G (R0 row col j l : ℕ) (hl : l < 2048) (hr : row = j) (hc : col = 4096 + l) :
    dpG d (R0 + j) l = dp d (R0 + row) col := by
  subst hr hc; rw [dp, if_neg (by omega), if_neg (by omega), show 4096 + l - 4096 = l by omega]

/-- A sum over a range of rows continued by one block of 256. -/
theorem range_step (f : ℕ → ℝ) (n : ℕ) :
    (∑ r ∈ Finset.range (n * 256), f r) + ∑ x : Fin 256, f (n * 256 + x.val)
      = ∑ r ∈ Finset.range ((n + 1) * 256), f r := by
  rw [Nat.add_mul, Nat.one_mul, Finset.sum_range_add, Finset.sum_range (fun x => f (n * 256 + x))]

/-- The gradient of the gain after one more block of rows. -/
theorem dlg_step (n c c' : ℕ) (h : c' = c) :
    dlgN d n c + ∑ x : Fin 256, dvl d (n * 256 + x.val) c * vh d (n * 256 + x.val) c = dlgN d (n + 1) c' := by
  subst h; exact range_step (fun r => lgT d r c') n

/-- The gradient of the bias after one more block of rows. -/
theorem dlb_step (n c c' : ℕ) (h : c' = c) :
    dlbN d n c + ∑ x : Fin 256, dvl d (n * 256 + x.val) c = dlbN d (n + 1) c' := by
  subst h; exact range_step (fun r => dvl d r c') n

/-- The gradient of the mixing weights after two more blocks of 128 rows. -/
theorem dws_step (n g t s g' t' s' p : ℕ) (hp : p = g * 256) (q : Fin 256 → ℕ) (hq : ∀ k : Fin 256, q k = p + k.val)
    (hg : g' = g) (ht : t' = t) (hs : s' = s) :
    dwsN d n g t s + (if s / 64 ≤ t / 64 then
        (∑ k : Fin 256, ds d (n * 256 + t) (q k) * vb d (n * 256 + s) (q k))
          + ∑ k : Fin 256, ds d (n * 256 + (128 + t)) (q k) * vb d (n * 256 + (128 + s)) (q k) else 0)
      = dwsN d (n + 1) g' t' s' := by
  subst hg ht hs hp
  unfold dwsN
  split_ifs
  · rw [show (n + 1) * 2 = n * 2 + 1 + 1 by omega, Finset.sum_range_succ, Finset.sum_range_succ, add_assoc]
    simp only [wsT, hq, show n * 2 * 128 = n * 256 by omega, show (n * 2 + 1) * 128 = n * 256 + 128 by omega, Nat.add_assoc]
  · simp

/-- The sum of the two blocks' terms of one group. -/
theorem bs_term (n g t p : ℕ) (hp : p = g * 256) (q : Fin 256 → ℕ) (hq : ∀ k : Fin 256, q k = p + k.val) :
    (∑ k : Fin 256, ds d (n * 256 + t) (q k)) + (∑ k : Fin 256, ds d (n * 256 + (128 + t)) (q k))
      = bsT d (n * 2) g t + bsT d (n * 2 + 1) g t := by
  subst hp
  simp only [bsT, hq, show n * 2 * 128 = n * 256 by omega, show (n * 2 + 1) * 128 = n * 256 + 128 by omega, Nat.add_assoc]

/-- The gradient of the mixing biases after two more blocks of 128 rows. -/
theorem dbs_step (n t g t' g' : ℕ) (ht : t' = t) (hg : g' = g) :
    dbsN d n t g + (if g < 8 then bsT d (n * 2) g t + bsT d (n * 2 + 1) g t else 0) = dbsN d (n + 1) t' g' := by
  subst ht hg
  unfold dbsN
  split_ifs
  · rw [show (n + 1) * 2 = n * 2 + 1 + 1 by omega, Finset.sum_range_succ, Finset.sum_range_succ, add_assoc]
  · simp

/-- Comparing a lane's number with a small number. -/
theorem lane_eq (l : Fin 128) (g : Fin 8) :
    IntOp.cmpi CmpIPredicate.eq (BitVec.ofNat 32 l.val) (BitVec.ofNat 32 g.val) = if l.val = g.val then 1#1 else 0#1 := by
  revert l g
  decide +kernel

theorem lane0 (l : Fin 128) : IntOp.cmpi CmpIPredicate.eq (BitVec.ofNat 32 l.val) 0#32 = if l.val = 0 then 1#1 else 0#1 :=
  lane_eq l 0
theorem lane1 (l : Fin 128) : IntOp.cmpi CmpIPredicate.eq (BitVec.ofNat 32 l.val) 1#32 = if l.val = 1 then 1#1 else 0#1 :=
  lane_eq l 1
theorem lane2 (l : Fin 128) : IntOp.cmpi CmpIPredicate.eq (BitVec.ofNat 32 l.val) 2#32 = if l.val = 2 then 1#1 else 0#1 :=
  lane_eq l 2
theorem lane3 (l : Fin 128) : IntOp.cmpi CmpIPredicate.eq (BitVec.ofNat 32 l.val) 3#32 = if l.val = 3 then 1#1 else 0#1 :=
  lane_eq l 3
theorem lane4 (l : Fin 128) : IntOp.cmpi CmpIPredicate.eq (BitVec.ofNat 32 l.val) 4#32 = if l.val = 4 then 1#1 else 0#1 :=
  lane_eq l 4
theorem lane5 (l : Fin 128) : IntOp.cmpi CmpIPredicate.eq (BitVec.ofNat 32 l.val) 5#32 = if l.val = 5 then 1#1 else 0#1 :=
  lane_eq l 5
theorem lane6 (l : Fin 128) : IntOp.cmpi CmpIPredicate.eq (BitVec.ofNat 32 l.val) 6#32 = if l.val = 6 then 1#1 else 0#1 :=
  lane_eq l 6
theorem lane7 (l : Fin 128) : IntOp.cmpi CmpIPredicate.eq (BitVec.ofNat 32 l.val) 7#32 = if l.val = 7 then 1#1 else 0#1 :=
  lane_eq l 7

/-- Eight terms, each kept at its own number only. -/
theorem eight (f : ℕ → ℝ) (l : ℕ) :
    (if l = 0 then f 0 else 0) + (if l = 1 then f 1 else 0) + (if l = 2 then f 2 else 0) + (if l = 3 then f 3 else 0)
      + (if l = 4 then f 4 else 0) + (if l = 5 then f 5 else 0) + (if l = 6 then f 6 else 0) + (if l = 7 then f 7 else 0)
      = if l < 8 then f l else 0 := by
  by_cases h : l < 8
  · interval_cases l <;> simp
  · rw [if_neg h]
    simp [show l ≠ 0 by omega, show l ≠ 1 by omega, show l ≠ 2 by omega, show l ≠ 3 by omega, show l ≠ 4 by omega,
      show l ≠ 5 by omega, show l ≠ 6 by omega, show l ≠ 7 by omega]

theorem dlgN_zero (c : ℕ) : dlgN d 0 c = 0 := by simp [dlgN]
theorem dlbN_zero (c : ℕ) : dlbN d 0 c = 0 := by simp [dlbN]
theorem dwsN_zero (g t s : ℕ) : dwsN d 0 g t s = 0 := by simp [dwsN]
theorem dbsN_zero (t g : ℕ) : dbsN d 0 t g = 0 := by simp [dbsN]

end Cert.Mixer

end
-- ==== Proof.ElemA.lean ====
/- The body's elementwise values over real data, at the first point. -/
module

public import proofs.«01_k».proof.Proof.Base

@[expose] public section

set_option maxRecDepth 16384

noncomputable section

namespace Cert.Mixer.A

open Idealize.ShloMosaic Cert.KernelIdeal Cert.KernelIdeal.Gen Cert.Mixer

variable {d : Args} {R0 : ℕ} {x0 : Vec Ideal S256x6144 .f32} {x1 : Vec Ideal S256x2048 .f32}
  {x2 x3 : Vec Ideal S1x2048 .f32} {x4 : Vec Ideal S8x128x128 .f32} {x5 : Vec Ideal S128x128 .f32}
  (H : Data d R0 x0 x1 x2 x3 x4 x5) (c : Dev nD)
  (arg1 : Memref sig .tc .vmem S256x6144 .f32) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .vmem S1x2048 .f32) (harg4 : arg4.IsWhole)

include H

/-- The derivative of the second activation. -/
theorem r_val (r : Fin 256) (l : Fin 2048) :
    kernelRun0_A.sl.r (F := Ideal) c arg1 harg1 x0 (ix2 r l) = ((dgelu (d.P (R0 + r.val) (2048 + l.val)) : ℝ) : EReal) := by
  pointwise [kernelRun0_A.sl.r, k0_pay6, k0_pay7, k0_pay8, k0_pay9, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  rfl

/-- The layer norm's input less its row's mean. -/
theorem r_1_val (r : Fin 256) (l : Fin 2048) :
    kernelRun0_A.sl.r_1 (F := Ideal) c arg1 harg1 x0 (ix2 r l) = ((cen d (R0 + r.val) l.val : ℝ) : EReal) := by
  pointwise [kernelRun0_A.sl.r_1, k0_pay6, k0_pay7, k0_pay8, k0_pay10, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  rfl

/-- The row's variance. -/
theorem r_2_val (r : Fin 256) (l : Fin 1) :
    kernelRun0_A.sl.r_2 (F := Ideal) c arg1 harg1 x0 (ix2 r l) = ((var d (R0 + r.val) : ℝ) : EReal) := by
  pointwise [kernelRun0_A.sl.r_2, k0_pay6, k0_pay7, k0_pay8, k0_pay10, k0_pay11, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  rfl

/-- The row's reciprocal deviation. -/
theorem r_3_val (r : Fin 256) (l : Fin 1) :
    kernelRun0_A.sl.r_3 (F := Ideal) c arg1 harg1 x0 (ix2 r l) = ((rstd d (R0 + r.val) : ℝ) : EReal) := by
  pointwise [kernelRun0_A.sl.r_3, k0_pay12, k0_pay13, Memref.IsWhole.readAt_unread]
  simp only [r_2_val H, word_ca, word_cc, word_eps, word_half, word_2048, named_three, lit_one, lit_zero, Ideal.tanh_coe, Ideal.exp_coe,
    ← EReal.coe_mul, ← EReal.coe_add, ← EReal.coe_sub, coe_sum, div_2048, rsqrt_real _ (var_eps_pos d _)]
  rfl

/-- The normalized values. -/
theorem r_4_val (r : Fin 256) (l : Fin 2048) :
    kernelRun0_A.sl.r_4 (F := Ideal) c arg1 harg1 x0 (ix2 r l) = ((vh d (R0 + r.val) l.val : ℝ) : EReal) := by
  pointwise [kernelRun0_A.sl.r_4, k0_pay12, k0_pay13, k0_pay14, Memref.IsWhole.readAt_unread]
  simp only [r_1_val H, r_2_val H, word_ca, word_cc, word_eps, word_half, word_2048, named_three, lit_one, lit_zero, Ideal.tanh_coe, Ideal.exp_coe,
    ← EReal.coe_mul, ← EReal.coe_add, ← EReal.coe_sub, coe_sum, div_2048, rsqrt_real _ (var_eps_pos d _)]
  rfl

/-- The layer norm's output. -/
theorem r_6_val (r : Fin 256) (l : Fin 2048) :
    kernelRun0_A.sl.r_6 (F := Ideal) c arg1 harg1 arg3 harg3 arg4 harg4 x0 x2 x3 (ix2 r l) = ((vb d (R0 + r.val) l.val : ℝ) : EReal) := by
  pointwise [kernelRun0_A.sl.r_6, k0_pay12, k0_pay13, k0_pay14, k0_pay15, Memref.IsWhole.readAt_unread]
  simp only [r_1_val H, r_2_val H, H.lg, H.lb, word_ca, word_cc, word_eps, word_half, word_2048, named_three, lit_one, lit_zero, Ideal.tanh_coe, Ideal.exp_coe,
    ← EReal.coe_mul, ← EReal.coe_add, ← EReal.coe_sub, coe_sum, div_2048, rsqrt_real _ (var_eps_pos d _)]
  rfl

/-- The first activation. -/
theorem r_7_val (r : Fin 256) (l : Fin 2048) :
    kernelRun0_A.sl.r_7 (F := Ideal) c arg1 harg1 x0 (ix2 r l) = ((U d (R0 + r.val) l.val : ℝ) : EReal) := by
  pointwise [kernelRun0_A.sl.r_7, k0_pay16, k0_pay17, k0_pay18, k0_pay19, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  rfl

/-- Its derivative. -/
theorem r_8_val (r : Fin 256) (l : Fin 2048) :
    kernelRun0_A.sl.r_8 (F := Ideal) c arg1 harg1 x0 (ix2 r l) = ((dgelu (d.P (R0 + r.val) l.val) : ℝ) : EReal) := by
  pointwise [kernelRun0_A.sl.r_8, k0_pay16, k0_pay17, k0_pay18, k0_pay20, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  rfl

/-- The gate's argument. -/
theorem r_9_val (r : Fin 256) (l : Fin 2048) :
    kernelRun0_A.sl.r_9 (F := Ideal) c arg1 harg1 x0 (ix2 r l) = ((gt d (R0 + r.val) l.val : ℝ) : EReal) := by
  pointwise [kernelRun0_A.sl.r_9, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  try rfl

/-- The exponential inside the logistic. -/
theorem r_10_val (r : Fin 256) (l : Fin 2048) :
    kernelRun0_A.sl.r_10 (F := Ideal) c arg1 harg1 x0 (ix2 r l) = ((Real.exp (0 - gt d (R0 + r.val) l.val) : ℝ) : EReal) := by
  pointwise [kernelRun0_A.sl.r_10, k0_pay21, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  rfl

/-- The logistic of the gate. -/
theorem r_11_val (r : Fin 256) (l : Fin 2048) :
    kernelRun0_A.sl.r_11 (F := Ideal) c arg1 harg1 x0 (ix2 r l) = ((sg (gt d (R0 + r.val) l.val) : ℝ) : EReal) := by
  pointwise [kernelRun0_A.sl.r_11, k0_pay22, k0_pay23, Memref.IsWhole.readAt_unread]
  simp only [r_10_val H, word_ca, word_cc, word_eps, word_half, word_2048, named_three, lit_one, lit_zero, Ideal.tanh_coe, Ideal.exp_coe,
    ← EReal.coe_mul, ← EReal.coe_add, ← EReal.coe_sub, coe_sum, div_2048, div_real _ _ (one_add_exp_ne _)]
  rfl

/-- The incoming gradient. -/
theorem r_12_val (r : Fin 256) (l : Fin 2048) :
    kernelRun0_A.sl.r_12 (F := Ideal) c arg2 harg2 x1 (ix2 r l) = ((d.DY (R0 + r.val) l.val : ℝ) : EReal) := by
  pointwise [kernelRun0_A.sl.r_12, Memref.IsWhole.readAt_unread]
  simp only [H.dy, word_ca, word_cc, word_eps, word_half, word_2048, named_three, lit_one, lit_zero, Ideal.tanh_coe, Ideal.exp_coe,
    ← EReal.coe_mul, ← EReal.coe_add, ← EReal.coe_sub, coe_sum, div_2048]
  try rfl

/-- The gradient arriving at the product. -/
theorem r_13_val (r : Fin 256) (l : Fin 2048) :
    kernelRun0_A.sl.r_13 (F := Ideal) c arg1 harg1 arg2 harg2 x0 x1 (ix2 r l) = ((dus d (R0 + r.val) l.val : ℝ) : EReal) := by
  pointwise [kernelRun0_A.sl.r_13, k0_pay22, k0_pay23, k0_pay24, Memref.IsWhole.readAt_unread]
  simp only [r_9_val H, r_10_val H, H.dy, word_ca, word_cc, word_eps, word_half, word_2048, named_three, lit_one, lit_zero, Ideal.tanh_coe, Ideal.exp_coe,
    ← EReal.coe_mul, ← EReal.coe_add, ← EReal.coe_sub, coe_sum, div_2048, div_real _ _ (one_add_exp_ne _)]
  rfl

/-- The gradient arriving at the mixed values. -/
theorem r_14_val (r : Fin 256) (l : Fin 2048) :
    kernelRun0_A.sl.r_14 (F := Ideal) c arg1 harg1 arg2 harg2 x0 x1 (ix2 r l) = ((ds d (R0 + r.val) l.val : ℝ) : EReal) := by
  pointwise [kernelRun0_A.sl.r_14, k0_pay22, k0_pay23, k0_pay24, k0_pay25, Memref.IsWhole.readAt_unread]
  simp only [r_7_val H, r_9_val H, r_10_val H, H.dy, word_ca, word_cc, word_eps, word_half, word_2048, named_three, lit_one, lit_zero, Ideal.tanh_coe, Ideal.exp_coe,
    ← EReal.coe_mul, ← EReal.coe_add, ← EReal.coe_sub, coe_sum, div_2048, div_real _ _ (one_add_exp_ne _)]
  rfl

/-- The same before its rounding. -/
theorem r_15_val (r : Fin 256) (l : Fin 2048) :
    kernelRun0_A.sl.r_15 (F := Ideal) c arg1 harg1 arg2 harg2 x0 x1 (ix2 r l) = ((ds d (R0 + r.val) l.val : ℝ) : EReal) := by
  pointwise [kernelRun0_A.sl.r_15, k0_pay22, k0_pay23, k0_pay24, k0_pay26, Memref.IsWhole.readAt_unread]
  simp only [r_7_val H, r_9_val H, r_10_val H, H.dy, word_ca, word_cc, word_eps, word_half, word_2048, named_three, lit_one, lit_zero, Ideal.tanh_coe, Ideal.exp_coe,
    ← EReal.coe_mul, ← EReal.coe_add, ← EReal.coe_sub, coe_sum, div_2048, div_real _ _ (one_add_exp_ne _)]
  rfl

end Cert.Mixer.A

end
-- ==== Proof.BodyA.lean ====
/- The mixed values and their transposed product with the gradient, block by block, at the first point. -/
module

public import proofs.«01_k».proof.Proof.ElemA

@[expose] public section

set_option maxRecDepth 16384

noncomputable section

namespace Cert.Mixer.A

open Idealize.ShloMosaic Cert.KernelIdeal Cert.KernelIdeal.Gen Cert.Mixer

/-- An index of a matrix is a row and a column. -/
theorem ex2 {n k : ℕ} (y : (⟨2, ![n, k]⟩ : Shape).Idx) : ∃ (p : Fin n) (q : Fin k), y = ix2 p q := ⟨y 0, y 1, eq_ix2 y⟩

variable {d : Args} {R0 : ℕ} {x0 : Vec Ideal S256x6144 .f32} {x1 : Vec Ideal S256x2048 .f32}
  {x2 x3 : Vec Ideal S1x2048 .f32} {x4 : Vec Ideal S8x128x128 .f32} {x5 : Vec Ideal S128x128 .f32}
  (H : Data d R0 x0 x1 x2 x3 x4 x5) (c : Dev nD)
  (arg1 : Memref sig .tc .vmem S256x6144 .f32) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S8x128x128 .f32) (harg5 : arg5.IsWhole)
  (arg6 : Memref sig .tc .vmem S128x128 .f32) (harg6 : arg6.IsWhole)
  (arg12 : Memref sig .tc .vmem S256x2048 .f32) (harg12 : arg12.IsWhole)
  (arg13 : Memref sig .tc .vmem S256x2048 .f32) (harg13 : arg13.IsWhole)

include H

omit H in
/-- The mask of chunks of 64 rows. -/
theorem mask (t s : Fin 128) : kernelRun0_A.sl.r_16 (ix2 t s) = if s.val / 64 ≤ t.val / 64 then 1#1 else 0#1 := by
  pointwise [kernelRun0_A.sl.r_16, kernelRun0_A.sl.v92, k0_pay27, k0_pay28, k0_pay29, k0_pay30]
  revert t s
  decide +kernel

omit H in
/-- The mask where its first use spells it out. -/
theorem mask0 (t s : Fin 128) : k0_pay30 kernelRun0_A.sl.v92 k0_pay27 (64#32) k0_pay28 k0_pay29 1#32 (ix2 t s)
    = if s.val / 64 ≤ t.val / 64 then 1#1 else 0#1 := mask t s

/-- Every block written to the first buffer holds the mixed values. -/
theorem hs0 : ∀ p ∈ kernelRun0_A.sl.HS0_16 (F := Ideal) c arg1 harg1 arg3 harg3 arg4 harg4 arg5 harg5 arg6 harg6 x0 x2 x3 x4 x5,
    ∀ y, p.2 y = ((S d (R0 + (p.1.emb y 0).val) (p.1.emb y 1).val : ℝ) : EReal) := by
  unfold kernelRun0_A.sl.HS0_16
  refine List.forall_mem_cons.2 ⟨?_, ?_⟩
  · intro y
    obtain ⟨j, l, rfl⟩ := ex2 y
    pointwise [kernelRun0_A.sl.r_54, kernelRun0_A.sl.r_55, k0_pay116, k0_pay117, k0_pay123, Memref.IsWhole.readAt_unread]
    simp only [r_6_val H, mask, mask0, H.ws, H.bs j 7 (by decide), lit_zero, ← EReal.coe_mul, select_real, coe_sum, ← EReal.coe_add]
    refine congrArg _ (S_block d R0 H.dvd 128 1792 7 rfl rfl j l _ _ _ _ ?_ ?_ ?_ (fun x => rfl))
    all_goals simp
  refine List.forall_mem_cons.2 ⟨?_, ?_⟩
  · intro y
    obtain ⟨j, l, rfl⟩ := ex2 y
    pointwise [k0_pay116, k0_pay117, k0_pay119, Memref.IsWhole.readAt_unread]
    simp only [r_6_val H, mask, mask0, H.ws, H.bs j 7 (by decide), lit_zero, ← EReal.coe_mul, select_real, coe_sum, ← EReal.coe_add]
    refine congrArg _ (S_block d R0 H.dvd 0 1792 7 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_49, kernelRun0_A.sl.r_50, k0_pay104, k0_pay105, k0_pay110, Memref.IsWhole.readAt_unread]
    simp only [r_6_val H, mask, mask0, H.ws, H.bs j 6 (by decide), lit_zero, ← EReal.coe_mul, select_real, coe_sum, ← EReal.coe_add]
    refine congrArg _ (S_block d R0 H.dvd 128 1536 6 rfl rfl j l _ _ _ _ ?_ ?_ ?_ (fun x => rfl))
    all_goals simp
  refine List.forall_mem_cons.2 ⟨?_, ?_⟩
  · intro y
    obtain ⟨j, l, rfl⟩ := ex2 y
    pointwise [k0_pay104, k0_pay105, k0_pay108, Memref.IsWhole.readAt_unread]
    simp only [r_6_val H, mask, mask0, H.ws, H.bs j 6 (by decide), lit_zero, ← EReal.coe_mul, select_real, coe_sum, ← EReal.coe_add]
    refine congrArg _ (S_block d R0 H.dvd 0 1536 6 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_43, k0_pay92, k0_pay93, k0_pay98, Memref.IsWhole.readAt_unread]
    simp only [r_6_val H, mask, mask0, H.ws, H.bs j 5 (by decide), lit_zero, ← EReal.coe_mul, select_real, coe_sum, ← EReal.coe_add]
    refine congrArg _ (S_block d R0 H.dvd 128 1280 5 rfl rfl j l _ _ _ _ ?_ ?_ ?_ (fun x => rfl))
    all_goals simp
  refine List.forall_mem_cons.2 ⟨?_, ?_⟩
  · intro y
    obtain ⟨j, l, rfl⟩ := ex2 y
    pointwise [kernelRun0_A.sl.r_43, k0_pay92, k0_pay93, k0_pay94, Memref.IsWhole.readAt_unread]
    simp only [r_6_val H, mask, mask0, H.ws, H.bs j 5 (by decide), lit_zero, ← EReal.coe_mul, select_real, coe_sum, ← EReal.coe_add]
    refine congrArg _ (S_block d R0 H.dvd 0 1280 5 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_41, k0_pay81, k0_pay82, k0_pay87, k0_pay88, Memref.IsWhole.readAt_unread]
    simp only [r_6_val H, mask, mask0, H.ws, H.bs j 4 (by decide), lit_zero, ← EReal.coe_mul, select_real, coe_sum, ← EReal.coe_add]
    refine congrArg _ (S_block d R0 H.dvd 128 1024 4 rfl rfl j l _ _ _ _ ?_ ?_ ?_ (fun x => rfl))
    all_goals simp
  refine List.forall_mem_cons.2 ⟨?_, ?_⟩
  · intro y
    obtain ⟨j, l, rfl⟩ := ex2 y
    pointwise [k0_pay81, k0_pay82, k0_pay83, Memref.IsWhole.readAt_unread]
    simp only [r_6_val H, mask, mask0, H.ws, H.bs j 4 (by decide), lit_zero, ← EReal.coe_mul, select_real, coe_sum, ← EReal.coe_add]
    refine congrArg _ (S_block d R0 H.dvd 0 1024 4 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_33, kernelRun0_A.sl.r_34, k0_pay69, k0_pay70, k0_pay76, Memref.IsWhole.readAt_unread]
    simp only [r_6_val H, mask, mask0, H.ws, H.bs j 3 (by decide), lit_zero, ← EReal.coe_mul, select_real, coe_sum, ← EReal.coe_add]
    refine congrArg _ (S_block d R0 H.dvd 128 768 3 rfl rfl j l _ _ _ _ ?_ ?_ ?_ (fun x => rfl))
    all_goals simp
  refine List.forall_mem_cons.2 ⟨?_, ?_⟩
  · intro y
    obtain ⟨j, l, rfl⟩ := ex2 y
    pointwise [k0_pay69, k0_pay70, k0_pay73, Memref.IsWhole.readAt_unread]
    simp only [r_6_val H, mask, mask0, H.ws, H.bs j 3 (by decide), lit_zero, ← EReal.coe_mul, select_real, coe_sum, ← EReal.coe_add]
    refine congrArg _ (S_block d R0 H.dvd 0 768 3 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_27, kernelRun0_A.sl.r_28, k0_pay57, k0_pay58, k0_pay63, Memref.IsWhole.readAt_unread]
    simp only [r_6_val H, mask, mask0, H.ws, H.bs j 2 (by decide), lit_zero, ← EReal.coe_mul, select_real, coe_sum, ← EReal.coe_add]
    refine congrArg _ (S_block d R0 H.dvd 128 512 2 rfl rfl j l _ _ _ _ ?_ ?_ ?_ (fun x => rfl))
    all_goals simp
  refine List.forall_mem_cons.2 ⟨?_, ?_⟩
  · intro y
    obtain ⟨j, l, rfl⟩ := ex2 y
    pointwise [kernelRun0_A.sl.r_27, kernelRun0_A.sl.r_28, k0_pay57, k0_pay58, k0_pay60, Memref.IsWhole.readAt_unread]
    simp only [r_6_val H, mask, mask0, H.ws, H.bs j 2 (by decide), lit_zero, ← EReal.coe_mul, select_real, coe_sum, ← EReal.coe_add]
    refine congrArg _ (S_block d R0 H.dvd 0 512 2 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [k0_pay47, k0_pay48, k0_pay53, Memref.IsWhole.readAt_unread]
    simp only [r_6_val H, mask, mask0, H.ws, H.bs j 1 (by decide), lit_zero, ← EReal.coe_mul, select_real, coe_sum, ← EReal.coe_add]
    refine congrArg _ (S_block d R0 H.dvd 128 256 1 rfl rfl j l _ _ _ _ ?_ ?_ ?_ (fun x => rfl))
    all_goals simp
  refine List.forall_mem_cons.2 ⟨?_, ?_⟩
  · intro y
    obtain ⟨j, l, rfl⟩ := ex2 y
    pointwise [k0_pay47, k0_pay48, k0_pay49, Memref.IsWhole.readAt_unread]
    simp only [r_6_val H, mask, mask0, H.ws, H.bs j 1 (by decide), lit_zero, ← EReal.coe_mul, select_real, coe_sum, ← EReal.coe_add]
    refine congrArg _ (S_block d R0 H.dvd 0 256 1 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_17, kernelRun0_A.sl.r_18, k0_pay32, k0_pay33, k0_pay40, Memref.IsWhole.readAt_unread]
    simp only [r_6_val H, mask, mask0, H.ws, H.bs j 0 (by decide), lit_zero, ← EReal.coe_mul, select_real, coe_sum, ← EReal.coe_add]
    refine congrArg _ (S_block d R0 H.dvd 128 0 0 rfl rfl j l _ _ _ _ ?_ ?_ ?_ (fun x => rfl))
    all_goals simp
  refine List.forall_mem_cons.2 ⟨?_, ?_⟩
  · intro y
    obtain ⟨j, l, rfl⟩ := ex2 y
    pointwise [k0_pay32, k0_pay33, k0_pay36, Memref.IsWhole.readAt_unread]
    simp only [r_6_val H, mask, mask0, H.ws, H.bs j 0 (by decide), lit_zero, ← EReal.coe_mul, select_real, coe_sum, ← EReal.coe_add]
    refine congrArg _ (S_block d R0 H.dvd 0 0 0 rfl rfl j l _ _ _ _ ?_ ?_ ?_ (fun x => (Nat.zero_add _).symm))
    all_goals simp
  exact fun _ h => absurd h List.not_mem_nil

/-- Every block written to the second buffer holds the gradient at the layer norm's output. -/
theorem hs1 : ∀ p ∈ kernelRun0_A.sl.HS1_16 (F := Ideal) c arg1 harg1 arg2 harg2 arg5 harg5 x0 x1 x4,
    ∀ y, p.2 y = ((dvl d (R0 + (p.1.emb y 0).val) (p.1.emb y 1).val : ℝ) : EReal) := by
  unfold kernelRun0_A.sl.HS1_16
  refine List.forall_mem_cons.2 ⟨?_, ?_⟩
  · intro y
    obtain ⟨j, l, rfl⟩ := ex2 y
    pointwise [kernelRun0_A.sl.r_54, k0_pay116, k0_pay124, Memref.IsWhole.readAt_unread]
    simp only [r_14_val H, mask, mask0, H.ws, lit_zero, ← EReal.coe_mul, select_real, coe_sum, ← EReal.coe_add]
    refine congrArg _ (dvl_block d R0 H.dvd 128 1792 7 rfl rfl j l _ _ _ _ ?_ ?_ ?_ (fun x => rfl))
    all_goals simp
  refine List.forall_mem_cons.2 ⟨?_, ?_⟩
  · intro y
    obtain ⟨j, l, rfl⟩ := ex2 y
    pointwise [k0_pay116, k0_pay120, Memref.IsWhole.readAt_unread]
    simp only [r_14_val H, mask, mask0, H.ws, lit_zero, ← EReal.coe_mul, select_real, coe_sum, ← EReal.coe_add]
    refine congrArg _ (dvl_block d R0 H.dvd 0 1792 7 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_49, k0_pay104, k0_pay111, Memref.IsWhole.readAt_unread]
    simp only [r_14_val H, mask, mask0, H.ws, lit_zero, ← EReal.coe_mul, select_real, coe_sum, ← EReal.coe_add]
    refine congrArg _ (dvl_block d R0 H.dvd 128 1536 6 rfl rfl j l _ _ _ _ ?_ ?_ ?_ (fun x => rfl))
    all_goals simp
  refine List.forall_mem_cons.2 ⟨?_, ?_⟩
  · intro y
    obtain ⟨j, l, rfl⟩ := ex2 y
    pointwise [kernelRun0_A.sl.r_49, k0_pay104, k0_pay109, Memref.IsWhole.readAt_unread]
    simp only [r_14_val H, mask, mask0, H.ws, lit_zero, ← EReal.coe_mul, select_real, coe_sum, ← EReal.coe_add]
    refine congrArg _ (dvl_block d R0 H.dvd 0 1536 6 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_43, k0_pay92, k0_pay99, Memref.IsWhole.readAt_unread]
    simp only [r_14_val H, mask, mask0, H.ws, lit_zero, ← EReal.coe_mul, select_real, coe_sum, ← EReal.coe_add]
    refine congrArg _ (dvl_block d R0 H.dvd 128 1280 5 rfl rfl j l _ _ _ _ ?_ ?_ ?_ (fun x => rfl))
    all_goals simp
  refine List.forall_mem_cons.2 ⟨?_, ?_⟩
  · intro y
    obtain ⟨j, l, rfl⟩ := ex2 y
    pointwise [kernelRun0_A.sl.r_43, k0_pay92, k0_pay95, Memref.IsWhole.readAt_unread]
    simp only [r_14_val H, mask, mask0, H.ws, lit_zero, ← EReal.coe_mul, select_real, coe_sum, ← EReal.coe_add]
    refine congrArg _ (dvl_block d R0 H.dvd 0 1280 5 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_38, k0_pay81, k0_pay89, Memref.IsWhole.readAt_unread]
    simp only [r_14_val H, mask, mask0, H.ws, lit_zero, ← EReal.coe_mul, select_real, coe_sum, ← EReal.coe_add]
    refine congrArg _ (dvl_block d R0 H.dvd 128 1024 4 rfl rfl j l _ _ _ _ ?_ ?_ ?_ (fun x => rfl))
    all_goals simp
  refine List.forall_mem_cons.2 ⟨?_, ?_⟩
  · intro y
    obtain ⟨j, l, rfl⟩ := ex2 y
    pointwise [k0_pay81, k0_pay84, Memref.IsWhole.readAt_unread]
    simp only [r_14_val H, mask, mask0, H.ws, lit_zero, ← EReal.coe_mul, select_real, coe_sum, ← EReal.coe_add]
    refine congrArg _ (dvl_block d R0 H.dvd 0 1024 4 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_33, k0_pay69, k0_pay77, Memref.IsWhole.readAt_unread]
    simp only [r_14_val H, mask, mask0, H.ws, lit_zero, ← EReal.coe_mul, select_real, coe_sum, ← EReal.coe_add]
    refine congrArg _ (dvl_block d R0 H.dvd 128 768 3 rfl rfl j l _ _ _ _ ?_ ?_ ?_ (fun x => rfl))
    all_goals simp
  refine List.forall_mem_cons.2 ⟨?_, ?_⟩
  · intro y
    obtain ⟨j, l, rfl⟩ := ex2 y
    pointwise [kernelRun0_A.sl.r_35, k0_pay69, k0_pay74, k0_pay75, Memref.IsWhole.readAt_unread]
    simp only [r_14_val H, mask, mask0, H.ws, lit_zero, ← EReal.coe_mul, select_real, coe_sum, ← EReal.coe_add]
    refine congrArg _ (dvl_block d R0 H.dvd 0 768 3 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_27, k0_pay57, k0_pay64, Memref.IsWhole.readAt_unread]
    simp only [r_14_val H, mask, mask0, H.ws, lit_zero, ← EReal.coe_mul, select_real, coe_sum, ← EReal.coe_add]
    refine congrArg _ (dvl_block d R0 H.dvd 128 512 2 rfl rfl j l _ _ _ _ ?_ ?_ ?_ (fun x => rfl))
    all_goals simp
  refine List.forall_mem_cons.2 ⟨?_, ?_⟩
  · intro y
    obtain ⟨j, l, rfl⟩ := ex2 y
    pointwise [kernelRun0_A.sl.r_27, k0_pay57, k0_pay61, Memref.IsWhole.readAt_unread]
    simp only [r_14_val H, mask, mask0, H.ws, lit_zero, ← EReal.coe_mul, select_real, coe_sum, ← EReal.coe_add]
    refine congrArg _ (dvl_block d R0 H.dvd 0 512 2 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_23, k0_pay47, k0_pay54, Memref.IsWhole.readAt_unread]
    simp only [r_14_val H, mask, mask0, H.ws, lit_zero, ← EReal.coe_mul, select_real, coe_sum, ← EReal.coe_add]
    refine congrArg _ (dvl_block d R0 H.dvd 128 256 1 rfl rfl j l _ _ _ _ ?_ ?_ ?_ (fun x => rfl))
    all_goals simp
  refine List.forall_mem_cons.2 ⟨?_, ?_⟩
  · intro y
    obtain ⟨j, l, rfl⟩ := ex2 y
    pointwise [k0_pay47, k0_pay50, Memref.IsWhole.readAt_unread]
    simp only [r_14_val H, mask, mask0, H.ws, lit_zero, ← EReal.coe_mul, select_real, coe_sum, ← EReal.coe_add]
    refine congrArg _ (dvl_block d R0 H.dvd 0 256 1 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_A.sl.r_17, k0_pay32, k0_pay41, Memref.IsWhole.readAt_unread]
    simp only [r_14_val H, mask, mask0, H.ws, lit_zero, ← EReal.coe_mul, select_real, coe_sum, ← EReal.coe_add]
    refine congrArg _ (dvl_block d R0 H.dvd 128 0 0 rfl rfl j l _ _ _ _ ?_ ?_ ?_ (fun x => rfl))
    all_goals simp
  refine List.forall_mem_cons.2 ⟨?_, ?_⟩
  · intro y
    obtain ⟨j, l, rfl⟩ := ex2 y
    pointwise [k0_pay32, k0_pay37, Memref.IsWhole.readAt_unread]
    simp only [r_14_val H, mask, mask0, H.ws, lit_zero, ← EReal.coe_mul, select_real, coe_sum, ← EReal.coe_add]
    refine congrArg _ (dvl_block d R0 H.dvd 0 0 0 rfl rfl j l _ _ _ _ ?_ ?_ ?_ (fun x => (Nat.zero_add _).symm))
    all_goals simp
  exact fun _ h => absurd h List.not_mem_nil

/-- The first buffer, read whole, holds the mixed values. -/
theorem v661_val (r : Fin 256) (l : Fin 2048) :
    kernelRun0_A.sl.v661 (F := Ideal) c arg1 harg1 arg3 harg3 arg4 harg4 arg5 harg5 arg6 harg6 arg12 x0 x2 x3 x4 x5 (ix2 r l) = ((S d (R0 + r.val) l.val : ℝ) : EReal) := by
  unfold kernelRun0_A.sl.v661
  rw [View.readCov_eq_canon']
  refine (View.canon_apply_of_pieces (fun y : S256x2048.Idx => ((S d (R0 + (y 0).val) (y 1).val : ℝ) : EReal)) _
    (hs0 H c arg1 harg1 arg3 harg3 arg4 harg4 arg5 harg5 arg6 harg6) _ (View.cover_of_tiledL (kernelRun0_A.sl.HS0_16 (F := Ideal) c arg1 harg1 arg3 harg3 arg4 harg4 arg5 harg5 arg6 harg6 x0 x2 x3 x4 x5) S128x256.size (by sl_kernel_rfl) _)).trans ?_
  simp

/-- The second buffer, read whole, holds the gradient at the layer norm's output. -/
theorem v677_val (r : Fin 256) (l : Fin 2048) :
    kernelRun0_A.sl.v677 (F := Ideal) c arg1 harg1 arg2 harg2 arg5 harg5 arg13 x0 x1 x4 (ix2 r l) = ((dvl d (R0 + r.val) l.val : ℝ) : EReal) := by
  unfold kernelRun0_A.sl.v677
  rw [View.readCov_eq_canon']
  refine (View.canon_apply_of_pieces (fun y : S256x2048.Idx => ((dvl d (R0 + (y 0).val) (y 1).val : ℝ) : EReal)) _
    (hs1 H c arg1 harg1 arg2 harg2 arg5 harg5) _ (View.cover_of_tiledL (kernelRun0_A.sl.HS1_16 (F := Ideal) c arg1 harg1 arg2 harg2 arg5 harg5 x0 x1 x4) S128x256.size (by sl_kernel_rfl) _)).trans ?_
  simp

end Cert.Mixer.A

end
-- ==== Proof.OutsA.lean ====
/- What one run of the body leaves in each result's block, at the first point. -/
module

public import proofs.«01_k».proof.Proof.BodyA
public import Idealize.ShloMosaic.Lib.Pipeline.CanonAppend

@[expose] public section

set_option maxRecDepth 16384

noncomputable section

namespace Cert.Mixer.A

open Idealize.ShloMosaic Cert.KernelIdeal Cert.KernelIdeal.Gen Cert.Mixer
open Cert.KernelIdeal.Gen.kernelRun0_A.sl

variable {d : Args} {R0 : ℕ} {x0 : Vec Ideal S256x6144 .f32} {x1 : Vec Ideal S256x2048 .f32}
  {x2 x3 : Vec Ideal S1x2048 .f32} {x4 : Vec Ideal S8x128x128 .f32} {x5 : Vec Ideal S128x128 .f32}
  (H : Data d R0 x0 x1 x2 x3 x4 x5) (c : Dev nD)
  (arg1 : Memref sig .tc .vmem S256x6144 .f32) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S8x128x128 .f32) (harg5 : arg5.IsWhole)
  (arg6 : Memref sig .tc .vmem S128x128 .f32) (harg6 : arg6.IsWhole)
  (arg7 : Memref sig .tc .vmem S256x6144 .bf16) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S8x128x128 .f32) (harg10 : arg10.IsWhole)
  (arg11 : Memref sig .tc .vmem S128x128 .f32) (harg11 : arg11.IsWhole)
  (arg12 : Memref sig .tc .vmem S256x2048 .f32) (harg12 : arg12.IsWhole)
  (arg13 : Memref sig .tc .vmem S256x2048 .f32) (harg13 : arg13.IsWhole)
  (i : grid0.Coords) (hc0 : cond0_0 i)

include H

omit H

theorem z678 (a : Fin 1) (l : Fin 2048) {n : ℕ} (hn : n = 0) :
    v678 (F := Ideal) c arg8 (ix2 a l) = ((dlgN d n l.val : ℝ) : EReal) := by
  subst hn
  rw [dlgN_zero]
  unfold v678 H7_1
  rw [View.readCov_eq_canon', View.canon_unit_zero (by decide)]
  pointwise [k0_pay2]
  rfl

theorem z685 (a : Fin 1) (l : Fin 2048) {n : ℕ} (hn : n = 0) :
    v685 (F := Ideal) c arg9 (ix2 a l) = ((dlbN d n l.val : ℝ) : EReal) := by
  subst hn
  rw [dlbN_zero]
  unfold v685 H8_1
  rw [View.readCov_eq_canon', View.canon_unit_zero (by decide)]
  pointwise [k0_pay3]
  rfl

theorem z657 (a l : Fin 128) {n : ℕ} (hn : n = 0) :
    v657 (F := Ideal) c arg11 (ix2 a l) = ((dbsN d n a.val l.val : ℝ) : EReal) := by
  subst hn
  rw [dbsN_zero]
  unfold v657 H10_1
  rw [View.readCov_eq_canon', View.canon_unit_zero (by decide)]
  pointwise [k0_pay5]
  rfl

/-- Pieces that do not reach an index leave what was there. -/
theorem skip (L L' : List (View.Piece (Elt Ideal) S8x128x128 .f32)) (y : S8x128x128.Idx) (h : ∀ p ∈ L, y ∉ p.1.set) :
    View.canon (L ++ L') y = View.canon L' y := by
  induction L with
  | nil => rfl
  | cons p L ih =>
    rw [List.cons_append, View.canon_cons_of_not_mem _ _ (h p List.mem_cons_self)]
    exact ih fun q hq => h q (List.mem_cons_of_mem _ hq)

theorem off_box (o : ℕ) (off : Fin 3 → ℕ) (inb) (y : S8x128x128.Idx) (h0 : off 0 = o) (hy : (y 0).val ≠ o) :
    y ∉ (Rect.unit (s := S8x128x128) off S1x128x128.size inb).set := fun h => by
  have h1 := Rect.mem_set_unit.1 h 0
  have h2 : S1x128x128.size 0 = 1 := rfl
  rw [h0, h2] at h1
  omega

theorem zero9 (y : S8x128x128.Idx) : View.canon (H9_1 (F := Ideal)) y = ((0 : ℝ) : EReal) := by
  unfold H9_1
  rw [View.canon_unit_zero (by decide)]
  pointwise [k0_pay4]
  rfl

theorem z194 (a : Fin 1) (t s : Fin 128) {n : ℕ} (hn : n = 0) :
    v194 (F := Ideal) c arg10 (ix3 a t s)
      = ((dwsN d n 0 t.val s.val : ℝ) : EReal) := by
  subst hn
  rw [dwsN_zero]
  unfold v194
  rw [View.readCov_eq_canon']
  exact zero9 _

theorem z258 (a : Fin 1) (t s : Fin 128) {n : ℕ} (hn : n = 0) :
    v258 (F := Ideal) c arg1 harg1 arg2 harg2 arg3 harg3 arg4 harg4 arg10 x0 x1 x2 x3 (ix3 a t s)
      = ((dwsN d n 1 t.val s.val : ℝ) : EReal) := by
  subst hn
  rw [dwsN_zero]
  unfold v258
  rw [View.readCov_eq_canon']
  refine (skip ((H9_2 (F := Ideal) c arg1 harg1 arg2 harg2 arg3 harg3 arg4 harg4 arg10 x0 x1 x2 x3).take 1) H9_1 _ ?_).trans (zero9 _)
  refine List.forall_mem_cons.2 ⟨off_box 0 ![0, 0, 0] inb_S8x128x128_S1x128x128_0_0_0 _ rfl (by simp), ?_⟩
  exact fun _ h => absurd h List.not_mem_nil

theorem z322 (a : Fin 1) (t s : Fin 128) {n : ℕ} (hn : n = 0) :
    v322 (F := Ideal) c arg1 harg1 arg2 harg2 arg3 harg3 arg4 harg4 arg10 x0 x1 x2 x3 (ix3 a t s)
      = ((dwsN d n 2 t.val s.val : ℝ) : EReal) := by
  subst hn
  rw [dwsN_zero]
  unfold v322
  rw [View.readCov_eq_canon']
  refine (skip ((H9_3 (F := Ideal) c arg1 harg1 arg2 harg2 arg3 harg3 arg4 harg4 arg10 x0 x1 x2 x3).take 2) H9_1 _ ?_).trans (zero9 _)
  refine List.forall_mem_cons.2 ⟨off_box 1 ![1, 0, 0] inb_S8x128x128_S1x128x128_1_0_0 _ rfl (by simp), ?_⟩
  refine List.forall_mem_cons.2 ⟨off_box 0 ![0, 0, 0] inb_S8x128x128_S1x128x128_0_0_0 _ rfl (by simp), ?_⟩
  exact fun _ h => absurd h List.not_mem_nil

theorem z386 (a : Fin 1) (t s : Fin 128) {n : ℕ} (hn : n = 0) :
    v386 (F := Ideal) c arg1 harg1 arg2 harg2 arg3 harg3 arg4 harg4 arg10 x0 x1 x2 x3 (ix3 a t s)
      = ((dwsN d n 3 t.val s.val : ℝ) : EReal) := by
  subst hn
  rw [dwsN_zero]
  unfold v386
  rw [View.readCov_eq_canon']
  refine (skip ((H9_4 (F := Ideal) c arg1 harg1 arg2 harg2 arg3 harg3 arg4 harg4 arg10 x0 x1 x2 x3).take 3) H9_1 _ ?_).trans (zero9 _)
  refine List.forall_mem_cons.2 ⟨off_box 2 ![2, 0, 0] inb_S8x128x128_S1x128x128_2_0_0 _ rfl (by simp), ?_⟩
  refine List.forall_mem_cons.2 ⟨off_box 1 ![1, 0, 0] inb_S8x128x128_S1x128x128_1_0_0 _ rfl (by simp), ?_⟩
  refine List.forall_mem_cons.2 ⟨off_box 0 ![0, 0, 0] inb_S8x128x128_S1x128x128_0_0_0 _ rfl (by simp), ?_⟩
  exact fun _ h => absurd h List.not_mem_nil

theorem z450 (a : Fin 1) (t s : Fin 128) {n : ℕ} (hn : n = 0) :
    v450 (F := Ideal) c arg1 harg1 arg2 harg2 arg3 harg3 arg4 harg4 arg10 x0 x1 x2 x3 (ix3 a t s)
      = ((dwsN d n 4 t.val s.val : ℝ) : EReal) := by
  subst hn
  rw [dwsN_zero]
  unfold v450
  rw [View.readCov_eq_canon']
  refine (skip ((H9_5 (F := Ideal) c arg1 harg1 arg2 harg2 arg3 harg3 arg4 harg4 arg10 x0 x1 x2 x3).take 4) H9_1 _ ?_).trans (zero9 _)
  refine List.forall_mem_cons.2 ⟨off_box 3 ![3, 0, 0] inb_S8x128x128_S1x128x128_3_0_0 _ rfl (by simp), ?_⟩
  refine List.forall_mem_cons.2 ⟨off_box 2 ![2, 0, 0] inb_S8x128x128_S1x128x128_2_0_0 _ rfl (by simp), ?_⟩
  refine List.forall_mem_cons.2 ⟨off_box 1 ![1, 0, 0] inb_S8x128x128_S1x128x128_1_0_0 _ rfl (by simp), ?_⟩
  refine List.forall_mem_cons.2 ⟨off_box 0 ![0, 0, 0] inb_S8x128x128_S1x128x128_0_0_0 _ rfl (by simp), ?_⟩
  exact fun _ h => absurd h List.not_mem_nil

theorem z514 (a : Fin 1) (t s : Fin 128) {n : ℕ} (hn : n = 0) :
    v514 (F := Ideal) c arg1 harg1 arg2 harg2 arg3 harg3 arg4 harg4 arg10 x0 x1 x2 x3 (ix3 a t s)
      = ((dwsN d n 5 t.val s.val : ℝ) : EReal) := by
  subst hn
  rw [dwsN_zero]
  unfold v514
  rw [View.readCov_eq_canon']
  refine (skip ((H9_6 (F := Ideal) c arg1 harg1 arg2 harg2 arg3 harg3 arg4 harg4 arg10 x0 x1 x2 x3).take 5) H9_1 _ ?_).trans (zero9 _)
  refine List.forall_mem_cons.2 ⟨off_box 4 ![4, 0, 0] inb_S8x128x128_S1x128x128_4_0_0 _ rfl (by simp), ?_⟩
  refine List.forall_mem_cons.2 ⟨off_box 3 ![3, 0, 0] inb_S8x128x128_S1x128x128_3_0_0 _ rfl (by simp), ?_⟩
  refine List.forall_mem_cons.2 ⟨off_box 2 ![2, 0, 0] inb_S8x128x128_S1x128x128_2_0_0 _ rfl (by simp), ?_⟩
  refine List.forall_mem_cons.2 ⟨off_box 1 ![1, 0, 0] inb_S8x128x128_S1x128x128_1_0_0 _ rfl (by simp), ?_⟩
  refine List.forall_mem_cons.2 ⟨off_box 0 ![0, 0, 0] inb_S8x128x128_S1x128x128_0_0_0 _ rfl (by simp), ?_⟩
  exact fun _ h => absurd h List.not_mem_nil

theorem z578 (a : Fin 1) (t s : Fin 128) {n : ℕ} (hn : n = 0) :
    v578 (F := Ideal) c arg1 harg1 arg2 harg2 arg3 harg3 arg4 harg4 arg10 x0 x1 x2 x3 (ix3 a t s)
      = ((dwsN d n 6 t.val s.val : ℝ) : EReal) := by
  subst hn
  rw [dwsN_zero]
  unfold v578
  rw [View.readCov_eq_canon']
  refine (skip ((H9_7 (F := Ideal) c arg1 harg1 arg2 harg2 arg3 harg3 arg4 harg4 arg10 x0 x1 x2 x3).take 6) H9_1 _ ?_).trans (zero9 _)
  refine List.forall_mem_cons.2 ⟨off_box 5 ![5, 0, 0] inb_S8x128x128_S1x128x128_5_0_0 _ rfl (by simp), ?_⟩
  refine List.forall_mem_cons.2 ⟨off_box 4 ![4, 0, 0] inb_S8x128x128_S1x128x128_4_0_0 _ rfl (by simp), ?_⟩
  refine List.forall_mem_cons.2 ⟨off_box 3 ![3, 0, 0] inb_S8x128x128_S1x128x128_3_0_0 _ rfl (by simp), ?_⟩
  refine List.forall_mem_cons.2 ⟨off_box 2 ![2, 0, 0] inb_S8x128x128_S1x128x128_2_0_0 _ rfl (by simp), ?_⟩
  refine List.forall_mem_cons.2 ⟨off_box 1 ![1, 0, 0] inb_S8x128x128_S1x128x128_1_0_0 _ rfl (by simp), ?_⟩
  refine List.forall_mem_cons.2 ⟨off_box 0 ![0, 0, 0] inb_S8x128x128_S1x128x128_0_0_0 _ rfl (by simp), ?_⟩
  exact fun _ h => absurd h List.not_mem_nil

theorem z642 (a : Fin 1) (t s : Fin 128) {n : ℕ} (hn : n = 0) :
    v642 (F := Ideal) c arg1 harg1 arg2 harg2 arg3 harg3 arg4 harg4 arg10 x0 x1 x2 x3 (ix3 a t s)
      = ((dwsN d n 7 t.val s.val : ℝ) : EReal) := by
  subst hn
  rw [dwsN_zero]
  unfold v642
  rw [View.readCov_eq_canon']
  refine (skip ((H9_8 (F := Ideal) c arg1 harg1 arg2 harg2 arg3 harg3 arg4 harg4 arg10 x0 x1 x2 x3).take 7) H9_1 _ ?_).trans (zero9 _)
  refine List.forall_mem_cons.2 ⟨off_box 6 ![6, 0, 0] inb_S8x128x128_S1x128x128_6_0_0 _ rfl (by simp), ?_⟩
  refine List.forall_mem_cons.2 ⟨off_box 5 ![5, 0, 0] inb_S8x128x128_S1x128x128_5_0_0 _ rfl (by simp), ?_⟩
  refine List.forall_mem_cons.2 ⟨off_box 4 ![4, 0, 0] inb_S8x128x128_S1x128x128_4_0_0 _ rfl (by simp), ?_⟩
  refine List.forall_mem_cons.2 ⟨off_box 3 ![3, 0, 0] inb_S8x128x128_S1x128x128_3_0_0 _ rfl (by simp), ?_⟩
  refine List.forall_mem_cons.2 ⟨off_box 2 ![2, 0, 0] inb_S8x128x128_S1x128x128_2_0_0 _ rfl (by simp), ?_⟩
  refine List.forall_mem_cons.2 ⟨off_box 1 ![1, 0, 0] inb_S8x128x128_S1x128x128_1_0_0 _ rfl (by simp), ?_⟩
  refine List.forall_mem_cons.2 ⟨off_box 0 ![0, 0, 0] inb_S8x128x128_S1x128x128_0_0_0 _ rfl (by simp), ?_⟩
  exact fun _ h => absurd h List.not_mem_nil

include H

/-- The gradient of the projections. -/
theorem out6 (y : S256x6144.Idx) : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).1 y = ((dp d (R0 + (y 0).val) (y 1).val : ℝ) : EReal) := by
  refine View.canon_apply_of_pieces (fun y : S256x6144.Idx => ((dp d (R0 + (y 0).val) (y 1).val : ℝ) : EReal)) _ ?_ y
    (View.cover_of_tiledL (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).1 S256x2048.size (by sl_kernel_rfl) y)
  refine List.forall_mem_cons.2 ⟨?_, ?_⟩
  · intro y
    obtain ⟨j, l, rfl⟩ : ∃ (j : Fin 256) (l : Fin 2048), y = ix2 j l := ⟨y 0, y 1, eq_ix2 y⟩
    pointwise [r_5, r_17, r_18, r_19, r_20, r_21, r_22, r_23, r_24, r_25, r_26, r_27, r_28, r_29, cst_115, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, k0_pay1, k0_pay31, k0_pay32, k0_pay33, k0_pay35, k0_pay38, k0_pay39, k0_pay43, k0_pay44, k0_pay45, k0_pay46, k0_pay47, k0_pay51, k0_pay52, k0_pay56, k0_pay57, k0_pay58, k0_pay59, k0_pay62, k0_pay65, k0_pay66, k0_pay68, k0_pay69, k0_pay70, k0_pay72, k0_pay74, k0_pay78, k0_pay80, k0_pay81, k0_pay82, k0_pay85, k0_pay86, k0_pay87, k0_pay91, k0_pay92, k0_pay96, k0_pay97, k0_pay100, k0_pay101, k0_pay103, k0_pay104, k0_pay105, k0_pay106, k0_pay107, k0_pay112, k0_pay113, k0_pay115, k0_pay116, k0_pay117, k0_pay118, k0_pay121, k0_pay122, k0_pay126, k0_pay127, k0_pay128, k0_pay129, k0_pay130, k0_pay131, k0_pay132, k0_pay133, Memref.IsWhole.readAt_unread]
    simp only [r_val H, r_3_val H, r_4_val H, v677_val H, v661_val H, H.lg, r_7_val H, r_9_val H, r_11_val H, r_8_val H, r_13_val H, r_12_val H, word_ca, word_cc, word_eps, word_half, word_2048, named_three, lit_one, lit_zero, Ideal.tanh_coe, Ideal.exp_coe,
    ← EReal.coe_mul, ← EReal.coe_add, ← EReal.coe_sub, coe_sum, div_2048]
    refine congrArg _ (dp_V d R0 _ _ j.val l.val l.isLt ?_ ?_)
    all_goals simp
  refine List.forall_mem_cons.2 ⟨?_, ?_⟩
  · intro y
    obtain ⟨j, l, rfl⟩ : ∃ (j : Fin 256) (l : Fin 2048), y = ix2 j l := ⟨y 0, y 1, eq_ix2 y⟩
    pointwise [r_5, r_17, r_18, r_19, r_20, r_21, r_22, r_23, r_24, r_25, r_26, r_27, r_28, r_29, cst_115, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, k0_pay1, k0_pay31, k0_pay32, k0_pay33, k0_pay35, k0_pay38, k0_pay39, k0_pay43, k0_pay44, k0_pay45, k0_pay46, k0_pay47, k0_pay51, k0_pay52, k0_pay56, k0_pay57, k0_pay58, k0_pay59, k0_pay62, k0_pay65, k0_pay66, k0_pay68, k0_pay69, k0_pay70, k0_pay72, k0_pay74, k0_pay78, k0_pay80, k0_pay81, k0_pay82, k0_pay85, k0_pay86, k0_pay87, k0_pay91, k0_pay92, k0_pay96, k0_pay97, k0_pay100, k0_pay101, k0_pay103, k0_pay104, k0_pay105, k0_pay106, k0_pay107, k0_pay112, k0_pay113, k0_pay115, k0_pay116, k0_pay117, k0_pay118, k0_pay121, k0_pay122, k0_pay126, k0_pay127, k0_pay128, k0_pay129, k0_pay130, k0_pay131, k0_pay132, k0_pay133, Memref.IsWhole.readAt_unread]
    simp only [r_val H, r_3_val H, r_4_val H, v677_val H, v661_val H, H.lg, r_7_val H, r_9_val H, r_11_val H, r_8_val H, r_13_val H, r_12_val H, word_ca, word_cc, word_eps, word_half, word_2048, named_three, lit_one, lit_zero, Ideal.tanh_coe, Ideal.exp_coe,
    ← EReal.coe_mul, ← EReal.coe_add, ← EReal.coe_sub, coe_sum, div_2048]
    refine congrArg _ (dp_G d R0 _ _ j.val l.val l.isLt ?_ ?_)
    all_goals simp
  refine List.forall_mem_cons.2 ⟨?_, ?_⟩
  · intro y
    obtain ⟨j, l, rfl⟩ : ∃ (j : Fin 256) (l : Fin 2048), y = ix2 j l := ⟨y 0, y 1, eq_ix2 y⟩
    pointwise [r_5, r_17, r_18, r_19, r_20, r_21, r_22, r_23, r_24, r_25, r_26, r_27, r_28, r_29, cst_115, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, k0_pay1, k0_pay31, k0_pay32, k0_pay33, k0_pay35, k0_pay38, k0_pay39, k0_pay43, k0_pay44, k0_pay45, k0_pay46, k0_pay47, k0_pay51, k0_pay52, k0_pay56, k0_pay57, k0_pay58, k0_pay59, k0_pay62, k0_pay65, k0_pay66, k0_pay68, k0_pay69, k0_pay70, k0_pay72, k0_pay74, k0_pay78, k0_pay80, k0_pay81, k0_pay82, k0_pay85, k0_pay86, k0_pay87, k0_pay91, k0_pay92, k0_pay96, k0_pay97, k0_pay100, k0_pay101, k0_pay103, k0_pay104, k0_pay105, k0_pay106, k0_pay107, k0_pay112, k0_pay113, k0_pay115, k0_pay116, k0_pay117, k0_pay118, k0_pay121, k0_pay122, k0_pay126, k0_pay127, k0_pay128, k0_pay129, k0_pay130, k0_pay131, k0_pay132, k0_pay133, Memref.IsWhole.readAt_unread]
    simp only [r_val H, r_3_val H, r_4_val H, v677_val H, v661_val H, H.lg, r_7_val H, r_9_val H, r_11_val H, r_8_val H, r_13_val H, r_12_val H, word_ca, word_cc, word_eps, word_half, word_2048, named_three, lit_one, lit_zero, Ideal.tanh_coe, Ideal.exp_coe,
    ← EReal.coe_mul, ← EReal.coe_add, ← EReal.coe_sub, coe_sum, div_2048]
    refine congrArg _ (dp_U d R0 _ _ j.val l.val l.isLt ?_ ?_)
    all_goals simp
  exact fun _ h => absurd h List.not_mem_nil

/-- The gradient of the layer norm's gain so far. -/
theorem out7 (n : ℕ) (hn : n = 0) (hR : R0 = n * 256) (y : S1x2048.Idx) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.1 y = ((dlgN d (n + 1) (y 1).val : ℝ) : EReal) := by
  subst hR
  refine View.canon_append_of_pieces (fun y : S1x2048.Idx => ((dlgN d (n + 1) (y 1).val : ℝ) : EReal)) ((kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.1.drop 1)
    ((kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.1.take 1) ?_ y (View.cover_of_tiledL ((kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.1.take 1) S1x2048.size (by sl_kernel_rfl) y)
  refine List.forall_mem_cons.2 ⟨?_, fun _ h => absurd h List.not_mem_nil⟩
  intro y
  obtain ⟨j, l, rfl⟩ : ∃ (j : Fin 1) (l : Fin 2048), y = ix2 j l := ⟨y 0, y 1, eq_ix2 y⟩
  pointwise [r_5, r_17, r_18, r_19, r_20, r_21, r_22, r_23, r_24, r_25, r_26, r_27, r_28, r_29, cst_115, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, k0_pay1, k0_pay31, k0_pay32, k0_pay33, k0_pay35, k0_pay38, k0_pay39, k0_pay43, k0_pay44, k0_pay45, k0_pay46, k0_pay47, k0_pay51, k0_pay52, k0_pay56, k0_pay57, k0_pay58, k0_pay59, k0_pay62, k0_pay65, k0_pay66, k0_pay68, k0_pay69, k0_pay70, k0_pay72, k0_pay74, k0_pay78, k0_pay80, k0_pay81, k0_pay82, k0_pay85, k0_pay86, k0_pay87, k0_pay91, k0_pay92, k0_pay96, k0_pay97, k0_pay100, k0_pay101, k0_pay103, k0_pay104, k0_pay105, k0_pay106, k0_pay107, k0_pay112, k0_pay113, k0_pay115, k0_pay116, k0_pay117, k0_pay118, k0_pay121, k0_pay122, k0_pay126, k0_pay127, k0_pay128, k0_pay129, k0_pay130, k0_pay131, k0_pay132, k0_pay133, Memref.IsWhole.readAt_unread]
  simp only [r_4_val H, v677_val H, z678 (d := d) (hn := hn), word_ca, word_cc, word_eps, word_half, word_2048, named_three, lit_one, lit_zero, Ideal.tanh_coe, Ideal.exp_coe,
    ← EReal.coe_mul, ← EReal.coe_add, ← EReal.coe_sub, coe_sum, div_2048]
  refine congrArg _ (dlg_step d n l.val _ ?_)
  simp

/-- The gradient of the layer norm's bias so far. -/
theorem out8 (n : ℕ) (hn : n = 0) (hR : R0 = n * 256) (y : S1x2048.Idx) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.1 y = ((dlbN d (n + 1) (y 1).val : ℝ) : EReal) := by
  subst hR
  refine View.canon_append_of_pieces (fun y : S1x2048.Idx => ((dlbN d (n + 1) (y 1).val : ℝ) : EReal)) ((kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.1.drop 1)
    ((kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.1.take 1) ?_ y (View.cover_of_tiledL ((kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.1.take 1) S1x2048.size (by sl_kernel_rfl) y)
  refine List.forall_mem_cons.2 ⟨?_, fun _ h => absurd h List.not_mem_nil⟩
  intro y
  obtain ⟨j, l, rfl⟩ : ∃ (j : Fin 1) (l : Fin 2048), y = ix2 j l := ⟨y 0, y 1, eq_ix2 y⟩
  pointwise [r_5, r_17, r_18, r_19, r_20, r_21, r_22, r_23, r_24, r_25, r_26, r_27, r_28, r_29, cst_115, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, k0_pay1, k0_pay31, k0_pay32, k0_pay33, k0_pay35, k0_pay38, k0_pay39, k0_pay43, k0_pay44, k0_pay45, k0_pay46, k0_pay47, k0_pay51, k0_pay52, k0_pay56, k0_pay57, k0_pay58, k0_pay59, k0_pay62, k0_pay65, k0_pay66, k0_pay68, k0_pay69, k0_pay70, k0_pay72, k0_pay74, k0_pay78, k0_pay80, k0_pay81, k0_pay82, k0_pay85, k0_pay86, k0_pay87, k0_pay91, k0_pay92, k0_pay96, k0_pay97, k0_pay100, k0_pay101, k0_pay103, k0_pay104, k0_pay105, k0_pay106, k0_pay107, k0_pay112, k0_pay113, k0_pay115, k0_pay116, k0_pay117, k0_pay118, k0_pay121, k0_pay122, k0_pay126, k0_pay127, k0_pay128, k0_pay129, k0_pay130, k0_pay131, k0_pay132, k0_pay133, Memref.IsWhole.readAt_unread]
  simp only [r_4_val H, v677_val H, z685 (d := d) (hn := hn), word_ca, word_cc, word_eps, word_half, word_2048, named_three, lit_one, lit_zero, Ideal.tanh_coe, Ideal.exp_coe,
    ← EReal.coe_mul, ← EReal.coe_add, ← EReal.coe_sub, coe_sum, div_2048]
  refine congrArg _ (dlb_step d n l.val _ ?_)
  simp

/-- The gradient of the mixing biases so far. -/
theorem out10 (n : ℕ) (hn : n = 0) (hR : R0 = n * 256) (y : S128x128.Idx) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.2.1 y = ((dbsN d (n + 1) (y 0).val (y 1).val : ℝ) : EReal) := by
  subst hR
  refine View.canon_append_of_pieces (fun y : S128x128.Idx => ((dbsN d (n + 1) (y 0).val (y 1).val : ℝ) : EReal)) ((kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.2.1.drop 1)
    ((kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.2.1.take 1) ?_ y (View.cover_of_tiledL ((kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.2.1.take 1) S128x128.size (by sl_kernel_rfl) y)
  refine List.forall_mem_cons.2 ⟨?_, fun _ h => absurd h List.not_mem_nil⟩
  intro y
  obtain ⟨j, l, rfl⟩ : ∃ (j l : Fin 128), y = ix2 j l := ⟨y 0, y 1, eq_ix2 y⟩
  pointwise [r_5, r_17, r_18, r_19, r_20, r_21, r_22, r_23, r_24, r_25, r_26, r_27, r_28, r_29, cst_115, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, k0_pay1, k0_pay31, k0_pay32, k0_pay33, k0_pay35, k0_pay38, k0_pay39, k0_pay43, k0_pay44, k0_pay45, k0_pay46, k0_pay47, k0_pay51, k0_pay52, k0_pay56, k0_pay57, k0_pay58, k0_pay59, k0_pay62, k0_pay65, k0_pay66, k0_pay68, k0_pay69, k0_pay70, k0_pay72, k0_pay74, k0_pay78, k0_pay80, k0_pay81, k0_pay82, k0_pay85, k0_pay86, k0_pay87, k0_pay91, k0_pay92, k0_pay96, k0_pay97, k0_pay100, k0_pay101, k0_pay103, k0_pay104, k0_pay105, k0_pay106, k0_pay107, k0_pay112, k0_pay113, k0_pay115, k0_pay116, k0_pay117, k0_pay118, k0_pay121, k0_pay122, k0_pay126, k0_pay127, k0_pay128, k0_pay129, k0_pay130, k0_pay131, k0_pay132, k0_pay133, Memref.IsWhole.readAt_unread, v143]
  simp only [r_15_val H, z657 (d := d) (hn := hn), lane0, lane1, lane2, lane3, lane4, lane5, lane6, lane7, select_real, word_ca, word_cc, word_eps, word_half, word_2048, named_three, lit_one, lit_zero, Ideal.tanh_coe, Ideal.exp_coe,
    ← EReal.coe_mul, ← EReal.coe_add, ← EReal.coe_sub, coe_sum, div_2048]
  have e0 : (∑ k : Fin 256, ds d (n * 256 + j.val) k.val) + (∑ k : Fin 256, ds d (n * 256 + (128 + j.val)) k.val)
      = bsT d (n * 2) 0 j.val + bsT d (n * 2 + 1) 0 j.val :=
    bs_term d n 0 j.val 0 rfl _ (fun k => (Nat.zero_add _).symm)
  have e1 : (∑ k : Fin 256, ds d (n * 256 + j.val) (256 + k.val)) + (∑ k : Fin 256, ds d (n * 256 + (128 + j.val)) (256 + k.val))
      = bsT d (n * 2) 1 j.val + bsT d (n * 2 + 1) 1 j.val :=
    bs_term d n 1 j.val 256 rfl _ (fun k => rfl)
  have e2 : (∑ k : Fin 256, ds d (n * 256 + j.val) (512 + k.val)) + (∑ k : Fin 256, ds d (n * 256 + (128 + j.val)) (512 + k.val))
      = bsT d (n * 2) 2 j.val + bsT d (n * 2 + 1) 2 j.val :=
    bs_term d n 2 j.val 512 rfl _ (fun k => rfl)
  have e3 : (∑ k : Fin 256, ds d (n * 256 + j.val) (768 + k.val)) + (∑ k : Fin 256, ds d (n * 256 + (128 + j.val)) (768 + k.val))
      = bsT d (n * 2) 3 j.val + bsT d (n * 2 + 1) 3 j.val :=
    bs_term d n 3 j.val 768 rfl _ (fun k => rfl)
  have e4 : (∑ k : Fin 256, ds d (n * 256 + j.val) (1024 + k.val)) + (∑ k : Fin 256, ds d (n * 256 + (128 + j.val)) (1024 + k.val))
      = bsT d (n * 2) 4 j.val + bsT d (n * 2 + 1) 4 j.val :=
    bs_term d n 4 j.val 1024 rfl _ (fun k => rfl)
  have e5 : (∑ k : Fin 256, ds d (n * 256 + j.val) (1280 + k.val)) + (∑ k : Fin 256, ds d (n * 256 + (128 + j.val)) (1280 + k.val))
      = bsT d (n * 2) 5 j.val + bsT d (n * 2 + 1) 5 j.val :=
    bs_term d n 5 j.val 1280 rfl _ (fun k => rfl)
  have e6 : (∑ k : Fin 256, ds d (n * 256 + j.val) (1536 + k.val)) + (∑ k : Fin 256, ds d (n * 256 + (128 + j.val)) (1536 + k.val))
      = bsT d (n * 2) 6 j.val + bsT d (n * 2 + 1) 6 j.val :=
    bs_term d n 6 j.val 1536 rfl _ (fun k => rfl)
  have e7 : (∑ k : Fin 256, ds d (n * 256 + j.val) (1792 + k.val)) + (∑ k : Fin 256, ds d (n * 256 + (128 + j.val)) (1792 + k.val))
      = bsT d (n * 2) 7 j.val + bsT d (n * 2 + 1) 7 j.val :=
    bs_term d n 7 j.val 1792 rfl _ (fun k => rfl)
  rw [e0, e1, e2, e3, e4, e5, e6, e7]
  refine congrArg _ ((congrArg (_ + ·) (eight (fun g => bsT d (n * 2) g j.val + bsT d (n * 2 + 1) g j.val) l.val)).trans
    (dbs_step d n j.val l.val _ _ ?_ ?_))
  all_goals simp

/-- The gradient of the mixing weights so far. -/
theorem out9 (n : ℕ) (hn : n = 0) (hR : R0 = n * 256) (y : S8x128x128.Idx) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.1 y = ((dwsN d (n + 1) (y 0).val (y 1).val (y 2).val : ℝ) : EReal) := by
  subst hR
  refine View.canon_append_of_pieces (fun y : S8x128x128.Idx => ((dwsN d (n + 1) (y 0).val (y 1).val (y 2).val : ℝ) : EReal)) ((kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.1.drop 8)
    ((kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.1.take 8) ?_ y (View.cover_of_tiledL ((kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.1.take 8) S1x128x128.size (by sl_kernel_rfl) y)
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread]
    simp only [r_6_val H, r_14_val H, mask, z642 (d := d) (hn := hn), select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 7 t.val s.val _ _ _ 1792 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread]
    simp only [r_6_val H, r_14_val H, mask, z578 (d := d) (hn := hn), select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 6 t.val s.val _ _ _ 1536 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread]
    simp only [r_6_val H, r_14_val H, mask, z514 (d := d) (hn := hn), select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 5 t.val s.val _ _ _ 1280 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread]
    simp only [r_6_val H, r_14_val H, mask, z450 (d := d) (hn := hn), select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 4 t.val s.val _ _ _ 1024 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread]
    simp only [r_6_val H, r_14_val H, mask, z386 (d := d) (hn := hn), select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 3 t.val s.val _ _ _ 768 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread]
    simp only [r_6_val H, r_14_val H, mask, z322 (d := d) (hn := hn), select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 2 t.val s.val _ _ _ 512 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread]
    simp only [r_6_val H, r_14_val H, mask, z258 (d := d) (hn := hn), select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 1 t.val s.val _ _ _ 256 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread]
    simp only [r_6_val H, r_14_val H, mask, z194 (d := d) (hn := hn), select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 0 t.val s.val _ _ _ 0 rfl _ (fun k => (Nat.zero_add _).symm) ?_ ?_ ?_)
    all_goals simp
  exact fun _ h => absurd h List.not_mem_nil

end Cert.Mixer.A

end
-- ==== Proof.ElemB.lean ====
/- The body's elementwise values over real data, at the later points. -/
module

public import proofs.«01_k».proof.Proof.Base

@[expose] public section

set_option maxRecDepth 16384

noncomputable section

namespace Cert.Mixer.B

open Idealize.ShloMosaic Cert.KernelIdeal Cert.KernelIdeal.Gen Cert.Mixer

variable {d : Args} {R0 : ℕ} {x0 : Vec Ideal S256x6144 .f32} {x1 : Vec Ideal S256x2048 .f32}
  {x2 x3 : Vec Ideal S1x2048 .f32} {x4 : Vec Ideal S8x128x128 .f32} {x5 : Vec Ideal S128x128 .f32}
  (H : Data d R0 x0 x1 x2 x3 x4 x5) (c : Dev nD)
  (arg1 : Memref sig .tc .vmem S256x6144 .f32) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .vmem S1x2048 .f32) (harg4 : arg4.IsWhole)

include H

/-- The derivative of the second activation. -/
theorem r_val (r : Fin 256) (l : Fin 2048) :
    kernelRun0_B.sl.r (F := Ideal) c arg1 harg1 x0 (ix2 r l) = ((dgelu (d.P (R0 + r.val) (2048 + l.val)) : ℝ) : EReal) := by
  pointwise [kernelRun0_B.sl.r, k0_pay6, k0_pay7, k0_pay8, k0_pay9, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  rfl

/-- The layer norm's input less its row's mean. -/
theorem r_1_val (r : Fin 256) (l : Fin 2048) :
    kernelRun0_B.sl.r_1 (F := Ideal) c arg1 harg1 x0 (ix2 r l) = ((cen d (R0 + r.val) l.val : ℝ) : EReal) := by
  pointwise [kernelRun0_B.sl.r_1, k0_pay6, k0_pay7, k0_pay8, k0_pay10, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  rfl

/-- The row's variance. -/
theorem r_2_val (r : Fin 256) (l : Fin 1) :
    kernelRun0_B.sl.r_2 (F := Ideal) c arg1 harg1 x0 (ix2 r l) = ((var d (R0 + r.val) : ℝ) : EReal) := by
  pointwise [kernelRun0_B.sl.r_2, k0_pay6, k0_pay7, k0_pay8, k0_pay10, k0_pay11, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  rfl

/-- The row's reciprocal deviation. -/
theorem r_3_val (r : Fin 256) (l : Fin 1) :
    kernelRun0_B.sl.r_3 (F := Ideal) c arg1 harg1 x0 (ix2 r l) = ((rstd d (R0 + r.val) : ℝ) : EReal) := by
  pointwise [kernelRun0_B.sl.r_3, k0_pay12, k0_pay13, Memref.IsWhole.readAt_unread]
  simp only [r_2_val H, word_ca, word_cc, word_eps, word_half, word_2048, named_three, lit_one, lit_zero, Ideal.tanh_coe, Ideal.exp_coe,
    ← EReal.coe_mul, ← EReal.coe_add, ← EReal.coe_sub, coe_sum, div_2048, rsqrt_real _ (var_eps_pos d _)]
  rfl

/-- The normalized values. -/
theorem r_4_val (r : Fin 256) (l : Fin 2048) :
    kernelRun0_B.sl.r_4 (F := Ideal) c arg1 harg1 x0 (ix2 r l) = ((vh d (R0 + r.val) l.val : ℝ) : EReal) := by
  pointwise [kernelRun0_B.sl.r_4, k0_pay12, k0_pay13, k0_pay14, Memref.IsWhole.readAt_unread]
  simp only [r_1_val H, r_2_val H, word_ca, word_cc, word_eps, word_half, word_2048, named_three, lit_one, lit_zero, Ideal.tanh_coe, Ideal.exp_coe,
    ← EReal.coe_mul, ← EReal.coe_add, ← EReal.coe_sub, coe_sum, div_2048, rsqrt_real _ (var_eps_pos d _)]
  rfl

/-- The layer norm's output. -/
theorem r_6_val (r : Fin 256) (l : Fin 2048) :
    kernelRun0_B.sl.r_6 (F := Ideal) c arg1 harg1 arg3 harg3 arg4 harg4 x0 x2 x3 (ix2 r l) = ((vb d (R0 + r.val) l.val : ℝ) : EReal) := by
  pointwise [kernelRun0_B.sl.r_6, k0_pay12, k0_pay13, k0_pay14, k0_pay15, Memref.IsWhole.readAt_unread]
  simp only [r_1_val H, r_2_val H, H.lg, H.lb, word_ca, word_cc, word_eps, word_half, word_2048, named_three, lit_one, lit_zero, Ideal.tanh_coe, Ideal.exp_coe,
    ← EReal.coe_mul, ← EReal.coe_add, ← EReal.coe_sub, coe_sum, div_2048, rsqrt_real _ (var_eps_pos d _)]
  rfl

/-- The first activation. -/
theorem r_7_val (r : Fin 256) (l : Fin 2048) :
    kernelRun0_B.sl.r_7 (F := Ideal) c arg1 harg1 x0 (ix2 r l) = ((U d (R0 + r.val) l.val : ℝ) : EReal) := by
  pointwise [kernelRun0_B.sl.r_7, k0_pay16, k0_pay17, k0_pay18, k0_pay19, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  rfl

/-- Its derivative. -/
theorem r_8_val (r : Fin 256) (l : Fin 2048) :
    kernelRun0_B.sl.r_8 (F := Ideal) c arg1 harg1 x0 (ix2 r l) = ((dgelu (d.P (R0 + r.val) l.val) : ℝ) : EReal) := by
  pointwise [kernelRun0_B.sl.r_8, k0_pay16, k0_pay17, k0_pay18, k0_pay20, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  rfl

/-- The gate's argument. -/
theorem r_9_val (r : Fin 256) (l : Fin 2048) :
    kernelRun0_B.sl.r_9 (F := Ideal) c arg1 harg1 x0 (ix2 r l) = ((gt d (R0 + r.val) l.val : ℝ) : EReal) := by
  pointwise [kernelRun0_B.sl.r_9, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  try rfl

/-- The exponential inside the logistic. -/
theorem r_10_val (r : Fin 256) (l : Fin 2048) :
    kernelRun0_B.sl.r_10 (F := Ideal) c arg1 harg1 x0 (ix2 r l) = ((Real.exp (0 - gt d (R0 + r.val) l.val) : ℝ) : EReal) := by
  pointwise [kernelRun0_B.sl.r_10, k0_pay21, Memref.IsWhole.readAt_unread]
  simp only [H.p, word_ca, word_cc, word_eps, word_half, word_2048, named_three, lit_one, lit_zero, Ideal.tanh_coe, Ideal.exp_coe,
    ← EReal.coe_mul, ← EReal.coe_add, ← EReal.coe_sub, coe_sum, div_2048]
  rfl

/-- The logistic of the gate. -/
theorem r_11_val (r : Fin 256) (l : Fin 2048) :
    kernelRun0_B.sl.r_11 (F := Ideal) c arg1 harg1 x0 (ix2 r l) = ((sg (gt d (R0 + r.val) l.val) : ℝ) : EReal) := by
  pointwise [kernelRun0_B.sl.r_11, k0_pay22, k0_pay23, Memref.IsWhole.readAt_unread]
  simp only [r_10_val H, word_ca, word_cc, word_eps, word_half, word_2048, named_three, lit_one, lit_zero, Ideal.tanh_coe, Ideal.exp_coe,
    ← EReal.coe_mul, ← EReal.coe_add, ← EReal.coe_sub, coe_sum, div_2048, div_real _ _ (one_add_exp_ne _)]
  rfl

/-- The incoming gradient. -/
theorem r_12_val (r : Fin 256) (l : Fin 2048) :
    kernelRun0_B.sl.r_12 (F := Ideal) c arg2 harg2 x1 (ix2 r l) = ((d.DY (R0 + r.val) l.val : ℝ) : EReal) := by
  pointwise [kernelRun0_B.sl.r_12, Memref.IsWhole.readAt_unread]
  simp only [H.dy, word_ca, word_cc, word_eps, word_half, word_2048, named_three, lit_one, lit_zero, Ideal.tanh_coe, Ideal.exp_coe,
    ← EReal.coe_mul, ← EReal.coe_add, ← EReal.coe_sub, coe_sum, div_2048]
  try rfl

/-- The gradient arriving at the product. -/
theorem r_13_val (r : Fin 256) (l : Fin 2048) :
    kernelRun0_B.sl.r_13 (F := Ideal) c arg1 harg1 arg2 harg2 x0 x1 (ix2 r l) = ((dus d (R0 + r.val) l.val : ℝ) : EReal) := by
  pointwise [kernelRun0_B.sl.r_13, k0_pay22, k0_pay23, k0_pay24, Memref.IsWhole.readAt_unread]
  simp only [r_9_val H, r_10_val H, H.dy, word_ca, word_cc, word_eps, word_half, word_2048, named_three, lit_one, lit_zero, Ideal.tanh_coe, Ideal.exp_coe,
    ← EReal.coe_mul, ← EReal.coe_add, ← EReal.coe_sub, coe_sum, div_2048, div_real _ _ (one_add_exp_ne _)]
  rfl

/-- The gradient arriving at the mixed values. -/
theorem r_14_val (r : Fin 256) (l : Fin 2048) :
    kernelRun0_B.sl.r_14 (F := Ideal) c arg1 harg1 arg2 harg2 x0 x1 (ix2 r l) = ((ds d (R0 + r.val) l.val : ℝ) : EReal) := by
  pointwise [kernelRun0_B.sl.r_14, k0_pay22, k0_pay23, k0_pay24, k0_pay25, Memref.IsWhole.readAt_unread]
  simp only [r_7_val H, r_9_val H, r_10_val H, H.dy, word_ca, word_cc, word_eps, word_half, word_2048, named_three, lit_one, lit_zero, Ideal.tanh_coe, Ideal.exp_coe,
    ← EReal.coe_mul, ← EReal.coe_add, ← EReal.coe_sub, coe_sum, div_2048, div_real _ _ (one_add_exp_ne _)]
  rfl

/-- The same before its rounding. -/
theorem r_15_val (r : Fin 256) (l : Fin 2048) :
    kernelRun0_B.sl.r_15 (F := Ideal) c arg1 harg1 arg2 harg2 x0 x1 (ix2 r l) = ((ds d (R0 + r.val) l.val : ℝ) : EReal) := by
  pointwise [kernelRun0_B.sl.r_15, k0_pay22, k0_pay23, k0_pay24, k0_pay26, Memref.IsWhole.readAt_unread]
  simp only [r_7_val H, r_9_val H, r_10_val H, H.dy, word_ca, word_cc, word_eps, word_half, word_2048, named_three, lit_one, lit_zero, Ideal.tanh_coe, Ideal.exp_coe,
    ← EReal.coe_mul, ← EReal.coe_add, ← EReal.coe_sub, coe_sum, div_2048, div_real _ _ (one_add_exp_ne _)]
  rfl

end Cert.Mixer.B

end
-- ==== Proof.BodyB.lean ====
/- The mixed values and their transposed product with the gradient, block by block, at the later points. -/
module

public import proofs.«01_k».proof.Proof.ElemB
public import proofs.«01_k».proof.Proof.BodyA

@[expose] public section

set_option maxRecDepth 16384

noncomputable section

namespace Cert.Mixer.B

open Idealize.ShloMosaic Cert.KernelIdeal Cert.KernelIdeal.Gen Cert.Mixer

/-- An index of a matrix is a row and a column. -/
theorem ex2 {n k : ℕ} (y : (⟨2, ![n, k]⟩ : Shape).Idx) : ∃ (p : Fin n) (q : Fin k), y = ix2 p q := ⟨y 0, y 1, eq_ix2 y⟩

variable {d : Args} {R0 : ℕ} {x0 : Vec Ideal S256x6144 .f32} {x1 : Vec Ideal S256x2048 .f32}
  {x2 x3 : Vec Ideal S1x2048 .f32} {x4 : Vec Ideal S8x128x128 .f32} {x5 : Vec Ideal S128x128 .f32}
  (H : Data d R0 x0 x1 x2 x3 x4 x5) (c : Dev nD)
  (arg1 : Memref sig .tc .vmem S256x6144 .f32) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S8x128x128 .f32) (harg5 : arg5.IsWhole)
  (arg6 : Memref sig .tc .vmem S128x128 .f32) (harg6 : arg6.IsWhole)
  (arg12 : Memref sig .tc .vmem S256x2048 .f32) (harg12 : arg12.IsWhole)
  (arg13 : Memref sig .tc .vmem S256x2048 .f32) (harg13 : arg13.IsWhole)

include H

omit H in
/-- The mask of chunks of 64 rows. -/
theorem mask (t s : Fin 128) : kernelRun0_B.sl.r_16 (ix2 t s) = if s.val / 64 ≤ t.val / 64 then 1#1 else 0#1 := by
  exact A.mask t s

omit H in
/-- The mask where its first use spells it out. -/
theorem mask0 (t s : Fin 128) : k0_pay30 kernelRun0_B.sl.v92 k0_pay27 (64#32) k0_pay28 k0_pay29 1#32 (ix2 t s)
    = if s.val / 64 ≤ t.val / 64 then 1#1 else 0#1 := mask t s

/-- Every block written to the first buffer holds the mixed values. -/
theorem hs0 : ∀ p ∈ kernelRun0_B.sl.HS0_16 (F := Ideal) c arg1 harg1 arg3 harg3 arg4 harg4 arg5 harg5 arg6 harg6 x0 x2 x3 x4 x5,
    ∀ y, p.2 y = ((S d (R0 + (p.1.emb y 0).val) (p.1.emb y 1).val : ℝ) : EReal) := by
  unfold kernelRun0_B.sl.HS0_16
  refine List.forall_mem_cons.2 ⟨?_, ?_⟩
  · intro y
    obtain ⟨j, l, rfl⟩ := ex2 y
    pointwise [kernelRun0_B.sl.r_54, kernelRun0_B.sl.r_55, k0_pay116, k0_pay117, k0_pay123, Memref.IsWhole.readAt_unread]
    simp only [r_6_val H, mask, mask0, H.ws, H.bs j 7 (by decide), lit_zero, ← EReal.coe_mul, select_real, coe_sum, ← EReal.coe_add]
    refine congrArg _ (S_block d R0 H.dvd 128 1792 7 rfl rfl j l _ _ _ _ ?_ ?_ ?_ (fun x => rfl))
    all_goals simp
  refine List.forall_mem_cons.2 ⟨?_, ?_⟩
  · intro y
    obtain ⟨j, l, rfl⟩ := ex2 y
    pointwise [k0_pay116, k0_pay117, k0_pay119, Memref.IsWhole.readAt_unread]
    simp only [r_6_val H, mask, mask0, H.ws, H.bs j 7 (by decide), lit_zero, ← EReal.coe_mul, select_real, coe_sum, ← EReal.coe_add]
    refine congrArg _ (S_block d R0 H.dvd 0 1792 7 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_49, kernelRun0_B.sl.r_50, k0_pay104, k0_pay105, k0_pay110, Memref.IsWhole.readAt_unread]
    simp only [r_6_val H, mask, mask0, H.ws, H.bs j 6 (by decide), lit_zero, ← EReal.coe_mul, select_real, coe_sum, ← EReal.coe_add]
    refine congrArg _ (S_block d R0 H.dvd 128 1536 6 rfl rfl j l _ _ _ _ ?_ ?_ ?_ (fun x => rfl))
    all_goals simp
  refine List.forall_mem_cons.2 ⟨?_, ?_⟩
  · intro y
    obtain ⟨j, l, rfl⟩ := ex2 y
    pointwise [k0_pay104, k0_pay105, k0_pay108, Memref.IsWhole.readAt_unread]
    simp only [r_6_val H, mask, mask0, H.ws, H.bs j 6 (by decide), lit_zero, ← EReal.coe_mul, select_real, coe_sum, ← EReal.coe_add]
    refine congrArg _ (S_block d R0 H.dvd 0 1536 6 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_43, k0_pay92, k0_pay93, k0_pay98, Memref.IsWhole.readAt_unread]
    simp only [r_6_val H, mask, mask0, H.ws, H.bs j 5 (by decide), lit_zero, ← EReal.coe_mul, select_real, coe_sum, ← EReal.coe_add]
    refine congrArg _ (S_block d R0 H.dvd 128 1280 5 rfl rfl j l _ _ _ _ ?_ ?_ ?_ (fun x => rfl))
    all_goals simp
  refine List.forall_mem_cons.2 ⟨?_, ?_⟩
  · intro y
    obtain ⟨j, l, rfl⟩ := ex2 y
    pointwise [kernelRun0_B.sl.r_43, k0_pay92, k0_pay93, k0_pay94, Memref.IsWhole.readAt_unread]
    simp only [r_6_val H, mask, mask0, H.ws, H.bs j 5 (by decide), lit_zero, ← EReal.coe_mul, select_real, coe_sum, ← EReal.coe_add]
    refine congrArg _ (S_block d R0 H.dvd 0 1280 5 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_41, k0_pay81, k0_pay82, k0_pay87, k0_pay88, Memref.IsWhole.readAt_unread]
    simp only [r_6_val H, mask, mask0, H.ws, H.bs j 4 (by decide), lit_zero, ← EReal.coe_mul, select_real, coe_sum, ← EReal.coe_add]
    refine congrArg _ (S_block d R0 H.dvd 128 1024 4 rfl rfl j l _ _ _ _ ?_ ?_ ?_ (fun x => rfl))
    all_goals simp
  refine List.forall_mem_cons.2 ⟨?_, ?_⟩
  · intro y
    obtain ⟨j, l, rfl⟩ := ex2 y
    pointwise [k0_pay81, k0_pay82, k0_pay83, Memref.IsWhole.readAt_unread]
    simp only [r_6_val H, mask, mask0, H.ws, H.bs j 4 (by decide), lit_zero, ← EReal.coe_mul, select_real, coe_sum, ← EReal.coe_add]
    refine congrArg _ (S_block d R0 H.dvd 0 1024 4 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_33, kernelRun0_B.sl.r_34, k0_pay69, k0_pay70, k0_pay76, Memref.IsWhole.readAt_unread]
    simp only [r_6_val H, mask, mask0, H.ws, H.bs j 3 (by decide), lit_zero, ← EReal.coe_mul, select_real, coe_sum, ← EReal.coe_add]
    refine congrArg _ (S_block d R0 H.dvd 128 768 3 rfl rfl j l _ _ _ _ ?_ ?_ ?_ (fun x => rfl))
    all_goals simp
  refine List.forall_mem_cons.2 ⟨?_, ?_⟩
  · intro y
    obtain ⟨j, l, rfl⟩ := ex2 y
    pointwise [k0_pay69, k0_pay70, k0_pay73, Memref.IsWhole.readAt_unread]
    simp only [r_6_val H, mask, mask0, H.ws, H.bs j 3 (by decide), lit_zero, ← EReal.coe_mul, select_real, coe_sum, ← EReal.coe_add]
    refine congrArg _ (S_block d R0 H.dvd 0 768 3 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_27, kernelRun0_B.sl.r_28, k0_pay57, k0_pay58, k0_pay63, Memref.IsWhole.readAt_unread]
    simp only [r_6_val H, mask, mask0, H.ws, H.bs j 2 (by decide), lit_zero, ← EReal.coe_mul, select_real, coe_sum, ← EReal.coe_add]
    refine congrArg _ (S_block d R0 H.dvd 128 512 2 rfl rfl j l _ _ _ _ ?_ ?_ ?_ (fun x => rfl))
    all_goals simp
  refine List.forall_mem_cons.2 ⟨?_, ?_⟩
  · intro y
    obtain ⟨j, l, rfl⟩ := ex2 y
    pointwise [kernelRun0_B.sl.r_27, kernelRun0_B.sl.r_28, k0_pay57, k0_pay58, k0_pay60, Memref.IsWhole.readAt_unread]
    simp only [r_6_val H, mask, mask0, H.ws, H.bs j 2 (by decide), lit_zero, ← EReal.coe_mul, select_real, coe_sum, ← EReal.coe_add]
    refine congrArg _ (S_block d R0 H.dvd 0 512 2 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [k0_pay47, k0_pay48, k0_pay53, Memref.IsWhole.readAt_unread]
    simp only [r_6_val H, mask, mask0, H.ws, H.bs j 1 (by decide), lit_zero, ← EReal.coe_mul, select_real, coe_sum, ← EReal.coe_add]
    refine congrArg _ (S_block d R0 H.dvd 128 256 1 rfl rfl j l _ _ _ _ ?_ ?_ ?_ (fun x => rfl))
    all_goals simp
  refine List.forall_mem_cons.2 ⟨?_, ?_⟩
  · intro y
    obtain ⟨j, l, rfl⟩ := ex2 y
    pointwise [k0_pay47, k0_pay48, k0_pay49, Memref.IsWhole.readAt_unread]
    simp only [r_6_val H, mask, mask0, H.ws, H.bs j 1 (by decide), lit_zero, ← EReal.coe_mul, select_real, coe_sum, ← EReal.coe_add]
    refine congrArg _ (S_block d R0 H.dvd 0 256 1 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_17, kernelRun0_B.sl.r_18, k0_pay32, k0_pay33, k0_pay40, Memref.IsWhole.readAt_unread]
    simp only [r_6_val H, mask, mask0, H.ws, H.bs j 0 (by decide), lit_zero, ← EReal.coe_mul, select_real, coe_sum, ← EReal.coe_add]
    refine congrArg _ (S_block d R0 H.dvd 128 0 0 rfl rfl j l _ _ _ _ ?_ ?_ ?_ (fun x => rfl))
    all_goals simp
  refine List.forall_mem_cons.2 ⟨?_, ?_⟩
  · intro y
    obtain ⟨j, l, rfl⟩ := ex2 y
    pointwise [k0_pay32, k0_pay33, k0_pay36, Memref.IsWhole.readAt_unread]
    simp only [r_6_val H, mask, mask0, H.ws, H.bs j 0 (by decide), lit_zero, ← EReal.coe_mul, select_real, coe_sum, ← EReal.coe_add]
    refine congrArg _ (S_block d R0 H.dvd 0 0 0 rfl rfl j l _ _ _ _ ?_ ?_ ?_ (fun x => (Nat.zero_add _).symm))
    all_goals simp
  exact fun _ h => absurd h List.not_mem_nil

/-- Every block written to the second buffer holds the gradient at the layer norm's output. -/
theorem hs1 : ∀ p ∈ kernelRun0_B.sl.HS1_16 (F := Ideal) c arg1 harg1 arg2 harg2 arg5 harg5 x0 x1 x4,
    ∀ y, p.2 y = ((dvl d (R0 + (p.1.emb y 0).val) (p.1.emb y 1).val : ℝ) : EReal) := by
  unfold kernelRun0_B.sl.HS1_16
  refine List.forall_mem_cons.2 ⟨?_, ?_⟩
  · intro y
    obtain ⟨j, l, rfl⟩ := ex2 y
    pointwise [kernelRun0_B.sl.r_54, k0_pay116, k0_pay124, Memref.IsWhole.readAt_unread]
    simp only [r_14_val H, mask, mask0, H.ws, lit_zero, ← EReal.coe_mul, select_real, coe_sum, ← EReal.coe_add]
    refine congrArg _ (dvl_block d R0 H.dvd 128 1792 7 rfl rfl j l _ _ _ _ ?_ ?_ ?_ (fun x => rfl))
    all_goals simp
  refine List.forall_mem_cons.2 ⟨?_, ?_⟩
  · intro y
    obtain ⟨j, l, rfl⟩ := ex2 y
    pointwise [k0_pay116, k0_pay120, Memref.IsWhole.readAt_unread]
    simp only [r_14_val H, mask, mask0, H.ws, lit_zero, ← EReal.coe_mul, select_real, coe_sum, ← EReal.coe_add]
    refine congrArg _ (dvl_block d R0 H.dvd 0 1792 7 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_49, k0_pay104, k0_pay111, Memref.IsWhole.readAt_unread]
    simp only [r_14_val H, mask, mask0, H.ws, lit_zero, ← EReal.coe_mul, select_real, coe_sum, ← EReal.coe_add]
    refine congrArg _ (dvl_block d R0 H.dvd 128 1536 6 rfl rfl j l _ _ _ _ ?_ ?_ ?_ (fun x => rfl))
    all_goals simp
  refine List.forall_mem_cons.2 ⟨?_, ?_⟩
  · intro y
    obtain ⟨j, l, rfl⟩ := ex2 y
    pointwise [kernelRun0_B.sl.r_49, k0_pay104, k0_pay109, Memref.IsWhole.readAt_unread]
    simp only [r_14_val H, mask, mask0, H.ws, lit_zero, ← EReal.coe_mul, select_real, coe_sum, ← EReal.coe_add]
    refine congrArg _ (dvl_block d R0 H.dvd 0 1536 6 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_43, k0_pay92, k0_pay99, Memref.IsWhole.readAt_unread]
    simp only [r_14_val H, mask, mask0, H.ws, lit_zero, ← EReal.coe_mul, select_real, coe_sum, ← EReal.coe_add]
    refine congrArg _ (dvl_block d R0 H.dvd 128 1280 5 rfl rfl j l _ _ _ _ ?_ ?_ ?_ (fun x => rfl))
    all_goals simp
  refine List.forall_mem_cons.2 ⟨?_, ?_⟩
  · intro y
    obtain ⟨j, l, rfl⟩ := ex2 y
    pointwise [kernelRun0_B.sl.r_43, k0_pay92, k0_pay95, Memref.IsWhole.readAt_unread]
    simp only [r_14_val H, mask, mask0, H.ws, lit_zero, ← EReal.coe_mul, select_real, coe_sum, ← EReal.coe_add]
    refine congrArg _ (dvl_block d R0 H.dvd 0 1280 5 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_38, k0_pay81, k0_pay89, Memref.IsWhole.readAt_unread]
    simp only [r_14_val H, mask, mask0, H.ws, lit_zero, ← EReal.coe_mul, select_real, coe_sum, ← EReal.coe_add]
    refine congrArg _ (dvl_block d R0 H.dvd 128 1024 4 rfl rfl j l _ _ _ _ ?_ ?_ ?_ (fun x => rfl))
    all_goals simp
  refine List.forall_mem_cons.2 ⟨?_, ?_⟩
  · intro y
    obtain ⟨j, l, rfl⟩ := ex2 y
    pointwise [k0_pay81, k0_pay84, Memref.IsWhole.readAt_unread]
    simp only [r_14_val H, mask, mask0, H.ws, lit_zero, ← EReal.coe_mul, select_real, coe_sum, ← EReal.coe_add]
    refine congrArg _ (dvl_block d R0 H.dvd 0 1024 4 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_33, k0_pay69, k0_pay77, Memref.IsWhole.readAt_unread]
    simp only [r_14_val H, mask, mask0, H.ws, lit_zero, ← EReal.coe_mul, select_real, coe_sum, ← EReal.coe_add]
    refine congrArg _ (dvl_block d R0 H.dvd 128 768 3 rfl rfl j l _ _ _ _ ?_ ?_ ?_ (fun x => rfl))
    all_goals simp
  refine List.forall_mem_cons.2 ⟨?_, ?_⟩
  · intro y
    obtain ⟨j, l, rfl⟩ := ex2 y
    pointwise [kernelRun0_B.sl.r_35, k0_pay69, k0_pay74, k0_pay75, Memref.IsWhole.readAt_unread]
    simp only [r_14_val H, mask, mask0, H.ws, lit_zero, ← EReal.coe_mul, select_real, coe_sum, ← EReal.coe_add]
    refine congrArg _ (dvl_block d R0 H.dvd 0 768 3 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_27, k0_pay57, k0_pay64, Memref.IsWhole.readAt_unread]
    simp only [r_14_val H, mask, mask0, H.ws, lit_zero, ← EReal.coe_mul, select_real, coe_sum, ← EReal.coe_add]
    refine congrArg _ (dvl_block d R0 H.dvd 128 512 2 rfl rfl j l _ _ _ _ ?_ ?_ ?_ (fun x => rfl))
    all_goals simp
  refine List.forall_mem_cons.2 ⟨?_, ?_⟩
  · intro y
    obtain ⟨j, l, rfl⟩ := ex2 y
    pointwise [kernelRun0_B.sl.r_27, k0_pay57, k0_pay61, Memref.IsWhole.readAt_unread]
    simp only [r_14_val H, mask, mask0, H.ws, lit_zero, ← EReal.coe_mul, select_real, coe_sum, ← EReal.coe_add]
    refine congrArg _ (dvl_block d R0 H.dvd 0 512 2 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_23, k0_pay47, k0_pay54, Memref.IsWhole.readAt_unread]
    simp only [r_14_val H, mask, mask0, H.ws, lit_zero, ← EReal.coe_mul, select_real, coe_sum, ← EReal.coe_add]
    refine congrArg _ (dvl_block d R0 H.dvd 128 256 1 rfl rfl j l _ _ _ _ ?_ ?_ ?_ (fun x => rfl))
    all_goals simp
  refine List.forall_mem_cons.2 ⟨?_, ?_⟩
  · intro y
    obtain ⟨j, l, rfl⟩ := ex2 y
    pointwise [k0_pay47, k0_pay50, Memref.IsWhole.readAt_unread]
    simp only [r_14_val H, mask, mask0, H.ws, lit_zero, ← EReal.coe_mul, select_real, coe_sum, ← EReal.coe_add]
    refine congrArg _ (dvl_block d R0 H.dvd 0 256 1 rfl rfl j l _ _ _ _ ?_ ?_ ?_ (fun x => (Nat.zero_add _).symm))
    all_goals simp
  refine List.forall_mem_cons.2 ⟨?_, ?_⟩
  · intro y
    obtain ⟨j, l, rfl⟩ := ex2 y
    pointwise [kernelRun0_B.sl.r_17, k0_pay32, k0_pay41, Memref.IsWhole.readAt_unread]
    simp only [r_14_val H, mask, mask0, H.ws, lit_zero, ← EReal.coe_mul, select_real, coe_sum, ← EReal.coe_add]
    refine congrArg _ (dvl_block d R0 H.dvd 128 0 0 rfl rfl j l _ _ _ _ ?_ ?_ ?_ (fun x => rfl))
    all_goals simp
  refine List.forall_mem_cons.2 ⟨?_, ?_⟩
  · intro y
    obtain ⟨j, l, rfl⟩ := ex2 y
    pointwise [k0_pay32, k0_pay37, Memref.IsWhole.readAt_unread]
    simp only [r_14_val H, mask, mask0, H.ws, lit_zero, ← EReal.coe_mul, select_real, coe_sum, ← EReal.coe_add]
    refine congrArg _ (dvl_block d R0 H.dvd 0 0 0 rfl rfl j l _ _ _ _ ?_ ?_ ?_ (fun x => (Nat.zero_add _).symm))
    all_goals simp
  exact fun _ h => absurd h List.not_mem_nil

/-- The first buffer, read whole, holds the mixed values. -/
theorem v661_val (r : Fin 256) (l : Fin 2048) :
    kernelRun0_B.sl.v661 (F := Ideal) c arg1 harg1 arg3 harg3 arg4 harg4 arg5 harg5 arg6 harg6 arg12 x0 x2 x3 x4 x5 (ix2 r l) = ((S d (R0 + r.val) l.val : ℝ) : EReal) := by
  unfold kernelRun0_B.sl.v661
  rw [View.readCov_eq_canon']
  refine (View.canon_apply_of_pieces (fun y : S256x2048.Idx => ((S d (R0 + (y 0).val) (y 1).val : ℝ) : EReal)) _
    (hs0 H c arg1 harg1 arg3 harg3 arg4 harg4 arg5 harg5 arg6 harg6) _ (View.cover_of_tiledL (kernelRun0_B.sl.HS0_16 (F := Ideal) c arg1 harg1 arg3 harg3 arg4 harg4 arg5 harg5 arg6 harg6 x0 x2 x3 x4 x5) S128x256.size (by sl_kernel_rfl) _)).trans ?_
  simp

/-- The second buffer, read whole, holds the gradient at the layer norm's output. -/
theorem v677_val (r : Fin 256) (l : Fin 2048) :
    kernelRun0_B.sl.v677 (F := Ideal) c arg1 harg1 arg2 harg2 arg5 harg5 arg13 x0 x1 x4 (ix2 r l) = ((dvl d (R0 + r.val) l.val : ℝ) : EReal) := by
  unfold kernelRun0_B.sl.v677
  rw [View.readCov_eq_canon']
  refine (View.canon_apply_of_pieces (fun y : S256x2048.Idx => ((dvl d (R0 + (y 0).val) (y 1).val : ℝ) : EReal)) _
    (hs1 H c arg1 harg1 arg2 harg2 arg5 harg5) _ (View.cover_of_tiledL (kernelRun0_B.sl.HS1_16 (F := Ideal) c arg1 harg1 arg2 harg2 arg5 harg5 x0 x1 x4) S128x256.size (by sl_kernel_rfl) _)).trans ?_
  simp

end Cert.Mixer.B

end
-- ==== Proof.OutsB.lean ====
/- What one run of the body leaves in each result's block, at a later point. -/
module

public import proofs.«01_k».proof.Proof.BodyB
public import Idealize.ShloMosaic.Lib.Pipeline.CanonAppend

@[expose] public section

set_option maxRecDepth 16384

noncomputable section

namespace Cert.Mixer.B

open Idealize.ShloMosaic Cert.KernelIdeal Cert.KernelIdeal.Gen Cert.Mixer
open Cert.KernelIdeal.Gen.kernelRun0_B.sl

variable {d : Args} {R0 : ℕ} {x0 : Vec Ideal S256x6144 .f32} {x1 : Vec Ideal S256x2048 .f32}
  {x2 x3 : Vec Ideal S1x2048 .f32} {x4 : Vec Ideal S8x128x128 .f32} {x5 : Vec Ideal S128x128 .f32}
  (H : Data d R0 x0 x1 x2 x3 x4 x5) (c : Dev nD)
  (arg1 : Memref sig .tc .vmem S256x6144 .f32) (harg1 : arg1.IsWhole)
  (arg2 : Memref sig .tc .vmem S256x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S8x128x128 .f32) (harg5 : arg5.IsWhole)
  (arg6 : Memref sig .tc .vmem S128x128 .f32) (harg6 : arg6.IsWhole)
  (arg7 : Memref sig .tc .vmem S256x6144 .bf16) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S8x128x128 .f32) (harg10 : arg10.IsWhole)
  (arg11 : Memref sig .tc .vmem S128x128 .f32) (harg11 : arg11.IsWhole)
  (arg12 : Memref sig .tc .vmem S256x2048 .f32) (harg12 : arg12.IsWhole)
  (arg13 : Memref sig .tc .vmem S256x2048 .f32) (harg13 : arg13.IsWhole)
  (i : grid0.Coords) (hc0 : ¬cond0_0 i)
  (xo7 xo8 : Vec Ideal S1x2048 .f32) (xo9 : Vec Ideal S8x128x128 .f32) (xo10 : Vec Ideal S128x128 .f32)

include H

/-- The gradient of the projections. -/
theorem out6 (y : S256x6144.Idx) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).1 y = ((dp d (R0 + (y 0).val) (y 1).val : ℝ) : EReal) := by
  refine View.canon_apply_of_pieces (fun y : S256x6144.Idx => ((dp d (R0 + (y 0).val) (y 1).val : ℝ) : EReal)) _ ?_ y
    (View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).1 S256x2048.size (by sl_kernel_rfl) y)
  refine List.forall_mem_cons.2 ⟨?_, ?_⟩
  · intro y
    obtain ⟨j, l, rfl⟩ : ∃ (j : Fin 256) (l : Fin 2048), y = ix2 j l := ⟨y 0, y 1, eq_ix2 y⟩
    pointwise [r_5, r_17, r_18, r_19, r_20, r_21, r_22, v143, r_23, r_24, r_25, r_26, r_27, r_28, r_29, cst_115, r_30, r_31, r_32, r_33, r_34, r_35, r_36, r_37, r_38, r_39, r_40, r_41, r_42, r_43, r_44, r_45, r_46, r_47, r_48, r_49, r_50, r_51, r_52, v578, r_53, r_54, r_55, r_56, r_57, r_58, r_59, r_60, k0_pay1, k0_pay31, k0_pay32, k0_pay33, k0_pay35, k0_pay38, k0_pay39, k0_pay43, k0_pay44, k0_pay45, k0_pay46, k0_pay47, k0_pay51, k0_pay52, k0_pay56, k0_pay57, k0_pay58, k0_pay59, k0_pay62, k0_pay65, k0_pay66, k0_pay68, k0_pay69, k0_pay70, k0_pay72, k0_pay74, k0_pay78, k0_pay80, k0_pay81, k0_pay82, k0_pay85, k0_pay86, k0_pay87, k0_pay91, k0_pay92, k0_pay96, k0_pay97, k0_pay100, k0_pay101, k0_pay103, k0_pay104, k0_pay105, k0_pay106, k0_pay107, k0_pay112, k0_pay113, k0_pay115, k0_pay116, k0_pay117, k0_pay118, k0_pay121, k0_pay122, k0_pay126, k0_pay127, k0_pay128, k0_pay129, k0_pay130, k0_pay131, k0_pay132, k0_pay133, Memref.IsWhole.readAt_unread]
    simp only [r_val H, r_3_val H, r_4_val H, v677_val H, v661_val H, H.lg, r_7_val H, r_9_val H, r_11_val H, r_8_val H, r_13_val H, r_12_val H, word_ca, word_cc, word_eps, word_half, word_2048, named_three, lit_one, lit_zero, Ideal.tanh_coe, Ideal.exp_coe,
    ← EReal.coe_mul, ← EReal.coe_add, ← EReal.coe_sub, coe_sum, div_2048]
    refine congrArg _ (dp_V d R0 _ _ j.val l.val l.isLt ?_ ?_)
    all_goals simp
  refine List.forall_mem_cons.2 ⟨?_, ?_⟩
  · intro y
    obtain ⟨j, l, rfl⟩ : ∃ (j : Fin 256) (l : Fin 2048), y = ix2 j l := ⟨y 0, y 1, eq_ix2 y⟩
    pointwise [r_5, r_17, r_18, r_19, r_20, r_21, r_22, v143, r_23, r_24, r_25, r_26, r_27, r_28, r_29, cst_115, r_30, r_31, r_32, r_33, r_34, r_35, r_36, r_37, r_38, r_39, r_40, r_41, r_42, r_43, r_44, r_45, r_46, r_47, r_48, r_49, r_50, r_51, r_52, v578, r_53, r_54, r_55, r_56, r_57, r_58, r_59, r_60, k0_pay1, k0_pay31, k0_pay32, k0_pay33, k0_pay35, k0_pay38, k0_pay39, k0_pay43, k0_pay44, k0_pay45, k0_pay46, k0_pay47, k0_pay51, k0_pay52, k0_pay56, k0_pay57, k0_pay58, k0_pay59, k0_pay62, k0_pay65, k0_pay66, k0_pay68, k0_pay69, k0_pay70, k0_pay72, k0_pay74, k0_pay78, k0_pay80, k0_pay81, k0_pay82, k0_pay85, k0_pay86, k0_pay87, k0_pay91, k0_pay92, k0_pay96, k0_pay97, k0_pay100, k0_pay101, k0_pay103, k0_pay104, k0_pay105, k0_pay106, k0_pay107, k0_pay112, k0_pay113, k0_pay115, k0_pay116, k0_pay117, k0_pay118, k0_pay121, k0_pay122, k0_pay126, k0_pay127, k0_pay128, k0_pay129, k0_pay130, k0_pay131, k0_pay132, k0_pay133, Memref.IsWhole.readAt_unread]
    simp only [r_val H, r_3_val H, r_4_val H, v677_val H, v661_val H, H.lg, r_7_val H, r_9_val H, r_11_val H, r_8_val H, r_13_val H, r_12_val H, word_ca, word_cc, word_eps, word_half, word_2048, named_three, lit_one, lit_zero, Ideal.tanh_coe, Ideal.exp_coe,
    ← EReal.coe_mul, ← EReal.coe_add, ← EReal.coe_sub, coe_sum, div_2048]
    refine congrArg _ (dp_G d R0 _ _ j.val l.val l.isLt ?_ ?_)
    all_goals simp
  refine List.forall_mem_cons.2 ⟨?_, ?_⟩
  · intro y
    obtain ⟨j, l, rfl⟩ : ∃ (j : Fin 256) (l : Fin 2048), y = ix2 j l := ⟨y 0, y 1, eq_ix2 y⟩
    pointwise [r_5, r_17, r_18, r_19, r_20, r_21, r_22, v143, r_23, r_24, r_25, r_26, r_27, r_28, r_29, cst_115, r_30, r_31, r_32, r_33, r_34, r_35, r_36, r_37, r_38, r_39, r_40, r_41, r_42, r_43, r_44, r_45, r_46, r_47, r_48, r_49, r_50, r_51, r_52, v578, r_53, r_54, r_55, r_56, r_57, r_58, r_59, r_60, k0_pay1, k0_pay31, k0_pay32, k0_pay33, k0_pay35, k0_pay38, k0_pay39, k0_pay43, k0_pay44, k0_pay45, k0_pay46, k0_pay47, k0_pay51, k0_pay52, k0_pay56, k0_pay57, k0_pay58, k0_pay59, k0_pay62, k0_pay65, k0_pay66, k0_pay68, k0_pay69, k0_pay70, k0_pay72, k0_pay74, k0_pay78, k0_pay80, k0_pay81, k0_pay82, k0_pay85, k0_pay86, k0_pay87, k0_pay91, k0_pay92, k0_pay96, k0_pay97, k0_pay100, k0_pay101, k0_pay103, k0_pay104, k0_pay105, k0_pay106, k0_pay107, k0_pay112, k0_pay113, k0_pay115, k0_pay116, k0_pay117, k0_pay118, k0_pay121, k0_pay122, k0_pay126, k0_pay127, k0_pay128, k0_pay129, k0_pay130, k0_pay131, k0_pay132, k0_pay133, Memref.IsWhole.readAt_unread]
    simp only [r_val H, r_3_val H, r_4_val H, v677_val H, v661_val H, H.lg, r_7_val H, r_9_val H, r_11_val H, r_8_val H, r_13_val H, r_12_val H, word_ca, word_cc, word_eps, word_half, word_2048, named_three, lit_one, lit_zero, Ideal.tanh_coe, Ideal.exp_coe,
    ← EReal.coe_mul, ← EReal.coe_add, ← EReal.coe_sub, coe_sum, div_2048]
    refine congrArg _ (dp_U d R0 _ _ j.val l.val l.isLt ?_ ?_)
    all_goals simp
  exact fun _ h => absurd h List.not_mem_nil

/-- The gradient of the layer norm's gain so far. -/
theorem out7 (n : ℕ) (hR : R0 = n * 256) (hp : ∀ (a : Fin 1) (l : Fin 2048), xo7 (ix2 a l) = ((dlgN d n l.val : ℝ) : EReal)) (y : S1x2048.Idx) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.1 y = ((dlgN d (n + 1) (y 1).val : ℝ) : EReal) := by
  subst hR
  refine View.canon_append_of_pieces (fun y : S1x2048.Idx => ((dlgN d (n + 1) (y 1).val : ℝ) : EReal)) ((kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.1.drop 1)
    ((kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.1.take 1) ?_ y (View.cover_of_tiledL ((kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.1.take 1) S1x2048.size (by sl_kernel_rfl) y)
  refine List.forall_mem_cons.2 ⟨?_, fun _ h => absurd h List.not_mem_nil⟩
  intro y
  obtain ⟨j, l, rfl⟩ : ∃ (j : Fin 1) (l : Fin 2048), y = ix2 j l := ⟨y 0, y 1, eq_ix2 y⟩
  pointwise [r_5, r_17, r_18, r_19, r_20, r_21, r_22, v143, r_23, r_24, r_25, r_26, r_27, r_28, r_29, cst_115, r_30, r_31, r_32, r_33, r_34, r_35, r_36, r_37, r_38, r_39, r_40, r_41, r_42, r_43, r_44, r_45, r_46, r_47, r_48, r_49, r_50, r_51, r_52, v578, r_53, r_54, r_55, r_56, r_57, r_58, r_59, r_60, k0_pay1, k0_pay31, k0_pay32, k0_pay33, k0_pay35, k0_pay38, k0_pay39, k0_pay43, k0_pay44, k0_pay45, k0_pay46, k0_pay47, k0_pay51, k0_pay52, k0_pay56, k0_pay57, k0_pay58, k0_pay59, k0_pay62, k0_pay65, k0_pay66, k0_pay68, k0_pay69, k0_pay70, k0_pay72, k0_pay74, k0_pay78, k0_pay80, k0_pay81, k0_pay82, k0_pay85, k0_pay86, k0_pay87, k0_pay91, k0_pay92, k0_pay96, k0_pay97, k0_pay100, k0_pay101, k0_pay103, k0_pay104, k0_pay105, k0_pay106, k0_pay107, k0_pay112, k0_pay113, k0_pay115, k0_pay116, k0_pay117, k0_pay118, k0_pay121, k0_pay122, k0_pay126, k0_pay127, k0_pay128, k0_pay129, k0_pay130, k0_pay131, k0_pay132, k0_pay133, Memref.IsWhole.readAt_unread]
  simp only [r_4_val H, v677_val H, hp, word_ca, word_cc, word_eps, word_half, word_2048, named_three, lit_one, lit_zero, Ideal.tanh_coe, Ideal.exp_coe,
    ← EReal.coe_mul, ← EReal.coe_add, ← EReal.coe_sub, coe_sum, div_2048]
  refine congrArg _ (dlg_step d n l.val _ ?_)
  simp

/-- The gradient of the layer norm's bias so far. -/
theorem out8 (n : ℕ) (hR : R0 = n * 256) (hp : ∀ (a : Fin 1) (l : Fin 2048), xo8 (ix2 a l) = ((dlbN d n l.val : ℝ) : EReal)) (y : S1x2048.Idx) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.2.1 y = ((dlbN d (n + 1) (y 1).val : ℝ) : EReal) := by
  subst hR
  refine View.canon_append_of_pieces (fun y : S1x2048.Idx => ((dlbN d (n + 1) (y 1).val : ℝ) : EReal)) ((kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.2.1.drop 1)
    ((kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.2.1.take 1) ?_ y (View.cover_of_tiledL ((kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.2.1.take 1) S1x2048.size (by sl_kernel_rfl) y)
  refine List.forall_mem_cons.2 ⟨?_, fun _ h => absurd h List.not_mem_nil⟩
  intro y
  obtain ⟨j, l, rfl⟩ : ∃ (j : Fin 1) (l : Fin 2048), y = ix2 j l := ⟨y 0, y 1, eq_ix2 y⟩
  pointwise [r_5, r_17, r_18, r_19, r_20, r_21, r_22, v143, r_23, r_24, r_25, r_26, r_27, r_28, r_29, cst_115, r_30, r_31, r_32, r_33, r_34, r_35, r_36, r_37, r_38, r_39, r_40, r_41, r_42, r_43, r_44, r_45, r_46, r_47, r_48, r_49, r_50, r_51, r_52, v578, r_53, r_54, r_55, r_56, r_57, r_58, r_59, r_60, k0_pay1, k0_pay31, k0_pay32, k0_pay33, k0_pay35, k0_pay38, k0_pay39, k0_pay43, k0_pay44, k0_pay45, k0_pay46, k0_pay47, k0_pay51, k0_pay52, k0_pay56, k0_pay57, k0_pay58, k0_pay59, k0_pay62, k0_pay65, k0_pay66, k0_pay68, k0_pay69, k0_pay70, k0_pay72, k0_pay74, k0_pay78, k0_pay80, k0_pay81, k0_pay82, k0_pay85, k0_pay86, k0_pay87, k0_pay91, k0_pay92, k0_pay96, k0_pay97, k0_pay100, k0_pay101, k0_pay103, k0_pay104, k0_pay105, k0_pay106, k0_pay107, k0_pay112, k0_pay113, k0_pay115, k0_pay116, k0_pay117, k0_pay118, k0_pay121, k0_pay122, k0_pay126, k0_pay127, k0_pay128, k0_pay129, k0_pay130, k0_pay131, k0_pay132, k0_pay133, Memref.IsWhole.readAt_unread]
  simp only [r_4_val H, v677_val H, hp, word_ca, word_cc, word_eps, word_half, word_2048, named_three, lit_one, lit_zero, Ideal.tanh_coe, Ideal.exp_coe,
    ← EReal.coe_mul, ← EReal.coe_add, ← EReal.coe_sub, coe_sum, div_2048]
  refine congrArg _ (dlb_step d n l.val _ ?_)
  simp

/-- The gradient of the mixing biases so far. -/
theorem out10 (n : ℕ) (hR : R0 = n * 256) (hp : ∀ (t g : Fin 128), xo10 (ix2 t g) = ((dbsN d n t.val g.val : ℝ) : EReal)) (y : S128x128.Idx) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.2.2.2.1 y = ((dbsN d (n + 1) (y 0).val (y 1).val : ℝ) : EReal) := by
  subst hR
  refine View.canon_append_of_pieces (fun y : S128x128.Idx => ((dbsN d (n + 1) (y 0).val (y 1).val : ℝ) : EReal)) ((kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.2.2.2.1.drop 1)
    ((kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.2.2.2.1.take 1) ?_ y (View.cover_of_tiledL ((kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.2.2.2.1.take 1) S128x128.size (by sl_kernel_rfl) y)
  refine List.forall_mem_cons.2 ⟨?_, fun _ h => absurd h List.not_mem_nil⟩
  intro y
  obtain ⟨j, l, rfl⟩ : ∃ (j l : Fin 128), y = ix2 j l := ⟨y 0, y 1, eq_ix2 y⟩
  pointwise [r_5, r_17, r_18, r_19, r_20, r_21, r_22, v143, r_23, r_24, r_25, r_26, r_27, r_28, r_29, cst_115, r_30, r_31, r_32, r_33, r_34, r_35, r_36, r_37, r_38, r_39, r_40, r_41, r_42, r_43, r_44, r_45, r_46, r_47, r_48, r_49, r_50, r_51, r_52, v578, r_53, r_54, r_55, r_56, r_57, r_58, r_59, r_60, k0_pay1, k0_pay31, k0_pay32, k0_pay33, k0_pay35, k0_pay38, k0_pay39, k0_pay43, k0_pay44, k0_pay45, k0_pay46, k0_pay47, k0_pay51, k0_pay52, k0_pay56, k0_pay57, k0_pay58, k0_pay59, k0_pay62, k0_pay65, k0_pay66, k0_pay68, k0_pay69, k0_pay70, k0_pay72, k0_pay74, k0_pay78, k0_pay80, k0_pay81, k0_pay82, k0_pay85, k0_pay86, k0_pay87, k0_pay91, k0_pay92, k0_pay96, k0_pay97, k0_pay100, k0_pay101, k0_pay103, k0_pay104, k0_pay105, k0_pay106, k0_pay107, k0_pay112, k0_pay113, k0_pay115, k0_pay116, k0_pay117, k0_pay118, k0_pay121, k0_pay122, k0_pay126, k0_pay127, k0_pay128, k0_pay129, k0_pay130, k0_pay131, k0_pay132, k0_pay133, Memref.IsWhole.readAt_unread, v143]
  simp only [r_15_val H, hp, lane0, lane1, lane2, lane3, lane4, lane5, lane6, lane7, select_real, word_ca, word_cc, word_eps, word_half, word_2048, named_three, lit_one, lit_zero, Ideal.tanh_coe, Ideal.exp_coe,
    ← EReal.coe_mul, ← EReal.coe_add, ← EReal.coe_sub, coe_sum, div_2048]
  have e0 : (∑ k : Fin 256, ds d (n * 256 + j.val) k.val) + (∑ k : Fin 256, ds d (n * 256 + (128 + j.val)) k.val)
      = bsT d (n * 2) 0 j.val + bsT d (n * 2 + 1) 0 j.val :=
    bs_term d n 0 j.val 0 rfl _ (fun k => (Nat.zero_add _).symm)
  have e1 : (∑ k : Fin 256, ds d (n * 256 + j.val) (256 + k.val)) + (∑ k : Fin 256, ds d (n * 256 + (128 + j.val)) (256 + k.val))
      = bsT d (n * 2) 1 j.val + bsT d (n * 2 + 1) 1 j.val :=
    bs_term d n 1 j.val 256 rfl _ (fun k => rfl)
  have e2 : (∑ k : Fin 256, ds d (n * 256 + j.val) (512 + k.val)) + (∑ k : Fin 256, ds d (n * 256 + (128 + j.val)) (512 + k.val))
      = bsT d (n * 2) 2 j.val + bsT d (n * 2 + 1) 2 j.val :=
    bs_term d n 2 j.val 512 rfl _ (fun k => rfl)
  have e3 : (∑ k : Fin 256, ds d (n * 256 + j.val) (768 + k.val)) + (∑ k : Fin 256, ds d (n * 256 + (128 + j.val)) (768 + k.val))
      = bsT d (n * 2) 3 j.val + bsT d (n * 2 + 1) 3 j.val :=
    bs_term d n 3 j.val 768 rfl _ (fun k => rfl)
  have e4 : (∑ k : Fin 256, ds d (n * 256 + j.val) (1024 + k.val)) + (∑ k : Fin 256, ds d (n * 256 + (128 + j.val)) (1024 + k.val))
      = bsT d (n * 2) 4 j.val + bsT d (n * 2 + 1) 4 j.val :=
    bs_term d n 4 j.val 1024 rfl _ (fun k => rfl)
  have e5 : (∑ k : Fin 256, ds d (n * 256 + j.val) (1280 + k.val)) + (∑ k : Fin 256, ds d (n * 256 + (128 + j.val)) (1280 + k.val))
      = bsT d (n * 2) 5 j.val + bsT d (n * 2 + 1) 5 j.val :=
    bs_term d n 5 j.val 1280 rfl _ (fun k => rfl)
  have e6 : (∑ k : Fin 256, ds d (n * 256 + j.val) (1536 + k.val)) + (∑ k : Fin 256, ds d (n * 256 + (128 + j.val)) (1536 + k.val))
      = bsT d (n * 2) 6 j.val + bsT d (n * 2 + 1) 6 j.val :=
    bs_term d n 6 j.val 1536 rfl _ (fun k => rfl)
  have e7 : (∑ k : Fin 256, ds d (n * 256 + j.val) (1792 + k.val)) + (∑ k : Fin 256, ds d (n * 256 + (128 + j.val)) (1792 + k.val))
      = bsT d (n * 2) 7 j.val + bsT d (n * 2 + 1) 7 j.val :=
    bs_term d n 7 j.val 1792 rfl _ (fun k => rfl)
  rw [e0, e1, e2, e3, e4, e5, e6, e7]
  refine congrArg _ ((congrArg (_ + ·) (eight (fun g => bsT d (n * 2) g j.val + bsT d (n * 2 + 1) g j.val) l.val)).trans
    (dbs_step d n j.val l.val _ _ ?_ ?_))
  all_goals simp

/-- The gradient of the mixing weights so far. -/
theorem out9 (n : ℕ) (hR : R0 = n * 256) (hp : ∀ (g : Fin 8) (t s : Fin 128), xo9 (ix3 g t s) = ((dwsN d n g.val t.val s.val : ℝ) : EReal)) (y : S8x128x128.Idx) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.2.2.1 y = ((dwsN d (n + 1) (y 0).val (y 1).val (y 2).val : ℝ) : EReal) := by
  subst hR
  refine View.canon_append_of_pieces (fun y : S8x128x128.Idx => ((dwsN d (n + 1) (y 0).val (y 1).val (y 2).val : ℝ) : EReal)) ((kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.2.2.1.drop 8)
    ((kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.2.2.1.take 8) ?_ y (View.cover_of_tiledL ((kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 xo9 xo10).2.2.2.1.take 8) S1x128x128.size (by sl_kernel_rfl) y)
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, v578, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread, v258, v322, v386, v450, v514, v578, v642]
    simp only [r_6_val H, r_14_val H, mask, hp, select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 7 t.val s.val _ _ _ 1792 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, v578, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread, v258, v322, v386, v450, v514, v578, v642]
    simp only [r_6_val H, r_14_val H, mask, hp, select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 6 t.val s.val _ _ _ 1536 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, v578, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread, v258, v322, v386, v450, v514, v578, v642]
    simp only [r_6_val H, r_14_val H, mask, hp, select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 5 t.val s.val _ _ _ 1280 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, v578, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread, v258, v322, v386, v450, v514, v578, v642]
    simp only [r_6_val H, r_14_val H, mask, hp, select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 4 t.val s.val _ _ _ 1024 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, v578, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread, v258, v322, v386, v450, v514, v578, v642]
    simp only [r_6_val H, r_14_val H, mask, hp, select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 3 t.val s.val _ _ _ 768 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, v578, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread, v258, v322, v386, v450, v514, v578, v642]
    simp only [r_6_val H, r_14_val H, mask, hp, select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 2 t.val s.val _ _ _ 512 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, v578, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread, v258, v322, v386, v450, v514, v578, v642]
    simp only [r_6_val H, r_14_val H, mask, hp, select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 1 t.val s.val _ _ _ 256 rfl _ (fun k => rfl) ?_ ?_ ?_)
    all_goals simp
  refine List.forall_mem_cons.2 ⟨?_, ?_⟩
  · intro y
    obtain ⟨a, t, s, rfl⟩ : ∃ (a : Fin 1) (t s : Fin 128), y = ix3 a t s := ⟨y 0, y 1, y 2, eq_ix3 y⟩
    pointwise [r_19, r_20, r_24, r_30, r_39, r_44, r_46, r_47, r_52, v578, r_56, cst_60, k0_pay34, k0_pay38, k0_pay39, k0_pay42, k0_pay51, k0_pay55, k0_pay59, k0_pay65, k0_pay67, k0_pay71, k0_pay79, k0_pay85, k0_pay90, k0_pay96, k0_pay100, k0_pay101, k0_pay102, k0_pay106, k0_pay113, k0_pay114, k0_pay121, k0_pay125, Memref.IsWhole.readAt_unread, v258, v322, v386, v450, v514, v578, v642]
    simp only [r_6_val H, r_14_val H, mask, hp, select_real, word_ca, word_cc, word_eps, word_half, word_2048, named_three, lit_one, lit_zero, Ideal.tanh_coe, Ideal.exp_coe,
    ← EReal.coe_mul, ← EReal.coe_add, ← EReal.coe_sub, coe_sum, div_2048]
    refine congrArg _ (dws_step d n 0 t.val s.val _ _ _ 0 rfl _ (fun k => (Nat.zero_add _).symm) ?_ ?_ ?_)
    all_goals simp
  exact fun _ h => absurd h List.not_mem_nil

end Cert.Mixer.B

end
-- ==== Proof.Fold.lean ====
/- What the kernel's run leaves in its five results: the blocks of every grid point, put together. -/
module

public import proofs.«01_k».proof.Proof.OutsA
public import proofs.«01_k».proof.Proof.OutsB
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.Mixer

open Idealize.ShloMosaic Idealize.ShloMosaic.TcCoe Cert.KernelIdeal Cert.KernelIdeal.Gen

/-- The six arrays that the call is given hold the arguments. -/
structure Given (d : Args) (a0 : (⟨2, ![4096, 6144]⟩ : Shape).Idx → EReal) (a1 : (⟨2, ![4096, 2048]⟩ : Shape).Idx → EReal)
    (a2 a3 : (⟨2, ![1, 2048]⟩ : Shape).Idx → EReal) (a4 : (⟨4, ![1, 8, 128, 128]⟩ : Shape).Idx → EReal)
    (a5 : (⟨3, ![1, 8, 128]⟩ : Shape).Idx → EReal) : Prop where
  p : ∀ (r : Fin 4096) (l : Fin 6144), a0 (ix2 r l) = ((d.P r.val l.val : ℝ) : EReal)
  dy : ∀ (r : Fin 4096) (l : Fin 2048), a1 (ix2 r l) = ((d.DY r.val l.val : ℝ) : EReal)
  lg : ∀ (a : Fin 1) (l : Fin 2048), a2 (ix2 a l) = ((d.LG l.val : ℝ) : EReal)
  lb : ∀ (a : Fin 1) (l : Fin 2048), a3 (ix2 a l) = ((d.LB l.val : ℝ) : EReal)
  ws : ∀ (a : Fin 1) (g : Fin 8) (t s : Fin 128), a4 (ix4 a g t s) = ((d.WS g.val t.val s.val : ℝ) : EReal)
  bs : ∀ (a : Fin 1) (g : Fin 8) (t : Fin 128), a5 (ix3 a g t) = ((d.BS g.val t.val : ℝ) : EReal)

variable (m : (ℓ : Loc nD τ sig) → Buf (Elt Ideal) ℓ) (c : Dev nD) (d : Args)

/-- The kernel's arguments hold `d`. -/
abbrev Holds : Prop := Given d (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

theorem points : ∀ t : Fin grid0.N, win0_0.index t = ![t.val, 0] ∧ win0_1.index t = ![t.val, 0]
    ∧ win0_2.index t = ![0, 0] ∧ win0_3.index t = ![0, 0] ∧ win0_4.index t = ![0, 0, 0] ∧ win0_5.index t = ![0, 0]
    ∧ win0_6.index t = ![t.val, 0] ∧ win0_7.index t = ![0, 0] ∧ win0_8.index t = ![0, 0] ∧ win0_9.index t = ![0, 0, 0]
    ∧ win0_10.index t = ![0, 0] := by decide +kernel

/-- The weights as the call is given them. -/
theorem weights_at (g : Fin 8) (t s : Fin 128) :
    Gen.V m c main_v3 (ix3 g t s) = m ((c : Thread nD τ).loc main_arg4) (ix4 0 g t s) := by
  unfold Gen.V
  simp only [List.flatten_cons, List.flatten_nil, hostOps0, hostOps0_1, hostOps0_2, List.append_nil, List.cons_append, List.nil_append]
  after_reads_at

/-- The biases as the call is given them. -/
theorem biases_at (t g : Fin 128) (hg : g.val < 8) :
    Gen.V m c main_v2 (ix2 t g) = m ((c : Thread nD τ).loc main_arg5) (ix3 0 ⟨g.val, hg⟩ t) := by
  unfold Gen.V
  simp only [List.flatten_cons, List.flatten_nil, hostOps0, hostOps0_1, hostOps0_2, List.append_nil, List.cons_append, List.nil_append]
  after_reads_at
  exact dif_pos hg

variable {m c d}

theorem data_at (G : Holds m c d) (t : Fin cfg0.N) :
    Data d (t.val * 256) (iblk m c 0 t) (iblk m c 1 t) (iblk m c 2 t) (iblk m c 3 t) (iblk m c 4 t) (iblk m c 5 t) where
  dvd := by omega
  p r l := by
    have e : iblk m c 0 t (ix2 r l) = m ((c : Thread nD τ).loc main_arg0) (ix2 ⟨t.val * 256 + r.val, by have := t.isLt; have : cfg0.N = 16 := N_0; omega⟩ l) := by
      blk_ext [iblk, Gen.V, points t]
    rw [e, G.p]
  dy r l := by
    have e : iblk m c 1 t (ix2 r l) = m ((c : Thread nD τ).loc main_arg1) (ix2 ⟨t.val * 256 + r.val, by have := t.isLt; have : cfg0.N = 16 := N_0; omega⟩ l) := by
      blk_ext [iblk, Gen.V, points t]
    rw [e, G.dy]
  lg a l := by
    have e : iblk m c 2 t (ix2 a l) = m ((c : Thread nD τ).loc main_arg2) (ix2 a l) := by
      blk_ext [iblk, Gen.V, points t]
    rw [e, G.lg]
  lb a l := by
    have e : iblk m c 3 t (ix2 a l) = m ((c : Thread nD τ).loc main_arg3) (ix2 a l) := by
      blk_ext [iblk, Gen.V, points t]
    rw [e, G.lb]
  ws g t' s := by
    have e : iblk m c 4 t (ix3 g t' s) = Gen.V m c main_v3 (ix3 g t' s) := by blk_ext [iblk, points t]
    rw [e, weights_at, G.ws]
  bs t' g hg := by
    have e : iblk m c 5 t (ix2 t' g) = Gen.V m c main_v2 (ix2 t' g) := by blk_ext [iblk, points t]
    rw [e, biases_at _ _ _ _ hg, G.bs]

/-- What the five output blocks hold after point `n`: the rows of the point's own block, and the sums over the blocks so far. -/
structure Left (d : Args) (n : ℕ) (o : Vec Ideal S256x6144 .bf16 × Vec Ideal S1x2048 .f32 × Vec Ideal S1x2048 .f32
    × Vec Ideal S8x128x128 .f32 × Vec Ideal S128x128 .f32) : Prop where
  o6 : ∀ y, o.1 y = ((dp d (n * 256 + (y 0).val) (y 1).val : ℝ) : EReal)
  o7 : ∀ y, o.2.1 y = ((dlgN d (n + 1) (y 1).val : ℝ) : EReal)
  o8 : ∀ y, o.2.2.1 y = ((dlbN d (n + 1) (y 1).val : ℝ) : EReal)
  o9 : ∀ y, o.2.2.2.1 y = ((dwsN d (n + 1) (y 0).val (y 1).val (y 2).val : ℝ) : EReal)
  o10 : ∀ y, o.2.2.2.2 y = ((dbsN d (n + 1) (y 0).val (y 1).val : ℝ) : EReal)

/-- The first point leaves them so. -/
theorem left_first (G : Holds m c d) (t : Fin cfg0.N) (h0 : t.val % 16 = 0) : Left d t.val (outsAt0 m c t.val t.isLt) := by
  have H := data_at G t
  have z : t.val = 0 := by have := t.isLt; have : cfg0.N = 16 := N_0; omega
  rw [outsAt0_A m c t h0]
  constructor <;> intro y <;> dsimp only
  · unfold out0_A_6
    rw [View.read_writes_junk_eq_canon]
    exact A.out6 (H := H) (y := y) ..
  · unfold out0_A_7
    rw [View.read_writes_junk_eq_canon]
    exact A.out7 (H := H) (n := t.val) (hn := z) (hR := rfl) (y := y) ..
  · unfold out0_A_8
    rw [View.read_writes_junk_eq_canon]
    exact A.out8 (H := H) (n := t.val) (hn := z) (hR := rfl) (y := y) ..
  · unfold out0_A_9
    rw [View.read_writes_junk_eq_canon]
    exact A.out9 (H := H) (n := t.val) (hn := z) (hR := rfl) (y := y) ..
  · unfold out0_A_10
    rw [View.read_writes_junk_eq_canon]
    exact A.out10 (H := H) (n := t.val) (hn := z) (hR := rfl) (y := y) ..

/-- Every later point leaves them so when the one before does. -/
theorem left_next (G : Holds m c d) (t : Fin cfg0.N) (h0 : ¬t.val % 16 = 0)
    (L : Left d (t.val - 1) (outsAt0 m c (t.val - 1) (Nat.lt_of_le_of_lt (Nat.sub_le _ _) t.isLt))) : Left d t.val (outsAt0 m c t.val t.isLt) := by
  have H := data_at G t
  have z : t.val - 1 + 1 = t.val := by omega
  rw [outsAt0_B m c t h0]
  generalize outsAt0 m c (t.val - 1) (Nat.lt_of_le_of_lt (Nat.sub_le _ _) t.isLt) = o at L
  obtain ⟨-, L7, L8, L9, L10⟩ := L
  rw [z] at L7 L8 L9 L10
  constructor <;> intro y <;> dsimp only
  · unfold out0_B_6
    rw [View.read_writes_junk_eq_canon]
    exact B.out6 (H := H) (y := y) ..
  · unfold out0_B_7
    rw [View.read_writes_junk_eq_canon]
    exact B.out7 (H := H) (n := t.val) (hR := rfl) (hp := (fun a l => L7 _)) (y := y) ..
  · unfold out0_B_8
    rw [View.read_writes_junk_eq_canon]
    exact B.out8 (H := H) (n := t.val) (hR := rfl) (hp := (fun a l => L8 _)) (y := y) ..
  · unfold out0_B_9
    rw [View.read_writes_junk_eq_canon]
    exact B.out9 (H := H) (n := t.val) (hR := rfl) (hp := (fun g t s => L9 _)) (y := y) ..
  · unfold out0_B_10
    rw [View.read_writes_junk_eq_canon]
    exact B.out10 (H := H) (n := t.val) (hR := rfl) (hp := (fun t g => L10 _)) (y := y) ..

/-- Every point leaves them so. -/
theorem left_at (G : Holds m c d) (n : ℕ) (hn : n < cfg0.N) : Left d n (outsAt0 m c n hn) := by
  induction n with
  | zero => exact left_first G ⟨0, hn⟩ (Nat.zero_mod _)
  | succ n ih =>
    exact left_next G ⟨n + 1, hn⟩ (by have : cfg0.N = 16 := N_0; dsimp only; omega) (ih (Nat.lt_of_succ_lt hn))

/-- The gradient of the projections, over all 4096 rows. -/
theorem final6 (G : Holds m c d) : (dats m 0 c).arrAt 6 cfg0.N = fun y : S4096x6144.Idx => ((dp d (y 0).val (y 1).val : ℝ) : EReal) := by
  refine (dats m 0 c).arrAt_eq_of_covers 6 (fun y : S4096x6144.Idx => ((dp d (y 0).val (y 1).val : ℝ) : EReal)) (by decide +kernel) fun t hf y => ?_
  blk_simp
  rw [after0_6, (left_at G t.val t.isLt).o6]
  simp [points t]

/-- The gradient of the normalisation's scale. -/
theorem final7 (G : Holds m c d) : (dats m 0 c).arrAt 7 cfg0.N = fun y : S1x2048.Idx => ((dlgN d 16 (y 1).val : ℝ) : EReal) := by
  refine (dats m 0 c).arrAt_eq_of_after_last 7 t0_15 (by decide +kernel) _ fun j => ?_
  blk_simp
  exact (congrFun (after0_7 m c t0_15) j).trans ((left_at G t0_15.val t0_15.isLt).o7 j)

/-- The gradient of the normalisation's shift. -/
theorem final8 (G : Holds m c d) : (dats m 0 c).arrAt 8 cfg0.N = fun y : S1x2048.Idx => ((dlbN d 16 (y 1).val : ℝ) : EReal) := by
  refine (dats m 0 c).arrAt_eq_of_after_last 8 t0_15 (by decide +kernel) _ fun j => ?_
  blk_simp
  exact (congrFun (after0_8 m c t0_15) j).trans ((left_at G t0_15.val t0_15.isLt).o8 j)

/-- The gradient of the spatial weights. -/
theorem final9 (G : Holds m c d) : (dats m 0 c).arrAt 9 cfg0.N = fun y : S8x128x128.Idx => ((dwsN d 16 (y 0).val (y 1).val (y 2).val : ℝ) : EReal) := by
  refine (dats m 0 c).arrAt_eq_of_after_last 9 t0_15 (by decide +kernel) _ fun j => ?_
  blk_simp
  exact (congrFun (after0_9 m c t0_15) j).trans ((left_at G t0_15.val t0_15.isLt).o9 j)

/-- The gradient of the spatial biases, a column for each group. -/
theorem final10 (G : Holds m c d) : (dats m 0 c).arrAt 10 cfg0.N = fun y : S128x128.Idx => ((dbsN d 16 (y 0).val (y 1).val : ℝ) : EReal) := by
  refine (dats m 0 c).arrAt_eq_of_after_last 10 t0_15 (by decide +kernel) _ fun j => ?_
  blk_simp
  exact (congrFun (after0_10 m c t0_15) j).trans ((left_at G t0_15.val t0_15.isLt).o10 j)

end Cert.Mixer

end
-- ==== Proof.Sums.lean ====
/- Sums over several axes, and sums over rows taken by blocks. -/
module

public import Idealize.ShloMosaic.PureOps.Ideal
public import Idealize.ShloMosaic.PureOps.Ideal.Laws
public import Idealize.ShloMosaic.Lib.Pointwise.Index

@[expose] public section

namespace Cert.Mixer

open Idealize.ShloMosaic

/-- A reduction by addition is the initial value plus the sum over any family that runs once through the elements
    that reduce to the index. -/
theorem reduce_sum {s t : Shape} {axes : List (Fin s.rank)} (h : s.ReducesTo axes t) (x : s.Idx → EReal) (c : EReal)
    (j : t.Idx) {ι : Type} [Fintype ι] (e : ι → s.Idx) (p : s.Idx → ι) (hd : ∀ k, h.drop (e k) = j)
    (hp : ∀ k, p (e k) = k) (he : ∀ i, h.drop i = j → e (p i) = i) :
    Ideal.hostReduceAdd h x c j = c + ∑ k : ι, x (e k) := by
  unfold Ideal.hostReduceAdd
  refine congrArg (c + ·) (Finset.sum_nbij' p e ?_ ?_ ?_ ?_ ?_)
  · exact fun _ _ => Finset.mem_univ _
  · exact fun k _ => Finset.mem_filter.2 ⟨Finset.mem_univ _, hd k⟩
  · exact fun i hi => he i (Finset.mem_filter.1 hi).2
  · exact fun k _ => hp k
  · exact fun i hi => congrArg x (he i (Finset.mem_filter.1 hi).2).symm

/-- A sum over `a * b` rows is the sum over `a` blocks of `b` rows. -/
theorem sum_blocks (a b : ℕ) (f : ℕ → ℝ) :
    ∑ r ∈ Finset.range (a * b), f r = ∑ i : Fin a, ∑ j : Fin b, f (i.val * b + j.val) := by
  rw [Finset.sum_range, ← finProdFinEquiv.sum_comp, Fintype.sum_prod_type]
  refine Finset.sum_congr rfl fun i _ => Finset.sum_congr rfl fun j _ => congrArg f ?_
  simp only [finProdFinEquiv_apply_val]
  rw [Nat.mul_comm, Nat.add_comm]

end Cert.Mixer
-- ==== Proof.RefSums.lean ====
/- The reference's sums over several axes at an index. -/
module
public import proofs.«01_k».proof.Proof.Sums
public import proofs.«01_k».proof.Proof.Fold
public import proofs.«01_k».proof.Proof.Gen.ReferenceIdeal.Read
public import Idealize.ShloMosaic.Lib.Pointwise
@[expose] public section
set_option maxRecDepth 16384
noncomputable section
namespace Cert.Mixer.Ref
open Idealize.ShloMosaic Idealize.ShloMosaic.TcCoe Cert.ReferenceIdeal Cert.ReferenceIdeal.Gen Cert.ReferenceIdeal.Read

/-- A sum over sequences, blocks and a group's channels. -/
theorem sum5 (x : S2x16x128x8x256.Idx → EReal) (c : EReal) (q : Fin 128) (g : Fin 8) :
    Ideal.hostReduceAdd reducesTo_S2x16x128x8x256_S128x8_d0_1_4 x c (ix2 q g)
      = c + ∑ b : Fin 2, ∑ n : Fin 16, ∑ e : Fin 256, x (ix5 b n q g e) := by
  rw [reduce_sum (ι := Fin 2 × Fin 16 × Fin 256) _ x c (ix2 q g) (fun k => ix5 k.1 k.2.1 q g k.2.2) (fun i => (i 0, i 1, i 4))
    (fun k => by funext a; fin_cases a <;> rfl) (fun k => rfl)
    (fun i hi => by
      have h0 : i 2 = q := congrFun hi 0
      have h1 : i 3 = g := congrFun hi 1
      subst h0; subst h1
      exact (eq_ix5 i).symm)]
  simp only [Fintype.sum_prod_type]

/-- The same sum over axes of one element. -/
theorem sum5u (x : S1x1x128x8x1.Idx → EReal) (c : EReal) (q : Fin 128) (g : Fin 8) :
    Ideal.hostReduceAdd reducesTo_S1x1x128x8x1_S128x8_d0_1_4 x c (ix2 q g) = c + x (ix5 0 0 q g 0) := by
  rw [reduce_sum (ι := Unit) _ x c (ix2 q g) (fun k => ix5 0 0 q g 0) (fun i => ())
    (fun k => by funext a; fin_cases a <;> rfl) (fun k => rfl)
    (fun i hi => by
      have h0 : i 2 = q := congrFun hi 0
      have h1 : i 3 = g := congrFun hi 1
      subst h0; subst h1
      refine Eq.trans ?_ (eq_ix5 i).symm
      rw [show i 0 = (0 : Fin 1) from Subsingleton.elim (α := Fin 1) _ _, show i 1 = (0 : Fin 1) from Subsingleton.elim (α := Fin 1) _ _,
        show i 4 = (0 : Fin 1) from Subsingleton.elim (α := Fin 1) _ _])]
  simp

/-- The product contracted over sequences, blocks and a group's channels. -/
theorem dot5 (x : S8x2x16x256x128.Idx → EReal) (y : S2x16x128x8x256.Idx → EReal) (c : S8x128x128.Idx → EReal) (g : Fin 8) (t s : Fin 128) :
    Ideal.matmul dot_S8x2x16x256x128_S2x16x128x8x256_S8x128x128_123_014_4_2_0_3 x y c (ix3 g t s)
      = c (ix3 g t s) + ∑ b : Fin 2, ∑ n : Fin 16, ∑ e : Fin 256, x (ix5 g b n e t) * y (ix5 b n s g e) := by
  unfold Ideal.matmul
  refine congrArg (c (ix3 g t s) + ·) ?_
  let D := dot_S8x2x16x256x128_S2x16x128x8x256_S8x128x128_123_014_4_2_0_3
  have key : ∀ f : D.contr.Idx → EReal, ∑ k, f k = ∑ k : Fin 2 × Fin 16 × Fin 256,
      f (fun a : Fin 3 => match a with | 0 => k.1 | 1 => k.2.1 | 2 => k.2.2) := fun f =>
    Finset.sum_nbij' (fun k => (k (0 : Fin 3), k (1 : Fin 3), k (2 : Fin 3))) (fun k => (fun a : Fin 3 => match a with | 0 => k.1 | 1 => k.2.1 | 2 => k.2.2))
      (fun _ _ => Finset.mem_univ _) (fun _ _ => Finset.mem_univ _)
      (fun k _ => by funext a; change Fin 3 at a; fin_cases a <;> rfl) (fun k _ => rfl)
      (fun k _ => congrArg f (by funext a; change Fin 3 at a; fin_cases a <;> rfl))
  refine (key _).trans ?_
  simp only [Fintype.sum_prod_type]
  refine Finset.sum_congr rfl fun b _ => Finset.sum_congr rfl fun n _ => Finset.sum_congr rfl fun e _ => ?_
  refine congrArg₂ (· * ·) (congrArg x ?_) (congrArg y ?_)
  · funext a; fin_cases a <;> rfl
  · funext a; fin_cases a <;> rfl

/-- A sum over all rows. -/
theorem sum3 (x : S2x2048x2048.Idx → EReal) (c : EReal) (l : Fin 2048) :
    Ideal.hostReduceAdd reducesTo_S2x2048x2048_S2048_d0_1 x c (ix1 l)
      = c + ∑ b : Fin 2, ∑ r : Fin 2048, x (ix3 b r l) := by
  rw [reduce_sum (ι := Fin 2 × Fin 2048) _ x c (ix1 l) (fun k => ix3 k.1 k.2 l) (fun i => (i 0, i 1))
    (fun k => by funext a; fin_cases a <;> rfl) (fun k => rfl)
    (fun i hi => by
      have h0 : i 2 = l := congrFun hi 0
      subst h0
      exact (eq_ix3 i).symm)]
  simp only [Fintype.sum_prod_type]

/-- The same sum over axes of one element. -/
theorem sum3u (x : S1x1x2048.Idx → EReal) (c : EReal) (l : Fin 2048) :
    Ideal.hostReduceAdd reducesTo_S1x1x2048_S2048_d0_1 x c (ix1 l) = c + x (ix3 0 0 l) := by
  rw [reduce_sum (ι := Unit) _ x c (ix1 l) (fun k => ix3 0 0 l) (fun i => ())
    (fun k => by funext a; fin_cases a <;> rfl) (fun k => rfl)
    (fun i hi => by
      have h0 : i 2 = l := congrFun hi 0
      subst h0
      refine Eq.trans ?_ (eq_ix3 i).symm
      rw [show i 0 = (0 : Fin 1) from Subsingleton.elim (α := Fin 1) _ _, show i 1 = (0 : Fin 1) from Subsingleton.elim (α := Fin 1) _ _])]
  simp
end Cert.Mixer.Ref
end
-- ==== Proof.RefA.lean ====
/- The reference over the reals: the activation functions, the layer norm and the mixed values. -/
module

public import proofs.«01_k».proof.Proof.Fold
public import proofs.«01_k».proof.Proof.RefSums
public import proofs.«01_k».proof.Proof.Gen.ReferenceIdeal.Read
public import Idealize.ShloMosaic.Lib.Pointwise
public import Idealize.ShloMosaic.Lib.IdealHost

@[expose] public section

set_option maxRecDepth 16384

noncomputable section

namespace Cert.Mixer.Ref

open Idealize.ShloMosaic Idealize.ShloMosaic.TcCoe Cert.ReferenceIdeal Cert.ReferenceIdeal.Gen Cert.ReferenceIdeal.Read

variable {d : Args} {x0 : (⟨S4096x6144, .f32⟩ : BufTy).Contents (Elt Ideal)} {x1 : (⟨S4096x2048, .f32⟩ : BufTy).Contents (Elt Ideal)}
  {x2 x3 : (⟨S1x2048, .f32⟩ : BufTy).Contents (Elt Ideal)} {x4 : (⟨S1x8x128x128, .f32⟩ : BufTy).Contents (Elt Ideal)}
  {x5 : (⟨S1x8x128, .f32⟩ : BufTy).Contents (Elt Ideal)} (G : Given d x0 x1 x2 x3 x4 x5)
include G

theorem v5_val (b : Fin 2) (r : Fin 2048) (c : Fin 4096) :
    val_main_v5 x0 (ix3 b r c) = ((d.P (b.val * 2048 + r.val) c.val : ℝ) : EReal) := by
  pointwise [val_main_v5, val_main_v0]
  rw [G.p]

theorem v6_val (b : Fin 2) (r : Fin 2048) (c : Fin 2048) :
    val_main_v6 x0 (ix3 b r c) = ((gt d (b.val * 2048 + r.val) c.val : ℝ) : EReal) := by
  pointwise [val_main_v6, val_main_v0]
  rw [G.p]
  rfl

theorem v17_val (b : Fin 2) (r : Fin 2048) (c : Fin 4096) :
    val_main_v17 x0 (ix3 b r c) = ((th (d.P (b.val * 2048 + r.val) c.val) : ℝ) : EReal) := by
  pointwise [val_main_v17, val_main_v16, val_main_v14, val_main_v13, val_main_v8, val_main_v7, val_main_v15, val_main_v12, val_main_cst_0, val_main_cst_1]
  simp only [v5_val G, word_ca, word_cc, Ideal.tanh_coe, ← EReal.coe_mul, ← EReal.coe_add]
  rfl

theorem v26_val (b : Fin 2) (r : Fin 2048) (c : Fin 4096) :
    val_main_v26 x0 (ix3 b r c) = ((1 / 2 * (1 + th (d.P (b.val * 2048 + r.val) c.val)) : ℝ) : EReal) := by
  pointwise [val_main_v26, val_main_v25, val_main_v24, val_main_v23, val_main_cst_4, val_main_cst_5]
  simp only [v17_val G, word_half, word_one, lit_one, ← EReal.coe_mul, ← EReal.coe_add]

theorem v22_val (b : Fin 2) (r : Fin 2048) (c : Fin 4096) :
    val_main_v22 x0 (ix3 b r c) = (((1 + th (d.P (b.val * 2048 + r.val) c.val)) * (1 - th (d.P (b.val * 2048 + r.val) c.val)) : ℝ) : EReal) := by
  pointwise [val_main_v22, val_main_v21, val_main_v20, val_main_v19, val_main_v18, val_main_cst_2, val_main_cst_3]
  simp only [v17_val G, lit_one, ← EReal.coe_mul, ← EReal.coe_add, ← EReal.coe_sub]

theorem v27_val (b : Fin 2) (r : Fin 2048) (c : Fin 4096) :
    val_main_v27 x0 (ix3 b r c) = ((gelu (d.P (b.val * 2048 + r.val) c.val) : ℝ) : EReal) := by
  pointwise [val_main_v27]
  simp only [v26_val G, v5_val G, ← EReal.coe_mul]
  rfl

theorem v28_val (b : Fin 2) (r : Fin 2048) (c : Fin 2048) :
    val_main_v28 x0 (ix3 b r c) = ((U d (b.val * 2048 + r.val) c.val : ℝ) : EReal) := by
  pointwise [val_main_v28]
  simp only [v27_val G]
  rfl

theorem v29_val (b : Fin 2) (r : Fin 2048) (c : Fin 2048) :
    val_main_v29 x0 (ix3 b r c) = ((V d (b.val * 2048 + r.val) c.val : ℝ) : EReal) := by
  pointwise [val_main_v29]
  simp only [v27_val G]
  rfl

theorem v33_val (b : Fin 2) (r : Fin 2048) (a : Fin 1) :
    val_main_v33 x0 (ix3 b r a) = ((mu d (b.val * 2048 + r.val) : ℝ) : EReal) := by
  pointwise [val_main_v33, val_main_v31, val_main_v30, val_main_v32, val_main_cst_6, val_main_cst_7]
  simp only [v29_val G, word_2048, lit_zero, ← EReal.coe_add, coe_sum, div_2048, zero_add]
  rfl

theorem v35_val (b : Fin 2) (r : Fin 2048) (c : Fin 2048) :
    val_main_v35 x0 (ix3 b r c) = ((cen d (b.val * 2048 + r.val) c.val : ℝ) : EReal) := by
  pointwise [val_main_v35, val_main_v34]
  simp only [v29_val G, v33_val G, ← EReal.coe_sub]
  rfl

theorem v44_val (b : Fin 2) (r : Fin 2048) (c : Fin 2048) :
    val_main_v44 x0 (ix3 b r c) = ((cen d (b.val * 2048 + r.val) c.val : ℝ) : EReal) := by
  pointwise [val_main_v44, val_main_v43]
  simp only [v29_val G, v33_val G, ← EReal.coe_sub]
  rfl

theorem v46_val (b : Fin 2) (r : Fin 2048) (a : Fin 1) :
    val_main_v46 x0 (ix3 b r a) = ((var d (b.val * 2048 + r.val) + ceps : ℝ) : EReal) := by
  pointwise [val_main_v46, val_main_v45, val_main_v42, val_main_v40, val_main_v39, val_main_v41, val_main_v36, val_main_cst_9, val_main_cst_10, val_main_cst_11]
  simp only [v35_val G, word_2048, word_eps, lit_zero, ← EReal.coe_mul, ← EReal.coe_add, coe_sum, div_2048, zero_add]
  rfl

theorem v47_val (b : Fin 2) (r : Fin 2048) (a : Fin 1) :
    val_main_v47 x0 (ix3 b r a) = ((rstd d (b.val * 2048 + r.val) : ℝ) : EReal) := by
  pointwise [val_main_v47]
  rw [v46_val G, rsqrt_real _ (var_eps_pos d _)]
  rfl

theorem v50_val (b : Fin 2) (r : Fin 2048) (a : Fin 1) :
    val_main_v50 x0 (ix3 b r a) = ((-(1 / 2) * (rstd d (b.val * 2048 + r.val) / (var d (b.val * 2048 + r.val) + ceps)) : ℝ) : EReal) := by
  pointwise [val_main_v50, val_main_v49, val_main_v48, val_main_cst_12]
  rw [v46_val G, v47_val G, word_neg_half, div_real _ _ (var_eps_pos d _).ne', ← EReal.coe_mul]

theorem v52_val (b : Fin 2) (r : Fin 2048) (c : Fin 2048) :
    val_main_v52 x0 (ix3 b r c) = ((vh d (b.val * 2048 + r.val) c.val : ℝ) : EReal) := by
  pointwise [val_main_v52, val_main_v51]
  simp only [v44_val G, v47_val G, ← EReal.coe_mul]
  rfl

theorem v58_val (b : Fin 2) (r : Fin 2048) (c : Fin 2048) :
    val_main_v58 x0 x2 x3 (ix3 b r c) = ((vb d (b.val * 2048 + r.val) c.val : ℝ) : EReal) := by
  pointwise [val_main_v58, val_main_v55, val_main_v54, val_main_v53, val_main_v57, val_main_v56, val_main_v1, val_main_v2]
  simp only [v52_val G, G.lg, G.lb, ← EReal.coe_mul, ← EReal.coe_add]
  rfl

theorem v59_val (b : Fin 2) (n : Fin 16) (q : Fin 128) (g : Fin 8) (e : Fin 256) :
    val_main_v59 x0 x2 x3 (ix5 b n q g e) = ((vb d (b.val * 2048 + n.val * 128 + q.val) (g.val * 256 + e.val) : ℝ) : EReal) := by
  pointwise [val_main_v59]
  simp only [v58_val G, Nat.add_assoc]

theorem v78_2_val (b : Fin 2) (r : Fin 2048) (c : Fin 2048) :
    val_main_v78_2 x0 (ix3 b r c) = ((sg (gt d (b.val * 2048 + r.val) c.val) : ℝ) : EReal) := by
  pointwise [val_main_v78_2, val_main_call3_v4, val_main_call3_v3, val_main_call3_v2, val_main_call3_v1, val_main_call3_v0, val_main_call3_cst, val_main_call3_cst_0]
  simp only [v6_val G, lit_one, ← EReal.coe_neg, Ideal.exp_coe, ← EReal.coe_add]
  rw [div_real _ _ (one_add_exp_ne _)]
  refine congrArg _ ?_
  unfold sg
  rw [zero_sub]

theorem v78_0_val (b : Fin 2) (r : Fin 2048) (c : Fin 2048) :
    val_main_v78_0 x0 (ix3 b r c) = ((gt d (b.val * 2048 + r.val) c.val * sg (gt d (b.val * 2048 + r.val) c.val) : ℝ) : EReal) := by
  pointwise [val_main_v78_0]
  simp only [v6_val G, v78_2_val G, ← EReal.coe_mul]

theorem v78_1_val (b : Fin 2) (r : Fin 2048) (c : Fin 2048) :
    val_main_v78_1 x0 (ix3 b r c) = ((sg (gt d (b.val * 2048 + r.val) c.val) * (1 - sg (gt d (b.val * 2048 + r.val) c.val)) : ℝ) : EReal) := by
  pointwise [val_main_v78_1, val_main_call3_v7, val_main_call3_v6, val_main_call3_cst_1]
  simp only [v78_2_val G, lit_one, ← EReal.coe_mul, ← EReal.coe_sub]

omit G in
theorem v62_val : ∀ s : Fin 128, val_main_v62 (F := Ideal) (ix2 0 s) = BitVec.ofNat 32 (s.val / 64) := by decide +kernel
omit G in
theorem v64_val : ∀ s : Fin 128, val_main_v64 (F := Ideal) (ix2 s 0) = BitVec.ofNat 32 (s.val / 64) := by decide +kernel

omit G in
/-- The mask of chunks of 64. -/
theorem v67_val (t s : Fin 128) : val_main_v67 (F := Ideal) (ix2 t s) = if s.val / 64 ≤ t.val / 64 then 1#1 else 0#1 := by
  pointwise [val_main_v67, val_main_v65, val_main_v66]
  rw [v62_val, v64_val]
  revert t s
  decide +kernel

theorem v69_0_val (g : Fin 8) (t s : Fin 128) :
    val_main_v69_0 x4 (ix3 g t s) = ((W d g.val t.val s.val : ℝ) : EReal) := by
  pointwise [val_main_v69_0, val_main_v69_1, val_main_v68, val_main_v3, val_main_call2_v1, val_main_cst_14]
  rw [v67_val, G.ws, lit_zero]
  unfold W
  split_ifs <;> rfl

omit G in
/-- A row's block and its place in the block do not depend on the sequence. -/
theorem row_block (b : Fin 2) (r : Fin 2048) : b.val * 2048 + r.val / 128 * 128 = (b.val * 2048 + r.val) / 128 * 128
    ∧ r.val % 128 = (b.val * 2048 + r.val) % 128 := by omega

theorem v76_val (b : Fin 2) (r : Fin 2048) (c : Fin 2048) :
    val_main_v76 x0 x2 x3 x4 x5 (ix3 b r c) = ((S d (b.val * 2048 + r.val) c.val : ℝ) : EReal) := by
  pointwise [val_main_v76, val_main_v75, val_main_v74, val_main_v73, val_main_v72, val_main_v71, val_main_v70, val_main_v4]
  simp only [v69_0_val G, v59_val G, G.bs, ← EReal.coe_mul, ← EReal.coe_add, coe_sum]
  refine congrArg _ ?_
  unfold S
  rw [(row_block b r).1, (row_block b r).2, show c.val / 256 * 256 + c.val % 256 = c.val by omega]
  exact congrArg (· + _) (Finset.sum_congr rfl fun k _ => mul_comm _ _)

theorem v77_val (b : Fin 2) (r : Fin 2048) (c : Fin 2048) :
    val_main_v77 x0 x2 x3 x4 x5 (ix3 b r c) = ((U d (b.val * 2048 + r.val) c.val * S d (b.val * 2048 + r.val) c.val : ℝ) : EReal) := by
  pointwise [val_main_v77]
  simp only [v28_val G, v76_val G, ← EReal.coe_mul]

theorem v82_val (b : Fin 2) (r : Fin 2048) (c : Fin 2048) :
    val_main_v82 x0 x1 (ix3 b r c) = ((dus d (b.val * 2048 + r.val) c.val : ℝ) : EReal) := by
  pointwise [val_main_v82, val_main_v80]
  simp only [G.dy, v78_0_val G, ← EReal.coe_mul]
  rfl

theorem v83_val (b : Fin 2) (r : Fin 2048) (c : Fin 2048) :
    val_main_v83 x0 x1 x2 x3 x4 x5 (ix3 b r c) = ((dpG d (b.val * 2048 + r.val) c.val : ℝ) : EReal) := by
  pointwise [val_main_v83, val_main_call4_v1, val_main_call4_v2, val_main_call4_v0, val_main_v81, val_main_v80]
  simp only [G.dy, v77_val G, v78_1_val G, v78_2_val G, v6_val G, ← EReal.coe_mul, ← EReal.coe_add]
  refine congrArg _ ?_
  unfold dpG
  ring

theorem v85_val (b : Fin 2) (r : Fin 2048) (c : Fin 2048) :
    val_main_v85 x0 x1 x2 x3 x4 x5 (ix3 b r c) = ((dus d (b.val * 2048 + r.val) c.val * S d (b.val * 2048 + r.val) c.val : ℝ) : EReal) := by
  pointwise [val_main_v85]
  simp only [v82_val G, v76_val G, ← EReal.coe_mul]

theorem v86_val (b : Fin 2) (n : Fin 16) (q : Fin 128) (g : Fin 8) (e : Fin 256) :
    val_main_v86 x0 x1 (ix5 b n q g e) = ((ds d (b.val * 2048 + n.val * 128 + q.val) (g.val * 256 + e.val) : ℝ) : EReal) := by
  pointwise [val_main_v86, val_main_v84]
  simp only [v28_val G, v82_val G, ← EReal.coe_mul, Nat.add_assoc]
  exact congrArg _ (mul_comm _ _)

theorem v89_val (q : Fin 128) (g : Fin 8) :
    val_main_v89 x0 x1 (ix2 q g) = ((dbsN d 16 q.val g.val : ℝ) : EReal) := by
  unfold val_main_v89
  rw [ValueIdx.hostReduceAdd_apply, sum5u]
  pointwise [val_main_v88, val_main_cst_16]
  unfold val_main_v87
  rw [ValueIdx.hostReduceAdd_apply, sum5]
  simp only [v86_val G, coe_sum]
  pointwise [val_main_cst_15]
  refine congrArg _ ?_
  unfold dbsN bsT
  rw [if_pos g.isLt, show 16 * 2 = 2 * 16 from rfl, sum_blocks]
  refine Finset.sum_congr rfl fun b _ => Finset.sum_congr rfl fun n _ => Finset.sum_congr rfl fun e _ => ?_
  rw [show (b.val * 16 + n.val) * 128 + q.val = b.val * 2048 + n.val * 128 + q.val by omega]

theorem v92_val (g : Fin 8) (t s : Fin 128) :
    val_main_v92 x0 x1 x2 x3 (ix3 g t s) = ((∑ b ∈ Finset.range 32, wsT d b g.val t.val s.val : ℝ) : EReal) := by
  pointwise [val_main_v92]
  rw [dot5]
  pointwise [val_main_v91]
  simp only [v86_val G, v59_val G, lit_zero, ← EReal.coe_mul, ← EReal.coe_add, coe_sum, zero_add]
  refine congrArg _ ?_
  unfold wsT
  rw [show 32 = 2 * 16 from rfl, sum_blocks]
  refine Finset.sum_congr rfl fun b _ => Finset.sum_congr rfl fun n _ => Finset.sum_congr rfl fun e _ => ?_
  rw [show (b.val * 16 + n.val) * 128 + t.val = b.val * 2048 + n.val * 128 + t.val by omega,
    show (b.val * 16 + n.val) * 128 + s.val = b.val * 2048 + n.val * 128 + s.val by omega]

theorem v96_val (b : Fin 2) (r : Fin 2048) (c : Fin 2048) :
    val_main_v96 x0 x1 x4 (ix3 b r c) = ((dvl d (b.val * 2048 + r.val) c.val : ℝ) : EReal) := by
  pointwise [val_main_v96, val_main_v94, val_main_v93, val_main_v91]
  simp only [v86_val G, v69_0_val G, lit_zero, ← EReal.coe_mul, ← EReal.coe_add, coe_sum, zero_add]
  refine congrArg _ ?_
  unfold dvl
  rw [(row_block b r).1, (row_block b r).2, show c.val / 256 * 256 + c.val % 256 = c.val by omega]
  exact Finset.sum_congr rfl fun k _ => mul_comm _ _

end Cert.Mixer.Ref

end
-- ==== Proof.RefB.lean ====
/- The reference over the reals: the gradients, and its five results. -/
module

public import proofs.«01_k».proof.Proof.RefA

@[expose] public section

set_option maxRecDepth 16384

noncomputable section

namespace Cert.Mixer

variable (d : Args) (r : ℕ)

/-- A row less its mean sums to nothing. -/
theorem sum_cen : ∑ k : Fin 2048, cen d r k.val = 0 := by
  unfold cen mu
  rw [Finset.sum_sub_distrib, Finset.sum_const, Finset.card_univ, Fintype.card_fin, nsmul_eq_mul, Nat.cast_ofNat, mul_div_cancel₀ _ (by norm_num), sub_self]

/-- The reciprocal root, over what it is the root of, is its cube. -/
theorem rstd_div : rstd d r / (var d r + ceps) = rstd d r * rstd d r * rstd d r := by
  have h := var_eps_pos d r
  have e : rstd d r * rstd d r = (var d r + ceps)⁻¹ := by
    unfold rstd; rw [← mul_inv, Real.mul_self_sqrt h.le]
  rw [e, div_eq_mul_inv, mul_comm]

/-- The gradient of the layer norm's input, taken operation by operation, in closed form. -/
theorem dv_chain (c : ℕ) :
    dvh d r c * rstd d r
      + (∑ k : Fin 2048, cen d r k.val * dvh d r k.val) * (-(1 / 2) * (rstd d r / (var d r + ceps))) / 2048 * (2 * cen d r c)
      + ((∑ k : Fin 2048, -(dvh d r k.val * rstd d r))
        + ∑ k : Fin 2048, -((∑ k : Fin 2048, cen d r k.val * dvh d r k.val) * (-(1 / 2) * (rstd d r / (var d r + ceps))) / 2048 * (2 * cen d r k.val))) / 2048
      = dv d r c := by
  generalize hA : (∑ k : Fin 2048, cen d r k.val * dvh d r k.val) = A
  have e1 : ∑ k : Fin 2048, -(dvh d r k.val * rstd d r) = -((∑ k : Fin 2048, dvh d r k.val) * rstd d r) := by
    rw [Finset.sum_neg_distrib, Finset.sum_mul]
  have e2 : ∑ k : Fin 2048, -(A * (-(1 / 2) * (rstd d r / (var d r + ceps))) / 2048 * (2 * cen d r k.val)) = 0 := by
    rw [Finset.sum_neg_distrib, ← Finset.mul_sum, ← Finset.mul_sum, sum_cen, mul_zero, mul_zero, neg_zero]
  have e3 : ∑ k : Fin 2048, dvh d r k.val * vh d r k.val = A * rstd d r := by
    rw [← hA, Finset.sum_mul]
    exact Finset.sum_congr rfl fun k _ => by unfold vh; ring
  rw [e1, e2]
  unfold dv
  rw [e3, rstd_div]
  unfold vh
  ring

end Cert.Mixer

namespace Cert.Mixer.Ref

open Idealize.ShloMosaic Idealize.ShloMosaic.TcCoe Cert.ReferenceIdeal Cert.ReferenceIdeal.Gen Cert.ReferenceIdeal.Read

variable {d : Args} {x0 : (⟨S4096x6144, .f32⟩ : BufTy).Contents (Elt Ideal)} {x1 : (⟨S4096x2048, .f32⟩ : BufTy).Contents (Elt Ideal)}
  {x2 x3 : (⟨S1x2048, .f32⟩ : BufTy).Contents (Elt Ideal)} {x4 : (⟨S1x8x128x128, .f32⟩ : BufTy).Contents (Elt Ideal)}
  {x5 : (⟨S1x8x128, .f32⟩ : BufTy).Contents (Elt Ideal)} (G : Given d x0 x1 x2 x3 x4 x5)
include G

theorem v99_val (l : Fin 2048) : val_main_v99 x0 x1 x4 (ix1 l) = ((dlbN d 16 l.val : ℝ) : EReal) := by
  unfold val_main_v99
  rw [ValueIdx.hostReduceAdd_apply, sum3u]
  pointwise [val_main_v98, val_main_cst_18]
  unfold val_main_v97
  rw [ValueIdx.hostReduceAdd_apply, sum3]
  simp only [v96_val G, coe_sum]
  pointwise [val_main_cst_17]
  refine congrArg _ ?_
  unfold dlbN
  rw [show 16 * 256 = 2 * 2048 from rfl, sum_blocks]

theorem v105_val (l : Fin 2048) : val_main_v105 x0 x1 x4 (ix1 l) = ((dlgN d 16 l.val : ℝ) : EReal) := by
  unfold val_main_v105
  rw [ValueIdx.hostReduceAdd_apply, sum3u]
  pointwise [val_main_v102, val_main_cst_20]
  unfold val_main_v101
  rw [ValueIdx.hostReduceAdd_apply, sum3]
  pointwise [val_main_v100]
  simp only [v96_val G, v52_val G, ← EReal.coe_mul, coe_sum]
  pointwise [val_main_cst_19]
  refine congrArg _ ?_
  unfold dlgN lgT
  rw [show 16 * 256 = 2 * 2048 from rfl, sum_blocks]
  exact Finset.sum_congr rfl fun b _ => Finset.sum_congr rfl fun n _ => mul_comm _ _

theorem v104_val (b : Fin 2) (r : Fin 2048) (c : Fin 2048) :
    val_main_v104 x0 x1 x2 x4 (ix3 b r c) = ((dvh d (b.val * 2048 + r.val) c.val : ℝ) : EReal) := by
  pointwise [val_main_v104, val_main_v103, val_main_v53, val_main_v1]
  simp only [v96_val G, G.lg, ← EReal.coe_mul]
  rfl

theorem v110_val (b : Fin 2) (r : Fin 2048) (c : Fin 2048) :
    val_main_v110 x0 x1 x2 x4 (ix3 b r c) = ((dvh d (b.val * 2048 + r.val) c.val * rstd d (b.val * 2048 + r.val) : ℝ) : EReal) := by
  pointwise [val_main_v110, val_main_v109]
  simp only [v104_val G, v47_val G, ← EReal.coe_mul]

/-- The term of the variance's gradient. -/
def dvarT (d : Args) (r c : ℕ) : ℝ :=
  (∑ k : Fin 2048, cen d r k.val * dvh d r k.val) * (-(1 / 2) * (rstd d r / (var d r + ceps))) / 2048 * (2 * cen d r c)

theorem v119_val (b : Fin 2) (r : Fin 2048) (c : Fin 2048) :
    val_main_v119 x0 x1 x2 x4 (ix3 b r c) = ((dvarT d (b.val * 2048 + r.val) c.val : ℝ) : EReal) := by
  pointwise [val_main_v119, val_main_v118, val_main_v117, val_main_v116, val_main_v115, val_main_v111, val_main_v108, val_main_v107, val_main_v106, val_main_v38, val_main_v37, val_main_cst_8, val_main_cst_21, val_main_cst_23, val_main_cst_24]
  simp only [v104_val G, v44_val G, v35_val G, v50_val G, word_two, word_2048, lit_zero, ← EReal.coe_mul, ← EReal.coe_add, coe_sum, zero_add, div_2048, Fin.sum_univ_one]
  rfl

theorem v129_val (b : Fin 2) (r : Fin 2048) (c : Fin 2048) :
    val_main_v129 x0 x1 x2 x4 (ix3 b r c) = ((dv d (b.val * 2048 + r.val) c.val : ℝ) : EReal) := by
  pointwise [val_main_v129, val_main_v128, val_main_v127, val_main_v126, val_main_v125, val_main_v124, val_main_v123, val_main_v122, val_main_v121, val_main_v120, val_main_v114, val_main_v113, val_main_v112, val_main_cst_22, val_main_cst_25, val_main_cst_26, val_main_cst_27]
  simp only [v110_val G, v119_val G, word_2048, lit_zero, ← EReal.coe_neg, ← EReal.coe_mul, ← EReal.coe_add, coe_sum, zero_add, div_2048, Fin.sum_univ_one]
  exact congrArg _ (dv_chain d _ _)

/-- The gradient arriving at the approximate GELU. -/
def dx (d : Args) (r c : ℕ) : ℝ := if c < 2048 then dus d r c * S d r c else dv d r (c - 2048)

theorem v132_val (b : Fin 2) (r : Fin 2048) (c : Fin 4096) :
    val_main_v132 x0 x1 x2 x3 x4 x5 (ix3 b r c) = ((dx d (b.val * 2048 + r.val) c.val : ℝ) : EReal) := by
  pointwise [val_main_v132, val_main_v131, val_main_v130, val_main_cst_28, val_main_cst_29]
  simp only [v129_val G, v85_val G, lit_zero]
  unfold dx
  by_cases h : c.val < 2048
  · rw [dif_neg (by omega), dif_pos h, if_pos h, ← EReal.coe_add, zero_add]
  · rw [dif_pos (by omega), dif_neg h, if_neg h, ← EReal.coe_add, add_zero]

theorem v144_val (b : Fin 2) (r : Fin 2048) (c : Fin 4096) :
    val_main_v144 x0 x1 x2 x3 x4 x5 (ix3 b r c)
      = ((dx d (b.val * 2048 + r.val) c.val * dgelu (d.P (b.val * 2048 + r.val) c.val) : ℝ) : EReal) := by
  pointwise [val_main_v144, val_main_v143, val_main_v142, val_main_v141, val_main_v140, val_main_v139, val_main_v138, val_main_v137, val_main_v136, val_main_v135, val_main_v134, val_main_v133, val_main_v11, val_main_v10, val_main_v9, val_main_cst, val_main_cst_30, val_main_cst_31, val_main_cst_32]
  simp only [v132_val G, v26_val G, v22_val G, v5_val G, word_ca, word_cc, word_half, word_three, ← EReal.coe_mul, ← EReal.coe_add]
  refine congrArg _ ?_
  unfold dgelu
  ring

/-- The reference's gradient of the projections. -/
theorem v149_val (r : Fin 4096) (c : Fin 6144) :
    val_main_v149 x0 x1 x2 x3 x4 x5 (ix2 r c) = ((dp d r.val c.val : ℝ) : EReal) := by
  pointwise [val_main_v149, val_main_v148, val_main_v147, val_main_v146, val_main_v145, val_main_cst_33, val_main_cst_34]
  simp only [v144_val G, v83_val G, lit_zero]
  rw [show r.val / 2048 * 2048 + r.val % 2048 = r.val by omega]
  unfold dp
  by_cases h : c.val < 4096
  · rw [dif_neg (by omega), dif_pos (by omega), ← EReal.coe_add, zero_add]
    refine congrArg _ ?_
    unfold dx
    by_cases h' : c.val < 2048
    · rw [if_pos h', if_pos h']; rfl
    · rw [if_neg h', if_neg h', if_pos h]
      unfold dpV
      rw [show 2048 + (c.val - 2048) = c.val by omega]
  · rw [dif_pos (by omega), dif_neg (by omega), if_neg (by omega), if_neg h, ← EReal.coe_add, add_zero]

/-- The reference's gradient of the normalisation's scale. -/
theorem v150_val (a : Fin 1) (l : Fin 2048) : val_main_v150 x0 x1 x4 (ix2 a l) = ((dlgN d 16 l.val : ℝ) : EReal) := by
  pointwise [val_main_v150]
  rw [v105_val G]

/-- The reference's gradient of the normalisation's shift. -/
theorem v151_val (a : Fin 1) (l : Fin 2048) : val_main_v151 x0 x1 x4 (ix2 a l) = ((dlbN d 16 l.val : ℝ) : EReal) := by
  pointwise [val_main_v151]
  rw [v99_val G]

/-- The reference's gradient of the spatial weights. -/
theorem v95_val (g : Fin 8) (t s : Fin 128) : val_main_v95 x0 x1 x2 x3 (ix3 g t s) = ((dwsN d 16 g.val t.val s.val : ℝ) : EReal) := by
  pointwise [val_main_v95, val_main_v69_1, val_main_v68, val_main_call5_v0, val_main_call5_cst]
  rw [v67_val, v92_val G, lit_zero, select_real]
  rfl

/-- The reference's gradient of the spatial biases. -/
theorem v153_val (t g : Fin 128) : val_main_v153 x0 x1 (ix2 t g) = ((dbsN d 16 t.val g.val : ℝ) : EReal) := by
  pointwise [val_main_v153, val_main_v152, val_main_v90, val_main_call6_v0, val_main_c_35]
  simp only [v89_val G]
  by_cases h : g.val < 8
  · rw [dif_pos h]
  · rw [dif_neg h, dbsN, if_neg h]
    show (((0#32 : BitVec 32).toInt : ℝ) : EReal) = ((0 : ℝ) : EReal)
    norm_num

end Cert.Mixer.Ref

end
-- ==== Proof.Finite.lean ====
/- The precondition: every entry of the arguments is a real number; and the numbers read off. -/
module

public import proofs.«01_k».proof.Proof.Fold
public import proofs.«01_k».proof.Defs

@[expose] public section

noncomputable section

namespace Cert.Mixer

open Idealize.ShloMosaic

/-- An extended real whose absolute value is below infinity is a real number. -/
theorem real_of_finite {x : EReal}
    (h : Ideal.cmp .olt (max x (-x)) (Ideal.ofBits .f32 0x7F800000#32) = 1#1) : x = ((x.toReal : ℝ) : EReal) := by
  have top : Ideal.ofBits .f32 0x7F800000#32 = ⊤ := by simp [Ideal.ofBits, Ideal.ieee]
  rw [top] at h
  induction x with
  | bot => exact absurd h (by simp [Ideal.cmp])
  | top => exact absurd h (by simp [Ideal.cmp])
  | coe x => rfl

/-- The real numbers the six arrays hold. -/
def argsOf (a0 : (⟨2, ![4096, 6144]⟩ : Shape).Idx → EReal) (a1 : (⟨2, ![4096, 2048]⟩ : Shape).Idx → EReal)
    (a2 a3 : (⟨2, ![1, 2048]⟩ : Shape).Idx → EReal) (a4 : (⟨4, ![1, 8, 128, 128]⟩ : Shape).Idx → EReal)
    (a5 : (⟨3, ![1, 8, 128]⟩ : Shape).Idx → EReal) : Args where
  P r l := if h : r < 4096 ∧ l < 6144 then (a0 (ix2 ⟨r, h.1⟩ ⟨l, h.2⟩)).toReal else 0
  DY r l := if h : r < 4096 ∧ l < 2048 then (a1 (ix2 ⟨r, h.1⟩ ⟨l, h.2⟩)).toReal else 0
  LG l := if h : l < 2048 then (a2 (ix2 0 ⟨l, h⟩)).toReal else 0
  LB l := if h : l < 2048 then (a3 (ix2 0 ⟨l, h⟩)).toReal else 0
  WS g t s := if h : g < 8 ∧ t < 128 ∧ s < 128 then (a4 (ix4 0 ⟨g, h.1⟩ ⟨t, h.2.1⟩ ⟨s, h.2.2⟩)).toReal else 0
  BS g t := if h : g < 8 ∧ t < 128 then (a5 (ix3 0 ⟨g, h.1⟩ ⟨t, h.2⟩)).toReal else 0

/-- Of arrays of which the precondition holds, the entries are those real numbers. -/
theorem given_of_finite [Cert.Pre_finite.Facts] {a0 : FVec Ideal Cert.Pre_finite.S4096x6144 .f32}
    {a1 : FVec Ideal Cert.Pre_finite.S4096x2048 .f32} {a2 a3 : FVec Ideal Cert.Pre_finite.S1x2048 .f32}
    {a4 : FVec Ideal Cert.Pre_finite.S1x8x128x128 .f32} {a5 : FVec Ideal Cert.Pre_finite.S1x8x128 .f32}
    (h0 : (Cert.Pre_finite.fn (F := Ideal) a0 a1 a2 a3 a4 a5).1 = fun _ => 1#1)
    (h1 : (Cert.Pre_finite.fn (F := Ideal) a0 a1 a2 a3 a4 a5).2.1 = fun _ => 1#1)
    (h2 : (Cert.Pre_finite.fn (F := Ideal) a0 a1 a2 a3 a4 a5).2.2.1 = fun _ => 1#1)
    (h3 : (Cert.Pre_finite.fn (F := Ideal) a0 a1 a2 a3 a4 a5).2.2.2.1 = fun _ => 1#1)
    (h4 : (Cert.Pre_finite.fn (F := Ideal) a0 a1 a2 a3 a4 a5).2.2.2.2.1 = fun _ => 1#1)
    (h5 : (Cert.Pre_finite.fn (F := Ideal) a0 a1 a2 a3 a4 a5).2.2.2.2.2 = fun _ => 1#1) :
    Given (argsOf a0 a1 a2 a3 a4 a5) a0 a1 a2 a3 a4 a5 where
  p r l := (real_of_finite (congrFun h0 (ix2 r l))).trans (by simp [argsOf, r.isLt, l.isLt])
  dy r l := (real_of_finite (congrFun h1 (ix2 r l))).trans (by simp [argsOf, r.isLt, l.isLt])
  lg a l := (real_of_finite (congrFun h2 (ix2 a l))).trans (by simp [argsOf, l.isLt, Subsingleton.elim a 0])
  lb a l := (real_of_finite (congrFun h3 (ix2 a l))).trans (by simp [argsOf, l.isLt, Subsingleton.elim a 0])
  ws a g t s := (real_of_finite (congrFun h4 (ix4 a g t s))).trans
    (by simp [argsOf, g.isLt, t.isLt, s.isLt, Subsingleton.elim a 0])
  bs a g t := (real_of_finite (congrFun h5 (ix3 a g t))).trans
    (by simp [argsOf, g.isLt, t.isLt, Subsingleton.elim a 0])

end Cert.Mixer

end
-- ==== Proof.DhB.lean ====
module
public import proofs.«01_k».proof.Proof.Gen.DhBIdeal.Value
public import proofs.«01_k».proof.Proof.Gen.DhBRefIdeal.Read
public import Idealize.ShloMosaic.Lib.Pipeline.ValueKit
public import Idealize.ShloMosaic.Lib.StableHlo.ReadAt
public import Idealize.ShloMosaic.Lib.WholeRead

@[expose] public section

set_option maxRecDepth 16384

noncomputable section

namespace Cert.DhB

open Idealize.ShloMosaic Idealize.ShloMosaic.TcCoe Cert.DhBIdeal Cert.DhBIdeal.Gen

/-- Two halves of a device's columns side by side. -/
def cat (wl wh : S8x1024x512.Idx → EReal) (n : Fin 8) (k : Fin 1024) (r : ℕ) : EReal :=
  if h : r % 1024 < 512 then wl (ix3 n k (⟨r % 1024, h⟩ : Fin 512)) else wh (ix3 n k (⟨r % 1024 - 512, by omega⟩ : Fin 512))

/-- The product of the gradient of column `l` of the projection, at row `p`, with the weight of that column at row `q` (columns past the last one give nothing). -/
def term (d : S4x4096x2048.Idx → EReal) (wl wh : S8x1024x512.Idx → EReal) (p : Fin 4096) (q : Fin 1024) (l : ℕ) : EReal :=
  if h : l < 8192 then d (ix3 (⟨l / 2048, by omega⟩ : Fin 4) p (⟨l % 2048, by omega⟩ : Fin 2048)) * cat wl wh (⟨l / 1024, by omega⟩ : Fin 8) q l else 0

/-- The gradient of the projections' input at row `p` and column `q`: the sum over the 8192 columns. -/
def at' (d : S4x4096x2048.Idx → EReal) (wl wh : S8x1024x512.Idx → EReal) (p : Fin 4096) (q : Fin 1024) : EReal :=
  ∑ l ∈ Finset.range 8192, term d wl wh p q l

/-- The sum over the 2048 columns of one block. -/
def blk (x0 : S1x1024x2048.Idx → EReal) (x1 x2 : S2x1024x512.Idx → EReal) (p q : Fin 1024) : EReal :=
  (∑ k : Fin 512, x0 (ix3 (0 : Fin 1) p (⟨k.val, by omega⟩ : Fin 2048)) * x1 (ix3 (0 : Fin 2) q k))
    + (∑ k : Fin 512, x0 (ix3 (0 : Fin 1) p (⟨512 + k.val, by omega⟩ : Fin 2048)) * x2 (ix3 (0 : Fin 2) q k))
    + (∑ k : Fin 512, x0 (ix3 (0 : Fin 1) p (⟨1024 + k.val, by omega⟩ : Fin 2048)) * x1 (ix3 (1 : Fin 2) q k))
    + (∑ k : Fin 512, x0 (ix3 (0 : Fin 1) p (⟨1536 + k.val, by omega⟩ : Fin 2048)) * x2 (ix3 (1 : Fin 2) q k))

/-- What the first point of a row block leaves. -/
theorem outA (c : Dev nD) (i arg2 harg2 arg3 harg3 arg4 harg4 arg5 harg5 hc0 hc1) (x0 : Vec Ideal S1x1024x2048 .bf16) (x1 x2 : Vec Ideal S2x1024x512 .bf16) (y : S1024x1024.Idx) :
    out0_A_3 (F := Ideal) c i arg2 harg2 arg3 harg3 arg4 harg4 arg5 harg5 hc0 hc1 x0 x1 x2 y = blk x0 x1 x2 (y 0) (y 1) := by
  obtain ⟨p, q, rfl⟩ : ∃ (p : Fin 1024) (q : Fin 1024), y = ix2 p q := ⟨y 0, y 1, eq_ix2 y⟩
  unfold out0_A_3
  rw [View.read_writes_junk_eq_canon]
  unfold kernelRun0_A
  dsimp only
  rw [View.canon_unit_zero (by decide)]
  pointwise [k0_pay2, Memref.IsWhole.readAt_unread]
  rfl

/-- What a later point leaves, given what the one before left. -/
theorem outB (c : Dev nD) (i arg2 harg2 arg3 harg3 arg4 harg4 arg5 harg5 hc0 hc1) (x0 : Vec Ideal S1x1024x2048 .bf16) (x1 x2 : Vec Ideal S2x1024x512 .bf16) (xo : Vec Ideal S1024x1024 .f32) (y : S1024x1024.Idx) :
    out0_B_3 (F := Ideal) c i arg2 harg2 arg3 harg3 arg4 harg4 arg5 harg5 hc0 hc1 x0 x1 x2 xo y = xo y + blk x0 x1 x2 (y 0) (y 1) := by
  obtain ⟨p, q, rfl⟩ : ∃ (p : Fin 1024) (q : Fin 1024), y = ix2 p q := ⟨y 0, y 1, eq_ix2 y⟩
  unfold out0_B_3
  rw [View.read_writes_junk_eq_canon]
  unfold kernelRun0_B
  dsimp only
  rw [View.canon_unit_zero (by decide)]
  pointwise [k0_pay1, kernelRun0_B.sl.r, k0_pay2, Memref.IsWhole.readAt_unread]
  rfl

theorem points : ∀ t : Fin grid0.N, win0_0.index t = ![t.val % 4, t.val / 4, 0] ∧ win0_1.index t = ![t.val % 4, 0, 0] ∧ win0_2.index t = ![t.val % 4, 0, 0] ∧ win0_3.index t = ![t.val / 4, 0] := by decide +kernel

theorem last : ∀ t : Fin grid0.N, win0_3.flush t = true → t.val % 4 = 3 := by decide +kernel

/-- A sum over 2048 columns, 512 at a time. -/
theorem four (f : ℕ → EReal) (n : ℕ) : ∑ l ∈ Finset.range (2048 * (n + 1)), f l = ∑ l ∈ Finset.range (2048 * n), f l
    + ((∑ k : Fin 512, f (2048 * n + k.val)) + (∑ k : Fin 512, f (2048 * n + (512 + k.val))) + (∑ k : Fin 512, f (2048 * n + (1024 + k.val)))
      + (∑ k : Fin 512, f (2048 * n + (1536 + k.val)))) := by
  rw [show 2048 * (n + 1) = 2048 * n + (((512 + 512) + 512) + 512) by omega, Finset.sum_range_add]
  congr 1
  rw [Finset.sum_range_add, Finset.sum_range_add, Finset.sum_range_add]
  simp only [Finset.sum_range]

variable (m : (ℓ : Loc nD τ sig) → Buf (Elt Ideal) ℓ) (c : Dev nD)

/-- The terms of the sum, of the kernel's arguments. -/
abbrev term' (p : Fin 4096) (q : Fin 1024) (l : ℕ) : EReal :=
  term (m ((c : Thread nD τ).loc main_arg0)) (m ((c : Thread nD τ).loc main_arg1)) (m ((c : Thread nD τ).loc main_arg2)) p q l

/-- What point `t` adds to its row block. -/
theorem block (t : Fin cfg0.N) (y : S1024x1024.Idx) (n : ℕ) (hn : n = t.val % 4) (p : Fin 4096) (hp : p.val = t.val / 4 * 1024 + (y 0).val) (s : EReal)
    (hs : s = ∑ l ∈ Finset.range (2048 * n), term' m c p (y 1) l) :
    s + blk (iblk m c 0 t) (iblk m c 1 t) (iblk m c 2 t) (y 0) (y 1) = ∑ l ∈ Finset.range (2048 * (n + 1)), term' m c p (y 1) l := by
  subst hn hs
  rw [four]
  unfold blk
  refine congrArg (_ + ·) (congrArg₂ (· + ·) (congrArg₂ (· + ·) (congrArg₂ (· + ·) ?_ ?_) ?_) ?_)
  all_goals
    refine Finset.sum_congr rfl fun k _ => ?_
    unfold term' term cat
    rw [dif_pos (by omega)]
  · rw [dif_pos (by omega)]
    exact congrArg₂ (· * ·) (by blk_ext [iblk, Gen.V, points t]) (by blk_ext [iblk, Gen.V, points t])
  · rw [dif_neg (by omega)]
    exact congrArg₂ (· * ·) (by blk_ext [iblk, Gen.V, points t]) (by blk_ext [iblk, Gen.V, points t])
  · rw [dif_pos (by omega)]
    exact congrArg₂ (· * ·) (by blk_ext [iblk, Gen.V, points t]) (by blk_ext [iblk, Gen.V, points t])
  · rw [dif_neg (by omega)]
    exact congrArg₂ (· * ·) (by blk_ext [iblk, Gen.V, points t]) (by blk_ext [iblk, Gen.V, points t])

/-- What the row block holds after point `n`: the sum over the columns of the blocks so far. -/
def Sums (n : ℕ) (o : Vec Ideal S1024x1024 .f32) : Prop :=
  ∀ (y : S1024x1024.Idx) (p : Fin 4096), p.val = n / 4 * 1024 + (y 0).val → o y = ∑ l ∈ Finset.range (2048 * (n % 4 + 1)), term' m c p (y 1) l

/-- A row block's first point leaves it so. -/
theorem sums_first (t : Fin cfg0.N) (h0 : t.val % 4 = 0) : Sums m c t.val (outsAt0 m c t.val t.isLt) := by
  intro y p hp
  rw [outsAt0_A m c t h0 (by omega), outA]
  refine (zero_add _).symm.trans (block m c t y (t.val % 4) rfl p hp 0 ?_)
  rw [h0]
  rfl

/-- A later point leaves it so when the one before does. -/
theorem sums_next (t : Fin cfg0.N) (h0 : ¬t.val % 4 = 0) (L : Sums m c (t.val - 1) (outsAt0 m c (t.val - 1) (Nat.lt_of_le_of_lt (Nat.sub_le _ _) t.isLt))) :
    Sums m c t.val (outsAt0 m c t.val t.isLt) := by
  intro y p hp
  have L := L y p (by rw [show (t.val - 1) / 4 = t.val / 4 by omega]; exact hp)
  rw [show (t.val - 1) % 4 + 1 = t.val % 4 by omega] at L
  rw [outsAt0_B m c t h0 (by omega), outB]
  exact block m c t y (t.val % 4) rfl p hp _ L

/-- Every point leaves it so. -/
theorem sums_at (n : ℕ) (hn : n < cfg0.N) : Sums m c n (outsAt0 m c n hn) := by
  induction n with
  | zero => exact sums_first m c ⟨0, hn⟩ (Nat.zero_mod _)
  | succ n ih =>
    by_cases h : (n + 1) % 4 = 0
    · exact sums_first m c ⟨n + 1, hn⟩ h
    · exact sums_next m c ⟨n + 1, hn⟩ h (ih (Nat.lt_of_succ_lt hn))

/-- The array the kernel leaves. -/
theorem left : (dats m 0 c).arrAt 3 cfg0.N
    = fun y : S4096x1024.Idx => at' (m ((c : Thread nD τ).loc main_arg0)) (m ((c : Thread nD τ).loc main_arg1)) (m ((c : Thread nD τ).loc main_arg2)) (y 0) (y 1) := by
  refine (dats m 0 c).arrAt_eq_of_covers 3 (fun y : S4096x1024.Idx => at' (m ((c : Thread nD τ).loc main_arg0)) (m ((c : Thread nD τ).loc main_arg1)) (m ((c : Thread nD τ).loc main_arg2)) (y 0) (y 1)) (by decide +kernel) fun t hf y => ?_
  have h3 := last t hf
  blk_simp
  rw [after0_3]
  refine (sums_at m c t.val t.isLt y ((win0_3.blk t).view.emb y 0) (by simp [points t])).trans ?_
  rw [h3]
  exact congrArg (at' _ _ _ _) (Fin.ext (by simp [points t]))

open Cert.DhBRefIdeal.Read in
/-- The reference's gradient is the same sum. -/
theorem ref (x0 : (⟨S4x4096x2048, .bf16⟩ : BufTy).Contents (Elt Ideal)) (x1 x2 : (⟨S8x1024x512, .bf16⟩ : BufTy).Contents (Elt Ideal)) :
    val_main_v9 (F := Ideal) x0 x1 x2 = fun y : S4096x1024.Idx => at' x0 x1 x2 (y 0) (y 1) := by
  funext y
  obtain ⟨p, q, rfl⟩ : ∃ (p : Fin 4096) (q : Fin 1024), y = ix2 p q := ⟨y 0, y 1, eq_ix2 y⟩
  pointwise [val_main_v9, val_main_v8, val_main_v7, val_main_v6, val_main_v4, val_main_v3, val_main_v2, val_main_v1]
  unfold at'
  rw [Finset.sum_range]
  refine Finset.sum_congr rfl fun k _ => ?_
  unfold term cat
  rw [dif_pos k.isLt]

end Cert.DhB
-- ==== Proof.DwInB.lean ====
module
public import proofs.«01_k».proof.Proof.Gen.DwInBIdeal.Value
public import proofs.«01_k».proof.Proof.Gen.DwInBRefIdeal.Read
public import Idealize.ShloMosaic.Lib.Pipeline.ValueKit
public import Idealize.ShloMosaic.Lib.StableHlo.ReadAt

@[expose] public section

set_option maxRecDepth 16384

noncomputable section

namespace Cert.DwInB

open Idealize.ShloMosaic Idealize.ShloMosaic.TcCoe Cert.DwInBIdeal Cert.DwInBIdeal.Gen

/-- The gradient of device `n`'s weights at row `p` and column `q`: the sum over the tokens of `h` times the gradient of the projection, whose section `n / 2` holds the columns of devices `2 (n / 2)` and `2 (n / 2) + 1`. -/
def at' (h : S1024x4096.Idx → EReal) (d : S4x4096x2048.Idx → EReal) (n : Fin 8) (p : Fin 1024) (q : Fin 1024) : EReal :=
  ∑ k : Fin 4096, h (ix2 p k) * d (ix3 (⟨n.val / 2, by omega⟩ : Fin 4) k (⟨n.val % 2 * 1024 + q.val, by omega⟩ : Fin 2048))

/-- A block of the result. -/
theorem block (x0 : Vec Ideal S1024x4096 .bf16) (x1 : Vec Ideal S1x4096x1024 .bf16) (y : S1x1024x1024.Idx) :
    out0_2 x0 x1 y = ∑ k : Fin 4096, x0 (ix2 (y 1) k) * x1 (ix3 0 k (y 2)) := by
  obtain ⟨a, p, q, rfl⟩ : ∃ (a : Fin 1) (p : Fin 1024) (q : Fin 1024), y = ix3 a p q := ⟨y 0, y 1, y 2, eq_ix3 y⟩
  unfold out0_2
  rw [View.canon_unit_zero (by decide)]
  pointwise [k0_pay1]

theorem points : ∀ t : Fin grid0.N, win0_0.index t = ![0, 0] ∧ win0_1.index t = ![t.val / 2, 0, t.val % 2] ∧ win0_2.index t = ![t.val, 0, 0] := by decide +kernel

/-- The array the kernel leaves. -/
theorem left (m : (ℓ : Loc nD τ sig) → Buf (Elt Ideal) ℓ) (c : Dev nD) : (dats m 0 c).arrAt 2 cfg0.N
    = fun y : S8x1024x1024.Idx => at' (m ((c : Thread nD τ).loc main_arg0)) (m ((c : Thread nD τ).loc main_arg1)) (y 0) (y 1) (y 2) := by
  refine (dats m 0 c).arrAt_eq_of_covers 2 (fun y : S8x1024x1024.Idx => at' (m ((c : Thread nD τ).loc main_arg0)) (m ((c : Thread nD τ).loc main_arg1)) (y 0) (y 1) (y 2)) (by decide +kernel) fun t hf y => ?_
  blk_simp
  rw [after0_2]
  refine (block _ _ y).trans (Finset.sum_congr rfl fun k _ => congrArg₂ (· * ·) ?_ ?_)
  · blk_ext [iblk, Gen.V, points t]
  · blk_ext [iblk, Gen.V, points t]

open Cert.DwInBRefIdeal.Read in
/-- The reference's gradient is the same sum. -/
theorem ref (x0 : (⟨S1024x4096, .bf16⟩ : BufTy).Contents (Elt Ideal)) (x1 : (⟨S4x4096x2048, .bf16⟩ : BufTy).Contents (Elt Ideal)) :
    val_main_v10 (F := Ideal) x0 x1 = fun y : S8x1024x1024.Idx => at' x0 x1 (y 0) (y 1) (y 2) := by
  funext y
  obtain ⟨n, p, q, rfl⟩ : ∃ (n : Fin 8) (p : Fin 1024) (q : Fin 1024), y = ix3 n p q := ⟨y 0, y 1, y 2, eq_ix3 y⟩
  pointwise [val_main_v10, val_main_v9, val_main_v8, val_main_v7, val_main_v6, val_main_v5, val_main_v4, val_main_v2, val_main_v1]
  unfold at'
  refine Finset.sum_congr rfl fun k _ => (mul_comm _ _).trans (congrArg (x0 (ix2 p k) * x1 ·) ?_)
  exact congrArg₂ (fun a b => ix3 a k b) (Fin.ext (by dsimp only; omega)) (Fin.ext (by dsimp only; omega))

end Cert.DwInB
-- ==== Proof.DhA.lean ====
module
public import proofs.«01_k».proof.Proof.Gen.DhAIdeal.Value
public import proofs.«01_k».proof.Proof.Gen.DhARefIdeal.Read
public import Idealize.ShloMosaic.Lib.Pipeline.ValueKit
public import Idealize.ShloMosaic.Lib.StableHlo.ReadAt
public import Idealize.ShloMosaic.Lib.WholeRead
public import Idealize.ShloMosaic.Lib.Pipeline.ValueKit.Partial

@[expose] public section

set_option maxRecDepth 16384

noncomputable section

namespace Cert.DhA

open Idealize.ShloMosaic Idealize.ShloMosaic.TcCoe Cert.DhAIdeal Cert.DhAIdeal.Gen

/-- The product of the gradient of column `l` of the projection, at row `p`, with the weight of that column at row `q` (columns past the last one give nothing). -/
def term (d : S4096x6144.Idx → EReal) (w : S8x1024x768.Idx → EReal) (p : Fin 4096) (q : Fin 1024) (l : ℕ) : EReal :=
  if h : l < 6144 then d (ix2 p (⟨l, h⟩ : Fin 6144)) * w (ix3 (⟨l / 768, by omega⟩ : Fin 8) q (⟨l % 768, by omega⟩ : Fin 768)) else 0

/-- The gradient of the projection's input at row `p` and column `q`: the sum over the 6144 columns; the first 1024 rows are those already there. -/
def at' (d : S4096x6144.Idx → EReal) (w : S8x1024x768.Idx → EReal) (prev : S4096x1024.Idx → EReal) (p : Fin 4096) (q : Fin 1024) : EReal :=
  if 1 ≤ p.val / 1024 then ∑ l ∈ Finset.range 6144, term d w p q l else prev (ix2 p q)

/-- The sum over the 1536 columns of one block. -/
def blk (x0 : S1024x1536.Idx → EReal) (x1 : S2x1024x768.Idx → EReal) (p q : Fin 1024) : EReal :=
  (∑ k : Fin 768, x0 (ix2 p (⟨k.val, by omega⟩ : Fin 1536)) * x1 (ix3 (0 : Fin 2) q k))
    + (∑ k : Fin 768, x0 (ix2 p (⟨768 + k.val, by omega⟩ : Fin 1536)) * x1 (ix3 (1 : Fin 2) q k))

/-- What the first point of a row block leaves. -/
theorem outA (c : Dev nD) (i arg2 harg2 arg3 harg3 arg5 harg5 hc0 hc1) (x0 : Vec Ideal S1024x1536 .bf16) (x1 : Vec Ideal S2x1024x768 .bf16) (y : S1024x1024.Idx) :
    out0_A_2 (F := Ideal) c i arg2 harg2 arg3 harg3 arg5 harg5 hc0 hc1 x0 x1 y = blk x0 x1 (y 0) (y 1) := by
  obtain ⟨p, q, rfl⟩ : ∃ (p : Fin 1024) (q : Fin 1024), y = ix2 p q := ⟨y 0, y 1, eq_ix2 y⟩
  unfold out0_A_2
  rw [View.read_writes_junk_eq_canon]
  unfold kernelRun0_A
  dsimp only
  rw [View.canon_unit_zero (by decide)]
  pointwise [k0_pay1, Memref.IsWhole.readAt_unread]
  rfl

/-- What a later point leaves, given what the one before left. -/
theorem outB (c : Dev nD) (i arg2 harg2 arg3 harg3 arg5 harg5 hc0 hc1) (x0 : Vec Ideal S1024x1536 .bf16) (x1 : Vec Ideal S2x1024x768 .bf16) (xo : Vec Ideal S1024x1024 .f32) (y : S1024x1024.Idx) :
    out0_B_2 (F := Ideal) c i arg2 harg2 arg3 harg3 arg5 harg5 hc0 hc1 x0 x1 xo y = xo y + blk x0 x1 (y 0) (y 1) := by
  obtain ⟨p, q, rfl⟩ : ∃ (p : Fin 1024) (q : Fin 1024), y = ix2 p q := ⟨y 0, y 1, eq_ix2 y⟩
  unfold out0_B_2
  rw [View.read_writes_junk_eq_canon]
  unfold kernelRun0_B
  dsimp only
  rw [View.canon_unit_zero (by decide)]
  pointwise [k0_pay2, k0_pay1, Memref.IsWhole.readAt_unread]
  rfl

theorem points : ∀ t : Fin grid0.N, win0_0.index t = ![t.val / 4 + 1, t.val % 4] ∧ win0_1.index t = ![t.val % 4, 0, 0] ∧ win0_2.index t = ![t.val / 4 + 1, 0] := by decide +kernel

theorem last : ∀ t : Fin grid0.N, win0_2.flush t = true → t.val % 4 = 3 := by decide +kernel

/-- A sum over 1536 columns, 768 at a time. -/
theorem two (f : ℕ → EReal) (n : ℕ) : ∑ l ∈ Finset.range (1536 * (n + 1)), f l = ∑ l ∈ Finset.range (1536 * n), f l
    + ((∑ k : Fin 768, f (1536 * n + k.val)) + (∑ k : Fin 768, f (1536 * n + (768 + k.val)))) := by
  rw [show 1536 * (n + 1) = 1536 * n + (768 + 768) by omega, Finset.sum_range_add]
  congr 1
  rw [Finset.sum_range_add]
  simp only [Finset.sum_range]

variable (m : (ℓ : Loc nD τ sig) → Buf (Elt Ideal) ℓ) (c : Dev nD)

/-- The terms of the sum, of the kernel's arguments. -/
abbrev term' (p : Fin 4096) (q : Fin 1024) (l : ℕ) : EReal :=
  term (m ((c : Thread nD τ).loc main_arg0)) (m ((c : Thread nD τ).loc main_arg1)) p q l

/-- What point `t` adds to its row block. -/
theorem block (t : Fin cfg0.N) (y : S1024x1024.Idx) (n : ℕ) (hn : n = t.val % 4) (p : Fin 4096) (hp : p.val = (t.val / 4 + 1) * 1024 + (y 0).val) (s : EReal)
    (hs : s = ∑ l ∈ Finset.range (1536 * n), term' m c p (y 1) l) :
    s + blk (iblk m c 0 t) (iblk m c 1 t) (y 0) (y 1) = ∑ l ∈ Finset.range (1536 * (n + 1)), term' m c p (y 1) l := by
  subst hn hs
  rw [two]
  unfold blk
  refine congrArg (_ + ·) (congrArg₂ (· + ·) ?_ ?_)
  all_goals
    refine Finset.sum_congr rfl fun k _ => ?_
    unfold term' term
    rw [dif_pos (by omega)]
    exact congrArg₂ (· * ·) (by blk_ext [iblk, Gen.V, points t]) (by blk_ext [iblk, Gen.V, points t])

/-- What the row block holds after point `n`: the sum over the columns of the blocks so far. -/
def Sums (n : ℕ) (o : Vec Ideal S1024x1024 .f32) : Prop :=
  ∀ (y : S1024x1024.Idx) (p : Fin 4096), p.val = (n / 4 + 1) * 1024 + (y 0).val → o y = ∑ l ∈ Finset.range (1536 * (n % 4 + 1)), term' m c p (y 1) l

/-- A row block's first point leaves it so. -/
theorem sums_first (t : Fin cfg0.N) (h0 : t.val % 4 = 0) : Sums m c t.val (outsAt0 m c t.val t.isLt) := by
  intro y p hp
  rw [outsAt0_A m c t h0 (by omega), outA]
  refine (zero_add _).symm.trans (block m c t y (t.val % 4) rfl p hp 0 ?_)
  rw [h0]
  rfl

/-- A later point leaves it so when the one before does. -/
theorem sums_next (t : Fin cfg0.N) (h0 : ¬t.val % 4 = 0) (L : Sums m c (t.val - 1) (outsAt0 m c (t.val - 1) (Nat.lt_of_le_of_lt (Nat.sub_le _ _) t.isLt))) :
    Sums m c t.val (outsAt0 m c t.val t.isLt) := by
  intro y p hp
  have L := L y p (by rw [show (t.val - 1) / 4 = t.val / 4 by omega]; exact hp)
  rw [show (t.val - 1) % 4 + 1 = t.val % 4 by omega] at L
  rw [outsAt0_B m c t h0 (by omega), outB]
  exact block m c t y (t.val % 4) rfl p hp _ L

/-- Every point leaves it so. -/
theorem sums_at (n : ℕ) (hn : n < cfg0.N) : Sums m c n (outsAt0 m c n hn) := by
  induction n with
  | zero => exact sums_first m c ⟨0, hn⟩ (Nat.zero_mod _)
  | succ n ih =>
    by_cases h : (n + 1) % 4 = 0
    · exact sums_first m c ⟨n + 1, hn⟩ h
    · exact sums_next m c ⟨n + 1, hn⟩ h (ih (Nat.lt_of_succ_lt hn))

/-- The whole sum at one index of the array. -/
def full (y : S4096x1024.Idx) : EReal := ∑ l ∈ Finset.range 6144, term' m c (y 0) (y 1) l

/-- The rows the call is given are there before it runs. -/
theorem prev_at (y : S4096x1024.Idx) : Gen.V m c main_v0 y = m ((c : Thread nD τ).loc main_arg2) y := by
  entry_read
  rfl

/-- The array the kernel leaves. -/
theorem left : (dats m 0 c).arrAt 2 cfg0.N
    = fun y : S4096x1024.Idx => at' (m ((c : Thread nD τ).loc main_arg0)) (m ((c : Thread nD τ).loc main_arg1)) (m ((c : Thread nD τ).loc main_arg2)) (y 0) (y 1) := by
  have e : (dats m 0 c).arrAt 2 cfg0.N = fun y : S4096x1024.Idx => if 1 ≤ (y 0).val / 1024 then full m c y else Gen.V m c main_v0 y := by
    refine (dats m 0 c).arrAt_eq_of_coversWhere 2 (full m c) (fun β => 1 ≤ β (0 : Fin 2)) (by decide +kernel) (fun t hf y => ?_) (fun j => Iff.rfl)
    have h3 := last t hf
    blk_simp
    rw [after0_2]
    refine (sums_at m c t.val t.isLt y ((win0_2.blk t).view.emb y 0) (by simp [points t])).trans ?_
    rw [h3]
    exact congrArg (fun q => ∑ l ∈ Finset.range 6144, term' m c _ q l) (Fin.ext (by simp [points t]))
  rw [e]
  funext y
  unfold at'
  rw [prev_at]
  exact congrArg (fun z => if 1 ≤ (y 0).val / 1024 then full m c y else m ((c : Thread nD τ).loc main_arg2) z) (eq_ix2 y)

open Cert.DhARefIdeal.Read in
/-- The reference's gradient is the same sum. -/
theorem ref (x0 : (⟨S4096x6144, .bf16⟩ : BufTy).Contents (Elt Ideal)) (x1 : (⟨S8x1024x768, .bf16⟩ : BufTy).Contents (Elt Ideal)) (x2 : (⟨S4096x1024, .f32⟩ : BufTy).Contents (Elt Ideal)) :
    val_main_v9 (F := Ideal) x0 x1 x2 = fun y : S4096x1024.Idx => at' x0 x1 x2 (y 0) (y 1) := by
  funext y
  obtain ⟨p, q, rfl⟩ : ∃ (p : Fin 4096) (q : Fin 1024), y = ix2 p q := ⟨y 0, y 1, eq_ix2 y⟩
  pointwise [val_main_v9, val_main_v8, val_main_v7, val_main_v6, val_main_v5, val_main_v3, val_main_v2, val_main_v1]
  unfold at'
  by_cases h : p.val < 1024
  · exact (dif_pos h).trans (if_neg (by omega)).symm
  · refine (dif_neg h).trans (Eq.trans ?_ (if_pos (by omega)).symm)
    rw [Finset.sum_range]
    refine Finset.sum_congr rfl fun k _ => ?_
    unfold term
    rw [dif_pos k.isLt]
    exact congrArg (fun z => x0 (ix2 z k) * _) (Fin.ext (by dsimp only; omega))

end Cert.DhA
-- ==== Proof.DwInA.lean ====
module
public import proofs.«01_k».proof.Proof.Gen.DwInAIdeal.Value
public import proofs.«01_k».proof.Proof.Gen.DwInARefIdeal.Read
public import Idealize.ShloMosaic.Lib.Pipeline.ValueKit
public import Idealize.ShloMosaic.Lib.StableHlo.ReadAt

@[expose] public section

set_option maxRecDepth 16384

noncomputable section

namespace Cert.DwInA

open Idealize.ShloMosaic Idealize.ShloMosaic.TcCoe Cert.DwInAIdeal Cert.DwInAIdeal.Gen

/-- The gradient of device `n`'s weights at row `p` and column `q`: the sum over the tokens of `h` times the gradient of column `768 n + q` of the projection. -/
def at' (h : S1024x4096.Idx → EReal) (d : S4096x6144.Idx → EReal) (n : Fin 8) (p : Fin 1024) (q : Fin 768) : EReal :=
  ∑ k : Fin 4096, h (ix2 p k) * d (ix2 k (⟨n.val * 768 + q.val, by omega⟩ : Fin 6144))

/-- A block of the result. -/
theorem block (x0 : Vec Ideal S1024x4096 .bf16) (x1 : Vec Ideal S4096x768 .bf16) (y : S1x1024x768.Idx) :
    out0_2 x0 x1 y = ∑ k : Fin 4096, x0 (ix2 (y 1) k) * x1 (ix2 k (y 2)) := by
  obtain ⟨a, p, q, rfl⟩ : ∃ (a : Fin 1) (p : Fin 1024) (q : Fin 768), y = ix3 a p q := ⟨y 0, y 1, y 2, eq_ix3 y⟩
  unfold out0_2
  rw [View.canon_unit_zero (by decide)]
  pointwise [k0_pay1]

theorem points : ∀ t : Fin grid0.N, win0_0.index t = ![0, 0] ∧ win0_1.index t = ![0, t.val] ∧ win0_2.index t = ![t.val, 0, 0] := by decide +kernel

/-- The array the kernel leaves. -/
theorem left (m : (ℓ : Loc nD τ sig) → Buf (Elt Ideal) ℓ) (c : Dev nD) : (dats m 0 c).arrAt 2 cfg0.N
    = fun y : S8x1024x768.Idx => at' (m ((c : Thread nD τ).loc main_arg0)) (m ((c : Thread nD τ).loc main_arg1)) (y 0) (y 1) (y 2) := by
  refine (dats m 0 c).arrAt_eq_of_covers 2 (fun y : S8x1024x768.Idx => at' (m ((c : Thread nD τ).loc main_arg0)) (m ((c : Thread nD τ).loc main_arg1)) (y 0) (y 1) (y 2)) (by decide +kernel) fun t hf y => ?_
  blk_simp
  rw [after0_2]
  refine (block _ _ y).trans (Finset.sum_congr rfl fun k _ => congrArg₂ (· * ·) ?_ ?_)
  · blk_ext [iblk, Gen.V, points t]
  · blk_ext [iblk, Gen.V, points t]

open Cert.DwInARefIdeal.Read in
/-- The reference's gradient is the same sum. -/
theorem ref (x0 : (⟨S1024x4096, .bf16⟩ : BufTy).Contents (Elt Ideal)) (x1 : (⟨S4096x6144, .bf16⟩ : BufTy).Contents (Elt Ideal)) :
    val_main_v8 (F := Ideal) x0 x1 = fun y : S8x1024x768.Idx => at' x0 x1 (y 0) (y 1) (y 2) := by
  funext y
  rw [eq_ix3 y]
  pointwise [val_main_v8, val_main_v7, val_main_v6, val_main_v5, val_main_v4, val_main_v2, val_main_v1]
  exact Finset.sum_congr rfl fun k _ => mul_comm _ _

end Cert.DwInA
-- ==== Proof.DwOut.lean ====
/- The gradient of the output projections' weights: what the kernel's run leaves, and what the reference's does. -/
module

public import proofs.«01_k».proof.Proof.Gen.DwOutIdeal.Value
public import proofs.«01_k».proof.Proof.Gen.DwOutRefIdeal.Read
public import Idealize.ShloMosaic.Lib.Pipeline.ValueKit
public import Idealize.ShloMosaic.Lib.StableHlo.ReadAt

@[expose] public section

set_option maxRecDepth 16384

noncomputable section

namespace Cert.DwOut

open Idealize.ShloMosaic Idealize.ShloMosaic.TcCoe Cert.DwOutIdeal Cert.DwOutIdeal.Gen

/-- The gradient at row `p` and column `q`: over all the rows, the branch's output times the gradient that comes in. -/
def at' (y : S4096x2048.Idx → EReal) (g : S4096x1024.Idx → EReal) (p : Fin 2048) (q : Fin 1024) : EReal :=
  ∑ k : Fin 4096, y (ix2 k p) * g (ix2 k q)

/-- One grid point's block. -/
theorem block (x0 : Vec Ideal S4096x512 .bf16) (x1 : Vec Ideal S4096x1024 .bf16) (y : S512x1024.Idx) :
    out0_2 x0 x1 y = ∑ k : Fin 4096, x0 (ix2 k (y 0)) * x1 (ix2 k (y 1)) := by
  rw [eq_ix2 y]
  unfold out0_2
  rw [View.canon_unit_zero (by decide)]
  pointwise [k0_pay1]

theorem points : ∀ t : Fin grid0.N, win0_0.index t = ![0, t.val] ∧ win0_1.index t = ![0, 0]
    ∧ win0_2.index t = ![t.val, 0] := by decide +kernel

/-- The kernel's run leaves the gradient. -/
theorem left (m : (ℓ : Loc nD τ sig) → Buf (Elt Ideal) ℓ) (c : Dev nD) : (dats m 0 c).arrAt 2 cfg0.N
    = fun y : S2048x1024.Idx => at' (m ((c : Thread nD τ).loc main_arg0)) (m ((c : Thread nD τ).loc main_arg1)) (y 0) (y 1) := by
  refine (dats m 0 c).arrAt_eq_of_covers 2 (fun y : S2048x1024.Idx => at' (m ((c : Thread nD τ).loc main_arg0)) (m ((c : Thread nD τ).loc main_arg1)) (y 0) (y 1)) (by decide +kernel) fun t hf y => ?_
  blk_simp
  rw [after0_2]
  refine (block _ _ y).trans (Finset.sum_congr rfl fun k _ => congrArg₂ (· * ·) ?_ ?_)
  · blk_ext [iblk, Gen.V, points t]
  · blk_ext [iblk, Gen.V, points t]

open Cert.DwOutRefIdeal.Read in
/-- So does the reference's. -/
theorem ref (x0 : (⟨S4096x2048, .bf16⟩ : BufTy).Contents (Elt Ideal)) (x1 : (⟨S4096x1024, .bf16⟩ : BufTy).Contents (Elt Ideal)) :
    val_main_v5 (F := Ideal) x0 x1 = fun y : S2048x1024.Idx => at' x0 x1 (y 0) (y 1) := by
  funext y
  rw [eq_ix2 y]
  pointwise [val_main_v5, val_main_v4, val_main_v3, val_main_v1]
  exact Finset.sum_congr rfl fun k _ => mul_comm _ _

end Cert.DwOut

end
-- ==== Proof.Dybr.lean ====
module
public import proofs.«01_k».proof.Proof.Gen.DybrIdeal.Value
public import proofs.«01_k».proof.Proof.Gen.DybrRefIdeal.Read
public import Idealize.ShloMosaic.Lib.Pipeline.ValueKit
public import Idealize.ShloMosaic.Lib.StableHlo.ReadAt
public import Idealize.ShloMosaic.Lib.WholeRead
public import proofs.«01_k».proof.Proof.Sums

@[expose] public section

set_option maxRecDepth 16384

noncomputable section

namespace Cert.Dybr

open Idealize.ShloMosaic Idealize.ShloMosaic.TcCoe Cert.DybrIdeal Cert.DybrIdeal.Gen

/-- The gradient of the layer's output at row `p` and column `q`: the gate times the gradient of the residual stream. -/
def dy (d : S4096x1024.Idx → EReal) (g : S2x3x1024.Idx → EReal) (p : Fin 4096) (q : Fin 1024) : EReal :=
  g (ix3 (⟨p.val / 2048, by omega⟩ : Fin 2) (2 : Fin 3) q) * d (ix2 p q)

/-- The product of the residual stream's gradient and the layer's output at row `p` (rows past the last one give nothing). -/
def term (d o : S4096x1024.Idx → EReal) (q : Fin 1024) (p : ℕ) : EReal :=
  if h : p < 4096 then d (ix2 (⟨p, h⟩ : Fin 4096) q) * o (ix2 (⟨p, h⟩ : Fin 4096) q) else 0

/-- The gradient of sequence `b`'s gate at column `q`: the sum over the sequence's 2048 rows. -/
def dgate (d o : S4096x1024.Idx → EReal) (b : Fin 2) (q : Fin 1024) : EReal :=
  ∑ r ∈ Finset.range 2048, term d o q (b.val * 2048 + r)

/-- The gradient of the output projection's input at row `p` and column `q`. -/
def dbr (d : S4096x1024.Idx → EReal) (g : S2x3x1024.Idx → EReal) (w : S8x256x1024.Idx → EReal) (p : Fin 4096) (q : Fin 2048) : EReal :=
  ∑ k : Fin 1024, dy d g p k * w (ix3 (⟨q.val / 256, by omega⟩ : Fin 8) (⟨q.val % 256, by omega⟩ : Fin 256) k)

/-- A block of the gradient of the layer's output. -/
def dyb (x0 : S1024x1024.Idx → EReal) (x2 : S1x3x1024.Idx → EReal) (p q : Fin 1024) : EReal :=
  x2 (ix3 (0 : Fin 1) (2 : Fin 3) q) * x0 (ix2 p q)

/-- A block of the gradient of the projection's input. -/
def dbrb (x0 : S1024x1024.Idx → EReal) (x2 : S1x3x1024.Idx → EReal) (x3 : S2048x1024.Idx → EReal) (p : Fin 1024) (n : Fin 2048) : EReal :=
  ∑ k : Fin 1024, dyb x0 x2 p k * x3 (ix2 n k)

/-- A block's part of the gate's gradient. -/
def gb (x0 x1 : S1024x1024.Idx → EReal) (q : Fin 1024) : EReal := ∑ k : Fin 1024, x0 (ix2 k q) * x1 (ix2 k q)

/-- A point's block of the gradient of the layer's output. -/
theorem outA4 (c : Dev nD) (i arg1 harg1 arg2 harg2 arg3 harg3 arg4 harg4 arg5 harg5 arg6 harg6 arg7 harg7 hc0) (x0 x1 : Vec Ideal S1024x1024 .f32) (x2 : Vec Ideal S1x3x1024 .f32) (x3 : Vec Ideal S2048x1024 .bf16) (y : S1024x1024.Idx) :
    out0_A_4 (F := Ideal) c i arg1 harg1 arg2 harg2 arg3 harg3 arg4 harg4 arg5 harg5 arg6 harg6 arg7 harg7 hc0 x0 x1 x2 x3 y = dyb x0 x2 (y 0) (y 1) := by
  obtain ⟨p, q, rfl⟩ : ∃ (p : Fin 1024) (q : Fin 1024), y = ix2 p q := ⟨y 0, y 1, eq_ix2 y⟩
  unfold out0_A_4
  rw [View.read_writes_junk_eq_canon]
  unfold kernelRun0_A
  dsimp only
  rw [View.canon_unit_zero (by decide)]
  pointwise [kernelRun0_A.sl.r, k0_pay2, Memref.IsWhole.readAt_unread]
  rfl

/-- A point's block of the gradient of the projection's input. -/
theorem outA6 (c : Dev nD) (i arg1 harg1 arg2 harg2 arg3 harg3 arg4 harg4 arg5 harg5 arg6 harg6 arg7 harg7 hc0) (x0 x1 : Vec Ideal S1024x1024 .f32) (x2 : Vec Ideal S1x3x1024 .f32) (x3 : Vec Ideal S2048x1024 .bf16) (y : S1024x2048.Idx) :
    out0_A_6 (F := Ideal) c i arg1 harg1 arg2 harg2 arg3 harg3 arg4 harg4 arg5 harg5 arg6 harg6 arg7 harg7 hc0 x0 x1 x2 x3 y = dbrb x0 x2 x3 (y 0) (y 1) := by
  obtain ⟨p, q, rfl⟩ : ∃ (p : Fin 1024) (q : Fin 2048), y = ix2 p q := ⟨y 0, y 1, eq_ix2 y⟩
  unfold out0_A_6
  rw [View.read_writes_junk_eq_canon]
  unfold kernelRun0_A
  dsimp only
  rw [View.canon_unit_zero (by decide)]
  pointwise [kernelRun0_A.sl.r, k0_pay3, k0_pay2, Memref.IsWhole.readAt_unread]
  rfl

/-- A point's block of the gradient of the layer's output. -/
theorem outB4 (c : Dev nD) (i arg1 harg1 arg2 harg2 arg3 harg3 arg4 harg4 arg5 harg5 arg6 harg6 arg7 harg7 hc0) (x0 x1 : Vec Ideal S1024x1024 .f32) (x2 : Vec Ideal S1x3x1024 .f32) (x3 : Vec Ideal S2048x1024 .bf16) (xo : Vec Ideal S1x1x1024 .f32) (y : S1024x1024.Idx) :
    out0_B_4 (F := Ideal) c i arg1 harg1 arg2 harg2 arg3 harg3 arg4 harg4 arg5 harg5 arg6 harg6 arg7 harg7 hc0 x0 x1 x2 x3 xo y = dyb x0 x2 (y 0) (y 1) := by
  obtain ⟨p, q, rfl⟩ : ∃ (p : Fin 1024) (q : Fin 1024), y = ix2 p q := ⟨y 0, y 1, eq_ix2 y⟩
  unfold out0_B_4
  rw [View.read_writes_junk_eq_canon]
  unfold kernelRun0_B
  dsimp only
  rw [View.canon_unit_zero (by decide)]
  pointwise [kernelRun0_B.sl.r, k0_pay2, Memref.IsWhole.readAt_unread]
  rfl

/-- A point's block of the gradient of the projection's input. -/
theorem outB6 (c : Dev nD) (i arg1 harg1 arg2 harg2 arg3 harg3 arg4 harg4 arg5 harg5 arg6 harg6 arg7 harg7 hc0) (x0 x1 : Vec Ideal S1024x1024 .f32) (x2 : Vec Ideal S1x3x1024 .f32) (x3 : Vec Ideal S2048x1024 .bf16) (xo : Vec Ideal S1x1x1024 .f32) (y : S1024x2048.Idx) :
    out0_B_6 (F := Ideal) c i arg1 harg1 arg2 harg2 arg3 harg3 arg4 harg4 arg5 harg5 arg6 harg6 arg7 harg7 hc0 x0 x1 x2 x3 xo y = dbrb x0 x2 x3 (y 0) (y 1) := by
  obtain ⟨p, q, rfl⟩ : ∃ (p : Fin 1024) (q : Fin 2048), y = ix2 p q := ⟨y 0, y 1, eq_ix2 y⟩
  unfold out0_B_6
  rw [View.read_writes_junk_eq_canon]
  unfold kernelRun0_B
  dsimp only
  rw [View.canon_unit_zero (by decide)]
  pointwise [kernelRun0_B.sl.r, k0_pay3, k0_pay2, Memref.IsWhole.readAt_unread]
  rfl

/-- What a sequence's first point leaves of the gate's gradient. -/
theorem outA5 (c : Dev nD) (i arg1 harg1 arg2 harg2 arg3 harg3 arg4 harg4 arg5 harg5 arg6 harg6 arg7 harg7 hc0) (x0 x1 : Vec Ideal S1024x1024 .f32) (x2 : Vec Ideal S1x3x1024 .f32) (x3 : Vec Ideal S2048x1024 .bf16) (y : S1x1x1024.Idx) :
    out0_A_5 (F := Ideal) c i arg1 harg1 arg2 harg2 arg3 harg3 arg4 harg4 arg5 harg5 arg6 harg6 arg7 harg7 hc0 x0 x1 x2 x3 y = gb x0 x1 (y 2) := by
  obtain ⟨a, b, q, rfl⟩ : ∃ (a b : Fin 1) (q : Fin 1024), y = ix3 a b q := ⟨y 0, y 1, y 2, eq_ix3 y⟩
  unfold out0_A_5
  rw [View.read_writes_junk_eq_canon]
  unfold kernelRun0_A
  dsimp only
  rw [View.canon_cons_unit_zero (by decide)]
  unfold kernelRun0_A.sl.r kernelRun0_A.sl.r_1 kernelRun0_A.sl.v24 kernelRun0_A.sl.H5_1
  rw [View.readCov_eq_canon', View.canon_unit_zero (by decide)]
  pointwise [k0_pay1, k0_pay4, k0_pay5, k0_pay6, Memref.IsWhole.readAt_unread]
  rfl

/-- What its second point leaves, given what the first left. -/
theorem outB5 (c : Dev nD) (i arg1 harg1 arg2 harg2 arg3 harg3 arg4 harg4 arg5 harg5 arg6 harg6 arg7 harg7 hc0) (x0 x1 : Vec Ideal S1024x1024 .f32) (x2 : Vec Ideal S1x3x1024 .f32) (x3 : Vec Ideal S2048x1024 .bf16) (xo : Vec Ideal S1x1x1024 .f32) (y : S1x1x1024.Idx) :
    out0_B_5 (F := Ideal) c i arg1 harg1 arg2 harg2 arg3 harg3 arg4 harg4 arg5 harg5 arg6 harg6 arg7 harg7 hc0 x0 x1 x2 x3 xo y = xo y + gb x0 x1 (y 2) := by
  obtain ⟨a, b, q, rfl⟩ : ∃ (a b : Fin 1) (q : Fin 1024), y = ix3 a b q := ⟨y 0, y 1, y 2, eq_ix3 y⟩
  unfold out0_B_5
  rw [View.read_writes_junk_eq_canon]
  unfold kernelRun0_B
  dsimp only
  rw [View.canon_unit_zero (by decide)]
  pointwise [kernelRun0_B.sl.r, kernelRun0_B.sl.r_1, k0_pay1, k0_pay5, k0_pay6, Memref.IsWhole.readAt_unread]
  obtain rfl : a = 0 := Subsingleton.elim _ _
  obtain rfl : b = 0 := Subsingleton.elim _ _
  rfl

theorem points : ∀ t : Fin grid0.N, win0_0.index t = ![t.val, 0] ∧ win0_1.index t = ![t.val, 0] ∧ win0_2.index t = ![t.val / 2, 0, 0] ∧ win0_3.index t = ![0, 0]
    ∧ win0_4.index t = ![t.val, 0] ∧ win0_5.index t = ![t.val / 2, 0, 0] ∧ win0_6.index t = ![t.val, 0] := by decide +kernel

theorem last : ∀ t : Fin grid0.N, win0_5.flush t = true → t.val % 2 = 1 := by decide +kernel

variable (m : (ℓ : Loc nD τ sig) → Buf (Elt Ideal) ℓ) (c : Dev nD)

/-- The weights as the call reads them, one row after another. -/
theorem w_at (k : Fin 2048) (q : Fin 1024) :
    (Gen.V m c main_v0 : S2048x1024.Idx → EReal) (ix2 k q) = (m ((c : Thread nD τ).loc main_arg3) : S8x256x1024.Idx → EReal) (ix3 (⟨k.val / 256, by omega⟩ : Fin 8) (⟨k.val % 256, by omega⟩ : Fin 256) q) := by
  unfold Gen.V
  simp only [List.flatten_cons, List.flatten_nil, hostOps0, List.append_nil, List.cons_append, List.nil_append]
  after_reads_at

/-- The gradient of the layer's output at point `t`'s block. -/
theorem block4 (t : Fin cfg0.N) (y : S1024x1024.Idx) (p : Fin 4096) (hp : p.val = t.val * 1024 + (y 0).val) :
    dyb (iblk m c 0 t) (iblk m c 2 t) (y 0) (y 1) = dy (m ((c : Thread nD τ).loc main_arg0)) (m ((c : Thread nD τ).loc main_arg2)) p (y 1) := by
  obtain ⟨a, b, rfl⟩ : ∃ (a b : Fin 1024), y = ix2 a b := ⟨y 0, y 1, eq_ix2 y⟩
  change p.val = t.val * 1024 + a.val at hp
  change dyb (iblk m c 0 t) (iblk m c 2 t) a b = dy (m ((c : Thread nD τ).loc main_arg0)) (m ((c : Thread nD τ).loc main_arg2)) p b
  unfold dyb dy
  exact congrArg₂ (· * ·) (by blk_ext [iblk, Gen.V, points t]) (by blk_ext [iblk, Gen.V, points t])

/-- The gradient of the projection's input at point `t`'s block. -/
theorem block6 (t : Fin cfg0.N) (y : S1024x2048.Idx) (p : Fin 4096) (hp : p.val = t.val * 1024 + (y 0).val) :
    dbrb (iblk m c 0 t) (iblk m c 2 t) (iblk m c 3 t) (y 0) (y 1) = dbr (m ((c : Thread nD τ).loc main_arg0)) (m ((c : Thread nD τ).loc main_arg2)) (m ((c : Thread nD τ).loc main_arg3)) p (y 1) := by
  obtain ⟨a, b, rfl⟩ : ∃ (a : Fin 1024) (b : Fin 2048), y = ix2 a b := ⟨y 0, y 1, eq_ix2 y⟩
  change p.val = t.val * 1024 + a.val at hp
  change dbrb (iblk m c 0 t) (iblk m c 2 t) (iblk m c 3 t) a b = dbr (m ((c : Thread nD τ).loc main_arg0)) (m ((c : Thread nD τ).loc main_arg2)) (m ((c : Thread nD τ).loc main_arg3)) p b
  unfold dbrb dbr
  refine Finset.sum_congr rfl fun k _ => congrArg₂ (· * ·) (block4 m c t (ix2 a k) p hp) (Eq.trans ?_ (w_at m c b k))
  blk_ext [iblk, points t]

/-- The gradient of the layer's output the kernel leaves. -/
theorem left4 : (dats m 0 c).arrAt 4 cfg0.N = fun y : S4096x1024.Idx => dy (m ((c : Thread nD τ).loc main_arg0)) (m ((c : Thread nD τ).loc main_arg2)) (y 0) (y 1) := by
  refine (dats m 0 c).arrAt_eq_of_covers 4 (fun y : S4096x1024.Idx => dy (m ((c : Thread nD τ).loc main_arg0)) (m ((c : Thread nD τ).loc main_arg2)) (y 0) (y 1)) (by decide +kernel) fun t hf y => ?_
  blk_simp
  rw [after0_4]
  have hb : (outsAt0 m c t.val t.isLt).1 y = dyb (iblk m c 0 t) (iblk m c 2 t) (y 0) (y 1) := by
    by_cases h0 : t.val % 2 = 0
    · rw [outsAt0_A m c t h0]
      dsimp only
      rw [outA4]
    · rw [outsAt0_B m c t h0]
      dsimp only
      rw [outB4]
  refine hb.trans ((block4 m c t y ((win0_4.blk t).view.emb y 0) (by simp [points t])).trans ?_)
  exact congrArg (dy _ _ _) (Fin.ext (by simp [points t]))

/-- The gradient of the projection's input the kernel leaves. -/
theorem left6 : (dats m 0 c).arrAt 6 cfg0.N = fun y : S4096x2048.Idx => dbr (m ((c : Thread nD τ).loc main_arg0)) (m ((c : Thread nD τ).loc main_arg2)) (m ((c : Thread nD τ).loc main_arg3)) (y 0) (y 1) := by
  refine (dats m 0 c).arrAt_eq_of_covers 6 (fun y : S4096x2048.Idx => dbr (m ((c : Thread nD τ).loc main_arg0)) (m ((c : Thread nD τ).loc main_arg2)) (m ((c : Thread nD τ).loc main_arg3)) (y 0) (y 1)) (by decide +kernel) fun t hf y => ?_
  blk_simp
  rw [after0_6]
  have hb : (outsAt0 m c t.val t.isLt).2.2 y = dbrb (iblk m c 0 t) (iblk m c 2 t) (iblk m c 3 t) (y 0) (y 1) := by
    by_cases h0 : t.val % 2 = 0
    · rw [outsAt0_A m c t h0]
      dsimp only
      rw [outA6]
    · rw [outsAt0_B m c t h0]
      dsimp only
      rw [outB6]
  refine hb.trans ((block6 m c t y ((win0_6.blk t).view.emb y 0) (by simp [points t])).trans ?_)
  exact congrArg (dbr _ _ _ _) (Fin.ext (by simp [points t]))

/-- A sum over 2048 rows, 1024 at a time. -/
theorem two (f : ℕ → EReal) : ∑ r ∈ Finset.range 2048, f r = (∑ k : Fin 1024, f k.val) + ∑ k : Fin 1024, f (1024 + k.val) := by
  rw [show 2048 = 1024 + 1024 by omega, Finset.sum_range_add]
  simp only [Finset.sum_range]

/-- What point `t` adds to its sequence's gate gradient: the sum over its 1024 rows. -/
theorem block (t : Fin cfg0.N) (q : Fin 1024) :
    gb (iblk m c 0 t) (iblk m c 1 t) q = ∑ k : Fin 1024, term (m ((c : Thread nD τ).loc main_arg0)) (m ((c : Thread nD τ).loc main_arg1)) q (t.val * 1024 + k.val) := by
  unfold gb
  refine Finset.sum_congr rfl fun k _ => ?_
  have h : t.val < 4 := t.isLt
  unfold term
  rw [dif_pos (by omega)]
  exact congrArg₂ (· * ·) (by blk_ext [iblk, Gen.V, points t]) (by blk_ext [iblk, Gen.V, points t])

/-- What a sequence's second point leaves of the gate's gradient: both points' parts. -/
theorem gate (t : Fin cfg0.N) (h1 : t.val % 2 = 1) (y : S1x1x1024.Idx) :
    (outsAt0 m c t.val t.isLt).2.1 y = (∑ k : Fin 1024, term (m ((c : Thread nD τ).loc main_arg0)) (m ((c : Thread nD τ).loc main_arg1)) (y 2) ((t.val - 1) * 1024 + k.val)) + ∑ k : Fin 1024, term (m ((c : Thread nD τ).loc main_arg0)) (m ((c : Thread nD τ).loc main_arg1)) (y 2) (t.val * 1024 + k.val) := by
  have e := outsAt0_A m c ⟨t.val - 1, Nat.lt_of_le_of_lt (Nat.sub_le _ _) t.isLt⟩ (by dsimp only; omega)
  have e1 : (outsAt0 m c (t.val - 1) (Nat.lt_of_le_of_lt (Nat.sub_le _ _) t.isLt)).2.1 y = ∑ k : Fin 1024, term (m ((c : Thread nD τ).loc main_arg0)) (m ((c : Thread nD τ).loc main_arg1)) (y 2) ((t.val - 1) * 1024 + k.val) := by
    refine (congrArg (fun z => z.2.1 y) e).trans ?_
    dsimp only
    rw [outA5]
    exact block m c ⟨t.val - 1, Nat.lt_of_le_of_lt (Nat.sub_le _ _) t.isLt⟩ (y 2)
  rw [outsAt0_B m c t (by omega)]
  dsimp only
  rw [outB5]
  exact congrArg₂ (· + ·) e1 (block m c t (y 2))

/-- The gate's gradient the kernel leaves. -/
theorem left5 : (dats m 0 c).arrAt 5 cfg0.N = fun y : S2x1x1024.Idx => dgate (m ((c : Thread nD τ).loc main_arg0)) (m ((c : Thread nD τ).loc main_arg1)) (y 0) (y 2) := by
  refine (dats m 0 c).arrAt_eq_of_covers 5 (fun y : S2x1x1024.Idx => dgate (m ((c : Thread nD τ).loc main_arg0)) (m ((c : Thread nD τ).loc main_arg1)) (y 0) (y 2)) (by decide +kernel) fun t hf y => ?_
  have h1 := last t hf
  have hN : t.val < 4 := t.isLt
  blk_simp
  rw [after0_5]
  refine (gate m c t h1 y).trans ?_
  unfold dgate
  rw [two]
  have h0 : ((win0_5.blk t).view.emb y 0).val = t.val / 2 := by
    have : (y 0).val < 1 := (y 0).isLt
    simp [points t]
    try omega
  have h2 : (win0_5.blk t).view.emb y 2 = y 2 := Fin.ext (by simp [points t])
  rw [h0]
  refine congrArg₂ (· + ·) (Finset.sum_congr rfl fun k _ => ?_) (Finset.sum_congr rfl fun k _ => ?_)
  · exact congrArg₂ (term (m ((c : Thread nD τ).loc main_arg0)) (m ((c : Thread nD τ).loc main_arg1))) h2.symm (by dsimp only; omega)
  · exact congrArg₂ (term (m ((c : Thread nD τ).loc main_arg0)) (m ((c : Thread nD τ).loc main_arg1))) h2.symm (by omega)

open Cert.DybrRefIdeal.Read in
/-- The reference's gradient of the layer's output is the same. -/
theorem ref_dy (x0 : (⟨S4096x1024, .f32⟩ : BufTy).Contents (Elt Ideal)) (x2 : (⟨S2x3x1024, .f32⟩ : BufTy).Contents (Elt Ideal)) :
    val_main_v18 (F := Ideal) x0 x2 = fun y : S4096x1024.Idx => dy x0 x2 (y 0) (y 1) := by
  funext y
  obtain ⟨p, q, rfl⟩ : ∃ (p : Fin 4096) (q : Fin 1024), y = ix2 p q := ⟨y 0, y 1, eq_ix2 y⟩
  pointwise [val_main_v18, val_main_v13, val_main_v8, val_main_v7, val_main_v6, val_main_v3, val_main_v2, val_main_v1]
  rfl

open Cert.DybrRefIdeal.Read in
/-- The reference's gradient of the projection's input is the same sum. -/
theorem ref_dbr (x0 : (⟨S4096x1024, .f32⟩ : BufTy).Contents (Elt Ideal)) (x2 : (⟨S2x3x1024, .f32⟩ : BufTy).Contents (Elt Ideal)) (x3 : (⟨S8x256x1024, .bf16⟩ : BufTy).Contents (Elt Ideal)) :
    val_main_v20 (F := Ideal) x0 x2 x3 = fun y : S4096x2048.Idx => dbr x0 x2 x3 (y 0) (y 1) := by
  funext y
  obtain ⟨p, q, rfl⟩ : ∃ (p : Fin 4096) (q : Fin 2048), y = ix2 p q := ⟨y 0, y 1, eq_ix2 y⟩
  pointwise [val_main_v20, val_main_v16, val_main_v15, val_main_v13, val_main_v8, val_main_v7, val_main_v6, val_main_v3, val_main_v2, val_main_v1]
  rfl

open Cert.DybrRefIdeal.Read in
/-- The reference's gradient of the gate is the same sum. -/
theorem ref_dgate (x0 x1 : (⟨S4096x1024, .f32⟩ : BufTy).Contents (Elt Ideal)) :
    val_main_v19 (F := Ideal) x0 x1 = fun y : S2x1x1024.Idx => dgate x0 x1 (y 0) (y 2) := by
  funext y
  obtain ⟨b, a, q, rfl⟩ : ∃ (b : Fin 2) (a : Fin 1) (q : Fin 1024), y = ix3 b a q := ⟨y 0, y 1, y 2, eq_ix3 y⟩
  pointwise [val_main_v19, val_main_v12, val_main_v11, val_main_v10, val_main_v9, val_main_v6, val_main_v0, val_main_cst, val_main_cst_0]
  refine (Fintype.sum_unique _).trans ?_
  unfold dgate
  rw [Finset.sum_range]
  refine Finset.sum_congr rfl fun k _ => ?_
  unfold term
  rw [dif_pos (by omega)]

end Cert.Dybr
-- ==== Proof.InB.lean ====
module
public import proofs.«01_k».proof.Proof.Gen.InBIdeal.Value
public import proofs.«01_k».proof.Proof.Gen.InBRefIdeal.Read
public import Idealize.ShloMosaic.Lib.Pipeline.ValueKit
public import Idealize.ShloMosaic.Lib.StableHlo.ReadAt

@[expose] public section

set_option maxRecDepth 16384

noncomputable section

namespace Cert.InB

open Idealize.ShloMosaic Idealize.ShloMosaic.TcCoe Cert.InBIdeal Cert.InBIdeal.Gen

/-- Two halves of a device's columns side by side. -/
def cat (wl wh : S8x1024x512.Idx → EReal) (n : Fin 8) (k : Fin 1024) (r : ℕ) : EReal :=
  if h : r % 1024 < 512 then wl (ix3 n k (⟨r % 1024, h⟩ : Fin 512)) else wh (ix3 n k (⟨r % 1024 - 512, by omega⟩ : Fin 512))

/-- Section `s` of the projection at row `p` and column `q`: the product of `h` with column `q % 1024` of device `2 s + q / 1024`'s weights. -/
def at' (h : S4096x1024.Idx → EReal) (wl wh : S8x1024x512.Idx → EReal) (s : Fin 4) (p : Fin 4096) (q : Fin 2048) : EReal :=
  ∑ k : Fin 1024, h (ix2 p k) * cat wl wh (⟨2 * s.val + q.val / 1024, by omega⟩ : Fin 8) k q.val

/-- The product at row `p` and column `q` of a block, whose columns are two devices' halves. -/
def blk (x0 : S1024x1024.Idx → EReal) (x1 x2 : S2x1024x512.Idx → EReal) (p : Fin 1024) (q : Fin 2048) : EReal :=
  ∑ k : Fin 1024, x0 (ix2 p k) * if h : q.val % 1024 < 512 then x1 (ix3 (⟨q.val / 1024, by omega⟩ : Fin 2) k (⟨q.val % 1024, h⟩ : Fin 512))
    else x2 (ix3 (⟨q.val / 1024, by omega⟩ : Fin 2) k (⟨q.val % 1024 - 512, by omega⟩ : Fin 512))

theorem blk_lo (x0 : S1024x1024.Idx → EReal) (x1 x2 : S2x1024x512.Idx → EReal) {p : Fin 1024} {q : Fin 2048} {j : Fin 1024} {a : Fin 2} {l : Fin 512}
    (hp : p.val = j.val) (hq : q.val = 1024 * a.val + l.val) : ∑ k : Fin 1024, x0 (ix2 j k) * x1 (ix3 a k l) = blk x0 x1 x2 p q := by
  obtain rfl : p = j := Fin.ext hp
  have hlt : q.val % 1024 < 512 := by omega
  have ha : (⟨q.val / 1024, by omega⟩ : Fin 2) = a := Fin.ext (by dsimp only; omega)
  have hl : (⟨q.val % 1024, hlt⟩ : Fin 512) = l := Fin.ext (by dsimp only; omega)
  unfold blk
  simp only [dif_pos hlt, ha, hl]

theorem blk_hi (x0 : S1024x1024.Idx → EReal) (x1 x2 : S2x1024x512.Idx → EReal) {p : Fin 1024} {q : Fin 2048} {j : Fin 1024} {a : Fin 2} {l : Fin 512}
    (hp : p.val = j.val) (hq : q.val = 1024 * a.val + 512 + l.val) : ∑ k : Fin 1024, x0 (ix2 j k) * x2 (ix3 a k l) = blk x0 x1 x2 p q := by
  obtain rfl : p = j := Fin.ext hp
  have hlt : ¬q.val % 1024 < 512 := by omega
  have ha : (⟨q.val / 1024, by omega⟩ : Fin 2) = a := Fin.ext (by dsimp only; omega)
  have hl : (⟨q.val % 1024 - 512, by omega⟩ : Fin 512) = l := Fin.ext (by dsimp only; omega)
  unfold blk
  simp only [dif_neg hlt, ha, hl]

/-- A block of the projection. -/
theorem block (x0 : Vec Ideal S1024x1024 .bf16) (x1 x2 : Vec Ideal S2x1024x512 .bf16) (y : S1x1024x2048.Idx) :
    out0_3 x0 x1 x2 y = blk x0 x1 x2 (y 1) (y 2) := by
  unfold out0_3
  refine View.canon_apply_of_pieces (Val := Elt Ideal) (e := .f32) (fun y : S1x1024x2048.Idx => blk x0 x1 x2 (y 1) (y 2)) [⟨r0_6, k0_pay4 (View.ld x0 r0_0) (View.ld x2 r0_4)⟩,
    ⟨r0_5, k0_pay3 (View.ld x0 r0_0) (View.ld x1 r0_4)⟩,
    ⟨r0_3, k0_pay2 (View.ld x0 r0_0) (View.ld x2 r0_1)⟩,
    ⟨r0_2, k0_pay1 (View.ld x0 r0_0) (View.ld x1 r0_1)⟩] ?_ y (cover0_3 (F := Ideal) _ _ _ _ y)
  refine List.forall_mem_cons.2 ⟨?_, List.forall_mem_cons.2 ⟨?_, List.forall_mem_cons.2 ⟨?_, List.forall_mem_cons.2 ⟨?_, fun _ h => absurd h List.not_mem_nil⟩⟩⟩⟩
  all_goals
    intro y
    obtain ⟨a, j, l, rfl⟩ : ∃ (a : Fin 1) (j : Fin 1024) (l : Fin 512), y = ix3 a j l := ⟨y 0, y 1, y 2, eq_ix3 y⟩
  · pointwise [k0_pay4]
    exact blk_hi x0 x1 x2 (by simp) (by simp)
  · pointwise [k0_pay3]
    exact blk_lo x0 x1 x2 (by simp) (by simp)
  · pointwise [k0_pay2]
    exact blk_hi x0 x1 x2 (by simp) (by simp)
  · pointwise [k0_pay1]
    exact blk_lo x0 x1 x2 (by simp) (by simp)

theorem points : ∀ t : Fin grid0.N, win0_0.index t = ![t.val % 4, 0] ∧ win0_1.index t = ![t.val / 4, 0, 0] ∧ win0_2.index t = ![t.val / 4, 0, 0] ∧ win0_3.index t = ![t.val / 4, t.val % 4, 0] := by decide +kernel

/-- The array the kernel leaves. -/
theorem left (m : (ℓ : Loc nD τ sig) → Buf (Elt Ideal) ℓ) (c : Dev nD) : (dats m 0 c).arrAt 3 cfg0.N
    = fun y : S4x4096x2048.Idx => at' (m ((c : Thread nD τ).loc main_arg0)) (m ((c : Thread nD τ).loc main_arg1)) (m ((c : Thread nD τ).loc main_arg2)) (y 0) (y 1) (y 2) := by
  refine (dats m 0 c).arrAt_eq_of_covers 3 (fun y : S4x4096x2048.Idx => at' (m ((c : Thread nD τ).loc main_arg0)) (m ((c : Thread nD τ).loc main_arg1)) (m ((c : Thread nD τ).loc main_arg2)) (y 0) (y 1) (y 2)) (by decide +kernel) fun t hf y => ?_
  blk_simp
  rw [after0_3]
  refine (block _ _ _ y).trans (Finset.sum_congr rfl fun k _ => congrArg₂ (· * ·) ?_ ?_)
  · blk_ext [iblk, Gen.V, points t]
  · unfold cat
    have e2 : ((win0_3.blk t).view.emb y 2).val = (y 2).val := by simp [points t]
    by_cases h : (y 2).val % 1024 < 512
    · rw [dif_pos h, dif_pos (by rw [e2]; exact h)]
      blk_ext [iblk, Gen.V, points t]
    · rw [dif_neg h, dif_neg (by rw [e2]; exact h)]
      blk_ext [iblk, Gen.V, points t]

open Cert.InBRefIdeal.Read in
/-- The reference's product is the same sum. -/
theorem ref (x0 : (⟨S4096x1024, .bf16⟩ : BufTy).Contents (Elt Ideal)) (x1 x2 : (⟨S8x1024x512, .bf16⟩ : BufTy).Contents (Elt Ideal)) :
    val_main_v7 (F := Ideal) x0 x1 x2 = fun y : S4x4096x2048.Idx => at' x0 x1 x2 (y 0) (y 1) (y 2) := by
  funext y
  obtain ⟨s, p, q, rfl⟩ : ∃ (s : Fin 4) (p : Fin 4096) (q : Fin 2048), y = ix3 s p q := ⟨y 0, y 1, y 2, eq_ix3 y⟩
  pointwise [val_main_v7, val_main_v6, val_main_v5, val_main_v4, val_main_v3, val_main_v2, val_main_v1, val_main_v0]
  unfold at' cat
  refine Finset.sum_congr rfl fun k _ => congrArg (x0 (ix2 p k) * ·) ?_
  have e1 : (s.val * 2048 + q.val) / 1024 = 2 * s.val + q.val / 1024 := by omega
  have e2 : (s.val * 2048 + q.val) % 1024 = q.val % 1024 := by omega
  simp only [e1, e2]

end Cert.InB
-- ==== Proof.InA.lean ====
module
public import proofs.«01_k».proof.Proof.Gen.InAIdeal.Value
public import proofs.«01_k».proof.Proof.Gen.InARefIdeal.Read
public import Idealize.ShloMosaic.Lib.Pipeline.ValueKit
public import Idealize.ShloMosaic.Lib.StableHlo.ReadAt

@[expose] public section

set_option maxRecDepth 16384

noncomputable section

namespace Cert.InA

open Idealize.ShloMosaic Idealize.ShloMosaic.TcCoe Cert.InAIdeal Cert.InAIdeal.Gen

/-- Column `q` of the projection is column `q % 768` of device `q / 768`'s weights: the product at row `p` and column `q`. -/
def at' (h : S4096x1024.Idx → EReal) (w : S8x1024x768.Idx → EReal) (p : Fin 4096) (q : Fin 6144) : EReal :=
  ∑ k : Fin 1024, h (ix2 p k) * w (ix3 (⟨q.val / 768, by omega⟩ : Fin 8) k (⟨q.val % 768, by omega⟩ : Fin 768))

/-- The product at row `p` and column `q` of a block, whose columns are two devices'. -/
def blk (x0 : S1024x1024.Idx → EReal) (x1 : S2x1024x768.Idx → EReal) (p : Fin 1024) (q : Fin 1536) : EReal :=
  ∑ k : Fin 1024, x0 (ix2 p k) * x1 (ix3 (⟨q.val / 768, by omega⟩ : Fin 2) k (⟨q.val % 768, by omega⟩ : Fin 768))

theorem blk_of (x0 : S1024x1024.Idx → EReal) (x1 : S2x1024x768.Idx → EReal) {p : Fin 1024} {q : Fin 1536} {j : Fin 1024} {a : Fin 2} {l : Fin 768}
    (hp : p.val = j.val) (hq : q.val = 768 * a.val + l.val) : ∑ k : Fin 1024, x0 (ix2 j k) * x1 (ix3 a k l) = blk x0 x1 p q := by
  obtain rfl : p = j := Fin.ext hp
  have ha : (⟨q.val / 768, by omega⟩ : Fin 2) = a := Fin.ext (by dsimp only; omega)
  have hl : (⟨q.val % 768, by omega⟩ : Fin 768) = l := Fin.ext (by dsimp only; omega)
  unfold blk
  rw [ha, hl]

/-- A block of the projection. -/
theorem block (x0 : Vec Ideal S1024x1024 .bf16) (x1 : Vec Ideal S2x1024x768 .bf16) (y : S1024x1536.Idx) :
    out0_2 x0 x1 y = blk x0 x1 (y 0) (y 1) := by
  unfold out0_2
  refine View.canon_apply_of_pieces (Val := Elt Ideal) (e := .f32) (fun y : S1024x1536.Idx => blk x0 x1 (y 0) (y 1)) [⟨r0_4, k0_pay2 (View.ld x0 r0_0) (View.ld x1 r0_3)⟩,
    ⟨r0_2, k0_pay1 (View.ld x0 r0_0) (View.ld x1 r0_1)⟩] ?_ y (cover0_2 (F := Ideal) _ _ y)
  refine List.forall_mem_cons.2 ⟨?_, List.forall_mem_cons.2 ⟨?_, fun _ h => absurd h List.not_mem_nil⟩⟩
  · intro y
    obtain ⟨j, l, rfl⟩ : ∃ (j : Fin 1024) (l : Fin 768), y = ix2 j l := ⟨y 0, y 1, eq_ix2 y⟩
    pointwise [k0_pay2]
    exact blk_of x0 x1 (by simp) (by simp)
  · intro y
    obtain ⟨j, l, rfl⟩ : ∃ (j : Fin 1024) (l : Fin 768), y = ix2 j l := ⟨y 0, y 1, eq_ix2 y⟩
    pointwise [k0_pay1]
    exact blk_of x0 x1 (by simp) (by simp)

theorem points : ∀ t : Fin grid0.N, win0_0.index t = ![t.val % 4, 0] ∧ win0_1.index t = ![t.val / 4, 0, 0] ∧ win0_2.index t = ![t.val % 4, t.val / 4] := by decide +kernel

/-- The array the kernel leaves. -/
theorem left (m : (ℓ : Loc nD τ sig) → Buf (Elt Ideal) ℓ) (c : Dev nD) :
    (dats m 0 c).arrAt 2 cfg0.N = fun y : S4096x6144.Idx => at' (m ((c : Thread nD τ).loc main_arg0)) (m ((c : Thread nD τ).loc main_arg1)) (y 0) (y 1) := by
  refine (dats m 0 c).arrAt_eq_of_covers 2 (fun y : S4096x6144.Idx => at' (m ((c : Thread nD τ).loc main_arg0)) (m ((c : Thread nD τ).loc main_arg1)) (y 0) (y 1)) (by decide +kernel) fun t hf y => ?_
  blk_simp
  rw [after0_2]
  refine (block _ _ y).trans (Finset.sum_congr rfl fun k _ => congrArg₂ (· * ·) ?_ ?_)
  · blk_ext [iblk, Gen.V, points t]
  · blk_ext [iblk, Gen.V, points t]

open Cert.InARefIdeal.Read in
/-- The reference's product is the same sum. -/
theorem ref (x0 : (⟨S4096x1024, .bf16⟩ : BufTy).Contents (Elt Ideal)) (x1 : (⟨S8x1024x768, .bf16⟩ : BufTy).Contents (Elt Ideal)) :
    val_main_v4 (F := Ideal) x0 x1 = fun y : S4096x6144.Idx => at' x0 x1 (y 0) (y 1) := by
  funext y
  rw [eq_ix2 y]
  pointwise [val_main_v4, val_main_v3, val_main_v2, val_main_v1, val_main_v0]
  rfl

end Cert.InA
-- ==== Proof.OutA.lean ====
module
public import proofs.«01_k».proof.Proof.Gen.OutAIdeal.Value
public import proofs.«01_k».proof.Proof.Gen.OutARefIdeal.Read
public import Idealize.ShloMosaic.Lib.Pipeline.ValueKit
public import Idealize.ShloMosaic.Lib.StableHlo.ReadAt

@[expose] public section

set_option maxRecDepth 16384

noncomputable section

namespace Cert.OutA

open Idealize.ShloMosaic Idealize.ShloMosaic.TcCoe Cert.OutAIdeal Cert.OutAIdeal.Gen

/-- The output projection at row `p` and column `q`. -/
def yo (y : S4096x2048.Idx → EReal) (w : S8x256x1024.Idx → EReal) (p : Fin 4096) (q : Fin 1024) : EReal :=
  ∑ k : Fin 2048, y (ix2 p k) * w (ix3 (⟨k.val / 256, by omega⟩ : Fin 8) (⟨k.val % 256, by omega⟩ : Fin 256) q)

/-- The residual stream after the layer: the stream before it and the gate times the output projection. -/
def xn (y : S4096x2048.Idx → EReal) (w : S8x256x1024.Idx → EReal) (x : S4096x1024.Idx → EReal) (g : S2x3x1024.Idx → EReal) (p : Fin 4096) (q : Fin 1024) : EReal :=
  x (ix2 p q) + g (ix3 (⟨p.val / 2048, by omega⟩ : Fin 2) (2 : Fin 3) q) * yo y w p q

/-- A block of the output projection. -/
theorem block4 (x0 : Vec Ideal S512x2048 .bf16) (x1 : Vec Ideal S2048x1024 .bf16) (x2 : Vec Ideal S512x1024 .f32) (x3 : Vec Ideal S1x3x1024 .f32) (y : S512x1024.Idx) :
    out0_4 x0 x1 x2 x3 y = ∑ k : Fin 2048, x0 (ix2 (y 0) k) * x1 (ix2 k (y 1)) := by
  obtain ⟨p, q, rfl⟩ : ∃ (p : Fin 512) (q : Fin 1024), y = ix2 p q := ⟨y 0, y 1, eq_ix2 y⟩
  unfold out0_4
  rw [View.canon_unit_zero (by decide)]
  pointwise [k0_pay1]

/-- A block of the residual stream. -/
theorem block5 (x0 : Vec Ideal S512x2048 .bf16) (x1 : Vec Ideal S2048x1024 .bf16) (x2 : Vec Ideal S512x1024 .f32) (x3 : Vec Ideal S1x3x1024 .f32) (y : S512x1024.Idx) :
    out0_5 x0 x1 x2 x3 y = x2 (ix2 (y 0) (y 1)) + x3 (ix3 (0 : Fin 1) (2 : Fin 3) (y 1)) * ∑ k : Fin 2048, x0 (ix2 (y 0) k) * x1 (ix2 k (y 1)) := by
  obtain ⟨p, q, rfl⟩ : ∃ (p : Fin 512) (q : Fin 1024), y = ix2 p q := ⟨y 0, y 1, eq_ix2 y⟩
  unfold out0_5
  rw [View.canon_unit_zero (by decide)]
  pointwise [k0_pay2, k0_pay1]

theorem points : ∀ t : Fin grid0.N, win0_0.index t = ![t.val, 0] ∧ win0_1.index t = ![0, 0] ∧ win0_2.index t = ![t.val, 0] ∧ win0_3.index t = ![t.val / 4, 0, 0] ∧ win0_4.index t = ![t.val, 0] ∧ win0_5.index t = ![t.val, 0] := by decide +kernel

/-- The weights as the call reads them, one row after another. -/
theorem w_at (m : (ℓ : Loc nD τ sig) → Buf (Elt Ideal) ℓ) (c : Dev nD) (k : Fin 2048) (q : Fin 1024) :
    (Gen.V m c main_v0 : S2048x1024.Idx → EReal) (ix2 k q) = (m ((c : Thread nD τ).loc main_arg1) : S8x256x1024.Idx → EReal) (ix3 (⟨k.val / 256, by omega⟩ : Fin 8) (⟨k.val % 256, by omega⟩ : Fin 256) q) := by
  unfold Gen.V
  simp only [List.flatten_cons, List.flatten_nil, hostOps0, List.append_nil, List.cons_append, List.nil_append]
  after_reads_at

/-- The output projection the kernel leaves. -/
theorem left4 (m : (ℓ : Loc nD τ sig) → Buf (Elt Ideal) ℓ) (c : Dev nD) : (dats m 0 c).arrAt 4 cfg0.N
    = fun y : S4096x1024.Idx => yo (m ((c : Thread nD τ).loc main_arg0)) (m ((c : Thread nD τ).loc main_arg1)) (y 0) (y 1) := by
  refine (dats m 0 c).arrAt_eq_of_covers 4 (fun y : S4096x1024.Idx => yo (m ((c : Thread nD τ).loc main_arg0)) (m ((c : Thread nD τ).loc main_arg1)) (y 0) (y 1)) (by decide +kernel) fun t hf y => ?_
  blk_simp
  rw [after0_4]
  refine (block4 _ _ _ _ y).trans (Finset.sum_congr rfl fun k _ => congrArg₂ (· * ·) ?_ ?_)
  · blk_ext [iblk, Gen.V, points t]
  · refine Eq.trans ?_ (w_at m c k _)
    blk_ext [iblk, points t]

/-- The residual stream the kernel leaves. -/
theorem left5 (m : (ℓ : Loc nD τ sig) → Buf (Elt Ideal) ℓ) (c : Dev nD) : (dats m 0 c).arrAt 5 cfg0.N
    = fun y : S4096x1024.Idx => xn (m ((c : Thread nD τ).loc main_arg0)) (m ((c : Thread nD τ).loc main_arg1)) (m ((c : Thread nD τ).loc main_arg2)) (m ((c : Thread nD τ).loc main_arg3)) (y 0) (y 1) := by
  refine (dats m 0 c).arrAt_eq_of_covers 5 (fun y : S4096x1024.Idx => xn (m ((c : Thread nD τ).loc main_arg0)) (m ((c : Thread nD τ).loc main_arg1)) (m ((c : Thread nD τ).loc main_arg2)) (m ((c : Thread nD τ).loc main_arg3)) (y 0) (y 1)) (by decide +kernel) fun t hf y => ?_
  blk_simp
  rw [after0_5]
  refine (block5 _ _ _ _ y).trans (congrArg₂ (· + ·) ?_ (congrArg₂ (· * ·) ?_ (Finset.sum_congr rfl fun k _ => congrArg₂ (· * ·) ?_ ?_)))
  · blk_ext [iblk, Gen.V, points t]
  · blk_ext [iblk, Gen.V, points t]
  · blk_ext [iblk, Gen.V, points t]
  · refine Eq.trans ?_ (w_at m c k _)
    blk_ext [iblk, points t]

open Cert.OutARefIdeal.Read in
/-- The reference's output projection is the same sum. -/
theorem ref_yo (x0 : (⟨S4096x2048, .bf16⟩ : BufTy).Contents (Elt Ideal)) (x1 : (⟨S8x256x1024, .bf16⟩ : BufTy).Contents (Elt Ideal)) :
    val_main_v3 (F := Ideal) x0 x1 = fun y : S4096x1024.Idx => yo x0 x1 (y 0) (y 1) := by
  funext y
  obtain ⟨p, q, rfl⟩ : ∃ (p : Fin 4096) (q : Fin 1024), y = ix2 p q := ⟨y 0, y 1, eq_ix2 y⟩
  pointwise [val_main_v3, val_main_v2, val_main_v1, val_main_v0]
  rfl

open Cert.OutARefIdeal.Read in
/-- The reference's residual stream is the same. -/
theorem ref_xn (x0 : (⟨S4096x2048, .bf16⟩ : BufTy).Contents (Elt Ideal)) (x1 : (⟨S8x256x1024, .bf16⟩ : BufTy).Contents (Elt Ideal)) (x2 : (⟨S4096x1024, .f32⟩ : BufTy).Contents (Elt Ideal)) (x3 : (⟨S2x3x1024, .f32⟩ : BufTy).Contents (Elt Ideal)) :
    val_main_v12 (F := Ideal) x0 x1 x2 x3 = fun y : S4096x1024.Idx => xn x0 x1 x2 x3 (y 0) (y 1) := by
  funext y
  obtain ⟨p, q, rfl⟩ : ∃ (p : Fin 4096) (q : Fin 1024), y = ix2 p q := ⟨y 0, y 1, eq_ix2 y⟩
  pointwise [val_main_v12, val_main_v11, val_main_v10, val_main_v9, val_main_v8, val_main_v7, val_main_v6, val_main_v5, val_main_v4, val_main_v3, val_main_v2, val_main_v1, val_main_v0]
  rfl

end Cert.OutA
-- ==== Proof.AdaBwd.lean ====
module
public import proofs.«01_k».proof.Proof.Gen.AdaBwdIdeal.Value
public import proofs.«01_k».proof.Proof.Gen.AdaBwdRefIdeal.Read
public import Idealize.ShloMosaic.Lib.Pipeline.ValueKit
public import Idealize.ShloMosaic.Lib.StableHlo.ReadAt

@[expose] public section

set_option maxRecDepth 16384

noncomputable section

namespace Cert.AdaBwd

open Idealize.ShloMosaic Idealize.ShloMosaic.TcCoe Cert.AdaBwdIdeal Cert.AdaBwdIdeal.Gen

/-- The activation of the conditioning at row `r` and column `k`. -/
def act (x : S16x1024.Idx → EReal) (r : Fin 16) (k : Fin 1024) : EReal :=
  x (ix2 r k) * Ideal.div 1 (1 + Ideal.exp (-x (ix2 r k)))

/-- The gradient of layer `l`'s weights at row `p` and column `q`: the sum over the sixteen conditionings. -/
def gw (x : S16x1024.Idx → EReal) (d : S2x16x384.Idx → EReal) (l : Fin 2) (p : Fin 1024) (q : Fin 384) : EReal :=
  ∑ r : Fin 16, act x r p * d (ix3 l r q)

/-- The gradient of layer `l`'s bias at column `q`: the sum over the sixteen conditionings. -/
def gb (d : S2x16x3072.Idx → EReal) (l : Fin 2) (q : Fin 3072) : EReal := ∑ r : Fin 16, d (ix3 l r q)

/-- The block of the weights' gradient. -/
theorem block3 (x0 : Vec Ideal S16x1024 .f32) (x1 : Vec Ideal S2x16x384 .f32) (x2 : Vec Ideal S2x16x3072 .f32) (y : S2x1024x384.Idx) :
    out0_3 x0 x1 x2 y = gw x0 x1 (y 0) (y 1) (y 2) := by
  unfold out0_3
  refine View.canon_apply_of_pieces (Val := Elt Ideal) (e := .f32) (fun y : S2x1024x384.Idx => gw x0 x1 (y 0) (y 1) (y 2)) [⟨r0_6, k0_pay5 (View.ld x0 r0_0) (View.ld x1 r0_5)⟩,
    ⟨r0_2, k0_pay3 (View.ld x0 r0_0) (View.ld x1 r0_1)⟩] ?_ y (cover0_3 (F := Ideal) _ _ y)
  refine List.forall_mem_cons.2 ⟨?_, List.forall_mem_cons.2 ⟨?_, fun _ h => absurd h List.not_mem_nil⟩⟩
  all_goals
    intro y
    obtain ⟨a, p, q, rfl⟩ : ∃ (a : Fin 1) (p : Fin 1024) (q : Fin 384), y = ix3 a p q := ⟨y 0, y 1, y 2, eq_ix3 y⟩
    obtain rfl : a = 0 := Subsingleton.elim _ _
  · pointwise [k0_pay5, k0_pay2]
    simp only [zero_sub]
    rw [show r0_6.emb (ix3 (0 : Fin 1) p q) 0 = (1 : Fin 2) from rfl, show r0_6.emb (ix3 (0 : Fin 1) p q) 1 = p from Fin.ext (by simp), show r0_6.emb (ix3 (0 : Fin 1) p q) 2 = q from Fin.ext (by simp)]
    rfl
  · pointwise [k0_pay3, k0_pay2]
    simp only [zero_sub]
    rw [show r0_2.emb (ix3 (0 : Fin 1) p q) 0 = (0 : Fin 2) from rfl, show r0_2.emb (ix3 (0 : Fin 1) p q) 1 = p from Fin.ext (by simp), show r0_2.emb (ix3 (0 : Fin 1) p q) 2 = q from Fin.ext (by simp)]
    rfl

/-- The block of the bias's gradient. -/
theorem block4 (x0 : Vec Ideal S16x1024 .f32) (x1 : Vec Ideal S2x16x384 .f32) (x2 : Vec Ideal S2x16x3072 .f32) (y : S2x3072.Idx) :
    out0_4 x0 x1 x2 y = gb x2 (y 0) (y 1) := by
  unfold out0_4
  refine View.canon_apply_of_pieces (Val := Elt Ideal) (e := .f32) (fun y : S2x3072.Idx => gb x2 (y 0) (y 1)) [⟨r0_8, k0_pay1 (View.ld x2 r0_7)⟩,
    ⟨r0_4, k0_pay4 (View.ld x2 r0_3)⟩] ?_ y (cover0_4 (F := Ideal) _ _ y)
  refine List.forall_mem_cons.2 ⟨?_, List.forall_mem_cons.2 ⟨?_, fun _ h => absurd h List.not_mem_nil⟩⟩
  all_goals
    intro y
    obtain ⟨a, q, rfl⟩ : ∃ (a : Fin 1) (q : Fin 3072), y = ix2 a q := ⟨y 0, y 1, eq_ix2 y⟩
    obtain rfl : a = 0 := Subsingleton.elim _ _
  · pointwise [k0_pay1]
    rw [show r0_8.emb (ix2 (0 : Fin 1) q) 0 = (1 : Fin 2) from rfl, show r0_8.emb (ix2 (0 : Fin 1) q) 1 = q from Fin.ext (by simp)]
    rfl
  · pointwise [k0_pay4]
    rw [show r0_4.emb (ix2 (0 : Fin 1) q) 0 = (0 : Fin 2) from rfl, show r0_4.emb (ix2 (0 : Fin 1) q) 1 = q from Fin.ext (by simp)]
    rfl

theorem points : ∀ t : Fin grid0.N, win0_0.index t = ![0, 0] ∧ win0_1.index t = ![0, 0, 0] ∧ win0_2.index t = ![0, 0, 0] ∧ win0_3.index t = ![0, 0, 0] ∧ win0_4.index t = ![0, 0] := by decide +kernel

variable (m : (ℓ : Loc nD τ sig) → Buf (Elt Ideal) ℓ) (c : Dev nD)

/-- The weights' gradient the kernel leaves. -/
theorem left3 : (dats m 0 c).arrAt 3 cfg0.N = fun y : S2x1024x384.Idx => gw (m ((c : Thread nD τ).loc main_arg0)) (m ((c : Thread nD τ).loc main_arg1)) (y 0) (y 1) (y 2) := by
  refine (dats m 0 c).arrAt_eq_of_covers 3 (fun y : S2x1024x384.Idx => gw (m ((c : Thread nD τ).loc main_arg0)) (m ((c : Thread nD τ).loc main_arg1)) (y 0) (y 1) (y 2)) (by decide +kernel) fun t hf y => ?_
  blk_simp
  rw [after0_3]
  refine (block3 _ _ _ y).trans ?_
  have h0 : (iblk m c 0 t : S16x1024.Idx → EReal) = m ((c : Thread nD τ).loc main_arg0) := by
    funext y
    blk_ext [iblk, Gen.V, points t]
  have h1 : (iblk m c 1 t : S2x16x384.Idx → EReal) = m ((c : Thread nD τ).loc main_arg1) := by
    funext y
    blk_ext [iblk, Gen.V, points t]
  have he : ∀ y : S2x1024x384.Idx, (win0_3.blk t).view.emb y = y := fun y => by
    funext a
    fin_cases a <;> exact Fin.ext (by simp [points t])
  rw [he y, h0, h1]

/-- The bias's gradient the kernel leaves. -/
theorem left4 : (dats m 0 c).arrAt 4 cfg0.N = fun y : S2x3072.Idx => gb (m ((c : Thread nD τ).loc main_arg2)) (y 0) (y 1) := by
  refine (dats m 0 c).arrAt_eq_of_covers 4 (fun y : S2x3072.Idx => gb (m ((c : Thread nD τ).loc main_arg2)) (y 0) (y 1)) (by decide +kernel) fun t hf y => ?_
  blk_simp
  rw [after0_4]
  refine (block4 _ _ _ y).trans ?_
  have h2 : (iblk m c 2 t : S2x16x3072.Idx → EReal) = m ((c : Thread nD τ).loc main_arg2) := by
    funext y
    blk_ext [iblk, Gen.V, points t]
  have he : ∀ y : S2x3072.Idx, (win0_4.blk t).view.emb y = y := fun y => by
    funext a
    fin_cases a <;> exact Fin.ext (by simp [points t])
  rw [he y, h2]

open Cert.AdaBwdRefIdeal.Read in
/-- The reference's gradient of the weights. -/
theorem ref3 (x0 : (⟨S16x1024, .f32⟩ : BufTy).Contents (Elt Ideal)) (x1 : (⟨S2x16x384, .f32⟩ : BufTy).Contents (Elt Ideal)) :
    val_main_v16 (F := Ideal) x0 x1 = fun y : S2x1024x384.Idx => gw x0 x1 (y 0) (y 1) (y 2) := by
  funext y
  obtain ⟨a, p, q, rfl⟩ : ∃ (a : Fin 2) (p : Fin 1024) (q : Fin 384), y = ix3 a p q := ⟨y 0, y 1, y 2, eq_ix3 y⟩
  pointwise [val_main_v16, val_main_v15, val_main_v14, val_main_v13, val_main_v12, val_main_v10, val_main_v8, val_main_v7, val_main_v6, val_main_v5, val_main_v3, val_main_v1, val_main_v0, val_main_call0_v0, val_main_call0_v1, val_main_call0_v2, val_main_call0_v3, val_main_call0_v4, val_main_call0_v5, val_main_call0_cst, val_main_call0_cst_0, val_main_call1_v0, val_main_call1_v1, val_main_call1_v2, val_main_call1_v3, val_main_call1_v4, val_main_call1_v5, val_main_call1_cst, val_main_call1_cst_0]
  rcases Fin.exists_fin_two.1 ⟨a, rfl⟩ with rfl | rfl
  · exact Finset.sum_congr rfl fun r _ => mul_comm _ _
  · exact Finset.sum_congr rfl fun r _ => mul_comm _ _

open Cert.AdaBwdRefIdeal.Read in
/-- The reference's gradient of the bias. -/
theorem ref4 (x2 : (⟨S2x16x3072, .f32⟩ : BufTy).Contents (Elt Ideal)) :
    val_main_v39 (F := Ideal) x2 = fun y : S2x3072.Idx => gb x2 (y 0) (y 1) := by
  funext y
  obtain ⟨a, q, rfl⟩ : ∃ (a : Fin 2) (q : Fin 3072), y = ix2 a q := ⟨y 0, y 1, eq_ix2 y⟩
  pointwise [val_main_v39, val_main_v38, val_main_v37, val_main_v36, val_main_v35, val_main_v34, val_main_v28, val_main_v27, val_main_v26, val_main_v25, val_main_v24, val_main_v18, val_main_v17, val_main_cst_3, val_main_cst_4, val_main_cst_7, val_main_cst_8]
  simp only [Fintype.sum_unique]
  rcases Fin.exists_fin_two.1 ⟨a, rfl⟩ with rfl | rfl
  · rfl
  · rfl

end Cert.AdaBwd
-- ==== Proof.AdaFwd.lean ====
module
public import proofs.«01_k».proof.Proof.Gen.AdaFwdIdeal.Value
public import proofs.«01_k».proof.Proof.Gen.AdaFwdRefIdeal.Read
public import Idealize.ShloMosaic.Lib.Pipeline.ValueKit
public import Idealize.ShloMosaic.Lib.StableHlo.ReadAt

@[expose] public section

set_option maxRecDepth 16384

noncomputable section

namespace Cert.AdaFwd

open Idealize.ShloMosaic Idealize.ShloMosaic.TcCoe Cert.AdaFwdIdeal Cert.AdaFwdIdeal.Gen

/-- The activation of the conditioning at row `r` and column `k`. -/
def act (x : S16x1024.Idx → EReal) (r : Fin 16) (k : Fin 1024) : EReal :=
  x (ix2 r k) * Ideal.div 1 (1 + Ideal.exp (-x (ix2 r k)))

/-- The modulation of layer `l` at conditioning `r` and column `q`: the activation times the weights, and the bias. -/
def mods (x : S16x1024.Idx → EReal) (w : S2x1024x384.Idx → EReal) (b : S2x1x384.Idx → EReal) (l : Fin 2) (r : Fin 16) (q : Fin 384) : EReal :=
  (∑ k : Fin 1024, act x r k * w (ix3 l k q)) + b (ix3 l (0 : Fin 1) q)

/-- The block of the modulation. -/
theorem block4 (x0 : Vec Ideal S16x1024 .f32) (x1 : Vec Ideal S2x1024x384 .f32) (x2 : Vec Ideal S2x1x384 .f32) (x3 : Vec Ideal S2x2048 .f32) (y : S2x16x384.Idx) :
    out0_4 x0 x1 x2 x3 y = mods x0 x1 x2 (y 0) (y 1) (y 2) := by
  unfold out0_4
  refine View.canon_apply_of_pieces (Val := Elt Ideal) (e := .f32) (fun y : S2x16x384.Idx => mods x0 x1 x2 (y 0) (y 1) (y 2)) [⟨r0_6, k0_pay11 (View.ld x0 r0_0) (View.ld x1 r0_4) (View.ld x2 r0_5)⟩,
    ⟨r0_3, k0_pay10 (View.ld x0 r0_0) (View.ld x1 r0_1) (View.ld x2 r0_2)⟩] ?_ y (cover0_4 (F := Ideal) _ _ y)
  refine List.forall_mem_cons.2 ⟨?_, List.forall_mem_cons.2 ⟨?_, fun _ h => absurd h List.not_mem_nil⟩⟩
  all_goals
    intro y
    obtain ⟨a, p, q, rfl⟩ : ∃ (a : Fin 1) (p : Fin 16) (q : Fin 384), y = ix3 a p q := ⟨y 0, y 1, y 2, eq_ix3 y⟩
    obtain rfl : a = 0 := Subsingleton.elim _ _
  · pointwise [k0_pay11, k0_pay9]
    simp only [zero_sub]
    rw [show r0_6.emb (ix3 (0 : Fin 1) p q) 0 = (1 : Fin 2) from rfl, show r0_6.emb (ix3 (0 : Fin 1) p q) 1 = p from Fin.ext (by simp), show r0_6.emb (ix3 (0 : Fin 1) p q) 2 = q from Fin.ext (by simp)]
    rfl
  · pointwise [k0_pay10, k0_pay9]
    simp only [zero_sub]
    rw [show r0_3.emb (ix3 (0 : Fin 1) p q) 0 = (0 : Fin 2) from rfl, show r0_3.emb (ix3 (0 : Fin 1) p q) 1 = p from Fin.ext (by simp), show r0_3.emb (ix3 (0 : Fin 1) p q) 2 = q from Fin.ext (by simp)]
    rfl

theorem points : ∀ t : Fin grid0.N, win0_0.index t = ![0, 0] ∧ win0_1.index t = ![0, 0, 0] ∧ win0_2.index t = ![0, 0, 0] ∧ win0_4.index t = ![0, 0, 0] := by decide +kernel

variable (m : (ℓ : Loc nD τ sig) → Buf (Elt Ideal) ℓ) (c : Dev nD)

/-- The modulation the kernel leaves. -/
theorem left4 : (dats m 0 c).arrAt 4 cfg0.N = fun y : S2x16x384.Idx => mods (m ((c : Thread nD τ).loc main_arg0)) (m ((c : Thread nD τ).loc main_arg1)) (m ((c : Thread nD τ).loc main_arg2)) (y 0) (y 1) (y 2) := by
  refine (dats m 0 c).arrAt_eq_of_covers 4 (fun y : S2x16x384.Idx => mods (m ((c : Thread nD τ).loc main_arg0)) (m ((c : Thread nD τ).loc main_arg1)) (m ((c : Thread nD τ).loc main_arg2)) (y 0) (y 1) (y 2)) (by decide +kernel) fun t hf y => ?_
  blk_simp
  rw [after0_4]
  refine (block4 _ _ _ _ y).trans ?_
  have h0 : (iblk m c 0 t : S16x1024.Idx → EReal) = m ((c : Thread nD τ).loc main_arg0) := by
    funext y
    blk_ext [iblk, Gen.V, points t]
  have h1 : (iblk m c 1 t : S2x1024x384.Idx → EReal) = m ((c : Thread nD τ).loc main_arg1) := by
    funext y
    blk_ext [iblk, Gen.V, points t]
  have h2 : (iblk m c 2 t : S2x1x384.Idx → EReal) = m ((c : Thread nD τ).loc main_arg2) := by
    funext y
    blk_ext [iblk, Gen.V, points t]
  have he : ∀ y : S2x16x384.Idx, (win0_4.blk t).view.emb y = y := fun y => by
    funext a
    fin_cases a <;> exact Fin.ext (by simp [points t])
  rw [he y, h0, h1, h2]

open Cert.AdaFwdRefIdeal.Read in
/-- The reference's modulation. -/
theorem ref4 (x0 : (⟨S16x1024, .f32⟩ : BufTy).Contents (Elt Ideal)) (x1 : (⟨S2x1024x384, .f32⟩ : BufTy).Contents (Elt Ideal)) (x2 : (⟨S2x1x384, .f32⟩ : BufTy).Contents (Elt Ideal)) :
    val_main_v20 (F := Ideal) x0 x1 x2 = fun y : S2x16x384.Idx => mods x0 x1 x2 (y 0) (y 1) (y 2) := by
  funext y
  obtain ⟨a, p, q, rfl⟩ : ∃ (a : Fin 2) (p : Fin 16) (q : Fin 384), y = ix3 a p q := ⟨y 0, y 1, y 2, eq_ix3 y⟩
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_call0_v1, val_main_call0_v2, val_main_call0_v3, val_main_call0_v4, val_main_call0_v5, val_main_call0_cst, val_main_call0_cst_0, val_main_call1_v0, val_main_call1_v1, val_main_call1_v2, val_main_call1_v3, val_main_call1_v4, val_main_call1_v5, val_main_call1_cst, val_main_call1_cst_0]
  rcases Fin.exists_fin_two.1 ⟨a, rfl⟩ with rfl | rfl
  · rfl
  · rfl

end Cert.AdaFwd
-- ==== Proof.Pre.lean ====
module
public import proofs.«01_k».proof.Proof.Gen.PreIdeal.Value
public import proofs.«01_k».proof.Proof.Gen.PreRefIdeal.Read
public import Idealize.ShloMosaic.Lib.Pipeline.ValueKit
public import Idealize.ShloMosaic.Lib.StableHlo.ReadAt

@[expose] public section

set_option maxRecDepth 16384

noncomputable section

namespace Cert.Pre

open Idealize.ShloMosaic Idealize.ShloMosaic.TcCoe Cert.PreIdeal Cert.PreIdeal.Gen

/-- One over the root of a row's mean square and epsilon. -/
def rstd (f : Fin 1024 → EReal) : EReal :=
  Ideal.rsqrt (Ideal.div (∑ k : Fin 1024, f k * f k) (Ideal.ofBits .f32 0x44800000#32) + Ideal.ofBits .f32 0x358637BD#32)

/-- The normalised and modulated row at column `q`. -/
def row (f : Fin 1024 → EReal) (g s b : EReal) (q : Fin 1024) : EReal := f q * rstd f * g * (1 + s) + b

/-- The layer's input at row `p` and column `q`. -/
def h (x : S4096x1024.Idx → EReal) (g : S1x1024.Idx → EReal) (md : S2x3x1024.Idx → EReal) (p : Fin 4096) (q : Fin 1024) : EReal :=
  row (fun k => x (ix2 p k)) (g (ix2 (0 : Fin 1) q)) (md (ix3 (⟨p.val / 2048, by omega⟩ : Fin 2) (1 : Fin 3) q)) (md (ix3 (⟨p.val / 2048, by omega⟩ : Fin 2) (0 : Fin 3) q)) q

/-- A block of the layer's input. -/
def hb (x0 : S1024x1024.Idx → EReal) (x1 : S1x1024.Idx → EReal) (x2 : S1x3x1024.Idx → EReal) (p q : Fin 1024) : EReal :=
  row (fun k => x0 (ix2 p k)) (x1 (ix2 (0 : Fin 1) q)) (x2 (ix3 (0 : Fin 1) (1 : Fin 3) q)) (x2 (ix3 (0 : Fin 1) (0 : Fin 3) q)) q

/-- The block of the layer's input. -/
theorem block3 (x0 : Vec Ideal S1024x1024 .f32) (x1 : Vec Ideal S1x1024 .f32) (x2 : Vec Ideal S1x3x1024 .f32) (y : S1024x1024.Idx) :
    out0_3 x0 x1 x2 y = hb x0 x1 x2 (y 0) (y 1) := by
  obtain ⟨p, q, rfl⟩ : ∃ (p q : Fin 1024), y = ix2 p q := ⟨y 0, y 1, eq_ix2 y⟩
  unfold out0_3
  rw [View.canon_unit_zero (by decide)]
  pointwise [k0_pay2, k0_pay1]
  rfl

/-- The block of the transposed input. -/
theorem block4 (x0 : Vec Ideal S1024x1024 .f32) (x1 : Vec Ideal S1x1024 .f32) (x2 : Vec Ideal S1x3x1024 .f32) (y : S1024x1024.Idx) :
    out0_4 x0 x1 x2 y = hb x0 x1 x2 (y 1) (y 0) := by
  obtain ⟨p, q, rfl⟩ : ∃ (p q : Fin 1024), y = ix2 p q := ⟨y 0, y 1, eq_ix2 y⟩
  unfold out0_4
  rw [View.canon_unit_zero (by decide)]
  pointwise [k0_pay3, k0_pay2, k0_pay1]
  rfl

theorem points : ∀ t : Fin grid0.N, win0_0.index t = ![t.val, 0] ∧ win0_1.index t = ![0, 0] ∧ win0_2.index t = ![t.val / 2, 0, 0] ∧ win0_3.index t = ![t.val, 0] ∧ win0_4.index t = ![0, t.val] := by decide +kernel

variable (m : (ℓ : Loc nD τ sig) → Buf (Elt Ideal) ℓ) (c : Dev nD)

theorem N_eq : grid0.N = 4 := by decide +kernel

theorem in0 (t : Fin grid0.N) (p k : Fin 1024) :
    (iblk m c 0 t : S1024x1024.Idx → EReal) (ix2 p k) = (m ((c : Thread nD τ).loc main_arg0) : S4096x1024.Idx → EReal) (ix2 (⟨t.val * 1024 + p.val, by have := t.isLt; have := N_eq; omega⟩ : Fin 4096) k) := by
  blk_ext [iblk, Gen.V, points t]

theorem in1 (t : Fin grid0.N) : (iblk m c 1 t : S1x1024.Idx → EReal) = m ((c : Thread nD τ).loc main_arg1) := by
  funext y
  blk_ext [iblk, Gen.V, points t]

theorem in2 (t : Fin grid0.N) (i : Fin 3) (q : Fin 1024) :
    (iblk m c 2 t : S1x3x1024.Idx → EReal) (ix3 (0 : Fin 1) i q) = (m ((c : Thread nD τ).loc main_arg2) : S2x3x1024.Idx → EReal) (ix3 (⟨t.val / 2, by have := t.isLt; have := N_eq; omega⟩ : Fin 2) i q) := by
  blk_ext [iblk, Gen.V, points t]

/-- A block at point `t` holds rows `1024 t` to `1024 t + 1023`. -/
theorem hb_eq (t : Fin grid0.N) (p q : Fin 1024) (P : Fin 4096) (hP : P.val = t.val * 1024 + p.val) :
    hb (iblk m c 0 t) (iblk m c 1 t) (iblk m c 2 t) p q = h (m ((c : Thread nD τ).loc main_arg0)) (m ((c : Thread nD τ).loc main_arg1)) (m ((c : Thread nD τ).loc main_arg2)) P q := by
  unfold hb h
  rw [in1, in2, in2]
  simp only [in0]
  rw [show (⟨t.val * 1024 + p.val, by have := t.isLt; have := N_eq; omega⟩ : Fin 4096) = P from Fin.ext hP.symm,
    show (⟨t.val / 2, by have := t.isLt; have := N_eq; omega⟩ : Fin 2) = ⟨P.val / 2048, by omega⟩ from Fin.ext (by have := p.isLt; show t.val / 2 = P.val / 2048; omega)]

/-- The input of the layer the kernel leaves. -/
theorem left3 : (dats m 0 c).arrAt 3 cfg0.N = fun y : S4096x1024.Idx => h (m ((c : Thread nD τ).loc main_arg0)) (m ((c : Thread nD τ).loc main_arg1)) (m ((c : Thread nD τ).loc main_arg2)) (y 0) (y 1) := by
  refine (dats m 0 c).arrAt_eq_of_covers 3 (fun y : S4096x1024.Idx => h (m ((c : Thread nD τ).loc main_arg0)) (m ((c : Thread nD τ).loc main_arg1)) (m ((c : Thread nD τ).loc main_arg2)) (y 0) (y 1)) (by decide +kernel) fun t hf y => ?_
  blk_simp
  rw [after0_3]
  refine (block3 _ _ _ y).trans ?_
  obtain ⟨p, q, rfl⟩ : ∃ (p q : Fin 1024), y = ix2 p q := ⟨y 0, y 1, eq_ix2 y⟩
  have e1 : (win0_3.blk t).view.emb (ix2 p q) 1 = q := Fin.ext (by simp [points t])
  rw [e1]
  exact hb_eq m c t p q _ (by simp [points t])

/-- The transposed input the kernel leaves. -/
theorem left4 : (dats m 0 c).arrAt 4 cfg0.N = fun y : S1024x4096.Idx => h (m ((c : Thread nD τ).loc main_arg0)) (m ((c : Thread nD τ).loc main_arg1)) (m ((c : Thread nD τ).loc main_arg2)) (y 1) (y 0) := by
  refine (dats m 0 c).arrAt_eq_of_covers 4 (fun y : S1024x4096.Idx => h (m ((c : Thread nD τ).loc main_arg0)) (m ((c : Thread nD τ).loc main_arg1)) (m ((c : Thread nD τ).loc main_arg2)) (y 1) (y 0)) (by decide +kernel) fun t hf y => ?_
  blk_simp
  rw [after0_4]
  refine (block4 _ _ _ y).trans ?_
  obtain ⟨p, q, rfl⟩ : ∃ (p q : Fin 1024), y = ix2 p q := ⟨y 0, y 1, eq_ix2 y⟩
  have e0 : (win0_4.blk t).view.emb (ix2 p q) 0 = p := Fin.ext (by simp [points t])
  rw [e0]
  exact hb_eq m c t q p _ (by simp [points t])

open Cert.PreRefIdeal.Read in
/-- The reference's input of the layer. -/
theorem ref3 (x0 : (⟨S4096x1024, .f32⟩ : BufTy).Contents (Elt Ideal)) (x1 : (⟨S1x1024, .f32⟩ : BufTy).Contents (Elt Ideal)) (x2 : (⟨S2x3x1024, .f32⟩ : BufTy).Contents (Elt Ideal)) :
    val_main_v28 (F := Ideal) x0 x1 x2 = fun y : S4096x1024.Idx => h x0 x1 x2 (y 0) (y 1) := by
  funext y
  obtain ⟨p, q, rfl⟩ : ∃ (p : Fin 4096) (q : Fin 1024), y = ix2 p q := ⟨y 0, y 1, eq_ix2 y⟩
  pointwise [val_main_cst, val_main_cst_0, val_main_cst_1, val_main_cst_2, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

open Cert.PreRefIdeal.Read in
/-- The reference's transposed input of the layer. -/
theorem ref4 (x0 : (⟨S4096x1024, .f32⟩ : BufTy).Contents (Elt Ideal)) (x1 : (⟨S1x1024, .f32⟩ : BufTy).Contents (Elt Ideal)) (x2 : (⟨S2x3x1024, .f32⟩ : BufTy).Contents (Elt Ideal)) :
    val_main_v30 (F := Ideal) x0 x1 x2 = fun y : S1024x4096.Idx => h x0 x1 x2 (y 1) (y 0) := by
  funext y
  obtain ⟨p, q, rfl⟩ : ∃ (p : Fin 1024) (q : Fin 4096), y = ix2 p q := ⟨y 0, y 1, eq_ix2 y⟩
  pointwise [val_main_cst, val_main_cst_0, val_main_cst_1, val_main_cst_2, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

end Cert.Pre
-- ==== Proof.Adam.lean ====
module
public import Idealize.ShloMosaic.Lib.Pipeline.ValueKit

@[expose] public section

noncomputable section

namespace Cert.Adam

open Idealize.ShloMosaic

/-- The new first moment: nine tenths of the old one and a tenth of the gradient. -/
def mom (g m : EReal) : EReal :=
  (Scalar.ofBits (F := Ideal) .f32 0x3F666666#32 : EReal) * m + (Scalar.ofBits (F := Ideal) .f32 0x3DCCCCCD#32 : EReal) * g

/-- The new second moment: the old one decayed, and a thousandth of the gradient's square. -/
def sec (g v : EReal) : EReal :=
  (Scalar.ofBits (F := Ideal) .f32 0x3F7FBE77#32 : EReal) * v + (Scalar.ofBits (F := Ideal) .f32 0x3A83126F#32 : EReal) * (g * g)

/-- The change of a weight: the corrected first moment over the root of the corrected second one, and the weight's decay, times minus the rate. -/
def step (g w m v : EReal) : EReal :=
  (Scalar.ofBits (F := Ideal) .f32 0xBA83126F#32 : EReal) *
    (FloatOps.divf (F := Ideal) (φ := .f32) (FloatOps.divf (F := Ideal) (φ := .f32) (mom g m) (Scalar.ofBits .f32 0x3F26BD02#32))
      (FloatOps.sqrt (F := Ideal) (φ := .f32) (FloatOps.divf (F := Ideal) (φ := .f32) (sec g v) (Scalar.ofBits .f32 0x3C231ACC#32)) + (Scalar.ofBits (F := Ideal) .f32 0x322BCC77#32 : EReal))
      + (Scalar.ofBits (F := Ideal) .f32 0x3C23D70A#32 : EReal) * w)

/-- Eight numbers added in order. -/
def sum8 (f : Fin 8 → EReal) : EReal := f 0 + f 1 + f 2 + f 3 + f 4 + f 5 + f 6 + f 7

theorem sum8_eq (f : Fin 8 → EReal) : sum8 f = ∑ i : Fin 8, f i := (Fin.sum_univ_eight f).symm

end Cert.Adam
-- ==== Proof.AdamAda.lean ====
module
public import proofs.«01_k».proof.Proof.Gen.AdamAdaIdeal.Value
public import proofs.«01_k».proof.Proof.Gen.AdamAdaRefIdeal.Read
public import Idealize.ShloMosaic.Lib.Pipeline.ValueKit
public import Idealize.ShloMosaic.Lib.StableHlo.ReadAt
public import proofs.«01_k».proof.Proof.Adam

@[expose] public section

set_option maxRecDepth 16384

noncomputable section

namespace Cert.AdamAda

open Idealize.ShloMosaic Idealize.ShloMosaic.TcCoe Cert.AdamAdaIdeal Cert.AdamAdaIdeal.Gen

/-- A stack of two layers' weights, read as one table of 2048 rows. -/
def row (x : S2x1024x384.Idx → EReal) (p : Fin 2048) (q : Fin 384) : EReal :=
  x (ix3 (⟨p.val / 1024, by omega⟩ : Fin 2) (⟨p.val % 1024, by omega⟩ : Fin 1024) q)

theorem points : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by decide +kernel

variable (m : (ℓ : Loc nD τ sig) → Buf (Elt Ideal) ℓ) (c : Dev nD)

/-- The table of the gradient, as the call reads it. -/
theorem at0 (p : Fin 2048) (q : Fin 384) :
    (Gen.V m c main_v0 : S2048x384.Idx → EReal) (ix2 p q) = row (m ((c : Thread nD τ).loc main_arg0)) p q := by
  unfold Gen.V
  simp only [List.flatten_cons, List.flatten_nil, hostOps0, List.append_nil, List.cons_append, List.nil_append]
  after_reads_at
  rfl

/-- A block of it. -/
theorem read0 (t : Fin cfg0.N) (a : Fin 256) (q : Fin 384) (p : Fin 2048) (hp : p.val = t.val * 256 + a.val) :
    (iblk m c 0 t : S256x384.Idx → EReal) (ix2 a q) = row (m ((c : Thread nD τ).loc main_arg0)) p q := by
  refine Eq.trans ?_ (at0 m c p q)
  blk_ext [iblk, points t]

/-- The table of the weights, as the call reads it. -/
theorem at1 (p : Fin 2048) (q : Fin 384) :
    (Gen.V m c main_v1 : S2048x384.Idx → EReal) (ix2 p q) = row (m ((c : Thread nD τ).loc main_arg1)) p q := by
  unfold Gen.V
  simp only [List.flatten_cons, List.flatten_nil, hostOps0, List.append_nil, List.cons_append, List.nil_append]
  after_reads_at
  rfl

/-- A block of it. -/
theorem read1 (t : Fin cfg0.N) (a : Fin 256) (q : Fin 384) (p : Fin 2048) (hp : p.val = t.val * 256 + a.val) :
    (iblk m c 1 t : S256x384.Idx → EReal) (ix2 a q) = row (m ((c : Thread nD τ).loc main_arg1)) p q := by
  refine Eq.trans ?_ (at1 m c p q)
  blk_ext [iblk, points t]

/-- The table of the first moment, as the call reads it. -/
theorem at2 (p : Fin 2048) (q : Fin 384) :
    (Gen.V m c main_v2 : S2048x384.Idx → EReal) (ix2 p q) = row (m ((c : Thread nD τ).loc main_arg2)) p q := by
  unfold Gen.V
  simp only [List.flatten_cons, List.flatten_nil, hostOps0, List.append_nil, List.cons_append, List.nil_append]
  after_reads_at
  rfl

/-- A block of it. -/
theorem read2 (t : Fin cfg0.N) (a : Fin 256) (q : Fin 384) (p : Fin 2048) (hp : p.val = t.val * 256 + a.val) :
    (iblk m c 2 t : S256x384.Idx → EReal) (ix2 a q) = row (m ((c : Thread nD τ).loc main_arg2)) p q := by
  refine Eq.trans ?_ (at2 m c p q)
  blk_ext [iblk, points t]

/-- The table of the second moment, as the call reads it. -/
theorem at3 (p : Fin 2048) (q : Fin 384) :
    (Gen.V m c main_v3 : S2048x384.Idx → EReal) (ix2 p q) = row (m ((c : Thread nD τ).loc main_arg3)) p q := by
  unfold Gen.V
  simp only [List.flatten_cons, List.flatten_nil, hostOps0, List.append_nil, List.cons_append, List.nil_append]
  after_reads_at
  rfl

/-- A block of it. -/
theorem read3 (t : Fin cfg0.N) (a : Fin 256) (q : Fin 384) (p : Fin 2048) (hp : p.val = t.val * 256 + a.val) :
    (iblk m c 3 t : S256x384.Idx → EReal) (ix2 a q) = row (m ((c : Thread nD τ).loc main_arg3)) p q := by
  refine Eq.trans ?_ (at3 m c p q)
  blk_ext [iblk, points t]

/-- A block of the gradient, read as one table. -/
theorem block4 (x0 x1 x2 x3 : Vec Ideal S256x384 .f32) (y : S256x384.Idx) :
    out0_4 x0 x1 x2 x3 y = x0 (ix2 (y 0) (y 1)) := by
  obtain ⟨p, q, rfl⟩ : ∃ (p : Fin 256) (q : Fin 384), y = ix2 p q := ⟨y 0, y 1, eq_ix2 y⟩
  unfold out0_4
  rw [View.canon_unit_zero (by decide)]
  pointwise [k0_pay2]

/-- The gradient, read as one table the kernel leaves. -/
theorem left4 : (dats m 0 c).arrAt 4 cfg0.N = fun y : S2048x384.Idx => row (m ((c : Thread nD τ).loc main_arg0)) (y 0) (y 1) := by
  refine (dats m 0 c).arrAt_eq_of_covers 4 (fun y : S2048x384.Idx => row (m ((c : Thread nD τ).loc main_arg0)) (y 0) (y 1)) (by decide +kernel) fun t hf y => ?_
  blk_simp
  rw [after0_4]
  refine (block4 _ _ _ _ y).trans ?_
  have h0 : ((win0_4.blk t).view.emb y 0).val = t.val * 256 + (y 0).val := by simp [points t]
  have h1 : (win0_4.blk t).view.emb y 1 = y 1 := Fin.ext (by simp [points t])
  rw [read0 m c t (y 0) (y 1) _ h0, h1]

open Cert.AdamAdaRefIdeal.Read in
/-- The reference's gradient, read as one table. -/
theorem ref4 (x0 : (⟨S2x1024x384, .f32⟩ : BufTy).Contents (Elt Ideal)) :
    val_main_v24 (F := Ideal) x0 = fun y : S2048x384.Idx => row x0 (y 0) (y 1) := by
  funext y
  rw [eq_ix2 y]
  pointwise [val_main_v24]
  rfl

/-- A block of the change of the weights. -/
theorem block5 (x0 x1 x2 x3 : Vec Ideal S256x384 .f32) (y : S256x384.Idx) :
    out0_5 x0 x1 x2 x3 y = Adam.step (x0 (ix2 (y 0) (y 1))) (x1 (ix2 (y 0) (y 1))) (x2 (ix2 (y 0) (y 1))) (x3 (ix2 (y 0) (y 1))) := by
  obtain ⟨p, q, rfl⟩ : ∃ (p : Fin 256) (q : Fin 384), y = ix2 p q := ⟨y 0, y 1, eq_ix2 y⟩
  unfold out0_5
  rw [View.canon_unit_zero (by decide)]
  pointwise [k0_pay1, k0_pay2, k0_pay3, k0_pay4, k0_pay5]
  rfl

/-- The change of the weights the kernel leaves. -/
theorem left5 : (dats m 0 c).arrAt 5 cfg0.N = fun y : S2048x384.Idx => Adam.step (row (m ((c : Thread nD τ).loc main_arg0)) (y 0) (y 1)) (row (m ((c : Thread nD τ).loc main_arg1)) (y 0) (y 1)) (row (m ((c : Thread nD τ).loc main_arg2)) (y 0) (y 1)) (row (m ((c : Thread nD τ).loc main_arg3)) (y 0) (y 1)) := by
  refine (dats m 0 c).arrAt_eq_of_covers 5 (fun y : S2048x384.Idx => Adam.step (row (m ((c : Thread nD τ).loc main_arg0)) (y 0) (y 1)) (row (m ((c : Thread nD τ).loc main_arg1)) (y 0) (y 1)) (row (m ((c : Thread nD τ).loc main_arg2)) (y 0) (y 1)) (row (m ((c : Thread nD τ).loc main_arg3)) (y 0) (y 1))) (by decide +kernel) fun t hf y => ?_
  blk_simp
  rw [after0_5]
  refine (block5 _ _ _ _ y).trans ?_
  have h0 : ((win0_5.blk t).view.emb y 0).val = t.val * 256 + (y 0).val := by simp [points t]
  have h1 : (win0_5.blk t).view.emb y 1 = y 1 := Fin.ext (by simp [points t])
  rw [read0 m c t (y 0) (y 1) _ h0, read1 m c t (y 0) (y 1) _ h0, read2 m c t (y 0) (y 1) _ h0, read3 m c t (y 0) (y 1) _ h0, h1]

open Cert.AdamAdaRefIdeal.Read in
/-- The reference's change of the weights. -/
theorem ref5 (x0 x1 x2 x3 : (⟨S2x1024x384, .f32⟩ : BufTy).Contents (Elt Ideal)) :
    val_main_v25 (F := Ideal) x0 x1 x2 x3 = fun y : S2048x384.Idx => Adam.step (row x0 (y 0) (y 1)) (row x1 (y 0) (y 1)) (row x2 (y 0) (y 1)) (row x3 (y 0) (y 1)) := by
  funext y
  rw [eq_ix2 y]
  pointwise [val_main_cst, val_main_cst_0, val_main_cst_1, val_main_cst_2, val_main_cst_3, val_main_cst_4, val_main_cst_5, val_main_cst_6, val_main_cst_7, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  rfl

/-- A block of the new first moment. -/
theorem block6 (x0 x1 x2 x3 : Vec Ideal S256x384 .f32) (y : S256x384.Idx) :
    out0_6 x0 x1 x2 x3 y = Adam.mom (x0 (ix2 (y 0) (y 1))) (x2 (ix2 (y 0) (y 1))) := by
  obtain ⟨p, q, rfl⟩ : ∃ (p : Fin 256) (q : Fin 384), y = ix2 p q := ⟨y 0, y 1, eq_ix2 y⟩
  unfold out0_6
  rw [View.canon_unit_zero (by decide)]
  pointwise [k0_pay2, k0_pay3]
  rfl

/-- The new first moment the kernel leaves. -/
theorem left6 : (dats m 0 c).arrAt 6 cfg0.N = fun y : S2048x384.Idx => Adam.mom (row (m ((c : Thread nD τ).loc main_arg0)) (y 0) (y 1)) (row (m ((c : Thread nD τ).loc main_arg2)) (y 0) (y 1)) := by
  refine (dats m 0 c).arrAt_eq_of_covers 6 (fun y : S2048x384.Idx => Adam.mom (row (m ((c : Thread nD τ).loc main_arg0)) (y 0) (y 1)) (row (m ((c : Thread nD τ).loc main_arg2)) (y 0) (y 1))) (by decide +kernel) fun t hf y => ?_
  blk_simp
  rw [after0_6]
  refine (block6 _ _ _ _ y).trans ?_
  have h0 : ((win0_6.blk t).view.emb y 0).val = t.val * 256 + (y 0).val := by simp [points t]
  have h1 : (win0_6.blk t).view.emb y 1 = y 1 := Fin.ext (by simp [points t])
  rw [read0 m c t (y 0) (y 1) _ h0, read2 m c t (y 0) (y 1) _ h0, h1]

open Cert.AdamAdaRefIdeal.Read in
/-- The reference's new first moment. -/
theorem ref6 (x0 x2 : (⟨S2x1024x384, .f32⟩ : BufTy).Contents (Elt Ideal)) :
    val_main_v26 (F := Ideal) x0 x2 = fun y : S2048x384.Idx => Adam.mom (row x0 (y 0) (y 1)) (row x2 (y 0) (y 1)) := by
  funext y
  rw [eq_ix2 y]
  pointwise [val_main_cst, val_main_cst_0, val_main_cst_1, val_main_cst_2, val_main_cst_3, val_main_cst_4, val_main_cst_5, val_main_cst_6, val_main_cst_7, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26]
  rfl

/-- A block of the new second moment. -/
theorem block7 (x0 x1 x2 x3 : Vec Ideal S256x384 .f32) (y : S256x384.Idx) :
    out0_7 x0 x1 x2 x3 y = Adam.sec (x0 (ix2 (y 0) (y 1))) (x3 (ix2 (y 0) (y 1))) := by
  obtain ⟨p, q, rfl⟩ : ∃ (p : Fin 256) (q : Fin 384), y = ix2 p q := ⟨y 0, y 1, eq_ix2 y⟩
  unfold out0_7
  rw [View.canon_unit_zero (by decide)]
  pointwise [k0_pay2, k0_pay4]
  rfl

/-- The new second moment the kernel leaves. -/
theorem left7 : (dats m 0 c).arrAt 7 cfg0.N = fun y : S2048x384.Idx => Adam.sec (row (m ((c : Thread nD τ).loc main_arg0)) (y 0) (y 1)) (row (m ((c : Thread nD τ).loc main_arg3)) (y 0) (y 1)) := by
  refine (dats m 0 c).arrAt_eq_of_covers 7 (fun y : S2048x384.Idx => Adam.sec (row (m ((c : Thread nD τ).loc main_arg0)) (y 0) (y 1)) (row (m ((c : Thread nD τ).loc main_arg3)) (y 0) (y 1))) (by decide +kernel) fun t hf y => ?_
  blk_simp
  rw [after0_7]
  refine (block7 _ _ _ _ y).trans ?_
  have h0 : ((win0_7.blk t).view.emb y 0).val = t.val * 256 + (y 0).val := by simp [points t]
  have h1 : (win0_7.blk t).view.emb y 1 = y 1 := Fin.ext (by simp [points t])
  rw [read0 m c t (y 0) (y 1) _ h0, read3 m c t (y 0) (y 1) _ h0, h1]

open Cert.AdamAdaRefIdeal.Read in
/-- The reference's new second moment. -/
theorem ref7 (x0 x3 : (⟨S2x1024x384, .f32⟩ : BufTy).Contents (Elt Ideal)) :
    val_main_v27 (F := Ideal) x0 x3 = fun y : S2048x384.Idx => Adam.sec (row x0 (y 0) (y 1)) (row x3 (y 0) (y 1)) := by
  funext y
  rw [eq_ix2 y]
  pointwise [val_main_cst, val_main_cst_0, val_main_cst_1, val_main_cst_2, val_main_cst_3, val_main_cst_4, val_main_cst_5, val_main_cst_6, val_main_cst_7, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27]
  rfl

end Cert.AdamAda
-- ==== Proof.AdamLate.lean ====
module
public import proofs.«01_k».proof.Proof.Gen.AdamLateIdeal.Value
public import proofs.«01_k».proof.Proof.Gen.AdamLateRefIdeal.Read
public import Idealize.ShloMosaic.Lib.Pipeline.ValueKit
public import Idealize.ShloMosaic.Lib.StableHlo.ReadAt
public import proofs.«01_k».proof.Proof.Adam

@[expose] public section

set_option maxRecDepth 16384

noncomputable section

namespace Cert.AdamLate

open Idealize.ShloMosaic Idealize.ShloMosaic.TcCoe Cert.AdamLateIdeal Cert.AdamLateIdeal.Gen

/-- An index of a matrix is a row and a column. -/
theorem ex2 {n k : ℕ} (y : (⟨2, ![n, k]⟩ : Shape).Idx) : ∃ (p : Fin n) (q : Fin k), y = ix2 p q := ⟨y 0, y 1, eq_ix2 y⟩

variable (m : (ℓ : Loc nD τ sig) → Buf (Elt Ideal) ℓ) (c : Dev nD)

theorem point0 : ∀ t : Fin grid0.N, win0_0.index t = ![0, 0, 0] := by decide +kernel

/-- The call's one point reads the whole of argument 0. -/
theorem in0 (t : Fin cfg0.N) : (iblk m c 0 t : S8x2x1024.Idx → EReal) = m ((c : Thread nD τ).loc main_arg0) := by
  funext y
  blk_ext [iblk, Gen.V, point0 t]

theorem point1 : ∀ t : Fin grid0.N, win0_1.index t = ![0, 0, 0] := by decide +kernel

/-- The call's one point reads the whole of argument 1. -/
theorem in1 (t : Fin cfg0.N) : (iblk m c 1 t : S8x1x1024.Idx → EReal) = m ((c : Thread nD τ).loc main_arg1) := by
  funext y
  blk_ext [iblk, Gen.V, point1 t]

theorem point2 : ∀ t : Fin grid0.N, win0_2.index t = ![0, 0, 0] := by decide +kernel

/-- The call's one point reads the whole of argument 2. -/
theorem in2 (t : Fin cfg0.N) : (iblk m c 2 t : S1x2x3072.Idx → EReal) = m ((c : Thread nD τ).loc main_arg2) := by
  funext y
  blk_ext [iblk, Gen.V, point2 t]

theorem point3 : ∀ t : Fin grid0.N, win0_3.index t = ![0, 0] := by decide +kernel

/-- The call's one point reads the whole of argument 3. -/
theorem in3 (t : Fin cfg0.N) : (iblk m c 3 t : S2x1024.Idx → EReal) = m ((c : Thread nD τ).loc main_arg3) := by
  funext y
  blk_ext [iblk, Gen.V, point3 t]

theorem point4 : ∀ t : Fin grid0.N, win0_4.index t = ![0, 0] := by decide +kernel

/-- The call's one point reads the whole of argument 4. -/
theorem in4 (t : Fin cfg0.N) : (iblk m c 4 t : S1x1024.Idx → EReal) = m ((c : Thread nD τ).loc main_arg4) := by
  funext y
  blk_ext [iblk, Gen.V, point4 t]

theorem point5 : ∀ t : Fin grid0.N, win0_5.index t = ![0, 0] := by decide +kernel

/-- The call's one point reads the whole of argument 5. -/
theorem in5 (t : Fin cfg0.N) : (iblk m c 5 t : S2x3072.Idx → EReal) = m ((c : Thread nD τ).loc main_arg5) := by
  funext y
  blk_ext [iblk, Gen.V, point5 t]

theorem point6 : ∀ t : Fin grid0.N, win0_6.index t = ![0, 0] := by decide +kernel

/-- The call's one point reads the whole of argument 6. -/
theorem in6 (t : Fin cfg0.N) : (iblk m c 6 t : S2x1024.Idx → EReal) = m ((c : Thread nD τ).loc main_arg6) := by
  funext y
  blk_ext [iblk, Gen.V, point6 t]

theorem point7 : ∀ t : Fin grid0.N, win0_7.index t = ![0, 0] := by decide +kernel

/-- The call's one point reads the whole of argument 7. -/
theorem in7 (t : Fin cfg0.N) : (iblk m c 7 t : S1x1024.Idx → EReal) = m ((c : Thread nD τ).loc main_arg7) := by
  funext y
  blk_ext [iblk, Gen.V, point7 t]

theorem point8 : ∀ t : Fin grid0.N, win0_8.index t = ![0, 0] := by decide +kernel

/-- The call's one point reads the whole of argument 8. -/
theorem in8 (t : Fin cfg0.N) : (iblk m c 8 t : S2x3072.Idx → EReal) = m ((c : Thread nD τ).loc main_arg8) := by
  funext y
  blk_ext [iblk, Gen.V, point8 t]

theorem point9 : ∀ t : Fin grid0.N, win0_9.index t = ![0, 0] := by decide +kernel

/-- The call's one point reads the whole of argument 9. -/
theorem in9 (t : Fin cfg0.N) : (iblk m c 9 t : S2x1024.Idx → EReal) = m ((c : Thread nD τ).loc main_arg9) := by
  funext y
  blk_ext [iblk, Gen.V, point9 t]

theorem point10 : ∀ t : Fin grid0.N, win0_10.index t = ![0, 0] := by decide +kernel

/-- The call's one point reads the whole of argument 10. -/
theorem in10 (t : Fin cfg0.N) : (iblk m c 10 t : S1x1024.Idx → EReal) = m ((c : Thread nD τ).loc main_arg10) := by
  funext y
  blk_ext [iblk, Gen.V, point10 t]

theorem point11 : ∀ t : Fin grid0.N, win0_11.index t = ![0, 0] := by decide +kernel

/-- The call's one point reads the whole of argument 11. -/
theorem in11 (t : Fin cfg0.N) : (iblk m c 11 t : S2x3072.Idx → EReal) = m ((c : Thread nD τ).loc main_arg11) := by
  funext y
  blk_ext [iblk, Gen.V, point11 t]

theorem point12 : ∀ t : Fin grid0.N, win0_12.index t = ![0, 0, 0] := by decide +kernel

/-- The call's one point reads the whole of argument 12. -/
theorem in12 (t : Fin cfg0.N) : (iblk m c 12 t : S8x1x128.Idx → EReal) = m ((c : Thread nD τ).loc main_arg12) := by
  funext y
  blk_ext [iblk, Gen.V, point12 t]

theorem point13 : ∀ t : Fin grid0.N, win0_13.index t = ![0, 0] := by decide +kernel

/-- It writes the whole of result 0. -/
theorem emb13 (t : Fin cfg0.N) (y : S2x1024.Idx) : (win0_13.blk t).view.emb y = y := by
  funext a
  fin_cases a <;> exact Fin.ext (by simp [point13 t])

theorem point14 : ∀ t : Fin grid0.N, win0_14.index t = ![0, 0] := by decide +kernel

/-- It writes the whole of result 1. -/
theorem emb14 (t : Fin cfg0.N) (y : S2x1024.Idx) : (win0_14.blk t).view.emb y = y := by
  funext a
  fin_cases a <;> exact Fin.ext (by simp [point14 t])

theorem point15 : ∀ t : Fin grid0.N, win0_15.index t = ![0, 0] := by decide +kernel

/-- It writes the whole of result 2. -/
theorem emb15 (t : Fin cfg0.N) (y : S2x1024.Idx) : (win0_15.blk t).view.emb y = y := by
  funext a
  fin_cases a <;> exact Fin.ext (by simp [point15 t])

theorem point16 : ∀ t : Fin grid0.N, win0_16.index t = ![0, 0] := by decide +kernel

/-- It writes the whole of result 3. -/
theorem emb16 (t : Fin cfg0.N) (y : S2x1024.Idx) : (win0_16.blk t).view.emb y = y := by
  funext a
  fin_cases a <;> exact Fin.ext (by simp [point16 t])

theorem point17 : ∀ t : Fin grid0.N, win0_17.index t = ![0, 0] := by decide +kernel

/-- It writes the whole of result 4. -/
theorem emb17 (t : Fin cfg0.N) (y : S1x1024.Idx) : (win0_17.blk t).view.emb y = y := by
  funext a
  fin_cases a <;> exact Fin.ext (by simp [point17 t])

theorem point18 : ∀ t : Fin grid0.N, win0_18.index t = ![0, 0] := by decide +kernel

/-- It writes the whole of result 5. -/
theorem emb18 (t : Fin cfg0.N) (y : S1x1024.Idx) : (win0_18.blk t).view.emb y = y := by
  funext a
  fin_cases a <;> exact Fin.ext (by simp [point18 t])

theorem point19 : ∀ t : Fin grid0.N, win0_19.index t = ![0, 0] := by decide +kernel

/-- It writes the whole of result 6. -/
theorem emb19 (t : Fin cfg0.N) (y : S1x1024.Idx) : (win0_19.blk t).view.emb y = y := by
  funext a
  fin_cases a <;> exact Fin.ext (by simp [point19 t])

theorem point20 : ∀ t : Fin grid0.N, win0_20.index t = ![0, 0] := by decide +kernel

/-- It writes the whole of result 7. -/
theorem emb20 (t : Fin cfg0.N) (y : S1x1024.Idx) : (win0_20.blk t).view.emb y = y := by
  funext a
  fin_cases a <;> exact Fin.ext (by simp [point20 t])

theorem point21 : ∀ t : Fin grid0.N, win0_21.index t = ![0, 0] := by decide +kernel

/-- It writes the whole of result 8. -/
theorem emb21 (t : Fin cfg0.N) (y : S2x3072.Idx) : (win0_21.blk t).view.emb y = y := by
  funext a
  fin_cases a <;> exact Fin.ext (by simp [point21 t])

theorem point22 : ∀ t : Fin grid0.N, win0_22.index t = ![0, 0] := by decide +kernel

/-- It writes the whole of result 9. -/
theorem emb22 (t : Fin cfg0.N) (y : S2x3072.Idx) : (win0_22.blk t).view.emb y = y := by
  funext a
  fin_cases a <;> exact Fin.ext (by simp [point22 t])

theorem point23 : ∀ t : Fin grid0.N, win0_23.index t = ![0, 0] := by decide +kernel

/-- It writes the whole of result 10. -/
theorem emb23 (t : Fin cfg0.N) (y : S2x3072.Idx) : (win0_23.blk t).view.emb y = y := by
  funext a
  fin_cases a <;> exact Fin.ext (by simp [point23 t])

theorem point24 : ∀ t : Fin grid0.N, win0_24.index t = ![0, 0] := by decide +kernel

/-- It writes the whole of result 11. -/
theorem emb24 (t : Fin cfg0.N) (y : S2x3072.Idx) : (win0_24.blk t).view.emb y = y := by
  funext a
  fin_cases a <;> exact Fin.ext (by simp [point24 t])

theorem point25 : ∀ t : Fin grid0.N, win0_25.index t = ![0, 0] := by decide +kernel

/-- It writes the whole of result 12. -/
theorem emb25 (t : Fin cfg0.N) (y : S1x128.Idx) : (win0_25.blk t).view.emb y = y := by
  funext a
  fin_cases a <;> exact Fin.ext (by simp [point25 t])

/-- The gradient of the first parameter: the sum of the eight devices' parts. -/
def g0 (x : S8x2x1024.Idx → EReal) (p : Fin 2) (q : Fin 1024) : EReal := ∑ i : Fin 8, x (ix3 i p q)

/-- The block of the gradient of the parameter (first). -/
theorem block13 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S2x1024.Idx) :
    out0_13 x0 x1 x2 x3 x4 x5 x6 x7 x8 x9 x10 x11 x12 y = g0 x0 (y 0) (y 1) := by
  obtain ⟨p, q, rfl⟩ := ex2 y
  unfold out0_13
  rw [View.canon_unit_zero (by decide)]
  pointwise [k0_pay17, k0_pay2]
  unfold g0
  rw [← Adam.sum8_eq]
  rfl

/-- The gradient of the parameter (first) that the kernel leaves. -/
theorem left13 : (dats m 0 c).arrAt 13 cfg0.N = fun y : S2x1024.Idx => g0 (m ((c : Thread nD τ).loc main_arg0) : S8x2x1024.Idx → EReal) (y 0) (y 1) := by
  refine (dats m 0 c).arrAt_eq_of_covers 13 (fun y : S2x1024.Idx => g0 (m ((c : Thread nD τ).loc main_arg0) : S8x2x1024.Idx → EReal) (y 0) (y 1)) (by decide +kernel) fun t hf y => ?_
  blk_simp
  rw [after0_13]
  refine (block13 _ _ _ _ _ _ _ _ _ _ _ _ _ y).trans ?_
  rw [emb13 t y, in0 m c t]

open Cert.AdamLateRefIdeal.Read in
/-- The reference's gradient of the parameter (first). -/
theorem ref13 (x0 : (⟨S8x2x1024, .f32⟩ : BufTy).Contents (Elt Ideal)) :
    val_main_v0 (F := Ideal) x0 = fun y : S2x1024.Idx => g0 x0 (y 0) (y 1) := by
  funext y
  obtain ⟨p, q, rfl⟩ := ex2 y
  pointwise [val_main_v0, val_main_cst]
  rfl

/-- The block of the change of the parameter (first). -/
theorem block14 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S2x1024.Idx) :
    out0_14 x0 x1 x2 x3 x4 x5 x6 x7 x8 x9 x10 x11 x12 y = Adam.step (g0 x0 (y 0) (y 1)) (x3 (ix2 (y 0) (y 1))) (x6 (ix2 (y 0) (y 1))) (x9 (ix2 (y 0) (y 1))) := by
  obtain ⟨p, q, rfl⟩ := ex2 y
  unfold out0_14
  rw [View.canon_unit_zero (by decide)]
  pointwise [k0_pay5, k0_pay17, k0_pay18, k0_pay3, k0_pay2, k0_pay4]
  unfold g0
  rw [← Adam.sum8_eq]
  rfl

/-- The change of the parameter (first) that the kernel leaves. -/
theorem left14 : (dats m 0 c).arrAt 14 cfg0.N = fun y : S2x1024.Idx => Adam.step (g0 (m ((c : Thread nD τ).loc main_arg0) : S8x2x1024.Idx → EReal) (y 0) (y 1)) ((m ((c : Thread nD τ).loc main_arg3) : S2x1024.Idx → EReal) (ix2 (y 0) (y 1))) ((m ((c : Thread nD τ).loc main_arg6) : S2x1024.Idx → EReal) (ix2 (y 0) (y 1))) ((m ((c : Thread nD τ).loc main_arg9) : S2x1024.Idx → EReal) (ix2 (y 0) (y 1))) := by
  refine (dats m 0 c).arrAt_eq_of_covers 14 (fun y : S2x1024.Idx => Adam.step (g0 (m ((c : Thread nD τ).loc main_arg0) : S8x2x1024.Idx → EReal) (y 0) (y 1)) ((m ((c : Thread nD τ).loc main_arg3) : S2x1024.Idx → EReal) (ix2 (y 0) (y 1))) ((m ((c : Thread nD τ).loc main_arg6) : S2x1024.Idx → EReal) (ix2 (y 0) (y 1))) ((m ((c : Thread nD τ).loc main_arg9) : S2x1024.Idx → EReal) (ix2 (y 0) (y 1)))) (by decide +kernel) fun t hf y => ?_
  blk_simp
  rw [after0_14]
  refine (block14 _ _ _ _ _ _ _ _ _ _ _ _ _ y).trans ?_
  rw [emb14 t y, in0 m c t, in3 m c t, in6 m c t, in9 m c t]

open Cert.AdamLateRefIdeal.Read in
/-- The reference's change of the parameter (first). -/
theorem ref14 (x0 : (⟨S8x2x1024, .f32⟩ : BufTy).Contents (Elt Ideal)) (x3 : (⟨S2x1024, .f32⟩ : BufTy).Contents (Elt Ideal)) (x6 : (⟨S2x1024, .f32⟩ : BufTy).Contents (Elt Ideal)) (x9 : (⟨S2x1024, .f32⟩ : BufTy).Contents (Elt Ideal)) :
    val_main_v24 (F := Ideal) x0 x3 x6 x9 = fun y : S2x1024.Idx => Adam.step (g0 x0 (y 0) (y 1)) (x3 (ix2 (y 0) (y 1))) (x6 (ix2 (y 0) (y 1))) (x9 (ix2 (y 0) (y 1))) := by
  funext y
  obtain ⟨p, q, rfl⟩ := ex2 y
  pointwise [val_main_v24, val_main_v23, val_main_v22, val_main_v19, val_main_v21, val_main_v20, val_main_cst_7, val_main_v13, val_main_v18, val_main_v16, val_main_v17, val_main_cst_6, val_main_v15, val_main_v11, val_main_v14, val_main_cst_5, val_main_v7, val_main_v10, val_main_v9, val_main_v8, val_main_v0, val_main_cst, val_main_cst_3, val_main_v6, val_main_cst_2, val_main_v5, val_main_v12, val_main_cst_4, val_main_v2, val_main_v4, val_main_v3, val_main_cst_1, val_main_v1, val_main_cst_0, val_main_cst_8]
  rfl

/-- The block of the parameter's new first moment (first). -/
theorem block15 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S2x1024.Idx) :
    out0_15 x0 x1 x2 x3 x4 x5 x6 x7 x8 x9 x10 x11 x12 y = Adam.mom (g0 x0 (y 0) (y 1)) (x6 (ix2 (y 0) (y 1))) := by
  obtain ⟨p, q, rfl⟩ := ex2 y
  unfold out0_15
  rw [View.canon_unit_zero (by decide)]
  pointwise [k0_pay18, k0_pay3, k0_pay2]
  unfold g0
  rw [← Adam.sum8_eq]
  rfl

/-- The parameter's new first moment (first) that the kernel leaves. -/
theorem left15 : (dats m 0 c).arrAt 15 cfg0.N = fun y : S2x1024.Idx => Adam.mom (g0 (m ((c : Thread nD τ).loc main_arg0) : S8x2x1024.Idx → EReal) (y 0) (y 1)) ((m ((c : Thread nD τ).loc main_arg6) : S2x1024.Idx → EReal) (ix2 (y 0) (y 1))) := by
  refine (dats m 0 c).arrAt_eq_of_covers 15 (fun y : S2x1024.Idx => Adam.mom (g0 (m ((c : Thread nD τ).loc main_arg0) : S8x2x1024.Idx → EReal) (y 0) (y 1)) ((m ((c : Thread nD τ).loc main_arg6) : S2x1024.Idx → EReal) (ix2 (y 0) (y 1)))) (by decide +kernel) fun t hf y => ?_
  blk_simp
  rw [after0_15]
  refine (block15 _ _ _ _ _ _ _ _ _ _ _ _ _ y).trans ?_
  rw [emb15 t y, in0 m c t, in6 m c t]

open Cert.AdamLateRefIdeal.Read in
/-- The reference's parameter's new first moment (first). -/
theorem ref15 (x0 : (⟨S8x2x1024, .f32⟩ : BufTy).Contents (Elt Ideal)) (x6 : (⟨S2x1024, .f32⟩ : BufTy).Contents (Elt Ideal)) :
    val_main_v5 (F := Ideal) x0 x6 = fun y : S2x1024.Idx => Adam.mom (g0 x0 (y 0) (y 1)) (x6 (ix2 (y 0) (y 1))) := by
  funext y
  obtain ⟨p, q, rfl⟩ := ex2 y
  pointwise [val_main_v5, val_main_v2, val_main_v4, val_main_v3, val_main_v0, val_main_cst, val_main_cst_1, val_main_v1, val_main_cst_0]
  rfl

/-- The block of the parameter's new second moment (first). -/
theorem block16 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S2x1024.Idx) :
    out0_16 x0 x1 x2 x3 x4 x5 x6 x7 x8 x9 x10 x11 x12 y = Adam.sec (g0 x0 (y 0) (y 1)) (x9 (ix2 (y 0) (y 1))) := by
  obtain ⟨p, q, rfl⟩ := ex2 y
  unfold out0_16
  rw [View.canon_unit_zero (by decide)]
  pointwise [k0_pay4, k0_pay17, k0_pay2]
  unfold g0
  rw [← Adam.sum8_eq]
  rfl

/-- The parameter's new second moment (first) that the kernel leaves. -/
theorem left16 : (dats m 0 c).arrAt 16 cfg0.N = fun y : S2x1024.Idx => Adam.sec (g0 (m ((c : Thread nD τ).loc main_arg0) : S8x2x1024.Idx → EReal) (y 0) (y 1)) ((m ((c : Thread nD τ).loc main_arg9) : S2x1024.Idx → EReal) (ix2 (y 0) (y 1))) := by
  refine (dats m 0 c).arrAt_eq_of_covers 16 (fun y : S2x1024.Idx => Adam.sec (g0 (m ((c : Thread nD τ).loc main_arg0) : S8x2x1024.Idx → EReal) (y 0) (y 1)) ((m ((c : Thread nD τ).loc main_arg9) : S2x1024.Idx → EReal) (ix2 (y 0) (y 1)))) (by decide +kernel) fun t hf y => ?_
  blk_simp
  rw [after0_16]
  refine (block16 _ _ _ _ _ _ _ _ _ _ _ _ _ y).trans ?_
  rw [emb16 t y, in0 m c t, in9 m c t]

open Cert.AdamLateRefIdeal.Read in
/-- The reference's parameter's new second moment (first). -/
theorem ref16 (x0 : (⟨S8x2x1024, .f32⟩ : BufTy).Contents (Elt Ideal)) (x9 : (⟨S2x1024, .f32⟩ : BufTy).Contents (Elt Ideal)) :
    val_main_v11 (F := Ideal) x0 x9 = fun y : S2x1024.Idx => Adam.sec (g0 x0 (y 0) (y 1)) (x9 (ix2 (y 0) (y 1))) := by
  funext y
  obtain ⟨p, q, rfl⟩ := ex2 y
  pointwise [val_main_v11, val_main_v7, val_main_v10, val_main_v9, val_main_v8, val_main_v0, val_main_cst, val_main_cst_3, val_main_v6, val_main_cst_2]
  rfl

/-- The gradient of the second parameter: the sum of the eight devices' parts. -/
def g1 (x : S8x1x1024.Idx → EReal) (p : Fin 1) (q : Fin 1024) : EReal := ∑ i : Fin 8, x (ix3 i p q)

/-- The block of the gradient of the parameter (second). -/
theorem block17 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S1x1024.Idx) :
    out0_17 x0 x1 x2 x3 x4 x5 x6 x7 x8 x9 x10 x11 x12 y = g1 x1 (y 0) (y 1) := by
  obtain ⟨p, q, rfl⟩ := ex2 y
  obtain rfl : p = 0 := Subsingleton.elim _ _
  unfold out0_17
  rw [View.canon_unit_zero (by decide)]
  pointwise [k0_pay7, k0_pay19, k0_pay6]
  unfold g1
  rw [← Adam.sum8_eq]
  rfl

/-- The gradient of the parameter (second) that the kernel leaves. -/
theorem left17 : (dats m 0 c).arrAt 17 cfg0.N = fun y : S1x1024.Idx => g1 (m ((c : Thread nD τ).loc main_arg1) : S8x1x1024.Idx → EReal) (y 0) (y 1) := by
  refine (dats m 0 c).arrAt_eq_of_covers 17 (fun y : S1x1024.Idx => g1 (m ((c : Thread nD τ).loc main_arg1) : S8x1x1024.Idx → EReal) (y 0) (y 1)) (by decide +kernel) fun t hf y => ?_
  blk_simp
  rw [after0_17]
  refine (block17 _ _ _ _ _ _ _ _ _ _ _ _ _ y).trans ?_
  rw [emb17 t y, in1 m c t]

open Cert.AdamLateRefIdeal.Read in
/-- The reference's gradient of the parameter (second). -/
theorem ref17 (x1 : (⟨S8x1x1024, .f32⟩ : BufTy).Contents (Elt Ideal)) :
    val_main_v25 (F := Ideal) x1 = fun y : S1x1024.Idx => g1 x1 (y 0) (y 1) := by
  funext y
  obtain ⟨p, q, rfl⟩ := ex2 y
  obtain rfl : p = 0 := Subsingleton.elim _ _
  pointwise [val_main_v25, val_main_cst_9]
  rfl

/-- The block of the change of the parameter (second). -/
theorem block18 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S1x1024.Idx) :
    out0_18 x0 x1 x2 x3 x4 x5 x6 x7 x8 x9 x10 x11 x12 y = Adam.step (g1 x1 (y 0) (y 1)) (x4 (ix2 (y 0) (y 1))) (x7 (ix2 (y 0) (y 1))) (x10 (ix2 (y 0) (y 1))) := by
  obtain ⟨p, q, rfl⟩ := ex2 y
  obtain rfl : p = 0 := Subsingleton.elim _ _
  unfold out0_18
  rw [View.canon_unit_zero (by decide)]
  pointwise [k0_pay11, k0_pay20, k0_pay10, k0_pay19, k0_pay6, k0_pay8, k0_pay7, k0_pay9]
  unfold g1
  rw [← Adam.sum8_eq]
  rfl

/-- The change of the parameter (second) that the kernel leaves. -/
theorem left18 : (dats m 0 c).arrAt 18 cfg0.N = fun y : S1x1024.Idx => Adam.step (g1 (m ((c : Thread nD τ).loc main_arg1) : S8x1x1024.Idx → EReal) (y 0) (y 1)) ((m ((c : Thread nD τ).loc main_arg4) : S1x1024.Idx → EReal) (ix2 (y 0) (y 1))) ((m ((c : Thread nD τ).loc main_arg7) : S1x1024.Idx → EReal) (ix2 (y 0) (y 1))) ((m ((c : Thread nD τ).loc main_arg10) : S1x1024.Idx → EReal) (ix2 (y 0) (y 1))) := by
  refine (dats m 0 c).arrAt_eq_of_covers 18 (fun y : S1x1024.Idx => Adam.step (g1 (m ((c : Thread nD τ).loc main_arg1) : S8x1x1024.Idx → EReal) (y 0) (y 1)) ((m ((c : Thread nD τ).loc main_arg4) : S1x1024.Idx → EReal) (ix2 (y 0) (y 1))) ((m ((c : Thread nD τ).loc main_arg7) : S1x1024.Idx → EReal) (ix2 (y 0) (y 1))) ((m ((c : Thread nD τ).loc main_arg10) : S1x1024.Idx → EReal) (ix2 (y 0) (y 1)))) (by decide +kernel) fun t hf y => ?_
  blk_simp
  rw [after0_18]
  refine (block18 _ _ _ _ _ _ _ _ _ _ _ _ _ y).trans ?_
  rw [emb18 t y, in1 m c t, in4 m c t, in7 m c t, in10 m c t]

open Cert.AdamLateRefIdeal.Read in
/-- The reference's change of the parameter (second). -/
theorem ref18 (x1 : (⟨S8x1x1024, .f32⟩ : BufTy).Contents (Elt Ideal)) (x4 : (⟨S1x1024, .f32⟩ : BufTy).Contents (Elt Ideal)) (x7 : (⟨S1x1024, .f32⟩ : BufTy).Contents (Elt Ideal)) (x10 : (⟨S1x1024, .f32⟩ : BufTy).Contents (Elt Ideal)) :
    val_main_v49 (F := Ideal) x1 x4 x7 x10 = fun y : S1x1024.Idx => Adam.step (g1 x1 (y 0) (y 1)) (x4 (ix2 (y 0) (y 1))) (x7 (ix2 (y 0) (y 1))) (x10 (ix2 (y 0) (y 1))) := by
  funext y
  obtain ⟨p, q, rfl⟩ := ex2 y
  obtain rfl : p = 0 := Subsingleton.elim _ _
  pointwise [val_main_v49, val_main_v48, val_main_v47, val_main_v44, val_main_v46, val_main_v45, val_main_cst_17, val_main_v38, val_main_v43, val_main_v41, val_main_v42, val_main_cst_16, val_main_v40, val_main_v36, val_main_v39, val_main_cst_15, val_main_v32, val_main_v35, val_main_v34, val_main_v33, val_main_v25, val_main_cst_9, val_main_cst_13, val_main_v31, val_main_cst_12, val_main_v30, val_main_v37, val_main_cst_14, val_main_v27, val_main_v29, val_main_v28, val_main_cst_11, val_main_v26, val_main_cst_10, val_main_cst_18]
  rfl

/-- The block of the parameter's new first moment (second). -/
theorem block19 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S1x1024.Idx) :
    out0_19 x0 x1 x2 x3 x4 x5 x6 x7 x8 x9 x10 x11 x12 y = Adam.mom (g1 x1 (y 0) (y 1)) (x7 (ix2 (y 0) (y 1))) := by
  obtain ⟨p, q, rfl⟩ := ex2 y
  obtain rfl : p = 0 := Subsingleton.elim _ _
  unfold out0_19
  rw [View.canon_unit_zero (by decide)]
  pointwise [k0_pay8, k0_pay19, k0_pay6, k0_pay7]
  unfold g1
  rw [← Adam.sum8_eq]
  rfl

/-- The parameter's new first moment (second) that the kernel leaves. -/
theorem left19 : (dats m 0 c).arrAt 19 cfg0.N = fun y : S1x1024.Idx => Adam.mom (g1 (m ((c : Thread nD τ).loc main_arg1) : S8x1x1024.Idx → EReal) (y 0) (y 1)) ((m ((c : Thread nD τ).loc main_arg7) : S1x1024.Idx → EReal) (ix2 (y 0) (y 1))) := by
  refine (dats m 0 c).arrAt_eq_of_covers 19 (fun y : S1x1024.Idx => Adam.mom (g1 (m ((c : Thread nD τ).loc main_arg1) : S8x1x1024.Idx → EReal) (y 0) (y 1)) ((m ((c : Thread nD τ).loc main_arg7) : S1x1024.Idx → EReal) (ix2 (y 0) (y 1)))) (by decide +kernel) fun t hf y => ?_
  blk_simp
  rw [after0_19]
  refine (block19 _ _ _ _ _ _ _ _ _ _ _ _ _ y).trans ?_
  rw [emb19 t y, in1 m c t, in7 m c t]

open Cert.AdamLateRefIdeal.Read in
/-- The reference's parameter's new first moment (second). -/
theorem ref19 (x1 : (⟨S8x1x1024, .f32⟩ : BufTy).Contents (Elt Ideal)) (x7 : (⟨S1x1024, .f32⟩ : BufTy).Contents (Elt Ideal)) :
    val_main_v30 (F := Ideal) x1 x7 = fun y : S1x1024.Idx => Adam.mom (g1 x1 (y 0) (y 1)) (x7 (ix2 (y 0) (y 1))) := by
  funext y
  obtain ⟨p, q, rfl⟩ := ex2 y
  obtain rfl : p = 0 := Subsingleton.elim _ _
  pointwise [val_main_v30, val_main_v27, val_main_v29, val_main_v28, val_main_v25, val_main_cst_9, val_main_cst_11, val_main_v26, val_main_cst_10]
  rfl

/-- The block of the parameter's new second moment (second). -/
theorem block20 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S1x1024.Idx) :
    out0_20 x0 x1 x2 x3 x4 x5 x6 x7 x8 x9 x10 x11 x12 y = Adam.sec (g1 x1 (y 0) (y 1)) (x10 (ix2 (y 0) (y 1))) := by
  obtain ⟨p, q, rfl⟩ := ex2 y
  obtain rfl : p = 0 := Subsingleton.elim _ _
  unfold out0_20
  rw [View.canon_unit_zero (by decide)]
  pointwise [k0_pay20, k0_pay9, k0_pay19, k0_pay6, k0_pay7]
  unfold g1
  rw [← Adam.sum8_eq]
  rfl

/-- The parameter's new second moment (second) that the kernel leaves. -/
theorem left20 : (dats m 0 c).arrAt 20 cfg0.N = fun y : S1x1024.Idx => Adam.sec (g1 (m ((c : Thread nD τ).loc main_arg1) : S8x1x1024.Idx → EReal) (y 0) (y 1)) ((m ((c : Thread nD τ).loc main_arg10) : S1x1024.Idx → EReal) (ix2 (y 0) (y 1))) := by
  refine (dats m 0 c).arrAt_eq_of_covers 20 (fun y : S1x1024.Idx => Adam.sec (g1 (m ((c : Thread nD τ).loc main_arg1) : S8x1x1024.Idx → EReal) (y 0) (y 1)) ((m ((c : Thread nD τ).loc main_arg10) : S1x1024.Idx → EReal) (ix2 (y 0) (y 1)))) (by decide +kernel) fun t hf y => ?_
  blk_simp
  rw [after0_20]
  refine (block20 _ _ _ _ _ _ _ _ _ _ _ _ _ y).trans ?_
  rw [emb20 t y, in1 m c t, in10 m c t]

open Cert.AdamLateRefIdeal.Read in
/-- The reference's parameter's new second moment (second). -/
theorem ref20 (x1 : (⟨S8x1x1024, .f32⟩ : BufTy).Contents (Elt Ideal)) (x10 : (⟨S1x1024, .f32⟩ : BufTy).Contents (Elt Ideal)) :
    val_main_v36 (F := Ideal) x1 x10 = fun y : S1x1024.Idx => Adam.sec (g1 x1 (y 0) (y 1)) (x10 (ix2 (y 0) (y 1))) := by
  funext y
  obtain ⟨p, q, rfl⟩ := ex2 y
  obtain rfl : p = 0 := Subsingleton.elim _ _
  pointwise [val_main_v36, val_main_v32, val_main_v35, val_main_v34, val_main_v33, val_main_v25, val_main_cst_9, val_main_cst_13, val_main_v31, val_main_cst_12]
  rfl

/-- The gradient of the third parameter: the one part there is. -/
def g2 (x : S1x2x3072.Idx → EReal) (p : Fin 2) (q : Fin 3072) : EReal := ∑ i : Fin 1, x (ix3 i p q)

/-- The block of the gradient of the parameter (third). -/
theorem block21 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S2x3072.Idx) :
    out0_21 x0 x1 x2 x3 x4 x5 x6 x7 x8 x9 x10 x11 x12 y = g2 x2 (y 0) (y 1) := by
  obtain ⟨p, q, rfl⟩ := ex2 y
  unfold out0_21
  rw [View.canon_unit_zero (by decide)]
  pointwise [k0_pay12]
  unfold g2
  rw [Fin.sum_univ_one]

/-- The gradient of the parameter (third) that the kernel leaves. -/
theorem left21 : (dats m 0 c).arrAt 21 cfg0.N = fun y : S2x3072.Idx => g2 (m ((c : Thread nD τ).loc main_arg2) : S1x2x3072.Idx → EReal) (y 0) (y 1) := by
  refine (dats m 0 c).arrAt_eq_of_covers 21 (fun y : S2x3072.Idx => g2 (m ((c : Thread nD τ).loc main_arg2) : S1x2x3072.Idx → EReal) (y 0) (y 1)) (by decide +kernel) fun t hf y => ?_
  blk_simp
  rw [after0_21]
  refine (block21 _ _ _ _ _ _ _ _ _ _ _ _ _ y).trans ?_
  rw [emb21 t y, in2 m c t]

open Cert.AdamLateRefIdeal.Read in
/-- The reference's gradient of the parameter (third). -/
theorem ref21 (x2 : (⟨S1x2x3072, .f32⟩ : BufTy).Contents (Elt Ideal)) :
    val_main_v50 (F := Ideal) x2 = fun y : S2x3072.Idx => g2 x2 (y 0) (y 1) := by
  funext y
  obtain ⟨p, q, rfl⟩ := ex2 y
  pointwise [val_main_v50, val_main_cst_19]
  rfl

/-- The block of the change of the parameter (third). -/
theorem block22 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S2x3072.Idx) :
    out0_22 x0 x1 x2 x3 x4 x5 x6 x7 x8 x9 x10 x11 x12 y = Adam.step (g2 x2 (y 0) (y 1)) (x5 (ix2 (y 0) (y 1))) (x8 (ix2 (y 0) (y 1))) (x11 (ix2 (y 0) (y 1))) := by
  obtain ⟨p, q, rfl⟩ := ex2 y
  unfold out0_22
  rw [View.canon_unit_zero (by decide)]
  pointwise [k0_pay15, k0_pay21, k0_pay22, k0_pay14, k0_pay12, k0_pay13]
  unfold g2
  rw [Fin.sum_univ_one]
  rfl

/-- The change of the parameter (third) that the kernel leaves. -/
theorem left22 : (dats m 0 c).arrAt 22 cfg0.N = fun y : S2x3072.Idx => Adam.step (g2 (m ((c : Thread nD τ).loc main_arg2) : S1x2x3072.Idx → EReal) (y 0) (y 1)) ((m ((c : Thread nD τ).loc main_arg5) : S2x3072.Idx → EReal) (ix2 (y 0) (y 1))) ((m ((c : Thread nD τ).loc main_arg8) : S2x3072.Idx → EReal) (ix2 (y 0) (y 1))) ((m ((c : Thread nD τ).loc main_arg11) : S2x3072.Idx → EReal) (ix2 (y 0) (y 1))) := by
  refine (dats m 0 c).arrAt_eq_of_covers 22 (fun y : S2x3072.Idx => Adam.step (g2 (m ((c : Thread nD τ).loc main_arg2) : S1x2x3072.Idx → EReal) (y 0) (y 1)) ((m ((c : Thread nD τ).loc main_arg5) : S2x3072.Idx → EReal) (ix2 (y 0) (y 1))) ((m ((c : Thread nD τ).loc main_arg8) : S2x3072.Idx → EReal) (ix2 (y 0) (y 1))) ((m ((c : Thread nD τ).loc main_arg11) : S2x3072.Idx → EReal) (ix2 (y 0) (y 1)))) (by decide +kernel) fun t hf y => ?_
  blk_simp
  rw [after0_22]
  refine (block22 _ _ _ _ _ _ _ _ _ _ _ _ _ y).trans ?_
  rw [emb22 t y, in2 m c t, in5 m c t, in8 m c t, in11 m c t]

open Cert.AdamLateRefIdeal.Read in
/-- The reference's change of the parameter (third). -/
theorem ref22 (x2 : (⟨S1x2x3072, .f32⟩ : BufTy).Contents (Elt Ideal)) (x5 : (⟨S2x3072, .f32⟩ : BufTy).Contents (Elt Ideal)) (x8 : (⟨S2x3072, .f32⟩ : BufTy).Contents (Elt Ideal)) (x11 : (⟨S2x3072, .f32⟩ : BufTy).Contents (Elt Ideal)) :
    val_main_v74 (F := Ideal) x2 x5 x8 x11 = fun y : S2x3072.Idx => Adam.step (g2 x2 (y 0) (y 1)) (x5 (ix2 (y 0) (y 1))) (x8 (ix2 (y 0) (y 1))) (x11 (ix2 (y 0) (y 1))) := by
  funext y
  obtain ⟨p, q, rfl⟩ := ex2 y
  pointwise [val_main_v74, val_main_v73, val_main_v72, val_main_v69, val_main_v71, val_main_v70, val_main_cst_27, val_main_v63, val_main_v68, val_main_v66, val_main_v67, val_main_cst_26, val_main_v65, val_main_v61, val_main_v64, val_main_cst_25, val_main_v57, val_main_v60, val_main_v59, val_main_v58, val_main_v50, val_main_cst_19, val_main_cst_23, val_main_v56, val_main_cst_22, val_main_v55, val_main_v62, val_main_cst_24, val_main_v52, val_main_v54, val_main_v53, val_main_cst_21, val_main_v51, val_main_cst_20, val_main_cst_28]
  rfl

/-- The block of the parameter's new first moment (third). -/
theorem block23 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S2x3072.Idx) :
    out0_23 x0 x1 x2 x3 x4 x5 x6 x7 x8 x9 x10 x11 x12 y = Adam.mom (g2 x2 (y 0) (y 1)) (x8 (ix2 (y 0) (y 1))) := by
  obtain ⟨p, q, rfl⟩ := ex2 y
  unfold out0_23
  rw [View.canon_unit_zero (by decide)]
  pointwise [k0_pay21, k0_pay13, k0_pay12]
  unfold g2
  rw [Fin.sum_univ_one]
  rfl

/-- The parameter's new first moment (third) that the kernel leaves. -/
theorem left23 : (dats m 0 c).arrAt 23 cfg0.N = fun y : S2x3072.Idx => Adam.mom (g2 (m ((c : Thread nD τ).loc main_arg2) : S1x2x3072.Idx → EReal) (y 0) (y 1)) ((m ((c : Thread nD τ).loc main_arg8) : S2x3072.Idx → EReal) (ix2 (y 0) (y 1))) := by
  refine (dats m 0 c).arrAt_eq_of_covers 23 (fun y : S2x3072.Idx => Adam.mom (g2 (m ((c : Thread nD τ).loc main_arg2) : S1x2x3072.Idx → EReal) (y 0) (y 1)) ((m ((c : Thread nD τ).loc main_arg8) : S2x3072.Idx → EReal) (ix2 (y 0) (y 1)))) (by decide +kernel) fun t hf y => ?_
  blk_simp
  rw [after0_23]
  refine (block23 _ _ _ _ _ _ _ _ _ _ _ _ _ y).trans ?_
  rw [emb23 t y, in2 m c t, in8 m c t]

open Cert.AdamLateRefIdeal.Read in
/-- The reference's parameter's new first moment (third). -/
theorem ref23 (x2 : (⟨S1x2x3072, .f32⟩ : BufTy).Contents (Elt Ideal)) (x8 : (⟨S2x3072, .f32⟩ : BufTy).Contents (Elt Ideal)) :
    val_main_v55 (F := Ideal) x2 x8 = fun y : S2x3072.Idx => Adam.mom (g2 x2 (y 0) (y 1)) (x8 (ix2 (y 0) (y 1))) := by
  funext y
  obtain ⟨p, q, rfl⟩ := ex2 y
  pointwise [val_main_v55, val_main_v52, val_main_v54, val_main_v53, val_main_v50, val_main_cst_19, val_main_cst_21, val_main_v51, val_main_cst_20]
  rfl

/-- The block of the parameter's new second moment (third). -/
theorem block24 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S2x3072.Idx) :
    out0_24 x0 x1 x2 x3 x4 x5 x6 x7 x8 x9 x10 x11 x12 y = Adam.sec (g2 x2 (y 0) (y 1)) (x11 (ix2 (y 0) (y 1))) := by
  obtain ⟨p, q, rfl⟩ := ex2 y
  unfold out0_24
  rw [View.canon_unit_zero (by decide)]
  pointwise [k0_pay22, k0_pay14, k0_pay12]
  unfold g2
  rw [Fin.sum_univ_one]
  rfl

/-- The parameter's new second moment (third) that the kernel leaves. -/
theorem left24 : (dats m 0 c).arrAt 24 cfg0.N = fun y : S2x3072.Idx => Adam.sec (g2 (m ((c : Thread nD τ).loc main_arg2) : S1x2x3072.Idx → EReal) (y 0) (y 1)) ((m ((c : Thread nD τ).loc main_arg11) : S2x3072.Idx → EReal) (ix2 (y 0) (y 1))) := by
  refine (dats m 0 c).arrAt_eq_of_covers 24 (fun y : S2x3072.Idx => Adam.sec (g2 (m ((c : Thread nD τ).loc main_arg2) : S1x2x3072.Idx → EReal) (y 0) (y 1)) ((m ((c : Thread nD τ).loc main_arg11) : S2x3072.Idx → EReal) (ix2 (y 0) (y 1)))) (by decide +kernel) fun t hf y => ?_
  blk_simp
  rw [after0_24]
  refine (block24 _ _ _ _ _ _ _ _ _ _ _ _ _ y).trans ?_
  rw [emb24 t y, in2 m c t, in11 m c t]

open Cert.AdamLateRefIdeal.Read in
/-- The reference's parameter's new second moment (third). -/
theorem ref24 (x2 : (⟨S1x2x3072, .f32⟩ : BufTy).Contents (Elt Ideal)) (x11 : (⟨S2x3072, .f32⟩ : BufTy).Contents (Elt Ideal)) :
    val_main_v61 (F := Ideal) x2 x11 = fun y : S2x3072.Idx => Adam.sec (g2 x2 (y 0) (y 1)) (x11 (ix2 (y 0) (y 1))) := by
  funext y
  obtain ⟨p, q, rfl⟩ := ex2 y
  pointwise [val_main_v61, val_main_v57, val_main_v60, val_main_v59, val_main_v58, val_main_v50, val_main_cst_19, val_main_cst_23, val_main_v56, val_main_cst_22]
  rfl

/-- The sum of the eight devices' rows of losses. -/
def tot (x : S8x1x128.Idx → EReal) (p : Fin 1) (q : Fin 128) : EReal := ∑ i : Fin 8, x (ix3 i p q)

/-- The block of the losses' sum. -/
theorem block25 (x0 : Vec Ideal S8x2x1024 .f32) (x1 : Vec Ideal S8x1x1024 .f32) (x2 : Vec Ideal S1x2x3072 .f32) (x3 : Vec Ideal S2x1024 .f32) (x4 : Vec Ideal S1x1024 .f32) (x5 : Vec Ideal S2x3072 .f32) (x6 : Vec Ideal S2x1024 .f32) (x7 : Vec Ideal S1x1024 .f32) (x8 : Vec Ideal S2x3072 .f32) (x9 : Vec Ideal S2x1024 .f32) (x10 : Vec Ideal S1x1024 .f32) (x11 : Vec Ideal S2x3072 .f32) (x12 : Vec Ideal S8x1x128 .f32) (y : S1x128.Idx) : out0_25 x0 x1 x2 x3 x4 x5 x6 x7 x8 x9 x10 x11 x12 y = tot x12 (y 0) (y 1) := by
  obtain ⟨p, q, rfl⟩ := ex2 y
  obtain rfl : p = 0 := Subsingleton.elim _ _
  unfold out0_25
  rw [View.canon_unit_zero (by decide)]
  pointwise [k0_pay1, k0_pay16]
  unfold tot
  rw [← Adam.sum8_eq]
  rfl

/-- The sum of the losses that the kernel leaves. -/
theorem left25 : (dats m 0 c).arrAt 25 cfg0.N = fun y : S1x128.Idx => tot (m ((c : Thread nD τ).loc main_arg12) : S8x1x128.Idx → EReal) (y 0) (y 1) := by
  refine (dats m 0 c).arrAt_eq_of_covers 25 (fun y : S1x128.Idx => tot (m ((c : Thread nD τ).loc main_arg12) : S8x1x128.Idx → EReal) (y 0) (y 1)) (by decide +kernel) fun t hf y => ?_
  blk_simp
  rw [after0_25]
  refine (block25 _ _ _ _ _ _ _ _ _ _ _ _ _ y).trans ?_
  rw [emb25 t y, in12 m c t]

open Cert.AdamLateRefIdeal.Read in
/-- The reference's sum of the losses. -/
theorem ref25 (x12 : (⟨S8x1x128, .f32⟩ : BufTy).Contents (Elt Ideal)) :
    val_main_v75 (F := Ideal) x12 = fun y : S1x128.Idx => tot x12 (y 0) (y 1) := by
  funext y
  obtain ⟨p, q, rfl⟩ := ex2 y
  obtain rfl : p = 0 := Subsingleton.elim _ _
  pointwise [val_main_v75, val_main_cst_29]
  rfl

end Cert.AdamLate
-- ==== Proof.PreBwd.lean ====
module
public import proofs.«01_k».proof.Proof.Gen.PreBwdIdeal.Value
public import proofs.«01_k».proof.Proof.Gen.PreBwdRefIdeal.Read
public import Idealize.ShloMosaic.Lib.Pipeline.ValueKit
public import Idealize.ShloMosaic.Lib.StableHlo.ReadAt
public import Idealize.ShloMosaic.Lib.Pipeline.ReadBack
public import Idealize.ShloMosaic.Lib.WholeRead
public import proofs.«01_k».proof.Proof.Sums
public import proofs.«01_k».proof.Proof.Spec

@[expose] public section

set_option maxRecDepth 16384

noncomputable section

namespace Cert.PreBwd

open Idealize.ShloMosaic Idealize.ShloMosaic.TcCoe Cert.PreBwdIdeal Cert.PreBwdIdeal.Gen

/-- One over the root of a row's mean square and epsilon. -/
def rstd (f : Fin 1024 → EReal) : EReal :=
  Ideal.rsqrt (Ideal.div (∑ k : Fin 1024, f k * f k) (Ideal.ofBits .f32 0x44800000#32) + Ideal.ofBits .f32 0x358637BD#32)

/-- The gradient of a row of the norm's input at column `q`, of the gradient `e` of its output, the gain `g` and the scale `s`. -/
def dxr (f e g s : Fin 1024 → EReal) (q : Fin 1024) : EReal :=
  rstd f * (e q * (1 + s q) * g q - f q * rstd f * Ideal.div (∑ k : Fin 1024, e k * (1 + s k) * g k * (f k * rstd f)) (Ideal.ofBits .f32 0x44800000#32))

/-- A block of the gradient of `x`. -/
def dxb (x0 x1 : S1024x1024.Idx → EReal) (x2 : S1x1024.Idx → EReal) (x3 : S1x3x1024.Idx → EReal) (x4 : S1024x1024.Idx → EReal) (p q : Fin 1024) : EReal :=
  x4 (ix2 p q) + dxr (fun k => x1 (ix2 p k)) (fun k => x0 (ix2 p k)) (fun k => x2 (ix2 (0 : Fin 1) k)) (fun k => x3 (ix3 (0 : Fin 1) (1 : Fin 3) k)) q

/-- A block's part of the gradients of the shift (row 0) and of the scale (row 1). -/
def ssb (x0 x1 : S1024x1024.Idx → EReal) (x2 : S1x1024.Idx → EReal) (i : Fin 2) (q : Fin 1024) : EReal :=
  if i = 0 then ∑ k : Fin 1024, x0 (ix2 k q) else ∑ k : Fin 1024, x0 (ix2 k q) * (x1 (ix2 k q) * rstd (fun l => x1 (ix2 k l)) * x2 (ix2 (0 : Fin 1) q))

/-- A block's part of the gain's gradient. -/
def gnb (x0 x1 : S1024x1024.Idx → EReal) (x3 : S1x3x1024.Idx → EReal) (q : Fin 1024) : EReal :=
  ∑ k : Fin 1024, x0 (ix2 k q) * (1 + x3 (ix3 (0 : Fin 1) (1 : Fin 3) q)) * (x1 (ix2 k q) * rstd (fun l => x1 (ix2 k l)))

/-- A point's block of the gradient of `x`. -/
theorem outA5 (c : Dev nD) (i arg1 harg1 arg2 harg2 arg3 harg3 arg4 harg4 arg5 harg5 arg6 harg6 arg7 harg7 arg8 harg8 hc0 hc1) (x0 x1 : Vec Ideal S1024x1024 .f32) (x2 : Vec Ideal S1x1024 .f32) (x3 : Vec Ideal S1x3x1024 .f32) (x4 : Vec Ideal S1024x1024 .f32) (y : S1024x1024.Idx) :
    out0_A_5 (F := Ideal) c i arg1 harg1 arg2 harg2 arg3 harg3 arg4 harg4 arg5 harg5 arg6 harg6 arg7 harg7 arg8 harg8 hc0 hc1 x0 x1 x2 x3 x4 y = dxb x0 x1 x2 x3 x4 (y 0) (y 1) := by
  obtain ⟨p, q, rfl⟩ : ∃ (p : Fin 1024) (q : Fin 1024), y = ix2 p q := ⟨y 0, y 1, eq_ix2 y⟩
  unfold out0_A_5
  rw [View.read_writes_junk_eq_canon]
  unfold kernelRun0_A
  dsimp only
  rw [View.canon_unit_zero (by decide)]
  pointwise [kernelRun0_A.sl.r, kernelRun0_A.sl.r_1, kernelRun0_A.sl.r_2, k0_pay5, k0_pay4, k0_pay3, k0_pay2, Memref.IsWhole.readAt_unread]
  rfl

/-- A point's block of the gradient of `x`. -/
theorem outB5 (c : Dev nD) (i arg1 harg1 arg2 harg2 arg3 harg3 arg4 harg4 arg5 harg5 arg6 harg6 arg7 harg7 arg8 harg8 hc0 hc1) (x0 x1 : Vec Ideal S1024x1024 .f32) (x2 : Vec Ideal S1x1024 .f32) (x3 : Vec Ideal S1x3x1024 .f32) (x4 : Vec Ideal S1024x1024 .f32) (xo6 : Vec Ideal S1x2x1024 .f32) (xo7 : Vec Ideal S1x1024 .f32) (y : S1024x1024.Idx) :
    out0_B_5 (F := Ideal) c i arg1 harg1 arg2 harg2 arg3 harg3 arg4 harg4 arg5 harg5 arg6 harg6 arg7 harg7 arg8 harg8 hc0 hc1 x0 x1 x2 x3 x4 xo6 xo7 y = dxb x0 x1 x2 x3 x4 (y 0) (y 1) := by
  obtain ⟨p, q, rfl⟩ : ∃ (p : Fin 1024) (q : Fin 1024), y = ix2 p q := ⟨y 0, y 1, eq_ix2 y⟩
  unfold out0_B_5
  rw [View.read_writes_junk_eq_canon]
  unfold kernelRun0_B
  dsimp only
  rw [View.canon_unit_zero (by decide)]
  pointwise [kernelRun0_B.sl.r, kernelRun0_B.sl.r_1, kernelRun0_B.sl.r_2, k0_pay5, k0_pay4, k0_pay3, k0_pay2, Memref.IsWhole.readAt_unread]
  rfl

/-- A point's block of the gradient of `x`. -/
theorem outC5 (c : Dev nD) (i arg1 harg1 arg2 harg2 arg3 harg3 arg4 harg4 arg5 harg5 arg6 harg6 arg7 harg7 arg8 harg8 hc0 hc1) (x0 x1 : Vec Ideal S1024x1024 .f32) (x2 : Vec Ideal S1x1024 .f32) (x3 : Vec Ideal S1x3x1024 .f32) (x4 : Vec Ideal S1024x1024 .f32) (xo7 : Vec Ideal S1x1024 .f32) (y : S1024x1024.Idx) :
    out0_C_5 (F := Ideal) c i arg1 harg1 arg2 harg2 arg3 harg3 arg4 harg4 arg5 harg5 arg6 harg6 arg7 harg7 arg8 harg8 hc0 hc1 x0 x1 x2 x3 x4 xo7 y = dxb x0 x1 x2 x3 x4 (y 0) (y 1) := by
  obtain ⟨p, q, rfl⟩ : ∃ (p : Fin 1024) (q : Fin 1024), y = ix2 p q := ⟨y 0, y 1, eq_ix2 y⟩
  unfold out0_C_5
  rw [View.read_writes_junk_eq_canon]
  unfold kernelRun0_C
  dsimp only
  rw [View.canon_unit_zero (by decide)]
  pointwise [kernelRun0_C.sl.r, kernelRun0_C.sl.r_1, kernelRun0_C.sl.r_2, k0_pay5, k0_pay4, k0_pay3, k0_pay2, Memref.IsWhole.readAt_unread]
  rfl

/-- A store read at one of its own places. -/
theorem at_emb (r : Rect S1x2x1024) (w : r.shape.Idx → EReal) (L : List (View.Piece (Elt Ideal) S1x2x1024 .f32)) (x : r.shape.Idx) (y : S1x2x1024.Idx) (h : y = r.emb x) :
    View.canon (Val := Elt Ideal) (e := .f32) (⟨r, w⟩ :: L) y = w x := by
  subst h
  exact View.canon_cons_emb (Val := Elt Ideal) (e := .f32) r w L x

/-- Row 0's places. -/
theorem emb0 (inb : ∀ a, (![0, 0, 0] : Fin 3 → ℕ) a + (![1, 1, 1024] : Fin 3 → ℕ) a ≤ S1x2x1024.size a) (q : Fin 1024) :
    (ix3 (0 : Fin 1) (0 : Fin 2) q : S1x2x1024.Idx) = (Rect.unit (s := S1x2x1024) ![0, 0, 0] ![1, 1, 1024] inb).emb (ix3 (0 : Fin 1) (0 : Fin 1) q) := by
  funext a
  fin_cases a
  · exact Fin.ext (by simp)
  · rfl
  · exact Fin.ext (by simp)

/-- Row 1's places. -/
theorem emb1 (inb : ∀ a, (![0, 1, 0] : Fin 3 → ℕ) a + (![1, 1, 1024] : Fin 3 → ℕ) a ≤ S1x2x1024.size a) (q : Fin 1024) :
    (ix3 (0 : Fin 1) (1 : Fin 2) q : S1x2x1024.Idx) = (Rect.unit (s := S1x2x1024) ![0, 1, 0] ![1, 1, 1024] inb).emb (ix3 (0 : Fin 1) (0 : Fin 1) q) := by
  funext a
  fin_cases a
  · exact Fin.ext (by simp)
  · rfl
  · exact Fin.ext (by simp)

/-- The store of row 1 leaves row 0 alone. -/
theorem past (inb : ∀ a, (![0, 1, 0] : Fin 3 → ℕ) a + (![1, 1, 1024] : Fin 3 → ℕ) a ≤ S1x2x1024.size a) (w : S1x1x1024.Idx → EReal) (L : List (View.Piece (Elt Ideal) S1x2x1024 .f32)) (q : Fin 1024) :
    View.canon (Val := Elt Ideal) (e := .f32) (⟨Rect.unit (s := S1x2x1024) ![0, 1, 0] ![1, 1, 1024] inb, w⟩ :: L) (ix3 (0 : Fin 1) (0 : Fin 2) q) = View.canon L (ix3 (0 : Fin 1) (0 : Fin 2) q) := by
  refine View.canon_cons_of_not_mem _ _ fun h => ?_
  have h1 : (1 : ℕ) ≤ 0 := ((Rect.mem_set_unit (inb := inb)).1 h 1).1
  omega

/-- A point's gradients of the shift and of the scale. -/
theorem outA6 (c : Dev nD) (i arg1 harg1 arg2 harg2 arg3 harg3 arg4 harg4 arg5 harg5 arg6 harg6 arg7 harg7 arg8 harg8 hc0 hc1) (x0 x1 : Vec Ideal S1024x1024 .f32) (x2 : Vec Ideal S1x1024 .f32) (x3 : Vec Ideal S1x3x1024 .f32) (x4 : Vec Ideal S1024x1024 .f32) (y : S1x2x1024.Idx) :
    out0_A_6 (F := Ideal) c i arg1 harg1 arg2 harg2 arg3 harg3 arg4 harg4 arg5 harg5 arg6 harg6 arg7 harg7 arg8 harg8 hc0 hc1 x0 x1 x2 x3 x4 y = ssb x0 x1 x2 (y 1) (y 2) := by
  obtain ⟨a, b, q, rfl⟩ : ∃ (a : Fin 1) (b : Fin 2) (q : Fin 1024), y = ix3 a b q := ⟨y 0, y 1, y 2, eq_ix3 y⟩
  obtain rfl : a = 0 := Subsingleton.elim _ _
  change _ = ssb x0 x1 x2 b q
  unfold out0_A_6 ssb
  rw [View.read_writes_junk_eq_canon]
  unfold kernelRun0_A
  dsimp only
  rcases Fin.exists_fin_two.1 ⟨b, rfl⟩ with rfl | rfl
  · rw [if_pos rfl, past]
    unfold kernelRun0_A.sl.H6_2
    refine (at_emb _ _ _ _ _ (emb0 _ q)).trans ?_
    unfold kernelRun0_A.sl.v50 kernelRun0_A.sl.H6_1
    rw [View.readCov_fill _ _ _ _ _ (by decide)]
    pointwise [kernelRun0_A.sl.r, kernelRun0_A.sl.r_1, kernelRun0_A.sl.r_2, kernelRun0_A.sl.r_3, k0_pay8, k0_pay6, Memref.IsWhole.readAt_unread]
    try rfl
  · rw [if_neg (by decide)]
    refine (at_emb _ _ _ _ _ (emb1 _ q)).trans ?_
    unfold kernelRun0_A.sl.v58 kernelRun0_A.sl.H6_2
    rw [View.readCov_skip _ _ _ _ _ (by rfl)]
    unfold kernelRun0_A.sl.H6_1
    rw [View.readCov_fill _ _ _ _ _ (by decide)]
    pointwise [kernelRun0_A.sl.r, kernelRun0_A.sl.r_1, kernelRun0_A.sl.r_2, kernelRun0_A.sl.r_3, k0_pay9, k0_pay3, k0_pay2, k0_pay6, Memref.IsWhole.readAt_unread]
    try rfl

/-- A point's gradient of the gain. -/
theorem outA7 (c : Dev nD) (i arg1 harg1 arg2 harg2 arg3 harg3 arg4 harg4 arg5 harg5 arg6 harg6 arg7 harg7 arg8 harg8 hc0 hc1) (x0 x1 : Vec Ideal S1024x1024 .f32) (x2 : Vec Ideal S1x1024 .f32) (x3 : Vec Ideal S1x3x1024 .f32) (x4 : Vec Ideal S1024x1024 .f32) (y : S1x1024.Idx) :
    out0_A_7 (F := Ideal) c i arg1 harg1 arg2 harg2 arg3 harg3 arg4 harg4 arg5 harg5 arg6 harg6 arg7 harg7 arg8 harg8 hc0 hc1 x0 x1 x2 x3 x4 y = gnb x0 x1 x3 (y 1) := by
  obtain ⟨a, q, rfl⟩ : ∃ (a : Fin 1) (q : Fin 1024), y = ix2 a q := ⟨y 0, y 1, eq_ix2 y⟩
  obtain rfl : a = 0 := Subsingleton.elim _ _
  unfold out0_A_7
  rw [View.read_writes_junk_eq_canon]
  unfold kernelRun0_A
  dsimp only
  rw [View.canon_cons_unit_zero (by decide)]
  unfold kernelRun0_A.sl.v69 kernelRun0_A.sl.H7_1
  rw [View.readCov_fill _ _ _ _ _ (by decide)]
  pointwise [kernelRun0_A.sl.r, kernelRun0_A.sl.r_1, kernelRun0_A.sl.r_2, kernelRun0_A.sl.r_3, k0_pay1, k0_pay2, k0_pay3, k0_pay4, k0_pay7, Memref.IsWhole.readAt_unread]
  try rfl

/-- A point's gradients of the shift and of the scale. -/
theorem outB6 (c : Dev nD) (i arg1 harg1 arg2 harg2 arg3 harg3 arg4 harg4 arg5 harg5 arg6 harg6 arg7 harg7 arg8 harg8 hc0 hc1) (x0 x1 : Vec Ideal S1024x1024 .f32) (x2 : Vec Ideal S1x1024 .f32) (x3 : Vec Ideal S1x3x1024 .f32) (x4 : Vec Ideal S1024x1024 .f32) (xo6 : Vec Ideal S1x2x1024 .f32) (xo7 : Vec Ideal S1x1024 .f32) (y : S1x2x1024.Idx) :
    out0_B_6 (F := Ideal) c i arg1 harg1 arg2 harg2 arg3 harg3 arg4 harg4 arg5 harg5 arg6 harg6 arg7 harg7 arg8 harg8 hc0 hc1 x0 x1 x2 x3 x4 xo6 xo7 y = xo6 y + ssb x0 x1 x2 (y 1) (y 2) := by
  obtain ⟨a, b, q, rfl⟩ : ∃ (a : Fin 1) (b : Fin 2) (q : Fin 1024), y = ix3 a b q := ⟨y 0, y 1, y 2, eq_ix3 y⟩
  obtain rfl : a = 0 := Subsingleton.elim _ _
  change _ = xo6 (ix3 (0 : Fin 1) b q) + ssb x0 x1 x2 b q
  unfold out0_B_6 ssb
  rw [View.read_writes_junk_eq_canon]
  unfold kernelRun0_B
  dsimp only
  rcases Fin.exists_fin_two.1 ⟨b, rfl⟩ with rfl | rfl
  · rw [if_pos rfl, past]
    refine (at_emb _ _ _ _ _ (emb0 _ q)).trans ?_
    pointwise [kernelRun0_B.sl.r, kernelRun0_B.sl.r_1, kernelRun0_B.sl.r_2, kernelRun0_B.sl.r_3, k0_pay8, k0_pay6, Memref.IsWhole.readAt_unread]
    try rfl
  · rw [if_neg (by decide)]
    refine (at_emb _ _ _ _ _ (emb1 _ q)).trans ?_
    unfold kernelRun0_B.sl.v58
    pointwise [kernelRun0_B.sl.r, kernelRun0_B.sl.r_1, kernelRun0_B.sl.r_2, kernelRun0_B.sl.r_3, k0_pay9, k0_pay3, k0_pay2, k0_pay6, Memref.IsWhole.readAt_unread]
    try rfl

/-- A point's gradient of the gain. -/
theorem outB7 (c : Dev nD) (i arg1 harg1 arg2 harg2 arg3 harg3 arg4 harg4 arg5 harg5 arg6 harg6 arg7 harg7 arg8 harg8 hc0 hc1) (x0 x1 : Vec Ideal S1024x1024 .f32) (x2 : Vec Ideal S1x1024 .f32) (x3 : Vec Ideal S1x3x1024 .f32) (x4 : Vec Ideal S1024x1024 .f32) (xo6 : Vec Ideal S1x2x1024 .f32) (xo7 : Vec Ideal S1x1024 .f32) (y : S1x1024.Idx) :
    out0_B_7 (F := Ideal) c i arg1 harg1 arg2 harg2 arg3 harg3 arg4 harg4 arg5 harg5 arg6 harg6 arg7 harg7 arg8 harg8 hc0 hc1 x0 x1 x2 x3 x4 xo6 xo7 y = xo7 y + gnb x0 x1 x3 (y 1) := by
  obtain ⟨a, q, rfl⟩ : ∃ (a : Fin 1) (q : Fin 1024), y = ix2 a q := ⟨y 0, y 1, eq_ix2 y⟩
  obtain rfl : a = 0 := Subsingleton.elim _ _
  unfold out0_B_7
  rw [View.read_writes_junk_eq_canon]
  unfold kernelRun0_B
  dsimp only
  rw [View.canon_unit_zero (by decide)]
  pointwise [kernelRun0_B.sl.r, kernelRun0_B.sl.r_1, kernelRun0_B.sl.r_2, kernelRun0_B.sl.r_3, k0_pay1, k0_pay2, k0_pay3, k0_pay4, k0_pay7, Memref.IsWhole.readAt_unread]
  try rfl

/-- A point's gradients of the shift and of the scale. -/
theorem outC6 (c : Dev nD) (i arg1 harg1 arg2 harg2 arg3 harg3 arg4 harg4 arg5 harg5 arg6 harg6 arg7 harg7 arg8 harg8 hc0 hc1) (x0 x1 : Vec Ideal S1024x1024 .f32) (x2 : Vec Ideal S1x1024 .f32) (x3 : Vec Ideal S1x3x1024 .f32) (x4 : Vec Ideal S1024x1024 .f32) (xo7 : Vec Ideal S1x1024 .f32) (y : S1x2x1024.Idx) :
    out0_C_6 (F := Ideal) c i arg1 harg1 arg2 harg2 arg3 harg3 arg4 harg4 arg5 harg5 arg6 harg6 arg7 harg7 arg8 harg8 hc0 hc1 x0 x1 x2 x3 x4 xo7 y = ssb x0 x1 x2 (y 1) (y 2) := by
  obtain ⟨a, b, q, rfl⟩ : ∃ (a : Fin 1) (b : Fin 2) (q : Fin 1024), y = ix3 a b q := ⟨y 0, y 1, y 2, eq_ix3 y⟩
  obtain rfl : a = 0 := Subsingleton.elim _ _
  change _ = ssb x0 x1 x2 b q
  unfold out0_C_6 ssb
  rw [View.read_writes_junk_eq_canon]
  unfold kernelRun0_C
  dsimp only
  rcases Fin.exists_fin_two.1 ⟨b, rfl⟩ with rfl | rfl
  · rw [if_pos rfl, past]
    unfold kernelRun0_C.sl.H6_2
    refine (at_emb _ _ _ _ _ (emb0 _ q)).trans ?_
    unfold kernelRun0_C.sl.v50 kernelRun0_C.sl.H6_1
    rw [View.readCov_fill _ _ _ _ _ (by decide)]
    pointwise [kernelRun0_C.sl.r, kernelRun0_C.sl.r_1, kernelRun0_C.sl.r_2, kernelRun0_C.sl.r_3, k0_pay8, k0_pay6, Memref.IsWhole.readAt_unread]
    try rfl
  · rw [if_neg (by decide)]
    refine (at_emb _ _ _ _ _ (emb1 _ q)).trans ?_
    unfold kernelRun0_C.sl.v58 kernelRun0_C.sl.H6_2
    rw [View.readCov_skip _ _ _ _ _ (by rfl)]
    unfold kernelRun0_C.sl.H6_1
    rw [View.readCov_fill _ _ _ _ _ (by decide)]
    pointwise [kernelRun0_C.sl.r, kernelRun0_C.sl.r_1, kernelRun0_C.sl.r_2, kernelRun0_C.sl.r_3, k0_pay9, k0_pay3, k0_pay2, k0_pay6, Memref.IsWhole.readAt_unread]
    try rfl

/-- A point's gradient of the gain. -/
theorem outC7 (c : Dev nD) (i arg1 harg1 arg2 harg2 arg3 harg3 arg4 harg4 arg5 harg5 arg6 harg6 arg7 harg7 arg8 harg8 hc0 hc1) (x0 x1 : Vec Ideal S1024x1024 .f32) (x2 : Vec Ideal S1x1024 .f32) (x3 : Vec Ideal S1x3x1024 .f32) (x4 : Vec Ideal S1024x1024 .f32) (xo7 : Vec Ideal S1x1024 .f32) (y : S1x1024.Idx) :
    out0_C_7 (F := Ideal) c i arg1 harg1 arg2 harg2 arg3 harg3 arg4 harg4 arg5 harg5 arg6 harg6 arg7 harg7 arg8 harg8 hc0 hc1 x0 x1 x2 x3 x4 xo7 y = xo7 y + gnb x0 x1 x3 (y 1) := by
  obtain ⟨a, q, rfl⟩ : ∃ (a : Fin 1) (q : Fin 1024), y = ix2 a q := ⟨y 0, y 1, eq_ix2 y⟩
  obtain rfl : a = 0 := Subsingleton.elim _ _
  unfold out0_C_7
  rw [View.read_writes_junk_eq_canon]
  unfold kernelRun0_C
  dsimp only
  rw [View.canon_unit_zero (by decide)]
  pointwise [kernelRun0_C.sl.r, kernelRun0_C.sl.r_1, kernelRun0_C.sl.r_2, kernelRun0_C.sl.r_3, k0_pay1, k0_pay2, k0_pay3, k0_pay4, k0_pay7, Memref.IsWhole.readAt_unread]
  try rfl

/-- The gradient of `x` at row `p` and column `q`. -/
def dx (a0 a1 : S4096x1024.Idx → EReal) (a2 : S1x1024.Idx → EReal) (a3 : S2x3x1024.Idx → EReal) (a4 : S4096x1024.Idx → EReal) (p : Fin 4096) (q : Fin 1024) : EReal :=
  a4 (ix2 p q) + dxr (fun k => a1 (ix2 p k)) (fun k => a0 (ix2 p k)) (fun k => a2 (ix2 (0 : Fin 1) k)) (fun k => a3 (ix3 (⟨p.val / 2048, by omega⟩ : Fin 2) (1 : Fin 3) k)) q

/-- Row `p`'s part of the gradients of the shift (`i` is 0) and of the scale (rows past the last one give nothing). -/
def sst (a0 a1 : S4096x1024.Idx → EReal) (a2 : S1x1024.Idx → EReal) (i : Fin 2) (q : Fin 1024) (p : ℕ) : EReal :=
  if h : p < 4096 then
    if i = 0 then a0 (ix2 (⟨p, h⟩ : Fin 4096) q)
    else a0 (ix2 (⟨p, h⟩ : Fin 4096) q) * (a1 (ix2 (⟨p, h⟩ : Fin 4096) q) * rstd (fun l => a1 (ix2 (⟨p, h⟩ : Fin 4096) l)) * a2 (ix2 (0 : Fin 1) q))
  else 0

/-- The gradients of sequence `b`'s shift and scale: the sums over the sequence's 2048 rows. -/
def dss (a0 a1 : S4096x1024.Idx → EReal) (a2 : S1x1024.Idx → EReal) (b i : Fin 2) (q : Fin 1024) : EReal :=
  ∑ r ∈ Finset.range 2048, sst a0 a1 a2 i q (b.val * 2048 + r)

/-- Row `p`'s part of the gain's gradient. -/
def gnt (a0 a1 : S4096x1024.Idx → EReal) (a3 : S2x3x1024.Idx → EReal) (q : Fin 1024) (p : ℕ) : EReal :=
  if h : p < 4096 then
    a0 (ix2 (⟨p, h⟩ : Fin 4096) q) * (1 + a3 (ix3 (⟨p / 2048, by omega⟩ : Fin 2) (1 : Fin 3) q)) * (a1 (ix2 (⟨p, h⟩ : Fin 4096) q) * rstd (fun l => a1 (ix2 (⟨p, h⟩ : Fin 4096) l)))
  else 0

/-- The gain's gradient over the first `n` blocks of 1024 rows. -/
def dgn (a0 a1 : S4096x1024.Idx → EReal) (a3 : S2x3x1024.Idx → EReal) (n : ℕ) (q : Fin 1024) : EReal :=
  ∑ r ∈ Finset.range (n * 1024), gnt a0 a1 a3 q r

theorem points : ∀ t : Fin grid0.N, win0_0.index t = ![t.val, 0] ∧ win0_1.index t = ![t.val, 0] ∧ win0_2.index t = ![0, 0] ∧ win0_3.index t = ![t.val / 2, 0, 0]
    ∧ win0_4.index t = ![t.val, 0] ∧ win0_5.index t = ![t.val, 0] ∧ win0_6.index t = ![t.val / 2, 0, 0] ∧ win0_7.index t = ![0, 0] := by decide +kernel

theorem last6 : ∀ t : Fin grid0.N, win0_6.flush t = true → t.val % 2 = 1 := by decide +kernel

theorem last7 : ∀ t : Fin grid0.N, win0_7.flush t = true → t.val = 3 := by decide +kernel

variable (m : (ℓ : Loc nD τ sig) → Buf (Elt Ideal) ℓ) (c : Dev nD)

theorem N_eq : grid0.N = 4 := by decide +kernel

theorem in0 (t : Fin grid0.N) (p k : Fin 1024) (P : Fin 4096) (hP : P.val = t.val * 1024 + p.val) :
    (iblk m c 0 t : S1024x1024.Idx → EReal) (ix2 p k) = ((m ((c : Thread nD τ).loc main_arg0)) : S4096x1024.Idx → EReal) (ix2 P k) := by
  blk_ext [iblk, Gen.V, points t]

theorem in1 (t : Fin grid0.N) (p k : Fin 1024) (P : Fin 4096) (hP : P.val = t.val * 1024 + p.val) :
    (iblk m c 1 t : S1024x1024.Idx → EReal) (ix2 p k) = ((m ((c : Thread nD τ).loc main_arg1)) : S4096x1024.Idx → EReal) (ix2 P k) := by
  blk_ext [iblk, Gen.V, points t]

theorem in2 (t : Fin grid0.N) : (iblk m c 2 t : S1x1024.Idx → EReal) = (m ((c : Thread nD τ).loc main_arg2)) := by
  funext y
  blk_ext [iblk, Gen.V, points t]

theorem in3 (t : Fin grid0.N) (i : Fin 3) (q : Fin 1024) (b : Fin 2) (hb : b.val = t.val / 2) :
    (iblk m c 3 t : S1x3x1024.Idx → EReal) (ix3 (0 : Fin 1) i q) = ((m ((c : Thread nD τ).loc main_arg3)) : S2x3x1024.Idx → EReal) (ix3 b i q) := by
  blk_ext [iblk, Gen.V, points t]

theorem in4 (t : Fin grid0.N) (p k : Fin 1024) (P : Fin 4096) (hP : P.val = t.val * 1024 + p.val) :
    (iblk m c 4 t : S1024x1024.Idx → EReal) (ix2 p k) = ((m ((c : Thread nD τ).loc main_arg4)) : S4096x1024.Idx → EReal) (ix2 P k) := by
  blk_ext [iblk, Gen.V, points t]

/-- The gradient of `x` at point `t`'s block. -/
theorem block5 (t : Fin grid0.N) (p q : Fin 1024) (P : Fin 4096) (hP : P.val = t.val * 1024 + p.val) :
    dxb (iblk m c 0 t) (iblk m c 1 t) (iblk m c 2 t) (iblk m c 3 t) (iblk m c 4 t) p q = dx (m ((c : Thread nD τ).loc main_arg0)) (m ((c : Thread nD τ).loc main_arg1)) (m ((c : Thread nD τ).loc main_arg2)) (m ((c : Thread nD τ).loc main_arg3)) (m ((c : Thread nD τ).loc main_arg4)) P q := by
  unfold dxb dx
  have h : t.val < 4 := t.isLt
  have e0 := fun k => in0 m c t p k P hP
  have e1 := fun k => in1 m c t p k P hP
  have e3 := fun k => in3 m c t 1 k ⟨P.val / 2048, by omega⟩ (by have := p.isLt; show P.val / 2048 = t.val / 2; omega)
  rw [in4 m c t p q P hP, in2 m c t]
  simp only [e0, e1, e3]

/-- What point `t` adds to its sequence's gradients of shift and scale. -/
theorem block6 (t : Fin grid0.N) (i : Fin 2) (q : Fin 1024) :
    ssb (iblk m c 0 t) (iblk m c 1 t) (iblk m c 2 t) i q = ∑ k : Fin 1024, sst (m ((c : Thread nD τ).loc main_arg0)) (m ((c : Thread nD τ).loc main_arg1)) (m ((c : Thread nD τ).loc main_arg2)) i q (t.val * 1024 + k.val) := by
  have h : t.val < 4 := t.isLt
  have e0 := fun (p k : Fin 1024) => in0 m c t p k ⟨t.val * 1024 + p.val, by omega⟩ rfl
  have e1 := fun (p k : Fin 1024) => in1 m c t p k ⟨t.val * 1024 + p.val, by omega⟩ rfl
  unfold ssb
  rw [in2 m c t]
  simp only [e0, e1]
  by_cases hi : i = 0
  · rw [if_pos hi]
    refine Finset.sum_congr rfl fun k _ => ?_
    unfold sst
    rw [dif_pos (by omega), if_pos hi]
  · rw [if_neg hi]
    refine Finset.sum_congr rfl fun k _ => ?_
    unfold sst
    rw [dif_pos (by omega), if_neg hi]

/-- What point `t` adds to the gain's gradient. -/
theorem block7 (t : Fin grid0.N) (q : Fin 1024) :
    gnb (iblk m c 0 t) (iblk m c 1 t) (iblk m c 3 t) q = ∑ k : Fin 1024, gnt (m ((c : Thread nD τ).loc main_arg0)) (m ((c : Thread nD τ).loc main_arg1)) (m ((c : Thread nD τ).loc main_arg3)) q (t.val * 1024 + k.val) := by
  have h : t.val < 4 := t.isLt
  have e0 := fun (p k : Fin 1024) => in0 m c t p k ⟨t.val * 1024 + p.val, by omega⟩ rfl
  have e1 := fun (p k : Fin 1024) => in1 m c t p k ⟨t.val * 1024 + p.val, by omega⟩ rfl
  unfold gnb
  simp only [e0, e1]
  refine Finset.sum_congr rfl fun k _ => ?_
  unfold gnt
  rw [dif_pos (by omega), in3 m c t 1 q ⟨(t.val * 1024 + k.val) / 2048, by omega⟩ (by have := k.isLt; show (t.val * 1024 + k.val) / 2048 = t.val / 2; omega)]

/-- The gradient of `x` the kernel leaves. -/
theorem left5 : (dats m 0 c).arrAt 5 cfg0.N = fun y : S4096x1024.Idx => dx (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 5 (fun y : S4096x1024.Idx => dx (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)) (by decide +kernel) fun t hf y => ?_
  blk_simp
  rw [after0_5]
  obtain ⟨p, q, rfl⟩ : ∃ (p q : Fin 1024), y = ix2 p q := ⟨y 0, y 1, eq_ix2 y⟩
  have hb : (outsAt0 m c t.val t.isLt).1 (ix2 p q) = dxb (iblk m c 0 t) (iblk m c 1 t) (iblk m c 2 t) (iblk m c 3 t) (iblk m c 4 t) p q := by
    by_cases h0 : t.val % 2 = 0
    · by_cases h1 : t.val % 4 = 0
      · rw [outsAt0_A m c t h0 h1]
        dsimp only
        rw [outA5]
        rfl
      · rw [outsAt0_C m c t h0 h1]
        dsimp only
        rw [outC5]
        rfl
    · rw [outsAt0_B m c t h0 (by omega)]
      dsimp only
      rw [outB5]
      rfl
  have e1 : (win0_5.blk t).view.emb (ix2 p q) 1 = q := Fin.ext (by simp [points t])
  rw [e1]
  exact hb.trans (block5 m c t p q _ (by simp [points t]))

/-- What a sequence's first point leaves of the gradients of shift and scale. -/
theorem first6 (t : Fin cfg0.N) (h0 : t.val % 2 = 0) (y : S1x2x1024.Idx) :
    (outsAt0 m c t.val t.isLt).2.1 y = ∑ k : Fin 1024, sst (m ((c : Thread nD τ).loc main_arg0)) (m ((c : Thread nD τ).loc main_arg1)) (m ((c : Thread nD τ).loc main_arg2)) (y 1) (y 2) (t.val * 1024 + k.val) := by
  refine Eq.trans ?_ (block6 m c t (y 1) (y 2))
  by_cases h1 : t.val % 4 = 0
  · rw [outsAt0_A m c t h0 h1]
    dsimp only
    rw [outA6]
  · rw [outsAt0_C m c t h0 h1]
    dsimp only
    rw [outC6]

/-- What its second point leaves: both points' parts. -/
theorem second6 (t : Fin cfg0.N) (h1 : t.val % 2 = 1) (y : S1x2x1024.Idx) :
    (outsAt0 m c t.val t.isLt).2.1 y = (∑ k : Fin 1024, sst (m ((c : Thread nD τ).loc main_arg0)) (m ((c : Thread nD τ).loc main_arg1)) (m ((c : Thread nD τ).loc main_arg2)) (y 1) (y 2) ((t.val - 1) * 1024 + k.val)) + ∑ k : Fin 1024, sst (m ((c : Thread nD τ).loc main_arg0)) (m ((c : Thread nD τ).loc main_arg1)) (m ((c : Thread nD τ).loc main_arg2)) (y 1) (y 2) (t.val * 1024 + k.val) := by
  have e := first6 m c ⟨t.val - 1, Nat.lt_of_le_of_lt (Nat.sub_le _ _) t.isLt⟩ (by dsimp only; omega) y
  rw [outsAt0_B m c t (by omega) (by omega)]
  dsimp only
  rw [outB6]
  exact congrArg₂ (· + ·) e (block6 m c t (y 1) (y 2))

/-- A sum over 2048 rows, 1024 at a time. -/
theorem two (f : ℕ → EReal) : ∑ r ∈ Finset.range 2048, f r = (∑ k : Fin 1024, f k.val) + ∑ k : Fin 1024, f (1024 + k.val) := by
  rw [show 2048 = 1024 + 1024 by omega, Finset.sum_range_add]
  simp only [Finset.sum_range]

/-- The gradients of shift and scale the kernel leaves. -/
theorem left6 : (dats m 0 c).arrAt 6 cfg0.N = fun y : S2x2x1024.Idx => dss (m ((c : Thread nD τ).loc main_arg0)) (m ((c : Thread nD τ).loc main_arg1)) (m ((c : Thread nD τ).loc main_arg2)) (y 0) (y 1) (y 2) := by
  refine (dats m 0 c).arrAt_eq_of_covers 6 (fun y : S2x2x1024.Idx => dss (m ((c : Thread nD τ).loc main_arg0)) (m ((c : Thread nD τ).loc main_arg1)) (m ((c : Thread nD τ).loc main_arg2)) (y 0) (y 1) (y 2)) (by decide +kernel) fun t hf y => ?_
  have h1 := last6 t hf
  have hN : t.val < 4 := t.isLt
  blk_simp
  rw [after0_6]
  refine (second6 m c t h1 y).trans ?_
  unfold dss
  rw [two]
  have h0 : ((win0_6.blk t).view.emb y 0).val = t.val / 2 := by
    have : (y 0).val < 1 := (y 0).isLt
    simp [points t]
    try omega
  have e1 : (win0_6.blk t).view.emb y 1 = y 1 := Fin.ext (by simp [points t])
  have e2 : (win0_6.blk t).view.emb y 2 = y 2 := Fin.ext (by simp [points t])
  rw [h0, e1, e2]
  refine congrArg₂ (· + ·) (Finset.sum_congr rfl fun k _ => ?_) (Finset.sum_congr rfl fun k _ => ?_)
  · exact congrArg (sst (m ((c : Thread nD τ).loc main_arg0)) (m ((c : Thread nD τ).loc main_arg1)) (m ((c : Thread nD τ).loc main_arg2)) (y 1) (y 2)) (by omega)
  · exact congrArg (sst (m ((c : Thread nD τ).loc main_arg0)) (m ((c : Thread nD τ).loc main_arg1)) (m ((c : Thread nD τ).loc main_arg2)) (y 1) (y 2)) (by omega)

/-- One more block of rows. -/
theorem step7 (n : ℕ) (q : Fin 1024) : dgn (m ((c : Thread nD τ).loc main_arg0)) (m ((c : Thread nD τ).loc main_arg1)) (m ((c : Thread nD τ).loc main_arg3)) (n + 1) q = dgn (m ((c : Thread nD τ).loc main_arg0)) (m ((c : Thread nD τ).loc main_arg1)) (m ((c : Thread nD τ).loc main_arg3)) n q + ∑ k : Fin 1024, gnt (m ((c : Thread nD τ).loc main_arg0)) (m ((c : Thread nD τ).loc main_arg1)) (m ((c : Thread nD τ).loc main_arg3)) q (n * 1024 + k.val) := by
  unfold dgn
  rw [Nat.add_mul, Nat.one_mul, Finset.sum_range_add]
  simp only [Finset.sum_range]

/-- After point `n` the gain's gradient holds the rows so far. -/
theorem upto7 : ∀ (n : ℕ) (hn : n < cfg0.N) (q : Fin 1024), (outsAt0 m c n hn).2.2 (ix2 (0 : Fin 1) q) = dgn (m ((c : Thread nD τ).loc main_arg0)) (m ((c : Thread nD τ).loc main_arg1)) (m ((c : Thread nD τ).loc main_arg3)) (n + 1) q
  | 0, hn, q => by
    have e := outsAt0_A m c ⟨0, hn⟩ rfl rfl
    rw [step7]
    refine (congrArg (fun z => z.2.2 (ix2 (0 : Fin 1) q)) e).trans ?_
    dsimp only
    rw [outA7]
    refine (block7 m c ⟨0, hn⟩ q).trans ?_
    unfold dgn
    simp
  | n + 1, hn, q => by
    have hN : n + 1 < 4 := hn
    have ih := upto7 n (Nat.lt_of_succ_lt hn) q
    rw [step7, ← ih]
    by_cases h0 : (n + 1) % 2 = 0
    · have e := outsAt0_C m c ⟨n + 1, hn⟩ h0 (by dsimp only; omega)
      refine (congrArg (fun z => z.2.2 (ix2 (0 : Fin 1) q)) e).trans ?_
      dsimp only
      rw [outC7]
      exact congrArg₂ (· + ·) rfl (block7 m c ⟨n + 1, hn⟩ q)
    · have e := outsAt0_B m c ⟨n + 1, hn⟩ h0 (by dsimp only; omega)
      refine (congrArg (fun z => z.2.2 (ix2 (0 : Fin 1) q)) e).trans ?_
      dsimp only
      rw [outB7]
      exact congrArg₂ (· + ·) rfl (block7 m c ⟨n + 1, hn⟩ q)

/-- The gain's gradient the kernel leaves. -/
theorem left7 : (dats m 0 c).arrAt 7 cfg0.N = fun y : S1x1024.Idx => dgn (m ((c : Thread nD τ).loc main_arg0)) (m ((c : Thread nD τ).loc main_arg1)) (m ((c : Thread nD τ).loc main_arg3)) 4 (y 1) := by
  refine (dats m 0 c).arrAt_eq_of_covers 7 (fun y : S1x1024.Idx => dgn (m ((c : Thread nD τ).loc main_arg0)) (m ((c : Thread nD τ).loc main_arg1)) (m ((c : Thread nD τ).loc main_arg3)) 4 (y 1)) (by decide +kernel) fun t hf y => ?_
  have h1 := last7 t hf
  blk_simp
  rw [after0_7]
  have e1 : (win0_7.blk t).view.emb y 1 = y 1 := Fin.ext (by simp [points t])
  rw [e1]
  obtain ⟨p, q, rfl⟩ : ∃ (p : Fin 1) (q : Fin 1024), y = ix2 p q := ⟨y 0, y 1, eq_ix2 y⟩
  obtain rfl : p = 0 := Subsingleton.elim _ _
  refine (upto7 m c t.val t.isLt q).trans ?_
  rw [h1]
  rfl

open Cert.PreBwdRefIdeal.Read in
/-- The reference's gradients of shift and scale. -/
theorem ref6 (x0 : (⟨S4096x1024, .f32⟩ : BufTy).Contents (Elt Ideal)) (x1 : (⟨S4096x1024, .f32⟩ : BufTy).Contents (Elt Ideal)) (x2 : (⟨S1x1024, .f32⟩ : BufTy).Contents (Elt Ideal)) :
    val_main_v64 (F := Ideal) x0 x1 x2 = fun y : S2x2x1024.Idx => dss x0 x1 x2 (y 0) (y 1) (y 2) := by
  funext y
  obtain ⟨b, i, q, rfl⟩ : ∃ (b i : Fin 2) (q : Fin 1024), y = ix3 b i q := ⟨y 0, y 1, y 2, eq_ix3 y⟩
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  show _ = dss x0 x1 x2 b i q
  unfold dss
  rw [Finset.sum_range]
  rcases Fin.exists_fin_two.1 ⟨i, rfl⟩ with rfl | rfl
  · refine (dif_pos (by decide)).trans ((Fintype.sum_unique _).trans (Finset.sum_congr rfl fun k _ => ?_))
    unfold sst
    rw [dif_pos (by omega), if_pos rfl]
  · refine (dif_neg (by decide)).trans ((Fintype.sum_unique _).trans (Finset.sum_congr rfl fun k _ => ?_))
    unfold sst
    rw [dif_pos (by omega), if_neg (by decide), mul_comm]
    rfl

/-- A sum over all rows of both sequences. -/
theorem sum3 (x : Cert.PreBwdRefIdeal.S2x2048x1024.Idx → EReal) (c : EReal) (l : Fin 1024) :
    Ideal.hostReduceAdd Cert.PreBwdRefIdeal.Gen.reducesTo_S2x2048x1024_S1024_d0_1 x c (ix1 l)
      = c + ∑ b : Fin 2, ∑ r : Fin 2048, x (ix3 b r l) := by
  rw [Cert.Mixer.reduce_sum (ι := Fin 2 × Fin 2048) _ x c (ix1 l) (fun k => ix3 k.1 k.2 l) (fun i => (i 0, i 1))
    (fun k => by funext a; fin_cases a <;> rfl) (fun k => rfl)
    (fun i hi => by
      have h0 : i 2 = l := congrFun hi 0
      subst h0
      exact (eq_ix3 i).symm)]
  simp only [Fintype.sum_prod_type]

/-- The same sum over axes of one element. -/
theorem sum3u (x : Cert.PreBwdRefIdeal.S1x1x1024.Idx → EReal) (c : EReal) (l : Fin 1024) :
    Ideal.hostReduceAdd Cert.PreBwdRefIdeal.Gen.reducesTo_S1x1x1024_S1024_d0_1 x c (ix1 l) = c + x (ix3 0 0 l) := by
  rw [Cert.Mixer.reduce_sum (ι := Unit) _ x c (ix1 l) (fun k => ix3 0 0 l) (fun i => ())
    (fun k => by funext a; fin_cases a <;> rfl) (fun k => rfl)
    (fun i hi => by
      have h0 : i 2 = l := congrFun hi 0
      subst h0
      refine Eq.trans ?_ (eq_ix3 i).symm
      rw [show i 0 = (0 : Fin 1) from Subsingleton.elim (α := Fin 1) _ _, show i 1 = (0 : Fin 1) from Subsingleton.elim (α := Fin 1) _ _])]
  simp

open Cert.PreBwdRefIdeal.Read in
/-- The reference's gradient of the gain. -/
theorem ref7 (x0 : (⟨S4096x1024, .f32⟩ : BufTy).Contents (Elt Ideal)) (x1 : (⟨S4096x1024, .f32⟩ : BufTy).Contents (Elt Ideal)) (x3 : (⟨S2x3x1024, .f32⟩ : BufTy).Contents (Elt Ideal)) :
    val_main_v65 (F := Ideal) x0 x1 x3 = fun y : S1x1024.Idx => dgn x0 x1 x3 4 (y 1) := by
  funext y
  obtain ⟨p, q, rfl⟩ : ∃ (p : Fin 1) (q : Fin 1024), y = ix2 p q := ⟨y 0, y 1, eq_ix2 y⟩
  obtain rfl : p = 0 := Subsingleton.elim _ _
  pointwise [val_main_v65]
  unfold val_main_v45
  rw [ValueIdx.hostReduceAdd_apply, sum3u]
  pointwise [val_main_v42, val_main_cst_9]
  unfold val_main_v41
  rw [ValueIdx.hostReduceAdd_apply, sum3]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  show _ = dgn x0 x1 x3 4 q
  unfold dgn
  rw [show 4 * 1024 = 2048 + 2048 by omega, Finset.sum_range_add, Fin.sum_univ_two]
  simp only [Finset.sum_range]
  refine congrArg₂ (· + ·) (Finset.sum_congr rfl fun k _ => ?_) (Finset.sum_congr rfl fun k _ => ?_)
  · unfold gnt
    rw [dif_pos (by omega), mul_comm]
    simp only [Fin.val_zero, Nat.zero_mul, Nat.zero_add, show k.val / 2048 = 0 by omega]
    rfl
  · unfold gnt
    rw [dif_pos (by omega), mul_comm]
    simp only [Fin.val_one, Nat.one_mul, show (2048 + k.val) / 2048 = 1 by omega]
    rfl

/-- The reference's form of the gradient of a row of the norm's input. -/
def refr (f e g s : Fin 1024 → EReal) (q : Fin 1024) : EReal :=
  e q * (1 + s q) * g q * rstd f
    + f q * (∑ _k : Fin 1, Ideal.div ((∑ k : Fin 1024, f k * (e k * (1 + s k) * g k)) * (Ideal.ofBits .f32 0xBF000000#32 * Ideal.div (rstd f) (Ideal.div (∑ k : Fin 1024, f k * f k) (Ideal.ofBits .f32 0x44800000#32) + Ideal.ofBits .f32 0x358637BD#32))) (Ideal.ofBits .f32 0x44800000#32))
    + (∑ _k : Fin 1, Ideal.div ((∑ k : Fin 1024, f k * (e k * (1 + s k) * g k)) * (Ideal.ofBits .f32 0xBF000000#32 * Ideal.div (rstd f) (Ideal.div (∑ k : Fin 1024, f k * f k) (Ideal.ofBits .f32 0x44800000#32) + Ideal.ofBits .f32 0x358637BD#32))) (Ideal.ofBits .f32 0x44800000#32)) * f q

/-- The word of 1024. -/
theorem word_1024 : Ideal.ofBits .f32 0x44800000#32 = ((1024 : ℝ) : EReal) := by
  simp [Ideal.ofBits, Ideal.ieee, -EReal.coe_mul]; norm_num

/-- Over real numbers the two forms are one: the cube of the reciprocal root is the root over the mean square. -/
theorem refr_eq (f e g s : Fin 1024 → ℝ) (q : Fin 1024) :
    refr (fun k => (f k : EReal)) (fun k => (e k : EReal)) (fun k => (g k : EReal)) (fun k => (s k : EReal)) q
      = dxr (fun k => (f k : EReal)) (fun k => (e k : EReal)) (fun k => (g k : EReal)) (fun k => (s k : EReal)) q := by
  have pos : 0 < (∑ k : Fin 1024, f k * f k) / 1024 + Cert.Mixer.ceps :=
    add_pos_of_nonneg_of_pos (div_nonneg (Finset.sum_nonneg fun k _ => mul_self_nonneg (f k)) (by norm_num)) Cert.Mixer.ceps_pos
  have one : ∀ k, (1 : EReal) + ((s k : ℝ) : EReal) = (((1 + s k : ℝ)) : EReal) := fun k => by rw [EReal.coe_add, EReal.coe_one]
  unfold refr dxr rstd
  simp only [Fintype.sum_unique, one, word_1024, Cert.Mixer.word_eps, Cert.Mixer.word_neg_half, ← EReal.coe_mul, Cert.Mixer.coe_sum]
  rw [Cert.Mixer.div_real _ _ (by norm_num : (1024 : ℝ) ≠ 0), ← EReal.coe_add, Cert.Mixer.rsqrt_real _ pos, Cert.Mixer.div_real _ _ pos.ne']
  generalize hms : (∑ k : Fin 1024, f k * f k) / 1024 + Cert.Mixer.ceps = ms at pos
  generalize hr : (Real.sqrt ms)⁻¹ = r
  have cube : r / ms = r * r * r := by
    have h2 : r * r = ms⁻¹ := by rw [← hr, ← mul_inv, Real.mul_self_sqrt pos.le]
    rw [div_eq_mul_inv, ← h2]; ring
  simp only [← EReal.coe_mul, Cert.Mixer.coe_sum, cube]
  rw [Cert.Mixer.div_real _ _ (by norm_num : (1024 : ℝ) ≠ 0), Cert.Mixer.div_real _ _ (by norm_num : (1024 : ℝ) ≠ 0)]
  simp only [← EReal.coe_mul, ← EReal.coe_add, ← EReal.coe_sub]
  have sum : ∑ k : Fin 1024, e k * (1 + s k) * g k * (f k * r) = r * ∑ k : Fin 1024, f k * (e k * (1 + s k) * g k) := by
    rw [Finset.mul_sum]
    exact Finset.sum_congr rfl fun k _ => by ring
  rw [sum]
  refine congrArg _ ?_
  ring

open Cert.PreBwdRefIdeal.Read in
/-- The reference's gradient of `x`, of finite arguments. -/
theorem ref5 (x0 : (⟨S4096x1024, .f32⟩ : BufTy).Contents (Elt Ideal)) (x1 : (⟨S4096x1024, .f32⟩ : BufTy).Contents (Elt Ideal)) (x2 : (⟨S1x1024, .f32⟩ : BufTy).Contents (Elt Ideal)) (x3 : (⟨S2x3x1024, .f32⟩ : BufTy).Contents (Elt Ideal)) (x4 : (⟨S4096x1024, .f32⟩ : BufTy).Contents (Elt Ideal)) (h0 : ∀ i, x0 i = (((x0 i).toReal : ℝ) : EReal)) (h1 : ∀ i, x1 i = (((x1 i).toReal : ℝ) : EReal))
    (h2 : ∀ i, x2 i = (((x2 i).toReal : ℝ) : EReal)) (h3 : ∀ i, x3 i = (((x3 i).toReal : ℝ) : EReal)) :
    val_main_v61 (F := Ideal) x0 x1 x2 x3 x4 = fun y : S4096x1024.Idx => dx x0 x1 x2 x3 x4 (y 0) (y 1) := by
  funext y
  obtain ⟨p, q, rfl⟩ : ∃ (p : Fin 4096) (q : Fin 1024), y = ix2 p q := ⟨y 0, y 1, eq_ix2 y⟩
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  show _ = dx x0 x1 x2 x3 x4 p q
  unfold dx
  refine congrArg (x4 (ix2 p q) + ·) ?_
  have e0 : (fun k : Fin 1024 => x0 (ix2 p k)) = fun k => (((x0 (ix2 p k)).toReal : ℝ) : EReal) := funext fun k => h0 _
  have e1 : (fun k : Fin 1024 => x1 (ix2 p k)) = fun k => (((x1 (ix2 p k)).toReal : ℝ) : EReal) := funext fun k => h1 _
  have e2 : (fun k : Fin 1024 => x2 (ix2 (0 : Fin 1) k)) = fun k => (((x2 (ix2 (0 : Fin 1) k)).toReal : ℝ) : EReal) := funext fun k => h2 _
  have e3 : (fun k : Fin 1024 => x3 (ix3 (⟨p.val / 2048, by omega⟩ : Fin 2) (1 : Fin 3) k)) = fun k => (((x3 (ix3 (⟨p.val / 2048, by omega⟩ : Fin 2) (1 : Fin 3) k)).toReal : ℝ) : EReal) := funext fun k => h3 _
  refine Eq.trans (b := refr (fun k => x1 (ix2 p k)) (fun k => x0 (ix2 p k)) (fun k => x2 (ix2 (0 : Fin 1) k)) (fun k => x3 (ix3 (⟨p.val / 2048, by omega⟩ : Fin 2) (1 : Fin 3) k)) q) rfl ?_
  rw [e0, e1, e2, e3]
  exact refr_eq _ _ _ _ q

end Cert.PreBwd
-- ==== Proof.Loss.lean ====
module
public import proofs.«01_k».proof.Proof.Gen.LossIdeal.Value
public import proofs.«01_k».proof.Proof.Gen.LossRefIdeal.Read
public import Idealize.ShloMosaic.Lib.Pipeline.ValueKit
public import Idealize.ShloMosaic.Lib.StableHlo.ReadAt
public import Idealize.ShloMosaic.Lib.Pipeline.ReadBack
public import Idealize.ShloMosaic.Lib.WholeRead
public import proofs.«01_k».proof.Proof.PreBwd

@[expose] public section

set_option maxRecDepth 16384

noncomputable section

namespace Cert.Loss

open Idealize.ShloMosaic Idealize.ShloMosaic.TcCoe Cert.LossIdeal Cert.LossIdeal.Gen

open Cert.PreBwd (rstd)

/-- The error of a row `f` after the last norm with gain `g`, of the target `t`. -/
def er (f g t : Fin 1024 → EReal) (q : Fin 1024) : EReal := f q * rstd f * g q - t q

/-- The gradient of the loss in the norm's output. -/
def dyr (f g t : Fin 1024 → EReal) (q : Fin 1024) : EReal := er f g t q * Ideal.ofBits .f32 0x3A800000#32

/-- The gradient of the loss in the row. -/
def dxl (f g t : Fin 1024 → EReal) (q : Fin 1024) : EReal :=
  rstd f * (dyr f g t q * g q - f q * rstd f * Ideal.div (∑ k : Fin 1024, dyr f g t k * g k * (f k * rstd f)) (Ideal.ofBits .f32 0x44800000#32))

/-- The mean square of the row's error. -/
def mse (f g t : Fin 1024 → EReal) : EReal := Ideal.div (∑ k : Fin 1024, er f g t k * er f g t k) (Ideal.ofBits .f32 0x44800000#32)

/-- A block's output projection. -/
def yb (x0 : S512x2048.Idx → EReal) (x1 : S2048x1024.Idx → EReal) (p : Fin 512) (q : Fin 1024) : EReal := ∑ k : Fin 2048, x0 (ix2 p k) * x1 (ix2 k q)

/-- A row of a block of the residual stream after the last layer. -/
def xb (x0 : S512x2048.Idx → EReal) (x1 : S2048x1024.Idx → EReal) (x2 : S512x1024.Idx → EReal) (x3 : S1x3x1024.Idx → EReal) (p : Fin 512) : Fin 1024 → EReal :=
  fun q => x2 (ix2 p q) + x3 (ix3 (0 : Fin 1) (2 : Fin 3) q) * yb x0 x1 p q

/-- A block's gradient of the residual stream. -/
def dxb (x0 : S512x2048.Idx → EReal) (x1 : S2048x1024.Idx → EReal) (x2 : S512x1024.Idx → EReal) (x3 : S1x3x1024.Idx → EReal) (x4 : S1x1024.Idx → EReal) (x5 : S512x1024.Idx → EReal) (p : Fin 512) (q : Fin 1024) : EReal :=
  dxl (xb x0 x1 x2 x3 p) (fun k => x4 (ix2 (0 : Fin 1) k)) (fun k => x5 (ix2 p k)) q

/-- A block's part of the loss. -/
def lsb (x0 : S512x2048.Idx → EReal) (x1 : S2048x1024.Idx → EReal) (x2 : S512x1024.Idx → EReal) (x3 : S1x3x1024.Idx → EReal) (x4 : S1x1024.Idx → EReal) (x5 : S512x1024.Idx → EReal) : EReal :=
  Ideal.ofBits .f32 0x3F000000#32 * ∑ p : Fin 512, mse (xb x0 x1 x2 x3 p) (fun k => x4 (ix2 (0 : Fin 1) k)) (fun k => x5 (ix2 p k))

/-- A block's part of the gain's gradient. -/
def gnb (x0 : S512x2048.Idx → EReal) (x1 : S2048x1024.Idx → EReal) (x2 : S512x1024.Idx → EReal) (x3 : S1x3x1024.Idx → EReal) (x4 : S1x1024.Idx → EReal) (x5 : S512x1024.Idx → EReal) (q : Fin 1024) : EReal :=
  ∑ p : Fin 512, dyr (xb x0 x1 x2 x3 p) (fun k => x4 (ix2 (0 : Fin 1) k)) (fun k => x5 (ix2 p k)) q * (xb x0 x1 x2 x3 p q * rstd (xb x0 x1 x2 x3 p))

/-- A point's block of the output projection. -/
theorem outA6 (c : Dev nD) (i arg1 harg1 arg2 harg2 arg3 harg3 arg4 harg4 arg5 harg5 arg6 harg6 arg7 harg7 arg8 harg8 arg9 harg9 arg10 harg10 hc0) (x0 : Vec Ideal S512x2048 .bf16) (x1 : Vec Ideal S2048x1024 .bf16) (x2 : Vec Ideal S512x1024 .f32) (x3 : Vec Ideal S1x3x1024 .f32) (x4 : Vec Ideal S1x1024 .f32) (x5 : Vec Ideal S512x1024 .f32) (p : Fin 512) (q : Fin 1024) :
    out0_A_6 (F := Ideal) c i arg1 harg1 arg2 harg2 arg3 harg3 arg4 harg4 arg5 harg5 arg6 harg6 arg7 harg7 arg8 harg8 arg9 harg9 arg10 harg10 hc0 x0 x1 x2 x3 x4 x5 (ix2 p q) = yb x0 x1 p q := by
  unfold out0_A_6
  rw [View.read_writes_junk_eq_canon]
  unfold kernelRun0_A
  dsimp only
  rw [View.canon_unit_zero (by decide)]
  pointwise [kernelRun0_A.sl.r, kernelRun0_A.sl.r_1, kernelRun0_A.sl.r_2, kernelRun0_A.sl.r_3, kernelRun0_A.sl.r_4, kernelRun0_A.sl.r_5, k0_pay13, k0_pay12, k0_pay11, k0_pay10, k0_pay9, k0_pay8, k0_pay7, k0_pay6, k0_pay5, k0_pay4, k0_pay3, k0_pay2, k0_pay1, Memref.IsWhole.readAt_unread]
  rfl

/-- A point's block of the gradient of the residual stream. -/
theorem outA7 (c : Dev nD) (i arg1 harg1 arg2 harg2 arg3 harg3 arg4 harg4 arg5 harg5 arg6 harg6 arg7 harg7 arg8 harg8 arg9 harg9 arg10 harg10 hc0) (x0 : Vec Ideal S512x2048 .bf16) (x1 : Vec Ideal S2048x1024 .bf16) (x2 : Vec Ideal S512x1024 .f32) (x3 : Vec Ideal S1x3x1024 .f32) (x4 : Vec Ideal S1x1024 .f32) (x5 : Vec Ideal S512x1024 .f32) (p : Fin 512) (q : Fin 1024) :
    out0_A_7 (F := Ideal) c i arg1 harg1 arg2 harg2 arg3 harg3 arg4 harg4 arg5 harg5 arg6 harg6 arg7 harg7 arg8 harg8 arg9 harg9 arg10 harg10 hc0 x0 x1 x2 x3 x4 x5 (ix2 p q) = dxb x0 x1 x2 x3 x4 x5 p q := by
  unfold out0_A_7
  rw [View.read_writes_junk_eq_canon]
  unfold kernelRun0_A
  dsimp only
  rw [View.canon_unit_zero (by decide)]
  pointwise [kernelRun0_A.sl.r, kernelRun0_A.sl.r_1, kernelRun0_A.sl.r_2, kernelRun0_A.sl.r_3, kernelRun0_A.sl.r_4, kernelRun0_A.sl.r_5, k0_pay13, k0_pay12, k0_pay11, k0_pay10, k0_pay9, k0_pay8, k0_pay7, k0_pay6, k0_pay5, k0_pay4, k0_pay3, k0_pay2, k0_pay1, Memref.IsWhole.readAt_unread]
  rfl

/-- What a point leaves of the loss. -/
theorem outA8 (c : Dev nD) (i arg1 harg1 arg2 harg2 arg3 harg3 arg4 harg4 arg5 harg5 arg6 harg6 arg7 harg7 arg8 harg8 arg9 harg9 arg10 harg10 hc0) (x0 : Vec Ideal S512x2048 .bf16) (x1 : Vec Ideal S2048x1024 .bf16) (x2 : Vec Ideal S512x1024 .f32) (x3 : Vec Ideal S1x3x1024 .f32) (x4 : Vec Ideal S1x1024 .f32) (x5 : Vec Ideal S512x1024 .f32) :
    out0_A_8 (F := Ideal) c i arg1 harg1 arg2 harg2 arg3 harg3 arg4 harg4 arg5 harg5 arg6 harg6 arg7 harg7 arg8 harg8 arg9 harg9 arg10 harg10 hc0 x0 x1 x2 x3 x4 x5 (ix2 (0 : Fin 1) (0 : Fin 1)) = lsb x0 x1 x2 x3 x4 x5 := by
  unfold out0_A_8
  rw [View.read_writes_junk_eq_canon]
  unfold kernelRun0_A
  dsimp only
  rw [View.canon_cons_unit_zero (by decide)]
  unfold kernelRun0_A.sl.v44 kernelRun0_A.sl.H8_1
  rw [View.readCov_fill _ _ _ _ _ (by decide)]
  pointwise [kernelRun0_A.sl.r, kernelRun0_A.sl.r_1, kernelRun0_A.sl.r_2, kernelRun0_A.sl.r_3, kernelRun0_A.sl.r_4, kernelRun0_A.sl.r_5, k0_pay13, k0_pay12, k0_pay11, k0_pay10, k0_pay9, k0_pay8, k0_pay7, k0_pay6, k0_pay5, k0_pay4, k0_pay3, k0_pay2, k0_pay1, Memref.IsWhole.readAt_unread]
  rfl

/-- What a point leaves of the gain's gradient. -/
theorem outA9 (c : Dev nD) (i arg1 harg1 arg2 harg2 arg3 harg3 arg4 harg4 arg5 harg5 arg6 harg6 arg7 harg7 arg8 harg8 arg9 harg9 arg10 harg10 hc0) (x0 : Vec Ideal S512x2048 .bf16) (x1 : Vec Ideal S2048x1024 .bf16) (x2 : Vec Ideal S512x1024 .f32) (x3 : Vec Ideal S1x3x1024 .f32) (x4 : Vec Ideal S1x1024 .f32) (x5 : Vec Ideal S512x1024 .f32) (q : Fin 1024) :
    out0_A_9 (F := Ideal) c i arg1 harg1 arg2 harg2 arg3 harg3 arg4 harg4 arg5 harg5 arg6 harg6 arg7 harg7 arg8 harg8 arg9 harg9 arg10 harg10 hc0 x0 x1 x2 x3 x4 x5 (ix2 (0 : Fin 1) q) = gnb x0 x1 x2 x3 x4 x5 q := by
  unfold out0_A_9
  rw [View.read_writes_junk_eq_canon]
  unfold kernelRun0_A
  dsimp only
  rw [View.canon_cons_unit_zero (by decide)]
  unfold kernelRun0_A.sl.v57 kernelRun0_A.sl.H9_1
  rw [View.readCov_fill _ _ _ _ _ (by decide)]
  pointwise [kernelRun0_A.sl.r, kernelRun0_A.sl.r_1, kernelRun0_A.sl.r_2, kernelRun0_A.sl.r_3, kernelRun0_A.sl.r_4, kernelRun0_A.sl.r_5, k0_pay13, k0_pay12, k0_pay11, k0_pay10, k0_pay9, k0_pay8, k0_pay7, k0_pay6, k0_pay5, k0_pay4, k0_pay3, k0_pay2, k0_pay1, Memref.IsWhole.readAt_unread]
  rfl

/-- A point's block of the output projection. -/
theorem outB6 (c : Dev nD) (i arg1 harg1 arg2 harg2 arg3 harg3 arg4 harg4 arg5 harg5 arg6 harg6 arg7 harg7 arg8 harg8 arg9 harg9 arg10 harg10 hc0) (x0 : Vec Ideal S512x2048 .bf16) (x1 : Vec Ideal S2048x1024 .bf16) (x2 : Vec Ideal S512x1024 .f32) (x3 : Vec Ideal S1x3x1024 .f32) (x4 : Vec Ideal S1x1024 .f32) (x5 : Vec Ideal S512x1024 .f32) (xo8 : Vec Ideal S1x1 .f32) (xo9 : Vec Ideal S1x1024 .f32) (p : Fin 512) (q : Fin 1024) :
    out0_B_6 (F := Ideal) c i arg1 harg1 arg2 harg2 arg3 harg3 arg4 harg4 arg5 harg5 arg6 harg6 arg7 harg7 arg8 harg8 arg9 harg9 arg10 harg10 hc0 x0 x1 x2 x3 x4 x5 xo8 xo9 (ix2 p q) = yb x0 x1 p q := by
  unfold out0_B_6
  rw [View.read_writes_junk_eq_canon]
  unfold kernelRun0_B
  dsimp only
  rw [View.canon_unit_zero (by decide)]
  pointwise [kernelRun0_B.sl.r, kernelRun0_B.sl.r_1, kernelRun0_B.sl.r_2, kernelRun0_B.sl.r_3, kernelRun0_B.sl.r_4, kernelRun0_B.sl.r_5, k0_pay13, k0_pay12, k0_pay11, k0_pay10, k0_pay9, k0_pay8, k0_pay7, k0_pay6, k0_pay5, k0_pay4, k0_pay3, k0_pay2, k0_pay1, Memref.IsWhole.readAt_unread]
  rfl

/-- A point's block of the gradient of the residual stream. -/
theorem outB7 (c : Dev nD) (i arg1 harg1 arg2 harg2 arg3 harg3 arg4 harg4 arg5 harg5 arg6 harg6 arg7 harg7 arg8 harg8 arg9 harg9 arg10 harg10 hc0) (x0 : Vec Ideal S512x2048 .bf16) (x1 : Vec Ideal S2048x1024 .bf16) (x2 : Vec Ideal S512x1024 .f32) (x3 : Vec Ideal S1x3x1024 .f32) (x4 : Vec Ideal S1x1024 .f32) (x5 : Vec Ideal S512x1024 .f32) (xo8 : Vec Ideal S1x1 .f32) (xo9 : Vec Ideal S1x1024 .f32) (p : Fin 512) (q : Fin 1024) :
    out0_B_7 (F := Ideal) c i arg1 harg1 arg2 harg2 arg3 harg3 arg4 harg4 arg5 harg5 arg6 harg6 arg7 harg7 arg8 harg8 arg9 harg9 arg10 harg10 hc0 x0 x1 x2 x3 x4 x5 xo8 xo9 (ix2 p q) = dxb x0 x1 x2 x3 x4 x5 p q := by
  unfold out0_B_7
  rw [View.read_writes_junk_eq_canon]
  unfold kernelRun0_B
  dsimp only
  rw [View.canon_unit_zero (by decide)]
  pointwise [kernelRun0_B.sl.r, kernelRun0_B.sl.r_1, kernelRun0_B.sl.r_2, kernelRun0_B.sl.r_3, kernelRun0_B.sl.r_4, kernelRun0_B.sl.r_5, k0_pay13, k0_pay12, k0_pay11, k0_pay10, k0_pay9, k0_pay8, k0_pay7, k0_pay6, k0_pay5, k0_pay4, k0_pay3, k0_pay2, k0_pay1, Memref.IsWhole.readAt_unread]
  rfl

/-- What a point leaves of the loss. -/
theorem outB8 (c : Dev nD) (i arg1 harg1 arg2 harg2 arg3 harg3 arg4 harg4 arg5 harg5 arg6 harg6 arg7 harg7 arg8 harg8 arg9 harg9 arg10 harg10 hc0) (x0 : Vec Ideal S512x2048 .bf16) (x1 : Vec Ideal S2048x1024 .bf16) (x2 : Vec Ideal S512x1024 .f32) (x3 : Vec Ideal S1x3x1024 .f32) (x4 : Vec Ideal S1x1024 .f32) (x5 : Vec Ideal S512x1024 .f32) (xo8 : Vec Ideal S1x1 .f32) (xo9 : Vec Ideal S1x1024 .f32) :
    out0_B_8 (F := Ideal) c i arg1 harg1 arg2 harg2 arg3 harg3 arg4 harg4 arg5 harg5 arg6 harg6 arg7 harg7 arg8 harg8 arg9 harg9 arg10 harg10 hc0 x0 x1 x2 x3 x4 x5 xo8 xo9 (ix2 (0 : Fin 1) (0 : Fin 1)) = xo8 (ix2 (0 : Fin 1) (0 : Fin 1)) + lsb x0 x1 x2 x3 x4 x5 := by
  unfold out0_B_8
  rw [View.read_writes_junk_eq_canon]
  unfold kernelRun0_B
  dsimp only
  rw [View.canon_unit_zero (by decide)]
  pointwise [kernelRun0_B.sl.r, kernelRun0_B.sl.r_1, kernelRun0_B.sl.r_2, kernelRun0_B.sl.r_3, kernelRun0_B.sl.r_4, kernelRun0_B.sl.r_5, k0_pay13, k0_pay12, k0_pay11, k0_pay10, k0_pay9, k0_pay8, k0_pay7, k0_pay6, k0_pay5, k0_pay4, k0_pay3, k0_pay2, k0_pay1, Memref.IsWhole.readAt_unread]
  rfl

/-- What a point leaves of the gain's gradient. -/
theorem outB9 (c : Dev nD) (i arg1 harg1 arg2 harg2 arg3 harg3 arg4 harg4 arg5 harg5 arg6 harg6 arg7 harg7 arg8 harg8 arg9 harg9 arg10 harg10 hc0) (x0 : Vec Ideal S512x2048 .bf16) (x1 : Vec Ideal S2048x1024 .bf16) (x2 : Vec Ideal S512x1024 .f32) (x3 : Vec Ideal S1x3x1024 .f32) (x4 : Vec Ideal S1x1024 .f32) (x5 : Vec Ideal S512x1024 .f32) (xo8 : Vec Ideal S1x1 .f32) (xo9 : Vec Ideal S1x1024 .f32) (q : Fin 1024) :
    out0_B_9 (F := Ideal) c i arg1 harg1 arg2 harg2 arg3 harg3 arg4 harg4 arg5 harg5 arg6 harg6 arg7 harg7 arg8 harg8 arg9 harg9 arg10 harg10 hc0 x0 x1 x2 x3 x4 x5 xo8 xo9 (ix2 (0 : Fin 1) q) = xo9 (ix2 (0 : Fin 1) q) + gnb x0 x1 x2 x3 x4 x5 q := by
  unfold out0_B_9
  rw [View.read_writes_junk_eq_canon]
  unfold kernelRun0_B
  dsimp only
  rw [View.canon_unit_zero (by decide)]
  pointwise [kernelRun0_B.sl.r, kernelRun0_B.sl.r_1, kernelRun0_B.sl.r_2, kernelRun0_B.sl.r_3, kernelRun0_B.sl.r_4, kernelRun0_B.sl.r_5, k0_pay13, k0_pay12, k0_pay11, k0_pay10, k0_pay9, k0_pay8, k0_pay7, k0_pay6, k0_pay5, k0_pay4, k0_pay3, k0_pay2, k0_pay1, Memref.IsWhole.readAt_unread]
  rfl

/-- The output projection at row `p` and column `q`. -/
def yo (a0 : S4096x2048.Idx → EReal) (a1 : S8x256x1024.Idx → EReal) (p : Fin 4096) (q : Fin 1024) : EReal :=
  ∑ k : Fin 2048, a0 (ix2 p k) * a1 (ix3 (⟨k.val / 256, by omega⟩ : Fin 8) (⟨k.val % 256, by omega⟩ : Fin 256) q)

/-- Row `p` of the residual stream after the last layer. -/
def xn (a0 : S4096x2048.Idx → EReal) (a1 : S8x256x1024.Idx → EReal) (a2 : S4096x1024.Idx → EReal) (a3 : S2x3x1024.Idx → EReal) (p : Fin 4096) : Fin 1024 → EReal :=
  fun q => a2 (ix2 p q) + a3 (ix3 (⟨p.val / 2048, by omega⟩ : Fin 2) (2 : Fin 3) q) * yo a0 a1 p q

/-- The gradient of the residual stream at row `p` and column `q`. -/
def dx (a0 : S4096x2048.Idx → EReal) (a1 : S8x256x1024.Idx → EReal) (a2 : S4096x1024.Idx → EReal) (a3 : S2x3x1024.Idx → EReal) (a4 : S1x1024.Idx → EReal) (a5 : S4096x1024.Idx → EReal) (p : Fin 4096) (q : Fin 1024) : EReal :=
  dxl (xn a0 a1 a2 a3 p) (fun k => a4 (ix2 (0 : Fin 1) k)) (fun k => a5 (ix2 p k)) q

/-- Row `p`'s part of the loss (rows past the last one give nothing). -/
def lst (a0 : S4096x2048.Idx → EReal) (a1 : S8x256x1024.Idx → EReal) (a2 : S4096x1024.Idx → EReal) (a3 : S2x3x1024.Idx → EReal) (a4 : S1x1024.Idx → EReal) (a5 : S4096x1024.Idx → EReal) (p : ℕ) : EReal :=
  if h : p < 4096 then mse (xn a0 a1 a2 a3 (⟨p, h⟩ : Fin 4096)) (fun k => a4 (ix2 (0 : Fin 1) k)) (fun k => a5 (ix2 (⟨p, h⟩ : Fin 4096) k)) else 0

/-- The loss over the first `n` blocks of 512 rows. -/
def lsn (a0 : S4096x2048.Idx → EReal) (a1 : S8x256x1024.Idx → EReal) (a2 : S4096x1024.Idx → EReal) (a3 : S2x3x1024.Idx → EReal) (a4 : S1x1024.Idx → EReal) (a5 : S4096x1024.Idx → EReal) (n : ℕ) : EReal := Ideal.ofBits .f32 0x3F000000#32 * ∑ r ∈ Finset.range (n * 512), lst a0 a1 a2 a3 a4 a5 r

/-- Row `p`'s part of the gain's gradient. -/
def gnt (a0 : S4096x2048.Idx → EReal) (a1 : S8x256x1024.Idx → EReal) (a2 : S4096x1024.Idx → EReal) (a3 : S2x3x1024.Idx → EReal) (a4 : S1x1024.Idx → EReal) (a5 : S4096x1024.Idx → EReal) (q : Fin 1024) (p : ℕ) : EReal :=
  if h : p < 4096 then dyr (xn a0 a1 a2 a3 (⟨p, h⟩ : Fin 4096)) (fun k => a4 (ix2 (0 : Fin 1) k)) (fun k => a5 (ix2 (⟨p, h⟩ : Fin 4096) k)) q * (xn a0 a1 a2 a3 (⟨p, h⟩ : Fin 4096) q * rstd (xn a0 a1 a2 a3 (⟨p, h⟩ : Fin 4096))) else 0

/-- The gain's gradient over the first `n` blocks of 512 rows. -/
def dgn (a0 : S4096x2048.Idx → EReal) (a1 : S8x256x1024.Idx → EReal) (a2 : S4096x1024.Idx → EReal) (a3 : S2x3x1024.Idx → EReal) (a4 : S1x1024.Idx → EReal) (a5 : S4096x1024.Idx → EReal) (n : ℕ) (q : Fin 1024) : EReal := ∑ r ∈ Finset.range (n * 512), gnt a0 a1 a2 a3 a4 a5 q r

theorem points : ∀ t : Fin grid0.N, win0_0.index t = ![t.val, 0] ∧ win0_1.index t = ![0, 0] ∧ win0_2.index t = ![t.val, 0] ∧ win0_3.index t = ![t.val / 4, 0, 0]
    ∧ win0_4.index t = ![0, 0] ∧ win0_5.index t = ![t.val, 0] ∧ win0_6.index t = ![t.val, 0] ∧ win0_7.index t = ![t.val, 0] ∧ win0_8.index t = ![0, 0] ∧ win0_9.index t = ![0, 0] := by decide +kernel

theorem last8 : ∀ t : Fin grid0.N, win0_8.flush t = true → t.val = 7 := by decide +kernel

theorem last9 : ∀ t : Fin grid0.N, win0_9.flush t = true → t.val = 7 := by decide +kernel

variable (m : (ℓ : Loc nD τ sig) → Buf (Elt Ideal) ℓ) (c : Dev nD)

theorem in0 (t : Fin grid0.N) (p : Fin 512) (k : Fin 2048) (P : Fin 4096) (hP : P.val = t.val * 512 + p.val) :
    (iblk m c 0 t : S512x2048.Idx → EReal) (ix2 p k) = ((m ((c : Thread nD τ).loc main_arg0)) : S4096x2048.Idx → EReal) (ix2 P k) := by
  blk_ext [iblk, Gen.V, points t]

/-- The weights as the call reads them, one row after another. -/
theorem w_at (k : Fin 2048) (q : Fin 1024) :
    (Gen.V m c main_v0 : S2048x1024.Idx → EReal) (ix2 k q) = ((m ((c : Thread nD τ).loc main_arg1)) : S8x256x1024.Idx → EReal) (ix3 (⟨k.val / 256, by omega⟩ : Fin 8) (⟨k.val % 256, by omega⟩ : Fin 256) q) := by
  unfold Gen.V
  simp only [List.flatten_cons, List.flatten_nil, hostOps0, List.append_nil, List.cons_append, List.nil_append]
  after_reads_at

theorem in1 (t : Fin grid0.N) (k : Fin 2048) (q : Fin 1024) :
    (iblk m c 1 t : S2048x1024.Idx → EReal) (ix2 k q) = ((m ((c : Thread nD τ).loc main_arg1)) : S8x256x1024.Idx → EReal) (ix3 (⟨k.val / 256, by omega⟩ : Fin 8) (⟨k.val % 256, by omega⟩ : Fin 256) q) := by
  refine Eq.trans ?_ (w_at m c k q)
  blk_ext [iblk, points t]

theorem in2 (t : Fin grid0.N) (p : Fin 512) (k : Fin 1024) (P : Fin 4096) (hP : P.val = t.val * 512 + p.val) :
    (iblk m c 2 t : S512x1024.Idx → EReal) (ix2 p k) = ((m ((c : Thread nD τ).loc main_arg2)) : S4096x1024.Idx → EReal) (ix2 P k) := by
  blk_ext [iblk, Gen.V, points t]

theorem in3 (t : Fin grid0.N) (i : Fin 3) (q : Fin 1024) (b : Fin 2) (hb : b.val = t.val / 4) :
    (iblk m c 3 t : S1x3x1024.Idx → EReal) (ix3 (0 : Fin 1) i q) = ((m ((c : Thread nD τ).loc main_arg3)) : S2x3x1024.Idx → EReal) (ix3 b i q) := by
  blk_ext [iblk, Gen.V, points t]

theorem in4 (t : Fin grid0.N) : (iblk m c 4 t : S1x1024.Idx → EReal) = (m ((c : Thread nD τ).loc main_arg4)) := by
  funext y
  blk_ext [iblk, Gen.V, points t]

theorem in5 (t : Fin grid0.N) (p : Fin 512) (k : Fin 1024) (P : Fin 4096) (hP : P.val = t.val * 512 + p.val) :
    (iblk m c 5 t : S512x1024.Idx → EReal) (ix2 p k) = ((m ((c : Thread nD τ).loc main_arg5)) : S4096x1024.Idx → EReal) (ix2 P k) := by
  blk_ext [iblk, Gen.V, points t]

/-- The output projection at a point's rows. -/
theorem yb_eq (t : Fin grid0.N) (p : Fin 512) (q : Fin 1024) (P : Fin 4096) (hP : P.val = t.val * 512 + p.val) :
    yb (iblk m c 0 t) (iblk m c 1 t) p q = yo (m ((c : Thread nD τ).loc main_arg0)) (m ((c : Thread nD τ).loc main_arg1)) P q := by
  unfold yb yo
  exact Finset.sum_congr rfl fun k _ => congrArg₂ (· * ·) (in0 m c t p k P hP) (in1 m c t k q)

/-- The residual stream at a point's rows. -/
theorem xb_eq (t : Fin grid0.N) (p : Fin 512) (P : Fin 4096) (hP : P.val = t.val * 512 + p.val) :
    xb (iblk m c 0 t) (iblk m c 1 t) (iblk m c 2 t) (iblk m c 3 t) p = xn (m ((c : Thread nD τ).loc main_arg0)) (m ((c : Thread nD τ).loc main_arg1)) (m ((c : Thread nD τ).loc main_arg2)) (m ((c : Thread nD τ).loc main_arg3)) P := by
  funext q
  unfold xb xn
  have h : t.val < 8 := t.isLt
  rw [yb_eq m c t p q P hP, in2 m c t p q P hP, in3 m c t 2 q ⟨P.val / 2048, by omega⟩ (by have := p.isLt; show P.val / 2048 = t.val / 4; omega)]

/-- The gradient of the residual stream at a point's rows. -/
theorem dxb_eq (t : Fin grid0.N) (p : Fin 512) (q : Fin 1024) (P : Fin 4096) (hP : P.val = t.val * 512 + p.val) :
    dxb (iblk m c 0 t) (iblk m c 1 t) (iblk m c 2 t) (iblk m c 3 t) (iblk m c 4 t) (iblk m c 5 t) p q = dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) P q := by
  unfold dxb dx
  have e5 := fun k => in5 m c t p k P hP
  rw [xb_eq m c t p P hP, in4 m c t]
  simp only [e5]

/-- What a point adds to the loss. -/
theorem lsb_eq (t : Fin grid0.N) :
    lsb (iblk m c 0 t) (iblk m c 1 t) (iblk m c 2 t) (iblk m c 3 t) (iblk m c 4 t) (iblk m c 5 t) = Ideal.ofBits .f32 0x3F000000#32 * ∑ k : Fin 512, lst (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (t.val * 512 + k.val) := by
  have h : t.val < 8 := t.isLt
  unfold lsb
  refine congrArg (Ideal.ofBits .f32 0x3F000000#32 * ·) (Finset.sum_congr rfl fun p _ => ?_)
  unfold lst
  have e5 := fun k => in5 m c t p k ⟨t.val * 512 + p.val, by omega⟩ rfl
  rw [dif_pos (by omega), xb_eq m c t p ⟨t.val * 512 + p.val, by omega⟩ rfl, in4 m c t]
  simp only [e5]

/-- What a point adds to the gain's gradient. -/
theorem gnb_eq (t : Fin grid0.N) (q : Fin 1024) :
    gnb (iblk m c 0 t) (iblk m c 1 t) (iblk m c 2 t) (iblk m c 3 t) (iblk m c 4 t) (iblk m c 5 t) q = ∑ k : Fin 512, gnt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q (t.val * 512 + k.val) := by
  have h : t.val < 8 := t.isLt
  unfold gnb
  refine Finset.sum_congr rfl fun p _ => ?_
  unfold gnt
  have e5 := fun k => in5 m c t p k ⟨t.val * 512 + p.val, by omega⟩ rfl
  rw [dif_pos (by omega), xb_eq m c t p ⟨t.val * 512 + p.val, by omega⟩ rfl, in4 m c t]
  simp only [e5]

/-- The output projection the kernel leaves. -/
theorem left6 : (dats m 0 c).arrAt 6 cfg0.N = fun y : S4096x1024.Idx => yo (m ((c : Thread nD τ).loc main_arg0)) (m ((c : Thread nD τ).loc main_arg1)) (y 0) (y 1) := by
  refine (dats m 0 c).arrAt_eq_of_covers 6 (fun y : S4096x1024.Idx => yo (m ((c : Thread nD τ).loc main_arg0)) (m ((c : Thread nD τ).loc main_arg1)) (y 0) (y 1)) (by decide +kernel) fun t hf y => ?_
  blk_simp
  rw [after0_6]
  obtain ⟨p, q, rfl⟩ : ∃ (p : Fin 512) (q : Fin 1024), y = ix2 p q := ⟨y 0, y 1, eq_ix2 y⟩
  have hb : (outsAt0 m c t.val t.isLt).1 (ix2 p q) = yb (iblk m c 0 t) (iblk m c 1 t) p q := by
    by_cases h0 : t.val % 8 = 0
    · rw [outsAt0_A m c t h0]
      dsimp only
      rw [outA6]
    · rw [outsAt0_B m c t h0]
      dsimp only
      rw [outB6]
  have e1 : (win0_6.blk t).view.emb (ix2 p q) 1 = q := Fin.ext (by simp [points t])
  rw [e1]
  exact hb.trans (yb_eq m c t p q _ (by simp [points t]))

/-- The gradient of the residual stream the kernel leaves. -/
theorem left7 : (dats m 0 c).arrAt 7 cfg0.N = fun y : S4096x1024.Idx => dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) := by
  refine (dats m 0 c).arrAt_eq_of_covers 7 (fun y : S4096x1024.Idx => dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1)) (by decide +kernel) fun t hf y => ?_
  blk_simp
  rw [after0_7]
  obtain ⟨p, q, rfl⟩ : ∃ (p : Fin 512) (q : Fin 1024), y = ix2 p q := ⟨y 0, y 1, eq_ix2 y⟩
  have hb : (outsAt0 m c t.val t.isLt).2.1 (ix2 p q) = dxb (iblk m c 0 t) (iblk m c 1 t) (iblk m c 2 t) (iblk m c 3 t) (iblk m c 4 t) (iblk m c 5 t) p q := by
    by_cases h0 : t.val % 8 = 0
    · rw [outsAt0_A m c t h0]
      dsimp only
      rw [outA7]
    · rw [outsAt0_B m c t h0]
      dsimp only
      rw [outB7]
  have e1 : (win0_7.blk t).view.emb (ix2 p q) 1 = q := Fin.ext (by simp [points t])
  rw [e1]
  exact hb.trans (dxb_eq m c t p q _ (by simp [points t]))

/-- The word of a half is a real number, so it may be multiplied in. -/
theorem half_add (x y : EReal) : Ideal.ofBits .f32 0x3F000000#32 * (x + y) = Ideal.ofBits .f32 0x3F000000#32 * x + Ideal.ofBits .f32 0x3F000000#32 * y := by
  rw [Cert.Mixer.word_half]
  exact EReal.left_distrib_of_nonneg_of_ne_top (by exact_mod_cast (by norm_num : (0 : ℝ) ≤ 1 / 2)) (EReal.coe_ne_top _) x y

/-- One more block of rows. -/
theorem step8 (a0 : S4096x2048.Idx → EReal) (a1 : S8x256x1024.Idx → EReal) (a2 : S4096x1024.Idx → EReal) (a3 : S2x3x1024.Idx → EReal) (a4 : S1x1024.Idx → EReal) (a5 : S4096x1024.Idx → EReal) (n : ℕ) : lsn a0 a1 a2 a3 a4 a5 (n + 1) = lsn a0 a1 a2 a3 a4 a5 n + Ideal.ofBits .f32 0x3F000000#32 * ∑ k : Fin 512, lst a0 a1 a2 a3 a4 a5 (n * 512 + k.val) := by
  unfold lsn
  rw [Nat.add_mul, Nat.one_mul, Finset.sum_range_add, half_add]
  simp only [Finset.sum_range]

/-- One more block of rows. -/
theorem step9 (a0 : S4096x2048.Idx → EReal) (a1 : S8x256x1024.Idx → EReal) (a2 : S4096x1024.Idx → EReal) (a3 : S2x3x1024.Idx → EReal) (a4 : S1x1024.Idx → EReal) (a5 : S4096x1024.Idx → EReal) (n : ℕ) (q : Fin 1024) : dgn a0 a1 a2 a3 a4 a5 (n + 1) q = dgn a0 a1 a2 a3 a4 a5 n q + ∑ k : Fin 512, gnt a0 a1 a2 a3 a4 a5 q (n * 512 + k.val) := by
  unfold dgn
  rw [Nat.add_mul, Nat.one_mul, Finset.sum_range_add]
  simp only [Finset.sum_range]

/-- After point `n` the loss holds the rows so far. -/
theorem upto8 : ∀ (n : ℕ) (hn : n < cfg0.N), (outsAt0 m c n hn).2.2.1 (ix2 (0 : Fin 1) (0 : Fin 1)) = lsn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (n + 1)
  | 0, hn => by
    have e := outsAt0_A m c ⟨0, hn⟩ rfl
    rw [step8]
    refine (congrArg (fun z => z.2.2.1 (ix2 (0 : Fin 1) (0 : Fin 1))) e).trans ?_
    dsimp only
    rw [outA8]
    refine (lsb_eq m c ⟨0, hn⟩).trans ?_
    unfold lsn
    simp
  | n + 1, hn => by
    have hN : n + 1 < 8 := hn
    have ih := upto8 n (Nat.lt_of_succ_lt hn)
    rw [step8, ← ih]
    have e := outsAt0_B m c ⟨n + 1, hn⟩ (by dsimp only; omega)
    refine (congrArg (fun z => z.2.2.1 (ix2 (0 : Fin 1) (0 : Fin 1))) e).trans ?_
    dsimp only
    rw [outB8]
    exact congrArg₂ (· + ·) rfl (lsb_eq m c ⟨n + 1, hn⟩)

/-- After point `n` the gain's gradient holds the rows so far. -/
theorem upto9 : ∀ (n : ℕ) (hn : n < cfg0.N) (q : Fin 1024), (outsAt0 m c n hn).2.2.2 (ix2 (0 : Fin 1) q) = dgn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (n + 1) q
  | 0, hn, q => by
    have e := outsAt0_A m c ⟨0, hn⟩ rfl
    rw [step9]
    refine (congrArg (fun z => z.2.2.2 (ix2 (0 : Fin 1) q)) e).trans ?_
    dsimp only
    rw [outA9]
    refine (gnb_eq m c ⟨0, hn⟩ q).trans ?_
    unfold dgn
    simp
  | n + 1, hn, q => by
    have hN : n + 1 < 8 := hn
    have ih := upto9 n (Nat.lt_of_succ_lt hn) q
    rw [step9, ← ih]
    have e := outsAt0_B m c ⟨n + 1, hn⟩ (by dsimp only; omega)
    refine (congrArg (fun z => z.2.2.2 (ix2 (0 : Fin 1) q)) e).trans ?_
    dsimp only
    rw [outB9]
    exact congrArg₂ (· + ·) rfl (gnb_eq m c ⟨n + 1, hn⟩ q)

/-- The loss the kernel leaves. -/
theorem left8 : (dats m 0 c).arrAt 8 cfg0.N = fun _ : S1x1.Idx => lsn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 8 := by
  refine (dats m 0 c).arrAt_eq_of_covers 8 (fun _ : S1x1.Idx => lsn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 8) (by decide +kernel) fun t hf y => ?_
  have h1 := last8 t hf
  blk_simp
  rw [after0_8]
  obtain ⟨p, q, rfl⟩ : ∃ (p q : Fin 1), y = ix2 p q := ⟨y 0, y 1, eq_ix2 y⟩
  obtain rfl : p = 0 := Subsingleton.elim _ _
  obtain rfl : q = 0 := Subsingleton.elim _ _
  refine (upto8 m c t.val t.isLt).trans ?_
  rw [h1]

/-- The gain's gradient the kernel leaves. -/
theorem left9 : (dats m 0 c).arrAt 9 cfg0.N = fun y : S1x1024.Idx => dgn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 8 (y 1) := by
  refine (dats m 0 c).arrAt_eq_of_covers 9 (fun y : S1x1024.Idx => dgn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 8 (y 1)) (by decide +kernel) fun t hf y => ?_
  have h1 := last9 t hf
  blk_simp
  rw [after0_9]
  obtain ⟨p, q, rfl⟩ : ∃ (p : Fin 1) (q : Fin 1024), y = ix2 p q := ⟨y 0, y 1, eq_ix2 y⟩
  obtain rfl : p = 0 := Subsingleton.elim _ _
  have e1 : (win0_9.blk t).view.emb (ix2 (0 : Fin 1) q) 1 = q := Fin.ext (by simp [points t])
  rw [e1]
  refine (upto9 m c t.val t.isLt q).trans ?_
  rw [h1]

/-- The reference's gradient of the loss in the norm's output, of the error `e`. -/
def dyq (e : EReal) : EReal :=
  Ideal.div (Ideal.ofBits .f32 0x3F000000#32) (Ideal.ofBits .f32 0x44800000#32) * (Ideal.ofBits .f32 0x40000000#32 * e)

/-- The word of 1/1024. -/
theorem word_inv : Ideal.ofBits .f32 0x3A800000#32 = ((1 / 1024 : ℝ) : EReal) := by
  simp [Ideal.ofBits, Ideal.ieee, -EReal.coe_mul]; norm_num

/-- Half of twice the error over 1024 is the error over 1024. -/
theorem dyq_eq (e : EReal) : dyq e = e * Ideal.ofBits .f32 0x3A800000#32 := by
  unfold dyq
  rw [word_inv, Cert.Mixer.word_half, Cert.Mixer.word_two, Cert.PreBwd.word_1024, Cert.Mixer.div_real _ _ (by norm_num : (1024 : ℝ) ≠ 0), ← mul_assoc, ← EReal.coe_mul, mul_comm]
  norm_num

/-- A sum over two axes, whole. -/
theorem sum2 (x : Cert.LossRefIdeal.S2x2048.Idx → EReal) (c : EReal) (i : Cert.LossRefIdeal.S_.Idx) :
    Ideal.hostReduceAdd Cert.LossRefIdeal.Gen.reducesTo_S2x2048_S_d0_1 x c i = c + ∑ b : Fin 2, ∑ r : Fin 2048, x (ix2 b r) := by
  rw [Cert.Mixer.reduce_sum (ι := Fin 2 × Fin 2048) _ x c i (fun k => ix2 k.1 k.2) (fun i => (i 0, i 1))
    (fun k => by funext a; exact a.elim0) (fun k => rfl) (fun i _ => (eq_ix2 i).symm)]
  simp only [Fintype.sum_prod_type]

/-- A sum over the first two axes of three. -/
theorem sum3 (x : Cert.LossRefIdeal.S2x2048x1024.Idx → EReal) (c : EReal) (l : Fin 1024) :
    Ideal.hostReduceAdd Cert.LossRefIdeal.Gen.reducesTo_S2x2048x1024_S1024_d0_1 x c (ix1 l)
      = c + ∑ b : Fin 2, ∑ r : Fin 2048, x (ix3 b r l) := Cert.PreBwd.sum3 x c l

/-- The same sum over axes of one element. -/
theorem sum3u (x : Cert.LossRefIdeal.S1x1x1024.Idx → EReal) (c : EReal) (l : Fin 1024) :
    Ideal.hostReduceAdd Cert.LossRefIdeal.Gen.reducesTo_S1x1x1024_S1024_d0_1 x c (ix1 l) = c + x (ix3 0 0 l) := Cert.PreBwd.sum3u x c l

open Cert.LossRefIdeal.Read in
/-- The reference's output projection. -/
theorem ref6 (x0 : (⟨S4096x2048, .bf16⟩ : BufTy).Contents (Elt Ideal)) (x1 : (⟨S8x256x1024, .bf16⟩ : BufTy).Contents (Elt Ideal)) :
    val_main_v3 (F := Ideal) x0 x1 = fun y : S4096x1024.Idx => yo x0 x1 (y 0) (y 1) := by
  funext y
  obtain ⟨p, q, rfl⟩ : ∃ (p : Fin 4096) (q : Fin 1024), y = ix2 p q := ⟨y 0, y 1, eq_ix2 y⟩
  pointwise [val_main_v3, val_main_v2, val_main_v1, val_main_v0]
  rfl

open Cert.LossRefIdeal.Read in
/-- The reference's residual stream. -/
theorem ref_xn (x0 : (⟨S4096x2048, .bf16⟩ : BufTy).Contents (Elt Ideal)) (x1 : (⟨S8x256x1024, .bf16⟩ : BufTy).Contents (Elt Ideal)) (x2 : (⟨S4096x1024, .f32⟩ : BufTy).Contents (Elt Ideal)) (x3 : (⟨S2x3x1024, .f32⟩ : BufTy).Contents (Elt Ideal)) (b : Fin 2) (r : Fin 2048) (q : Fin 1024) (P : Fin 4096) (hP : P.val = b.val * 2048 + r.val) :
    val_main_v11 (F := Ideal) x0 x1 x2 x3 (ix3 b r q) = xn x0 x1 x2 x3 P q := by
  have hlt : b.val * 2048 + r.val < 4096 := by clear hP; omega
  obtain rfl : P = ⟨b.val * 2048 + r.val, hlt⟩ := Fin.ext hP
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_v11, val_main_v10, val_main_v9, val_main_v8, val_main_v7, val_main_v6, val_main_v5, val_main_v4, val_main_v3, val_main_v2, val_main_v1, val_main_v0]
  unfold xn
  rw [show (⟨(b.val * 2048 + r.val) / 2048, by omega⟩ : Fin 2) = b from Fin.ext (by show (b.val * 2048 + r.val) / 2048 = b.val; omega)]
  rfl

open Cert.LossRefIdeal.Read in
/-- The reference's error. -/
theorem ref_er (x0 : (⟨S4096x2048, .bf16⟩ : BufTy).Contents (Elt Ideal)) (x1 : (⟨S8x256x1024, .bf16⟩ : BufTy).Contents (Elt Ideal)) (x2 : (⟨S4096x1024, .f32⟩ : BufTy).Contents (Elt Ideal)) (x3 : (⟨S2x3x1024, .f32⟩ : BufTy).Contents (Elt Ideal)) (x4 : (⟨S1x1024, .f32⟩ : BufTy).Contents (Elt Ideal)) (x5 : (⟨S4096x1024, .f32⟩ : BufTy).Contents (Elt Ideal)) (b : Fin 2) (r : Fin 2048) (q : Fin 1024) (P : Fin 4096) (hP : P.val = b.val * 2048 + r.val) :
    val_main_v30 (F := Ideal) x0 x1 x2 x3 x4 x5 (ix3 b r q) = er (xn x0 x1 x2 x3 P) (fun k => x4 (ix2 (0 : Fin 1) k)) (fun k => x5 (ix2 P k)) q := by
  have e := fun q => ref_xn x0 x1 x2 x3 b r q P hP
  have hlt : b.val * 2048 + r.val < 4096 := by clear hP; omega
  obtain rfl : P = ⟨b.val * 2048 + r.val, hlt⟩ := Fin.ext hP
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v12]
  simp only [e]
  rfl

open Cert.LossRefIdeal.Read in
/-- The reference's gradient of the loss in the norm's output. -/
theorem ref_dy (x0 : (⟨S4096x2048, .bf16⟩ : BufTy).Contents (Elt Ideal)) (x1 : (⟨S8x256x1024, .bf16⟩ : BufTy).Contents (Elt Ideal)) (x2 : (⟨S4096x1024, .f32⟩ : BufTy).Contents (Elt Ideal)) (x3 : (⟨S2x3x1024, .f32⟩ : BufTy).Contents (Elt Ideal)) (x4 : (⟨S1x1024, .f32⟩ : BufTy).Contents (Elt Ideal)) (x5 : (⟨S4096x1024, .f32⟩ : BufTy).Contents (Elt Ideal)) (b : Fin 2) (r : Fin 2048) (q : Fin 1024) (P : Fin 4096) (hP : P.val = b.val * 2048 + r.val) :
    val_main_v44 (F := Ideal) x0 x1 x2 x3 x4 x5 (ix3 b r q) = dyr (xn x0 x1 x2 x3 P) (fun k => x4 (ix2 (0 : Fin 1) k)) (fun k => x5 (ix2 P k)) q := by
  have e := ref_er x0 x1 x2 x3 x4 x5 b r q P hP
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_v44, val_main_v43, val_main_v42, val_main_v41, val_main_v40, val_main_v39, val_main_v33, val_main_v32]
  rw [e]
  exact dyq_eq _

open Cert.LossRefIdeal.Read in
/-- The reference's loss. -/
theorem ref8 (x0 : (⟨S4096x2048, .bf16⟩ : BufTy).Contents (Elt Ideal)) (x1 : (⟨S8x256x1024, .bf16⟩ : BufTy).Contents (Elt Ideal)) (x2 : (⟨S4096x1024, .f32⟩ : BufTy).Contents (Elt Ideal)) (x3 : (⟨S2x3x1024, .f32⟩ : BufTy).Contents (Elt Ideal)) (x4 : (⟨S1x1024, .f32⟩ : BufTy).Contents (Elt Ideal)) (x5 : (⟨S4096x1024, .f32⟩ : BufTy).Contents (Elt Ideal)) :
    val_main_v66 (F := Ideal) x0 x1 x2 x3 x4 x5 = fun _ : S1x1.Idx => lsn x0 x1 x2 x3 x4 x5 8 := by
  funext y
  obtain ⟨p, q, rfl⟩ : ∃ (p q : Fin 1), y = ix2 p q := ⟨y 0, y 1, eq_ix2 y⟩
  obtain rfl : p = 0 := Subsingleton.elim _ _
  obtain rfl : q = 0 := Subsingleton.elim _ _
  unfold lsn
  pointwise [val_main_v66, val_main_v38, val_main_cst_7]
  unfold val_main_v37
  rw [ValueIdx.hostReduceAdd_apply, sum2]
  pointwise [val_main_v36, val_main_v35, val_main_v34, val_main_v31, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  refine congrArg (Ideal.ofBits .f32 0x3F000000#32 * ·) ?_
  rw [show (4096 : ℕ) = 2048 + 2048 by omega, Finset.sum_range_add, Fin.sum_univ_two]
  simp only [Finset.sum_range]
  refine congrArg₂ (· + ·) (Finset.sum_congr rfl fun k _ => ?_) (Finset.sum_congr rfl fun k _ => ?_)
  · unfold lst
    have e := fun q => ref_er x0 x1 x2 x3 x4 x5 0 k q ⟨k.val, by omega⟩ (by simp)
    rw [dif_pos (by omega)]
    simp only [e]
    rfl
  · unfold lst
    have e := fun q => ref_er x0 x1 x2 x3 x4 x5 1 k q ⟨2048 + k.val, by omega⟩ (by simp)
    rw [dif_pos (by omega)]
    simp only [e]
    rfl

open Cert.LossRefIdeal.Read in
/-- The reference's gradient of the gain. -/
theorem ref9 (x0 : (⟨S4096x2048, .bf16⟩ : BufTy).Contents (Elt Ideal)) (x1 : (⟨S8x256x1024, .bf16⟩ : BufTy).Contents (Elt Ideal)) (x2 : (⟨S4096x1024, .f32⟩ : BufTy).Contents (Elt Ideal)) (x3 : (⟨S2x3x1024, .f32⟩ : BufTy).Contents (Elt Ideal)) (x4 : (⟨S1x1024, .f32⟩ : BufTy).Contents (Elt Ideal)) (x5 : (⟨S4096x1024, .f32⟩ : BufTy).Contents (Elt Ideal)) :
    val_main_v67 (F := Ideal) x0 x1 x2 x3 x4 x5 = fun y : S1x1024.Idx => dgn x0 x1 x2 x3 x4 x5 8 (y 1) := by
  funext y
  obtain ⟨p, q, rfl⟩ : ∃ (p : Fin 1) (q : Fin 1024), y = ix2 p q := ⟨y 0, y 1, eq_ix2 y⟩
  obtain rfl : p = 0 := Subsingleton.elim _ _
  pointwise [val_main_v67]
  unfold val_main_v50
  rw [ValueIdx.hostReduceAdd_apply, sum3u]
  pointwise [val_main_v47, val_main_cst_12]
  unfold val_main_v46
  rw [ValueIdx.hostReduceAdd_apply, sum3]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_v26, val_main_v25, val_main_v24, val_main_v23, val_main_v22, val_main_v21, val_main_v20, val_main_v19, val_main_v18, val_main_v17, val_main_v16, val_main_v15, val_main_v14, val_main_v45]
  show _ = dgn x0 x1 x2 x3 x4 x5 8 q
  unfold dgn
  rw [show 8 * 512 = 2048 + 2048 by omega, Finset.sum_range_add, Fin.sum_univ_two]
  simp only [Finset.sum_range]
  refine congrArg₂ (· + ·) (Finset.sum_congr rfl fun k _ => ?_) (Finset.sum_congr rfl fun k _ => ?_)
  · unfold gnt
    have e := fun q => ref_dy x0 x1 x2 x3 x4 x5 0 k q ⟨k.val, by omega⟩ (by simp)
    have e' := fun q => ref_xn x0 x1 x2 x3 0 k q ⟨k.val, by omega⟩ (by simp)
    rw [dif_pos (by omega), mul_comm]
    simp only [e, e']
    rfl
  · unfold gnt
    have e := fun q => ref_dy x0 x1 x2 x3 x4 x5 1 k q ⟨2048 + k.val, by omega⟩ (by simp)
    have e' := fun q => ref_xn x0 x1 x2 x3 1 k q ⟨2048 + k.val, by omega⟩ (by simp)
    rw [dif_pos (by omega), mul_comm]
    simp only [e, e']
    rfl

/-- The reference's form of the gradient of a row of the last norm's input. -/
def refl (f e g : Fin 1024 → EReal) (q : Fin 1024) : EReal :=
  e q * g q * rstd f
    + f q * (∑ _k : Fin 1, Ideal.div ((∑ k : Fin 1024, f k * (e k * g k)) * (Ideal.ofBits .f32 0xBF000000#32 * Ideal.div (rstd f) (Ideal.div (∑ k : Fin 1024, f k * f k) (Ideal.ofBits .f32 0x44800000#32) + Ideal.ofBits .f32 0x358637BD#32))) (Ideal.ofBits .f32 0x44800000#32))
    + (∑ _k : Fin 1, Ideal.div ((∑ k : Fin 1024, f k * (e k * g k)) * (Ideal.ofBits .f32 0xBF000000#32 * Ideal.div (rstd f) (Ideal.div (∑ k : Fin 1024, f k * f k) (Ideal.ofBits .f32 0x44800000#32) + Ideal.ofBits .f32 0x358637BD#32))) (Ideal.ofBits .f32 0x44800000#32)) * f q

/-- Over real rows the reference's form is the kernel's. -/
theorem refl_eq (f g t : Fin 1024 → ℝ) (q : Fin 1024) :
    refl (fun k => (f k : EReal)) (dyr (fun k => (f k : EReal)) (fun k => (g k : EReal)) (fun k => (t k : EReal))) (fun k => (g k : EReal)) q
      = dxl (fun k => (f k : EReal)) (fun k => (g k : EReal)) (fun k => (t k : EReal)) q := by
  have pos : 0 < (∑ k : Fin 1024, f k * f k) / 1024 + Cert.Mixer.ceps :=
    add_pos_of_nonneg_of_pos (div_nonneg (Finset.sum_nonneg fun k _ => mul_self_nonneg (f k)) (by norm_num)) Cert.Mixer.ceps_pos
  obtain ⟨r, hr⟩ : ∃ r : ℝ, rstd (fun k => (f k : EReal)) = (r : EReal) := by
    refine ⟨(Real.sqrt ((∑ k : Fin 1024, f k * f k) / 1024 + Cert.Mixer.ceps))⁻¹, ?_⟩
    unfold rstd
    simp only [Cert.PreBwd.word_1024, Cert.Mixer.word_eps, ← EReal.coe_mul, Cert.Mixer.coe_sum]
    rw [Cert.Mixer.div_real _ _ (by norm_num : (1024 : ℝ) ≠ 0), ← EReal.coe_add, Cert.Mixer.rsqrt_real _ pos]
  have he : dyr (fun k => (f k : EReal)) (fun k => (g k : EReal)) (fun k => (t k : EReal)) = fun k => (((f k * r * g k - t k) * (1 / 1024) : ℝ) : EReal) := by
    funext k
    unfold dyr er
    rw [hr, word_inv, ← EReal.coe_mul, ← EReal.coe_mul, ← EReal.coe_sub, ← EReal.coe_mul]
  have h := Cert.PreBwd.refr_eq f (fun k => (f k * r * g k - t k) * (1 / 1024)) g (fun _ => 0) q
  unfold Cert.PreBwd.refr Cert.PreBwd.dxr at h
  simp only [EReal.coe_zero, add_zero, mul_one] at h
  unfold refl dxl
  rw [he]
  exact h

/-- Over real arguments the residual stream is real. -/
theorem xn_real (x0 : (⟨S4096x2048, .bf16⟩ : BufTy).Contents (Elt Ideal)) (x1 : (⟨S8x256x1024, .bf16⟩ : BufTy).Contents (Elt Ideal)) (x2 : (⟨S4096x1024, .f32⟩ : BufTy).Contents (Elt Ideal)) (x3 : (⟨S2x3x1024, .f32⟩ : BufTy).Contents (Elt Ideal)) (h0 : ∀ i, x0 i = (((x0 i).toReal : ℝ) : EReal)) (h1 : ∀ i, x1 i = (((x1 i).toReal : ℝ) : EReal)) (h2 : ∀ i, x2 i = (((x2 i).toReal : ℝ) : EReal)) (h3 : ∀ i, x3 i = (((x3 i).toReal : ℝ) : EReal)) (p : Fin 4096) :
    ∃ f : Fin 1024 → ℝ, xn x0 x1 x2 x3 p = fun k => (f k : EReal) := by
  refine ⟨fun q => (x2 (ix2 p q)).toReal + (x3 (ix3 (⟨p.val / 2048, by omega⟩ : Fin 2) (2 : Fin 3) q)).toReal * ∑ k : Fin 2048, (x0 (ix2 p k)).toReal * (x1 (ix3 (⟨k.val / 256, by omega⟩ : Fin 8) (⟨k.val % 256, by omega⟩ : Fin 256) q)).toReal, funext fun q => ?_⟩
  rw [EReal.coe_add, EReal.coe_mul, ← Cert.Mixer.coe_sum]
  simp only [EReal.coe_mul, ← h0, ← h1, ← h2, ← h3]
  rfl

open Cert.LossRefIdeal.Read in
/-- The reference's gradient of the residual stream, over real arguments. -/
theorem ref7 (x0 : (⟨S4096x2048, .bf16⟩ : BufTy).Contents (Elt Ideal)) (x1 : (⟨S8x256x1024, .bf16⟩ : BufTy).Contents (Elt Ideal)) (x2 : (⟨S4096x1024, .f32⟩ : BufTy).Contents (Elt Ideal)) (x3 : (⟨S2x3x1024, .f32⟩ : BufTy).Contents (Elt Ideal)) (x4 : (⟨S1x1024, .f32⟩ : BufTy).Contents (Elt Ideal)) (x5 : (⟨S4096x1024, .f32⟩ : BufTy).Contents (Elt Ideal)) (h0 : ∀ i, x0 i = (((x0 i).toReal : ℝ) : EReal)) (h1 : ∀ i, x1 i = (((x1 i).toReal : ℝ) : EReal)) (h2 : ∀ i, x2 i = (((x2 i).toReal : ℝ) : EReal)) (h3 : ∀ i, x3 i = (((x3 i).toReal : ℝ) : EReal)) (h4 : ∀ i, x4 i = (((x4 i).toReal : ℝ) : EReal)) (h5 : ∀ i, x5 i = (((x5 i).toReal : ℝ) : EReal)) :
    val_main_v65 (F := Ideal) x0 x1 x2 x3 x4 x5 = fun y : S4096x1024.Idx => dx x0 x1 x2 x3 x4 x5 (y 0) (y 1) := by
  funext y
  obtain ⟨p, q, rfl⟩ : ∃ (p : Fin 4096) (q : Fin 1024), y = ix2 p q := ⟨y 0, y 1, eq_ix2 y⟩
  show _ = dx x0 x1 x2 x3 x4 x5 p q
  have hp : p.val = (⟨p.val / 2048, by omega⟩ : Fin 2).val * 2048 + (⟨p.val % 2048, by omega⟩ : Fin 2048).val := by show p.val = p.val / 2048 * 2048 + p.val % 2048; omega
  have e := fun q => ref_dy x0 x1 x2 x3 x4 x5 ⟨p.val / 2048, by omega⟩ ⟨p.val % 2048, by omega⟩ q p hp
  have e' := fun q => ref_xn x0 x1 x2 x3 ⟨p.val / 2048, by omega⟩ ⟨p.val % 2048, by omega⟩ q p hp
  have hv : val_main_v65 (F := Ideal) x0 x1 x2 x3 x4 x5 (ix2 p q) = val_main_v64 (F := Ideal) x0 x1 x2 x3 x4 x5 (ix3 (⟨p.val / 2048, by omega⟩ : Fin 2) (⟨p.val % 2048, by omega⟩ : Fin 2048) q) := by
    rw [val_main_v65_apply]
    refine congrArg (val_main_v64 (F := Ideal) x0 x1 x2 x3 x4 x5) ?_
    have h1 := p.isLt
    have h2 := q.isLt
    funext a
    fin_cases a
    · refine Fin.ext ?_
      show (p.val * 1024 + q.val) / 2097152 = p.val / 2048
      omega
    · refine Fin.ext ?_
      show (p.val * 1024 + q.val) / 1024 % 2048 = p.val % 2048
      omega
    · refine Fin.ext ?_
      show (p.val * 1024 + q.val) % 1024 = q.val
      omega
  rw [hv]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_v64, val_main_v63, val_main_v62, val_main_v61, val_main_v60, val_main_v59, val_main_v58, val_main_v57, val_main_v56, val_main_v55, val_main_v54, val_main_v53, val_main_v52, val_main_v51, val_main_v49, val_main_v48, val_main_v28, val_main_v27, val_main_v26, val_main_v25, val_main_v24, val_main_v23, val_main_v22, val_main_v21, val_main_v20, val_main_v19, val_main_v18, val_main_v17, val_main_v16, val_main_v15, val_main_v14, val_main_v12]
  simp only [e, e']
  refine Eq.trans (b := refl (xn x0 x1 x2 x3 p) (dyr (xn x0 x1 x2 x3 p) (fun k => x4 (ix2 (0 : Fin 1) k)) (fun k => x5 (ix2 p k))) (fun k => x4 (ix2 (0 : Fin 1) k)) q) rfl ?_
  obtain ⟨f, hf⟩ := xn_real x0 x1 x2 x3 h0 h1 h2 h3 p
  unfold dx
  have e4 : (fun k => x4 (ix2 (0 : Fin 1) k)) = fun k => (((x4 (ix2 (0 : Fin 1) k)).toReal : ℝ) : EReal) := funext fun k => h4 _
  have e5 : (fun k : Fin 1024 => x5 (ix2 p k)) = fun k => (((x5 (ix2 p k)).toReal : ℝ) : EReal) := funext fun k => h5 _
  rw [hf, e4, e5]
  exact refl_eq _ _ _ q

end Cert.Loss
-- ==== Proof.EarlyRun.lean ====
module
public import proofs.«01_k».proof.Proof.Gen.AdamEarlyIdeal.Launch
public import proofs.«01_k».proof.Proof.Gen.AdamEarlyIdeal.Skeleton
public import proofs.«01_k».proof.Proof.Gen.AdamEarlyIdeal.Points
public import proofs.«01_k».proof.Proof.Gen.AdamEarly
public import proofs.«01_k».proof.Defs
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxHeartbeats 8000000
set_option maxRecDepth 16384

noncomputable section

namespace Cert.Early

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamEarlyIdeal Cert.AdamEarlyIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.View (ld)

/-- What the arrays of a core hold when the call begins. -/
abbrev V (c : Dev nD) (b : Ref sig .tc) : Buf (Elt F) ((c : Thread nD τ).loc b) := m ((c : Thread nD τ).loc b)

/-- The program is the one call. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The block of an array that a point works on. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r0 : Rect S8x1x2048 := Rect.unit (s := S8x1x2048) ![0, 0, 0] S1x1x2048.size inb_S8x1x2048_S1x1x2048_0_0_0
abbrev r1 : Rect S8x1x2048 := Rect.unit (s := S8x1x2048) ![1, 0, 0] S1x1x2048.size inb_S8x1x2048_S1x1x2048_1_0_0
abbrev r2 : Rect S8x1x2048 := Rect.unit (s := S8x1x2048) ![2, 0, 0] S1x1x2048.size inb_S8x1x2048_S1x1x2048_2_0_0
abbrev r3 : Rect S8x1x2048 := Rect.unit (s := S8x1x2048) ![3, 0, 0] S1x1x2048.size inb_S8x1x2048_S1x1x2048_3_0_0
abbrev r4 : Rect S8x1x2048 := Rect.unit (s := S8x1x2048) ![4, 0, 0] S1x1x2048.size inb_S8x1x2048_S1x1x2048_4_0_0
abbrev r5 : Rect S8x1x2048 := Rect.unit (s := S8x1x2048) ![5, 0, 0] S1x1x2048.size inb_S8x1x2048_S1x1x2048_5_0_0
abbrev r6 : Rect S8x1x2048 := Rect.unit (s := S8x1x2048) ![6, 0, 0] S1x1x2048.size inb_S8x1x2048_S1x1x2048_6_0_0
abbrev r7 : Rect S8x1x2048 := Rect.unit (s := S8x1x2048) ![7, 0, 0] S1x1x2048.size inb_S8x1x2048_S1x1x2048_7_0_0
abbrev r8 : Rect S1x2048 := Rect.unit (s := S1x2048) ![0, 0] S1x2048.size inb_S1x2048_S1x2048_0_0
abbrev r9 : Rect S8x1024x128 := Rect.unit (s := S8x1024x128) ![0, 0, 0] S1x1024x128.size inb_S8x1024x128_S1x1024x128_0_0_0
abbrev r10 : Rect S8x1024x128 := Rect.unit (s := S8x1024x128) ![1, 0, 0] S1x1024x128.size inb_S8x1024x128_S1x1024x128_1_0_0
abbrev r11 : Rect S8x1024x128 := Rect.unit (s := S8x1024x128) ![2, 0, 0] S1x1024x128.size inb_S8x1024x128_S1x1024x128_2_0_0
abbrev r12 : Rect S8x1024x128 := Rect.unit (s := S8x1024x128) ![3, 0, 0] S1x1024x128.size inb_S8x1024x128_S1x1024x128_3_0_0
abbrev r13 : Rect S8x1024x128 := Rect.unit (s := S8x1024x128) ![4, 0, 0] S1x1024x128.size inb_S8x1024x128_S1x1024x128_4_0_0
abbrev r14 : Rect S8x1024x128 := Rect.unit (s := S8x1024x128) ![5, 0, 0] S1x1024x128.size inb_S8x1024x128_S1x1024x128_5_0_0
abbrev r15 : Rect S8x1024x128 := Rect.unit (s := S8x1024x128) ![6, 0, 0] S1x1024x128.size inb_S8x1024x128_S1x1024x128_6_0_0
abbrev r16 : Rect S8x1024x128 := Rect.unit (s := S8x1024x128) ![7, 0, 0] S1x1024x128.size inb_S8x1024x128_S1x1024x128_7_0_0
abbrev r17 : Rect S1024x128 := Rect.unit (s := S1024x128) ![0, 0] S1024x128.size inb_S1024x128_S1024x128_0_0
abbrev r18 : Rect S8x8x128 := Rect.unit (s := S8x8x128) ![0, 0, 0] S1x8x128.size inb_S8x8x128_S1x8x128_0_0_0
abbrev r19 : Rect S8x8x128 := Rect.unit (s := S8x8x128) ![1, 0, 0] S1x8x128.size inb_S8x8x128_S1x8x128_1_0_0
abbrev r20 : Rect S8x8x128 := Rect.unit (s := S8x8x128) ![2, 0, 0] S1x8x128.size inb_S8x8x128_S1x8x128_2_0_0
abbrev r21 : Rect S8x8x128 := Rect.unit (s := S8x8x128) ![3, 0, 0] S1x8x128.size inb_S8x8x128_S1x8x128_3_0_0
abbrev r22 : Rect S8x8x128 := Rect.unit (s := S8x8x128) ![4, 0, 0] S1x8x128.size inb_S8x8x128_S1x8x128_4_0_0
abbrev r23 : Rect S8x8x128 := Rect.unit (s := S8x8x128) ![5, 0, 0] S1x8x128.size inb_S8x8x128_S1x8x128_5_0_0
abbrev r24 : Rect S8x8x128 := Rect.unit (s := S8x8x128) ![6, 0, 0] S1x8x128.size inb_S8x8x128_S1x8x128_6_0_0
abbrev r25 : Rect S8x8x128 := Rect.unit (s := S8x8x128) ![7, 0, 0] S1x8x128.size inb_S8x8x128_S1x8x128_7_0_0
abbrev r26 : Rect S8x128 := Rect.unit (s := S8x128) ![0, 0] S8x128.size inb_S8x128_S8x128_0_0
abbrev r27 : Rect S8x2x2048 := Rect.unit (s := S8x2x2048) ![0, 0, 0] S1x2x2048.size inb_S8x2x2048_S1x2x2048_0_0_0
abbrev r28 : Rect S8x2x2048 := Rect.unit (s := S8x2x2048) ![1, 0, 0] S1x2x2048.size inb_S8x2x2048_S1x2x2048_1_0_0
abbrev r29 : Rect S8x2x2048 := Rect.unit (s := S8x2x2048) ![2, 0, 0] S1x2x2048.size inb_S8x2x2048_S1x2x2048_2_0_0
abbrev r30 : Rect S8x2x2048 := Rect.unit (s := S8x2x2048) ![3, 0, 0] S1x2x2048.size inb_S8x2x2048_S1x2x2048_3_0_0
abbrev r31 : Rect S8x2x2048 := Rect.unit (s := S8x2x2048) ![4, 0, 0] S1x2x2048.size inb_S8x2x2048_S1x2x2048_4_0_0
abbrev r32 : Rect S8x2x2048 := Rect.unit (s := S8x2x2048) ![5, 0, 0] S1x2x2048.size inb_S8x2x2048_S1x2x2048_5_0_0
abbrev r33 : Rect S8x2x2048 := Rect.unit (s := S8x2x2048) ![6, 0, 0] S1x2x2048.size inb_S8x2x2048_S1x2x2048_6_0_0
abbrev r34 : Rect S8x2x2048 := Rect.unit (s := S8x2x2048) ![7, 0, 0] S1x2x2048.size inb_S8x2x2048_S1x2x2048_7_0_0
abbrev r35 : Rect S2x2048 := Rect.unit (s := S2x2048) ![0, 0] S2x2048.size inb_S2x2048_S2x2048_0_0
abbrev r36 : Rect S8x1x128 := Rect.unit (s := S8x1x128) ![0, 0, 0] S1x1x128.size inb_S8x1x128_S1x1x128_0_0_0
abbrev r37 : Rect S8x1x128 := Rect.unit (s := S8x1x128) ![1, 0, 0] S1x1x128.size inb_S8x1x128_S1x1x128_1_0_0
abbrev r38 : Rect S8x1x128 := Rect.unit (s := S8x1x128) ![2, 0, 0] S1x1x128.size inb_S8x1x128_S1x1x128_2_0_0
abbrev r39 : Rect S8x1x128 := Rect.unit (s := S8x1x128) ![3, 0, 0] S1x1x128.size inb_S8x1x128_S1x1x128_3_0_0
abbrev r40 : Rect S8x1x128 := Rect.unit (s := S8x1x128) ![4, 0, 0] S1x1x128.size inb_S8x1x128_S1x1x128_4_0_0
abbrev r41 : Rect S8x1x128 := Rect.unit (s := S8x1x128) ![5, 0, 0] S1x1x128.size inb_S8x1x128_S1x1x128_5_0_0
abbrev r42 : Rect S8x1x128 := Rect.unit (s := S8x1x128) ![6, 0, 0] S1x1x128.size inb_S8x1x128_S1x1x128_6_0_0
abbrev r43 : Rect S8x1x128 := Rect.unit (s := S8x1x128) ![7, 0, 0] S1x1x128.size inb_S8x1x128_S1x1x128_7_0_0
abbrev r44 : Rect S1x128 := Rect.unit (s := S1x128) ![0, 0] S1x128.size inb_S1x128_S1x128_0_0

/-! The four results of the first parameter, from the eight parts of its gradient, the weight and its moments. -/

def out24 (x : Vec F S8x1x2048 .f32) (w a b : Vec F S1x2048 .f32) : Vec F S1x2048 .f32 :=
  View.canon [⟨r8, k0_pay2 (ld x r0) (ld x r1) (ld x r2) (ld x r3) (ld x r4) (ld x r5) (ld x r6) (ld x r7)⟩]
def out25 (x : Vec F S8x1x2048 .f32) (w a b : Vec F S1x2048 .f32) : Vec F S1x2048 .f32 :=
  View.canon [⟨r8, k0_pay5 (k0_pay2 (ld x r0) (ld x r1) (ld x r2) (ld x r3) (ld x r4) (ld x r5) (ld x r6) (ld x r7)) (k0_pay3 (ld x r0) (ld x r1) (ld x r2) (ld x r3) (ld x r4) (ld x r5) (ld x r6) (ld x r7) (ld a r8)) (ld b r8) (ld w r8)⟩]
def out26 (x : Vec F S8x1x2048 .f32) (w a b : Vec F S1x2048 .f32) : Vec F S1x2048 .f32 :=
  View.canon [⟨r8, k0_pay3 (ld x r0) (ld x r1) (ld x r2) (ld x r3) (ld x r4) (ld x r5) (ld x r6) (ld x r7) (ld a r8)⟩]
def out27 (x : Vec F S8x1x2048 .f32) (w a b : Vec F S1x2048 .f32) : Vec F S1x2048 .f32 :=
  View.canon [⟨r8, k0_pay4 (k0_pay2 (ld x r0) (ld x r1) (ld x r2) (ld x r3) (ld x r4) (ld x r5) (ld x r6) (ld x r7)) (ld b r8)⟩]

/-! The four results of the second parameter, from the eight parts of its gradient, the weight and its moments. -/

def out28 (x : Vec F S8x1x2048 .f32) (w a b : Vec F S1x2048 .f32) : Vec F S1x2048 .f32 :=
  View.canon [⟨r8, k0_pay7 (k0_pay6 (ld x r0) (ld x r1)) (ld x r2) (ld x r3) (ld x r4) (ld x r5) (ld x r6) (ld x r7)⟩]
def out29 (x : Vec F S8x1x2048 .f32) (w a b : Vec F S1x2048 .f32) : Vec F S1x2048 .f32 :=
  View.canon [⟨r8, k0_pay11 (k0_pay9 (k0_pay6 (ld x r0) (ld x r1)) (ld x r2) (ld x r3) (ld x r4) (ld x r5) (ld x r6) (ld x r7) (ld b r8)) (k0_pay10 (k0_pay6 (ld x r0) (ld x r1)) (ld x r2) (ld x r3) (ld x r4) (ld x r5) (ld x r6) (ld x r7) (ld a r8)) (ld w r8)⟩]
def out30 (x : Vec F S8x1x2048 .f32) (w a b : Vec F S1x2048 .f32) : Vec F S1x2048 .f32 :=
  View.canon [⟨r8, k0_pay8 (k0_pay6 (ld x r0) (ld x r1)) (ld x r2) (ld x r3) (ld x r4) (ld x r5) (ld x r6) (ld x r7) (ld a r8)⟩]
def out31 (x : Vec F S8x1x2048 .f32) (w a b : Vec F S1x2048 .f32) : Vec F S1x2048 .f32 :=
  View.canon [⟨r8, k0_pay9 (k0_pay6 (ld x r0) (ld x r1)) (ld x r2) (ld x r3) (ld x r4) (ld x r5) (ld x r6) (ld x r7) (ld b r8)⟩]

/-! The four results of the third parameter, from the eight parts of its gradient, the weight and its moments. -/

def out32 (x : Vec F S8x1024x128 .f32) (w a b : Vec F S1024x128 .f32) : Vec F S1024x128 .f32 :=
  View.canon [⟨r17, k0_pay13 (k0_pay12 (ld x r9) (ld x r10) (ld x r11) (ld x r12) (ld x r13)) (ld x r14) (ld x r15) (ld x r16)⟩]
def out33 (x : Vec F S8x1024x128 .f32) (w a b : Vec F S1024x128 .f32) : Vec F S1024x128 .f32 :=
  View.canon [⟨r17, k0_pay17 (k0_pay16 (k0_pay12 (ld x r9) (ld x r10) (ld x r11) (ld x r12) (ld x r13)) (ld x r14) (ld x r15) (ld x r16) (ld a r17) (ld b r17) (ld w r17))⟩]
def out34 (x : Vec F S8x1024x128 .f32) (w a b : Vec F S1024x128 .f32) : Vec F S1024x128 .f32 :=
  View.canon [⟨r17, k0_pay14 (k0_pay12 (ld x r9) (ld x r10) (ld x r11) (ld x r12) (ld x r13)) (ld x r14) (ld x r15) (ld x r16) (ld a r17)⟩]
def out35 (x : Vec F S8x1024x128 .f32) (w a b : Vec F S1024x128 .f32) : Vec F S1024x128 .f32 :=
  View.canon [⟨r17, k0_pay15 (k0_pay12 (ld x r9) (ld x r10) (ld x r11) (ld x r12) (ld x r13)) (ld x r14) (ld x r15) (ld x r16) (ld b r17)⟩]

/-! The four results of the fourth parameter, from the eight parts of its gradient, the weight and its moments. -/

def out36 (x : Vec F S8x8x128 .f32) (w a b : Vec F S8x128 .f32) : Vec F S8x128 .f32 :=
  View.canon [⟨r26, k0_pay19 (k0_pay18 (ld x r18) (ld x r19) (ld x r20) (ld x r21) (ld x r22) (ld x r23) (ld x r24)) (ld x r25)⟩]
def out37 (x : Vec F S8x8x128 .f32) (w a b : Vec F S8x128 .f32) : Vec F S8x128 .f32 :=
  View.canon [⟨r26, k0_pay22 (k0_pay18 (ld x r18) (ld x r19) (ld x r20) (ld x r21) (ld x r22) (ld x r23) (ld x r24)) (ld x r25) (ld a r26) (ld b r26) (ld w r26)⟩]
def out38 (x : Vec F S8x8x128 .f32) (w a b : Vec F S8x128 .f32) : Vec F S8x128 .f32 :=
  View.canon [⟨r26, k0_pay20 (k0_pay18 (ld x r18) (ld x r19) (ld x r20) (ld x r21) (ld x r22) (ld x r23) (ld x r24)) (ld x r25) (ld a r26)⟩]
def out39 (x : Vec F S8x8x128 .f32) (w a b : Vec F S8x128 .f32) : Vec F S8x128 .f32 :=
  View.canon [⟨r26, k0_pay21 (k0_pay18 (ld x r18) (ld x r19) (ld x r20) (ld x r21) (ld x r22) (ld x r23) (ld x r24)) (ld x r25) (ld b r26)⟩]

/-! The four results of the fifth parameter, from the eight parts of its gradient, the weight and its moments. -/

def out40 (x : Vec F S8x2x2048 .f32) (w a b : Vec F S2x2048 .f32) : Vec F S2x2048 .f32 :=
  View.canon [⟨r35, k0_pay23 (ld x r27) (ld x r28) (ld x r29) (ld x r30) (ld x r31) (ld x r32) (ld x r33) (ld x r34)⟩]
def out41 (x : Vec F S8x2x2048 .f32) (w a b : Vec F S2x2048 .f32) : Vec F S2x2048 .f32 :=
  View.canon [⟨r35, k0_pay26 (k0_pay23 (ld x r27) (ld x r28) (ld x r29) (ld x r30) (ld x r31) (ld x r32) (ld x r33) (ld x r34)) (k0_pay24 (ld x r27) (ld x r28) (ld x r29) (ld x r30) (ld x r31) (ld x r32) (ld x r33) (ld x r34) (ld a r35)) (ld b r35) (ld w r35)⟩]
def out42 (x : Vec F S8x2x2048 .f32) (w a b : Vec F S2x2048 .f32) : Vec F S2x2048 .f32 :=
  View.canon [⟨r35, k0_pay24 (ld x r27) (ld x r28) (ld x r29) (ld x r30) (ld x r31) (ld x r32) (ld x r33) (ld x r34) (ld a r35)⟩]
def out43 (x : Vec F S8x2x2048 .f32) (w a b : Vec F S2x2048 .f32) : Vec F S2x2048 .f32 :=
  View.canon [⟨r35, k0_pay25 (k0_pay23 (ld x r27) (ld x r28) (ld x r29) (ld x r30) (ld x r31) (ld x r32) (ld x r33) (ld x r34)) (ld b r35)⟩]

/-! The four results of the sixth parameter, from the eight parts of its gradient, the weight and its moments. -/

def out44 (x : Vec F S8x1x128 .f32) (w a b : Vec F S1x128 .f32) : Vec F S1x128 .f32 :=
  View.canon [⟨r44, k0_pay28 (k0_pay27 (ld x r36) (ld x r37)) (ld x r38) (ld x r39) (ld x r40) (ld x r41) (ld x r42) (ld x r43)⟩]
def out45 (x : Vec F S8x1x128 .f32) (w a b : Vec F S1x128 .f32) : Vec F S1x128 .f32 :=
  View.canon [⟨r44, k0_pay1 (k0_pay30 (k0_pay27 (ld x r36) (ld x r37)) (ld x r38) (ld x r39) (ld x r40) (ld x r41) (ld x r42) (ld x r43) (ld b r44)) (k0_pay31 (k0_pay27 (ld x r36) (ld x r37)) (ld x r38) (ld x r39) (ld x r40) (ld x r41) (ld x r42) (ld x r43) (ld a r44)) (ld w r44)⟩]
def out46 (x : Vec F S8x1x128 .f32) (w a b : Vec F S1x128 .f32) : Vec F S1x128 .f32 :=
  View.canon [⟨r44, k0_pay29 (k0_pay27 (ld x r36) (ld x r37)) (ld x r38) (ld x r39) (ld x r40) (ld x r41) (ld x r42) (ld x r43) (ld a r44)⟩]
def out47 (x : Vec F S8x1x128 .f32) (w a b : Vec F S1x128 .f32) : Vec F S1x128 .f32 :=
  View.canon [⟨r44, k0_pay30 (k0_pay27 (ld x r36) (ld x r37)) (ld x r38) (ld x r39) (ld x r40) (ld x r41) (ld x r42) (ld x r43) (ld b r44)⟩]

theorem full_r8 (p : Vec F S1x2048 .f32) (y : S1x2048.Idx) : ∃ pc ∈ ([⟨r8, p⟩] : List (View.Piece (Elt F) S1x2048 .f32)), y ∈ pc.1.set :=
  View.cover_of_tiled [⟨r8, p⟩] S1x2048.size (by rfl) y
theorem full_r17 (p : Vec F S1024x128 .f32) (y : S1024x128.Idx) : ∃ pc ∈ ([⟨r17, p⟩] : List (View.Piece (Elt F) S1024x128 .f32)), y ∈ pc.1.set :=
  View.cover_of_tiled [⟨r17, p⟩] S1024x128.size (by rfl) y
theorem full_r26 (p : Vec F S8x128 .f32) (y : S8x128.Idx) : ∃ pc ∈ ([⟨r26, p⟩] : List (View.Piece (Elt F) S8x128 .f32)), y ∈ pc.1.set :=
  View.cover_of_tiled [⟨r26, p⟩] S8x128.size (by rfl) y
theorem full_r35 (p : Vec F S2x2048 .f32) (y : S2x2048.Idx) : ∃ pc ∈ ([⟨r35, p⟩] : List (View.Piece (Elt F) S2x2048 .f32)), y ∈ pc.1.set :=
  View.cover_of_tiled [⟨r35, p⟩] S2x2048.size (by rfl) y
theorem full_r44 (p : Vec F S1x128 .f32) (y : S1x128.Idx) : ∃ pc ∈ ([⟨r44, p⟩] : List (View.Piece (Elt F) S1x128 .f32)), y ∈ pc.1.set :=
  View.cover_of_tiled [⟨r44, p⟩] S1x128.size (by rfl) y

/-- The body, given the blocks of the arguments, leaves them and the results of the six parameters. -/
theorem body (c : Dev nD) (E : Set ℕ) (a0 : Memref sig .tc .vmem S8x1x2048 .f32) (h0 : a0.IsWhole) (a1 : Memref sig .tc .vmem S8x1x2048 .f32) (h1 : a1.IsWhole) (a2 : Memref sig .tc .vmem S8x1024x128 .f32) (h2 : a2.IsWhole) (a3 : Memref sig .tc .vmem S8x8x128 .f32) (h3 : a3.IsWhole) (a4 : Memref sig .tc .vmem S8x2x2048 .f32) (h4 : a4.IsWhole) (a5 : Memref sig .tc .vmem S8x1x128 .f32) (h5 : a5.IsWhole) (a6 : Memref sig .tc .vmem S1x2048 .f32) (h6 : a6.IsWhole) (a7 : Memref sig .tc .vmem S1x2048 .f32) (h7 : a7.IsWhole) (a8 : Memref sig .tc .vmem S1024x128 .f32) (h8 : a8.IsWhole) (a9 : Memref sig .tc .vmem S8x128 .f32) (h9 : a9.IsWhole) (a10 : Memref sig .tc .vmem S2x2048 .f32) (h10 : a10.IsWhole) (a11 : Memref sig .tc .vmem S1x128 .f32) (h11 : a11.IsWhole) (a12 : Memref sig .tc .vmem S1x2048 .f32) (h12 : a12.IsWhole) (a13 : Memref sig .tc .vmem S1x2048 .f32) (h13 : a13.IsWhole) (a14 : Memref sig .tc .vmem S1024x128 .f32) (h14 : a14.IsWhole) (a15 : Memref sig .tc .vmem S8x128 .f32) (h15 : a15.IsWhole) (a16 : Memref sig .tc .vmem S2x2048 .f32) (h16 : a16.IsWhole) (a17 : Memref sig .tc .vmem S1x128 .f32) (h17 : a17.IsWhole) (a18 : Memref sig .tc .vmem S1x2048 .f32) (h18 : a18.IsWhole) (a19 : Memref sig .tc .vmem S1x2048 .f32) (h19 : a19.IsWhole) (a20 : Memref sig .tc .vmem S1024x128 .f32) (h20 : a20.IsWhole) (a21 : Memref sig .tc .vmem S8x128 .f32) (h21 : a21.IsWhole) (a22 : Memref sig .tc .vmem S2x2048 .f32) (h22 : a22.IsWhole) (a23 : Memref sig .tc .vmem S1x128 .f32) (h23 : a23.IsWhole) (a24 : Memref sig .tc .vmem S1x2048 .f32) (h24 : a24.IsWhole) (a25 : Memref sig .tc .vmem S1x2048 .f32) (h25 : a25.IsWhole) (a26 : Memref sig .tc .vmem S1x2048 .f32) (h26 : a26.IsWhole) (a27 : Memref sig .tc .vmem S1x2048 .f32) (h27 : a27.IsWhole) (a28 : Memref sig .tc .vmem S1x2048 .f32) (h28 : a28.IsWhole) (a29 : Memref sig .tc .vmem S1x2048 .f32) (h29 : a29.IsWhole) (a30 : Memref sig .tc .vmem S1x2048 .f32) (h30 : a30.IsWhole) (a31 : Memref sig .tc .vmem S1x2048 .f32) (h31 : a31.IsWhole) (a32 : Memref sig .tc .vmem S1024x128 .f32) (h32 : a32.IsWhole) (a33 : Memref sig .tc .vmem S1024x128 .f32) (h33 : a33.IsWhole) (a34 : Memref sig .tc .vmem S1024x128 .f32) (h34 : a34.IsWhole) (a35 : Memref sig .tc .vmem S1024x128 .f32) (h35 : a35.IsWhole) (a36 : Memref sig .tc .vmem S8x128 .f32) (h36 : a36.IsWhole) (a37 : Memref sig .tc .vmem S8x128 .f32) (h37 : a37.IsWhole) (a38 : Memref sig .tc .vmem S8x128 .f32) (h38 : a38.IsWhole) (a39 : Memref sig .tc .vmem S8x128 .f32) (h39 : a39.IsWhole) (a40 : Memref sig .tc .vmem S2x2048 .f32) (h40 : a40.IsWhole) (a41 : Memref sig .tc .vmem S2x2048 .f32) (h41 : a41.IsWhole) (a42 : Memref sig .tc .vmem S2x2048 .f32) (h42 : a42.IsWhole) (a43 : Memref sig .tc .vmem S2x2048 .f32) (h43 : a43.IsWhole) (a44 : Memref sig .tc .vmem S1x128 .f32) (h44 : a44.IsWhole) (a45 : Memref sig .tc .vmem S1x128 .f32) (h45 : a45.IsWhole) (a46 : Memref sig .tc .vmem S1x128 .f32) (h46 : a46.IsWhole) (a47 : Memref sig .tc .vmem S1x128 .f32) (h47 : a47.IsWhole)
    (x0 : Vec F S8x1x2048 .f32) (x1 : Vec F S8x1x2048 .f32) (x2 : Vec F S8x1024x128 .f32) (x3 : Vec F S8x8x128 .f32) (x4 : Vec F S8x2x2048 .f32) (x5 : Vec F S8x1x128 .f32) (x6 : Vec F S1x2048 .f32) (x7 : Vec F S1x2048 .f32) (x8 : Vec F S1024x128 .f32) (x9 : Vec F S8x128 .f32) (x10 : Vec F S2x2048 .f32) (x11 : Vec F S1x128 .f32) (x12 : Vec F S1x2048 .f32) (x13 : Vec F S1x2048 .f32) (x14 : Vec F S1024x128 .f32) (x15 : Vec F S8x128 .f32) (x16 : Vec F S2x2048 .f32) (x17 : Vec F S1x128 .f32) (x18 : Vec F S1x2048 .f32) (x19 : Vec F S1x2048 .f32) (x20 : Vec F S1024x128 .f32) (x21 : Vec F S8x128 .f32) (x22 : Vec F S2x2048 .f32) (x23 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ (∃ d, owns (c : Thread nD τ) a24 fullShare d) ∗ (∃ d, owns (c : Thread nD τ) a25 fullShare d) ∗ (∃ d, owns (c : Thread nD τ) a26 fullShare d) ∗ (∃ d, owns (c : Thread nD τ) a27 fullShare d) ∗ (∃ d, owns (c : Thread nD τ) a28 fullShare d) ∗ (∃ d, owns (c : Thread nD τ) a29 fullShare d) ∗ (∃ d, owns (c : Thread nD τ) a30 fullShare d) ∗ (∃ d, owns (c : Thread nD τ) a31 fullShare d) ∗ (∃ d, owns (c : Thread nD τ) a32 fullShare d) ∗ (∃ d, owns (c : Thread nD τ) a33 fullShare d) ∗ (∃ d, owns (c : Thread nD τ) a34 fullShare d) ∗ (∃ d, owns (c : Thread nD τ) a35 fullShare d) ∗ (∃ d, owns (c : Thread nD τ) a36 fullShare d) ∗ (∃ d, owns (c : Thread nD τ) a37 fullShare d) ∗ (∃ d, owns (c : Thread nD τ) a38 fullShare d) ∗ (∃ d, owns (c : Thread nD τ) a39 fullShare d) ∗ (∃ d, owns (c : Thread nD τ) a40 fullShare d) ∗ (∃ d, owns (c : Thread nD τ) a41 fullShare d) ∗ (∃ d, owns (c : Thread nD τ) a42 fullShare d) ∗ (∃ d, owns (c : Thread nD τ) a43 fullShare d) ∗ (∃ d, owns (c : Thread nD τ) a44 fullShare d) ∗ (∃ d, owns (c : Thread nD τ) a45 fullShare d) ∗ (∃ d, owns (c : Thread nD τ) a46 fullShare d) ∗ (∃ d, owns (c : Thread nD τ) a47 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare (out24 x0 x6 x12 x18) ∗ owns (c : Thread nD τ) a25 fullShare (out25 x0 x6 x12 x18) ∗ owns (c : Thread nD τ) a26 fullShare (out26 x0 x6 x12 x18) ∗ owns (c : Thread nD τ) a27 fullShare (out27 x0 x6 x12 x18) ∗ owns (c : Thread nD τ) a28 fullShare (out28 x1 x7 x13 x19) ∗ owns (c : Thread nD τ) a29 fullShare (out29 x1 x7 x13 x19) ∗ owns (c : Thread nD τ) a30 fullShare (out30 x1 x7 x13 x19) ∗ owns (c : Thread nD τ) a31 fullShare (out31 x1 x7 x13 x19) ∗ owns (c : Thread nD τ) a32 fullShare (out32 x2 x8 x14 x20) ∗ owns (c : Thread nD τ) a33 fullShare (out33 x2 x8 x14 x20) ∗ owns (c : Thread nD τ) a34 fullShare (out34 x2 x8 x14 x20) ∗ owns (c : Thread nD τ) a35 fullShare (out35 x2 x8 x14 x20) ∗ owns (c : Thread nD τ) a36 fullShare (out36 x3 x9 x15 x21) ∗ owns (c : Thread nD τ) a37 fullShare (out37 x3 x9 x15 x21) ∗ owns (c : Thread nD τ) a38 fullShare (out38 x3 x9 x15 x21) ∗ owns (c : Thread nD τ) a39 fullShare (out39 x3 x9 x15 x21) ∗ owns (c : Thread nD τ) a40 fullShare (out40 x4 x10 x16 x22) ∗ owns (c : Thread nD τ) a41 fullShare (out41 x4 x10 x16 x22) ∗ owns (c : Thread nD τ) a42 fullShare (out42 x4 x10 x16 x22) ∗ owns (c : Thread nD τ) a43 fullShare (out43 x4 x10 x16 x22) ∗ owns (c : Thread nD τ) a44 fullShare (out44 x5 x11 x17 x23) ∗ owns (c : Thread nD τ) a45 fullShare (out45 x5 x11 x17 x23) ∗ owns (c : Thread nD τ) a46 fullShare (out46 x5 x11 x17 x23) ∗ owns (c : Thread nD τ) a47 fullShare (out47 x5 x11 x17 x23)) -∗ K ⟨⟩))
      ⊢ wp frame (wpE (defs₀ (F := F)) Variants.none c none) E (cc0_adamw_small_early a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47) K := by
  simp only [cc0_adamw_small_early_eq_skeleton]; unfold cc0_adamw_small_early_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, Hk⟩
  subst e0 e1 e2 e3 e4 e5 e6 e7 e8 e9 e10 e11 e12 e13 e14 e15 e16 e17 e18 e19 e20 e21 e22 e23
  sl_exec
  sl_step
  iapply Hk
  isplitl [H0]
  · iexists f0; isplitr; swap; · iexact H0
    ipureintro; rfl
  isplitl [H1]
  · iexists f1; isplitr; swap; · iexact H1
    ipureintro; rfl
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H7]
  · iexists f7; isplitr; swap; · iexact H7
    ipureintro; rfl
  isplitl [H8]
  · iexists f8; isplitr; swap; · iexact H8
    ipureintro; rfl
  isplitl [H9]
  · iexists f9; isplitr; swap; · iexact H9
    ipureintro; rfl
  isplitl [H10]
  · iexists f10; isplitr; swap; · iexact H10
    ipureintro; rfl
  isplitl [H11]
  · iexists f11; isplitr; swap; · iexact H11
    ipureintro; rfl
  isplitl [H12]
  · iexists f12; isplitr; swap; · iexact H12
    ipureintro; rfl
  isplitl [H13]
  · iexists f13; isplitr; swap; · iexact H13
    ipureintro; rfl
  isplitl [H14]
  · iexists f14; isplitr; swap; · iexact H14
    ipureintro; rfl
  isplitl [H15]
  · iexists f15; isplitr; swap; · iexact H15
    ipureintro; rfl
  isplitl [H16]
  · iexists f16; isplitr; swap; · iexact H16
    ipureintro; rfl
  isplitl [H17]
  · iexists f17; isplitr; swap; · iexact H17
    ipureintro; rfl
  isplitl [H18]
  · iexists f18; isplitr; swap; · iexact H18
    ipureintro; rfl
  isplitl [H19]
  · iexists f19; isplitr; swap; · iexact H19
    ipureintro; rfl
  isplitl [H20]
  · iexists f20; isplitr; swap; · iexact H20
    ipureintro; rfl
  isplitl [H21]
  · iexists f21; isplitr; swap; · iexact H21
    ipureintro; rfl
  isplitl [H22]
  · iexists f22; isplitr; swap; · iexact H22
    ipureintro; rfl
  isplitl [H23]
  · iexists f23; isplitr; swap; · iexact H23
    ipureintro; rfl
  isplitl [H24]
  · iexists _; isplitr; swap; · iexact H24
    ipureintro; exact (View.read_writes_eq_canon _ _ _ (full_r8 _)).trans rfl
  isplitl [H25]
  · iexists _; isplitr; swap; · iexact H25
    ipureintro; exact (View.read_writes_eq_canon _ _ _ (full_r8 _)).trans rfl
  isplitl [H26]
  · iexists _; isplitr; swap; · iexact H26
    ipureintro; exact (View.read_writes_eq_canon _ _ _ (full_r8 _)).trans rfl
  isplitl [H27]
  · iexists _; isplitr; swap; · iexact H27
    ipureintro; exact (View.read_writes_eq_canon _ _ _ (full_r8 _)).trans rfl
  isplitl [H28]
  · iexists _; isplitr; swap; · iexact H28
    ipureintro; exact (View.read_writes_eq_canon _ _ _ (full_r8 _)).trans rfl
  isplitl [H29]
  · iexists _; isplitr; swap; · iexact H29
    ipureintro; exact (View.read_writes_eq_canon _ _ _ (full_r8 _)).trans rfl
  isplitl [H30]
  · iexists _; isplitr; swap; · iexact H30
    ipureintro; exact (View.read_writes_eq_canon _ _ _ (full_r8 _)).trans rfl
  isplitl [H31]
  · iexists _; isplitr; swap; · iexact H31
    ipureintro; exact (View.read_writes_eq_canon _ _ _ (full_r8 _)).trans rfl
  isplitl [H32]
  · iexists _; isplitr; swap; · iexact H32
    ipureintro; exact (View.read_writes_eq_canon _ _ _ (full_r17 _)).trans rfl
  isplitl [H33]
  · iexists _; isplitr; swap; · iexact H33
    ipureintro; exact (View.read_writes_eq_canon _ _ _ (full_r17 _)).trans rfl
  isplitl [H34]
  · iexists _; isplitr; swap; · iexact H34
    ipureintro; exact (View.read_writes_eq_canon _ _ _ (full_r17 _)).trans rfl
  isplitl [H35]
  · iexists _; isplitr; swap; · iexact H35
    ipureintro; exact (View.read_writes_eq_canon _ _ _ (full_r17 _)).trans rfl
  isplitl [H36]
  · iexists _; isplitr; swap; · iexact H36
    ipureintro; exact (View.read_writes_eq_canon _ _ _ (full_r26 _)).trans rfl
  isplitl [H37]
  · iexists _; isplitr; swap; · iexact H37
    ipureintro; exact (View.read_writes_eq_canon _ _ _ (full_r26 _)).trans rfl
  isplitl [H38]
  · iexists _; isplitr; swap; · iexact H38
    ipureintro; exact (View.read_writes_eq_canon _ _ _ (full_r26 _)).trans rfl
  isplitl [H39]
  · iexists _; isplitr; swap; · iexact H39
    ipureintro; exact (View.read_writes_eq_canon _ _ _ (full_r26 _)).trans rfl
  isplitl [H40]
  · iexists _; isplitr; swap; · iexact H40
    ipureintro; exact (View.read_writes_eq_canon _ _ _ (full_r35 _)).trans rfl
  isplitl [H41]
  · iexists _; isplitr; swap; · iexact H41
    ipureintro; exact (View.read_writes_eq_canon _ _ _ (full_r35 _)).trans rfl
  isplitl [H42]
  · iexists _; isplitr; swap; · iexact H42
    ipureintro; exact (View.read_writes_eq_canon _ _ _ (full_r35 _)).trans rfl
  isplitl [H43]
  · iexists _; isplitr; swap; · iexact H43
    ipureintro; exact (View.read_writes_eq_canon _ _ _ (full_r35 _)).trans rfl
  isplitl [H44]
  · iexists _; isplitr; swap; · iexact H44
    ipureintro; exact (View.read_writes_eq_canon _ _ _ (full_r44 _)).trans rfl
  isplitl [H45]
  · iexists _; isplitr; swap; · iexact H45
    ipureintro; exact (View.read_writes_eq_canon _ _ _ (full_r44 _)).trans rfl
  isplitl [H46]
  · iexists _; isplitr; swap; · iexact H46
    ipureintro; exact (View.read_writes_eq_canon _ _ _ (full_r44 _)).trans rfl
  iexists _; isplitr; swap; · iexact H47
  ipureintro; exact (View.read_writes_eq_canon _ _ _ (full_r44 _)).trans rfl

/-- What each array holds as the call begins, and each buffer after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out24 (iblk m c 0 t) (iblk m c 6 t) (iblk m c 12 t) (iblk m c 18 t)
    | ⟨25, _⟩ => out25 (iblk m c 0 t) (iblk m c 6 t) (iblk m c 12 t) (iblk m c 18 t)
    | ⟨26, _⟩ => out26 (iblk m c 0 t) (iblk m c 6 t) (iblk m c 12 t) (iblk m c 18 t)
    | ⟨27, _⟩ => out27 (iblk m c 0 t) (iblk m c 6 t) (iblk m c 12 t) (iblk m c 18 t)
    | ⟨28, _⟩ => out28 (iblk m c 1 t) (iblk m c 7 t) (iblk m c 13 t) (iblk m c 19 t)
    | ⟨29, _⟩ => out29 (iblk m c 1 t) (iblk m c 7 t) (iblk m c 13 t) (iblk m c 19 t)
    | ⟨30, _⟩ => out30 (iblk m c 1 t) (iblk m c 7 t) (iblk m c 13 t) (iblk m c 19 t)
    | ⟨31, _⟩ => out31 (iblk m c 1 t) (iblk m c 7 t) (iblk m c 13 t) (iblk m c 19 t)
    | ⟨32, _⟩ => out32 (iblk m c 2 t) (iblk m c 8 t) (iblk m c 14 t) (iblk m c 20 t)
    | ⟨33, _⟩ => out33 (iblk m c 2 t) (iblk m c 8 t) (iblk m c 14 t) (iblk m c 20 t)
    | ⟨34, _⟩ => out34 (iblk m c 2 t) (iblk m c 8 t) (iblk m c 14 t) (iblk m c 20 t)
    | ⟨35, _⟩ => out35 (iblk m c 2 t) (iblk m c 8 t) (iblk m c 14 t) (iblk m c 20 t)
    | ⟨36, _⟩ => out36 (iblk m c 3 t) (iblk m c 9 t) (iblk m c 15 t) (iblk m c 21 t)
    | ⟨37, _⟩ => out37 (iblk m c 3 t) (iblk m c 9 t) (iblk m c 15 t) (iblk m c 21 t)
    | ⟨38, _⟩ => out38 (iblk m c 3 t) (iblk m c 9 t) (iblk m c 15 t) (iblk m c 21 t)
    | ⟨39, _⟩ => out39 (iblk m c 3 t) (iblk m c 9 t) (iblk m c 15 t) (iblk m c 21 t)
    | ⟨40, _⟩ => out40 (iblk m c 4 t) (iblk m c 10 t) (iblk m c 16 t) (iblk m c 22 t)
    | ⟨41, _⟩ => out41 (iblk m c 4 t) (iblk m c 10 t) (iblk m c 16 t) (iblk m c 22 t)
    | ⟨42, _⟩ => out42 (iblk m c 4 t) (iblk m c 10 t) (iblk m c 16 t) (iblk m c 22 t)
    | ⟨43, _⟩ => out43 (iblk m c 4 t) (iblk m c 10 t) (iblk m c 16 t) (iblk m c 22 t)
    | ⟨44, _⟩ => out44 (iblk m c 5 t) (iblk m c 11 t) (iblk m c 17 t) (iblk m c 23 t)
    | ⟨45, _⟩ => out45 (iblk m c 5 t) (iblk m c 11 t) (iblk m c 17 t) (iblk m c 23 t)
    | ⟨46, _⟩ => out46 (iblk m c 5 t) (iblk m c 11 t) (iblk m c 17 t) (iblk m c 23 t)
    | ⟨47, _⟩ => out47 (iblk m c 5 t) (iblk m c 11 t) (iblk m c 17 t) (iblk m c 23 t)
    | ⟨_ + 48, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = iblk m c 11 t := by dsimp only [dats]
theorem after12 : (dats m 0 c).after 12 t = iblk m c 12 t := by dsimp only [dats]
theorem after13 : (dats m 0 c).after 13 t = iblk m c 13 t := by dsimp only [dats]
theorem after14 : (dats m 0 c).after 14 t = iblk m c 14 t := by dsimp only [dats]
theorem after15 : (dats m 0 c).after 15 t = iblk m c 15 t := by dsimp only [dats]
theorem after16 : (dats m 0 c).after 16 t = iblk m c 16 t := by dsimp only [dats]
theorem after17 : (dats m 0 c).after 17 t = iblk m c 17 t := by dsimp only [dats]
theorem after18 : (dats m 0 c).after 18 t = iblk m c 18 t := by dsimp only [dats]
theorem after19 : (dats m 0 c).after 19 t = iblk m c 19 t := by dsimp only [dats]
theorem after20 : (dats m 0 c).after 20 t = iblk m c 20 t := by dsimp only [dats]
theorem after21 : (dats m 0 c).after 21 t = iblk m c 21 t := by dsimp only [dats]
theorem after22 : (dats m 0 c).after 22 t = iblk m c 22 t := by dsimp only [dats]
theorem after23 : (dats m 0 c).after 23 t = iblk m c 23 t := by dsimp only [dats]
theorem after24 : (dats m 0 c).after 24 t = out24 (iblk m c 0 t) (iblk m c 6 t) (iblk m c 12 t) (iblk m c 18 t) := by dsimp only [dats]
theorem after25 : (dats m 0 c).after 25 t = out25 (iblk m c 0 t) (iblk m c 6 t) (iblk m c 12 t) (iblk m c 18 t) := by dsimp only [dats]
theorem after26 : (dats m 0 c).after 26 t = out26 (iblk m c 0 t) (iblk m c 6 t) (iblk m c 12 t) (iblk m c 18 t) := by dsimp only [dats]
theorem after27 : (dats m 0 c).after 27 t = out27 (iblk m c 0 t) (iblk m c 6 t) (iblk m c 12 t) (iblk m c 18 t) := by dsimp only [dats]
theorem after28 : (dats m 0 c).after 28 t = out28 (iblk m c 1 t) (iblk m c 7 t) (iblk m c 13 t) (iblk m c 19 t) := by dsimp only [dats]
theorem after29 : (dats m 0 c).after 29 t = out29 (iblk m c 1 t) (iblk m c 7 t) (iblk m c 13 t) (iblk m c 19 t) := by dsimp only [dats]
theorem after30 : (dats m 0 c).after 30 t = out30 (iblk m c 1 t) (iblk m c 7 t) (iblk m c 13 t) (iblk m c 19 t) := by dsimp only [dats]
theorem after31 : (dats m 0 c).after 31 t = out31 (iblk m c 1 t) (iblk m c 7 t) (iblk m c 13 t) (iblk m c 19 t) := by dsimp only [dats]
theorem after32 : (dats m 0 c).after 32 t = out32 (iblk m c 2 t) (iblk m c 8 t) (iblk m c 14 t) (iblk m c 20 t) := by dsimp only [dats]
theorem after33 : (dats m 0 c).after 33 t = out33 (iblk m c 2 t) (iblk m c 8 t) (iblk m c 14 t) (iblk m c 20 t) := by dsimp only [dats]
theorem after34 : (dats m 0 c).after 34 t = out34 (iblk m c 2 t) (iblk m c 8 t) (iblk m c 14 t) (iblk m c 20 t) := by dsimp only [dats]
theorem after35 : (dats m 0 c).after 35 t = out35 (iblk m c 2 t) (iblk m c 8 t) (iblk m c 14 t) (iblk m c 20 t) := by dsimp only [dats]
theorem after36 : (dats m 0 c).after 36 t = out36 (iblk m c 3 t) (iblk m c 9 t) (iblk m c 15 t) (iblk m c 21 t) := by dsimp only [dats]
theorem after37 : (dats m 0 c).after 37 t = out37 (iblk m c 3 t) (iblk m c 9 t) (iblk m c 15 t) (iblk m c 21 t) := by dsimp only [dats]
theorem after38 : (dats m 0 c).after 38 t = out38 (iblk m c 3 t) (iblk m c 9 t) (iblk m c 15 t) (iblk m c 21 t) := by dsimp only [dats]
theorem after39 : (dats m 0 c).after 39 t = out39 (iblk m c 3 t) (iblk m c 9 t) (iblk m c 15 t) (iblk m c 21 t) := by dsimp only [dats]
theorem after40 : (dats m 0 c).after 40 t = out40 (iblk m c 4 t) (iblk m c 10 t) (iblk m c 16 t) (iblk m c 22 t) := by dsimp only [dats]
theorem after41 : (dats m 0 c).after 41 t = out41 (iblk m c 4 t) (iblk m c 10 t) (iblk m c 16 t) (iblk m c 22 t) := by dsimp only [dats]
theorem after42 : (dats m 0 c).after 42 t = out42 (iblk m c 4 t) (iblk m c 10 t) (iblk m c 16 t) (iblk m c 22 t) := by dsimp only [dats]
theorem after43 : (dats m 0 c).after 43 t = out43 (iblk m c 4 t) (iblk m c 10 t) (iblk m c 16 t) (iblk m c 22 t) := by dsimp only [dats]
theorem after44 : (dats m 0 c).after 44 t = out44 (iblk m c 5 t) (iblk m c 11 t) (iblk m c 17 t) (iblk m c 23 t) := by dsimp only [dats]
theorem after45 : (dats m 0 c).after 45 t = out45 (iblk m c 5 t) (iblk m c 11 t) (iblk m c 17 t) (iblk m c 23 t) := by dsimp only [dats]
theorem after46 : (dats m 0 c).after 46 t = out46 (iblk m c 5 t) (iblk m c 11 t) (iblk m c 17 t) (iblk m c 23 t) := by dsimp only [dats]
theorem after47 : (dats m 0 c).after 47 t = out47 (iblk m c 5 t) (iblk m c 11 t) (iblk m c 17 t) (iblk m c 23 t) := by dsimp only [dats]

/-! Before the body the buffer of an argument holds its block. -/

theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (d) : (dats m 0 c).before 15 t d = iblk m c 15 t :=
  ((dats m 0 c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)
theorem before16 (d) : (dats m 0 c).before 16 t d = iblk m c 16 t :=
  ((dats m 0 c).before_in_eq_fetched 16 rfl (fun _ => rfl) (fun _ _ _ => rfl) (fun t => by rw [after16]; unfold Dat.blockOf iblk; rw [A_eq]; try rfl) t d).trans
    (by unfold Dat.fetched Dat.blockOf iblk; rw [A_eq]; try rfl)
theorem before17 (d) : (dats m 0 c).before 17 t d = iblk m c 17 t :=
  ((dats m 0 c).before_in_eq_fetched 17 rfl (fun _ => rfl) (fun _ _ _ => rfl) (fun t => by rw [after17]; unfold Dat.blockOf iblk; rw [A_eq]; try rfl) t d).trans
    (by unfold Dat.fetched Dat.blockOf iblk; rw [A_eq]; try rfl)
theorem before18 (d) : (dats m 0 c).before 18 t d = iblk m c 18 t :=
  ((dats m 0 c).before_in_eq_fetched 18 rfl (fun _ => rfl) (fun _ _ _ => rfl) (fun t => by rw [after18]; unfold Dat.blockOf iblk; rw [A_eq]; try rfl) t d).trans
    (by unfold Dat.fetched Dat.blockOf iblk; rw [A_eq]; try rfl)
theorem before19 (d) : (dats m 0 c).before 19 t d = iblk m c 19 t :=
  ((dats m 0 c).before_in_eq_fetched 19 rfl (fun _ => rfl) (fun _ _ _ => rfl) (fun t => by rw [after19]; unfold Dat.blockOf iblk; rw [A_eq]; try rfl) t d).trans
    (by unfold Dat.fetched Dat.blockOf iblk; rw [A_eq]; try rfl)
theorem before20 (d) : (dats m 0 c).before 20 t d = iblk m c 20 t :=
  ((dats m 0 c).before_in_eq_fetched 20 rfl (fun _ => rfl) (fun _ _ _ => rfl) (fun t => by rw [after20]; unfold Dat.blockOf iblk; rw [A_eq]; try rfl) t d).trans
    (by unfold Dat.fetched Dat.blockOf iblk; rw [A_eq]; try rfl)
theorem before21 (d) : (dats m 0 c).before 21 t d = iblk m c 21 t :=
  ((dats m 0 c).before_in_eq_fetched 21 rfl (fun _ => rfl) (fun _ _ _ => rfl) (fun t => by rw [after21]; unfold Dat.blockOf iblk; rw [A_eq]; try rfl) t d).trans
    (by unfold Dat.fetched Dat.blockOf iblk; rw [A_eq]; try rfl)
theorem before22 (d) : (dats m 0 c).before 22 t d = iblk m c 22 t :=
  ((dats m 0 c).before_in_eq_fetched 22 rfl (fun _ => rfl) (fun _ _ _ => rfl) (fun t => by rw [after22]; unfold Dat.blockOf iblk; rw [A_eq]; try rfl) t d).trans
    (by unfold Dat.fetched Dat.blockOf iblk; rw [A_eq]; try rfl)
theorem before23 (d) : (dats m 0 c).before 23 t d = iblk m c 23 t :=
  ((dats m 0 c).before_in_eq_fetched 23 rfl (fun _ => rfl) (fun _ _ _ => rfl) (fun t => by rw [after23]; unfold Dat.blockOf iblk; rw [A_eq]; try rfl) t d).trans
    (by unfold Dat.fetched Dat.blockOf iblk; rw [A_eq]; try rfl)

/-- What the body finds. -/
def found : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d)))

/-- What the body leaves. -/
def leaves : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t))

/-- The body at its point. -/
theorem at_point : found m c t ⊢ wp frame (wpE (defs₀ (F := F)) Variants.none c none) Set.univ (bodyAt0 t) (fun _ => leaves m c t) := by
  unfold found leaves bodyAt0
  simp only [before0, before1, before2, before3, before4, before5, before6, before7, before8, before9, before10, before11, before12, before13, before14, before15, before16, before17, before18, before19, before20, before21, before22, before23]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28, after29, after30, after31, after32, after33, after34, after35, after36, after37, after38, after39, after40, after41, after42, after43, after44, after45, after46, after47]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩⟩
  iapply (body c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  iexact H47

theorem row : defs₀ (F := F) .tc cfg0.body (cfg0.bodyArgs t (cfg0.slots t)) = bodyAt0 t := by
  unfold defs₀; rw [Defs.onTc_tc]

/-- The body at every point, as the run asks for it. -/
theorem every : BodyObligation (dats (F := F) m 0 c) (defs₀ (F := F)) Variants.none () Set.univ := fun t => by
  rw [bigSep_W0, bigSep_W0, row]
  exact triple_restated (at_point m c t) rfl .rfl fun _ => .rfl

set_option backward.isDefEq.respectTransparency.types false in
/-- The call runs; it ends with every array at what its blocks make of it and every semaphore at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (every m c).loose) (hshare := fun c => (dats m 0 c).share_full fun _ => rfl)
    (howed := fun _ _ => rfl) (V := V m) (hmain := hmain m Variants.none) (hA := A_eq m) (hΦ := fun _ _ => rfl)

/-- An argument ends as it began. -/
theorem keep {r : PUnit × MemSt nD τ sig (Elt F)} (h : Pipeline.FramePost cfgs (dats m) 0 (V m) r) (w : Fin cfg0.W) (hw : (cfg0.win w).isOut = false) :
    r.2.mem ((c : Thread nD τ).loc (Pipeline.arrRef spec0 w)) = m ((c : Thread nD τ).loc (Pipeline.arrRef spec0 w)) :=
  ((h c).1 w).trans (((dats m 0 c).arrAt_in w hw _).trans (A_eq m c w))

/-- The call over extended reals runs, its arguments end unchanged, every semaphore ends at zero. -/
theorem frameIdeal : quiescent_AdamEarlyIdeal (hAdamEarlyIdeal := Cert.AdamEarlyIdeal.Gen.facts) := fun m g _ =>
  (θ_run _ _ _).mono (fun r h => ⟨fun c => by
    have k := keep m c h.1
    exact ⟨k 0 rfl, k 1 rfl, k 2 rfl, k 3 rfl, k 4 rfl, k 5 rfl, k 6 rfl, k 7 rfl, k 8 rfl, k 9 rfl, k 10 rfl, k 11 rfl, k 12 rfl, k 13 rfl, k 14 rfl, k 15 rfl, k 16 rfl, k 17 rfl, k 18 rfl, k 19 rfl, k 20 rfl, k 21 rfl, k 22 rfl, k 23 rfl⟩, h.2⟩) (run m g)

/-! The call at words: no operation differs between the two programs, so they are one program and the run above is its run too. -/

attribute [local instance] Cert.AdamEarly.Gen.facts

theorem same_body (a0 h0) (a1 h1) (a2 h2) (a3 h3) (a4 h4) (a5 h5) (a6 h6) (a7 h7) (a8 h8) (a9 h9) (a10 h10) (a11 h11) (a12 h12) (a13 h13) (a14 h14) (a15 h15) (a16 h16) (a17 h17) (a18 h18) (a19 h19) (a20 h20) (a21 h21) (a22 h22) (a23 h23) (a24 h24) (a25 h25) (a26 h26) (a27 h27) (a28 h28) (a29 h29) (a30 h30) (a31 h31) (a32 h32) (a33 h33) (a34 h34) (a35 h35) (a36 h36) (a37 h37) (a38 h38) (a39 h39) (a40 h40) (a41 h41) (a42 h42) (a43 h43) (a44 h44) (a45 h45) (a46 h46) (a47 h47) :
    @Cert.AdamEarly.cc0_adamw_small_early Bits _ _ a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47
      = @Cert.AdamEarlyIdeal.cc0_adamw_small_early Bits _ _ a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 := rfl

set_option maxHeartbeats 20000000 in
theorem same_table : @Cert.AdamEarly.defs₀ Bits _ _
    = (@Cert.AdamEarlyIdeal.defs₀ Bits _ _ : Defs Cert.AdamEarly.nD Cert.AdamEarly.τ Cert.AdamEarly.sig (Elt Bits) Cert.AdamEarly.Λ₀) := by
  unfold Cert.AdamEarly.defs₀ Cert.AdamEarlyIdeal.defs₀
  refine congrArg (Defs.onTc (nD := Cert.AdamEarly.nD) (τ := Cert.AdamEarly.τ) (sig := Cert.AdamEarly.sig) (Val := Elt Bits) (Λ := Cert.AdamEarly.Λ₀)) ?_
  funext l x
  match l, x with
  | 0, (t, s) => exact same_body _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  | ⟨_ + 1, h⟩, _ => exact absurd h (Nat.not_lt.2 (Nat.le_add_left _ _))

theorem same_defs : @Cert.AdamEarly.defs Bits _ _ = @Cert.AdamEarlyIdeal.defs Bits _ _ :=
  congrArg (Pipeline.defs Cert.AdamEarly.pcfgs) same_table

/-- The call at words runs, its arguments end unchanged, every semaphore ends at zero. -/
theorem frame : quiescent_AdamEarly (hAdamEarly := Cert.AdamEarly.Gen.facts) := fun m g _ => by
  rw [same_defs]
  exact (θ_run _ _ _).mono (fun r h => ⟨fun c => by
    have k := keep (F := Bits) m c h.1
    exact ⟨k 0 rfl, k 1 rfl, k 2 rfl, k 3 rfl, k 4 rfl, k 5 rfl, k 6 rfl, k 7 rfl, k 8 rfl, k 9 rfl, k 10 rfl, k 11 rfl, k 12 rfl, k 13 rfl, k 14 rfl, k 15 rfl, k 16 rfl, k 17 rfl, k 18 rfl, k 19 rfl, k 20 rfl, k 21 rfl, k 22 rfl, k 23 rfl⟩, h.2⟩) (run (F := Bits) m g)

end Cert.Early
-- ==== Proof.AdamEarly.lean ====
module
public import proofs.«01_k».proof.Proof.EarlyRun
public import proofs.«01_k».proof.Proof.Gen.AdamEarlyRefIdeal.Read
public import Idealize.ShloMosaic.Lib.Pipeline.ValueKit
public import Idealize.ShloMosaic.Lib.StableHlo.ReadAt
public import proofs.«01_k».proof.Proof.Adam

@[expose] public section

set_option maxRecDepth 16384

noncomputable section

namespace Cert.Early

open Idealize.ShloMosaic Idealize.ShloMosaic.TcCoe Cert.AdamEarlyIdeal Cert.AdamEarlyIdeal.Gen Cert.AdamEarlyRefIdeal.Read

/-- An index of a matrix is a row and a column. -/
theorem ex2 {n k : ℕ} (y : (⟨2, ![n, k]⟩ : Shape).Idx) : ∃ (p : Fin n) (q : Fin k), y = ix2 p q := ⟨y 0, y 1, eq_ix2 y⟩

/-- The change of every weight of an array. -/
def steps {S : Shape} (g w a b : S.Idx → EReal) (y : S.Idx) : EReal := Adam.step (g y) (w y) (a y) (b y)

/-- Every new first moment of an array. -/
def moms {S : Shape} (g a : S.Idx → EReal) (y : S.Idx) : EReal := Adam.mom (g y) (a y)

/-- Every new second moment of an array. -/
def secs {S : Shape} (g b : S.Idx → EReal) (y : S.Idx) : EReal := Adam.sec (g y) (b y)

variable (m : (ℓ : Loc nD τ sig) → Buf (Elt Ideal) ℓ) (c : Dev nD) (t : Fin cfg0.N)

/-- What an argument holds. -/
abbrev arg (r : Ref sig .tc) := m ((c : Thread nD τ).loc r)

/-! The call's one point reads the whole of every argument and writes the whole of every result. -/

theorem in0 : (iblk m c 0 t : S8x1x2048.Idx → EReal) = arg m c main_arg0 := by
  funext y
  blk_ext [iblk, Early.V, (by decide +kernel : ∀ t : Fin grid0.N, win0_0.index t = ![0, 0, 0]) t]
theorem in1 : (iblk m c 1 t : S8x1x2048.Idx → EReal) = arg m c main_arg1 := by
  funext y
  blk_ext [iblk, Early.V, (by decide +kernel : ∀ t : Fin grid0.N, win0_1.index t = ![0, 0, 0]) t]
theorem in2 : (iblk m c 2 t : S8x1024x128.Idx → EReal) = arg m c main_arg2 := by
  funext y
  blk_ext [iblk, Early.V, (by decide +kernel : ∀ t : Fin grid0.N, win0_2.index t = ![0, 0, 0]) t]
theorem in3 : (iblk m c 3 t : S8x8x128.Idx → EReal) = arg m c main_arg3 := by
  funext y
  blk_ext [iblk, Early.V, (by decide +kernel : ∀ t : Fin grid0.N, win0_3.index t = ![0, 0, 0]) t]
theorem in4 : (iblk m c 4 t : S8x2x2048.Idx → EReal) = arg m c main_arg4 := by
  funext y
  blk_ext [iblk, Early.V, (by decide +kernel : ∀ t : Fin grid0.N, win0_4.index t = ![0, 0, 0]) t]
theorem in5 : (iblk m c 5 t : S8x1x128.Idx → EReal) = arg m c main_arg5 := by
  funext y
  blk_ext [iblk, Early.V, (by decide +kernel : ∀ t : Fin grid0.N, win0_5.index t = ![0, 0, 0]) t]
theorem in6 : (iblk m c 6 t : S1x2048.Idx → EReal) = arg m c main_arg6 := by
  funext y
  blk_ext [iblk, Early.V, (by decide +kernel : ∀ t : Fin grid0.N, win0_6.index t = ![0, 0]) t]
theorem in7 : (iblk m c 7 t : S1x2048.Idx → EReal) = arg m c main_arg7 := by
  funext y
  blk_ext [iblk, Early.V, (by decide +kernel : ∀ t : Fin grid0.N, win0_7.index t = ![0, 0]) t]
theorem in8 : (iblk m c 8 t : S1024x128.Idx → EReal) = arg m c main_arg8 := by
  funext y
  blk_ext [iblk, Early.V, (by decide +kernel : ∀ t : Fin grid0.N, win0_8.index t = ![0, 0]) t]
theorem in9 : (iblk m c 9 t : S8x128.Idx → EReal) = arg m c main_arg9 := by
  funext y
  blk_ext [iblk, Early.V, (by decide +kernel : ∀ t : Fin grid0.N, win0_9.index t = ![0, 0]) t]
theorem in10 : (iblk m c 10 t : S2x2048.Idx → EReal) = arg m c main_arg10 := by
  funext y
  blk_ext [iblk, Early.V, (by decide +kernel : ∀ t : Fin grid0.N, win0_10.index t = ![0, 0]) t]
theorem in11 : (iblk m c 11 t : S1x128.Idx → EReal) = arg m c main_arg11 := by
  funext y
  blk_ext [iblk, Early.V, (by decide +kernel : ∀ t : Fin grid0.N, win0_11.index t = ![0, 0]) t]
theorem in12 : (iblk m c 12 t : S1x2048.Idx → EReal) = arg m c main_arg12 := by
  funext y
  blk_ext [iblk, Early.V, (by decide +kernel : ∀ t : Fin grid0.N, win0_12.index t = ![0, 0]) t]
theorem in13 : (iblk m c 13 t : S1x2048.Idx → EReal) = arg m c main_arg13 := by
  funext y
  blk_ext [iblk, Early.V, (by decide +kernel : ∀ t : Fin grid0.N, win0_13.index t = ![0, 0]) t]
theorem in14 : (iblk m c 14 t : S1024x128.Idx → EReal) = arg m c main_arg14 := by
  funext y
  blk_ext [iblk, Early.V, (by decide +kernel : ∀ t : Fin grid0.N, win0_14.index t = ![0, 0]) t]
theorem in15 : (iblk m c 15 t : S8x128.Idx → EReal) = arg m c main_arg15 := by
  funext y
  blk_ext [iblk, Early.V, (by decide +kernel : ∀ t : Fin grid0.N, win0_15.index t = ![0, 0]) t]
theorem in16 : (iblk m c 16 t : S2x2048.Idx → EReal) = arg m c main_arg16 := by
  funext y
  blk_ext [iblk, Early.V, (by decide +kernel : ∀ t : Fin grid0.N, win0_16.index t = ![0, 0]) t]
theorem in17 : (iblk m c 17 t : S1x128.Idx → EReal) = arg m c main_arg17 := by
  funext y
  blk_ext [iblk, Early.V, (by decide +kernel : ∀ t : Fin grid0.N, win0_17.index t = ![0, 0]) t]
theorem in18 : (iblk m c 18 t : S1x2048.Idx → EReal) = arg m c main_arg18 := by
  funext y
  blk_ext [iblk, Early.V, (by decide +kernel : ∀ t : Fin grid0.N, win0_18.index t = ![0, 0]) t]
theorem in19 : (iblk m c 19 t : S1x2048.Idx → EReal) = arg m c main_arg19 := by
  funext y
  blk_ext [iblk, Early.V, (by decide +kernel : ∀ t : Fin grid0.N, win0_19.index t = ![0, 0]) t]
theorem in20 : (iblk m c 20 t : S1024x128.Idx → EReal) = arg m c main_arg20 := by
  funext y
  blk_ext [iblk, Early.V, (by decide +kernel : ∀ t : Fin grid0.N, win0_20.index t = ![0, 0]) t]
theorem in21 : (iblk m c 21 t : S8x128.Idx → EReal) = arg m c main_arg21 := by
  funext y
  blk_ext [iblk, Early.V, (by decide +kernel : ∀ t : Fin grid0.N, win0_21.index t = ![0, 0]) t]
theorem in22 : (iblk m c 22 t : S2x2048.Idx → EReal) = arg m c main_arg22 := by
  funext y
  blk_ext [iblk, Early.V, (by decide +kernel : ∀ t : Fin grid0.N, win0_22.index t = ![0, 0]) t]
theorem in23 : (iblk m c 23 t : S1x128.Idx → EReal) = arg m c main_arg23 := by
  funext y
  blk_ext [iblk, Early.V, (by decide +kernel : ∀ t : Fin grid0.N, win0_23.index t = ![0, 0]) t]
theorem to24 (y : S1x2048.Idx) : (win0_24.blk t).view.emb y = y := by
  funext a
  fin_cases a <;> exact Fin.ext (by simp [(by decide +kernel : ∀ t : Fin grid0.N, win0_24.index t = ![0, 0]) t])
theorem to25 (y : S1x2048.Idx) : (win0_25.blk t).view.emb y = y := by
  funext a
  fin_cases a <;> exact Fin.ext (by simp [(by decide +kernel : ∀ t : Fin grid0.N, win0_25.index t = ![0, 0]) t])
theorem to26 (y : S1x2048.Idx) : (win0_26.blk t).view.emb y = y := by
  funext a
  fin_cases a <;> exact Fin.ext (by simp [(by decide +kernel : ∀ t : Fin grid0.N, win0_26.index t = ![0, 0]) t])
theorem to27 (y : S1x2048.Idx) : (win0_27.blk t).view.emb y = y := by
  funext a
  fin_cases a <;> exact Fin.ext (by simp [(by decide +kernel : ∀ t : Fin grid0.N, win0_27.index t = ![0, 0]) t])
theorem to28 (y : S1x2048.Idx) : (win0_28.blk t).view.emb y = y := by
  funext a
  fin_cases a <;> exact Fin.ext (by simp [(by decide +kernel : ∀ t : Fin grid0.N, win0_28.index t = ![0, 0]) t])
theorem to29 (y : S1x2048.Idx) : (win0_29.blk t).view.emb y = y := by
  funext a
  fin_cases a <;> exact Fin.ext (by simp [(by decide +kernel : ∀ t : Fin grid0.N, win0_29.index t = ![0, 0]) t])
theorem to30 (y : S1x2048.Idx) : (win0_30.blk t).view.emb y = y := by
  funext a
  fin_cases a <;> exact Fin.ext (by simp [(by decide +kernel : ∀ t : Fin grid0.N, win0_30.index t = ![0, 0]) t])
theorem to31 (y : S1x2048.Idx) : (win0_31.blk t).view.emb y = y := by
  funext a
  fin_cases a <;> exact Fin.ext (by simp [(by decide +kernel : ∀ t : Fin grid0.N, win0_31.index t = ![0, 0]) t])
theorem to32 (y : S1024x128.Idx) : (win0_32.blk t).view.emb y = y := by
  funext a
  fin_cases a <;> exact Fin.ext (by simp [(by decide +kernel : ∀ t : Fin grid0.N, win0_32.index t = ![0, 0]) t])
theorem to33 (y : S1024x128.Idx) : (win0_33.blk t).view.emb y = y := by
  funext a
  fin_cases a <;> exact Fin.ext (by simp [(by decide +kernel : ∀ t : Fin grid0.N, win0_33.index t = ![0, 0]) t])
theorem to34 (y : S1024x128.Idx) : (win0_34.blk t).view.emb y = y := by
  funext a
  fin_cases a <;> exact Fin.ext (by simp [(by decide +kernel : ∀ t : Fin grid0.N, win0_34.index t = ![0, 0]) t])
theorem to35 (y : S1024x128.Idx) : (win0_35.blk t).view.emb y = y := by
  funext a
  fin_cases a <;> exact Fin.ext (by simp [(by decide +kernel : ∀ t : Fin grid0.N, win0_35.index t = ![0, 0]) t])
theorem to36 (y : S8x128.Idx) : (win0_36.blk t).view.emb y = y := by
  funext a
  fin_cases a <;> exact Fin.ext (by simp [(by decide +kernel : ∀ t : Fin grid0.N, win0_36.index t = ![0, 0]) t])
theorem to37 (y : S8x128.Idx) : (win0_37.blk t).view.emb y = y := by
  funext a
  fin_cases a <;> exact Fin.ext (by simp [(by decide +kernel : ∀ t : Fin grid0.N, win0_37.index t = ![0, 0]) t])
theorem to38 (y : S8x128.Idx) : (win0_38.blk t).view.emb y = y := by
  funext a
  fin_cases a <;> exact Fin.ext (by simp [(by decide +kernel : ∀ t : Fin grid0.N, win0_38.index t = ![0, 0]) t])
theorem to39 (y : S8x128.Idx) : (win0_39.blk t).view.emb y = y := by
  funext a
  fin_cases a <;> exact Fin.ext (by simp [(by decide +kernel : ∀ t : Fin grid0.N, win0_39.index t = ![0, 0]) t])
theorem to40 (y : S2x2048.Idx) : (win0_40.blk t).view.emb y = y := by
  funext a
  fin_cases a <;> exact Fin.ext (by simp [(by decide +kernel : ∀ t : Fin grid0.N, win0_40.index t = ![0, 0]) t])
theorem to41 (y : S2x2048.Idx) : (win0_41.blk t).view.emb y = y := by
  funext a
  fin_cases a <;> exact Fin.ext (by simp [(by decide +kernel : ∀ t : Fin grid0.N, win0_41.index t = ![0, 0]) t])
theorem to42 (y : S2x2048.Idx) : (win0_42.blk t).view.emb y = y := by
  funext a
  fin_cases a <;> exact Fin.ext (by simp [(by decide +kernel : ∀ t : Fin grid0.N, win0_42.index t = ![0, 0]) t])
theorem to43 (y : S2x2048.Idx) : (win0_43.blk t).view.emb y = y := by
  funext a
  fin_cases a <;> exact Fin.ext (by simp [(by decide +kernel : ∀ t : Fin grid0.N, win0_43.index t = ![0, 0]) t])
theorem to44 (y : S1x128.Idx) : (win0_44.blk t).view.emb y = y := by
  funext a
  fin_cases a <;> exact Fin.ext (by simp [(by decide +kernel : ∀ t : Fin grid0.N, win0_44.index t = ![0, 0]) t])
theorem to45 (y : S1x128.Idx) : (win0_45.blk t).view.emb y = y := by
  funext a
  fin_cases a <;> exact Fin.ext (by simp [(by decide +kernel : ∀ t : Fin grid0.N, win0_45.index t = ![0, 0]) t])
theorem to46 (y : S1x128.Idx) : (win0_46.blk t).view.emb y = y := by
  funext a
  fin_cases a <;> exact Fin.ext (by simp [(by decide +kernel : ∀ t : Fin grid0.N, win0_46.index t = ![0, 0]) t])
theorem to47 (y : S1x128.Idx) : (win0_47.blk t).view.emb y = y := by
  funext a
  fin_cases a <;> exact Fin.ext (by simp [(by decide +kernel : ∀ t : Fin grid0.N, win0_47.index t = ![0, 0]) t])

/-! The first parameter: what the call leaves, and what the reference computes. -/

section

variable (x : Vec Ideal S8x1x2048 .f32) (w a b : Vec Ideal S1x2048 .f32)

/-- The gradient: the sum of the eight parts. -/
def g0 (x : S8x1x2048.Idx → EReal) (y : S1x2048.Idx) : EReal := ∑ i : Fin 8, x (ix3 i (y 0) (y 1))

theorem block24 : out24 x w a b = g0 x := by
  funext y
  obtain ⟨p, q, rfl⟩ := ex2 y
  obtain rfl : p = 0 := Subsingleton.elim _ _
  unfold out24
  rw [View.canon_unit_zero (by decide)]
  pointwise [k0_pay2]
  unfold g0
  rw [← Adam.sum8_eq]
  rfl

theorem left24 : (dats m 0 c).arrAt 24 cfg0.N = g0 (arg m c main_arg0) := by
  refine (dats m 0 c).arrAt_eq_of_covers 24 (g0 (arg m c main_arg0)) (by decide +kernel) fun t hf y => ?_
  blk_simp
  rw [after24, block24, to24 t y, in0]

theorem ref24 : val_main_v0 (F := Ideal) x = g0 x := by
  funext y
  obtain ⟨p, q, rfl⟩ := ex2 y
  obtain rfl : p = 0 := Subsingleton.elim _ _
  pointwise [val_main_v0, val_main_cst]
  rfl

theorem block25 : out25 x w a b = steps (g0 x) w a b := by
  funext y
  obtain ⟨p, q, rfl⟩ := ex2 y
  obtain rfl : p = 0 := Subsingleton.elim _ _
  unfold out25
  rw [View.canon_unit_zero (by decide)]
  pointwise [k0_pay5, k0_pay2, k0_pay3, k0_pay4]
  unfold steps g0
  rw [← Adam.sum8_eq]
  rfl

theorem left25 : (dats m 0 c).arrAt 25 cfg0.N = steps (g0 (arg m c main_arg0)) (arg m c main_arg6) (arg m c main_arg12) (arg m c main_arg18) := by
  refine (dats m 0 c).arrAt_eq_of_covers 25 (steps (g0 (arg m c main_arg0)) (arg m c main_arg6) (arg m c main_arg12) (arg m c main_arg18)) (by decide +kernel) fun t hf y => ?_
  blk_simp
  rw [after25, block25, to25 t y, in0, in6, in12, in18]

theorem ref25 : val_main_v24 (F := Ideal) x w a b = steps (g0 x) w a b := by
  funext y
  obtain ⟨p, q, rfl⟩ := ex2 y
  obtain rfl : p = 0 := Subsingleton.elim _ _
  pointwise [val_main_v24, val_main_v23, val_main_v22, val_main_v19, val_main_v21, val_main_v20, val_main_cst_7, val_main_v13, val_main_v18, val_main_v16, val_main_v17, val_main_cst_6, val_main_v15, val_main_v11, val_main_v14, val_main_cst_5, val_main_v7, val_main_v10, val_main_v9, val_main_v8, val_main_v0, val_main_cst, val_main_cst_3, val_main_v6, val_main_cst_2, val_main_v5, val_main_v12, val_main_cst_4, val_main_v2, val_main_v4, val_main_v3, val_main_cst_1, val_main_v1, val_main_cst_0, val_main_cst_8]
  rfl

theorem block26 : out26 x w a b = moms (g0 x) a := by
  funext y
  obtain ⟨p, q, rfl⟩ := ex2 y
  obtain rfl : p = 0 := Subsingleton.elim _ _
  unfold out26
  rw [View.canon_unit_zero (by decide)]
  pointwise [k0_pay3, k0_pay2]
  unfold moms g0
  rw [← Adam.sum8_eq]
  rfl

theorem left26 : (dats m 0 c).arrAt 26 cfg0.N = moms (g0 (arg m c main_arg0)) (arg m c main_arg12) := by
  refine (dats m 0 c).arrAt_eq_of_covers 26 (moms (g0 (arg m c main_arg0)) (arg m c main_arg12)) (by decide +kernel) fun t hf y => ?_
  blk_simp
  rw [after26, block26, to26 t y, in0, in12]

theorem ref26 : val_main_v5 (F := Ideal) x a = moms (g0 x) a := by
  funext y
  obtain ⟨p, q, rfl⟩ := ex2 y
  obtain rfl : p = 0 := Subsingleton.elim _ _
  pointwise [val_main_v5, val_main_v2, val_main_v4, val_main_v3, val_main_v0, val_main_cst, val_main_cst_1, val_main_v1, val_main_cst_0]
  rfl

theorem block27 : out27 x w a b = secs (g0 x) b := by
  funext y
  obtain ⟨p, q, rfl⟩ := ex2 y
  obtain rfl : p = 0 := Subsingleton.elim _ _
  unfold out27
  rw [View.canon_unit_zero (by decide)]
  pointwise [k0_pay4, k0_pay2]
  unfold secs g0
  rw [← Adam.sum8_eq]
  rfl

theorem left27 : (dats m 0 c).arrAt 27 cfg0.N = secs (g0 (arg m c main_arg0)) (arg m c main_arg18) := by
  refine (dats m 0 c).arrAt_eq_of_covers 27 (secs (g0 (arg m c main_arg0)) (arg m c main_arg18)) (by decide +kernel) fun t hf y => ?_
  blk_simp
  rw [after27, block27, to27 t y, in0, in18]

theorem ref27 : val_main_v11 (F := Ideal) x b = secs (g0 x) b := by
  funext y
  obtain ⟨p, q, rfl⟩ := ex2 y
  obtain rfl : p = 0 := Subsingleton.elim _ _
  pointwise [val_main_v11, val_main_v7, val_main_v10, val_main_v9, val_main_v8, val_main_v0, val_main_cst, val_main_cst_3, val_main_v6, val_main_cst_2]
  rfl

end

/-! The second parameter: what the call leaves, and what the reference computes. -/

section

variable (x : Vec Ideal S8x1x2048 .f32) (w a b : Vec Ideal S1x2048 .f32)

/-- The gradient: the sum of the eight parts. -/
def g1 (x : S8x1x2048.Idx → EReal) (y : S1x2048.Idx) : EReal := ∑ i : Fin 8, x (ix3 i (y 0) (y 1))

theorem block28 : out28 x w a b = g1 x := by
  funext y
  obtain ⟨p, q, rfl⟩ := ex2 y
  obtain rfl : p = 0 := Subsingleton.elim _ _
  unfold out28
  rw [View.canon_unit_zero (by decide)]
  pointwise [k0_pay7, k0_pay6]
  unfold g1
  rw [← Adam.sum8_eq]
  rfl

theorem left28 : (dats m 0 c).arrAt 28 cfg0.N = g1 (arg m c main_arg1) := by
  refine (dats m 0 c).arrAt_eq_of_covers 28 (g1 (arg m c main_arg1)) (by decide +kernel) fun t hf y => ?_
  blk_simp
  rw [after28, block28, to28 t y, in1]

theorem ref28 : val_main_v25 (F := Ideal) x = g1 x := by
  funext y
  obtain ⟨p, q, rfl⟩ := ex2 y
  obtain rfl : p = 0 := Subsingleton.elim _ _
  pointwise [val_main_v25, val_main_cst_9]
  rfl

theorem block29 : out29 x w a b = steps (g1 x) w a b := by
  funext y
  obtain ⟨p, q, rfl⟩ := ex2 y
  obtain rfl : p = 0 := Subsingleton.elim _ _
  unfold out29
  rw [View.canon_unit_zero (by decide)]
  pointwise [k0_pay11, k0_pay9, k0_pay6, k0_pay10, k0_pay8, k0_pay7]
  unfold steps g1
  rw [← Adam.sum8_eq]
  rfl

theorem left29 : (dats m 0 c).arrAt 29 cfg0.N = steps (g1 (arg m c main_arg1)) (arg m c main_arg7) (arg m c main_arg13) (arg m c main_arg19) := by
  refine (dats m 0 c).arrAt_eq_of_covers 29 (steps (g1 (arg m c main_arg1)) (arg m c main_arg7) (arg m c main_arg13) (arg m c main_arg19)) (by decide +kernel) fun t hf y => ?_
  blk_simp
  rw [after29, block29, to29 t y, in1, in7, in13, in19]

theorem ref29 : val_main_v49 (F := Ideal) x w a b = steps (g1 x) w a b := by
  funext y
  obtain ⟨p, q, rfl⟩ := ex2 y
  obtain rfl : p = 0 := Subsingleton.elim _ _
  pointwise [val_main_v49, val_main_v48, val_main_v47, val_main_v44, val_main_v46, val_main_v45, val_main_cst_17, val_main_v38, val_main_v43, val_main_v41, val_main_v42, val_main_cst_16, val_main_v40, val_main_v36, val_main_v39, val_main_cst_15, val_main_v32, val_main_v35, val_main_v34, val_main_v33, val_main_v25, val_main_cst_9, val_main_cst_13, val_main_v31, val_main_cst_12, val_main_v30, val_main_v37, val_main_cst_14, val_main_v27, val_main_v29, val_main_v28, val_main_cst_11, val_main_v26, val_main_cst_10, val_main_cst_18]
  rfl

theorem block30 : out30 x w a b = moms (g1 x) a := by
  funext y
  obtain ⟨p, q, rfl⟩ := ex2 y
  obtain rfl : p = 0 := Subsingleton.elim _ _
  unfold out30
  rw [View.canon_unit_zero (by decide)]
  pointwise [k0_pay8, k0_pay6, k0_pay7]
  unfold moms g1
  rw [← Adam.sum8_eq]
  rfl

theorem left30 : (dats m 0 c).arrAt 30 cfg0.N = moms (g1 (arg m c main_arg1)) (arg m c main_arg13) := by
  refine (dats m 0 c).arrAt_eq_of_covers 30 (moms (g1 (arg m c main_arg1)) (arg m c main_arg13)) (by decide +kernel) fun t hf y => ?_
  blk_simp
  rw [after30, block30, to30 t y, in1, in13]

theorem ref30 : val_main_v30 (F := Ideal) x a = moms (g1 x) a := by
  funext y
  obtain ⟨p, q, rfl⟩ := ex2 y
  obtain rfl : p = 0 := Subsingleton.elim _ _
  pointwise [val_main_v30, val_main_v27, val_main_v29, val_main_v28, val_main_v25, val_main_cst_9, val_main_cst_11, val_main_v26, val_main_cst_10]
  rfl

theorem block31 : out31 x w a b = secs (g1 x) b := by
  funext y
  obtain ⟨p, q, rfl⟩ := ex2 y
  obtain rfl : p = 0 := Subsingleton.elim _ _
  unfold out31
  rw [View.canon_unit_zero (by decide)]
  pointwise [k0_pay9, k0_pay6, k0_pay7]
  unfold secs g1
  rw [← Adam.sum8_eq]
  rfl

theorem left31 : (dats m 0 c).arrAt 31 cfg0.N = secs (g1 (arg m c main_arg1)) (arg m c main_arg19) := by
  refine (dats m 0 c).arrAt_eq_of_covers 31 (secs (g1 (arg m c main_arg1)) (arg m c main_arg19)) (by decide +kernel) fun t hf y => ?_
  blk_simp
  rw [after31, block31, to31 t y, in1, in19]

theorem ref31 : val_main_v36 (F := Ideal) x b = secs (g1 x) b := by
  funext y
  obtain ⟨p, q, rfl⟩ := ex2 y
  obtain rfl : p = 0 := Subsingleton.elim _ _
  pointwise [val_main_v36, val_main_v32, val_main_v35, val_main_v34, val_main_v33, val_main_v25, val_main_cst_9, val_main_cst_13, val_main_v31, val_main_cst_12]
  rfl

end

/-! The third parameter: what the call leaves, and what the reference computes. -/

section

variable (x : Vec Ideal S8x1024x128 .f32) (w a b : Vec Ideal S1024x128 .f32)

/-- The gradient: the sum of the eight parts. -/
def g2 (x : S8x1024x128.Idx → EReal) (y : S1024x128.Idx) : EReal := ∑ i : Fin 8, x (ix3 i (y 0) (y 1))

theorem block32 : out32 x w a b = g2 x := by
  funext y
  obtain ⟨p, q, rfl⟩ := ex2 y
  unfold out32
  rw [View.canon_unit_zero (by decide)]
  pointwise [k0_pay13, k0_pay12]
  unfold g2
  rw [← Adam.sum8_eq]
  rfl

theorem left32 : (dats m 0 c).arrAt 32 cfg0.N = g2 (arg m c main_arg2) := by
  refine (dats m 0 c).arrAt_eq_of_covers 32 (g2 (arg m c main_arg2)) (by decide +kernel) fun t hf y => ?_
  blk_simp
  rw [after32, block32, to32 t y, in2]

theorem ref32 : val_main_v50 (F := Ideal) x = g2 x := by
  funext y
  obtain ⟨p, q, rfl⟩ := ex2 y
  pointwise [val_main_v50, val_main_cst_19]
  rfl

theorem block33 : out33 x w a b = steps (g2 x) w a b := by
  funext y
  obtain ⟨p, q, rfl⟩ := ex2 y
  unfold out33
  rw [View.canon_unit_zero (by decide)]
  pointwise [k0_pay17, k0_pay16, k0_pay12, k0_pay14, k0_pay15, k0_pay13]
  unfold steps g2
  rw [← Adam.sum8_eq]
  rfl

theorem left33 : (dats m 0 c).arrAt 33 cfg0.N = steps (g2 (arg m c main_arg2)) (arg m c main_arg8) (arg m c main_arg14) (arg m c main_arg20) := by
  refine (dats m 0 c).arrAt_eq_of_covers 33 (steps (g2 (arg m c main_arg2)) (arg m c main_arg8) (arg m c main_arg14) (arg m c main_arg20)) (by decide +kernel) fun t hf y => ?_
  blk_simp
  rw [after33, block33, to33 t y, in2, in8, in14, in20]

theorem ref33 : val_main_v74 (F := Ideal) x w a b = steps (g2 x) w a b := by
  funext y
  obtain ⟨p, q, rfl⟩ := ex2 y
  pointwise [val_main_v74, val_main_v73, val_main_v72, val_main_v69, val_main_v71, val_main_v70, val_main_cst_27, val_main_v63, val_main_v68, val_main_v66, val_main_v67, val_main_cst_26, val_main_v65, val_main_v61, val_main_v64, val_main_cst_25, val_main_v57, val_main_v60, val_main_v59, val_main_v58, val_main_v50, val_main_cst_19, val_main_cst_23, val_main_v56, val_main_cst_22, val_main_v55, val_main_v62, val_main_cst_24, val_main_v52, val_main_v54, val_main_v53, val_main_cst_21, val_main_v51, val_main_cst_20, val_main_cst_28]
  rfl

theorem block34 : out34 x w a b = moms (g2 x) a := by
  funext y
  obtain ⟨p, q, rfl⟩ := ex2 y
  unfold out34
  rw [View.canon_unit_zero (by decide)]
  pointwise [k0_pay14, k0_pay12, k0_pay13]
  unfold moms g2
  rw [← Adam.sum8_eq]
  rfl

theorem left34 : (dats m 0 c).arrAt 34 cfg0.N = moms (g2 (arg m c main_arg2)) (arg m c main_arg14) := by
  refine (dats m 0 c).arrAt_eq_of_covers 34 (moms (g2 (arg m c main_arg2)) (arg m c main_arg14)) (by decide +kernel) fun t hf y => ?_
  blk_simp
  rw [after34, block34, to34 t y, in2, in14]

theorem ref34 : val_main_v55 (F := Ideal) x a = moms (g2 x) a := by
  funext y
  obtain ⟨p, q, rfl⟩ := ex2 y
  pointwise [val_main_v55, val_main_v52, val_main_v54, val_main_v53, val_main_v50, val_main_cst_19, val_main_cst_21, val_main_v51, val_main_cst_20]
  rfl

theorem block35 : out35 x w a b = secs (g2 x) b := by
  funext y
  obtain ⟨p, q, rfl⟩ := ex2 y
  unfold out35
  rw [View.canon_unit_zero (by decide)]
  pointwise [k0_pay15, k0_pay12, k0_pay13]
  unfold secs g2
  rw [← Adam.sum8_eq]
  rfl

theorem left35 : (dats m 0 c).arrAt 35 cfg0.N = secs (g2 (arg m c main_arg2)) (arg m c main_arg20) := by
  refine (dats m 0 c).arrAt_eq_of_covers 35 (secs (g2 (arg m c main_arg2)) (arg m c main_arg20)) (by decide +kernel) fun t hf y => ?_
  blk_simp
  rw [after35, block35, to35 t y, in2, in20]

theorem ref35 : val_main_v61 (F := Ideal) x b = secs (g2 x) b := by
  funext y
  obtain ⟨p, q, rfl⟩ := ex2 y
  pointwise [val_main_v61, val_main_v57, val_main_v60, val_main_v59, val_main_v58, val_main_v50, val_main_cst_19, val_main_cst_23, val_main_v56, val_main_cst_22]
  rfl

end

/-! The fourth parameter: what the call leaves, and what the reference computes. -/

section

variable (x : Vec Ideal S8x8x128 .f32) (w a b : Vec Ideal S8x128 .f32)

/-- The gradient: the sum of the eight parts. -/
def g3 (x : S8x8x128.Idx → EReal) (y : S8x128.Idx) : EReal := ∑ i : Fin 8, x (ix3 i (y 0) (y 1))

theorem block36 : out36 x w a b = g3 x := by
  funext y
  obtain ⟨p, q, rfl⟩ := ex2 y
  unfold out36
  rw [View.canon_unit_zero (by decide)]
  pointwise [k0_pay19, k0_pay18]
  unfold g3
  rw [← Adam.sum8_eq]
  rfl

theorem left36 : (dats m 0 c).arrAt 36 cfg0.N = g3 (arg m c main_arg3) := by
  refine (dats m 0 c).arrAt_eq_of_covers 36 (g3 (arg m c main_arg3)) (by decide +kernel) fun t hf y => ?_
  blk_simp
  rw [after36, block36, to36 t y, in3]

theorem ref36 : val_main_v75 (F := Ideal) x = g3 x := by
  funext y
  obtain ⟨p, q, rfl⟩ := ex2 y
  pointwise [val_main_v75, val_main_cst_29]
  rfl

theorem block37 : out37 x w a b = steps (g3 x) w a b := by
  funext y
  obtain ⟨p, q, rfl⟩ := ex2 y
  unfold out37
  rw [View.canon_unit_zero (by decide)]
  pointwise [k0_pay22, k0_pay18, k0_pay20, k0_pay21, k0_pay19]
  unfold steps g3
  rw [← Adam.sum8_eq]
  rfl

theorem left37 : (dats m 0 c).arrAt 37 cfg0.N = steps (g3 (arg m c main_arg3)) (arg m c main_arg9) (arg m c main_arg15) (arg m c main_arg21) := by
  refine (dats m 0 c).arrAt_eq_of_covers 37 (steps (g3 (arg m c main_arg3)) (arg m c main_arg9) (arg m c main_arg15) (arg m c main_arg21)) (by decide +kernel) fun t hf y => ?_
  blk_simp
  rw [after37, block37, to37 t y, in3, in9, in15, in21]

theorem ref37 : val_main_v99 (F := Ideal) x w a b = steps (g3 x) w a b := by
  funext y
  obtain ⟨p, q, rfl⟩ := ex2 y
  pointwise [val_main_v99, val_main_v98, val_main_v97, val_main_v94, val_main_v96, val_main_v95, val_main_cst_37, val_main_v88, val_main_v93, val_main_v91, val_main_v92, val_main_cst_36, val_main_v90, val_main_v86, val_main_v89, val_main_cst_35, val_main_v82, val_main_v85, val_main_v84, val_main_v83, val_main_v75, val_main_cst_29, val_main_cst_33, val_main_v81, val_main_cst_32, val_main_v80, val_main_v87, val_main_cst_34, val_main_v77, val_main_v79, val_main_v78, val_main_cst_31, val_main_v76, val_main_cst_30, val_main_cst_38]
  rfl

theorem block38 : out38 x w a b = moms (g3 x) a := by
  funext y
  obtain ⟨p, q, rfl⟩ := ex2 y
  unfold out38
  rw [View.canon_unit_zero (by decide)]
  pointwise [k0_pay20, k0_pay18, k0_pay19]
  unfold moms g3
  rw [← Adam.sum8_eq]
  rfl

theorem left38 : (dats m 0 c).arrAt 38 cfg0.N = moms (g3 (arg m c main_arg3)) (arg m c main_arg15) := by
  refine (dats m 0 c).arrAt_eq_of_covers 38 (moms (g3 (arg m c main_arg3)) (arg m c main_arg15)) (by decide +kernel) fun t hf y => ?_
  blk_simp
  rw [after38, block38, to38 t y, in3, in15]

theorem ref38 : val_main_v80 (F := Ideal) x a = moms (g3 x) a := by
  funext y
  obtain ⟨p, q, rfl⟩ := ex2 y
  pointwise [val_main_v80, val_main_v77, val_main_v79, val_main_v78, val_main_v75, val_main_cst_29, val_main_cst_31, val_main_v76, val_main_cst_30]
  rfl

theorem block39 : out39 x w a b = secs (g3 x) b := by
  funext y
  obtain ⟨p, q, rfl⟩ := ex2 y
  unfold out39
  rw [View.canon_unit_zero (by decide)]
  pointwise [k0_pay21, k0_pay18, k0_pay19]
  unfold secs g3
  rw [← Adam.sum8_eq]
  rfl

theorem left39 : (dats m 0 c).arrAt 39 cfg0.N = secs (g3 (arg m c main_arg3)) (arg m c main_arg21) := by
  refine (dats m 0 c).arrAt_eq_of_covers 39 (secs (g3 (arg m c main_arg3)) (arg m c main_arg21)) (by decide +kernel) fun t hf y => ?_
  blk_simp
  rw [after39, block39, to39 t y, in3, in21]

theorem ref39 : val_main_v86 (F := Ideal) x b = secs (g3 x) b := by
  funext y
  obtain ⟨p, q, rfl⟩ := ex2 y
  pointwise [val_main_v86, val_main_v82, val_main_v85, val_main_v84, val_main_v83, val_main_v75, val_main_cst_29, val_main_cst_33, val_main_v81, val_main_cst_32]
  rfl

end

/-! The fifth parameter: what the call leaves, and what the reference computes. -/

section

variable (x : Vec Ideal S8x2x2048 .f32) (w a b : Vec Ideal S2x2048 .f32)

/-- The gradient: the sum of the eight parts. -/
def g4 (x : S8x2x2048.Idx → EReal) (y : S2x2048.Idx) : EReal := ∑ i : Fin 8, x (ix3 i (y 0) (y 1))

theorem block40 : out40 x w a b = g4 x := by
  funext y
  obtain ⟨p, q, rfl⟩ := ex2 y
  unfold out40
  rw [View.canon_unit_zero (by decide)]
  pointwise [k0_pay23]
  unfold g4
  rw [← Adam.sum8_eq]
  rfl

theorem left40 : (dats m 0 c).arrAt 40 cfg0.N = g4 (arg m c main_arg4) := by
  refine (dats m 0 c).arrAt_eq_of_covers 40 (g4 (arg m c main_arg4)) (by decide +kernel) fun t hf y => ?_
  blk_simp
  rw [after40, block40, to40 t y, in4]

theorem ref40 : val_main_v100 (F := Ideal) x = g4 x := by
  funext y
  obtain ⟨p, q, rfl⟩ := ex2 y
  pointwise [val_main_v100, val_main_cst_39]
  rfl

theorem block41 : out41 x w a b = steps (g4 x) w a b := by
  funext y
  obtain ⟨p, q, rfl⟩ := ex2 y
  unfold out41
  rw [View.canon_unit_zero (by decide)]
  pointwise [k0_pay26, k0_pay23, k0_pay24, k0_pay25]
  unfold steps g4
  rw [← Adam.sum8_eq]
  rfl

theorem left41 : (dats m 0 c).arrAt 41 cfg0.N = steps (g4 (arg m c main_arg4)) (arg m c main_arg10) (arg m c main_arg16) (arg m c main_arg22) := by
  refine (dats m 0 c).arrAt_eq_of_covers 41 (steps (g4 (arg m c main_arg4)) (arg m c main_arg10) (arg m c main_arg16) (arg m c main_arg22)) (by decide +kernel) fun t hf y => ?_
  blk_simp
  rw [after41, block41, to41 t y, in4, in10, in16, in22]

theorem ref41 : val_main_v124 (F := Ideal) x w a b = steps (g4 x) w a b := by
  funext y
  obtain ⟨p, q, rfl⟩ := ex2 y
  pointwise [val_main_v124, val_main_v123, val_main_v122, val_main_v119, val_main_v121, val_main_v120, val_main_cst_47, val_main_v113, val_main_v118, val_main_v116, val_main_v117, val_main_cst_46, val_main_v115, val_main_v111, val_main_v114, val_main_cst_45, val_main_v107, val_main_v110, val_main_v109, val_main_v108, val_main_v100, val_main_cst_39, val_main_cst_43, val_main_v106, val_main_cst_42, val_main_v105, val_main_v112, val_main_cst_44, val_main_v102, val_main_v104, val_main_v103, val_main_cst_41, val_main_v101, val_main_cst_40, val_main_cst_48]
  rfl

theorem block42 : out42 x w a b = moms (g4 x) a := by
  funext y
  obtain ⟨p, q, rfl⟩ := ex2 y
  unfold out42
  rw [View.canon_unit_zero (by decide)]
  pointwise [k0_pay24, k0_pay23]
  unfold moms g4
  rw [← Adam.sum8_eq]
  rfl

theorem left42 : (dats m 0 c).arrAt 42 cfg0.N = moms (g4 (arg m c main_arg4)) (arg m c main_arg16) := by
  refine (dats m 0 c).arrAt_eq_of_covers 42 (moms (g4 (arg m c main_arg4)) (arg m c main_arg16)) (by decide +kernel) fun t hf y => ?_
  blk_simp
  rw [after42, block42, to42 t y, in4, in16]

theorem ref42 : val_main_v105 (F := Ideal) x a = moms (g4 x) a := by
  funext y
  obtain ⟨p, q, rfl⟩ := ex2 y
  pointwise [val_main_v105, val_main_v102, val_main_v104, val_main_v103, val_main_v100, val_main_cst_39, val_main_cst_41, val_main_v101, val_main_cst_40]
  rfl

theorem block43 : out43 x w a b = secs (g4 x) b := by
  funext y
  obtain ⟨p, q, rfl⟩ := ex2 y
  unfold out43
  rw [View.canon_unit_zero (by decide)]
  pointwise [k0_pay25, k0_pay23]
  unfold secs g4
  rw [← Adam.sum8_eq]
  rfl

theorem left43 : (dats m 0 c).arrAt 43 cfg0.N = secs (g4 (arg m c main_arg4)) (arg m c main_arg22) := by
  refine (dats m 0 c).arrAt_eq_of_covers 43 (secs (g4 (arg m c main_arg4)) (arg m c main_arg22)) (by decide +kernel) fun t hf y => ?_
  blk_simp
  rw [after43, block43, to43 t y, in4, in22]

theorem ref43 : val_main_v111 (F := Ideal) x b = secs (g4 x) b := by
  funext y
  obtain ⟨p, q, rfl⟩ := ex2 y
  pointwise [val_main_v111, val_main_v107, val_main_v110, val_main_v109, val_main_v108, val_main_v100, val_main_cst_39, val_main_cst_43, val_main_v106, val_main_cst_42]
  rfl

end

/-! The sixth parameter: what the call leaves, and what the reference computes. -/

section

variable (x : Vec Ideal S8x1x128 .f32) (w a b : Vec Ideal S1x128 .f32)

/-- The gradient: the sum of the eight parts. -/
def g5 (x : S8x1x128.Idx → EReal) (y : S1x128.Idx) : EReal := ∑ i : Fin 8, x (ix3 i (y 0) (y 1))

theorem block44 : out44 x w a b = g5 x := by
  funext y
  obtain ⟨p, q, rfl⟩ := ex2 y
  obtain rfl : p = 0 := Subsingleton.elim _ _
  unfold out44
  rw [View.canon_unit_zero (by decide)]
  pointwise [k0_pay28, k0_pay27]
  unfold g5
  rw [← Adam.sum8_eq]
  rfl

theorem left44 : (dats m 0 c).arrAt 44 cfg0.N = g5 (arg m c main_arg5) := by
  refine (dats m 0 c).arrAt_eq_of_covers 44 (g5 (arg m c main_arg5)) (by decide +kernel) fun t hf y => ?_
  blk_simp
  rw [after44, block44, to44 t y, in5]

theorem ref44 : val_main_v125 (F := Ideal) x = g5 x := by
  funext y
  obtain ⟨p, q, rfl⟩ := ex2 y
  obtain rfl : p = 0 := Subsingleton.elim _ _
  pointwise [val_main_v125, val_main_cst_49]
  rfl

theorem block45 : out45 x w a b = steps (g5 x) w a b := by
  funext y
  obtain ⟨p, q, rfl⟩ := ex2 y
  obtain rfl : p = 0 := Subsingleton.elim _ _
  unfold out45
  rw [View.canon_unit_zero (by decide)]
  pointwise [k0_pay1, k0_pay30, k0_pay27, k0_pay31, k0_pay29, k0_pay28]
  unfold steps g5
  rw [← Adam.sum8_eq]
  rfl

theorem left45 : (dats m 0 c).arrAt 45 cfg0.N = steps (g5 (arg m c main_arg5)) (arg m c main_arg11) (arg m c main_arg17) (arg m c main_arg23) := by
  refine (dats m 0 c).arrAt_eq_of_covers 45 (steps (g5 (arg m c main_arg5)) (arg m c main_arg11) (arg m c main_arg17) (arg m c main_arg23)) (by decide +kernel) fun t hf y => ?_
  blk_simp
  rw [after45, block45, to45 t y, in5, in11, in17, in23]

theorem ref45 : val_main_v149 (F := Ideal) x w a b = steps (g5 x) w a b := by
  funext y
  obtain ⟨p, q, rfl⟩ := ex2 y
  obtain rfl : p = 0 := Subsingleton.elim _ _
  pointwise [val_main_v149, val_main_v148, val_main_v147, val_main_v144, val_main_v146, val_main_v145, val_main_cst_57, val_main_v138, val_main_v143, val_main_v141, val_main_v142, val_main_cst_56, val_main_v140, val_main_v136, val_main_v139, val_main_cst_55, val_main_v132, val_main_v135, val_main_v134, val_main_v133, val_main_v125, val_main_cst_49, val_main_cst_53, val_main_v131, val_main_cst_52, val_main_v130, val_main_v137, val_main_cst_54, val_main_v127, val_main_v129, val_main_v128, val_main_cst_51, val_main_v126, val_main_cst_50, val_main_cst_58]
  rfl

theorem block46 : out46 x w a b = moms (g5 x) a := by
  funext y
  obtain ⟨p, q, rfl⟩ := ex2 y
  obtain rfl : p = 0 := Subsingleton.elim _ _
  unfold out46
  rw [View.canon_unit_zero (by decide)]
  pointwise [k0_pay29, k0_pay27, k0_pay28]
  unfold moms g5
  rw [← Adam.sum8_eq]
  rfl

theorem left46 : (dats m 0 c).arrAt 46 cfg0.N = moms (g5 (arg m c main_arg5)) (arg m c main_arg17) := by
  refine (dats m 0 c).arrAt_eq_of_covers 46 (moms (g5 (arg m c main_arg5)) (arg m c main_arg17)) (by decide +kernel) fun t hf y => ?_
  blk_simp
  rw [after46, block46, to46 t y, in5, in17]

theorem ref46 : val_main_v130 (F := Ideal) x a = moms (g5 x) a := by
  funext y
  obtain ⟨p, q, rfl⟩ := ex2 y
  obtain rfl : p = 0 := Subsingleton.elim _ _
  pointwise [val_main_v130, val_main_v127, val_main_v129, val_main_v128, val_main_v125, val_main_cst_49, val_main_cst_51, val_main_v126, val_main_cst_50]
  rfl

theorem block47 : out47 x w a b = secs (g5 x) b := by
  funext y
  obtain ⟨p, q, rfl⟩ := ex2 y
  obtain rfl : p = 0 := Subsingleton.elim _ _
  unfold out47
  rw [View.canon_unit_zero (by decide)]
  pointwise [k0_pay30, k0_pay27, k0_pay28]
  unfold secs g5
  rw [← Adam.sum8_eq]
  rfl

theorem left47 : (dats m 0 c).arrAt 47 cfg0.N = secs (g5 (arg m c main_arg5)) (arg m c main_arg23) := by
  refine (dats m 0 c).arrAt_eq_of_covers 47 (secs (g5 (arg m c main_arg5)) (arg m c main_arg23)) (by decide +kernel) fun t hf y => ?_
  blk_simp
  rw [after47, block47, to47 t y, in5, in23]

theorem ref47 : val_main_v136 (F := Ideal) x b = secs (g5 x) b := by
  funext y
  obtain ⟨p, q, rfl⟩ := ex2 y
  obtain rfl : p = 0 := Subsingleton.elim _ _
  pointwise [val_main_v136, val_main_v132, val_main_v135, val_main_v134, val_main_v133, val_main_v125, val_main_cst_49, val_main_cst_53, val_main_v131, val_main_cst_52]
  rfl

end

end Cert.Early
-- ==== Proof.AdamWaOut.lean ====
module
public import proofs.«01_k».proof.Proof.Gen.AdamWaOut.Frame
public import proofs.«01_k».proof.Proof.Gen.AdamWaOutIdeal.Frame
public import proofs.«01_k».proof.Proof.Gen.AdamWaOutRefIdeal.Read
public import proofs.«01_k».proof.Proof.Gen.Pre_indices_in_range
public import Idealize.ShloMosaic.Lib.Pipeline.ValueKit
public import Idealize.ShloMosaic.Lib.Pipeline.ValueKit.Partial
public import Idealize.ShloMosaic.Lib.StableHlo.ReadAt
public import Idealize.ShloMosaic.Lib.WholeRead
public import proofs.«01_k».proof.Proof.Adam

@[expose] public section

set_option maxRecDepth 16384

noncomputable section

namespace Cert.AdamWaOut

open Idealize.ShloMosaic Idealize.ShloMosaic.TcCoe

/-- A word between zero and a bound, read signed, is below the bound. -/
theorem word_lt (v : BitVec 32) (n : ℕ) (hn : n < 2 ^ 31) (h0 : IntOp.cmpi .sge v 0#32 = 1#1) (h1 : IntOp.cmpi .slt v (BitVec.ofNat 32 n) = 1#1) : v.toNat < n := by
  have one (p : Bool) : (BitVec.ofBool p = 1#1) ↔ p = true := by cases p <;> decide
  simp only [IntOp.cmpi, one, BitVec.sle_eq_decide, BitVec.slt_eq_decide, decide_eq_true_eq, BitVec.toInt_eq_toNat_cond, BitVec.toNat_ofNat] at h0 h1
  have hv := v.isLt
  rw [Nat.mod_eq_of_lt (by omega : n < 2 ^ 32)] at h1
  split at h1 <;> split at h0 <;> simp_all <;> omega

/-- Each index names a part of its array. -/
def Named (t : IVec Cert.AdamWaOut.S5 32) : Prop :=
  (t (ix1 (0 : Fin 5))).toNat < 8 ∧ (t (ix1 (1 : Fin 5))).toNat < 4 ∧ (t (ix1 (2 : Fin 5))).toNat < 3 ∧ (t (ix1 (3 : Fin 5))).toNat < 3 ∧ (t (ix1 (4 : Fin 5))).toNat < 3

/-- What the precondition says of the indices. -/
theorem named {F : FTy → Type} [FloatOps F] (a0 a1 a2 t a4 a5 a6)
    (h : (Cert.Pre_indices_in_range.fn (F := F) a0 a1 a2 t a4 a5 a6).1 = (fun _ => 1#1) ∧ (Cert.Pre_indices_in_range.fn (F := F) a0 a1 a2 t a4 a5 a6).2.1 = (fun _ => 1#1)
      ∧ (Cert.Pre_indices_in_range.fn (F := F) a0 a1 a2 t a4 a5 a6).2.2.1 = (fun _ => 1#1) ∧ (Cert.Pre_indices_in_range.fn (F := F) a0 a1 a2 t a4 a5 a6).2.2.2 = (fun _ => 1#1)) : Named t := by
  obtain ⟨h0, h1, h2, h3⟩ := h
  have p0 := fun y => congrFun h0 y
  have p1 := congrFun h1 (ix1 (0 : Fin 1))
  have p2 := congrFun h2 (ix1 (0 : Fin 1))
  have p3 := fun y => congrFun h3 y
  simp only [Cert.Pre_indices_in_range.fn, constantI, broadcastInDim, cmpi, extractStridedSlice] at p0 p1 p2 p3
  have e (I J : Cert.AdamWaOut.S5.Idx) (h : (I 0).val = (J 0).val) : t I = t J := congrArg t (funext fun a => by
    obtain rfl : a = 0 := Subsingleton.elim _ _
    exact Fin.ext h)
  refine ⟨word_lt _ 8 (by decide) (p0 _) ?_, word_lt _ 4 (by decide) (p0 _) ?_, word_lt _ 3 (by decide) (p0 _) ?_, word_lt _ 3 (by decide) (p0 _) ?_, word_lt _ 3 (by decide) (p0 _) ?_⟩
  · rw [← p1]; exact congrArg (fun v => IntOp.cmpi .slt v 8#32) (e _ _ rfl)
  · rw [← p2]; exact congrArg (fun v => IntOp.cmpi .slt v 4#32) (e _ _ rfl)
  · rw [← p3 (ix1 (0 : Fin 3))]; exact congrArg (fun v => IntOp.cmpi .slt v 3#32) (e _ _ rfl)
  · rw [← p3 (ix1 (1 : Fin 3))]; exact congrArg (fun v => IntOp.cmpi .slt v 3#32) (e _ _ rfl)
  · rw [← p3 (ix1 (2 : Fin 3))]; exact congrArg (fun v => IntOp.cmpi .slt v 3#32) (e _ _ rfl)

/-- The block of one part lies in an array of parts. -/
theorem inside (v n : ℕ) (hv : v < n) (j : Fin 1) (a : Fin 3) :
    ((![v, (BitVec.ofNat 32 j.val).toNat, (0#32).toNat] : Fin 3 → ℕ) a + 1) * (⟨3, ![1, 256, 1024]⟩ : Shape).size a ≤ (⟨3, ![n, 256, 1024]⟩ : Shape).size a := by
  obtain rfl : j = 0 := Subsingleton.elim _ _
  fin_cases a
  · show (v + 1) * 1 ≤ n
    omega
  · show ((BitVec.ofNat 32 0).toNat + 1) * 256 ≤ 256
    decide
  · show ((0#32).toNat + 1) * 1024 ≤ 1024
    decide

section
open Cert.AdamWaOut Cert.AdamWaOut.Gen

/-- A word of the table the call reads its indices from, at machine words. -/
theorem wordBits (m : (ℓ : Loc nD τ sig) → Buf (Elt Bits) ℓ) (k : Fin 5) (hk h1) :
    (tbl m).at 0 (Rect.unit (s := S5) ![k.val] S1.size hk) h1 = (m (((0 : Dev nD) : Thread nD τ).loc main_arg3) : IVec S5 32) (ix1 k) := by
  refine (congrFun (V_main_arg3 m 0) _).trans (congrArg (m (((0 : Dev nD) : Thread nD τ).loc main_arg3) : IVec S5 32) (funext fun a => ?_))
  match a with
  | ⟨0, _⟩ => exact Fin.ext (Nat.add_zero k.val)

/-- Each part's block lies in its array and moves whole words, at machine words. -/
theorem okBits (m : (ℓ : Loc nD τ sig) → Buf (Elt Bits) ℓ) (h : Named (m (((0 : Dev nD) : Thread nD τ).loc main_arg3))) : Ok m := by
  obtain ⟨h0, h1, h2, h3, h4⟩ := h
  exact ⟨fun i => ⟨inside _ 8 ((congrArg BitVec.toNat (wordBits m 0 _ _)).trans_lt h0) (i 0), Or.inl rfl⟩,
    fun i => ⟨inside _ 4 ((congrArg BitVec.toNat (wordBits m 1 _ _)).trans_lt h1) (i 0), Or.inl rfl⟩,
    fun i => ⟨inside _ 3 ((congrArg BitVec.toNat (wordBits m 2 _ _)).trans_lt h2) (i 0), Or.inr (Or.inl (Or.inr ⟨(by decide : 2 ≤ 3), rfl, Or.inl ⟨by show 2 ∣ _ * 256; exact Dvd.dvd.mul_left (by decide) _, by show 2 ∣ 256; decide⟩⟩))⟩,
    fun i => ⟨inside _ 3 ((congrArg BitVec.toNat (wordBits m 3 _ _)).trans_lt h3) (i 0), Or.inr (Or.inl (Or.inr ⟨(by decide : 2 ≤ 3), rfl, Or.inl ⟨by show 2 ∣ _ * 256; exact Dvd.dvd.mul_left (by decide) _, by show 2 ∣ 256; decide⟩⟩))⟩,
    fun i => ⟨inside _ 3 ((congrArg BitVec.toNat (wordBits m 4 _ _)).trans_lt h4) (i 0), Or.inr (Or.inl (Or.inr ⟨(by decide : 2 ≤ 3), rfl, Or.inl ⟨by show 2 ∣ _ * 256; exact Dvd.dvd.mul_left (by decide) _, by show 2 ∣ 256; decide⟩⟩))⟩⟩

end

section
open Cert.AdamWaOutIdeal Cert.AdamWaOutIdeal.Gen

/-- A word of the table the call reads its indices from. -/
theorem word (m : (ℓ : Loc nD τ sig) → Buf (Elt Ideal) ℓ) (k : Fin 5) (hk h1) :
    (tbl m).at 0 (Rect.unit (s := S5) ![k.val] S1.size hk) h1 = (m (((0 : Dev nD) : Thread nD τ).loc main_arg3) : IVec S5 32) (ix1 k) := by
  refine (congrFun (V_main_arg3 m 0) _).trans (congrArg (m (((0 : Dev nD) : Thread nD τ).loc main_arg3) : IVec S5 32) (funext fun a => ?_))
  match a with
  | ⟨0, _⟩ => exact Fin.ext (Nat.add_zero k.val)

/-- Each part's block lies in its array and moves whole words. -/
theorem ok (m : (ℓ : Loc nD τ sig) → Buf (Elt Ideal) ℓ) (h : Named (m (((0 : Dev nD) : Thread nD τ).loc main_arg3))) : Ok m := by
  obtain ⟨h0, h1, h2, h3, h4⟩ := h
  exact ⟨fun i => ⟨inside _ 8 ((congrArg BitVec.toNat (word m 0 _ _)).trans_lt h0) (i 0), Or.inl rfl⟩,
    fun i => ⟨inside _ 4 ((congrArg BitVec.toNat (word m 1 _ _)).trans_lt h1) (i 0), Or.inl rfl⟩,
    fun i => ⟨inside _ 3 ((congrArg BitVec.toNat (word m 2 _ _)).trans_lt h2) (i 0), Or.inr (Or.inl (Or.inr ⟨(by decide : 2 ≤ 3), rfl, Or.inl ⟨by show 2 ∣ _ * 256; exact Dvd.dvd.mul_left (by decide) _, by show 2 ∣ 256; decide⟩⟩))⟩,
    fun i => ⟨inside _ 3 ((congrArg BitVec.toNat (word m 3 _ _)).trans_lt h3) (i 0), Or.inr (Or.inl (Or.inr ⟨(by decide : 2 ≤ 3), rfl, Or.inl ⟨by show 2 ∣ _ * 256; exact Dvd.dvd.mul_left (by decide) _, by show 2 ∣ 256; decide⟩⟩))⟩,
    fun i => ⟨inside _ 3 ((congrArg BitVec.toNat (word m 4 _ _)).trans_lt h4) (i 0), Or.inr (Or.inl (Or.inr ⟨(by decide : 2 ≤ 3), rfl, Or.inl ⟨by show 2 ∣ _ * 256; exact Dvd.dvd.mul_left (by decide) _, by show 2 ∣ 256; decide⟩⟩))⟩⟩

end

/-- The one of `n` numbers that a word names. -/
def pick {n : ℕ} (x : Fin n → EReal) (v : BitVec 32) : EReal := ∑ k : Fin n, if BitVec.ofNat 32 k.val = v then x k else 0

theorem pick_eq {n : ℕ} (hn : n ≤ 2 ^ 32) (x : Fin n → EReal) (v : BitVec 32) (h : v.toNat < n) : pick x v = x ⟨v.toNat, h⟩ := by
  unfold pick
  rw [Finset.sum_eq_single (⟨v.toNat, h⟩ : Fin n)]
  · rw [if_pos (by simp)]
  · intro k _ hk
    refine if_neg fun e => hk (Fin.ext ?_)
    show k.val = v.toNat
    rw [← e, BitVec.toNat_ofNat, Nat.mod_eq_of_lt (by omega)]
  · exact fun h => absurd (Finset.mem_univ _) h

/-- The sum of the five parts the indices name. -/
def grad (g : AdamWaOutIdeal.S8x256x1024.Idx → EReal) (r : AdamWaOutIdeal.S4x256x1024.Idx → EReal) (x : AdamWaOutIdeal.S3x256x1024.Idx → EReal) (w : IVec AdamWaOutIdeal.S5 32) (p : Fin 256) (q : Fin 1024) : EReal :=
  pick (fun k : Fin 8 => g (ix3 k p q)) (w (ix1 (0 : Fin 5))) + pick (fun k : Fin 4 => r (ix3 k p q)) (w (ix1 (1 : Fin 5))) + pick (fun k : Fin 3 => x (ix3 k p q)) (w (ix1 (2 : Fin 5)))
    + pick (fun k : Fin 3 => x (ix3 k p q)) (w (ix1 (3 : Fin 5))) + pick (fun k : Fin 3 => x (ix3 k p q)) (w (ix1 (4 : Fin 5)))

section
open Cert.AdamWaOutIdeal Cert.AdamWaOutIdeal.Gen

variable (m : (ℓ : Loc nD τ sig) → Buf (Elt Ideal) ℓ) (hO : Ok m) (c : Dev nD) (t : Fin (cfgM m hO).N) (p : Fin 256) (q : Fin 1024)

/-- What an argument holds. -/
abbrev arg (r : Ref sig .tc) := m ((c : Thread nD τ).loc r)

/-- The sum of the parts the arguments name, and the weights and moments they hold. -/
abbrev G : EReal := grad (arg m c main_arg0) (arg m c main_arg1) (arg m c main_arg2) (arg m c main_arg3) p q
abbrev W : EReal := (arg m c main_arg4 : S1x256x1024.Idx → EReal) (ix3 (0 : Fin 1) p q)
abbrev M : EReal := (arg m c main_arg5 : S1x256x1024.Idx → EReal) (ix3 (0 : Fin 1) p q)
abbrev U : EReal := (arg m c main_arg6 : S1x256x1024.Idx → EReal) (ix3 (0 : Fin 1) p q)

theorem row0 : ((grid0.coords t) 0).val = 0 := Nat.lt_one_iff.1 ((grid0.coords t) 0).isLt

theorem at2 : ![(BitVec.ofNat 32 ((grid0.coords t) 0).val).toNat, (0#32).toNat] = ![0, 0] := by
  rw [row0 m hO t]
  rfl

theorem at3 (v : ℕ) : ![v, (BitVec.ofNat 32 ((grid0.coords t) 0).val).toNat, (0#32).toNat] = ![v, 0, 0] := by
  rw [row0 m hO t]
  rfl

/-! What the call's one point reads of each argument: the parts the indices name, and the whole of the weights and moments. -/

theorem in0 (h : Named (arg m c main_arg3)) : (iblk m hO c 0 t : S1x256x1024.Idx → EReal) (ix3 (0 : Fin 1) p q) =
    pick (fun k : Fin 8 => (arg m c main_arg0 : S8x256x1024.Idx → EReal) (ix3 k p q)) ((arg m c main_arg3 : IVec S5 32) (ix1 (0 : Fin 5))) := by
  obtain rfl : c = 0 := Subsingleton.elim _ _
  have i : ((cfgM m hO).win 0).index t = ![((tbl m).at 0 (Rect.unit (s := S5) ![0] S1.size inb_S5_S1_0) numel1_S1).toNat, 0, 0] := at3 m hO t _
  rw [pick_eq (by decide) _ _ h.1]
  refine Eq.trans ?_ (congrFun (V_main_arg0 m 0) (ix3 (⟨_, h.1⟩ : Fin 8) p q))
  blk_ext [iblk, i]
  exact congrArg BitVec.toNat (word m 0 _ _)

theorem in1 (h : Named (arg m c main_arg3)) : (iblk m hO c 1 t : S1x256x1024.Idx → EReal) (ix3 (0 : Fin 1) p q) =
    pick (fun k : Fin 4 => (arg m c main_arg1 : S4x256x1024.Idx → EReal) (ix3 k p q)) ((arg m c main_arg3 : IVec S5 32) (ix1 (1 : Fin 5))) := by
  obtain rfl : c = 0 := Subsingleton.elim _ _
  have i : ((cfgM m hO).win 1).index t = ![((tbl m).at 0 (Rect.unit (s := S5) ![1] S1.size inb_S5_S1_1) numel1_S1).toNat, 0, 0] := at3 m hO t _
  rw [pick_eq (by decide) _ _ h.2.1]
  refine Eq.trans ?_ (congrFun (V_main_arg1 m 0) (ix3 (⟨_, h.2.1⟩ : Fin 4) p q))
  blk_ext [iblk, i]
  exact congrArg BitVec.toNat (word m 1 _ _)

theorem in2 (h : Named (arg m c main_arg3)) : (iblk m hO c 2 t : S1x256x1024.Idx → EReal) (ix3 (0 : Fin 1) p q) =
    pick (fun k : Fin 3 => (arg m c main_arg2 : S3x256x1024.Idx → EReal) (ix3 k p q)) ((arg m c main_arg3 : IVec S5 32) (ix1 (2 : Fin 5))) := by
  obtain rfl : c = 0 := Subsingleton.elim _ _
  have i : ((cfgM m hO).win 2).index t = ![((tbl m).at 0 (Rect.unit (s := S5) ![2] S1.size inb_S5_S1_2) numel1_S1).toNat, 0, 0] := at3 m hO t _
  rw [pick_eq (by decide) _ _ h.2.2.1]
  refine Eq.trans ?_ (congrFun (V_main_arg2 m 0) (ix3 (⟨_, h.2.2.1⟩ : Fin 3) p q))
  blk_ext [iblk, i]
  exact congrArg BitVec.toNat (word m 2 _ _)

theorem in3 (h : Named (arg m c main_arg3)) : (iblk m hO c 3 t : S1x256x1024.Idx → EReal) (ix3 (0 : Fin 1) p q) =
    pick (fun k : Fin 3 => (arg m c main_arg2 : S3x256x1024.Idx → EReal) (ix3 k p q)) ((arg m c main_arg3 : IVec S5 32) (ix1 (3 : Fin 5))) := by
  obtain rfl : c = 0 := Subsingleton.elim _ _
  have i : ((cfgM m hO).win 3).index t = ![((tbl m).at 0 (Rect.unit (s := S5) ![3] S1.size inb_S5_S1_3) numel1_S1).toNat, 0, 0] := at3 m hO t _
  rw [pick_eq (by decide) _ _ h.2.2.2.1]
  refine Eq.trans ?_ (congrFun (V_main_arg2 m 0) (ix3 (⟨_, h.2.2.2.1⟩ : Fin 3) p q))
  blk_ext [iblk, i]
  exact congrArg BitVec.toNat (word m 3 _ _)

theorem in4 (h : Named (arg m c main_arg3)) : (iblk m hO c 4 t : S1x256x1024.Idx → EReal) (ix3 (0 : Fin 1) p q) =
    pick (fun k : Fin 3 => (arg m c main_arg2 : S3x256x1024.Idx → EReal) (ix3 k p q)) ((arg m c main_arg3 : IVec S5 32) (ix1 (4 : Fin 5))) := by
  obtain rfl : c = 0 := Subsingleton.elim _ _
  have i : ((cfgM m hO).win 4).index t = ![((tbl m).at 0 (Rect.unit (s := S5) ![4] S1.size inb_S5_S1_4) numel1_S1).toNat, 0, 0] := at3 m hO t _
  rw [pick_eq (by decide) _ _ h.2.2.2.2]
  refine Eq.trans ?_ (congrFun (V_main_arg2 m 0) (ix3 (⟨_, h.2.2.2.2⟩ : Fin 3) p q))
  blk_ext [iblk, i]
  exact congrArg BitVec.toNat (word m 4 _ _)

theorem in5 : (iblk m hO c 5 t : S256x1024.Idx → EReal) (ix2 p q) = W m c p q := by
  have i : ((cfgM m hO).win 5).index t = ![0, 0] := at2 m hO t
  have e : (Gen.V m c main_v0 : S256x1024.Idx → EReal) (ix2 p q) = W m c p q := by
    unfold Gen.V
    after_reads_at
  refine Eq.trans ?_ e
  blk_ext [iblk, i]

theorem in6 : (iblk m hO c 6 t : S256x1024.Idx → EReal) (ix2 p q) = M m c p q := by
  have i : ((cfgM m hO).win 6).index t = ![0, 0] := at2 m hO t
  have e : (Gen.V m c main_v1 : S256x1024.Idx → EReal) (ix2 p q) = M m c p q := by
    unfold Gen.V
    after_reads_at
  refine Eq.trans ?_ e
  blk_ext [iblk, i]

theorem in7 : (iblk m hO c 7 t : S256x1024.Idx → EReal) (ix2 p q) = U m c p q := by
  have i : ((cfgM m hO).win 7).index t = ![0, 0] := at2 m hO t
  have e : (Gen.V m c main_v2 : S256x1024.Idx → EReal) (ix2 p q) = U m c p q := by
    unfold Gen.V
    after_reads_at
  refine Eq.trans ?_ e
  blk_ext [iblk, i]

/-- Five numbers' sum. -/
def five (a b d e f : EReal) : EReal := a + b + d + e + f

/-- The sum of the parts the point reads. -/
theorem sum_parts (h : Named (arg m c main_arg3)) : five (iblk m hO c 0 t (ix3 (0 : Fin 1) p q)) (iblk m hO c 1 t (ix3 (0 : Fin 1) p q)) (iblk m hO c 2 t (ix3 (0 : Fin 1) p q)) (iblk m hO c 3 t (ix3 (0 : Fin 1) p q)) (iblk m hO c 4 t (ix3 (0 : Fin 1) p q)) = G m c p q := by
  rw [in0 m hO c t p q h, in1 m hO c t p q h, in2 m hO c t p q h, in3 m hO c t p q h, in4 m hO c t p q h]
  rfl

/-! What the point leaves in each result. -/

theorem block8 (h : Named (arg m c main_arg3)) : (outsAt0 m hO c t).1 (ix2 p q) = G m c p q := by
  rw [← sum_parts m hO c t p q h]
  unfold outsAt0 out0_A_8
  dsimp only
  rw [View.read_writes_junk_eq_canon]
  unfold kernelRun0_A
  dsimp only
  rw [View.canon_unit_zero (by decide)]
  pointwise [k0_pay2, Memref.IsWhole.readAt_unread]
  rfl

theorem block9 (h : Named (arg m c main_arg3)) : (outsAt0 m hO c t).2.1 (ix2 p q) = Adam.step (G m c p q) (W m c p q) (M m c p q) (U m c p q) := by
  rw [← sum_parts m hO c t p q h, ← in5 m hO c t p q, ← in6 m hO c t p q, ← in7 m hO c t p q]
  unfold outsAt0 out0_A_9
  dsimp only
  rw [View.read_writes_junk_eq_canon]
  unfold kernelRun0_A
  dsimp only
  rw [View.canon_unit_zero (by decide)]
  pointwise [k0_pay1, k0_pay2, k0_pay3, k0_pay4, Memref.IsWhole.readAt_unread]
  unfold kernelRun0_A.sl.r kernelRun0_A.sl.r_1
  pointwise [k0_pay1, k0_pay2, k0_pay3, k0_pay4, Memref.IsWhole.readAt_unread]
  rfl

theorem block10 (h : Named (arg m c main_arg3)) : (outsAt0 m hO c t).2.2.1 (ix2 p q) = Adam.mom (G m c p q) (M m c p q) := by
  rw [← sum_parts m hO c t p q h, ← in6 m hO c t p q]
  unfold outsAt0 out0_A_10
  dsimp only
  rw [View.read_writes_junk_eq_canon]
  unfold kernelRun0_A
  dsimp only
  rw [View.canon_unit_zero (by decide)]
  pointwise [k0_pay2, k0_pay3, Memref.IsWhole.readAt_unread]
  unfold kernelRun0_A.sl.r
  pointwise [k0_pay2, k0_pay3, Memref.IsWhole.readAt_unread]
  rfl

theorem block11 (h : Named (arg m c main_arg3)) : (outsAt0 m hO c t).2.2.2 (ix2 p q) = Adam.sec (G m c p q) (U m c p q) := by
  rw [← sum_parts m hO c t p q h, ← in7 m hO c t p q]
  unfold outsAt0 out0_A_11
  dsimp only
  rw [View.read_writes_junk_eq_canon]
  unfold kernelRun0_A
  dsimp only
  rw [View.canon_unit_zero (by decide)]
  pointwise [k0_pay2, k0_pay4, Memref.IsWhole.readAt_unread]
  unfold kernelRun0_A.sl.r_1
  pointwise [k0_pay2, k0_pay4, Memref.IsWhole.readAt_unread]
  rfl

theorem two (y : S256x1024.Idx) : ∃ (p : Fin 256) (q : Fin 1024), y = ix2 p q := ⟨y 0, y 1, eq_ix2 y⟩

/-! Each result is the point's one block. -/

theorem left8 (h : Named (arg m c main_arg3)) : (dats m hO 0 c).arrAt 8 (cfgM m hO).N = fun y : S256x1024.Idx => G m c (y 0) (y 1) := by
  have i (t : Fin (cfgM m hO).N) : ((cfgM m hO).win 8).index t = ![0, 0] := at2 m hO t
  refine (dats m hO 0 c).arrAt_eq_of_covers 8 (fun y : S256x1024.Idx => G m c (y 0) (y 1)) ?_ fun t hf y => ?_
  · refine ⟨fun a => ?_, fun β => ⟨(show Fin (cfgM m hO).N from ⟨0, Nat.one_pos⟩), rfl, fun a => ⟨(congrFun (i _) a).trans ?_, Or.inl rfl⟩⟩⟩
    · exact (by decide : ∀ a, 0 < S256x1024.size a) a
    · match a with
      | ⟨0, h⟩ => exact (Nat.lt_one_iff.1 ((β ⟨0, h⟩).isLt.trans_eq (by unfold Pipeline.Window.nblk; exact (by decide : (256 + 256 - 1) / 256 = 1)))).symm
      | ⟨1, h⟩ => exact (Nat.lt_one_iff.1 ((β ⟨1, h⟩).isLt.trans_eq (by unfold Pipeline.Window.nblk; exact (by decide : (1024 + 1024 - 1) / 1024 = 1)))).symm
  · blk_simp
    rw [after0_8]
    obtain ⟨p, q, rfl⟩ := two y
    refine (block8 m hO c t p q h).trans ?_
    have e (X : S256x1024.Idx → EReal) : (((cfgM m hO).win 8).blk t).view.read (Elt Ideal) X (ix2 p q) = X (ix2 p q) := by
      blk_ext [i t]
    exact (e (fun y : S256x1024.Idx => G m c (y 0) (y 1))).symm

theorem left9 (h : Named (arg m c main_arg3)) : (dats m hO 0 c).arrAt 9 (cfgM m hO).N = fun y : S256x1024.Idx => Adam.step (G m c (y 0) (y 1)) (W m c (y 0) (y 1)) (M m c (y 0) (y 1)) (U m c (y 0) (y 1)) := by
  have i (t : Fin (cfgM m hO).N) : ((cfgM m hO).win 9).index t = ![0, 0] := at2 m hO t
  refine (dats m hO 0 c).arrAt_eq_of_covers 9 (fun y : S256x1024.Idx => Adam.step (G m c (y 0) (y 1)) (W m c (y 0) (y 1)) (M m c (y 0) (y 1)) (U m c (y 0) (y 1))) ?_ fun t hf y => ?_
  · refine ⟨fun a => ?_, fun β => ⟨(show Fin (cfgM m hO).N from ⟨0, Nat.one_pos⟩), rfl, fun a => ⟨(congrFun (i _) a).trans ?_, Or.inl rfl⟩⟩⟩
    · exact (by decide : ∀ a, 0 < S256x1024.size a) a
    · match a with
      | ⟨0, h⟩ => exact (Nat.lt_one_iff.1 ((β ⟨0, h⟩).isLt.trans_eq (by unfold Pipeline.Window.nblk; exact (by decide : (256 + 256 - 1) / 256 = 1)))).symm
      | ⟨1, h⟩ => exact (Nat.lt_one_iff.1 ((β ⟨1, h⟩).isLt.trans_eq (by unfold Pipeline.Window.nblk; exact (by decide : (1024 + 1024 - 1) / 1024 = 1)))).symm
  · blk_simp
    rw [after0_9]
    obtain ⟨p, q, rfl⟩ := two y
    refine (block9 m hO c t p q h).trans ?_
    have e (X : S256x1024.Idx → EReal) : (((cfgM m hO).win 9).blk t).view.read (Elt Ideal) X (ix2 p q) = X (ix2 p q) := by
      blk_ext [i t]
    exact (e (fun y : S256x1024.Idx => Adam.step (G m c (y 0) (y 1)) (W m c (y 0) (y 1)) (M m c (y 0) (y 1)) (U m c (y 0) (y 1)))).symm

theorem left10 (h : Named (arg m c main_arg3)) : (dats m hO 0 c).arrAt 10 (cfgM m hO).N = fun y : S256x1024.Idx => Adam.mom (G m c (y 0) (y 1)) (M m c (y 0) (y 1)) := by
  have i (t : Fin (cfgM m hO).N) : ((cfgM m hO).win 10).index t = ![0, 0] := at2 m hO t
  refine (dats m hO 0 c).arrAt_eq_of_covers 10 (fun y : S256x1024.Idx => Adam.mom (G m c (y 0) (y 1)) (M m c (y 0) (y 1))) ?_ fun t hf y => ?_
  · refine ⟨fun a => ?_, fun β => ⟨(show Fin (cfgM m hO).N from ⟨0, Nat.one_pos⟩), rfl, fun a => ⟨(congrFun (i _) a).trans ?_, Or.inl rfl⟩⟩⟩
    · exact (by decide : ∀ a, 0 < S256x1024.size a) a
    · match a with
      | ⟨0, h⟩ => exact (Nat.lt_one_iff.1 ((β ⟨0, h⟩).isLt.trans_eq (by unfold Pipeline.Window.nblk; exact (by decide : (256 + 256 - 1) / 256 = 1)))).symm
      | ⟨1, h⟩ => exact (Nat.lt_one_iff.1 ((β ⟨1, h⟩).isLt.trans_eq (by unfold Pipeline.Window.nblk; exact (by decide : (1024 + 1024 - 1) / 1024 = 1)))).symm
  · blk_simp
    rw [after0_10]
    obtain ⟨p, q, rfl⟩ := two y
    refine (block10 m hO c t p q h).trans ?_
    have e (X : S256x1024.Idx → EReal) : (((cfgM m hO).win 10).blk t).view.read (Elt Ideal) X (ix2 p q) = X (ix2 p q) := by
      blk_ext [i t]
    exact (e (fun y : S256x1024.Idx => Adam.mom (G m c (y 0) (y 1)) (M m c (y 0) (y 1)))).symm

theorem left11 (h : Named (arg m c main_arg3)) : (dats m hO 0 c).arrAt 11 (cfgM m hO).N = fun y : S256x1024.Idx => Adam.sec (G m c (y 0) (y 1)) (U m c (y 0) (y 1)) := by
  have i (t : Fin (cfgM m hO).N) : ((cfgM m hO).win 11).index t = ![0, 0] := at2 m hO t
  refine (dats m hO 0 c).arrAt_eq_of_covers 11 (fun y : S256x1024.Idx => Adam.sec (G m c (y 0) (y 1)) (U m c (y 0) (y 1))) ?_ fun t hf y => ?_
  · refine ⟨fun a => ?_, fun β => ⟨(show Fin (cfgM m hO).N from ⟨0, Nat.one_pos⟩), rfl, fun a => ⟨(congrFun (i _) a).trans ?_, Or.inl rfl⟩⟩⟩
    · exact (by decide : ∀ a, 0 < S256x1024.size a) a
    · match a with
      | ⟨0, h⟩ => exact (Nat.lt_one_iff.1 ((β ⟨0, h⟩).isLt.trans_eq (by unfold Pipeline.Window.nblk; exact (by decide : (256 + 256 - 1) / 256 = 1)))).symm
      | ⟨1, h⟩ => exact (Nat.lt_one_iff.1 ((β ⟨1, h⟩).isLt.trans_eq (by unfold Pipeline.Window.nblk; exact (by decide : (1024 + 1024 - 1) / 1024 = 1)))).symm
  · blk_simp
    rw [after0_11]
    obtain ⟨p, q, rfl⟩ := two y
    refine (block11 m hO c t p q h).trans ?_
    have e (X : S256x1024.Idx → EReal) : (((cfgM m hO).win 11).blk t).view.read (Elt Ideal) X (ix2 p q) = X (ix2 p q) := by
      blk_ext [i t]
    exact (e (fun y : S256x1024.Idx => Adam.sec (G m c (y 0) (y 1)) (U m c (y 0) (y 1)))).symm

end

section
open Cert.AdamWaOutRefIdeal Cert.AdamWaOutRefIdeal.Read

/-! The reference: each part is picked by a mask, and the parts are summed. -/

theorem masked (a v : BitVec 32) (x : EReal) : Scalar.select (IntOp.cmpi CmpIPredicate.eq a v) x (FloatOps.sitofp (F := Ideal) FTy.f32 0#32) = if a = v then x else 0 := by
  have z : FloatOps.sitofp (F := Ideal) FTy.f32 0#32 = (0 : EReal) := by
    show (((0#32).toInt : ℝ) : EReal) = 0
    simp
  rw [z]
  unfold Scalar.select IntOp.cmpi
  by_cases h : a = v
  · simp [h]
  · have e : (a == v) = false := by simpa using h
    simp [h, e]

variable (x0 : S8x256x1024.Idx → EReal) (x1 : S4x256x1024.Idx → EReal) (x2 : S3x256x1024.Idx → EReal) (x3 : IVec S5 32) (x4 x5 x6 : S1x256x1024.Idx → EReal) (p : Fin 256) (q : Fin 1024)

theorem part0 : val_main_v7 (F := Ideal) x0 x3 (ix2 p q) = pick (fun k : Fin 8 => x0 (ix3 k p q)) (x3 (ix1 (0 : Fin 5))) := by
  pointwise [val_main_v7, val_main_v6, val_main_v5, val_main_v4, val_main_v3, val_main_v2, val_main_v1, val_main_v0, val_main_call0_v0, val_main_call0_v1, val_main_call0_v2, val_main_c, val_main_cst]
  exact Finset.sum_congr rfl fun k _ => masked _ _ _

theorem part1 : val_main_v15 (F := Ideal) x1 x3 (ix2 p q) = pick (fun k : Fin 4 => x1 (ix3 k p q)) (x3 (ix1 (1 : Fin 5))) := by
  pointwise [val_main_v15, val_main_v14, val_main_v13, val_main_v12, val_main_v11, val_main_v10, val_main_v9, val_main_v8, val_main_call1_v0, val_main_call1_v1, val_main_call1_v2, val_main_c_0, val_main_cst_1]
  exact Finset.sum_congr rfl fun k _ => masked _ _ _

theorem part2 : val_main_v25 (F := Ideal) x2 x3 (ix2 p q) = pick (fun k : Fin 3 => x2 (ix3 k p q)) (x3 (ix1 (2 : Fin 5))) := by
  pointwise [val_main_v25, val_main_v24, val_main_v23, val_main_v22, val_main_v21, val_main_v20, val_main_v19, val_main_v18, val_main_v17, val_main_call2_v0, val_main_call2_v1, val_main_call2_v2, val_main_c_2, val_main_cst_3]
  exact Finset.sum_congr rfl fun k _ => masked _ _ _

theorem part3 : val_main_v35 (F := Ideal) x2 x3 (ix2 p q) = pick (fun k : Fin 3 => x2 (ix3 k p q)) (x3 (ix1 (3 : Fin 5))) := by
  pointwise [val_main_v35, val_main_v34, val_main_v33, val_main_v32, val_main_v31, val_main_v30, val_main_v29, val_main_v28, val_main_v27, val_main_call3_v0, val_main_call3_v1, val_main_call3_v2, val_main_c_4, val_main_cst_5]
  exact Finset.sum_congr rfl fun k _ => masked _ _ _

theorem part4 : val_main_v45 (F := Ideal) x2 x3 (ix2 p q) = pick (fun k : Fin 3 => x2 (ix3 k p q)) (x3 (ix1 (4 : Fin 5))) := by
  pointwise [val_main_v45, val_main_v44, val_main_v43, val_main_v42, val_main_v41, val_main_v40, val_main_v39, val_main_v38, val_main_v37, val_main_call4_v0, val_main_call4_v1, val_main_call4_v2, val_main_c_6, val_main_cst_7]
  exact Finset.sum_congr rfl fun k _ => masked _ _ _

theorem ref_grad : val_main_v46 (F := Ideal) x0 x1 x2 x3 (ix2 p q) = grad x0 x1 x2 x3 p q := by
  pointwise [val_main_v46, val_main_v36, val_main_v26, val_main_v16]
  rw [part0, part1, part2, part3, part4]
  rfl

theorem ref8 : val_main_v46 (F := Ideal) x0 x1 x2 x3 = fun y => grad x0 x1 x2 x3 (y 0) (y 1) := by
  funext y
  obtain ⟨p, q, rfl⟩ := two y
  exact ref_grad x0 x1 x2 x3 p q

theorem ref10 : val_main_v54 (F := Ideal) x0 x1 x2 x3 x5 = fun y => Adam.mom (grad x0 x1 x2 x3 (y 0) (y 1)) (x5 (ix3 (0 : Fin 1) (y 0) (y 1))) := by
  funext y
  obtain ⟨p, q, rfl⟩ := two y
  refine Eq.trans ?_ (congrArg (fun g => Adam.mom g (x5 (ix3 (0 : Fin 1) p q))) (ref_grad x0 x1 x2 x3 p q))
  pointwise [val_main_v54, val_main_v53, val_main_v52, val_main_v51, val_main_v50, val_main_v48, val_main_cst_8, val_main_cst_9]
  rfl

theorem ref11 : val_main_v60 (F := Ideal) x0 x1 x2 x3 x6 = fun y => Adam.sec (grad x0 x1 x2 x3 (y 0) (y 1)) (x6 (ix3 (0 : Fin 1) (y 0) (y 1))) := by
  funext y
  obtain ⟨p, q, rfl⟩ := two y
  refine Eq.trans ?_ (congrArg (fun g => Adam.sec g (x6 (ix3 (0 : Fin 1) p q))) (ref_grad x0 x1 x2 x3 p q))
  pointwise [val_main_v60, val_main_v59, val_main_v58, val_main_v57, val_main_v56, val_main_v55, val_main_v49, val_main_cst_10, val_main_cst_11]
  rfl

theorem ref9 : val_main_v73 (F := Ideal) x0 x1 x2 x3 x4 x5 x6 = fun y => Adam.step (grad x0 x1 x2 x3 (y 0) (y 1)) (x4 (ix3 (0 : Fin 1) (y 0) (y 1))) (x5 (ix3 (0 : Fin 1) (y 0) (y 1))) (x6 (ix3 (0 : Fin 1) (y 0) (y 1))) := by
  funext y
  obtain ⟨p, q, rfl⟩ := two y
  refine Eq.trans ?_ (congrArg (fun g => Adam.step g (x4 (ix3 (0 : Fin 1) p q)) (x5 (ix3 (0 : Fin 1) p q)) (x6 (ix3 (0 : Fin 1) p q))) (ref_grad x0 x1 x2 x3 p q))
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_cst_8, val_main_cst_9, val_main_cst_10, val_main_cst_11, val_main_cst_12, val_main_cst_13, val_main_cst_14, val_main_cst_15, val_main_cst_16]
  rfl

end

end Cert.AdamWaOut
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DhB
public import proofs.«01_k».proof.Proof.Gen.DhB.Skeleton
public import proofs.«01_k».proof.Proof.Gen.DhB.Launch
public import proofs.«01_k».proof.Proof.Gen.DhB.Points
public import proofs.«01_k».proof.Proof.Gen.DhB.Frame
public import proofs.«01_k».proof.Proof.Gen.DhBIdeal
public import proofs.«01_k».proof.Proof.Gen.DhBIdeal.Skeleton
public import proofs.«01_k».proof.Proof.Gen.DhBIdeal.Launch
public import proofs.«01_k».proof.Proof.Gen.DhBIdeal.Points
public import proofs.«01_k».proof.Proof.Gen.DhBIdeal.Frame
public import proofs.«01_k».proof.Proof.Gen.DhBIdeal.Value
public import proofs.«01_k».proof.Proof.Gen.DhBRefIdeal.Run
public import proofs.«01_k».proof.Proof.Gen.DhBRefIdeal.Read
public import proofs.«01_k».proof.Proof.Gen.DwInB
public import proofs.«01_k».proof.Proof.Gen.DwInB.Skeleton
public import proofs.«01_k».proof.Proof.Gen.DwInB.Launch
public import proofs.«01_k».proof.Proof.Gen.DwInB.Points
public import proofs.«01_k».proof.Proof.Gen.DwInB.Frame
public import proofs.«01_k».proof.Proof.Gen.DwInBIdeal
public import proofs.«01_k».proof.Proof.Gen.DwInBIdeal.Skeleton
public import proofs.«01_k».proof.Proof.Gen.DwInBIdeal.Launch
public import proofs.«01_k».proof.Proof.Gen.DwInBIdeal.Points
public import proofs.«01_k».proof.Proof.Gen.DwInBIdeal.Frame
public import proofs.«01_k».proof.Proof.Gen.DwInBIdeal.Value
public import proofs.«01_k».proof.Proof.Gen.DwInBRefIdeal.Run
public import proofs.«01_k».proof.Proof.Gen.DwInBRefIdeal.Read
public import proofs.«01_k».proof.Proof.Gen.DhA
public import proofs.«01_k».proof.Proof.Gen.DhA.Skeleton
public import proofs.«01_k».proof.Proof.Gen.DhA.Launch
public import proofs.«01_k».proof.Proof.Gen.DhA.Points
public import proofs.«01_k».proof.Proof.Gen.DhA.Frame
public import proofs.«01_k».proof.Proof.Gen.DhAIdeal
public import proofs.«01_k».proof.Proof.Gen.DhAIdeal.Skeleton
public import proofs.«01_k».proof.Proof.Gen.DhAIdeal.Launch
public import proofs.«01_k».proof.Proof.Gen.DhAIdeal.Points
public import proofs.«01_k».proof.Proof.Gen.DhAIdeal.Frame
public import proofs.«01_k».proof.Proof.Gen.DhAIdeal.Value
public import proofs.«01_k».proof.Proof.Gen.DhARefIdeal.Run
public import proofs.«01_k».proof.Proof.Gen.DhARefIdeal.Read
public import proofs.«01_k».proof.Proof.Gen.DwInA
public import proofs.«01_k».proof.Proof.Gen.DwInA.Skeleton
public import proofs.«01_k».proof.Proof.Gen.DwInA.Launch
public import proofs.«01_k».proof.Proof.Gen.DwInA.Points
public import proofs.«01_k».proof.Proof.Gen.DwInA.Frame
public import proofs.«01_k».proof.Proof.Gen.DwInAIdeal
public import proofs.«01_k».proof.Proof.Gen.DwInAIdeal.Skeleton
public import proofs.«01_k».proof.Proof.Gen.DwInAIdeal.Launch
public import proofs.«01_k».proof.Proof.Gen.DwInAIdeal.Points
public import proofs.«01_k».proof.Proof.Gen.DwInAIdeal.Frame
public import proofs.«01_k».proof.Proof.Gen.DwInAIdeal.Value
public import proofs.«01_k».proof.Proof.Gen.DwInARefIdeal.Run
public import proofs.«01_k».proof.Proof.Gen.DwInARefIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.Dybr
public import proofs.«01_k».proof.Proof.Gen.Dybr.Skeleton
public import proofs.«01_k».proof.Proof.Gen.Dybr.Launch
public import proofs.«01_k».proof.Proof.Gen.Dybr.Points
public import proofs.«01_k».proof.Proof.Gen.Dybr.Frame
public import proofs.«01_k».proof.Proof.Gen.DybrIdeal
public import proofs.«01_k».proof.Proof.Gen.DybrIdeal.Skeleton
public import proofs.«01_k».proof.Proof.Gen.DybrIdeal.Launch
public import proofs.«01_k».proof.Proof.Gen.DybrIdeal.Points
public import proofs.«01_k».proof.Proof.Gen.DybrIdeal.Frame
public import proofs.«01_k».proof.Proof.Gen.DybrIdeal.Value
public import proofs.«01_k».proof.Proof.Gen.DybrRefIdeal.Run
public import proofs.«01_k».proof.Proof.Gen.DybrRefIdeal.Read
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBIdeal.Value
public import proofs.«01_k».proof.Proof.Gen.InBRefIdeal.Run
public import proofs.«01_k».proof.Proof.Gen.InBRefIdeal.Read
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InAIdeal.Value
public import proofs.«01_k».proof.Proof.Gen.InARefIdeal.Run
public import proofs.«01_k».proof.Proof.Gen.InARefIdeal.Read
public import proofs.«01_k».proof.Proof.Gen.OutA
public import proofs.«01_k».proof.Proof.Gen.OutA.Skeleton
public import proofs.«01_k».proof.Proof.Gen.OutA.Launch
public import proofs.«01_k».proof.Proof.Gen.OutA.Points
public import proofs.«01_k».proof.Proof.Gen.OutA.Frame
public import proofs.«01_k».proof.Proof.Gen.OutAIdeal
public import proofs.«01_k».proof.Proof.Gen.OutAIdeal.Skeleton
public import proofs.«01_k».proof.Proof.Gen.OutAIdeal.Launch
public import proofs.«01_k».proof.Proof.Gen.OutAIdeal.Points
public import proofs.«01_k».proof.Proof.Gen.OutAIdeal.Frame
public import proofs.«01_k».proof.Proof.Gen.OutAIdeal.Value
public import proofs.«01_k».proof.Proof.Gen.OutARefIdeal.Run
public import proofs.«01_k».proof.Proof.Gen.OutARefIdeal.Read
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdIdeal.Value
public import proofs.«01_k».proof.Proof.Gen.AdaBwdRefIdeal.Run
public import proofs.«01_k».proof.Proof.Gen.AdaBwdRefIdeal.Read
public import proofs.«01_k».proof.Proof.Gen.AdaFwd
public import proofs.«01_k».proof.Proof.Gen.AdaFwd.Skeleton
public import proofs.«01_k».proof.Proof.Gen.AdaFwd.Launch
public import proofs.«01_k».proof.Proof.Gen.AdaFwd.Points
public import proofs.«01_k».proof.Proof.Gen.AdaFwd.Frame
public import proofs.«01_k».proof.Proof.Gen.AdaFwdIdeal
public import proofs.«01_k».proof.Proof.Gen.AdaFwdIdeal.Skeleton
public import proofs.«01_k».proof.Proof.Gen.AdaFwdIdeal.Launch
public import proofs.«01_k».proof.Proof.Gen.AdaFwdIdeal.Points
public import proofs.«01_k».proof.Proof.Gen.AdaFwdIdeal.Frame
public import proofs.«01_k».proof.Proof.Gen.AdaFwdIdeal.Value
public import proofs.«01_k».proof.Proof.Gen.AdaFwdRefIdeal.Run
public import proofs.«01_k».proof.Proof.Gen.AdaFwdRefIdeal.Read
public import proofs.«01_k».proof.Proof.Gen.Pre
public import proofs.«01_k».proof.Proof.Gen.Pre.Skeleton
public import proofs.«01_k».proof.Proof.Gen.Pre.Launch
public import proofs.«01_k».proof.Proof.Gen.Pre.Points
public import proofs.«01_k».proof.Proof.Gen.Pre.Frame
public import proofs.«01_k».proof.Proof.Gen.PreIdeal
public import proofs.«01_k».proof.Proof.Gen.PreIdeal.Skeleton
public import proofs.«01_k».proof.Proof.Gen.PreIdeal.Launch
public import proofs.«01_k».proof.Proof.Gen.PreIdeal.Points
public import proofs.«01_k».proof.Proof.Gen.PreIdeal.Frame
public import proofs.«01_k».proof.Proof.Gen.PreIdeal.Value
public import proofs.«01_k».proof.Proof.Gen.PreRefIdeal.Run
public import proofs.«01_k».proof.Proof.Gen.PreRefIdeal.Read
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaIdeal.Value
public import proofs.«01_k».proof.Proof.Gen.AdamAdaRefIdeal.Run
public import proofs.«01_k».proof.Proof.Gen.AdamAdaRefIdeal.Read
public import proofs.«01_k».proof.Proof.Gen.AdamLate
public import proofs.«01_k».proof.Proof.Gen.AdamLate.Skeleton
public import proofs.«01_k».proof.Proof.Gen.AdamLate.Launch
public import proofs.«01_k».proof.Proof.Gen.AdamLate.Points
public import proofs.«01_k».proof.Proof.Gen.AdamLate.Frame
public import proofs.«01_k».proof.Proof.Gen.AdamLateIdeal
public import proofs.«01_k».proof.Proof.Gen.AdamLateIdeal.Skeleton
public import proofs.«01_k».proof.Proof.Gen.AdamLateIdeal.Launch
public import proofs.«01_k».proof.Proof.Gen.AdamLateIdeal.Points
public import proofs.«01_k».proof.Proof.Gen.AdamLateIdeal.Frame
public import proofs.«01_k».proof.Proof.Gen.AdamLateIdeal.Value
public import proofs.«01_k».proof.Proof.Gen.AdamLateRefIdeal.Run
public import proofs.«01_k».proof.Proof.Gen.AdamLateRefIdeal.Read
public import proofs.«01_k».proof.Proof.Gen.PreBwd
public import proofs.«01_k».proof.Proof.Gen.PreBwd.Skeleton
public import proofs.«01_k».proof.Proof.Gen.PreBwd.Launch
public import proofs.«01_k».proof.Proof.Gen.PreBwd.Points
public import proofs.«01_k».proof.Proof.Gen.PreBwd.Frame
public import proofs.«01_k».proof.Proof.Gen.PreBwdIdeal
public import proofs.«01_k».proof.Proof.Gen.PreBwdIdeal.Skeleton
public import proofs.«01_k».proof.Proof.Gen.PreBwdIdeal.Launch
public import proofs.«01_k».proof.Proof.Gen.PreBwdIdeal.Points
public import proofs.«01_k».proof.Proof.Gen.PreBwdIdeal.Frame
public import proofs.«01_k».proof.Proof.Gen.PreBwdIdeal.Value
public import proofs.«01_k».proof.Proof.Gen.PreBwdRefIdeal.Run
public import proofs.«01_k».proof.Proof.Gen.PreBwdRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.AdamEarly
public import proofs.«01_k».proof.Proof.Gen.AdamEarlyIdeal
public import proofs.«01_k».proof.Proof.Gen.AdamEarlyIdeal.Launch
public import proofs.«01_k».proof.Proof.Gen.AdamEarlyIdeal.Skeleton
public import proofs.«01_k».proof.Proof.Gen.AdamEarlyIdeal.Points
public import proofs.«01_k».proof.Proof.Gen.AdamEarlyRefIdeal.Run
public import proofs.«01_k».proof.Proof.Gen.AdamEarlyRefIdeal.Read
public import proofs.«01_k».proof.Proof.Gen.AdamWaOut
public import proofs.«01_k».proof.Proof.Gen.AdamWaOut.Frame
public import proofs.«01_k».proof.Proof.Gen.AdamWaOutIdeal
public import proofs.«01_k».proof.Proof.Gen.AdamWaOutIdeal.Frame
public import proofs.«01_k».proof.Proof.Gen.AdamWaOutRefIdeal.Run
public import proofs.«01_k».proof.Proof.Gen.AdamWaOutRefIdeal.Read
public import proofs.«01_k».proof.Proof.Gen.Pre_indices_in_range
public import proofs.«01_k».proof.Proof.Fold
public import proofs.«01_k».proof.Proof.RefB
public import proofs.«01_k».proof.Proof.Finite
public import Idealize.ShloMosaic.Lib.Claim
public import Idealize.ShloMosaic.Adequacy
public import Idealize.ShloMosaic.Init
public import proofs.«01_k».proof.Proof.DhB
public import proofs.«01_k».proof.Proof.DwInB
public import proofs.«01_k».proof.Proof.DhA
public import proofs.«01_k».proof.Proof.DwInA
public import proofs.«01_k».proof.Proof.DwOut
public import proofs.«01_k».proof.Proof.Dybr
public import proofs.«01_k».proof.Proof.InB
public import proofs.«01_k».proof.Proof.InA
public import proofs.«01_k».proof.Proof.OutA
public import proofs.«01_k».proof.Proof.AdaBwd
public import proofs.«01_k».proof.Proof.AdaFwd
public import proofs.«01_k».proof.Proof.Pre
public import proofs.«01_k».proof.Proof.AdamAda
public import proofs.«01_k».proof.Proof.AdamLate
public import proofs.«01_k».proof.Proof.PreBwd
public import proofs.«01_k».proof.Proof.Loss
public import proofs.«01_k».proof.Proof.AdamEarly
public import proofs.«01_k».proof.Proof.AdamWaOut

@[expose] public section

noncomputable section

namespace Cert.Proof

open Idealize.ShloMosaic Idealize.SL.Sem Cert.Kernel

/-- The kernel at words: it runs, its arguments end unchanged, every semaphore ends at zero. -/
theorem frame_kernel : quiescent_Kernel (hKernel := Cert.Kernel.Gen.facts) := fun m g _ => Cert.Kernel.Gen.frame m g

/-- The same of the kernel over extended reals. -/
theorem frame_kernelIdeal : quiescent_KernelIdeal (hKernelIdeal := Cert.KernelIdeal.Gen.facts) :=
  fun m g _ => Cert.KernelIdeal.Gen.frame m g

/-- The same of the reference over extended reals: it has no semaphore, its run leaves its arguments alone. -/
theorem frame_referenceIdeal : quiescent_ReferenceIdeal (hReferenceIdeal := Cert.ReferenceIdeal.Gen.facts) :=
  fun m g _ => (θ_run _ _ _).mono
    (fun r h => ⟨fun c => (h c).2.2.2.2.2, sem_eq_zero_of_no_sems (by decide) r.2⟩) (Cert.ReferenceIdeal.Value.run m g)

/-- The one rewritten constant denotes the real number the idealization names. -/
theorem preserved : preserves_Kernel_KernelIdeal :=
  IdealRules.named_const.statement Cert.KernelIdeal.κ "gelu_3ac" .f32 0x3DDB33B6#32 _ rfl

/-- The shapes the precondition's broadcasts need. -/
theorem facts_finite : Cert.Pre_finite.Facts := by
  constructor <;> decide

/-- The real numbers the kernel's arguments hold on a device. -/
def args (m : (ℓ : Loc Cert.KernelIdeal.nD Cert.KernelIdeal.τ Cert.KernelIdeal.sig) → Buf (Elt Ideal) ℓ)
    (c : Dev Cert.KernelIdeal.nD) : Cert.Mixer.Args :=
  Cert.Mixer.argsOf (m (c.tc.loc Cert.KernelIdeal.main_arg0))
    (m (c.tc.loc Cert.KernelIdeal.main_arg1))
    (m (c.tc.loc Cert.KernelIdeal.main_arg2))
    (m (c.tc.loc Cert.KernelIdeal.main_arg3))
    (m (c.tc.loc Cert.KernelIdeal.main_arg4))
    (m (c.tc.loc Cert.KernelIdeal.main_arg5))

/-- Kernel and reference, from the same finite arguments, end with the same five results: each is the gradient
    `dp`, `dlgN`, `dlbN`, `dwsN`, `dbsN` of those arguments. -/
theorem algebraic : algebraic_KernelIdeal_ReferenceIdeal_pre_finite (hKernelIdeal := Cert.KernelIdeal.Gen.facts)
    (hReferenceIdeal := Cert.ReferenceIdeal.Gen.facts) (hPre_finite := facts_finite) := by
  intro m g m' g' hpre hagree
  letI : Cert.Pre_finite.Facts := facts_finite
  have G : ∀ c, Cert.Mixer.Holds m c (args m c) := fun c =>
    Cert.Mixer.given_of_finite (hpre c).1 (hpre c).2.1 (hpre c).2.2.1 (hpre c).2.2.2.1 (hpre c).2.2.2.2.1
      (hpre c).2.2.2.2.2
  refine ⟨fun c y => ((Cert.Mixer.dp (args m c) (y 0).val (y 1).val : ℝ) : EReal),
    fun c y => ((Cert.Mixer.dlgN (args m c) 16 (y 1).val : ℝ) : EReal),
    fun c y => ((Cert.Mixer.dlbN (args m c) 16 (y 1).val : ℝ) : EReal),
    fun c y => ((Cert.Mixer.dwsN (args m c) 16 (y 0).val (y 1).val (y 2).val : ℝ) : EReal),
    fun c y => ((Cert.Mixer.dbsN (args m c) 16 (y 0).val (y 1).val : ℝ) : EReal), ?_, ?_⟩
  · exact (θ_run _ _ _).mono (fun r h c => by
      obtain ⟨h0, h1, h2, h3, h4, hk⟩ := h c
      exact ⟨h0.trans (Cert.Mixer.final6 (G c)), h1.trans (Cert.Mixer.final7 (G c)), h2.trans (Cert.Mixer.final8 (G c)),
        h3.trans (Cert.Mixer.final9 (G c)), h4.trans (Cert.Mixer.final10 (G c)), hk⟩)
      (Cert.KernelIdeal.Value.run_blocks m g)
  · exact (θ_run _ _ _).mono (fun r h c => by
      obtain ⟨h0, h1, h2, h3, h4, hk⟩ := h c
      obtain ⟨e0, e1, e2, e3, e4, e5⟩ := hagree c
      have H := G c
      unfold Cert.Mixer.Holds at H
      rw [← e0, ← e1, ← e2, ← e3, ← e4, ← e5] at H
      refine ⟨h0.trans ((Cert.ReferenceIdeal.Read.val_main_v149_eq (StableHlo.launchContents m' c)).trans (funext fun y => ?_)),
        h1.trans ((Cert.ReferenceIdeal.Read.val_main_v150_eq (StableHlo.launchContents m' c)).trans (funext fun y => ?_)),
        h2.trans ((Cert.ReferenceIdeal.Read.val_main_v151_eq (StableHlo.launchContents m' c)).trans (funext fun y => ?_)),
        h3.trans ((Cert.ReferenceIdeal.Read.val_main_v95_eq (StableHlo.launchContents m' c)).trans (funext fun y => ?_)),
        h4.trans ((Cert.ReferenceIdeal.Read.val_main_v153_eq (StableHlo.launchContents m' c)).trans (funext fun y => ?_)), hk⟩
      · rw [eq_ix2 y]; exact Cert.Mixer.Ref.v149_val H (y 0) (y 1)
      · rw [eq_ix2 y]; exact Cert.Mixer.Ref.v150_val H (y 0) (y 1)
      · rw [eq_ix2 y]; exact Cert.Mixer.Ref.v151_val H (y 0) (y 1)
      · rw [eq_ix3 y]; exact Cert.Mixer.Ref.v95_val H (y 0) (y 1) (y 2)
      · rw [eq_ix2 y]; exact Cert.Mixer.Ref.v153_val H (y 0) (y 1))
      (Cert.ReferenceIdeal.Value.run m' g')

/-- The call for the gradient of the second layer's normalised input at words: it runs, its arguments end unchanged, every semaphore ends at zero. -/
theorem frame_DhB : quiescent_DhB (hDhB := Cert.DhB.Gen.facts) := fun m g _ => Cert.DhB.Gen.frame m g

/-- The same over extended reals. -/
theorem frame_DhBIdeal : quiescent_DhBIdeal (hDhBIdeal := Cert.DhBIdeal.Gen.facts) := fun m g _ => Cert.DhBIdeal.Gen.frame m g

/-- The same of its reference. -/
theorem frame_DhBRefIdeal : quiescent_DhBRefIdeal (hDhBRefIdeal := Cert.DhBRefIdeal.Gen.facts) :=
  fun m g _ => (θ_run _ _ _).mono
    (fun r h => ⟨fun c => (h c).2, sem_eq_zero_of_no_sems (by decide) r.2⟩) (Cert.DhBRefIdeal.Value.run m g)

/-- Call and reference, from the same arguments, end with equal results: the gradient of the second layer's normalised input. -/
theorem algebraic_DhB : algebraic_DhBIdeal_DhBRefIdeal (hDhBIdeal := Cert.DhBIdeal.Gen.facts) (hDhBRefIdeal := Cert.DhBRefIdeal.Gen.facts) := by
  intro m g m' g' _ hagree
  refine ⟨fun c y => Cert.DhB.at' (m (c.tc.loc Cert.DhBIdeal.main_arg0)) (m (c.tc.loc Cert.DhBIdeal.main_arg1)) (m (c.tc.loc Cert.DhBIdeal.main_arg2)) (y 0) (y 1), ?_, ?_⟩
  · exact (θ_run _ _ _).mono (fun r h c => by
      obtain ⟨h0, hk⟩ := h c
      exact ⟨h0.trans (Cert.DhB.left m c), hk⟩) (Cert.DhBIdeal.Value.run_blocks m g)
  · exact (θ_run _ _ _).mono (fun r h c => by
      obtain ⟨h0, hk⟩ := h c
      obtain ⟨e0, e1, e2⟩ := hagree c
      have r0 := h0.trans ((Cert.DhBRefIdeal.Read.val_main_v9_eq _ _ _).trans (Cert.DhB.ref _ _ _))
      rw [e0, e1, e2] at r0
      exact ⟨r0, hk⟩) (Cert.DhBRefIdeal.Value.run m' g')

/-- The call for the gradient of the second layer's input projection at words: it runs, its arguments end unchanged, every semaphore ends at zero. -/
theorem frame_DwInB : quiescent_DwInB (hDwInB := Cert.DwInB.Gen.facts) := fun m g _ => Cert.DwInB.Gen.frame m g

/-- The same over extended reals. -/
theorem frame_DwInBIdeal : quiescent_DwInBIdeal (hDwInBIdeal := Cert.DwInBIdeal.Gen.facts) := fun m g _ => Cert.DwInBIdeal.Gen.frame m g

/-- The same of its reference. -/
theorem frame_DwInBRefIdeal : quiescent_DwInBRefIdeal (hDwInBRefIdeal := Cert.DwInBRefIdeal.Gen.facts) :=
  fun m g _ => (θ_run _ _ _).mono
    (fun r h => ⟨fun c => (h c).2, sem_eq_zero_of_no_sems (by decide) r.2⟩) (Cert.DwInBRefIdeal.Value.run m g)

/-- Call and reference, from the same arguments, end with equal results: the gradient of the second layer's input projection. -/
theorem algebraic_DwInB : algebraic_DwInBIdeal_DwInBRefIdeal (hDwInBIdeal := Cert.DwInBIdeal.Gen.facts) (hDwInBRefIdeal := Cert.DwInBRefIdeal.Gen.facts) := by
  intro m g m' g' _ hagree
  refine ⟨fun c y => Cert.DwInB.at' (m (c.tc.loc Cert.DwInBIdeal.main_arg0)) (m (c.tc.loc Cert.DwInBIdeal.main_arg1)) (y 0) (y 1) (y 2), ?_, ?_⟩
  · exact (θ_run _ _ _).mono (fun r h c => by
      obtain ⟨h0, hk⟩ := h c
      exact ⟨h0.trans (Cert.DwInB.left m c), hk⟩) (Cert.DwInBIdeal.Value.run_blocks m g)
  · exact (θ_run _ _ _).mono (fun r h c => by
      obtain ⟨h0, hk⟩ := h c
      obtain ⟨e0, e1⟩ := hagree c
      have r0 := h0.trans ((Cert.DwInBRefIdeal.Read.val_main_v10_eq _ _).trans (Cert.DwInB.ref _ _))
      rw [e0, e1] at r0
      exact ⟨r0, hk⟩) (Cert.DwInBRefIdeal.Value.run m' g')

/-- The call for the gradient of the first layer's normalised input at words: it runs, its arguments end unchanged, every semaphore ends at zero. -/
theorem frame_DhA : quiescent_DhA (hDhA := Cert.DhA.Gen.facts) := fun m g _ => Cert.DhA.Gen.frame m g

/-- The same over extended reals. -/
theorem frame_DhAIdeal : quiescent_DhAIdeal (hDhAIdeal := Cert.DhAIdeal.Gen.facts) := fun m g _ => Cert.DhAIdeal.Gen.frame m g

/-- The same of its reference. -/
theorem frame_DhARefIdeal : quiescent_DhARefIdeal (hDhARefIdeal := Cert.DhARefIdeal.Gen.facts) :=
  fun m g _ => (θ_run _ _ _).mono
    (fun r h => ⟨fun c => (h c).2, sem_eq_zero_of_no_sems (by decide) r.2⟩) (Cert.DhARefIdeal.Value.run m g)

/-- Call and reference, from the same arguments, end with equal results: the gradient of the first layer's normalised input. -/
theorem algebraic_DhA : algebraic_DhAIdeal_DhARefIdeal (hDhAIdeal := Cert.DhAIdeal.Gen.facts) (hDhARefIdeal := Cert.DhARefIdeal.Gen.facts) := by
  intro m g m' g' _ hagree
  refine ⟨fun c y => Cert.DhA.at' (m (c.tc.loc Cert.DhAIdeal.main_arg0)) (m (c.tc.loc Cert.DhAIdeal.main_arg1)) (m (c.tc.loc Cert.DhAIdeal.main_arg2)) (y 0) (y 1), ?_, ?_⟩
  · exact (θ_run _ _ _).mono (fun r h c => by
      obtain ⟨h0, hk⟩ := h c
      exact ⟨h0.trans (Cert.DhA.left m c), hk⟩) (Cert.DhAIdeal.Value.run_blocks m g)
  · exact (θ_run _ _ _).mono (fun r h c => by
      obtain ⟨h0, hk⟩ := h c
      obtain ⟨e0, e1, e2⟩ := hagree c
      have r0 := h0.trans ((Cert.DhARefIdeal.Read.val_main_v9_eq _ _ _).trans (Cert.DhA.ref _ _ _))
      rw [e0, e1, e2] at r0
      exact ⟨r0, hk⟩) (Cert.DhARefIdeal.Value.run m' g')

/-- The call for the gradient of the first layer's input projection at words: it runs, its arguments end unchanged, every semaphore ends at zero. -/
theorem frame_DwInA : quiescent_DwInA (hDwInA := Cert.DwInA.Gen.facts) := fun m g _ => Cert.DwInA.Gen.frame m g

/-- The same over extended reals. -/
theorem frame_DwInAIdeal : quiescent_DwInAIdeal (hDwInAIdeal := Cert.DwInAIdeal.Gen.facts) := fun m g _ => Cert.DwInAIdeal.Gen.frame m g

/-- The same of its reference. -/
theorem frame_DwInARefIdeal : quiescent_DwInARefIdeal (hDwInARefIdeal := Cert.DwInARefIdeal.Gen.facts) :=
  fun m g _ => (θ_run _ _ _).mono
    (fun r h => ⟨fun c => (h c).2, sem_eq_zero_of_no_sems (by decide) r.2⟩) (Cert.DwInARefIdeal.Value.run m g)

/-- Call and reference, from the same arguments, end with equal results: the gradient of the first layer's input projection. -/
theorem algebraic_DwInA : algebraic_DwInAIdeal_DwInARefIdeal (hDwInAIdeal := Cert.DwInAIdeal.Gen.facts) (hDwInARefIdeal := Cert.DwInARefIdeal.Gen.facts) := by
  intro m g m' g' _ hagree
  refine ⟨fun c y => Cert.DwInA.at' (m (c.tc.loc Cert.DwInAIdeal.main_arg0)) (m (c.tc.loc Cert.DwInAIdeal.main_arg1)) (y 0) (y 1) (y 2), ?_, ?_⟩
  · exact (θ_run _ _ _).mono (fun r h c => by
      obtain ⟨h0, hk⟩ := h c
      exact ⟨h0.trans (Cert.DwInA.left m c), hk⟩) (Cert.DwInAIdeal.Value.run_blocks m g)
  · exact (θ_run _ _ _).mono (fun r h c => by
      obtain ⟨h0, hk⟩ := h c
      obtain ⟨e0, e1⟩ := hagree c
      have r0 := h0.trans ((Cert.DwInARefIdeal.Read.val_main_v8_eq _ _).trans (Cert.DwInA.ref _ _))
      rw [e0, e1] at r0
      exact ⟨r0, hk⟩) (Cert.DwInARefIdeal.Value.run m' g')

/-- The call for the gradient of an output projection at words: it runs, its arguments end unchanged, every semaphore ends at zero. -/
theorem frame_DwOut : quiescent_DwOut (hDwOut := Cert.DwOut.Gen.facts) := fun m g _ => Cert.DwOut.Gen.frame m g

/-- The same over extended reals. -/
theorem frame_DwOutIdeal : quiescent_DwOutIdeal (hDwOutIdeal := Cert.DwOutIdeal.Gen.facts) := fun m g _ => Cert.DwOutIdeal.Gen.frame m g

/-- The same of its reference. -/
theorem frame_DwOutRefIdeal : quiescent_DwOutRefIdeal (hDwOutRefIdeal := Cert.DwOutRefIdeal.Gen.facts) :=
  fun m g _ => (θ_run _ _ _).mono
    (fun r h => ⟨fun c => (h c).2, sem_eq_zero_of_no_sems (by decide) r.2⟩) (Cert.DwOutRefIdeal.Value.run m g)

/-- Call and reference, from the same arguments, end with equal results: the gradient of an output projection. -/
theorem algebraic_DwOut : algebraic_DwOutIdeal_DwOutRefIdeal (hDwOutIdeal := Cert.DwOutIdeal.Gen.facts) (hDwOutRefIdeal := Cert.DwOutRefIdeal.Gen.facts) := by
  intro m g m' g' _ hagree
  refine ⟨fun c y => Cert.DwOut.at' (m (c.tc.loc Cert.DwOutIdeal.main_arg0)) (m (c.tc.loc Cert.DwOutIdeal.main_arg1)) (y 0) (y 1), ?_, ?_⟩
  · exact (θ_run _ _ _).mono (fun r h c => by
      obtain ⟨h0, hk⟩ := h c
      exact ⟨h0.trans (Cert.DwOut.left m c), hk⟩) (Cert.DwOutIdeal.Value.run_blocks m g)
  · exact (θ_run _ _ _).mono (fun r h c => by
      obtain ⟨h0, hk⟩ := h c
      obtain ⟨e0, e1⟩ := hagree c
      have r0 := h0.trans ((Cert.DwOutRefIdeal.Read.val_main_v5_eq _ _).trans (Cert.DwOut.ref _ _))
      rw [e0, e1] at r0
      exact ⟨r0, hk⟩) (Cert.DwOutRefIdeal.Value.run m' g')

/-- The call for the gradients of a layer's output, of its gate and of its output projection's input at words: it runs, its arguments end unchanged, every semaphore ends at zero. -/
theorem frame_Dybr : quiescent_Dybr (hDybr := Cert.Dybr.Gen.facts) := fun m g _ => Cert.Dybr.Gen.frame m g

/-- The same over extended reals. -/
theorem frame_DybrIdeal : quiescent_DybrIdeal (hDybrIdeal := Cert.DybrIdeal.Gen.facts) := fun m g _ => Cert.DybrIdeal.Gen.frame m g

/-- The same of its reference. -/
theorem frame_DybrRefIdeal : quiescent_DybrRefIdeal (hDybrRefIdeal := Cert.DybrRefIdeal.Gen.facts) :=
  fun m g _ => (θ_run _ _ _).mono
    (fun r h => ⟨fun c => (h c).2.2.2, sem_eq_zero_of_no_sems (by decide) r.2⟩) (Cert.DybrRefIdeal.Value.run m g)

/-- Call and reference, from the same arguments, end with equal results: the gradients of a layer's output, of its gate and of its output projection's input. -/
theorem algebraic_Dybr : algebraic_DybrIdeal_DybrRefIdeal (hDybrIdeal := Cert.DybrIdeal.Gen.facts) (hDybrRefIdeal := Cert.DybrRefIdeal.Gen.facts) := by
  intro m g m' g' _ hagree
  refine ⟨fun c y => Cert.Dybr.dy (m (c.tc.loc Cert.DybrIdeal.main_arg0)) (m (c.tc.loc Cert.DybrIdeal.main_arg2)) (y 0) (y 1),
    fun c y => Cert.Dybr.dgate (m (c.tc.loc Cert.DybrIdeal.main_arg0)) (m (c.tc.loc Cert.DybrIdeal.main_arg1)) (y 0) (y 2),
    fun c y => Cert.Dybr.dbr (m (c.tc.loc Cert.DybrIdeal.main_arg0)) (m (c.tc.loc Cert.DybrIdeal.main_arg2)) (m (c.tc.loc Cert.DybrIdeal.main_arg3)) (y 0) (y 1), ?_, ?_⟩
  · exact (θ_run _ _ _).mono (fun r h c => by
      obtain ⟨h0, h1, h2, hk⟩ := h c
      exact ⟨h0.trans (Cert.Dybr.left4 m c), h1.trans (Cert.Dybr.left5 m c), h2.trans (Cert.Dybr.left6 m c), hk⟩) (Cert.DybrIdeal.Value.run_blocks m g)
  · exact (θ_run _ _ _).mono (fun r h c => by
      obtain ⟨h0, h1, h2, hk⟩ := h c
      obtain ⟨e0, e1, e2, e3⟩ := hagree c
      have r0 := h0.trans ((Cert.DybrRefIdeal.Read.val_main_v18_eq _ _).trans (Cert.Dybr.ref_dy _ _))
      rw [e0, e2] at r0
      have r1 := h1.trans ((Cert.DybrRefIdeal.Read.val_main_v19_eq _ _).trans (Cert.Dybr.ref_dgate _ _))
      rw [e0, e1] at r1
      have r2 := h2.trans ((Cert.DybrRefIdeal.Read.val_main_v20_eq _ _ _).trans (Cert.Dybr.ref_dbr _ _ _))
      rw [e0, e2, e3] at r2
      exact ⟨r0, r1, r2, hk⟩) (Cert.DybrRefIdeal.Value.run m' g')

/-- The call for the second layer's input projection at words: it runs, its arguments end unchanged, every semaphore ends at zero. -/
theorem frame_InB : quiescent_InB (hInB := Cert.InB.Gen.facts) := fun m g _ => Cert.InB.Gen.frame m g

/-- The same over extended reals. -/
theorem frame_InBIdeal : quiescent_InBIdeal (hInBIdeal := Cert.InBIdeal.Gen.facts) := fun m g _ => Cert.InBIdeal.Gen.frame m g

/-- The same of its reference. -/
theorem frame_InBRefIdeal : quiescent_InBRefIdeal (hInBRefIdeal := Cert.InBRefIdeal.Gen.facts) :=
  fun m g _ => (θ_run _ _ _).mono
    (fun r h => ⟨fun c => (h c).2, sem_eq_zero_of_no_sems (by decide) r.2⟩) (Cert.InBRefIdeal.Value.run m g)

/-- Call and reference, from the same arguments, end with equal results: the second layer's input projection. -/
theorem algebraic_InB : algebraic_InBIdeal_InBRefIdeal (hInBIdeal := Cert.InBIdeal.Gen.facts) (hInBRefIdeal := Cert.InBRefIdeal.Gen.facts) := by
  intro m g m' g' _ hagree
  refine ⟨fun c y => Cert.InB.at' (m (c.tc.loc Cert.InBIdeal.main_arg0)) (m (c.tc.loc Cert.InBIdeal.main_arg1)) (m (c.tc.loc Cert.InBIdeal.main_arg2)) (y 0) (y 1) (y 2), ?_, ?_⟩
  · exact (θ_run _ _ _).mono (fun r h c => by
      obtain ⟨h0, hk⟩ := h c
      exact ⟨h0.trans (Cert.InB.left m c), hk⟩) (Cert.InBIdeal.Value.run_blocks m g)
  · exact (θ_run _ _ _).mono (fun r h c => by
      obtain ⟨h0, hk⟩ := h c
      obtain ⟨e0, e1, e2⟩ := hagree c
      have r0 := h0.trans ((Cert.InBRefIdeal.Read.val_main_v7_eq _ _ _).trans (Cert.InB.ref _ _ _))
      rw [e0, e1, e2] at r0
      exact ⟨r0, hk⟩) (Cert.InBRefIdeal.Value.run m' g')

/-- The call for the first layer's input projection at words: it runs, its arguments end unchanged, every semaphore ends at zero. -/
theorem frame_InA : quiescent_InA (hInA := Cert.InA.Gen.facts) := fun m g _ => Cert.InA.Gen.frame m g

/-- The same over extended reals. -/
theorem frame_InAIdeal : quiescent_InAIdeal (hInAIdeal := Cert.InAIdeal.Gen.facts) := fun m g _ => Cert.InAIdeal.Gen.frame m g

/-- The same of its reference. -/
theorem frame_InARefIdeal : quiescent_InARefIdeal (hInARefIdeal := Cert.InARefIdeal.Gen.facts) :=
  fun m g _ => (θ_run _ _ _).mono
    (fun r h => ⟨fun c => (h c).2, sem_eq_zero_of_no_sems (by decide) r.2⟩) (Cert.InARefIdeal.Value.run m g)

/-- Call and reference, from the same arguments, end with equal results: the first layer's input projection. -/
theorem algebraic_InA : algebraic_InAIdeal_InARefIdeal (hInAIdeal := Cert.InAIdeal.Gen.facts) (hInARefIdeal := Cert.InARefIdeal.Gen.facts) := by
  intro m g m' g' _ hagree
  refine ⟨fun c y => Cert.InA.at' (m (c.tc.loc Cert.InAIdeal.main_arg0)) (m (c.tc.loc Cert.InAIdeal.main_arg1)) (y 0) (y 1), ?_, ?_⟩
  · exact (θ_run _ _ _).mono (fun r h c => by
      obtain ⟨h0, hk⟩ := h c
      exact ⟨h0.trans (Cert.InA.left m c), hk⟩) (Cert.InAIdeal.Value.run_blocks m g)
  · exact (θ_run _ _ _).mono (fun r h c => by
      obtain ⟨h0, hk⟩ := h c
      obtain ⟨e0, e1⟩ := hagree c
      have r0 := h0.trans ((Cert.InARefIdeal.Read.val_main_v4_eq _ _).trans (Cert.InA.ref _ _))
      rw [e0, e1] at r0
      exact ⟨r0, hk⟩) (Cert.InARefIdeal.Value.run m' g')

/-- The call for the first layer's output projection and the residual stream after it at words: it runs, its arguments end unchanged, every semaphore ends at zero. -/
theorem frame_OutA : quiescent_OutA (hOutA := Cert.OutA.Gen.facts) := fun m g _ => Cert.OutA.Gen.frame m g

/-- The same over extended reals. -/
theorem frame_OutAIdeal : quiescent_OutAIdeal (hOutAIdeal := Cert.OutAIdeal.Gen.facts) := fun m g _ => Cert.OutAIdeal.Gen.frame m g

/-- The same of its reference. -/
theorem frame_OutARefIdeal : quiescent_OutARefIdeal (hOutARefIdeal := Cert.OutARefIdeal.Gen.facts) :=
  fun m g _ => (θ_run _ _ _).mono
    (fun r h => ⟨fun c => (h c).2.2, sem_eq_zero_of_no_sems (by decide) r.2⟩) (Cert.OutARefIdeal.Value.run m g)

/-- Call and reference, from the same arguments, end with equal results: the first layer's output projection and the residual stream after it. -/
theorem algebraic_OutA : algebraic_OutAIdeal_OutARefIdeal (hOutAIdeal := Cert.OutAIdeal.Gen.facts) (hOutARefIdeal := Cert.OutARefIdeal.Gen.facts) := by
  intro m g m' g' _ hagree
  refine ⟨fun c y => Cert.OutA.yo (m (c.tc.loc Cert.OutAIdeal.main_arg0)) (m (c.tc.loc Cert.OutAIdeal.main_arg1)) (y 0) (y 1),
    fun c y => Cert.OutA.xn (m (c.tc.loc Cert.OutAIdeal.main_arg0)) (m (c.tc.loc Cert.OutAIdeal.main_arg1)) (m (c.tc.loc Cert.OutAIdeal.main_arg2)) (m (c.tc.loc Cert.OutAIdeal.main_arg3)) (y 0) (y 1), ?_, ?_⟩
  · exact (θ_run _ _ _).mono (fun r h c => by
      obtain ⟨h0, h1, hk⟩ := h c
      exact ⟨h0.trans (Cert.OutA.left4 m c), h1.trans (Cert.OutA.left5 m c), hk⟩) (Cert.OutAIdeal.Value.run_blocks m g)
  · exact (θ_run _ _ _).mono (fun r h c => by
      obtain ⟨h0, h1, hk⟩ := h c
      obtain ⟨e0, e1, e2, e3⟩ := hagree c
      have r0 := h0.trans ((Cert.OutARefIdeal.Read.val_main_v3_eq _ _).trans (Cert.OutA.ref_yo _ _))
      rw [e0, e1] at r0
      have r1 := h1.trans ((Cert.OutARefIdeal.Read.val_main_v12_eq _ _ _ _).trans (Cert.OutA.ref_xn _ _ _ _))
      rw [e0, e1, e2, e3] at r1
      exact ⟨r0, r1, hk⟩) (Cert.OutARefIdeal.Value.run m' g')

/-- The call for the gradients of the modulation's weights and bias at words: it runs, its arguments end unchanged, every semaphore ends at zero. -/
theorem frame_AdaBwd : quiescent_AdaBwd (hAdaBwd := Cert.AdaBwd.Gen.facts) := fun m g _ => Cert.AdaBwd.Gen.frame m g

/-- The same over extended reals. -/
theorem frame_AdaBwdIdeal : quiescent_AdaBwdIdeal (hAdaBwdIdeal := Cert.AdaBwdIdeal.Gen.facts) := fun m g _ => Cert.AdaBwdIdeal.Gen.frame m g

/-- The same of its reference. -/
theorem frame_AdaBwdRefIdeal : quiescent_AdaBwdRefIdeal (hAdaBwdRefIdeal := Cert.AdaBwdRefIdeal.Gen.facts) :=
  fun m g _ => (θ_run _ _ _).mono
    (fun r h => ⟨fun c => (h c).2.2, sem_eq_zero_of_no_sems (by decide) r.2⟩) (Cert.AdaBwdRefIdeal.Value.run m g)

/-- Call and reference, from the same arguments, end with equal results: the gradients of the modulation's weights and bias. -/
theorem algebraic_AdaBwd : algebraic_AdaBwdIdeal_AdaBwdRefIdeal (hAdaBwdIdeal := Cert.AdaBwdIdeal.Gen.facts) (hAdaBwdRefIdeal := Cert.AdaBwdRefIdeal.Gen.facts) := by
  intro m g m' g' _ hagree
  refine ⟨fun c y => Cert.AdaBwd.gw (m (c.tc.loc Cert.AdaBwdIdeal.main_arg0)) (m (c.tc.loc Cert.AdaBwdIdeal.main_arg1)) (y 0) (y 1) (y 2),
    fun c y => Cert.AdaBwd.gb (m (c.tc.loc Cert.AdaBwdIdeal.main_arg2)) (y 0) (y 1), ?_, ?_⟩
  · exact (θ_run _ _ _).mono (fun r h c => by
      obtain ⟨h0, h1, hk⟩ := h c
      exact ⟨h0.trans (Cert.AdaBwd.left3 m c), h1.trans (Cert.AdaBwd.left4 m c), hk⟩) (Cert.AdaBwdIdeal.Value.run_blocks m g)
  · exact (θ_run _ _ _).mono (fun r h c => by
      obtain ⟨h0, h1, hk⟩ := h c
      obtain ⟨e0, e1, e2⟩ := hagree c
      have r0 := h0.trans ((Cert.AdaBwdRefIdeal.Read.val_main_v16_eq _ _).trans ((congr (congrArg (Cert.AdaBwdRefIdeal.Read.val_main_v16 (F := Ideal)) e0) e1).trans (Cert.AdaBwd.ref3 _ _)))
      have r1 := h1.trans ((Cert.AdaBwdRefIdeal.Read.val_main_v39_eq _).trans ((congrArg (Cert.AdaBwdRefIdeal.Read.val_main_v39 (F := Ideal)) e2).trans (Cert.AdaBwd.ref4 _)))
      exact ⟨r0, r1, hk⟩) (Cert.AdaBwdRefIdeal.Value.run m' g')

/-- The call for the modulation of both layers at words: it runs, its arguments end unchanged, every semaphore ends at zero. -/
theorem frame_AdaFwd : quiescent_AdaFwd (hAdaFwd := Cert.AdaFwd.Gen.facts) := fun m g _ => Cert.AdaFwd.Gen.frame m g

/-- The same over extended reals. -/
theorem frame_AdaFwdIdeal : quiescent_AdaFwdIdeal (hAdaFwdIdeal := Cert.AdaFwdIdeal.Gen.facts) := fun m g _ => Cert.AdaFwdIdeal.Gen.frame m g

/-- The same of its reference. -/
theorem frame_AdaFwdRefIdeal : quiescent_AdaFwdRefIdeal (hAdaFwdRefIdeal := Cert.AdaFwdRefIdeal.Gen.facts) :=
  fun m g _ => (θ_run _ _ _).mono
    (fun r h => ⟨fun c => (h c).2, sem_eq_zero_of_no_sems (by decide) r.2⟩) (Cert.AdaFwdRefIdeal.Value.run m g)

/-- Call and reference, from the same arguments, end with equal results: the modulation of both layers. -/
theorem algebraic_AdaFwd : algebraic_AdaFwdIdeal_AdaFwdRefIdeal (hAdaFwdIdeal := Cert.AdaFwdIdeal.Gen.facts) (hAdaFwdRefIdeal := Cert.AdaFwdRefIdeal.Gen.facts) := by
  intro m g m' g' _ hagree
  refine ⟨fun c y => Cert.AdaFwd.mods (m (c.tc.loc Cert.AdaFwdIdeal.main_arg0)) (m (c.tc.loc Cert.AdaFwdIdeal.main_arg1)) (m (c.tc.loc Cert.AdaFwdIdeal.main_arg2)) (y 0) (y 1) (y 2), ?_, ?_⟩
  · exact (θ_run _ _ _).mono (fun r h c => by
      obtain ⟨h0, _, hk⟩ := h c
      exact ⟨h0.trans (Cert.AdaFwd.left4 m c), hk⟩) (Cert.AdaFwdIdeal.Value.run_blocks m g)
  · exact (θ_run _ _ _).mono (fun r h c => by
      obtain ⟨h0, hk⟩ := h c
      obtain ⟨e0, e1, e2, e3⟩ := hagree c
      have r0 := h0.trans ((Cert.AdaFwdRefIdeal.Read.val_main_v20_eq _ _ _).trans ((congr (congr (congrArg (Cert.AdaFwdRefIdeal.Read.val_main_v20 (F := Ideal)) e0) e1) e2).trans (Cert.AdaFwd.ref4 _ _ _)))
      exact ⟨r0, hk⟩) (Cert.AdaFwdRefIdeal.Value.run m' g')

/-- The call for the first layer's normalised input, and its transpose at words: it runs, its arguments end unchanged, every semaphore ends at zero. -/
theorem frame_Pre : quiescent_Pre (hPre := Cert.Pre.Gen.facts) := fun m g _ => Cert.Pre.Gen.frame m g

/-- The same over extended reals. -/
theorem frame_PreIdeal : quiescent_PreIdeal (hPreIdeal := Cert.PreIdeal.Gen.facts) := fun m g _ => Cert.PreIdeal.Gen.frame m g

/-- The same of its reference. -/
theorem frame_PreRefIdeal : quiescent_PreRefIdeal (hPreRefIdeal := Cert.PreRefIdeal.Gen.facts) :=
  fun m g _ => (θ_run _ _ _).mono
    (fun r h => ⟨fun c => (h c).2.2, sem_eq_zero_of_no_sems (by decide) r.2⟩) (Cert.PreRefIdeal.Value.run m g)

/-- Call and reference, from the same arguments, end with equal results: the first layer's normalised input, and its transpose. -/
theorem algebraic_Pre : algebraic_PreIdeal_PreRefIdeal (hPreIdeal := Cert.PreIdeal.Gen.facts) (hPreRefIdeal := Cert.PreRefIdeal.Gen.facts) := by
  intro m g m' g' _ hagree
  refine ⟨fun c y => Cert.Pre.h (m (c.tc.loc Cert.PreIdeal.main_arg0)) (m (c.tc.loc Cert.PreIdeal.main_arg1)) (m (c.tc.loc Cert.PreIdeal.main_arg2)) (y 0) (y 1),
    fun c y => Cert.Pre.h (m (c.tc.loc Cert.PreIdeal.main_arg0)) (m (c.tc.loc Cert.PreIdeal.main_arg1)) (m (c.tc.loc Cert.PreIdeal.main_arg2)) (y 1) (y 0), ?_, ?_⟩
  · exact (θ_run _ _ _).mono (fun r h c => by
      obtain ⟨h0, h1, hk⟩ := h c
      exact ⟨h0.trans (Cert.Pre.left3 m c), h1.trans (Cert.Pre.left4 m c), hk⟩) (Cert.PreIdeal.Value.run_blocks m g)
  · exact (θ_run _ _ _).mono (fun r h c => by
      obtain ⟨h0, h1, hk⟩ := h c
      obtain ⟨e0, e1, e2⟩ := hagree c
      have r0 := h0.trans ((Cert.PreRefIdeal.Read.val_main_v28_eq _ _ _).trans ((congr (congr (congrArg (Cert.PreRefIdeal.Read.val_main_v28 (F := Ideal)) e0) e1) e2).trans (Cert.Pre.ref3 _ _ _)))
      have r1 := h1.trans ((Cert.PreRefIdeal.Read.val_main_v30_eq _ _ _).trans ((congr (congr (congrArg (Cert.PreRefIdeal.Read.val_main_v30 (F := Ideal)) e0) e1) e2).trans (Cert.Pre.ref4 _ _ _)))
      exact ⟨r0, r1, hk⟩) (Cert.PreRefIdeal.Value.run m' g')

/-- The call for the optimiser's step of the modulation's weights at words: it runs, its arguments end unchanged, every semaphore ends at zero. -/
theorem frame_AdamAda : quiescent_AdamAda (hAdamAda := Cert.AdamAda.Gen.facts) := fun m g _ => Cert.AdamAda.Gen.frame m g

/-- The same over extended reals. -/
theorem frame_AdamAdaIdeal : quiescent_AdamAdaIdeal (hAdamAdaIdeal := Cert.AdamAdaIdeal.Gen.facts) := fun m g _ => Cert.AdamAdaIdeal.Gen.frame m g

/-- The same of its reference. -/
theorem frame_AdamAdaRefIdeal : quiescent_AdamAdaRefIdeal (hAdamAdaRefIdeal := Cert.AdamAdaRefIdeal.Gen.facts) :=
  fun m g _ => (θ_run _ _ _).mono
    (fun r h => ⟨fun c => (h c).2.2.2.2, sem_eq_zero_of_no_sems (by decide) r.2⟩) (Cert.AdamAdaRefIdeal.Value.run m g)

/-- Call and reference, from the same arguments, end with equal results: the optimiser's step of the modulation's weights. -/
theorem algebraic_AdamAda : algebraic_AdamAdaIdeal_AdamAdaRefIdeal (hAdamAdaIdeal := Cert.AdamAdaIdeal.Gen.facts) (hAdamAdaRefIdeal := Cert.AdamAdaRefIdeal.Gen.facts) := by
  intro m g m' g' _ hagree
  refine ⟨fun c y => Cert.AdamAda.row (m (c.tc.loc Cert.AdamAdaIdeal.main_arg0)) (y 0) (y 1),
    fun c y => Cert.Adam.step (Cert.AdamAda.row (m (c.tc.loc Cert.AdamAdaIdeal.main_arg0)) (y 0) (y 1)) (Cert.AdamAda.row (m (c.tc.loc Cert.AdamAdaIdeal.main_arg1)) (y 0) (y 1)) (Cert.AdamAda.row (m (c.tc.loc Cert.AdamAdaIdeal.main_arg2)) (y 0) (y 1)) (Cert.AdamAda.row (m (c.tc.loc Cert.AdamAdaIdeal.main_arg3)) (y 0) (y 1)),
    fun c y => Cert.Adam.mom (Cert.AdamAda.row (m (c.tc.loc Cert.AdamAdaIdeal.main_arg0)) (y 0) (y 1)) (Cert.AdamAda.row (m (c.tc.loc Cert.AdamAdaIdeal.main_arg2)) (y 0) (y 1)),
    fun c y => Cert.Adam.sec (Cert.AdamAda.row (m (c.tc.loc Cert.AdamAdaIdeal.main_arg0)) (y 0) (y 1)) (Cert.AdamAda.row (m (c.tc.loc Cert.AdamAdaIdeal.main_arg3)) (y 0) (y 1)), ?_, ?_⟩
  · exact (θ_run _ _ _).mono (fun r h c => by
      obtain ⟨h0, h1, h2, h3, hk⟩ := h c
      exact ⟨h0.trans (Cert.AdamAda.left4 m c), h1.trans (Cert.AdamAda.left5 m c), h2.trans (Cert.AdamAda.left6 m c), h3.trans (Cert.AdamAda.left7 m c), hk⟩) (Cert.AdamAdaIdeal.Value.run_blocks m g)
  · exact (θ_run _ _ _).mono (fun r h c => by
      obtain ⟨h0, h1, h2, h3, hk⟩ := h c
      obtain ⟨e0, e1, e2, e3⟩ := hagree c
      have r0 := h0.trans ((Cert.AdamAdaRefIdeal.Read.val_main_v24_eq _).trans ((congrArg (Cert.AdamAdaRefIdeal.Read.val_main_v24 (F := Ideal)) e0).trans (Cert.AdamAda.ref4 _)))
      have r1 := h1.trans ((Cert.AdamAdaRefIdeal.Read.val_main_v25_eq _ _ _ _).trans ((congr (congr (congr (congrArg (Cert.AdamAdaRefIdeal.Read.val_main_v25 (F := Ideal)) e0) e1) e2) e3).trans (Cert.AdamAda.ref5 _ _ _ _)))
      have r2 := h2.trans ((Cert.AdamAdaRefIdeal.Read.val_main_v26_eq _ _).trans ((congr (congrArg (Cert.AdamAdaRefIdeal.Read.val_main_v26 (F := Ideal)) e0) e2).trans (Cert.AdamAda.ref6 _ _)))
      have r3 := h3.trans ((Cert.AdamAdaRefIdeal.Read.val_main_v27_eq _ _).trans ((congr (congrArg (Cert.AdamAdaRefIdeal.Read.val_main_v27 (F := Ideal)) e0) e3).trans (Cert.AdamAda.ref7 _ _)))
      exact ⟨r0, r1, r2, r3, hk⟩) (Cert.AdamAdaRefIdeal.Value.run m' g')

/-- The call for the optimiser's step of the parameters whose gradients come last, and the sum of the loss at words: it runs, its arguments end unchanged, every semaphore ends at zero. -/
theorem frame_AdamLate : quiescent_AdamLate (hAdamLate := Cert.AdamLate.Gen.facts) := fun m g _ => Cert.AdamLate.Gen.frame m g

/-- The same over extended reals. -/
theorem frame_AdamLateIdeal : quiescent_AdamLateIdeal (hAdamLateIdeal := Cert.AdamLateIdeal.Gen.facts) := fun m g _ => Cert.AdamLateIdeal.Gen.frame m g

/-- The same of its reference. -/
theorem frame_AdamLateRefIdeal : quiescent_AdamLateRefIdeal (hAdamLateRefIdeal := Cert.AdamLateRefIdeal.Gen.facts) :=
  fun m g _ => (θ_run _ _ _).mono
    (fun r h => ⟨fun c => (h c).2.2.2.2.2.2.2.2.2.2.2.2.2, sem_eq_zero_of_no_sems (by decide) r.2⟩) (Cert.AdamLateRefIdeal.Value.run m g)

set_option maxHeartbeats 2000000 in
/-- Call and reference, from the same arguments, end with equal results: the optimiser's step of the parameters whose gradients come last, and the sum of the loss. -/
theorem algebraic_AdamLate : algebraic_AdamLateIdeal_AdamLateRefIdeal (hAdamLateIdeal := Cert.AdamLateIdeal.Gen.facts) (hAdamLateRefIdeal := Cert.AdamLateRefIdeal.Gen.facts) := by
  intro m g m' g' _ hagree
  refine ⟨fun c y => Cert.AdamLate.g0 (m (c.tc.loc Cert.AdamLateIdeal.main_arg0)) (y 0) (y 1),
    fun c y => Cert.Adam.step (Cert.AdamLate.g0 (m (c.tc.loc Cert.AdamLateIdeal.main_arg0)) (y 0) (y 1)) ((m (c.tc.loc Cert.AdamLateIdeal.main_arg3)) (ix2 (y 0) (y 1))) ((m (c.tc.loc Cert.AdamLateIdeal.main_arg6)) (ix2 (y 0) (y 1))) ((m (c.tc.loc Cert.AdamLateIdeal.main_arg9)) (ix2 (y 0) (y 1))),
    fun c y => Cert.Adam.mom (Cert.AdamLate.g0 (m (c.tc.loc Cert.AdamLateIdeal.main_arg0)) (y 0) (y 1)) ((m (c.tc.loc Cert.AdamLateIdeal.main_arg6)) (ix2 (y 0) (y 1))),
    fun c y => Cert.Adam.sec (Cert.AdamLate.g0 (m (c.tc.loc Cert.AdamLateIdeal.main_arg0)) (y 0) (y 1)) ((m (c.tc.loc Cert.AdamLateIdeal.main_arg9)) (ix2 (y 0) (y 1))),
    fun c y => Cert.AdamLate.g1 (m (c.tc.loc Cert.AdamLateIdeal.main_arg1)) (y 0) (y 1),
    fun c y => Cert.Adam.step (Cert.AdamLate.g1 (m (c.tc.loc Cert.AdamLateIdeal.main_arg1)) (y 0) (y 1)) ((m (c.tc.loc Cert.AdamLateIdeal.main_arg4)) (ix2 (y 0) (y 1))) ((m (c.tc.loc Cert.AdamLateIdeal.main_arg7)) (ix2 (y 0) (y 1))) ((m (c.tc.loc Cert.AdamLateIdeal.main_arg10)) (ix2 (y 0) (y 1))),
    fun c y => Cert.Adam.mom (Cert.AdamLate.g1 (m (c.tc.loc Cert.AdamLateIdeal.main_arg1)) (y 0) (y 1)) ((m (c.tc.loc Cert.AdamLateIdeal.main_arg7)) (ix2 (y 0) (y 1))),
    fun c y => Cert.Adam.sec (Cert.AdamLate.g1 (m (c.tc.loc Cert.AdamLateIdeal.main_arg1)) (y 0) (y 1)) ((m (c.tc.loc Cert.AdamLateIdeal.main_arg10)) (ix2 (y 0) (y 1))),
    fun c y => Cert.AdamLate.g2 (m (c.tc.loc Cert.AdamLateIdeal.main_arg2)) (y 0) (y 1),
    fun c y => Cert.Adam.step (Cert.AdamLate.g2 (m (c.tc.loc Cert.AdamLateIdeal.main_arg2)) (y 0) (y 1)) ((m (c.tc.loc Cert.AdamLateIdeal.main_arg5)) (ix2 (y 0) (y 1))) ((m (c.tc.loc Cert.AdamLateIdeal.main_arg8)) (ix2 (y 0) (y 1))) ((m (c.tc.loc Cert.AdamLateIdeal.main_arg11)) (ix2 (y 0) (y 1))),
    fun c y => Cert.Adam.mom (Cert.AdamLate.g2 (m (c.tc.loc Cert.AdamLateIdeal.main_arg2)) (y 0) (y 1)) ((m (c.tc.loc Cert.AdamLateIdeal.main_arg8)) (ix2 (y 0) (y 1))),
    fun c y => Cert.Adam.sec (Cert.AdamLate.g2 (m (c.tc.loc Cert.AdamLateIdeal.main_arg2)) (y 0) (y 1)) ((m (c.tc.loc Cert.AdamLateIdeal.main_arg11)) (ix2 (y 0) (y 1))),
    fun c y => Cert.AdamLate.tot (m (c.tc.loc Cert.AdamLateIdeal.main_arg12)) (y 0) (y 1), ?_, ?_⟩
  · exact (θ_run _ _ _).mono (fun r h c => by
      obtain ⟨h0, h1, h2, h3, h4, h5, h6, h7, h8, h9, h10, h11, h12, hk⟩ := h c
      exact ⟨h0.trans (Cert.AdamLate.left13 m c), h1.trans (Cert.AdamLate.left14 m c), h2.trans (Cert.AdamLate.left15 m c), h3.trans (Cert.AdamLate.left16 m c), h4.trans (Cert.AdamLate.left17 m c), h5.trans (Cert.AdamLate.left18 m c), h6.trans (Cert.AdamLate.left19 m c), h7.trans (Cert.AdamLate.left20 m c), h8.trans (Cert.AdamLate.left21 m c), h9.trans (Cert.AdamLate.left22 m c), h10.trans (Cert.AdamLate.left23 m c), h11.trans (Cert.AdamLate.left24 m c), h12.trans (Cert.AdamLate.left25 m c), hk⟩) (Cert.AdamLateIdeal.Value.run_blocks m g)
  · exact (θ_run _ _ _).mono (fun r h c => by
      obtain ⟨h0, h1, h2, h3, h4, h5, h6, h7, h8, h9, h10, h11, h12, hk⟩ := h c
      obtain ⟨e0, e1, e2, e3, e4, e5, e6, e7, e8, e9, e10, e11, e12⟩ := hagree c
      have r0 := h0.trans ((Cert.AdamLateRefIdeal.Read.val_main_v0_eq _).trans ((congrArg (Cert.AdamLateRefIdeal.Read.val_main_v0 (F := Ideal)) e0).trans (Cert.AdamLate.ref13 _)))
      have r1 := h1.trans ((Cert.AdamLateRefIdeal.Read.val_main_v24_eq _ _ _ _).trans ((congr (congr (congr (congrArg (Cert.AdamLateRefIdeal.Read.val_main_v24 (F := Ideal)) e0) e3) e6) e9).trans (Cert.AdamLate.ref14 _ _ _ _)))
      have r2 := h2.trans ((Cert.AdamLateRefIdeal.Read.val_main_v5_eq _ _).trans ((congr (congrArg (Cert.AdamLateRefIdeal.Read.val_main_v5 (F := Ideal)) e0) e6).trans (Cert.AdamLate.ref15 _ _)))
      have r3 := h3.trans ((Cert.AdamLateRefIdeal.Read.val_main_v11_eq _ _).trans ((congr (congrArg (Cert.AdamLateRefIdeal.Read.val_main_v11 (F := Ideal)) e0) e9).trans (Cert.AdamLate.ref16 _ _)))
      have r4 := h4.trans ((Cert.AdamLateRefIdeal.Read.val_main_v25_eq _).trans ((congrArg (Cert.AdamLateRefIdeal.Read.val_main_v25 (F := Ideal)) e1).trans (Cert.AdamLate.ref17 _)))
      have r5 := h5.trans ((Cert.AdamLateRefIdeal.Read.val_main_v49_eq _ _ _ _).trans ((congr (congr (congr (congrArg (Cert.AdamLateRefIdeal.Read.val_main_v49 (F := Ideal)) e1) e4) e7) e10).trans (Cert.AdamLate.ref18 _ _ _ _)))
      have r6 := h6.trans ((Cert.AdamLateRefIdeal.Read.val_main_v30_eq _ _).trans ((congr (congrArg (Cert.AdamLateRefIdeal.Read.val_main_v30 (F := Ideal)) e1) e7).trans (Cert.AdamLate.ref19 _ _)))
      have r7 := h7.trans ((Cert.AdamLateRefIdeal.Read.val_main_v36_eq _ _).trans ((congr (congrArg (Cert.AdamLateRefIdeal.Read.val_main_v36 (F := Ideal)) e1) e10).trans (Cert.AdamLate.ref20 _ _)))
      have r8 := h8.trans ((Cert.AdamLateRefIdeal.Read.val_main_v50_eq _).trans ((congrArg (Cert.AdamLateRefIdeal.Read.val_main_v50 (F := Ideal)) e2).trans (Cert.AdamLate.ref21 _)))
      have r9 := h9.trans ((Cert.AdamLateRefIdeal.Read.val_main_v74_eq _ _ _ _).trans ((congr (congr (congr (congrArg (Cert.AdamLateRefIdeal.Read.val_main_v74 (F := Ideal)) e2) e5) e8) e11).trans (Cert.AdamLate.ref22 _ _ _ _)))
      have r10 := h10.trans ((Cert.AdamLateRefIdeal.Read.val_main_v55_eq _ _).trans ((congr (congrArg (Cert.AdamLateRefIdeal.Read.val_main_v55 (F := Ideal)) e2) e8).trans (Cert.AdamLate.ref23 _ _)))
      have r11 := h11.trans ((Cert.AdamLateRefIdeal.Read.val_main_v61_eq _ _).trans ((congr (congrArg (Cert.AdamLateRefIdeal.Read.val_main_v61 (F := Ideal)) e2) e11).trans (Cert.AdamLate.ref24 _ _)))
      have r12 := h12.trans ((Cert.AdamLateRefIdeal.Read.val_main_v75_eq _).trans ((congrArg (Cert.AdamLateRefIdeal.Read.val_main_v75 (F := Ideal)) e12).trans (Cert.AdamLate.ref25 _)))
      exact ⟨r0, r1, r2, r3, r4, r5, r6, r7, r8, r9, r10, r11, r12, hk⟩) (Cert.AdamLateRefIdeal.Value.run m' g')

/-- The shapes the precondition of the call for the gradients through the first layer's norm and modulation needs. -/
theorem facts_finite_prenorm_bwd : Cert.Pre_finite_prenorm_bwd.Facts := by
  constructor <;> decide

/-- The call for the gradients through the first layer's norm and modulation at words: it runs, its arguments end unchanged, every semaphore ends at zero. -/
theorem frame_PreBwd : quiescent_PreBwd (hPreBwd := Cert.PreBwd.Gen.facts) := fun m g _ => Cert.PreBwd.Gen.frame m g

/-- The same over extended reals. -/
theorem frame_PreBwdIdeal : quiescent_PreBwdIdeal (hPreBwdIdeal := Cert.PreBwdIdeal.Gen.facts) := fun m g _ => Cert.PreBwdIdeal.Gen.frame m g

/-- The same of its reference. -/
theorem frame_PreBwdRefIdeal : quiescent_PreBwdRefIdeal (hPreBwdRefIdeal := Cert.PreBwdRefIdeal.Gen.facts) :=
  fun m g _ => (θ_run _ _ _).mono
    (fun r h => ⟨fun c => (h c).2.2.2, sem_eq_zero_of_no_sems (by decide) r.2⟩) (Cert.PreBwdRefIdeal.Value.run m g)

/-- Call and reference, from the same arguments, end with equal results: the gradients through the first layer's norm and modulation. -/
theorem algebraic_PreBwd : algebraic_PreBwdIdeal_PreBwdRefIdeal_pre_finite_prenorm_bwd (hPreBwdIdeal := Cert.PreBwdIdeal.Gen.facts) (hPreBwdRefIdeal := Cert.PreBwdRefIdeal.Gen.facts) (hPre_finite_prenorm_bwd := facts_finite_prenorm_bwd) := by
  intro m g m' g' hpre hagree
  letI : Cert.Pre_finite_prenorm_bwd.Facts := facts_finite_prenorm_bwd
  refine ⟨fun c y => Cert.PreBwd.dx (m (c.tc.loc Cert.PreBwdIdeal.main_arg0)) (m (c.tc.loc Cert.PreBwdIdeal.main_arg1)) (m (c.tc.loc Cert.PreBwdIdeal.main_arg2)) (m (c.tc.loc Cert.PreBwdIdeal.main_arg3)) (m (c.tc.loc Cert.PreBwdIdeal.main_arg4)) (y 0) (y 1),
    fun c y => Cert.PreBwd.dss (m (c.tc.loc Cert.PreBwdIdeal.main_arg0)) (m (c.tc.loc Cert.PreBwdIdeal.main_arg1)) (m (c.tc.loc Cert.PreBwdIdeal.main_arg2)) (y 0) (y 1) (y 2),
    fun c y => Cert.PreBwd.dgn (m (c.tc.loc Cert.PreBwdIdeal.main_arg0)) (m (c.tc.loc Cert.PreBwdIdeal.main_arg1)) (m (c.tc.loc Cert.PreBwdIdeal.main_arg3)) 4 (y 1), ?_, ?_⟩
  · exact (θ_run _ _ _).mono (fun r h c => by
      obtain ⟨h0, h1, h2, hk⟩ := h c
      exact ⟨h0.trans (Cert.PreBwd.left5 m c), h1.trans (Cert.PreBwd.left6 m c), h2.trans (Cert.PreBwd.left7 m c), hk⟩) (Cert.PreBwdIdeal.Value.run_blocks m g)
  · exact (θ_run _ _ _).mono (fun r h c => by
      obtain ⟨h0, h1, h2, hk⟩ := h c
      obtain ⟨e0, e1, e2, e3, e4⟩ := hagree c
      have f0 := fun i => Cert.Mixer.real_of_finite (congrFun (hpre c).1 i)
      have f1 := fun i => Cert.Mixer.real_of_finite (congrFun (hpre c).2.1 i)
      have f2 := fun i => Cert.Mixer.real_of_finite (congrFun (hpre c).2.2.1 i)
      have f3 := fun i => Cert.Mixer.real_of_finite (congrFun (hpre c).2.2.2 i)
      have r0 := h0.trans ((Cert.PreBwdRefIdeal.Read.val_main_v61_eq m' c).trans ((congr (congr (congr (congr (congrArg (Cert.PreBwdRefIdeal.Read.val_main_v61 (F := Ideal)) e0) e1) e2) e3) e4).trans (Cert.PreBwd.ref5 (m (c.tc.loc Cert.PreBwdIdeal.main_arg0)) (m (c.tc.loc Cert.PreBwdIdeal.main_arg1)) (m (c.tc.loc Cert.PreBwdIdeal.main_arg2)) (m (c.tc.loc Cert.PreBwdIdeal.main_arg3)) (m (c.tc.loc Cert.PreBwdIdeal.main_arg4)) f0 f1 f2 f3)))
      have r1 := h1.trans ((Cert.PreBwdRefIdeal.Read.val_main_v64_eq _ _ _).trans ((congr (congr (congrArg (Cert.PreBwdRefIdeal.Read.val_main_v64 (F := Ideal)) e0) e1) e2).trans (Cert.PreBwd.ref6 _ _ _)))
      have r2 := h2.trans ((Cert.PreBwdRefIdeal.Read.val_main_v65_eq _ _ _).trans ((congr (congr (congrArg (Cert.PreBwdRefIdeal.Read.val_main_v65 (F := Ideal)) e0) e1) e3).trans (Cert.PreBwd.ref7 _ _ _)))
      exact ⟨r0, r1, r2, hk⟩) (Cert.PreBwdRefIdeal.Value.run m' g')

/-- The shapes the precondition of the call for the second layer's output projection, the loss and its gradients needs. -/
theorem facts_finite_loss : Cert.Pre_finite_loss.Facts := by
  constructor <;> decide

/-- The call for the second layer's output projection, the loss and its gradients at words: it runs, its arguments end unchanged, every semaphore ends at zero. -/
theorem frame_Loss : quiescent_Loss (hLoss := Cert.Loss.Gen.facts) := fun m g _ => Cert.Loss.Gen.frame m g

/-- The same over extended reals. -/
theorem frame_LossIdeal : quiescent_LossIdeal (hLossIdeal := Cert.LossIdeal.Gen.facts) := fun m g _ => Cert.LossIdeal.Gen.frame m g

/-- The same of its reference. -/
theorem frame_LossRefIdeal : quiescent_LossRefIdeal (hLossRefIdeal := Cert.LossRefIdeal.Gen.facts) :=
  fun m g _ => (θ_run _ _ _).mono
    (fun r h => ⟨fun c => (h c).2.2.2.2, sem_eq_zero_of_no_sems (by decide) r.2⟩) (Cert.LossRefIdeal.Value.run m g)

/-- Call and reference, from the same arguments, end with equal results: the second layer's output projection, the loss and its gradients. -/
theorem algebraic_Loss : algebraic_LossIdeal_LossRefIdeal_pre_finite_loss (hLossIdeal := Cert.LossIdeal.Gen.facts) (hLossRefIdeal := Cert.LossRefIdeal.Gen.facts) (hPre_finite_loss := facts_finite_loss) := by
  intro m g m' g' hpre hagree
  letI : Cert.Pre_finite_loss.Facts := facts_finite_loss
  refine ⟨fun c y => Cert.Loss.yo (m (c.tc.loc Cert.LossIdeal.main_arg0)) (m (c.tc.loc Cert.LossIdeal.main_arg1)) (y 0) (y 1),
    fun c y => Cert.Loss.dx (m (c.tc.loc Cert.LossIdeal.main_arg0)) (m (c.tc.loc Cert.LossIdeal.main_arg1)) (m (c.tc.loc Cert.LossIdeal.main_arg2)) (m (c.tc.loc Cert.LossIdeal.main_arg3)) (m (c.tc.loc Cert.LossIdeal.main_arg4)) (m (c.tc.loc Cert.LossIdeal.main_arg5)) (y 0) (y 1),
    fun c y => Cert.Loss.lsn (m (c.tc.loc Cert.LossIdeal.main_arg0)) (m (c.tc.loc Cert.LossIdeal.main_arg1)) (m (c.tc.loc Cert.LossIdeal.main_arg2)) (m (c.tc.loc Cert.LossIdeal.main_arg3)) (m (c.tc.loc Cert.LossIdeal.main_arg4)) (m (c.tc.loc Cert.LossIdeal.main_arg5)) 8,
    fun c y => Cert.Loss.dgn (m (c.tc.loc Cert.LossIdeal.main_arg0)) (m (c.tc.loc Cert.LossIdeal.main_arg1)) (m (c.tc.loc Cert.LossIdeal.main_arg2)) (m (c.tc.loc Cert.LossIdeal.main_arg3)) (m (c.tc.loc Cert.LossIdeal.main_arg4)) (m (c.tc.loc Cert.LossIdeal.main_arg5)) 8 (y 1), ?_, ?_⟩
  · exact (θ_run _ _ _).mono (fun r h c => by
      obtain ⟨h0, h1, h2, h3, hk⟩ := h c
      exact ⟨h0.trans (Cert.Loss.left6 m c), h1.trans (Cert.Loss.left7 m c), h2.trans (Cert.Loss.left8 m c), h3.trans (Cert.Loss.left9 m c), hk⟩) (Cert.LossIdeal.Value.run_blocks m g)
  · exact (θ_run _ _ _).mono (fun r h c => by
      obtain ⟨h0, h1, h2, h3, hk⟩ := h c
      obtain ⟨e0, e1, e2, e3, e4, e5⟩ := hagree c
      have f0 := fun i => Cert.Mixer.real_of_finite (congrFun (hpre c).1 i)
      have f1 := fun i => Cert.Mixer.real_of_finite (congrFun (hpre c).2.1 i)
      have f2 := fun i => Cert.Mixer.real_of_finite (congrFun (hpre c).2.2.1 i)
      have f3 := fun i => Cert.Mixer.real_of_finite (congrFun (hpre c).2.2.2.1 i)
      have f4 := fun i => Cert.Mixer.real_of_finite (congrFun (hpre c).2.2.2.2.1 i)
      have f5 := fun i => Cert.Mixer.real_of_finite (congrFun (hpre c).2.2.2.2.2 i)
      have r0 := h0.trans ((Cert.LossRefIdeal.Read.val_main_v3_eq _ _).trans ((congr (congrArg (Cert.LossRefIdeal.Read.val_main_v3 (F := Ideal)) e0) e1).trans (Cert.Loss.ref6 _ _)))
      have r1 := h1.trans ((Cert.LossRefIdeal.Read.val_main_v65_eq m' c).trans ((congr (congr (congr (congr (congr (congrArg (Cert.LossRefIdeal.Read.val_main_v65 (F := Ideal)) e0) e1) e2) e3) e4) e5).trans (Cert.Loss.ref7 (m (c.tc.loc Cert.LossIdeal.main_arg0)) (m (c.tc.loc Cert.LossIdeal.main_arg1)) (m (c.tc.loc Cert.LossIdeal.main_arg2)) (m (c.tc.loc Cert.LossIdeal.main_arg3)) (m (c.tc.loc Cert.LossIdeal.main_arg4)) (m (c.tc.loc Cert.LossIdeal.main_arg5)) f0 f1 f2 f3 f4 f5)))
      have r2 := h2.trans ((Cert.LossRefIdeal.Read.val_main_v66_eq m' c).trans ((congr (congr (congr (congr (congr (congrArg (Cert.LossRefIdeal.Read.val_main_v66 (F := Ideal)) e0) e1) e2) e3) e4) e5).trans (Cert.Loss.ref8 _ _ _ _ _ _)))
      have r3 := h3.trans ((Cert.LossRefIdeal.Read.val_main_v67_eq m' c).trans ((congr (congr (congr (congr (congr (congrArg (Cert.LossRefIdeal.Read.val_main_v67 (F := Ideal)) e0) e1) e2) e3) e4) e5).trans (Cert.Loss.ref9 _ _ _ _ _ _)))
      exact ⟨r0, r1, r2, r3, hk⟩) (Cert.LossRefIdeal.Value.run m' g')

/-- The call for the optimiser's step of the six parameters whose gradients come early at words: it runs, its arguments end unchanged, every semaphore ends at zero. -/
theorem frame_AdamEarly : quiescent_AdamEarly (hAdamEarly := Cert.AdamEarly.Gen.facts) := Cert.Early.frame

/-- The same over extended reals. -/
theorem frame_AdamEarlyIdeal : quiescent_AdamEarlyIdeal (hAdamEarlyIdeal := Cert.AdamEarlyIdeal.Gen.facts) := Cert.Early.frameIdeal

/-- The same of its reference. -/
theorem frame_AdamEarlyRefIdeal : quiescent_AdamEarlyRefIdeal (hAdamEarlyRefIdeal := Cert.AdamEarlyRefIdeal.Gen.facts) :=
  fun m g _ => (θ_run _ _ _).mono
    (fun r h => ⟨fun c => (h c).2.2.2.2.2.2.2.2.2.2.2.2.2.2.2.2.2.2.2.2.2.2.2.2, sem_eq_zero_of_no_sems (by decide) r.2⟩) (Cert.AdamEarlyRefIdeal.Value.run m g)

open Cert.Early in
set_option maxHeartbeats 8000000 in
/-- Call and reference, from the same arguments, end with equal results: the optimiser's step of the six parameters whose gradients come early. -/
theorem algebraic_AdamEarly : algebraic_AdamEarlyIdeal_AdamEarlyRefIdeal (hAdamEarlyIdeal := Cert.AdamEarlyIdeal.Gen.facts) (hAdamEarlyRefIdeal := Cert.AdamEarlyRefIdeal.Gen.facts) := by
  intro m g m' g' _ hagree
  refine ⟨fun c => g0 (arg m c Cert.AdamEarlyIdeal.main_arg0),
    fun c => steps (g0 (arg m c Cert.AdamEarlyIdeal.main_arg0)) (arg m c Cert.AdamEarlyIdeal.main_arg6) (arg m c Cert.AdamEarlyIdeal.main_arg12) (arg m c Cert.AdamEarlyIdeal.main_arg18),
    fun c => moms (g0 (arg m c Cert.AdamEarlyIdeal.main_arg0)) (arg m c Cert.AdamEarlyIdeal.main_arg12),
    fun c => secs (g0 (arg m c Cert.AdamEarlyIdeal.main_arg0)) (arg m c Cert.AdamEarlyIdeal.main_arg18),
    fun c => g1 (arg m c Cert.AdamEarlyIdeal.main_arg1),
    fun c => steps (g1 (arg m c Cert.AdamEarlyIdeal.main_arg1)) (arg m c Cert.AdamEarlyIdeal.main_arg7) (arg m c Cert.AdamEarlyIdeal.main_arg13) (arg m c Cert.AdamEarlyIdeal.main_arg19),
    fun c => moms (g1 (arg m c Cert.AdamEarlyIdeal.main_arg1)) (arg m c Cert.AdamEarlyIdeal.main_arg13),
    fun c => secs (g1 (arg m c Cert.AdamEarlyIdeal.main_arg1)) (arg m c Cert.AdamEarlyIdeal.main_arg19),
    fun c => g2 (arg m c Cert.AdamEarlyIdeal.main_arg2),
    fun c => steps (g2 (arg m c Cert.AdamEarlyIdeal.main_arg2)) (arg m c Cert.AdamEarlyIdeal.main_arg8) (arg m c Cert.AdamEarlyIdeal.main_arg14) (arg m c Cert.AdamEarlyIdeal.main_arg20),
    fun c => moms (g2 (arg m c Cert.AdamEarlyIdeal.main_arg2)) (arg m c Cert.AdamEarlyIdeal.main_arg14),
    fun c => secs (g2 (arg m c Cert.AdamEarlyIdeal.main_arg2)) (arg m c Cert.AdamEarlyIdeal.main_arg20),
    fun c => g3 (arg m c Cert.AdamEarlyIdeal.main_arg3),
    fun c => steps (g3 (arg m c Cert.AdamEarlyIdeal.main_arg3)) (arg m c Cert.AdamEarlyIdeal.main_arg9) (arg m c Cert.AdamEarlyIdeal.main_arg15) (arg m c Cert.AdamEarlyIdeal.main_arg21),
    fun c => moms (g3 (arg m c Cert.AdamEarlyIdeal.main_arg3)) (arg m c Cert.AdamEarlyIdeal.main_arg15),
    fun c => secs (g3 (arg m c Cert.AdamEarlyIdeal.main_arg3)) (arg m c Cert.AdamEarlyIdeal.main_arg21),
    fun c => g4 (arg m c Cert.AdamEarlyIdeal.main_arg4),
    fun c => steps (g4 (arg m c Cert.AdamEarlyIdeal.main_arg4)) (arg m c Cert.AdamEarlyIdeal.main_arg10) (arg m c Cert.AdamEarlyIdeal.main_arg16) (arg m c Cert.AdamEarlyIdeal.main_arg22),
    fun c => moms (g4 (arg m c Cert.AdamEarlyIdeal.main_arg4)) (arg m c Cert.AdamEarlyIdeal.main_arg16),
    fun c => secs (g4 (arg m c Cert.AdamEarlyIdeal.main_arg4)) (arg m c Cert.AdamEarlyIdeal.main_arg22),
    fun c => g5 (arg m c Cert.AdamEarlyIdeal.main_arg5),
    fun c => steps (g5 (arg m c Cert.AdamEarlyIdeal.main_arg5)) (arg m c Cert.AdamEarlyIdeal.main_arg11) (arg m c Cert.AdamEarlyIdeal.main_arg17) (arg m c Cert.AdamEarlyIdeal.main_arg23),
    fun c => moms (g5 (arg m c Cert.AdamEarlyIdeal.main_arg5)) (arg m c Cert.AdamEarlyIdeal.main_arg17),
    fun c => secs (g5 (arg m c Cert.AdamEarlyIdeal.main_arg5)) (arg m c Cert.AdamEarlyIdeal.main_arg23), ?_, ?_⟩
  · exact (θ_run _ _ _).mono (fun r h c => by
      have k := keep m c h.1
      exact ⟨((h.1 c).1 24).trans (left24 m c), ((h.1 c).1 25).trans (left25 m c), ((h.1 c).1 26).trans (left26 m c), ((h.1 c).1 27).trans (left27 m c), ((h.1 c).1 28).trans (left28 m c), ((h.1 c).1 29).trans (left29 m c), ((h.1 c).1 30).trans (left30 m c), ((h.1 c).1 31).trans (left31 m c), ((h.1 c).1 32).trans (left32 m c), ((h.1 c).1 33).trans (left33 m c), ((h.1 c).1 34).trans (left34 m c), ((h.1 c).1 35).trans (left35 m c), ((h.1 c).1 36).trans (left36 m c), ((h.1 c).1 37).trans (left37 m c), ((h.1 c).1 38).trans (left38 m c), ((h.1 c).1 39).trans (left39 m c), ((h.1 c).1 40).trans (left40 m c), ((h.1 c).1 41).trans (left41 m c), ((h.1 c).1 42).trans (left42 m c), ((h.1 c).1 43).trans (left43 m c), ((h.1 c).1 44).trans (left44 m c), ((h.1 c).1 45).trans (left45 m c), ((h.1 c).1 46).trans (left46 m c), ((h.1 c).1 47).trans (left47 m c),
        k 0 rfl, k 1 rfl, k 2 rfl, k 3 rfl, k 4 rfl, k 5 rfl, k 6 rfl, k 7 rfl, k 8 rfl, k 9 rfl, k 10 rfl, k 11 rfl, k 12 rfl, k 13 rfl, k 14 rfl, k 15 rfl, k 16 rfl, k 17 rfl, k 18 rfl, k 19 rfl, k 20 rfl, k 21 rfl, k 22 rfl, k 23 rfl⟩) (run m g)
  · exact (θ_run _ _ _).mono (fun r h c => by
      obtain ⟨h0, h1, h2, h3, h4, h5, h6, h7, h8, h9, h10, h11, h12, h13, h14, h15, h16, h17, h18, h19, h20, h21, h22, h23, hk⟩ := h c
      obtain ⟨e0, e1, e2, e3, e4, e5, e6, e7, e8, e9, e10, e11, e12, e13, e14, e15, e16, e17, e18, e19, e20, e21, e22, e23⟩ := hagree c
      have r0 := h0.trans ((Cert.AdamEarlyRefIdeal.Read.val_main_v0_eq _).trans ((congrArg (Cert.AdamEarlyRefIdeal.Read.val_main_v0 (F := Ideal)) e0).trans (ref24 _)))
      have r1 := h1.trans ((Cert.AdamEarlyRefIdeal.Read.val_main_v24_eq _).trans ((congr (congr (congr (congrArg (Cert.AdamEarlyRefIdeal.Read.val_main_v24 (F := Ideal)) e0) e6) e12) e18).trans (ref25 _ _ _ _)))
      have r2 := h2.trans ((Cert.AdamEarlyRefIdeal.Read.val_main_v5_eq _).trans ((congr (congrArg (Cert.AdamEarlyRefIdeal.Read.val_main_v5 (F := Ideal)) e0) e12).trans (ref26 _ _)))
      have r3 := h3.trans ((Cert.AdamEarlyRefIdeal.Read.val_main_v11_eq _).trans ((congr (congrArg (Cert.AdamEarlyRefIdeal.Read.val_main_v11 (F := Ideal)) e0) e18).trans (ref27 _ _)))
      have r4 := h4.trans ((Cert.AdamEarlyRefIdeal.Read.val_main_v25_eq _).trans ((congrArg (Cert.AdamEarlyRefIdeal.Read.val_main_v25 (F := Ideal)) e1).trans (ref28 _)))
      have r5 := h5.trans ((Cert.AdamEarlyRefIdeal.Read.val_main_v49_eq _).trans ((congr (congr (congr (congrArg (Cert.AdamEarlyRefIdeal.Read.val_main_v49 (F := Ideal)) e1) e7) e13) e19).trans (ref29 _ _ _ _)))
      have r6 := h6.trans ((Cert.AdamEarlyRefIdeal.Read.val_main_v30_eq _).trans ((congr (congrArg (Cert.AdamEarlyRefIdeal.Read.val_main_v30 (F := Ideal)) e1) e13).trans (ref30 _ _)))
      have r7 := h7.trans ((Cert.AdamEarlyRefIdeal.Read.val_main_v36_eq _).trans ((congr (congrArg (Cert.AdamEarlyRefIdeal.Read.val_main_v36 (F := Ideal)) e1) e19).trans (ref31 _ _)))
      have r8 := h8.trans ((Cert.AdamEarlyRefIdeal.Read.val_main_v50_eq _).trans ((congrArg (Cert.AdamEarlyRefIdeal.Read.val_main_v50 (F := Ideal)) e2).trans (ref32 _)))
      have r9 := h9.trans ((Cert.AdamEarlyRefIdeal.Read.val_main_v74_eq _).trans ((congr (congr (congr (congrArg (Cert.AdamEarlyRefIdeal.Read.val_main_v74 (F := Ideal)) e2) e8) e14) e20).trans (ref33 _ _ _ _)))
      have r10 := h10.trans ((Cert.AdamEarlyRefIdeal.Read.val_main_v55_eq _).trans ((congr (congrArg (Cert.AdamEarlyRefIdeal.Read.val_main_v55 (F := Ideal)) e2) e14).trans (ref34 _ _)))
      have r11 := h11.trans ((Cert.AdamEarlyRefIdeal.Read.val_main_v61_eq _).trans ((congr (congrArg (Cert.AdamEarlyRefIdeal.Read.val_main_v61 (F := Ideal)) e2) e20).trans (ref35 _ _)))
      have r12 := h12.trans ((Cert.AdamEarlyRefIdeal.Read.val_main_v75_eq _).trans ((congrArg (Cert.AdamEarlyRefIdeal.Read.val_main_v75 (F := Ideal)) e3).trans (ref36 _)))
      have r13 := h13.trans ((Cert.AdamEarlyRefIdeal.Read.val_main_v99_eq _).trans ((congr (congr (congr (congrArg (Cert.AdamEarlyRefIdeal.Read.val_main_v99 (F := Ideal)) e3) e9) e15) e21).trans (ref37 _ _ _ _)))
      have r14 := h14.trans ((Cert.AdamEarlyRefIdeal.Read.val_main_v80_eq _).trans ((congr (congrArg (Cert.AdamEarlyRefIdeal.Read.val_main_v80 (F := Ideal)) e3) e15).trans (ref38 _ _)))
      have r15 := h15.trans ((Cert.AdamEarlyRefIdeal.Read.val_main_v86_eq _).trans ((congr (congrArg (Cert.AdamEarlyRefIdeal.Read.val_main_v86 (F := Ideal)) e3) e21).trans (ref39 _ _)))
      have r16 := h16.trans ((Cert.AdamEarlyRefIdeal.Read.val_main_v100_eq _).trans ((congrArg (Cert.AdamEarlyRefIdeal.Read.val_main_v100 (F := Ideal)) e4).trans (ref40 _)))
      have r17 := h17.trans ((Cert.AdamEarlyRefIdeal.Read.val_main_v124_eq _).trans ((congr (congr (congr (congrArg (Cert.AdamEarlyRefIdeal.Read.val_main_v124 (F := Ideal)) e4) e10) e16) e22).trans (ref41 _ _ _ _)))
      have r18 := h18.trans ((Cert.AdamEarlyRefIdeal.Read.val_main_v105_eq _).trans ((congr (congrArg (Cert.AdamEarlyRefIdeal.Read.val_main_v105 (F := Ideal)) e4) e16).trans (ref42 _ _)))
      have r19 := h19.trans ((Cert.AdamEarlyRefIdeal.Read.val_main_v111_eq _).trans ((congr (congrArg (Cert.AdamEarlyRefIdeal.Read.val_main_v111 (F := Ideal)) e4) e22).trans (ref43 _ _)))
      have r20 := h20.trans ((Cert.AdamEarlyRefIdeal.Read.val_main_v125_eq _).trans ((congrArg (Cert.AdamEarlyRefIdeal.Read.val_main_v125 (F := Ideal)) e5).trans (ref44 _)))
      have r21 := h21.trans ((Cert.AdamEarlyRefIdeal.Read.val_main_v149_eq _).trans ((congr (congr (congr (congrArg (Cert.AdamEarlyRefIdeal.Read.val_main_v149 (F := Ideal)) e5) e11) e17) e23).trans (ref45 _ _ _ _)))
      have r22 := h22.trans ((Cert.AdamEarlyRefIdeal.Read.val_main_v130_eq _).trans ((congr (congrArg (Cert.AdamEarlyRefIdeal.Read.val_main_v130 (F := Ideal)) e5) e17).trans (ref46 _ _)))
      have r23 := h23.trans ((Cert.AdamEarlyRefIdeal.Read.val_main_v136_eq _).trans ((congr (congrArg (Cert.AdamEarlyRefIdeal.Read.val_main_v136 (F := Ideal)) e5) e23).trans (ref47 _ _)))
      exact ⟨r0, r1, r2, r3, r4, r5, r6, r7, r8, r9, r10, r11, r12, r13, r14, r15, r16, r17, r18, r19, r20, r21, r22, r23, hk⟩) (Cert.AdamEarlyRefIdeal.Value.run m' g')

/-- The call for the optimiser's step of an output projection at words, its indices naming parts: it runs, its arguments end unchanged, every semaphore ends at zero. -/
theorem frame_AdamWaOut : quiescent_AdamWaOut (hAdamWaOut := Cert.AdamWaOut.Gen.facts) (hPre_indices_in_range := Cert.Pre_indices_in_range.Gen.facts) := fun m g h =>
  Cert.AdamWaOut.Gen.frame m g (Cert.AdamWaOut.okBits m (Cert.AdamWaOut.named _ _ _ _ _ _ _ (h 0)))

/-- The same over extended reals. -/
theorem frame_AdamWaOutIdeal : quiescent_AdamWaOutIdeal (hAdamWaOutIdeal := Cert.AdamWaOutIdeal.Gen.facts) (hPre_indices_in_range := Cert.Pre_indices_in_range.Gen.facts) := fun m g h =>
  Cert.AdamWaOutIdeal.Gen.frame m g (Cert.AdamWaOut.ok m (Cert.AdamWaOut.named _ _ _ _ _ _ _ (h 0)))

/-- The same of its reference, whatever the indices. -/
theorem frame_AdamWaOutRefIdeal : quiescent_AdamWaOutRefIdeal (hAdamWaOutRefIdeal := Cert.AdamWaOutRefIdeal.Gen.facts) :=
  fun m g _ => (θ_run _ _ _).mono
    (fun r h => ⟨fun c => (h c).2.2.2.2, sem_eq_zero_of_no_sems (by decide) r.2⟩) (Cert.AdamWaOutRefIdeal.Value.run m g)

open Cert.AdamWaOut in
/-- Call and reference, from the same arguments, the indices naming parts, end with equal results: the optimiser's step of an output projection. -/
theorem algebraic_AdamWaOut : algebraic_AdamWaOutIdeal_AdamWaOutRefIdeal (hAdamWaOutIdeal := Cert.AdamWaOutIdeal.Gen.facts) (hAdamWaOutRefIdeal := Cert.AdamWaOutRefIdeal.Gen.facts) (hPre_indices_in_range := Cert.Pre_indices_in_range.Gen.facts) := by
  intro m g m' g' hpre hagree
  have hn (c) : Named (arg m c Cert.AdamWaOutIdeal.main_arg3) := named _ _ _ _ _ _ _ (hpre c)
  have hO := ok m (hn 0)
  refine ⟨fun c y => G m c (y 0) (y 1),
    fun c y => Adam.step (G m c (y 0) (y 1)) (W m c (y 0) (y 1)) (M m c (y 0) (y 1)) (U m c (y 0) (y 1)),
    fun c y => Adam.mom (G m c (y 0) (y 1)) (M m c (y 0) (y 1)),
    fun c y => Adam.sec (G m c (y 0) (y 1)) (U m c (y 0) (y 1)), ?_, ?_⟩
  · exact (θ_run _ _ _).mono (fun r h c => ⟨((h.1 c).1 8).trans (left8 m hO c (hn c)), ((h.1 c).1 9).trans (left9 m hO c (hn c)), ((h.1 c).1 10).trans (left10 m hO c (hn c)), ((h.1 c).1 11).trans (left11 m hO c (hn c)), h.2 c⟩)
      (θ_run_and (Cert.AdamWaOutIdeal.Gen.run_main m g hO) (Cert.AdamWaOutIdeal.Gen.unchanged m g hO))
  · exact (θ_run _ _ _).mono (fun r h c => by
      obtain ⟨h0, h1, h2, h3, hk⟩ := h c
      obtain ⟨e0, e1, e2, e3, e4, e5, e6⟩ := hagree c
      have r0 := h0.trans ((Cert.AdamWaOutRefIdeal.Read.val_main_v46_eq _ _ _ _).trans ((congr (congr (congr (congrArg (Cert.AdamWaOutRefIdeal.Read.val_main_v46 (F := Ideal)) e0) e1) e2) e3).trans (ref8 _ _ _ _)))
      have r1 := h1.trans ((Cert.AdamWaOutRefIdeal.Read.val_main_v73_eq m' c).trans ((congr (congr (congr (congr (congr (congr (congrArg (Cert.AdamWaOutRefIdeal.Read.val_main_v73 (F := Ideal)) e0) e1) e2) e3) e4) e5) e6).trans (ref9 _ _ _ _ _ _ _)))
      have r2 := h2.trans ((Cert.AdamWaOutRefIdeal.Read.val_main_v54_eq _ _ _ _ _).trans ((congr (congr (congr (congr (congrArg (Cert.AdamWaOutRefIdeal.Read.val_main_v54 (F := Ideal)) e0) e1) e2) e3) e5).trans (ref10 _ _ _ _ _)))
      have r3 := h3.trans ((Cert.AdamWaOutRefIdeal.Read.val_main_v60_eq m' c).trans ((congr (congr (congr (congr (congrArg (Cert.AdamWaOutRefIdeal.Read.val_main_v60 (F := Ideal)) e0) e1) e2) e3) e6).trans (ref11 _ _ _ _ _)))
      exact ⟨r0, r1, r2, r3, hk⟩) (Cert.AdamWaOutRefIdeal.Value.run m' g')

/-- Everything the statement claims. -/
theorem claim : Cert.Claim :=
  ⟨Cert.Kernel.Gen.facts, Cert.KernelIdeal.Gen.facts, Cert.ReferenceIdeal.Gen.facts, Cert.DhB.Gen.facts, Cert.DhBIdeal.Gen.facts, Cert.DhBRefIdeal.Gen.facts, Cert.DwInB.Gen.facts, Cert.DwInBIdeal.Gen.facts, Cert.DwInBRefIdeal.Gen.facts, Cert.DhA.Gen.facts, Cert.DhAIdeal.Gen.facts, Cert.DhARefIdeal.Gen.facts, Cert.DwInA.Gen.facts, Cert.DwInAIdeal.Gen.facts, Cert.DwInARefIdeal.Gen.facts, Cert.DwOut.Gen.facts, Cert.DwOutIdeal.Gen.facts, Cert.DwOutRefIdeal.Gen.facts, Cert.Dybr.Gen.facts, Cert.DybrIdeal.Gen.facts, Cert.DybrRefIdeal.Gen.facts, Cert.InB.Gen.facts, Cert.InBIdeal.Gen.facts, Cert.InBRefIdeal.Gen.facts, Cert.InA.Gen.facts, Cert.InAIdeal.Gen.facts, Cert.InARefIdeal.Gen.facts, Cert.OutA.Gen.facts, Cert.OutAIdeal.Gen.facts, Cert.OutARefIdeal.Gen.facts, Cert.AdaBwd.Gen.facts, Cert.AdaBwdIdeal.Gen.facts, Cert.AdaBwdRefIdeal.Gen.facts, Cert.AdaFwd.Gen.facts, Cert.AdaFwdIdeal.Gen.facts, Cert.AdaFwdRefIdeal.Gen.facts, Cert.Pre.Gen.facts, Cert.PreIdeal.Gen.facts, Cert.PreRefIdeal.Gen.facts, Cert.AdamAda.Gen.facts, Cert.AdamAdaIdeal.Gen.facts, Cert.AdamAdaRefIdeal.Gen.facts, Cert.AdamLate.Gen.facts, Cert.AdamLateIdeal.Gen.facts, Cert.AdamLateRefIdeal.Gen.facts, Cert.PreBwd.Gen.facts, Cert.PreBwdIdeal.Gen.facts, Cert.PreBwdRefIdeal.Gen.facts, Cert.Loss.Gen.facts, Cert.LossIdeal.Gen.facts, Cert.LossRefIdeal.Gen.facts, Cert.AdamEarly.Gen.facts, Cert.AdamEarlyIdeal.Gen.facts, Cert.AdamEarlyRefIdeal.Gen.facts, Cert.AdamWaOut.Gen.facts, Cert.AdamWaOutIdeal.Gen.facts, Cert.AdamWaOutRefIdeal.Gen.facts, facts_finite, facts_finite_prenorm_bwd, facts_finite_loss, Cert.Pre_indices_in_range.Gen.facts,
    frame_kernel, frame_kernelIdeal, fun m g _ => Cert.KernelIdeal.Gen.frame m g, frame_referenceIdeal,
    fun m g _ => frame_referenceIdeal m g trivial,
    frame_DhB, frame_DhBIdeal, frame_DhBRefIdeal, frame_DwInB, frame_DwInBIdeal, frame_DwInBRefIdeal, frame_DhA, frame_DhAIdeal, frame_DhARefIdeal, frame_DwInA, frame_DwInAIdeal, frame_DwInARefIdeal, frame_DwOut, frame_DwOutIdeal, frame_DwOutRefIdeal, frame_Dybr, frame_DybrIdeal, frame_DybrRefIdeal, frame_InB, frame_InBIdeal, frame_InBRefIdeal, frame_InA, frame_InAIdeal, frame_InARefIdeal, frame_OutA, frame_OutAIdeal, frame_OutARefIdeal, frame_AdaBwd, frame_AdaBwdIdeal, frame_AdaBwdRefIdeal, frame_AdaFwd, frame_AdaFwdIdeal, frame_AdaFwdRefIdeal, frame_Pre, frame_PreIdeal, frame_PreRefIdeal, frame_AdamAda, frame_AdamAdaIdeal, frame_AdamAdaRefIdeal, frame_AdamLate, frame_AdamLateIdeal, frame_AdamLateRefIdeal, frame_PreBwd, frame_PreBwdIdeal, fun m g _ => Cert.PreBwdIdeal.Gen.frame m g, frame_PreBwdRefIdeal, fun m g _ => frame_PreBwdRefIdeal m g trivial, frame_Loss, frame_LossIdeal, fun m g _ => Cert.LossIdeal.Gen.frame m g, frame_LossRefIdeal, fun m g _ => frame_LossRefIdeal m g trivial, frame_AdamEarly, frame_AdamEarlyIdeal, frame_AdamEarlyRefIdeal,
    frame_AdamWaOut, frame_AdamWaOutIdeal, frame_AdamWaOutRefIdeal, fun m g _ => frame_AdamWaOutRefIdeal m g trivial,
    preserved, algebraic,
    trivial, algebraic_DhB, trivial, algebraic_DwInB, trivial, algebraic_DhA, trivial, algebraic_DwInA, trivial, algebraic_DwOut, trivial, algebraic_Dybr, trivial, algebraic_InB, trivial, algebraic_InA, trivial, algebraic_OutA, trivial, algebraic_AdaBwd, trivial, algebraic_AdaFwd, trivial, algebraic_Pre, trivial, algebraic_AdamAda, trivial, algebraic_AdamLate, trivial, algebraic_PreBwd, trivial, algebraic_Loss, trivial, algebraic_AdamEarly, trivial, algebraic_AdamWaOut⟩

end Cert.Proof

end
